-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_v24) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)) (v2 : (c : Dev Cert.Kernel10Ideal.nD) → Buf (Elt Ideal) ((c.tc : Thread Cert.Kernel10Ideal.nD Cert.Kernel10Ideal.τ).loc Cert.Kernel10Ideal.main_v10_2)) (v3 : (c : Dev Cert.Kernel10Ideal.nD) → Buf (Elt Ideal) ((c.tc : Thread Cert.Kernel10Ideal.nD Cert.Kernel10Ideal.τ).loc Cert.Kernel10Ideal.main_v10_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_v10_2) = v2 c
          ∧ r.2.mem ((c.tc : Thread Cert.Kernel10Ideal.nD Cert.Kernel10Ideal.τ).loc Cert.Kernel10Ideal.main_v10_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v19) = v2 c
          ∧ r.2.mem ((c.tc : Thread Cert.Reference10Ideal.nD Cert.Reference10Ideal.τ).loc Cert.Reference10Ideal.main_v20) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_v16) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)) (v2 : (c : Dev Cert.Kernel13Ideal.nD) → Buf (Elt Ideal) ((c.tc : Thread Cert.Kernel13Ideal.nD Cert.Kernel13Ideal.τ).loc Cert.Kernel13Ideal.main_v5_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_v5_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v38) = v0 c
          ∧ r.2.mem ((c.tc : Thread Cert.Reference13Ideal.nD Cert.Reference13Ideal.τ).loc Cert.Reference13Ideal.main_v40) = v1 c
          ∧ r.2.mem ((c.tc : Thread Cert.Reference13Ideal.nD Cert.Reference13Ideal.τ).loc Cert.Reference13Ideal.main_v41) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)) →
    ∃ (v0 : (c : Dev Cert.Kernel14Ideal.nD) → Buf (Elt Ideal) ((c.tc : Thread Cert.Kernel14Ideal.nD Cert.Kernel14Ideal.τ).loc Cert.Kernel14Ideal.main_v10_0)) (v1 : (c : Dev Cert.Kernel14Ideal.nD) → Buf (Elt Ideal) ((c.tc : Thread Cert.Kernel14Ideal.nD Cert.Kernel14Ideal.τ).loc Cert.Kernel14Ideal.main_v10_1)) (v2 : (c : Dev Cert.Kernel14Ideal.nD) → Buf (Elt Ideal) ((c.tc : Thread Cert.Kernel14Ideal.nD Cert.Kernel14Ideal.τ).loc Cert.Kernel14Ideal.main_v10_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10_0) = v0 c
          ∧ r.2.mem ((c.tc : Thread Cert.Kernel14Ideal.nD Cert.Kernel14Ideal.τ).loc Cert.Kernel14Ideal.main_v10_1) = v1 c
          ∧ r.2.mem ((c.tc : Thread Cert.Kernel14Ideal.nD Cert.Kernel14Ideal.τ).loc Cert.Kernel14Ideal.main_v10_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v46) = v0 c
          ∧ r.2.mem ((c.tc : Thread Cert.Reference14Ideal.nD Cert.Reference14Ideal.τ).loc Cert.Reference14Ideal.main_v48) = v1 c
          ∧ r.2.mem ((c.tc : Thread Cert.Reference14Ideal.nD Cert.Reference14Ideal.τ).loc Cert.Reference14Ideal.main_v49) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v37_0)) (v1 : (c : Dev Cert.Kernel15Ideal.nD) → Buf (Elt Ideal) ((c.tc : Thread Cert.Kernel15Ideal.nD Cert.Kernel15Ideal.τ).loc Cert.Kernel15Ideal.main_v37_1)) (v2 : (c : Dev Cert.Kernel15Ideal.nD) → Buf (Elt Ideal) ((c.tc : Thread Cert.Kernel15Ideal.nD Cert.Kernel15Ideal.τ).loc Cert.Kernel15Ideal.main_v37_2)) (v3 : (c : Dev Cert.Kernel15Ideal.nD) → Buf (Elt Ideal) ((c.tc : Thread Cert.Kernel15Ideal.nD Cert.Kernel15Ideal.τ).loc Cert.Kernel15Ideal.main_v37_3)) (v4 : (c : Dev Cert.Kernel15Ideal.nD) → Buf (Elt Ideal) ((c.tc : Thread Cert.Kernel15Ideal.nD Cert.Kernel15Ideal.τ).loc Cert.Kernel15Ideal.main_v37_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v37_0) = v0 c
          ∧ r.2.mem ((c.tc : Thread Cert.Kernel15Ideal.nD Cert.Kernel15Ideal.τ).loc Cert.Kernel15Ideal.main_v37_1) = v1 c
          ∧ r.2.mem ((c.tc : Thread Cert.Kernel15Ideal.nD Cert.Kernel15Ideal.τ).loc Cert.Kernel15Ideal.main_v37_2) = v2 c
          ∧ r.2.mem ((c.tc : Thread Cert.Kernel15Ideal.nD Cert.Kernel15Ideal.τ).loc Cert.Kernel15Ideal.main_v37_3) = v3 c
          ∧ r.2.mem ((c.tc : Thread Cert.Kernel15Ideal.nD Cert.Kernel15Ideal.τ).loc Cert.Kernel15Ideal.main_v37_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v163) = v0 c
          ∧ r.2.mem ((c.tc : Thread Cert.Reference15Ideal.nD Cert.Reference15Ideal.τ).loc Cert.Reference15Ideal.main_v164) = v1 c
          ∧ r.2.mem ((c.tc : Thread Cert.Reference15Ideal.nD Cert.Reference15Ideal.τ).loc Cert.Reference15Ideal.main_v165) = v2 c
          ∧ r.2.mem ((c.tc : Thread Cert.Reference15Ideal.nD Cert.Reference15Ideal.τ).loc Cert.Reference15Ideal.main_v166) = v3 c
          ∧ r.2.mem ((c.tc : Thread Cert.Reference15Ideal.nD Cert.Reference15Ideal.τ).loc Cert.Reference15Ideal.main_v167) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v37_0)) (v1 : (c : Dev Cert.Kernel16Ideal.nD) → Buf (Elt Ideal) ((c.tc : Thread Cert.Kernel16Ideal.nD Cert.Kernel16Ideal.τ).loc Cert.Kernel16Ideal.main_v37_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v37_0) = v0 c
          ∧ r.2.mem ((c.tc : Thread Cert.Kernel16Ideal.nD Cert.Kernel16Ideal.τ).loc Cert.Kernel16Ideal.main_v37_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v53) = v0 c
          ∧ r.2.mem ((c.tc : Thread Cert.Reference16Ideal.nD Cert.Reference16Ideal.τ).loc Cert.Reference16Ideal.main_v84) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S4096x1024 : Shape := ⟨2, ![4096, 1024]⟩
abbrev S1024x1024 : Shape := ⟨2, ![1024, 1024]⟩
abbrev S4096x2048 : Shape := ⟨2, ![4096, 2048]⟩
abbrev S4096x512 : Shape := ⟨2, ![4096, 512]⟩
abbrev S512x1024 : Shape := ⟨2, ![512, 1024]⟩
abbrev S_ : Shape := ⟨0, ![]⟩
abbrev S512x2048 : Shape := ⟨2, ![512, 2048]⟩
abbrev S512x512 : Shape := ⟨2, ![512, 512]⟩

abbrev nBuf : Space → Nat
  | .hbm => 29
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x2048, .f32⟩
  | .hbm, ⟨3, _⟩ => ⟨S4096x512, .f32⟩
  | .hbm, ⟨4, _⟩ => ⟨S4096x512, .f32⟩
  | .hbm, ⟨5, _⟩ => ⟨S512x1024, .f32⟩
  | .hbm, ⟨6, _⟩ => ⟨S512x1024, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .bf16⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S4096x1024, .bf16⟩
  | .hbm, ⟨20, _⟩ => ⟨S4096x1024, .bf16⟩
  | .hbm, ⟨21, _⟩ => ⟨S1024x1024, .bf16⟩
  | .hbm, ⟨22, _⟩ => ⟨S512x1024, .bf16⟩
  | .hbm, ⟨23, _⟩ => ⟨S512x1024, .bf16⟩
  | .hbm, ⟨24, _⟩ => ⟨S4096x1024, .bf16⟩
  | .hbm, ⟨25, _⟩ => ⟨S4096x1024, .bf16⟩
  | .hbm, ⟨26, _⟩ => ⟨S4096x512, .bf16⟩
  | .hbm, ⟨27, _⟩ => ⟨S4096x512, .bf16⟩
  | .hbm, ⟨28, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2048, .bf16⟩
  | .local _ .vmem, ⟨4, _⟩ => ⟨S512x2048, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x2048, .bf16⟩
  | .local _ .vmem, ⟨20, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x1024 : Shape := ⟨2, ![4096, 1024]⟩
abbrev S1024x1024 : Shape := ⟨2, ![1024, 1024]⟩
abbrev S4096x2048 : Shape := ⟨2, ![4096, 2048]⟩
abbrev S4096x512 : Shape := ⟨2, ![4096, 512]⟩
abbrev S512x1024 : Shape := ⟨2, ![512, 1024]⟩
abbrev S_ : Shape := ⟨0, ![]⟩
abbrev S4096x2x1024 : Shape := ⟨3, ![4096, 2, 1024]⟩
abbrev S4096x1x1024 : Shape := ⟨3, ![4096, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x2048, .f32⟩
  | .hbm, ⟨3, _⟩ => ⟨S4096x512, .f32⟩
  | .hbm, ⟨4, _⟩ => ⟨S4096x512, .f32⟩
  | .hbm, ⟨5, _⟩ => ⟨S512x1024, .f32⟩
  | .hbm, ⟨6, _⟩ => ⟨S512x1024, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S_, .f32⟩
  | .hbm, ⟨35, _⟩ => ⟨S4096x2x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S_, .f32⟩
  | .hbm, ⟨40, _⟩ => ⟨S4096x2x1024, .f32⟩
  | .hbm, ⟨41, _⟩ => ⟨S4096x2x1024, .f32⟩
  | .hbm, ⟨42, _⟩ => ⟨S4096x2048, .f32⟩
  | .hbm, ⟨43, _⟩ => ⟨S4096x2048, .f32⟩
  | .hbm, ⟨44, _⟩ => ⟨S4096x512, .f32⟩
  | .hbm, ⟨45, _⟩ => ⟨S4096x512, .f32⟩
  | .hbm, ⟨46, _⟩ => ⟨S4096x1024, .bf16⟩
  | .hbm, ⟨47, _⟩ => ⟨S4096x1024, .bf16⟩
  | .hbm, ⟨48, _⟩ => ⟨S4096x512, .bf16⟩
  | .hbm, ⟨49, _⟩ => ⟨S4096x512, .bf16⟩
  | .hbm, ⟨50, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S8x512x1024 : Shape := ⟨3, ![8, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S8x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x512x1024 : Shape := ⟨3, ![8, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S8x512x1024, .f32⟩
  | .hbm, ⟨11, _⟩ => ⟨S8x512x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S8x1024x512 : Shape := ⟨3, ![8, 1024, 512]⟩
abbrev S512x512 : Shape := ⟨2, ![512, 512]⟩
abbrev S512x4096 : Shape := ⟨2, ![512, 4096]⟩
abbrev S8x512x512 : Shape := ⟨3, ![8, 512, 512]⟩
abbrev S1x512x512 : Shape := ⟨3, ![1, 512, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S8x1024x512, .bf16⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S8x512x512, .bf16⟩
  | .local _ .vmem, ⟨5, _⟩ => ⟨S8x512x512, .bf16⟩
  | .local _ .vmem, ⟨6, _⟩ => ⟨S512x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S2x512x1024 : Shape := ⟨3, ![2, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S2x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S1024x1024 : Shape := ⟨2, ![1024, 1024]⟩
abbrev S2x512x1024 : Shape := ⟨3, ![2, 512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S2x512x1024, .f32⟩
  | .hbm, ⟨7, _⟩ => ⟨S2x512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x512 : Shape := ⟨2, ![4096, 512]⟩
abbrev S512x1024 : Shape := ⟨2, ![512, 1024]⟩
abbrev S4096x1024 : Shape := ⟨2, ![4096, 1024]⟩
abbrev S8x512x128 : Shape := ⟨3, ![8, 512, 128]⟩
abbrev S2048x512 : Shape := ⟨2, ![2048, 512]⟩
abbrev S2048x1024 : Shape := ⟨2, ![2048, 1024]⟩
abbrev S512x128 : Shape := ⟨2, ![512, 128]⟩
abbrev S1x512x128 : Shape := ⟨3, ![1, 512, 128]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .bf16⟩
  | .hbm, ⟨4, _⟩ => ⟨S8x512x128, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S8x512x128, .bf16⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S512x8x128, .f32⟩
  | .hbm, ⟨7, _⟩ => ⟨S8x512x128, .f32⟩
  | .hbm, ⟨8, _⟩ => ⟨S8x512x128, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024x4352 : Shape := ⟨2, ![1024, 4352]⟩
abbrev S4096x512 : Shape := ⟨2, ![4096, 512]⟩
abbrev S4096x128 : Shape := ⟨2, ![4096, 128]⟩
abbrev S4096x2048 : Shape := ⟨2, ![4096, 2048]⟩
abbrev S8x544x1024 : Shape := ⟨3, ![8, 544, 1024]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S4x544x1024 : Shape := ⟨3, ![4, 544, 1024]⟩
abbrev S512x4352 : Shape := ⟨2, ![512, 4352]⟩
abbrev S1x544x1024 : Shape := ⟨3, ![1, 544, 1024]⟩
abbrev S544x1024 : Shape := ⟨2, ![544, 1024]⟩
abbrev S512x544 : Shape := ⟨2, ![512, 544]⟩

abbrev nBuf : Space → Nat
  | .hbm => 18
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x4352, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S4096x2048, .f32⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x128, .bf16⟩
  | .hbm, ⟨14, _⟩ => ⟨S4096x128, .bf16⟩
  | .hbm, ⟨15, _⟩ => ⟨S4096x2048, .bf16⟩
  | .hbm, ⟨16, _⟩ => ⟨S4096x1024, .bf16⟩
  | .hbm, ⟨17, _⟩ => ⟨S8x544x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S4x544x1024, .bf16⟩
  | .local _ .vmem, ⟨17, _⟩ => ⟨S4x544x1024, .bf16⟩
  | .local _ .vmem, ⟨18, _⟩ => ⟨S512x4352, .bf16⟩
  | .local _ .vmem, ⟨19, _⟩ => ⟨S4x544x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond4 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_27 : BitVec 32 := 0#32
  let v48 : BitVec 1 := Scalar.cmpi .ne v47 c0_i32_27
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4x544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S4096x1024 : Shape := ⟨2, ![4096, 1024]⟩
abbrev S1024x4352 : Shape := ⟨2, ![1024, 4352]⟩
abbrev S4096x512 : Shape := ⟨2, ![4096, 512]⟩
abbrev S4096x128 : Shape := ⟨2, ![4096, 128]⟩
abbrev S4096x2048 : Shape := ⟨2, ![4096, 2048]⟩
abbrev S4096x4352 : Shape := ⟨2, ![4096, 4352]⟩
abbrev S4352x1024 : Shape := ⟨2, ![4352, 1024]⟩
abbrev S8x544x1024 : Shape := ⟨3, ![8, 544, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4352, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S4096x2048, .f32⟩
  | .hbm, ⟨9, _⟩ => ⟨S4096x4352, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x128, .f32⟩
  | .hbm, ⟨15, _⟩ => ⟨S4096x128, .f32⟩
  | .hbm, ⟨16, _⟩ => ⟨S4096x2048, .f32⟩
  | .hbm, ⟨17, _⟩ => ⟨S4096x4352, .f32⟩
  | .hbm, ⟨18, _⟩ => ⟨S4352x1024, .f32⟩
  | .hbm, ⟨19, _⟩ => ⟨S1024x4352, .f32⟩
  | .hbm, ⟨20, _⟩ => ⟨S4352x1024, .f32⟩
  | .hbm, ⟨21, _⟩ => ⟨S8x544x1024, .f32⟩
  | .hbm, ⟨22, _⟩ => ⟨S8x544x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S512x1024 : Shape := ⟨2, ![512, 1024]⟩
abbrev S512x4096 : Shape := ⟨2, ![512, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x4096, .bf16⟩
  | .hbm, ⟨5, _⟩ => ⟨S4096x1024, .bf16⟩
  | .hbm, ⟨6, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x4352 : Shape := ⟨2, ![1024, 4352]⟩
abbrev S1x1024 : Shape := ⟨2, ![1, 1024]⟩
abbrev S4352x1024 : Shape := ⟨2, ![4352, 1024]⟩
abbrev S4096x2304 : Shape := ⟨2, ![4096, 2304]⟩
abbrev S4096x2048 : Shape := ⟨2, ![4096, 2048]⟩
abbrev S512x1024 : Shape := ⟨2, ![512, 1024]⟩
abbrev S512x2304 : Shape := ⟨2, ![512, 2304]⟩
abbrev S512x2048 : Shape := ⟨2, ![512, 2048]⟩
abbrev S512 : Shape := ⟨1, ![512]⟩
abbrev S512x1 : Shape := ⟨2, ![512, 1]⟩
abbrev S512x4352 : Shape := ⟨2, ![512, 4352]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S1x1024, .f32⟩
  | .hbm, ⟨4, _⟩ => ⟨S4352x1024, .f32⟩
  | .hbm, ⟨5, _⟩ => ⟨S4352x1024, .bf16⟩
  | .hbm, ⟨6, _⟩ => ⟨S4096x1024, .bf16⟩
  | .hbm, ⟨7, _⟩ => ⟨S4096x2304, .bf16⟩
  | .hbm, ⟨8, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2304, .bf16⟩
  | .local _ .vmem, ⟨7, _⟩ => ⟨S512x2304, .bf16⟩
  | .local _ .vmem, ⟨8, _⟩ => ⟨S512x2048, .bf16⟩
  | .local _ .vmem, ⟨9, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4096x1024 : Shape := ⟨2, ![4096, 1024]⟩
abbrev S1024 : Shape := ⟨1, ![1024]⟩
abbrev S1024x4352 : Shape := ⟨2, ![1024, 4352]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4352 : Shape := ⟨2, ![4096, 4352]⟩
abbrev S4096x2304 : Shape := ⟨2, ![4096, 2304]⟩
abbrev S4096x2048 : Shape := ⟨2, ![4096, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4352, .f32⟩
  | .hbm, ⟨20, _⟩ => ⟨S4096x2304, .f32⟩
  | .hbm, ⟨21, _⟩ => ⟨S4096x2048, .f32⟩
  | .hbm, ⟨22, _⟩ => ⟨S4096x1024, .bf16⟩
  | .hbm, ⟨23, _⟩ => ⟨S4096x2304, .bf16⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel9.lean ====
abbrev S4096x1024 : Shape := ⟨2, ![4096, 1024]⟩
abbrev S4096x4096 : Shape := ⟨2, ![4096, 4096]⟩
abbrev S512x1024 : Shape := ⟨2, ![512, 1024]⟩
abbrev S512x4096 : Shape := ⟨2, ![512, 4096]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S_ : Shape := ⟨0, ![]⟩
abbrev S512x512 : Shape := ⟨2, ![512, 512]⟩
abbrev S512x2048 : Shape := ⟨2, ![512, 2048]⟩

abbrev nBuf : Space → Nat
  | .hbm => 23
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S_ : Shape := ⟨0, ![]⟩
abbrev S4096x2x1024 : Shape := ⟨3, ![4096, 2, 1024]⟩
abbrev S4096x1x1024 : Shape := ⟨3, ![4096, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2x1024, .f32⟩
  | .hbm, ⟨18, _⟩ => ⟨S4096x1x1024, .f32⟩
  | .hbm, ⟨19, _⟩ => ⟨S4096x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .bf16⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel11.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference11Ideal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S1x1024, .f32⟩
  | .hbm, ⟨7, _⟩ => ⟨S4096x1024, .bf16⟩
  | .hbm, ⟨8, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x4096, .f32⟩
  | .hbm, ⟨21, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel13.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S4096x4096, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1024x4352 : Shape := ⟨2, ![1024, 4352]⟩
abbrev S4096x512 : Shape := ⟨2, ![4096, 512]⟩
abbrev S4096x128 : Shape := ⟨2, ![4096, 128]⟩
abbrev S4096x2048 : Shape := ⟨2, ![4096, 2048]⟩
abbrev S4352x1024 : Shape := ⟨2, ![4352, 1024]⟩
abbrev S1x1024 : Shape := ⟨2, ![1, 1024]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S128x1024 : Shape := ⟨2, ![128, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 24
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x128, .f32⟩
  | .hbm, ⟨9, _⟩ => ⟨S4096x128, .f32⟩
  | .hbm, ⟨10, _⟩ => ⟨S4096x2048, .f32⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x128, .bf16⟩
  | .hbm, ⟨16, _⟩ => ⟨S4096x128, .bf16⟩
  | .hbm, ⟨17, _⟩ => ⟨S4096x2048, .bf16⟩
  | .hbm, ⟨18, _⟩ => ⟨S4352x1024, .f32⟩
  | .hbm, ⟨19, _⟩ => ⟨S4352x1024, .bf16⟩
  | .hbm, ⟨20, _⟩ => ⟨S1x1024, .f32⟩
  | .hbm, ⟨21, _⟩ => ⟨S4096x1024, .f32⟩
  | .hbm, ⟨22, _⟩ => ⟨S4096x1024, .bf16⟩
  | .hbm, ⟨23, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x2048, .bf16⟩
  | .local _ .vmem, ⟨13, _⟩ => ⟨S512x2048, .bf16⟩
  | .local _ .vmem, ⟨14, _⟩ => ⟨S4352x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference14Ideal.lean ====
abbrev S4096x1024 : Shape := ⟨2, ![4096, 1024]⟩
abbrev S1024 : Shape := ⟨1, ![1024]⟩
abbrev S1024x4352 : Shape := ⟨2, ![1024, 4352]⟩
abbrev S4096x512 : Shape := ⟨2, ![4096, 512]⟩
abbrev S4096x128 : Shape := ⟨2, ![4096, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4352 : Shape := ⟨2, ![4096, 4352]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x128, .f32⟩
  | .hbm, ⟨9, _⟩ => ⟨S4096x128, .f32⟩
  | .hbm, ⟨10, _⟩ => ⟨S4096x2048, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x4352, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x128, .f32⟩
  | .hbm, ⟨37, _⟩ => ⟨S4096x128, .f32⟩
  | .hbm, ⟨38, _⟩ => ⟨S4096x2048, .f32⟩
  | .hbm, ⟨39, _⟩ => ⟨S4096x4352, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .bf16⟩
  | .hbm, ⟨69, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Kernel15.lean ====
abbrev S4096x2304 : Shape := ⟨2, ![4096, 2304]⟩
abbrev S64 : Shape := ⟨1, ![64]⟩
abbrev S4096x512 : Shape := ⟨2, ![4096, 512]⟩
abbrev S4096x128 : Shape := ⟨2, ![4096, 128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x512 : Shape := ⟨2, ![1, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 53
  | .vmem => 24
  | .smem => 0
  | _ => 0

abbrev bufTy : (tb : Table) → Fin (tcTables nBuf tb) → BufTy
  | .hbm, ⟨0, _⟩ => ⟨S4096x2304, .f32⟩
  | .hbm, ⟨1, _⟩ => ⟨S64, .f32⟩
  | .hbm, ⟨2, _⟩ => ⟨S64, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x64, .f32⟩
  | .hbm, ⟨31, _⟩ => ⟨S1x4096x1x64, .f32⟩
  | .hbm, ⟨32, _⟩ => ⟨S1x4096x2x64, .f32⟩
  | .hbm, ⟨33, _⟩ => ⟨S4096x128, .f32⟩
  | .hbm, ⟨34, _⟩ => ⟨S4096x32, .f32⟩
  | .hbm, ⟨35, _⟩ => ⟨S4096x64, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S4096x2304, .bf16⟩
  | .hbm, ⟨40, _⟩ => ⟨S1x64, .f32⟩
  | .hbm, ⟨41, _⟩ => ⟨S1x1x1x64, .f32⟩
  | .hbm, ⟨42, _⟩ => ⟨S1x1x2x64, .f32⟩
  | .hbm, ⟨43, _⟩ => ⟨S1x128, .f32⟩
  | .hbm, ⟨44, _⟩ => ⟨S1x64, .f32⟩
  | .hbm, ⟨45, _⟩ => ⟨S1x1x1x64, .f32⟩
  | .hbm, ⟨46, _⟩ => ⟨S1x1x2x64, .f32⟩
  | .hbm, ⟨47, _⟩ => ⟨S1x128, .f32⟩
  | .hbm, ⟨48, _⟩ => ⟨S4096x512, .bf16⟩
  | .hbm, ⟨49, _⟩ => ⟨S4096x128, .bf16⟩
  | .hbm, ⟨50, _⟩ => ⟨S4096x128, .bf16⟩
  | .hbm, ⟨51, _⟩ => ⟨S1x512, .f32⟩
  | .hbm, ⟨52, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S1x512, .f32⟩
  | .local _ .vmem, ⟨23, _⟩ => ⟨S1x128, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v37_2 : Ref sig .tc := ⟨.hbm, 50, rfl⟩
abbrev main_v37_3 : Ref sig .tc := ⟨.hbm, 51, rfl⟩
abbrev main_v37_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference15Ideal.lean ====
abbrev S4096x2304 : Shape := ⟨2, ![4096, 2304]⟩
abbrev S64 : Shape := ⟨1, ![64]⟩
abbrev S4096x512 : Shape := ⟨2, ![4096, 512]⟩
abbrev S4096x128 : Shape := ⟨2, ![4096, 128]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1536 : Shape := ⟨2, ![4096, 1536]⟩
abbrev S8x64 : Shape := ⟨2, ![8, 64]⟩
abbrev S4096x8x64 : Shape := ⟨3, ![4096, 8, 64]⟩
abbrev S4096x8 : Shape := ⟨2, ![4096, 8]⟩
abbrev S4096x8x1 : Shape := ⟨3, ![4096, 8, 1]⟩
abbrev S1x8x64 : Shape := ⟨3, ![1, 8, 64]⟩
abbrev S4096x1x32 : Shape := ⟨3, ![4096, 1, 32]⟩
abbrev S4096x8x32 : Shape := ⟨3, ![4096, 8, 32]⟩
abbrev S2x64 : Shape := ⟨2, ![2, 64]⟩
abbrev S4096x2x64 : Shape := ⟨3, ![4096, 2, 64]⟩
abbrev S4096x2 : Shape := ⟨2, ![4096, 2]⟩
abbrev S4096x2x1 : Shape := ⟨3, ![4096, 2, 1]⟩
abbrev S1x2x64 : Shape := ⟨3, ![1, 2, 64]⟩
abbrev S4096x2x32 : Shape := ⟨3, ![4096, 2, 32]⟩
abbrev S1x512 : Shape := ⟨2, ![1, 512]⟩
abbrev S1x128 : Shape := ⟨2, ![1, 128]⟩

abbrev nBuf : Space → Nat
  | .hbm => 197
  | .vmem => 0
  | .smem => 0
  | _ => 0

abbrev hbmTy0_0 (i : Nat) : BufTy := match i % 128 with
  | 0 => ⟨S4096x2304, .f32⟩
  | 1 => ⟨S64, .f32⟩
  | 2 => ⟨S64, .f32⟩
  | 3 => ⟨S4096x512, .f32⟩
  | 4 => ⟨S4096x128, .f32⟩
  | 5 => ⟨S4096x128, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4096, .f32⟩
  | 23 => ⟨S4096x1, .f32⟩
  | 24 => ⟨S1x32, .f32⟩
  | 25 => ⟨S4096x32, .f32⟩
  | 26 => ⟨S4096x32, .f32⟩
  | 27 => ⟨S4096x32, .f32⟩
  | 28 => ⟨S4096x32, .f32⟩
  | 29 => ⟨S4096x32, .f32⟩
  | 30 => ⟨S4096x1536, .f32⟩
  | 31 => ⟨S4096x512, .f32⟩
  | 32 => ⟨S4096x128, .f32⟩
  | 33 => ⟨S4096x128, .f32⟩
  | 34 => ⟨S8x64, .f32⟩
  | 35 => ⟨S4096x8x64, .f32⟩
  | 36 => ⟨S4096x8x64, .f32⟩
  | 37 => ⟨S_, .f32⟩
  | 38 => ⟨S4096x8, .f32⟩
  | 39 => ⟨S4096x8x1, .f32⟩
  | 40 => ⟨S_, .f32⟩
  | 41 => ⟨S4096x8x1, .f32⟩
  | 42 => ⟨S4096x8x1, .f32⟩
  | 43 => ⟨S_, .f32⟩
  | 44 => ⟨S4096x8x1, .f32⟩
  | 45 => ⟨S4096x8x1, .f32⟩
  | 46 => ⟨S4096x8x1, .f32⟩
  | 47 => ⟨S4096x8x1, .f32⟩
  | 48 => ⟨S_, .f32⟩
  | 49 => ⟨S4096x8x1, .f32⟩
  | 50 => ⟨S4096x8x1, .f32⟩
  | 51 => ⟨S4096x8x64, .f32⟩
  | 52 => ⟨S4096x8x64, .f32⟩
  | 53 => ⟨S1x8x64, .f32⟩
  | 54 => ⟨S4096x8x64, .f32⟩
  | 55 => ⟨S4096x8x64, .f32⟩
  | 56 => ⟨S4096x1x32, .f32⟩
  | 57 => ⟨S4096x1x32, .f32⟩
  | 58 => ⟨S4096x8x32, .f32⟩
  | 59 => ⟨S4096x8x32, .f32⟩
  | 60 => ⟨S4096x8x32, .f32⟩
  | 61 => ⟨S4096x8x32, .f32⟩
  | 62 => ⟨S4096x8x32, .f32⟩
  | 63 => ⟨S4096x8x32, .f32⟩
  | 64 => ⟨S4096x8x32, .f32⟩
  | 65 => ⟨S4096x8x32, .f32⟩
  | 66 => ⟨S4096x8x32, .f32⟩
  | 67 => ⟨S4096x8x32, .f32⟩
  | 68 => ⟨S4096x8x32, .f32⟩
  | 69 => ⟨S4096x8x32, .f32⟩
  | 70 => ⟨S4096x8x64, .f32⟩
  | 71 => ⟨S4096x512, .f32⟩
  | 72 => ⟨S4096x8x64, .f32⟩
  | 73 => ⟨S4096x8x32, .f32⟩
  | 74 => ⟨S4096x8x32, .f32⟩
  | 75 => ⟨S4096x8x32, .f32⟩
  | 76 => ⟨S4096x8x32, .f32⟩
  | 77 => ⟨S4096x8x32, .f32⟩
  | 78 => ⟨S4096x8x32, .f32⟩
  | 79 => ⟨S4096x8x32, .f32⟩
  | 80 => ⟨S4096x8x32, .f32⟩
  | 81 => ⟨S4096x8x32, .f32⟩
  | 82 => ⟨S4096x8x32, .f32⟩
  | 83 => ⟨S4096x8x32, .f32⟩
  | 84 => ⟨S4096x8x32, .f32⟩
  | 85 => ⟨S4096x8x32, .f32⟩
  | 86 => ⟨S4096x8x64, .f32⟩
  | 87 => ⟨S4096x8x64, .f32⟩
  | 88 => ⟨S_, .f32⟩
  | 89 => ⟨S8x64, .f32⟩
  | 90 => ⟨S1x8x64, .f32⟩
  | 91 => ⟨S4096x8x64, .f32⟩
  | 92 => ⟨S4096x8x64, .f32⟩
  | 93 => ⟨S_, .f32⟩
  | 94 => ⟨S8x64, .f32⟩
  | 95 => ⟨S4096x8x64, .f32⟩
  | 96 => ⟨S_, .f32⟩
  | 97 => ⟨S4096x8, .f32⟩
  | 98 => ⟨S4096x8x1, .f32⟩
  | 99 => ⟨S4096x8x64, .f32⟩
  | 100 => ⟨S4096x8x64, .f32⟩
  | 101 => ⟨S4096x8x1, .f32⟩
  | 102 => ⟨S_, .f32⟩
  | 103 => ⟨S4096x8x1, .f32⟩
  | 104 => ⟨S4096x8x1, .f32⟩
  | 105 => ⟨S_, .f32⟩
  | 106 => ⟨S4096x8, .f32⟩
  | 107 => ⟨S4096x8x64, .f32⟩
  | 108 => ⟨S4096x8x64, .f32⟩
  | 109 => ⟨S4096x8x64, .f32⟩
  | 110 => ⟨S4096x8x64, .f32⟩
  | 111 => ⟨S4096x8x64, .f32⟩
  | 112 => ⟨S4096x512, .f32⟩
  | 113 => ⟨S2x64, .f32⟩
  | 114 => ⟨S4096x2x64, .f32⟩
  | 115 => ⟨S4096x2x64, .f32⟩
  | 116 => ⟨S_, .f32⟩
  | 117 => ⟨S4096x2, .f32⟩
  | 118 => ⟨S4096x2x1, .f32⟩
  | 119 => ⟨S_, .f32⟩
  | 120 => ⟨S4096x2x1, .f32⟩
  | 121 => ⟨S4096x2x1, .f32⟩
  | 122 => ⟨S_, .f32⟩
  | 123 => ⟨S4096x2x1, .f32⟩
  | 124 => ⟨S4096x2x1, .f32⟩
  | 125 => ⟨S4096x2x1, .f32⟩
  | 126 => ⟨S4096x2x1, .f32⟩
  | 127 => ⟨S_, .f32⟩
  | _ => ⟨S4096x2304, .f32⟩

abbrev hbmTy0_1 (i : Nat) : BufTy := match i % 128 with
  | 0 => ⟨S4096x2x1, .f32⟩
  | 1 => ⟨S4096x2x1, .f32⟩
  | 2 => ⟨S4096x2x64, .f32⟩
  | 3 => ⟨S4096x2x64, .f32⟩
  | 4 => ⟨S1x2x64, .f32⟩
  | 5 => ⟨S4096x2x64, .f32⟩
  | 6 => ⟨S4096x2x64, .f32⟩
  | 7 => ⟨S4096x1x32, .f32⟩
  | 8 => ⟨S4096x1x32, .f32⟩
  | 9 => ⟨S4096x2x32, .f32⟩
  | 10 => ⟨S4096x2x32, .f32⟩
  | 11 => ⟨S4096x2x32, .f32⟩
  | 12 => ⟨S4096x2x32, .f32⟩
  | 13 => ⟨S4096x2x32, .f32⟩
  | 14 => ⟨S4096x2x32, .f32⟩
  | 15 => ⟨S4096x2x32, .f32⟩
  | 16 => ⟨S4096x2x32, .f32⟩
  | 17 => ⟨S4096x2x32, .f32⟩
  | 18 => ⟨S4096x2x32, .f32⟩
  | 19 => ⟨S4096x2x32, .f32⟩
  | 20 => ⟨S4096x2x32, .f32⟩
  | 21 => ⟨S4096x2x64, .f32⟩
  | 22 => ⟨S4096x128, .f32⟩
  | 23 => ⟨S4096x2x64, .f32⟩
  | 24 => ⟨S4096x2x32, .f32⟩
  | 25 => ⟨S4096x2x32, .f32⟩
  | 26 => ⟨S4096x2x32, .f32⟩
  | 27 => ⟨S4096x2x32, .f32⟩
  | 28 => ⟨S4096x2x32, .f32⟩
  | 29 => ⟨S4096x2x32, .f32⟩
  | 30 => ⟨S4096x2x32, .f32⟩
  | 31 => ⟨S4096x2x32, .f32⟩
  | 32 => ⟨S4096x2x32, .f32⟩
  | 33 => ⟨S4096x2x32, .f32⟩
  | 34 => ⟨S4096x2x32, .f32⟩
  | 35 => ⟨S4096x2x32, .f32⟩
  | 36 => ⟨S4096x2x32, .f32⟩
  | 37 => ⟨S4096x2x64, .f32⟩
  | 38 => ⟨S4096x2x64, .f32⟩
  | 39 => ⟨S_, .f32⟩
  | 40 => ⟨S2x64, .f32⟩
  | 41 => ⟨S1x2x64, .f32⟩
  | 42 => ⟨S4096x2x64, .f32⟩
  | 43 => ⟨S4096x2x64, .f32⟩
  | 44 => ⟨S_, .f32⟩
  | 45 => ⟨S2x64, .f32⟩
  | 46 => ⟨S4096x2x64, .f32⟩
  | 47 => ⟨S_, .f32⟩
  | 48 => ⟨S4096x2, .f32⟩
  | 49 => ⟨S4096x2x1, .f32⟩
  | 50 => ⟨S4096x2x64, .f32⟩
  | 51 => ⟨S4096x2x64, .f32⟩
  | 52 => ⟨S4096x2x1, .f32⟩
  | 53 => ⟨S_, .f32⟩
  | 54 => ⟨S4096x2x1, .f32⟩
  | 55 => ⟨S4096x2x1, .f32⟩
  | 56 => ⟨S_, .f32⟩
  | 57 => ⟨S4096x2, .f32⟩
  | 58 => ⟨S4096x2x64, .f32⟩
  | 59 => ⟨S4096x2x64, .f32⟩
  | 60 => ⟨S4096x2x64, .f32⟩
  | 61 => ⟨S4096x2x64, .f32⟩
  | 62 => ⟨S4096x2x64, .f32⟩
  | 63 => ⟨S4096x128, .f32⟩
  | 64 => ⟨S4096x512, .bf16⟩
  | 65 => ⟨S4096x128, .bf16⟩
  | 66 => ⟨S4096x128, .bf16⟩
  | 67 => ⟨S1x512, .f32⟩
  | 68 => ⟨S1x128, .f32⟩
  | _ => ⟨S4096x2304, .f32⟩

abbrev hbmTy (i : Nat) : BufTy := match i / 128 with
  | 0 => hbmTy0_0 i
  | 1 => hbmTy0_1 i
  | _ => ⟨S4096x2304, .f32⟩

abbrev bufTy : (tb : Table) → Fin (tcTables nBuf tb) → BufTy
  | .hbm, ⟨i, _⟩ => hbmTy i
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_11 : Ref sig .tc := ⟨.hbm, 102, rfl⟩
abbrev main_v84 : Ref sig .tc := ⟨.hbm, 103, rfl⟩
abbrev main_v85 : Ref sig .tc := ⟨.hbm, 104, rfl⟩
abbrev main_cst_12 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_13 : Ref sig .tc := ⟨.hbm, 116, rfl⟩
abbrev main_v96 : Ref sig .tc := ⟨.hbm, 117, rfl⟩
abbrev main_v97 : Ref sig .tc := ⟨.hbm, 118, rfl⟩
abbrev main_cst_14 : Ref sig .tc := ⟨.hbm, 119, rfl⟩
abbrev main_v98 : Ref sig .tc := ⟨.hbm, 120, rfl⟩
abbrev main_v99 : Ref sig .tc := ⟨.hbm, 121, rfl⟩
abbrev main_cst_15 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_16 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_cst_17 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_cst_18 : Ref sig .tc := ⟨.hbm, 172, rfl⟩
abbrev main_v147 : Ref sig .tc := ⟨.hbm, 173, rfl⟩
abbrev main_v148 : Ref sig .tc := ⟨.hbm, 174, rfl⟩
abbrev main_cst_19 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_cst_20 : Ref sig .tc := ⟨.hbm, 181, rfl⟩
abbrev main_v154 : Ref sig .tc := ⟨.hbm, 182, rfl⟩
abbrev main_v155 : Ref sig .tc := ⟨.hbm, 183, rfl⟩
abbrev main_cst_21 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩

abbrev nD : Nat := 1
abbrev τ : Topo := Topo.v7x

variable {F : FTy → Type} [FloatOps F]
-- ==== Kernel16.lean ====
abbrev S4096x2304 : Shape := ⟨2, ![4096, 2304]⟩
abbrev S64 : Shape := ⟨1, ![64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S4096x512 : Shape := ⟨2, ![4096, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 47
  | .vmem => 14
  | .smem => 0
  | _ => 0

abbrev bufTy : (tb : Table) → Fin (tcTables nBuf tb) → BufTy
  | .hbm, ⟨0, _⟩ => ⟨S4096x2304, .f32⟩
  | .hbm, ⟨1, _⟩ => ⟨S64, .f32⟩
  | .hbm, ⟨2, _⟩ => ⟨S64, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S4096x2304, .bf16⟩
  | .hbm, ⟨37, _⟩ => ⟨S1x64, .f32⟩
  | .hbm, ⟨38, _⟩ => ⟨S1x1x1x64, .f32⟩
  | .hbm, ⟨39, _⟩ => ⟨S1x1x2x64, .f32⟩
  | .hbm, ⟨40, _⟩ => ⟨S1x128, .f32⟩
  | .hbm, ⟨41, _⟩ => ⟨S1x64, .f32⟩
  | .hbm, ⟨42, _⟩ => ⟨S1x1x1x64, .f32⟩
  | .hbm, ⟨43, _⟩ => ⟨S1x1x2x64, .f32⟩
  | .hbm, ⟨44, _⟩ => ⟨S1x128, .f32⟩
  | .hbm, ⟨45, _⟩ => ⟨S4096x512, .bf16⟩
  | .hbm, ⟨46, _⟩ => ⟨S4096x128, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37_0 : Ref sig .tc := ⟨.hbm, 45, rfl⟩
abbrev main_v37_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S4096x2304 : Shape := ⟨2, ![4096, 2304]⟩
abbrev S64 : Shape := ⟨1, ![64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1536 : Shape := ⟨2, ![4096, 1536]⟩
abbrev S4096x512 : Shape := ⟨2, ![4096, 512]⟩
abbrev S4096x128 : Shape := ⟨2, ![4096, 128]⟩
abbrev S4096x8x64 : Shape := ⟨3, ![4096, 8, 64]⟩
abbrev S4096x8 : Shape := ⟨2, ![4096, 8]⟩
abbrev S4096x8x1 : Shape := ⟨3, ![4096, 8, 1]⟩
abbrev S1x1x64 : Shape := ⟨3, ![1, 1, 64]⟩
abbrev S4096x1x32 : Shape := ⟨3, ![4096, 1, 32]⟩
abbrev S4096x8x32 : Shape := ⟨3, ![4096, 8, 32]⟩
abbrev S4096x2x64 : Shape := ⟨3, ![4096, 2, 64]⟩
abbrev S4096x2 : Shape := ⟨2, ![4096, 2]⟩
abbrev S4096x2x1 : Shape := ⟨3, ![4096, 2, 1]⟩
abbrev S4096x2x32 : Shape := ⟨3, ![4096, 2, 32]⟩

abbrev nBuf : Space → Nat
  | .hbm => 99
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S64, .f32⟩
  | .hbm, ⟨2, _⟩ => ⟨S64, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1536, .f32⟩
  | .hbm, ⟨28, _⟩ => ⟨S4096x512, .f32⟩
  | .hbm, ⟨29, _⟩ => ⟨S4096x128, .f32⟩
  | .hbm, ⟨30, _⟩ => ⟨S4096x128, .f32⟩
  | .hbm, ⟨31, _⟩ => ⟨S4096x8x64, .f32⟩
  | .hbm, ⟨32, _⟩ => ⟨S4096x8x64, .f32⟩
  | .hbm, ⟨33, _⟩ => ⟨S_, .f32⟩
  | .hbm, ⟨34, _⟩ => ⟨S4096x8, .f32⟩
  | .hbm, ⟨35, _⟩ => ⟨S4096x8x1, .f32⟩
  | .hbm, ⟨36, _⟩ => ⟨S_, .f32⟩
  | .hbm, ⟨37, _⟩ => ⟨S4096x8x1, .f32⟩
  | .hbm, ⟨38, _⟩ => ⟨S4096x8x1, .f32⟩
  | .hbm, ⟨39, _⟩ => ⟨S_, .f32⟩
  | .hbm, ⟨40, _⟩ => ⟨S4096x8x1, .f32⟩
  | .hbm, ⟨41, _⟩ => ⟨S4096x8x1, .f32⟩
  | .hbm, ⟨42, _⟩ => ⟨S4096x8x1, .f32⟩
  | .hbm, ⟨43, _⟩ => ⟨S4096x8x64, .f32⟩
  | .hbm, ⟨44, _⟩ => ⟨S4096x8x64, .f32⟩
  | .hbm, ⟨45, _⟩ => ⟨S1x1x64, .f32⟩
  | .hbm, ⟨46, _⟩ => ⟨S4096x8x64, .f32⟩
  | .hbm, ⟨47, _⟩ => ⟨S4096x8x64, .f32⟩
  | .hbm, ⟨48, _⟩ => ⟨S4096x1x32, .f32⟩
  | .hbm, ⟨49, _⟩ => ⟨S4096x1x32, .f32⟩
  | .hbm, ⟨50, _⟩ => ⟨S4096x8x32, .f32⟩
  | .hbm, ⟨51, _⟩ => ⟨S4096x8x32, .f32⟩
  | .hbm, ⟨52, _⟩ => ⟨S4096x8x32, .f32⟩
  | .hbm, ⟨53, _⟩ => ⟨S4096x8x32, .f32⟩
  | .hbm, ⟨54, _⟩ => ⟨S4096x8x32, .f32⟩
  | .hbm, ⟨55, _⟩ => ⟨S4096x8x32, .f32⟩
  | .hbm, ⟨56, _⟩ => ⟨S4096x8x32, .f32⟩
  | .hbm, ⟨57, _⟩ => ⟨S4096x8x32, .f32⟩
  | .hbm, ⟨58, _⟩ => ⟨S4096x8x32, .f32⟩
  | .hbm, ⟨59, _⟩ => ⟨S4096x8x32, .f32⟩
  | .hbm, ⟨60, _⟩ => ⟨S4096x8x32, .f32⟩
  | .hbm, ⟨61, _⟩ => ⟨S4096x8x32, .f32⟩
  | .hbm, ⟨62, _⟩ => ⟨S4096x8x64, .f32⟩
  | .hbm, ⟨63, _⟩ => ⟨S4096x512, .f32⟩
  | .hbm, ⟨64, _⟩ => ⟨S4096x512, .bf16⟩
  | .hbm, ⟨65, _⟩ => ⟨S4096x2x64, .f32⟩
  | .hbm, ⟨66, _⟩ => ⟨S4096x2x64, .f32⟩
  | .hbm, ⟨67, _⟩ => ⟨S_, .f32⟩
  | .hbm, ⟨68, _⟩ => ⟨S4096x2, .f32⟩
  | .hbm, ⟨69, _⟩ => ⟨S4096x2x1, .f32⟩
  | .hbm, ⟨70, _⟩ => ⟨S_, .f32⟩
  | .hbm, ⟨71, _⟩ => ⟨S4096x2x1, .f32⟩
  | .hbm, ⟨72, _⟩ => ⟨S4096x2x1, .f32⟩
  | .hbm, ⟨73, _⟩ => ⟨S_, .f32⟩
  | .hbm, ⟨74, _⟩ => ⟨S4096x2x1, .f32⟩
  | .hbm, ⟨75, _⟩ => ⟨S4096x2x1, .f32⟩
  | .hbm, ⟨76, _⟩ => ⟨S4096x2x1, .f32⟩
  | .hbm, ⟨77, _⟩ => ⟨S4096x2x64, .f32⟩
  | .hbm, ⟨78, _⟩ => ⟨S4096x2x64, .f32⟩
  | .hbm, ⟨79, _⟩ => ⟨S1x1x64, .f32⟩
  | .hbm, ⟨80, _⟩ => ⟨S4096x2x64, .f32⟩
  | .hbm, ⟨81, _⟩ => ⟨S4096x2x64, .f32⟩
  | .hbm, ⟨82, _⟩ => ⟨S4096x1x32, .f32⟩
  | .hbm, ⟨83, _⟩ => ⟨S4096x1x32, .f32⟩
  | .hbm, ⟨84, _⟩ => ⟨S4096x2x32, .f32⟩
  | .hbm, ⟨85, _⟩ => ⟨S4096x2x32, .f32⟩
  | .hbm, ⟨86, _⟩ => ⟨S4096x2x32, .f32⟩
  | .hbm, ⟨87, _⟩ => ⟨S4096x2x32, .f32⟩
  | .hbm, ⟨88, _⟩ => ⟨S4096x2x32, .f32⟩
  | .hbm, ⟨89, _⟩ => ⟨S4096x2x32, .f32⟩
  | .hbm, ⟨90, _⟩ => ⟨S4096x2x32, .f32⟩
  | .hbm, ⟨91, _⟩ => ⟨S4096x2x32, .f32⟩
  | .hbm, ⟨92, _⟩ => ⟨S4096x2x32, .f32⟩
  | .hbm, ⟨93, _⟩ => ⟨S4096x2x32, .f32⟩
  | .hbm, ⟨94, _⟩ => ⟨S4096x2x32, .f32⟩
  | .hbm, ⟨95, _⟩ => ⟨S4096x2x32, .f32⟩
  | .hbm, ⟨96, _⟩ => ⟨S4096x2x64, .f32⟩
  | .hbm, ⟨97, _⟩ => ⟨S4096x128, .f32⟩
  | .hbm, ⟨98, _⟩ => ⟨S4096x128, .bf16⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_7 : Ref sig .tc := ⟨.hbm, 67, rfl⟩
abbrev main_v56 : Ref sig .tc := ⟨.hbm, 68, rfl⟩
abbrev main_v57 : Ref sig .tc := ⟨.hbm, 69, rfl⟩
abbrev main_cst_8 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩

abbrev nD : Nat := 1
abbrev τ : Topo := Topo.v7x

variable {F : FTy → Type} [FloatOps F]
-- ==== Proof.OutBwdBlocks.lean ====
/-
  The merge gradient's blocks, read by coordinates. The grid has eight points; point `t` works on rows `512 t` to
  `512 t + 511` of every array that has 4096 rows, and on the whole of the three weights.
-/
module

public import proofs.«01_k».proof.Proof.Gen.KernelIdeal.Value
public import Idealize.ShloMosaic.Lib.Pointwise

@[expose] public section

set_option maxRecDepth 16384

noncomputable section

namespace Cert.KernelIdeal.OutBwd

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem hz : (![0, 0] : Fin 2 → Nat) = fun _ => 0 := funext fun a => by fin_cases a <;> rfl

/-- Each block starts at its point's rows, in column zero. -/
theorem start : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) := by
  decide +kernel

/-- Window 0, the gradient of the layer's output: its block at an index. -/
theorem blk0 (c : Dev nD) (t : Fin cfg0.N) (r : Fin 512) (k : Fin 1024) :
    (iblk m c 0 t : Vec Ideal S512x1024 .bf16) (ix2 r k) = (V m c main_v11 : Vec Ideal S4096x1024 .bf16) (ix2 (row t r) k) := by
  show V m c main_v11 ((win0_0.blk t).view.emb (ix2 r k)) = _
  refine congrArg (V m c main_v11) (funext fun a => Fin.ext ?_)
  match a with
  | ⟨0, _⟩ =>
    show win0_0.index t 0 * 512 + 1 * r.val = 512 * t.val + r.val
    rw [(start t).1.1]; omega
  | ⟨1, _⟩ =>
    show win0_0.index t 1 * 1024 + 1 * k.val = k.val
    rw [(start t).1.2]; omega

/-- Window 1, the output weight: its block at an index. -/
theorem blk1 (c : Dev nD) (t : Fin cfg0.N) (r : Fin 1024) (k : Fin 1024) :
    (iblk m c 1 t : Vec Ideal S1024x1024 .bf16) (ix2 r k) = (V m c main_v12 : Vec Ideal S1024x1024 .bf16) (ix2 (r) k) := by
  show V m c main_v12 ((win0_1.blk t).view.emb (ix2 r k)) = _
  refine congrArg (V m c main_v12) (funext fun a => Fin.ext ?_)
  match a with
  | ⟨0, _⟩ =>
    show win0_1.index t 0 * 1024 + 1 * r.val = r.val
    rw [(start t).2.1.1]; omega
  | ⟨1, _⟩ =>
    show win0_1.index t 1 * 1024 + 1 * k.val = k.val
    rw [(start t).2.1.2]; omega

/-- Window 2, the gates: its block at an index. -/
theorem blk2 (c : Dev nD) (t : Fin cfg0.N) (r : Fin 512) (k : Fin 2048) :
    (iblk m c 2 t : Vec Ideal S512x2048 .bf16) (ix2 r k) = (V m c main_v6 : Vec Ideal S4096x2048 .bf16) (ix2 (row t r) k) := by
  show V m c main_v6 ((win0_2.blk t).view.emb (ix2 r k)) = _
  refine congrArg (V m c main_v6) (funext fun a => Fin.ext ?_)
  match a with
  | ⟨0, _⟩ =>
    show win0_2.index t 0 * 512 + 1 * r.val = 512 * t.val + r.val
    rw [(start t).2.2.1.1]; omega
  | ⟨1, _⟩ =>
    show win0_2.index t 1 * 2048 + 1 * k.val = k.val
    rw [(start t).2.2.1.2]; omega

/-- Window 3, the first branch: its block at an index. -/
theorem blk3 (c : Dev nD) (t : Fin cfg0.N) (r : Fin 512) (k : Fin 1024) :
    (iblk m c 3 t : Vec Ideal S512x1024 .bf16) (ix2 r k) = (V m c main_v8 : Vec Ideal S4096x1024 .bf16) (ix2 (row t r) k) := by
  show V m c main_v8 ((win0_3.blk t).view.emb (ix2 r k)) = _
  refine congrArg (V m c main_v8) (funext fun a => Fin.ext ?_)
  match a with
  | ⟨0, _⟩ =>
    show win0_3.index t 0 * 512 + 1 * r.val = 512 * t.val + r.val
    rw [(start t).2.2.2.1.1]; omega
  | ⟨1, _⟩ =>
    show win0_3.index t 1 * 1024 + 1 * k.val = k.val
    rw [(start t).2.2.2.1.2]; omega

/-- Window 4, the second branch: its block at an index. -/
theorem blk4 (c : Dev nD) (t : Fin cfg0.N) (r : Fin 512) (k : Fin 1024) :
    (iblk m c 4 t : Vec Ideal S512x1024 .bf16) (ix2 r k) = (V m c main_v10 : Vec Ideal S4096x1024 .bf16) (ix2 (row t r) k) := by
  show V m c main_v10 ((win0_4.blk t).view.emb (ix2 r k)) = _
  refine congrArg (V m c main_v10) (funext fun a => Fin.ext ?_)
  match a with
  | ⟨0, _⟩ =>
    show win0_4.index t 0 * 512 + 1 * r.val = 512 * t.val + r.val
    rw [(start t).2.2.2.2.1.1]; omega
  | ⟨1, _⟩ =>
    show win0_4.index t 1 * 1024 + 1 * k.val = k.val
    rw [(start t).2.2.2.2.1.2]; omega

/-- Window 5, the first branch's weight: its block at an index. -/
theorem blk5 (c : Dev nD) (t : Fin cfg0.N) (r : Fin 512) (k : Fin 1024) :
    (iblk m c 5 t : Vec Ideal S512x1024 .bf16) (ix2 r k) = (V m c main_v13 : Vec Ideal S512x1024 .bf16) (ix2 (r) k) := by
  show V m c main_v13 ((win0_5.blk t).view.emb (ix2 r k)) = _
  refine congrArg (V m c main_v13) (funext fun a => Fin.ext ?_)
  match a with
  | ⟨0, _⟩ =>
    show win0_5.index t 0 * 512 + 1 * r.val = r.val
    rw [(start t).2.2.2.2.2.1.1]; omega
  | ⟨1, _⟩ =>
    show win0_5.index t 1 * 1024 + 1 * k.val = k.val
    rw [(start t).2.2.2.2.2.1.2]; omega

/-- Window 6, the second branch's weight: its block at an index. -/
theorem blk6 (c : Dev nD) (t : Fin cfg0.N) (r : Fin 512) (k : Fin 1024) :
    (iblk m c 6 t : Vec Ideal S512x1024 .bf16) (ix2 r k) = (V m c main_v14 : Vec Ideal S512x1024 .bf16) (ix2 (r) k) := by
  show V m c main_v14 ((win0_6.blk t).view.emb (ix2 r k)) = _
  refine congrArg (V m c main_v14) (funext fun a => Fin.ext ?_)
  match a with
  | ⟨0, _⟩ =>
    show win0_6.index t 0 * 512 + 1 * r.val = r.val
    rw [(start t).2.2.2.2.2.2.1.1]; omega
  | ⟨1, _⟩ =>
    show win0_6.index t 1 * 1024 + 1 * k.val = k.val
    rw [(start t).2.2.2.2.2.2.1.2]; omega

/-- Window 7: an array read through its block at point `t`. -/
theorem read7 (A : Vec Ideal S4096x1024 .bf16) (t : Fin cfg0.N) (r : Fin 512) (k : Fin 1024) :
    ((win0_7.blk t).view.read (Elt Ideal) A : Vec Ideal S512x1024 .bf16) (ix2 r k) = A (ix2 (row t r) k) := by
  show A ((win0_7.blk t).view.emb (ix2 r k)) = _
  refine congrArg A (funext fun a => Fin.ext ?_)
  match a with
  | ⟨0, _⟩ =>
    show win0_7.index t 0 * 512 + 1 * r.val = 512 * t.val + r.val
    rw [(start t).2.2.2.2.2.2.2.1.1]; omega
  | ⟨1, _⟩ =>
    show win0_7.index t 1 * 1024 + 1 * k.val = k.val
    rw [(start t).2.2.2.2.2.2.2.1.2]; omega

/-- Window 7's eight blocks fill its array. -/
theorem cover7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have hN : cfg0.N = 8 := N_0
  refine ⟨⟨(i 0).val / 512, by omega⟩, flush0_7 _, ?_⟩
  generalize ht : (⟨(i 0).val / 512, by omega⟩ : Fin cfg0.N) = t
  have hv : t.val = (i 0).val / 512 := by rw [← ht]
  show i ∈ ((View.whole main_v15_0).slice (win0_7.rect t)).set
  rw [View.set_slice_whole, Rect.mem_set_unit]
  intro a
  match a with
  | ⟨0, _⟩ =>
    show win0_7.index t 0 * 512 ≤ (i 0).val ∧ (i 0).val < win0_7.index t 0 * 512 + 512
    rw [(start t).2.2.2.2.2.2.2.1.1]; omega
  | ⟨1, _⟩ =>
    show win0_7.index t 1 * 1024 ≤ (i 1).val ∧ (i 1).val < win0_7.index t 1 * 1024 + 1024
    rw [(start t).2.2.2.2.2.2.2.1.2]; omega

/-- Window 8: an array read through its block at point `t`. -/
theorem read8 (A : Vec Ideal S4096x1024 .bf16) (t : Fin cfg0.N) (r : Fin 512) (k : Fin 1024) :
    ((win0_8.blk t).view.read (Elt Ideal) A : Vec Ideal S512x1024 .bf16) (ix2 r k) = A (ix2 (row t r) k) := by
  show A ((win0_8.blk t).view.emb (ix2 r k)) = _
  refine congrArg A (funext fun a => Fin.ext ?_)
  match a with
  | ⟨0, _⟩ =>
    show win0_8.index t 0 * 512 + 1 * r.val = 512 * t.val + r.val
    rw [(start t).2.2.2.2.2.2.2.2.1.1]; omega
  | ⟨1, _⟩ =>
    show win0_8.index t 1 * 1024 + 1 * k.val = k.val
    rw [(start t).2.2.2.2.2.2.2.2.1.2]; omega

/-- Window 8's eight blocks fill its array. -/
theorem cover8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  have hN : cfg0.N = 8 := N_0
  refine ⟨⟨(i 0).val / 512, by omega⟩, flush0_8 _, ?_⟩
  generalize ht : (⟨(i 0).val / 512, by omega⟩ : Fin cfg0.N) = t
  have hv : t.val = (i 0).val / 512 := by rw [← ht]
  show i ∈ ((View.whole main_v15_1).slice (win0_8.rect t)).set
  rw [View.set_slice_whole, Rect.mem_set_unit]
  intro a
  match a with
  | ⟨0, _⟩ =>
    show win0_8.index t 0 * 512 ≤ (i 0).val ∧ (i 0).val < win0_8.index t 0 * 512 + 512
    rw [(start t).2.2.2.2.2.2.2.2.1.1]; omega
  | ⟨1, _⟩ =>
    show win0_8.index t 1 * 1024 ≤ (i 1).val ∧ (i 1).val < win0_8.index t 1 * 1024 + 1024
    rw [(start t).2.2.2.2.2.2.2.2.1.2]; omega

/-- Window 9: an array read through its block at point `t`. -/
theorem read9 (A : Vec Ideal S4096x512 .bf16) (t : Fin cfg0.N) (r : Fin 512) (k : Fin 512) :
    ((win0_9.blk t).view.read (Elt Ideal) A : Vec Ideal S512x512 .bf16) (ix2 r k) = A (ix2 (row t r) k) := by
  show A ((win0_9.blk t).view.emb (ix2 r k)) = _
  refine congrArg A (funext fun a => Fin.ext ?_)
  match a with
  | ⟨0, _⟩ =>
    show win0_9.index t 0 * 512 + 1 * r.val = 512 * t.val + r.val
    rw [(start t).2.2.2.2.2.2.2.2.2.1.1]; omega
  | ⟨1, _⟩ =>
    show win0_9.index t 1 * 512 + 1 * k.val = k.val
    rw [(start t).2.2.2.2.2.2.2.2.2.1.2]; omega

/-- Window 9's eight blocks fill its array. -/
theorem cover9 (i : S4096x512.Idx) : ∃ t : Fin cfg0.N, (cfg0.win 9).flush t = true ∧ i ∈ ((cfg0.win 9).blk t).view.set := by
  have h0 : (i 0).val < 4096 := (i 0).isLt
  have h1 : (i 1).val < 512 := (i 1).isLt
  have hN : cfg0.N = 8 := N_0
  refine ⟨⟨(i 0).val / 512, by omega⟩, flush0_9 _, ?_⟩
  generalize ht : (⟨(i 0).val / 512, by omega⟩ : Fin cfg0.N) = t
  have hv : t.val = (i 0).val / 512 := by rw [← ht]
  show i ∈ ((View.whole main_v15_2).slice (win0_9.rect t)).set
  rw [View.set_slice_whole, Rect.mem_set_unit]
  intro a
  match a with
  | ⟨0, _⟩ =>
    show win0_9.index t 0 * 512 ≤ (i 0).val ∧ (i 0).val < win0_9.index t 0 * 512 + 512
    rw [(start t).2.2.2.2.2.2.2.2.2.1.1]; omega
  | ⟨1, _⟩ =>
    show win0_9.index t 1 * 512 ≤ (i 1).val ∧ (i 1).val < win0_9.index t 1 * 512 + 512
    rw [(start t).2.2.2.2.2.2.2.2.2.1.2]; omega

/-- Window 10: an array read through its block at point `t`. -/
theorem read10 (A : Vec Ideal S4096x512 .bf16) (t : Fin cfg0.N) (r : Fin 512) (k : Fin 512) :
    ((win0_10.blk t).view.read (Elt Ideal) A : Vec Ideal S512x512 .bf16) (ix2 r k) = A (ix2 (row t r) k) := by
  show A ((win0_10.blk t).view.emb (ix2 r k)) = _
  refine congrArg A (funext fun a => Fin.ext ?_)
  match a with
  | ⟨0, _⟩ =>
    show win0_10.index t 0 * 512 + 1 * r.val = 512 * t.val + r.val
    rw [(start t).2.2.2.2.2.2.2.2.2.2.1.1]; omega
  | ⟨1, _⟩ =>
    show win0_10.index t 1 * 512 + 1 * k.val = k.val
    rw [(start t).2.2.2.2.2.2.2.2.2.2.1.2]; omega

/-- Window 10's eight blocks fill its array. -/
theorem cover10 (i : S4096x512.Idx) : ∃ t : Fin cfg0.N, (cfg0.win 10).flush t = true ∧ i ∈ ((cfg0.win 10).blk t).view.set := by
  have h0 : (i 0).val < 4096 := (i 0).isLt
  have h1 : (i 1).val < 512 := (i 1).isLt
  have hN : cfg0.N = 8 := N_0
  refine ⟨⟨(i 0).val / 512, by omega⟩, flush0_10 _, ?_⟩
  generalize ht : (⟨(i 0).val / 512, by omega⟩ : Fin cfg0.N) = t
  have hv : t.val = (i 0).val / 512 := by rw [← ht]
  show i ∈ ((View.whole main_v15_3).slice (win0_10.rect t)).set
  rw [View.set_slice_whole, Rect.mem_set_unit]
  intro a
  match a with
  | ⟨0, _⟩ =>
    show win0_10.index t 0 * 512 ≤ (i 0).val ∧ (i 0).val < win0_10.index t 0 * 512 + 512
    rw [(start t).2.2.2.2.2.2.2.2.2.2.1.1]; omega
  | ⟨1, _⟩ =>
    show win0_10.index t 1 * 512 ≤ (i 1).val ∧ (i 1).val < win0_10.index t 1 * 512 + 512
    rw [(start t).2.2.2.2.2.2.2.2.2.2.1.2]; omega

/-- Window 11: an array read through its block at point `t`. -/
theorem read11 (A : Vec Ideal S4096x2048 .bf16) (t : Fin cfg0.N) (r : Fin 512) (k : Fin 2048) :
    ((win0_11.blk t).view.read (Elt Ideal) A : Vec Ideal S512x2048 .bf16) (ix2 r k) = A (ix2 (row t r) k) := by
  show A ((win0_11.blk t).view.emb (ix2 r k)) = _
  refine congrArg A (funext fun a => Fin.ext ?_)
  match a with
  | ⟨0, _⟩ =>
    show win0_11.index t 0 * 512 + 1 * r.val = 512 * t.val + r.val
    rw [(start t).2.2.2.2.2.2.2.2.2.2.2.1]; omega
  | ⟨1, _⟩ =>
    show win0_11.index t 1 * 2048 + 1 * k.val = k.val
    rw [(start t).2.2.2.2.2.2.2.2.2.2.2.2]; omega

/-- Window 11's eight blocks fill its array. -/
theorem cover11 (i : S4096x2048.Idx) : ∃ t : Fin cfg0.N, (cfg0.win 11).flush t = true ∧ i ∈ ((cfg0.win 11).blk t).view.set := by
  have h0 : (i 0).val < 4096 := (i 0).isLt
  have h1 : (i 1).val < 2048 := (i 1).isLt
  have hN : cfg0.N = 8 := N_0
  refine ⟨⟨(i 0).val / 512, by omega⟩, flush0_11 _, ?_⟩
  generalize ht : (⟨(i 0).val / 512, by omega⟩ : Fin cfg0.N) = t
  have hv : t.val = (i 0).val / 512 := by rw [← ht]
  show i ∈ ((View.whole main_v15_4).slice (win0_11.rect t)).set
  rw [View.set_slice_whole, Rect.mem_set_unit]
  intro a
  match a with
  | ⟨0, _⟩ =>
    show win0_11.index t 0 * 512 ≤ (i 0).val ∧ (i 0).val < win0_11.index t 0 * 512 + 512
    rw [(start t).2.2.2.2.2.2.2.2.2.2.2.1]; omega
  | ⟨1, _⟩ =>
    show win0_11.index t 1 * 2048 ≤ (i 1).val ∧ (i 1).val < win0_11.index t 1 * 2048 + 2048
    rw [(start t).2.2.2.2.2.2.2.2.2.2.2.2]; omega

end Cert.KernelIdeal.OutBwd

end
-- ==== Proof.OutBwdValue.lean ====
/-
  The merge gradient's five result arrays after the run, as functions of the seven arrays the pipeline reads. With
  `dm r k = ∑ j, D r j · W k j` (the gradient of the merged branches), a branch's gradient is `dm` times its gate, the
  gradient of the branch's input is that times the branch's weight transposed, and the gradient of a gate's logit is `dm`
  times the branch's value times `g (1 − g)`.
-/
module

public import proofs.«01_k».proof.Proof.OutBwdBlocks

@[expose] public section

set_option maxRecDepth 16384

noncomputable section

namespace Cert.KernelIdeal.OutBwd

open Cert.KernelIdeal Cert.KernelIdeal.Gen Idealize.ShloMosaic Idealize.ShloMosaic.TcCoe Idealize.SL.Sem
open Idealize.ShloMosaic.Pipeline (Dat)

/-- Column `k` of the second half of a 2048-column array. -/
abbrev right (k : Fin 1024) : Fin 2048 := ⟨1024 + k.val, by have := k.isLt; omega⟩
/-- Column `k` of the first half. -/
abbrev left (k : Fin 1024) : Fin 2048 := ⟨k.val, by have := k.isLt; omega⟩

/-! ## The results, over any number of rows -/

section Results

variable {n : Nat} (D : Fin n → Fin 1024 → EReal) (W : Fin 1024 → Fin 1024 → EReal) (G : Fin n → Fin 2048 → EReal)
variable (Y : Fin n → Fin 1024 → EReal) (Z : Fin n → Fin 1024 → EReal) (U : Fin 512 → Fin 1024 → EReal)

/-- The gradient of the merged branches. -/
def dm (r : Fin n) (k : Fin 1024) : EReal := ∑ j, D r j * W k j
/-- The first branch's gradient. -/
def dfst (r : Fin n) (k : Fin 1024) : EReal := dm D W r k * G r (left k)
/-- The second branch's gradient. -/
def dsnd (r : Fin n) (k : Fin 1024) : EReal := dm D W r k * G r (right k)
/-- A branch input's gradient, from the branch's. -/
def din (B : Fin n → Fin 1024 → EReal) (r : Fin n) (k : Fin 512) : EReal := ∑ j, B r j * U k j
/-- A gate logit's gradient in the first half. -/
def dgl (r : Fin n) (k : Fin 1024) : EReal := dm D W r k * Y r k * (G r (left k) * (1 - G r (left k)))
/-- A gate logit's gradient in the second half. -/
def dgr (r : Fin n) (k : Fin 1024) : EReal := dm D W r k * Z r k * (G r (right k) * (1 - G r (right k)))
/-- A gate logit's gradient. -/
def dgate (r : Fin n) (k : Fin 2048) : EReal :=
  if h : k.val < 1024 then dgl D W G Y r ⟨k.val, h⟩ else dgr D W G Z r ⟨k.val - 1024, by have := k.isLt; omega⟩

theorem dgate_left (r : Fin n) (k : Fin 1024) : dgate D W G Y Z r (left k) = dgl D W G Y r k :=
  dif_pos k.isLt
theorem dgate_right (r : Fin n) (k : Fin 1024) : dgate D W G Y Z r (right k) = dgr D W G Z r k := by
  unfold dgate
  rw [dif_neg (by simp)]
  exact congrArg (dgr D W G Z r) (Fin.ext (by simp))

end Results

/-- A two-axis array as a function of its coordinates. -/
abbrev at2 {a b : Nat} (x : (⟨2, ![a, b]⟩ : Shape).Idx → EReal) (r : Fin a) (k : Fin b) : EReal := x (ix2 r k)

/-! ## The payloads -/

section Payloads

variable (x0 : Vec Ideal S512x1024 .bf16) (x1 : Vec Ideal S1024x1024 .bf16) (x2 : Vec Ideal S512x2048 .bf16)
variable (x3 x4 x5 x6 : Vec Ideal S512x1024 .bf16) (r : Fin 512)

theorem pay3_apply (k : Fin 1024) : k0_pay3 x0 x1 (ix2 r k) = dm (at2 x0) (at2 x1) r k := by
  pointwise [k0_pay3, dm]

theorem pay7_apply (k : Fin 1024) : k0_pay7 x0 x1 x2 (ix2 r k) = dfst (at2 x0) (at2 x1) (at2 x2) r k := by
  pointwise [k0_pay7, k0_pay3, k0_pay5, k0_pay4, dfst, dm]

theorem pay8_apply (k : Fin 1024) : k0_pay8 x0 x1 x2 (ix2 r k) = dsnd (at2 x0) (at2 x1) (at2 x2) r k := by
  pointwise [k0_pay8, k0_pay3, k0_pay6, k0_pay4, dsnd, dm]

theorem pay9_apply (k : Fin 512) :
    k0_pay9 x0 x1 x2 x5 (ix2 r k) = din (at2 x5) (dfst (at2 x0) (at2 x1) (at2 x2)) r k := by
  have h : k0_pay9 x0 x1 x2 x5 (ix2 r k) = ∑ j : Fin 1024, k0_pay7 x0 x1 x2 (ix2 r j) * x5 (ix2 k j) := by
    pointwise [k0_pay9]
  rw [h]
  exact Finset.sum_congr rfl fun j _ => congrArg (· * _) (pay7_apply x0 x1 x2 r j)

theorem pay10_apply (k : Fin 512) :
    k0_pay10 x0 x1 x2 x6 (ix2 r k) = din (at2 x6) (dsnd (at2 x0) (at2 x1) (at2 x2)) r k := by
  have h : k0_pay10 x0 x1 x2 x6 (ix2 r k) = ∑ j : Fin 1024, k0_pay8 x0 x1 x2 (ix2 r j) * x6 (ix2 k j) := by
    pointwise [k0_pay10]
  rw [h]
  exact Finset.sum_congr rfl fun j _ => congrArg (· * _) (pay8_apply x0 x1 x2 r j)

theorem pay1_apply (k : Fin 1024) :
    k0_pay1 (k0_pay5 x2) (k0_pay11 x0 x1 x3) (k0_pay12 (F := Ideal)) (ix2 r k)
      = dgl (at2 x0) (at2 x1) (at2 x2) (at2 x3) r k := by
  pointwise [k0_pay1, k0_pay5, k0_pay4, k0_pay11, k0_pay3, k0_pay12, dgl, dm]

theorem pay2_apply (k : Fin 1024) :
    k0_pay2 (k0_pay3 x0 x1) (k0_pay6 x2) x4 (ix2 r k) = dgr (at2 x0) (at2 x1) (at2 x2) (at2 x4) r k := by
  pointwise [k0_pay2, k0_pay6, k0_pay4, k0_pay3, dgr, dm]

/-- The two half stores together leave the gate logits' gradient. -/
theorem out11_apply (k : Fin 2048) :
    out0_11 x0 x1 x2 x3 x4 x5 x6 (ix2 r k) = dgate (at2 x0) (at2 x1) (at2 x2) (at2 x3) (at2 x4) r k := by
  unfold out0_11
  rw [View.ld_unit_zero hz, View.ld_unit_zero hz, View.ld_unit_zero hz, View.ld_unit_zero hz, View.ld_unit_zero hz]
  refine View.canon_apply_of_pieces (Val := Elt Ideal)
    (fun i : S512x2048.Idx => dgate (at2 x0) (at2 x1) (at2 x2) (at2 x3) (at2 x4) (i 0) (i 1)) _ ?_ _ (cover0_11 _ _ _)
  intro pc hpc
  rcases List.mem_cons.mp hpc with rfl | hpc
  · intro (x : S512x1024.Idx)
    obtain ⟨a, b, rfl⟩ : ∃ (a : Fin 512) (b : Fin 1024), x = ix2 a b := ⟨x 0, x 1, eq_ix2 x⟩
    have e : r0_5.idx (ix2 a b) = ix2 a (right b) := funext fun d => Fin.ext (by
      match d with
      | ⟨0, _⟩ => show 0 + 1 * a.val = a.val; omega
      | ⟨1, _⟩ => show 1024 + 1 * b.val = 1024 + b.val; omega)
    exact ((pay2_apply x0 x1 x2 x4 a b).trans (dgate_right _ _ _ _ _ a b).symm).trans
      (congrArg (fun i : S512x2048.Idx => dgate (at2 x0) (at2 x1) (at2 x2) (at2 x3) (at2 x4) (i 0) (i 1)) e.symm)
  rcases List.mem_cons.mp hpc with rfl | hpc
  · intro (x : S512x1024.Idx)
    obtain ⟨a, b, rfl⟩ : ∃ (a : Fin 512) (b : Fin 1024), x = ix2 a b := ⟨x 0, x 1, eq_ix2 x⟩
    have e : r0_4.idx (ix2 a b) = ix2 a (left b) := funext fun d => Fin.ext (by
      match d with
      | ⟨0, _⟩ => show 0 + 1 * a.val = a.val; omega
      | ⟨1, _⟩ => show 0 + 1 * b.val = b.val; omega)
    exact ((pay1_apply x0 x1 x2 x3 a b).trans (dgate_left _ _ _ _ _ a b).symm).trans
      (congrArg (fun i : S512x2048.Idx => dgate (at2 x0) (at2 x1) (at2 x2) (at2 x3) (at2 x4) (i 0) (i 1)) e.symm)
  nomatch hpc

end Payloads

/-! ## The arrays after the run -/

section Arrays

variable (m : (ℓ : Loc nD τ sig) → Buf (Elt Ideal) ℓ) (c : Dev nD)

/-- The seven arrays the pipeline reads, by coordinates. -/
abbrev aD : Fin 4096 → Fin 1024 → EReal := at2 (V m c main_v11)
abbrev aW : Fin 1024 → Fin 1024 → EReal := at2 (V m c main_v12)
abbrev aG : Fin 4096 → Fin 2048 → EReal := at2 (V m c main_v6)
abbrev aY : Fin 4096 → Fin 1024 → EReal := at2 (V m c main_v8)
abbrev aZ : Fin 4096 → Fin 1024 → EReal := at2 (V m c main_v10)
abbrev aU : Fin 512 → Fin 1024 → EReal := at2 (V m c main_v13)
abbrev aX : Fin 512 → Fin 1024 → EReal := at2 (V m c main_v14)

/-- The five results. -/
def res7 : Vec Ideal S4096x1024 .bf16 := fun i => dfst (aD m c) (aW m c) (aG m c) (i 0) (i 1)
def res8 : Vec Ideal S4096x1024 .bf16 := fun i => dsnd (aD m c) (aW m c) (aG m c) (i 0) (i 1)
def res9 : Vec Ideal S4096x512 .bf16 := fun i => din (aU m c) (dfst (aD m c) (aW m c) (aG m c)) (i 0) (i 1)
def res10 : Vec Ideal S4096x512 .bf16 := fun i => din (aX m c) (dsnd (aD m c) (aW m c) (aG m c)) (i 0) (i 1)
def res11 : Vec Ideal S4096x2048 .bf16 := fun i => dgate (aD m c) (aW m c) (aG m c) (aY m c) (aZ m c) (i 0) (i 1)

variable (t : Fin cfg0.N)

theorem in0 : at2 (iblk m c 0 t) = fun r => aD m c (row t r) := funext fun r => funext fun k => blk0 m c t r k
theorem in1 : at2 (iblk m c 1 t) = aW m c := funext fun r => funext fun k => blk1 m c t r k
theorem in2 : at2 (iblk m c 2 t) = fun r => aG m c (row t r) := funext fun r => funext fun k => blk2 m c t r k
theorem in3 : at2 (iblk m c 3 t) = fun r => aY m c (row t r) := funext fun r => funext fun k => blk3 m c t r k
theorem in4 : at2 (iblk m c 4 t) = fun r => aZ m c (row t r) := funext fun r => funext fun k => blk4 m c t r k
theorem in5 : at2 (iblk m c 5 t) = aU m c := funext fun r => funext fun k => blk5 m c t r k
theorem in6 : at2 (iblk m c 6 t) = aX m c := funext fun r => funext fun k => blk6 m c t r k

theorem flushed7 : (dats m 0 c).flushed 7 t = (win0_7.blk t).view.read (Elt Ideal) (res7 m c) := by
  rw [Value.flushed7]
  unfold out0_7
  rw [View.canon_unit_zero hz, View.ld_unit_zero hz, View.ld_unit_zero hz, View.ld_unit_zero hz]
  funext (x : S512x1024.Idx)
  obtain ⟨a, b, rfl⟩ : ∃ (a : Fin 512) (b : Fin 1024), x = ix2 a b := ⟨x 0, x 1, eq_ix2 x⟩
  refine Eq.trans ?_ (read7 _ t a b).symm
  refine (pay7_apply _ _ _ a b).trans ?_
  rw [in0, in1, in2]
  rfl

theorem flushed8 : (dats m 0 c).flushed 8 t = (win0_8.blk t).view.read (Elt Ideal) (res8 m c) := by
  rw [Value.flushed8]
  unfold out0_8
  rw [View.canon_unit_zero hz, View.ld_unit_zero hz, View.ld_unit_zero hz, View.ld_unit_zero hz]
  funext (x : S512x1024.Idx)
  obtain ⟨a, b, rfl⟩ : ∃ (a : Fin 512) (b : Fin 1024), x = ix2 a b := ⟨x 0, x 1, eq_ix2 x⟩
  refine Eq.trans ?_ (read8 _ t a b).symm
  refine (pay8_apply _ _ _ a b).trans ?_
  rw [in0, in1, in2]
  rfl

theorem flushed9 : (dats m 0 c).flushed 9 t = (win0_9.blk t).view.read (Elt Ideal) (res9 m c) := by
  rw [Value.flushed9]
  unfold out0_9
  rw [View.canon_unit_zero hz, View.ld_unit_zero hz, View.ld_unit_zero hz, View.ld_unit_zero hz, View.ld_unit_zero hz]
  funext (x : S512x512.Idx)
  obtain ⟨a, b, rfl⟩ : ∃ (a : Fin 512) (b : Fin 512), x = ix2 a b := ⟨x 0, x 1, eq_ix2 x⟩
  refine Eq.trans ?_ (read9 _ t a b).symm
  refine (pay9_apply _ _ _ _ a b).trans ?_
  rw [in0, in1, in2, in5]
  rfl

theorem flushed10 : (dats m 0 c).flushed 10 t = (win0_10.blk t).view.read (Elt Ideal) (res10 m c) := by
  rw [Value.flushed10]
  unfold out0_10
  rw [View.canon_unit_zero hz, View.ld_unit_zero hz, View.ld_unit_zero hz, View.ld_unit_zero hz, View.ld_unit_zero hz]
  funext (x : S512x512.Idx)
  obtain ⟨a, b, rfl⟩ : ∃ (a : Fin 512) (b : Fin 512), x = ix2 a b := ⟨x 0, x 1, eq_ix2 x⟩
  refine Eq.trans ?_ (read10 _ t a b).symm
  refine (pay10_apply _ _ _ _ a b).trans ?_
  rw [in0, in1, in2, in6]
  rfl

theorem flushed11 : (dats m 0 c).flushed 11 t = (win0_11.blk t).view.read (Elt Ideal) (res11 m c) := by
  rw [Value.flushed11]
  funext (x : S512x2048.Idx)
  obtain ⟨a, b, rfl⟩ : ∃ (a : Fin 512) (b : Fin 2048), x = ix2 a b := ⟨x 0, x 1, eq_ix2 x⟩
  refine Eq.trans ?_ (read11 _ t a b).symm
  refine (out11_apply _ _ _ _ _ _ _ a b).trans ?_
  rw [in0, in1, in2, in3, in4]
  rfl

/-- The kernel's run at the ideal values, its five result arrays named. -/
theorem run (ρ : Dev nD → PrngReg) :
    θ_run defs (onTc (τ := τ) (main (F := Ideal))) ⟨m, fun _ => 0, ρ⟩ fun r => ∀ c : Dev nD,
      r.2.mem ((c : Thread nD τ).loc main_v15_0) = res7 m c
      ∧ r.2.mem ((c : Thread nD τ).loc main_v15_1) = res8 m c
      ∧ r.2.mem ((c : Thread nD τ).loc main_v15_2) = res9 m c
      ∧ r.2.mem ((c : Thread nD τ).loc main_v15_3) = res10 m c
      ∧ r.2.mem ((c : Thread nD τ).loc main_v15_4) = res11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
      ⟨(h c).1.trans ((dats m 0 c).arrAt_eq_of_cover 7 (res7 m c) (fun t _ => flushed7 m c t) cover7),
       (h c).2.1.trans ((dats m 0 c).arrAt_eq_of_cover 8 (res8 m c) (fun t _ => flushed8 m c t) cover8),
       (h c).2.2.1.trans ((dats m 0 c).arrAt_eq_of_cover 9 (res9 m c) (fun t _ => flushed9 m c t) cover9),
       (h c).2.2.2.1.trans ((dats m 0 c).arrAt_eq_of_cover 10 (res10 m c) (fun t _ => flushed10 m c t) cover10),
       (h c).2.2.2.2.1.trans ((dats m 0 c).arrAt_eq_of_cover 11 (res11 m c) (fun t _ => flushed11 m c t) cover11),
       (h c).2.2.2.2.2⟩)
    (Value.run_blocks m ρ)

end Arrays

end Cert.KernelIdeal.OutBwd

end
-- ==== Proof.OutBwdRef.lean ====
/-
  The merge gradient as the reference defines it, met with the kernel's: the arrays the kernel's host code prepares, read
  at an index, and the reference's five composed terms, read at an index, are the same expressions of the arguments.
-/
module

public import proofs.«01_k».proof.Defs
public import proofs.«01_k».proof.Proof.OutBwdValue
public import proofs.«01_k».proof.Proof.Gen.ReferenceIdeal.Run
public import Idealize.ShloMosaic.Lib.Quiescent

@[expose] public section

set_option maxRecDepth 16384

noncomputable section

namespace Cert.KernelIdeal.OutBwd

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments: the output gradient, the output weight, the gate logits, the two branches' inputs and the two
    branches' weights. -/
abbrev a0 : FVec Ideal S4096x1024 .f32 := m ((c : Thread nD τ).loc main_arg0)
abbrev a1 : FVec Ideal S1024x1024 .f32 := m ((c : Thread nD τ).loc main_arg1)
abbrev a2 : FVec Ideal S4096x2048 .f32 := m ((c : Thread nD τ).loc main_arg2)
abbrev a3 : FVec Ideal S4096x512 .f32 := m ((c : Thread nD τ).loc main_arg3)
abbrev a4 : FVec Ideal S4096x512 .f32 := m ((c : Thread nD τ).loc main_arg4)
abbrev a5 : FVec Ideal S512x1024 .f32 := m ((c : Thread nD τ).loc main_arg5)
abbrev a6 : FVec Ideal S512x1024 .f32 := m ((c : Thread nD τ).loc main_arg6)

/-- The logistic function as the host computes it. -/
def sig1 (x : EReal) : EReal := Ideal.div 1 (1 + Ideal.exp (-x))

theorem aD_eq : aD m c = at2 (a0 m c) := by
  funext r k
  have h : (V m c main_v11 : FVec Ideal S4096x1024 .bf16) = truncf .bf16 (a0 m c) bitsLt_bf16_f32 := by
    show StableHlo.after hostOps0 (fun b => m (c, b)) _ = _
    unfold hostOps0
    after_results_simp <;> rfl
  show (V m c main_v11 : FVec Ideal S4096x1024 .bf16) (ix2 r k) = _
  rw [h]
  pointwise [sig1]

theorem aW_eq : aW m c = at2 (a1 m c) := by
  funext r k
  have h : (V m c main_v12 : FVec Ideal S1024x1024 .bf16) = truncf .bf16 (a1 m c) bitsLt_bf16_f32 := by
    show StableHlo.after hostOps0 (fun b => m (c, b)) _ = _
    unfold hostOps0
    after_results_simp <;> rfl
  show (V m c main_v12 : FVec Ideal S1024x1024 .bf16) (ix2 r k) = _
  rw [h]
  pointwise [sig1]

theorem aU_eq : aU m c = at2 (a5 m c) := by
  funext r k
  have h : (V m c main_v13 : FVec Ideal S512x1024 .bf16) = truncf .bf16 (a5 m c) bitsLt_bf16_f32 := by
    show StableHlo.after hostOps0 (fun b => m (c, b)) _ = _
    unfold hostOps0
    after_results_simp <;> rfl
  show (V m c main_v13 : FVec Ideal S512x1024 .bf16) (ix2 r k) = _
  rw [h]
  pointwise [sig1]

theorem aX_eq : aX m c = at2 (a6 m c) := by
  funext r k
  have h : (V m c main_v14 : FVec Ideal S512x1024 .bf16) = truncf .bf16 (a6 m c) bitsLt_bf16_f32 := by
    show StableHlo.after hostOps0 (fun b => m (c, b)) _ = _
    unfold hostOps0
    after_results_simp <;> rfl
  show (V m c main_v14 : FVec Ideal S512x1024 .bf16) (ix2 r k) = _
  rw [h]
  pointwise [sig1]

theorem aY_eq : aY m c = fun r k => ∑ j, at2 (a3 m c) r j * at2 (a5 m c) j k := by
  funext r k
  have h : (V m c main_v8 : FVec Ideal S4096x1024 .bf16) = truncf .bf16 (Host.dotGeneral dot_S4096x512_S512x1024_S4096x1024_1_0_0_1_n_n none (a3 m c) (a5 m c)) bitsLt_bf16_f32 := by
    show StableHlo.after hostOps0 (fun b => m (c, b)) _ = _
    unfold hostOps0
    after_results_simp <;> rfl
  show (V m c main_v8 : FVec Ideal S4096x1024 .bf16) (ix2 r k) = _
  rw [h]
  pointwise [sig1]

theorem aZ_eq : aZ m c = fun r k => ∑ j, at2 (a4 m c) r j * at2 (a6 m c) j k := by
  funext r k
  have h : (V m c main_v10 : FVec Ideal S4096x1024 .bf16) = truncf .bf16 (Host.dotGeneral dot_S4096x512_S512x1024_S4096x1024_1_0_0_1_n_n none (a4 m c) (a6 m c)) bitsLt_bf16_f32 := by
    show StableHlo.after hostOps0 (fun b => m (c, b)) _ = _
    unfold hostOps0
    after_results_simp <;> rfl
  show (V m c main_v10 : FVec Ideal S4096x1024 .bf16) (ix2 r k) = _
  rw [h]
  pointwise [sig1]

theorem aG_eq : aG m c = fun r k => sig1 (at2 (a2 m c) r k) := by
  funext r k
  have h : (V m c main_v6 : FVec Ideal S4096x2048 .bf16) = truncf .bf16 (Host.divf (broadcastInDim S4096x2048 ![] bcast_S_S4096x2048 (constant S_ .f32 0x3F800000#32)) (addf (broadcastInDim S4096x2048 ![] bcast_S_S4096x2048 (constant S_ .f32 0x3F800000#32)) (Host.exp (Host.negf (a2 m c))))) bitsLt_bf16_f32 := by
    show StableHlo.after hostOps0 (fun b => m (c, b)) _ = _
    unfold hostOps0
    after_results_simp <;> rfl
  show (V m c main_v6 : FVec Ideal S4096x2048 .bf16) (ix2 r k) = _
  rw [h]
  pointwise [sig1]

end Cert.KernelIdeal.OutBwd

namespace Cert.ReferenceIdeal.OutBwd

open Cert.ReferenceIdeal Cert.ReferenceIdeal.Gen Idealize.ShloMosaic Idealize.ShloMosaic.TcCoe Idealize.SL.Sem
open Cert.KernelIdeal.OutBwd (at2 sig1 dm dfst dsnd din dgl dgr dgate left right)

variable (x0 : FVec Ideal S4096x1024 .f32) (x1 : FVec Ideal S1024x1024 .f32) (x2 : FVec Ideal S4096x2048 .f32)
variable (x3 x4 : FVec Ideal S4096x512 .f32) (x5 x6 : FVec Ideal S512x1024 .f32)

/-! ## The reference's terms -/

/-- The gates. -/
def gateT : FVec Ideal S4096x2048 .f32 :=
  Host.divf (broadcastInDim S4096x2048 ![] bcast_S_S4096x2048 (constant S_ .f32 0x3F800000#32)) (addf (broadcastInDim S4096x2048 ![] bcast_S_S4096x2048 (constant S_ .f32 0x3F800000#32)) (Host.exp (Host.negf x2)))
/-- The gradient of the merged branches. -/
def dmT : FVec Ideal S4096x1024 .f32 := Host.dotGeneral dot_S4096x1024_S1024x1024_S4096x1024_1_1_0_0_n_n none x0 x1
/-- A branch's value. -/
def branchT (o : FVec Ideal S4096x512 .f32) (u : FVec Ideal S512x1024 .f32) : FVec Ideal S4096x1024 .f32 :=
  Host.dotGeneral dot_S4096x512_S512x1024_S4096x1024_1_0_0_1_n_n none o u
/-- The first branch's gradient. -/
def fstT : FVec Ideal S4096x1024 .f32 :=
  mulf (shapeCast _ (extractStridedSlice S4096x1x1024 ![0, 0, 0] (shapeCast _ (gateT x2) shapeCasts_S4096x2048_S4096x2x1024) slices_S4096x2x1024_S4096x1x1024_0_0_0) shapeCasts_S4096x1x1024_S4096x1024) (dmT x0 x1)
/-- The second branch's gradient. -/
def sndT : FVec Ideal S4096x1024 .f32 :=
  mulf (shapeCast _ (extractStridedSlice S4096x1x1024 ![0, 1, 0] (shapeCast _ (gateT x2) shapeCasts_S4096x2048_S4096x2x1024) slices_S4096x2x1024_S4096x1x1024_0_1_0) shapeCasts_S4096x1x1024_S4096x1024) (dmT x0 x1)
/-- The gradient of a branch's input. -/
def inT (b : FVec Ideal S4096x1024 .f32) (u : FVec Ideal S512x1024 .f32) : FVec Ideal S4096x512 .f32 :=
  Host.dotGeneral dot_S4096x1024_S512x1024_S4096x512_1_1_0_0_n_n none b u
/-- The gate logits' gradient. -/
def logitT : FVec Ideal S4096x2048 .f32 :=
  mulf (shapeCast _ (addf (pad S4096x2x1024 ![0, 1, 0] ![0, 0, 0] ![0, 0, 0] (broadcastInDim S4096x1x1024 ![0, 2] bcast_S4096x1024_S4096x1x1024_0_2 (mulf (dmT x0 x1) (branchT x4 x6))) (constant S_ .f32 0x00000000#32) pads_S4096x1x1024_S4096x2x1024_000_100_000 h_S_) (pad S4096x2x1024 ![0, 0, 0] ![0, 1, 0] ![0, 0, 0] (broadcastInDim S4096x1x1024 ![0, 2] bcast_S4096x1024_S4096x1x1024_0_2 (mulf (dmT x0 x1) (branchT x3 x5))) (constant S_ .f32 0x00000000#32) pads_S4096x1x1024_S4096x2x1024_000_010_000 h_S_)) shapeCasts_S4096x2x1024_S4096x2048) (mulf (gateT x2) (subf (broadcastInDim S4096x2048 ![] bcast_S_S4096x2048 (constant S_ .f32 0x3F800000#32)) (gateT x2)))

/-! ## The terms at an index -/

theorem gateT_apply (r : Fin 4096) (k : Fin 2048) : gateT x2 (ix2 r k) = sig1 (at2 x2 r k) := by
  pointwise [gateT, sig1]

theorem dmT_apply (r : Fin 4096) (k : Fin 1024) : dmT x0 x1 (ix2 r k) = dm (at2 x0) (at2 x1) r k := by
  pointwise [dmT, dm]

theorem branchT_apply (r : Fin 4096) (k : Fin 1024) : branchT x3 x5 (ix2 r k) = ∑ j, at2 x3 r j * at2 x5 j k := by
  pointwise [branchT]

theorem fstT_apply (r : Fin 4096) (k : Fin 1024) :
    fstT x0 x1 x2 (ix2 r k) = dfst (at2 x0) (at2 x1) (fun r k => sig1 (at2 x2 r k)) r k := by
  have h : fstT x0 x1 x2 (ix2 r k) = gateT x2 (ix2 r (left k)) * dmT x0 x1 (ix2 r k) := by
    pointwise [fstT]
  rw [h, gateT_apply, dmT_apply, mul_comm]
  rfl

theorem sndT_apply (r : Fin 4096) (k : Fin 1024) :
    sndT x0 x1 x2 (ix2 r k) = dsnd (at2 x0) (at2 x1) (fun r k => sig1 (at2 x2 r k)) r k := by
  have h : sndT x0 x1 x2 (ix2 r k) = gateT x2 (ix2 r (right k)) * dmT x0 x1 (ix2 r k) := by
    pointwise [sndT]
  rw [h, gateT_apply, dmT_apply, mul_comm]
  rfl

theorem inT_apply (b : FVec Ideal S4096x1024 .f32) (u : FVec Ideal S512x1024 .f32) (r : Fin 4096) (k : Fin 512) :
    inT b u (ix2 r k) = din (at2 u) (at2 b) r k := by
  pointwise [inT, din]

theorem logitT_apply (r : Fin 4096) (k : Fin 2048) :
    logitT x0 x1 x2 x3 x4 x5 x6 (ix2 r k) = dgate (at2 x0) (at2 x1) (fun r k => sig1 (at2 x2 r k))
      (fun r k => ∑ j, at2 x3 r j * at2 x5 j k) (fun r k => ∑ j, at2 x4 r j * at2 x6 j k) r k := by
  have hd : ∀ h, k.val = 1024 * h + k.val % 1024 → k.val % 1024 < 1024 ∧ k.val / 1024 = h := by
    intro h e; omega
  have h : logitT x0 x1 x2 x3 x4 x5 x6 (ix2 r k)
      = ((if (1 ≤ k.val / 1024 ∧ k.val / 1024 - 1 < 1) ∧ k.val % 1024 < 1024 then
            dmT x0 x1 (ix2 r ⟨k.val % 1024, by omega⟩) * branchT x4 x6 (ix2 r ⟨k.val % 1024, by omega⟩) else 0)
          + (if k.val / 1024 < 1 ∧ k.val % 1024 < 1024 then
            dmT x0 x1 (ix2 r ⟨k.val % 1024, by omega⟩) * branchT x3 x5 (ix2 r ⟨k.val % 1024, by omega⟩) else 0))
        * (gateT x2 (ix2 r k) * (1 - gateT x2 (ix2 r k))) := by
    pointwise [logitT]
    rfl
  rw [h, gateT_apply]
  have hk := k.isLt
  by_cases hc : k.val < 1024
  · obtain ⟨k', rfl⟩ : ∃ k', k = left k' := ⟨⟨k.val, hc⟩, rfl⟩
    rw [Cert.KernelIdeal.OutBwd.dgate_left, if_neg (by omega), if_pos (by omega), zero_add, dmT_apply, branchT_apply]
    have e : (⟨(left k').val % 1024, by omega⟩ : Fin 1024) = k' := Fin.ext (Nat.mod_eq_of_lt hc)
    rw [e]
    rfl
  · obtain ⟨k', rfl⟩ : ∃ k', k = right k' := ⟨⟨k.val - 1024, by omega⟩, Fin.ext (show k.val = 1024 + (k.val - 1024) by omega)⟩
    have hk' := k'.isLt
    rw [Cert.KernelIdeal.OutBwd.dgate_right, if_pos (by omega), if_neg (by omega), add_zero, dmT_apply, branchT_apply]
    have e : (⟨(right k').val % 1024, by omega⟩ : Fin 1024) = k' := Fin.ext (show (1024 + k'.val) % 1024 = k'.val by omega)
    rw [e]
    rfl

/-! ## The two runs meet -/

section Meet

variable (m : (ℓ : Loc Cert.KernelIdeal.nD Cert.KernelIdeal.τ Cert.KernelIdeal.sig) → Buf (Elt Ideal) ℓ) (c : Dev Cert.KernelIdeal.nD)

open Cert.KernelIdeal.OutBwd

theorem meet7 : truncf .bf16 (fstT (a0 m c) (a1 m c) (a2 m c)) bitsLt_bf16_f32 = res7 m c := by
  funext (i : S4096x1024.Idx)
  obtain ⟨r, k, rfl⟩ : ∃ (r : Fin 4096) (k : Fin 1024), i = ix2 r k := ⟨i 0, i 1, eq_ix2 i⟩
  refine (fstT_apply _ _ _ r k).trans ?_
  show _ = dfst (aD m c) (aW m c) (aG m c) r k
  rw [aD_eq, aW_eq, aG_eq]

theorem meet8 : truncf .bf16 (sndT (a0 m c) (a1 m c) (a2 m c)) bitsLt_bf16_f32 = res8 m c := by
  funext (i : S4096x1024.Idx)
  obtain ⟨r, k, rfl⟩ : ∃ (r : Fin 4096) (k : Fin 1024), i = ix2 r k := ⟨i 0, i 1, eq_ix2 i⟩
  refine (sndT_apply _ _ _ r k).trans ?_
  show _ = dsnd (aD m c) (aW m c) (aG m c) r k
  rw [aD_eq, aW_eq, aG_eq]

theorem meet9 : truncf .bf16 (inT (fstT (a0 m c) (a1 m c) (a2 m c)) (a5 m c)) bitsLt_bf16_f32 = res9 m c := by
  funext (i : S4096x512.Idx)
  obtain ⟨r, k, rfl⟩ : ∃ (r : Fin 4096) (k : Fin 512), i = ix2 r k := ⟨i 0, i 1, eq_ix2 i⟩
  refine (inT_apply _ _ r k).trans ?_
  show _ = din (aU m c) (dfst (aD m c) (aW m c) (aG m c)) r k
  rw [aD_eq, aW_eq, aG_eq, aU_eq]
  exact congrFun (congrFun (congrArg (din _) (funext fun r => funext fun k => fstT_apply _ _ _ r k)) r) k

theorem meet10 : truncf .bf16 (inT (sndT (a0 m c) (a1 m c) (a2 m c)) (a6 m c)) bitsLt_bf16_f32 = res10 m c := by
  funext (i : S4096x512.Idx)
  obtain ⟨r, k, rfl⟩ : ∃ (r : Fin 4096) (k : Fin 512), i = ix2 r k := ⟨i 0, i 1, eq_ix2 i⟩
  refine (inT_apply _ _ r k).trans ?_
  show _ = din (aX m c) (dsnd (aD m c) (aW m c) (aG m c)) r k
  rw [aD_eq, aW_eq, aG_eq, aX_eq]
  exact congrFun (congrFun (congrArg (din _) (funext fun r => funext fun k => sndT_apply _ _ _ r k)) r) k

theorem meet11 : truncf .bf16 (logitT (a0 m c) (a1 m c) (a2 m c) (a3 m c) (a4 m c) (a5 m c) (a6 m c)) bitsLt_bf16_f32
    = res11 m c := by
  funext (i : S4096x2048.Idx)
  obtain ⟨r, k, rfl⟩ : ∃ (r : Fin 4096) (k : Fin 2048), i = ix2 r k := ⟨i 0, i 1, eq_ix2 i⟩
  refine (logitT_apply _ _ _ _ _ _ _ r k).trans ?_
  show _ = dgate (aD m c) (aW m c) (aG m c) (aY m c) (aZ m c) r k
  rw [aD_eq, aW_eq, aG_eq, aY_eq, aZ_eq]

end Meet

end Cert.ReferenceIdeal.OutBwd

namespace Cert.Proof.OutBwdClaims

open Idealize.ShloMosaic Idealize.ShloMosaic.TcCoe Idealize.SL.Sem
open Cert.KernelIdeal.OutBwd Cert.ReferenceIdeal.OutBwd

/-- The kernel's five arrays are the reference's, at the ideal values, for every argument. -/
theorem algebraic : Cert.algebraic_KernelIdeal_ReferenceIdeal := by
  intro m ρ m' ρ' _ hag
  refine ⟨fun c => res7 m c, fun c => res8 m c, fun c => res9 m c, fun c => res10 m c, fun c => res11 m c, run m ρ, ?_⟩
  refine (θ_run Cert.ReferenceIdeal.defs _ _).mono (fun r h c => ?_) (Cert.ReferenceIdeal.Value.run (F := Ideal) m' ρ')
  obtain ⟨e0, e1, e2, e3, e4, e5, e6⟩ := hag c
  obtain ⟨h7, h8, h9, h10, h11, hk⟩ := h c
  refine ⟨h7.trans ?_, h8.trans ?_, h9.trans ?_, h10.trans ?_, h11.trans ?_, hk⟩
  · rw [e0, e1, e2]; exact meet7 m c
  · rw [e0, e1, e2]; exact meet8 m c
  · rw [e0, e1, e2, e5]; exact meet9 m c
  · rw [e0, e1, e2, e6]; exact meet10 m c
  · rw [e0, e1, e2, e3, e4, e5, e6]; exact meet11 m c

/-- The reference's run leaves its arguments as launched; it declares no semaphore. -/
theorem frame_reference : Cert.quiescent_ReferenceIdeal := fun m ρ _ =>
  (θ_run Cert.ReferenceIdeal.defs _ _).mono (fun r h => ⟨fun c => (h c).2.2.2.2.2,
      sem_eq_zero_of_no_sems (by decide) r.2⟩)
    (Cert.ReferenceIdeal.Value.run (F := Ideal) m ρ)

end Cert.Proof.OutBwdClaims

end
-- ==== Proof.Coords.lean ====
/-
  Shared names: a two-axis array as a function of its coordinates, the logistic function, and the mathematics of the
  step's parts over any number of rows.
-/
module

public import Idealize.ShloMosaic.Lib.Pointwise

@[expose] public section

noncomputable section

namespace Cert.Coords

open Idealize.ShloMosaic

/-- A two-axis array as a function of its coordinates. -/
abbrev at2 {a b : Nat} (x : (⟨2, ![a, b]⟩ : Shape).Idx → EReal) (r : Fin a) (k : Fin b) : EReal := x (ix2 r k)

/-- The logistic function as the host computes it. -/
def sig1 (x : EReal) : EReal := Ideal.div 1 (1 + Ideal.exp (-x))

/-- A product `X Y`, by coordinates. -/
def mm {a b d : Nat} (X : Fin a → Fin d → EReal) (Y : Fin d → Fin b → EReal) (r : Fin a) (k : Fin b) : EReal :=
  ∑ j, X r j * Y j k

/-- A product `X Yᵀ`, by coordinates. -/
def mmt {a b d : Nat} (X : Fin a → Fin d → EReal) (Y : Fin b → Fin d → EReal) (r : Fin a) (k : Fin b) : EReal :=
  ∑ j, X r j * Y k j

/-- A product `Xᵀ Y`, by coordinates. -/
def tmm {a b d : Nat} (X : Fin d → Fin a → EReal) (Y : Fin d → Fin b → EReal) (r : Fin a) (k : Fin b) : EReal :=
  ∑ j, X j r * Y j k

/-- The constant two, as its bits. -/
abbrev two : EReal := Ideal.ofBits .f32 0x40000000#32

/-- The squared rectifier. -/
def relu2 (x : EReal) : EReal := max x 0 * max x 0

/-- The reciprocal root of a row's mean square, a small constant added. -/
def rms {n d : Nat} (X : Fin n → Fin d → EReal) (r : Fin n) : EReal :=
  Ideal.rsqrt (Ideal.div (∑ j, X r j * X r j) (Ideal.ofBits .f32 0x44800000#32) + Ideal.ofBits .f32 0x358637BD#32)

/-- A normalised row times the gain. -/
def nrm {n d : Nat} (X : Fin n → Fin d → EReal) (G : Fin d → EReal) (r : Fin n) (k : Fin d) : EReal :=
  X r k * rms X r * G k

end Cert.Coords

end
-- ==== Proof.Chunks.lean ====
/-
  A sum over 4096 rows, taken in equal chunks: the first `q` chunks' sum, one chunk more, and all of them.
-/
module

public import proofs.«01_k».proof.Proof.Coords

@[expose] public section

noncomputable section

namespace Cert.Chunks

/-- The value at a row number, zero beyond the last row. -/
def ext (f : Fin 4096 → EReal) (j : Nat) : EReal := if h : j < 4096 then f ⟨j, h⟩ else 0

theorem ext_val (f : Fin 4096 → EReal) (j : Fin 4096) : ext f j.val = f j := dif_pos j.isLt

/-- The sum of the first `q` chunks of `b` rows. -/
def upTo (f : Fin 4096 → EReal) (b q : Nat) : EReal :=
  ∑ s ∈ Finset.range q, ∑ j : Fin b, ext f (b * s + j.val)

theorem upTo_zero (f : Fin 4096 → EReal) (b : Nat) : upTo f b 0 = 0 := by simp [upTo]

theorem upTo_succ (f : Fin 4096 → EReal) (b q : Nat) :
    upTo f b (q + 1) = upTo f b q + ∑ j : Fin b, ext f (b * q + j.val) := Finset.sum_range_succ _ _

theorem upTo_range (f : Fin 4096 → EReal) (b q : Nat) : upTo f b q = ∑ j ∈ Finset.range (b * q), ext f j := by
  induction q with
  | zero => simp [upTo]
  | succ q ih =>
    rw [upTo_succ, ih, Nat.mul_succ, Finset.sum_range_add, Finset.sum_range (fun x => ext f (b * q + x))]

/-- All the chunks: the whole sum. -/
theorem upTo_full (f : Fin 4096 → EReal) (b q : Nat) (h : b * q = 4096) : upTo f b q = ∑ j, f j := by
  rw [upTo_range, h, Finset.sum_range]
  exact Finset.sum_congr rfl fun j _ => ext_val f j

end Cert.Chunks

end
-- ==== Proof.DwDownBlocks.lean ====
/-
  The down weight's gradient, read by blocks and accumulated. The grid has sixteen points, two for each slab of 512 of
  the result's rows; point t takes the rows 2048 (t mod 2) on of both arrays, adds the product of the left block, its
  squared rectifier taken and transposed, with the right one to the accumulator, and the second point of a run writes
  the accumulator out.
-/
module

public import proofs.«01_k».proof.Proof.Gen.Kernel2Ideal.Value
public import proofs.«01_k».proof.Proof.Chunks
public import Idealize.ShloMosaic.Lib.Tactic

@[expose] public section

set_option maxRecDepth 16384

noncomputable section

namespace Cert.Kernel2Ideal.DwDown

open Cert.Kernel2Ideal Cert.Kernel2Ideal.Gen Cert.Coords Cert.Chunks
open Idealize.ShloMosaic Idealize.ShloMosaic.TcCoe Idealize.SL.Sem
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-! ## What one point leaves, over what it finds -/

/-- A chunk's product added to what the accumulator holds. -/
theorem pay2_apply (x0 : Vec Ideal S2048x512 .bf16) (xs : Vec Ideal S512x1024 .f32) (x1 : Vec Ideal S2048x1024 .bf16)
    (a : Fin 512) (b : Fin 1024) : k0_pay2 x0 xs x1 (ix2 a b) = xs (ix2 a b) + tmm (fun j r => relu2 (at2 x0 j r)) (at2 x1) a b := by
  pointwise [k0_pay2, tmm, relu2]

/-- The accumulator starts from zero. -/
theorem pay1_apply (a : Fin 512) (b : Fin 1024) : k0_pay1 (F := Ideal) (ix2 a b) = 0 := by
  pointwise [k0_pay1]

section Cases

variable (c : Dev nD) (i : grid0.Coords) (a2 : Memref sig .tc .vmem S2048x512 .bf16) (h2 : a2.IsWhole)
  (a3 : Memref sig .tc .vmem S2048x1024 .bf16) (h3 : a3.IsWhole) (a4 : Memref sig .tc .vmem S1x512x1024 .bf16) (h4 : a4.IsWhole)
  (a5 : Memref sig .tc .vmem S512x1024 .f32) (h5 : a5.IsWhole)
  (x0 : Vec Ideal S2048x512 .bf16) (x1 : Vec Ideal S2048x1024 .bf16) (xs : Vec Ideal S512x1024 .f32)

/-- The first point of a run leaves its chunk's product over zero. -/
theorem scr_A (hc0 : cond0_0 i) (hc1 : ¬cond0_1 i) :
    sout0_A_0 c i a2 h2 a3 h3 a4 h4 a5 h5 hc0 hc1 x0 x1 = k0_pay2 x0 (k0_pay1 (F := Ideal)) x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x1024) hz, View.readCov_unit_zero (S := S512x1024) _ hz]
  simp only [View.readAt_eq_ld, h2.read_unread, h3.read_unread, View.ld_unit_zero (S := S2048x512) hz, View.ld_unit_zero (S := S2048x1024) hz]

/-- The last point writes out what it finds with its chunk's product added. -/
theorem out_last (hc0 : ¬cond0_0 i) (hc1 : cond0_1 i) (u : Fin 1) (a : Fin 512) (b : Fin 1024) :
    out0_B_2 c i a2 h2 a3 h3 a4 h4 a5 h5 hc0 hc1 x0 x1 xs (ix3 u a b) = k0_pay2 x0 xs x1 (ix2 a b) := by
  unfold out0_B_2
  rw [View.read_writes_eq_canon _ _ _ (cover0_B_2 c i a2 h2 a3 h3 a4 h4 a5 h5 hc0 hc1 x0 x1 xs)]
  unfold kernelRun0_B
  dsimp only
  sl_unfold_words
  rw [View.canon_unit_zero (S := S1x512x1024) hz3]
  simp only [View.readCov_unit_zero (S := S512x1024) _ hz, View.readAt_eq_ld, h2.read_unread, h3.read_unread, h5.read_unread, View.ld_unit_zero (S := S2048x512) hz, View.ld_unit_zero (S := S2048x1024) hz, View.ld_unit_zero (S := S512x1024) hz]
  pointwise [k0_pay3]

end Cases

/-! ## The blocks -/

variable (m : (ℓ : Loc nD τ sig) → Buf (Elt Ideal) ℓ)

/-- Row `j` of point `t`'s chunk as a row of the whole array. -/
abbrev row (t : Fin cfg0.N) (j : Fin 2048) : Fin 4096 :=
  ⟨2048 * (t.val % 2) + j.val, by have ht : t.val < 16 := lt_of_lt_of_eq t.isLt N_0; have hj := j.isLt; omega⟩

/-- Column `k` of point `t`'s block of the left array as a column of the whole. -/
abbrev col (t : Fin cfg0.N) (k : Fin 512) : Fin 4096 := (⟨512 * (t.val / 2) + k.val, by have ht : t.val < 16 := lt_of_lt_of_eq t.isLt N_0; have hk := k.isLt; omega⟩ : Fin 4096)

/-- Where each block starts. -/
theorem start : ∀ t : Fin cfg0.N,
    (win0_0.index t 0 = t.val % 2 ∧ win0_0.index t 1 = t.val / 2)
    ∧ (win0_1.index t 0 = t.val % 2 ∧ win0_1.index t 1 = 0)
    ∧ (win0_2.index t 0 = t.val / 2 ∧ win0_2.index t 1 = 0 ∧ win0_2.index t 2 = 0) := by
  decide +kernel

theorem blk0 (c : Dev nD) (t : Fin cfg0.N) (j : Fin 2048) (k : Fin 512) :
    iblk m c 0 t (ix2 j k) = V m c main_v0 (ix2 (row t j) (col t k)) := by
  show V m c main_v0 ((win0_0.blk t).view.emb (ix2 j k)) = _
  refine congrArg (V m c main_v0) (funext fun a => Fin.ext ?_)
  match a with
  | ⟨0, _⟩ =>
    show win0_0.index t 0 * 2048 + 1 * j.val = 2048 * (t.val % 2) + j.val
    rw [(start t).1.1]; omega
  | ⟨1, _⟩ =>
    show win0_0.index t 1 * 512 + 1 * k.val = 512 * (t.val / 2) + k.val
    rw [(start t).1.2]; omega

theorem blk1 (c : Dev nD) (t : Fin cfg0.N) (j : Fin 2048) (k : Fin 1024) :
    iblk m c 1 t (ix2 j k) = V m c main_v1 (ix2 (row t j) k) := by
  show V m c main_v1 ((win0_1.blk t).view.emb (ix2 j k)) = _
  refine congrArg (V m c main_v1) (funext fun a => Fin.ext ?_)
  match a with
  | ⟨0, _⟩ =>
    show win0_1.index t 0 * 2048 + 1 * j.val = 2048 * (t.val % 2) + j.val
    rw [(start t).2.1.1]; omega
  | ⟨1, _⟩ =>
    show win0_1.index t 1 * 1024 + 1 * k.val = k.val
    rw [(start t).2.1.2]; omega

/-- An array read through the result's block at point `t`. -/
theorem read2 (A : Vec Ideal S8x512x1024 .bf16) (t : Fin cfg0.N) (u : Fin 1) (a : Fin 512) (b : Fin 1024) :
    ((win0_2.blk t).view.read (Elt Ideal) A : Vec Ideal S1x512x1024 .bf16) (ix3 u a b) = A (ix3 (⟨t.val / 2 + u.val, by have ht : t.val < 16 := lt_of_lt_of_eq t.isLt N_0; have hu := u.isLt; omega⟩ : Fin 8) a b) := by
  show A ((win0_2.blk t).view.emb (ix3 u a b)) = _
  refine congrArg A (funext fun d => Fin.ext ?_)
  match d with
  | ⟨0, _⟩ =>
    show win0_2.index t 0 * 1 + 1 * u.val = t.val / 2 + u.val
    rw [(start t).2.2.1]; omega
  | ⟨1, _⟩ =>
    show win0_2.index t 1 * 512 + 1 * a.val = a.val
    rw [(start t).2.2.2.1]; omega
  | ⟨2, _⟩ =>
    show win0_2.index t 2 * 1024 + 1 * b.val = b.val
    rw [(start t).2.2.2.2]; omega

/-! ## The accumulator over a run -/

variable (c : Dev nD)

/-- The left array, as the pipeline reads it. -/
abbrev w0 : Fin 4096 → Fin 4096 → EReal := at2 (V m c main_v0)
/-- The right array, as the pipeline reads it. -/
abbrev w1 : Fin 4096 → Fin 1024 → EReal := at2 (V m c main_v1)

/-- The row's term of the product's sum at a place of point `t`'s block. -/
abbrev term (t : Fin cfg0.N) (a : Fin 512) (b : Fin 1024) (j : Fin 4096) : EReal := relu2 (w0 m c j (col t a)) * w1 m c j b

/-- A chunk's product, as the chunk's part of the sum. -/
theorem chunk (t : Fin cfg0.N) (a : Fin 512) (b : Fin 1024) :
    tmm (fun j r => relu2 (at2 (iblk m c 0 t) j r)) (at2 (iblk m c 1 t)) a b = ∑ j : Fin 2048, ext (term m c t a b) (2048 * (t.val % 2) + j.val) := by
  refine Finset.sum_congr rfl fun j _ => ?_
  have e0 : at2 (iblk m c 0 t) j a = w0 m c (row t j) (col t a) := blk0 m c t j a
  have e1 : at2 (iblk m c 1 t) j b = w1 m c (row t j) b := blk1 m c t j b
  show relu2 (at2 (iblk m c 0 t) j a) * at2 (iblk m c 1 t) j b = _
  rw [e0, e1]
  exact (ext_val (term m c t a b) (row t j)).symm

theorem term_prev (t s : Fin cfg0.N) (h : s.val / 2 = t.val / 2) (a : Fin 512) (b : Fin 1024) : term m c s a b = term m c t a b := by
  have e : col s a = col t a := Fin.ext (by show 512 * (s.val / 2) + a.val = 512 * (t.val / 2) + a.val; rw [h])
  funext j
  show relu2 (w0 m c j (col s a)) * _ = _
  rw [e]

/-- After a run's first point the accumulator holds the first chunk's sum. -/
theorem scratch (t : Fin cfg0.N) (h : t.val % 2 = 0) (a : Fin 512) (b : Fin 1024) :
    (outsAt0 m c t.val t.isLt).2 (ix2 a b) = upTo (term m c t a b) 2048 (t.val % 2 + 1) := by
  rw [outsAt0_A m c t h (by omega)]
  dsimp only
  rw [scr_A]
  refine (pay2_apply _ _ _ a b).trans ?_
  rw [pay1_apply, chunk, h, upTo_succ, upTo_zero]

/-- The result: the product over all rows, in slabs of rows. -/
def res2 : Vec Ideal S8x512x1024 .bf16 := fun i =>
  tmm (fun j r => relu2 (w0 m c j r)) (w1 m c) ⟨512 * (i 0).val + (i 1).val, by have h0 : (i 0).val < 8 := (i 0).isLt; have h1 : (i 1).val < 512 := (i 1).isLt; omega⟩ (i 2)

/-- A run's last point writes out its block of the result. -/
theorem flushed2 (t : Fin cfg0.N) (hf : (cfg0.win 2).flush t = true) :
    (dats m 0 c).flushed 2 t = (win0_2.blk t).view.read (Elt Ideal) (res2 m c) := by
  have h : t.val % 2 = 1 := (flush0_2 t).mp hf
  rw [Value.flushed2_B m c t (by omega) h]
  funext (x : S1x512x1024.Idx)
  obtain ⟨u, a, b, rfl⟩ : ∃ (u : Fin 1) (a : Fin 512) (b : Fin 1024), x = ix3 u a b := ⟨x 0, x 1, x 2, eq_ix3 x⟩
  refine Eq.trans ?_ (read2 _ t u a b).symm
  have hs : t.val - 1 < cfg0.N := Nat.lt_of_le_of_lt (Nat.sub_le _ _) t.isLt
  have e := scratch m c ⟨t.val - 1, hs⟩ (by show (t.val - 1) % 2 = 0; omega) a b
  dsimp only at e
  show out0_B_2 c (grid0.coords t) _ _ _ _ _ _ _ _ _ _ (iblk m c 0 t) (iblk m c 1 t) (outsAt0 m c (t.val - 1) _).2 (ix3 u a b) = _
  rw [out_last]
  refine (pay2_apply _ _ _ a b).trans ?_
  rw [e, chunk, term_prev m c t ⟨t.val - 1, hs⟩ (by show (t.val - 1) / 2 = t.val / 2; omega), h, show (t.val - 1) % 2 + 1 = 1 from by omega, ← upTo_succ, upTo_full _ _ _ (by norm_num)]
  have eu : u.val = 0 := by have := u.isLt; omega
  show tmm (fun j r => relu2 (w0 m c j r)) (w1 m c) (col t a) b = tmm _ (w1 m c) ⟨512 * (t.val / 2 + u.val) + a.val, _⟩ b
  exact congrArg (fun r => tmm (fun j r => relu2 (w0 m c j r)) (w1 m c) r b) (Fin.ext (by show 512 * (t.val / 2) + a.val = 512 * (t.val / 2 + u.val) + a.val; rw [eu, Nat.add_zero]))

/-- The whole run: the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks m ρ)
  obtain ⟨h2, hk⟩ := h c
  refine ⟨h2.trans ?_, hk⟩
  exact (dats m 0 c).arrAt_eq_of_cover 2 (res2 m c) (flushed2 m c) fun i => (Value.covered_iff2 i).2 (by
    have h0 : (i 0).val < 8 := (i 0).isLt
    have h1 : (i 1).val < 512 := (i 1).isLt
    have h2 : (i 2).val < 1024 := (i 2).isLt
    omega)

end Cert.Kernel2Ideal.DwDown

end
-- ==== Proof.DwDown.lean ====
/-
  The down weight's gradient after the run, met with the reference's term: the hidden layer's squared rectifier,
  transposed, times the gradient of the output.
-/
module

public import proofs.«01_k».proof.Defs
public import proofs.«01_k».proof.Proof.DwDownBlocks
public import proofs.«01_k».proof.Proof.Gen.Reference2Ideal.Run
public import Idealize.ShloMosaic.Lib.Quiescent

@[expose] public section

set_option maxRecDepth 16384

noncomputable section

namespace Cert.Kernel2Ideal.DwDown

open Cert.Kernel2Ideal Cert.Kernel2Ideal.Gen Cert.Coords Idealize.ShloMosaic Idealize.ShloMosaic.TcCoe Idealize.SL.Sem
open Idealize.ShloMosaic.Pipeline (Dat)

section Arrays

variable (m : (ℓ : Loc nD τ sig) → Buf (Elt Ideal) ℓ) (c : Dev nD)

/-- The arguments: the product's input, its weight, the gradient at its output. -/
abbrev a0 : FVec Ideal S4096x4096 .f32 := m ((c : Thread nD τ).loc main_arg0)
abbrev a1 : FVec Ideal S4096x1024 .f32 := m ((c : Thread nD τ).loc main_arg1)
abbrev a2 : FVec Ideal S4096x1024 .f32 := m ((c : Thread nD τ).loc main_arg2)

theorem w0_eq : w0 m c = at2 (a0 m c) := by
  funext r k
  have h : (V m c main_v0 : FVec Ideal S4096x4096 .bf16) = truncf .bf16 (a0 m c) bitsLt_bf16_f32 := by
    show StableHlo.after hostOps0 (fun b => m (c, b)) _ = _
    unfold hostOps0
    after_results_simp <;> rfl
  show (V m c main_v0 : FVec Ideal S4096x4096 .bf16) (ix2 r k) = _
  rw [h]
  pointwise []

theorem w1_eq : w1 m c = at2 (a2 m c) := by
  funext r k
  have h : (V m c main_v1 : FVec Ideal S4096x1024 .bf16) = truncf .bf16 (a2 m c) bitsLt_bf16_f32 := by
    show StableHlo.after hostOps0 (fun b => m (c, b)) _ = _
    unfold hostOps0
    after_results_simp <;> rfl
  show (V m c main_v1 : FVec Ideal S4096x1024 .bf16) (ix2 r k) = _
  rw [h]
  pointwise []

end Arrays

end Cert.Kernel2Ideal.DwDown

namespace Cert.Reference2Ideal.DwDown

open Cert.Reference2Ideal Cert.Reference2Ideal.Gen Cert.Coords Idealize.ShloMosaic Idealize.ShloMosaic.TcCoe Idealize.SL.Sem

/-- The reference's term. -/
def gradT (x0 : FVec Ideal S4096x4096 .f32) (x2 : FVec Ideal S4096x1024 .f32) : FVec Ideal S8x512x1024 .bf16 :=
  truncf .bf16 (shapeCast _ (transpose S4096x1024 [1, 0] (Host.dotGeneral dot_S4096x1024_S4096x4096_S1024x4096_0_0_1_1_n_n none x2 (mulf (maximumf x0 (broadcastInDim S4096x4096 ![] bcast_S_S4096x4096 (constant S_ .f32 0x00000000#32))) (maximumf x0 (broadcastInDim S4096x4096 ![] bcast_S_S4096x4096 (constant S_ .f32 0x00000000#32))))) transposes_S1024x4096_S4096x1024_1_0) shapeCasts_S4096x1024_S8x512x1024) bitsLt_bf16_f32

theorem gradT_apply (x0 : FVec Ideal S4096x4096 .f32) (x2 : FVec Ideal S4096x1024 .f32)
    (u : Fin 8) (a : Fin 512) (b : Fin 1024) :
    gradT x0 x2 (ix3 u a b) = tmm (fun j r => relu2 (at2 x0 j r)) (at2 x2) ⟨512 * u.val + a.val, by have hu := u.isLt; have ha := a.isLt; omega⟩ b := by
  unfold gradT
  pointwise []
  refine Finset.sum_congr rfl fun x _ => ?_
  rw [mul_comm]
  exact congrArg (fun r => relu2 (at2 x0 x r) * at2 x2 x b) (Fin.ext (by show u.val * 512 + a.val = 512 * u.val + a.val; omega))

variable (m : (ℓ : Loc Cert.Kernel2Ideal.nD Cert.Kernel2Ideal.τ Cert.Kernel2Ideal.sig) → Buf (Elt Ideal) ℓ) (c : Dev Cert.Kernel2Ideal.nD)

open Cert.Kernel2Ideal.DwDown

theorem meet2 : gradT (a0 m c) (a2 m c) = res2 m c := by
  funext (i : S8x512x1024.Idx)
  obtain ⟨u, a, b, rfl⟩ : ∃ (u : Fin 8) (a : Fin 512) (b : Fin 1024), i = ix3 u a b := ⟨i 0, i 1, i 2, eq_ix3 i⟩
  refine (gradT_apply _ _ u a b).trans ?_
  rw [← w0_eq, ← w1_eq]
  rfl

end Cert.Reference2Ideal.DwDown

namespace Cert.Proof.DwDownClaims

open Idealize.ShloMosaic Idealize.ShloMosaic.TcCoe Idealize.SL.Sem
open Cert.Kernel2Ideal.DwDown Cert.Reference2Ideal.DwDown

/-- The kernel and the reference leave the same arrays. -/
theorem algebraic : Cert.algebraic_Kernel2Ideal_Reference2Ideal := by
  intro m ρ m' ρ' _ hag
  refine ⟨fun c => res2 m c, run m ρ, ?_⟩
  refine (θ_run Cert.Reference2Ideal.defs _ _).mono (fun r h c => ?_) (Cert.Reference2Ideal.Value.run (F := Ideal) m' ρ')
  obtain ⟨e0, e1, e2⟩ := hag c
  obtain ⟨h2, hk⟩ := h c
  refine ⟨h2.trans ?_, hk⟩
  · rw [e0, e2]; exact meet2 m c

/-- The reference leaves its arguments as they were and no signal raised. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof.DwDownClaims

end
-- ==== Proof.DwUpBlocks.lean ====
/-
  The up weight's gradient, read by blocks and accumulated. The grid has sixteen points, eight for each half of the
  result's rows; point t takes the rows 512 (t mod 8) on of both arrays, adds the product of the left block transposed
  with the right one to the accumulator, and the last point of a run writes the accumulator out, 512 columns at a
  time.
-/
module

public import proofs.«01_k».proof.Proof.Gen.Kernel3Ideal.Value
public import proofs.«01_k».proof.Proof.Chunks
public import Idealize.ShloMosaic.Lib.Tactic

@[expose] public section

set_option maxRecDepth 16384

noncomputable section

namespace Cert.Kernel3Ideal.DwUp

open Cert.Kernel3Ideal Cert.Kernel3Ideal.Gen Cert.Coords Cert.Chunks
open Idealize.ShloMosaic Idealize.ShloMosaic.TcCoe Idealize.SL.Sem
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-! ## What one point leaves, over what it finds -/

/-- A chunk's product added to what the accumulator holds. -/
theorem pay2_apply (x0 : Vec Ideal S512x512 .bf16) (xs : Vec Ideal S512x4096 .f32) (x1 : Vec Ideal S512x4096 .bf16)
    (a : Fin 512) (b : Fin 4096) : k0_pay2 x0 xs x1 (ix2 a b) = xs (ix2 a b) + tmm (at2 x0) (at2 x1) a b := by
  pointwise [k0_pay2, tmm]

/-- The accumulator starts from zero. -/
theorem pay1_apply (a : Fin 512) (b : Fin 4096) : k0_pay1 (F := Ideal) (ix2 a b) = 0 := by
  pointwise [k0_pay1]

section Cases

variable (c : Dev nD) (i : grid0.Coords) (a2 : Memref sig .tc .vmem S512x512 .bf16) (h2 : a2.IsWhole)
  (a3 : Memref sig .tc .vmem S512x4096 .bf16) (h3 : a3.IsWhole) (a4 : Memref sig .tc .vmem S8x512x512 .bf16) (h4 : a4.IsWhole)
  (a5 : Memref sig .tc .vmem S512x4096 .f32) (h5 : a5.IsWhole)
  (x0 : Vec Ideal S512x512 .bf16) (x1 : Vec Ideal S512x4096 .bf16) (xs : Vec Ideal S512x4096 .f32)

/-- The first point of a run leaves its chunk's product over zero. -/
theorem scr_A (hc0 : cond0_0 i) (hc1 : ¬cond0_1 i) :
    sout0_A_0 c i a2 h2 a3 h3 a4 h4 a5 h5 hc0 hc1 x0 x1 = k0_pay2 x0 (k0_pay1 (F := Ideal)) x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x4096) hz, View.readCov_unit_zero (S := S512x4096) _ hz]
  simp only [View.readAt_eq_ld, h2.read_unread, h3.read_unread, View.ld_unit_zero (S := S512x512) hz, View.ld_unit_zero (S := S512x4096) hz]

/-- A later point adds its chunk's product to what it finds. -/
theorem scr_B (hc0 : ¬cond0_0 i) (hc1 : ¬cond0_1 i) :
    sout0_B_0 c i a2 h2 a3 h3 a4 h4 a5 h5 hc0 hc1 x0 x1 xs = k0_pay2 x0 xs x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero (S := S512x4096) hz]
  simp only [View.readAt_eq_ld, h2.read_unread, h3.read_unread, h5.read_unread, View.ld_unit_zero (S := S512x512) hz, View.ld_unit_zero (S := S512x4096) hz, View.ld_unit_zero (S := S512x4096) hz]

theorem pay3_apply (v : Vec Ideal S512x512 .f32) (z : Fin 1) (a : Fin 512) (b : Fin 512) :
    k0_pay3 (k0_pay11 v) (ix3 z a b) = v (ix2 a b) := by pointwise [k0_pay3, k0_pay11]

theorem pay4_apply (v : Vec Ideal S512x512 .f32) (z : Fin 1) (a : Fin 512) (b : Fin 512) :
    k0_pay4 v (ix3 z a b) = v (ix2 a b) := by pointwise [k0_pay4]

theorem pay5_apply (v : Vec Ideal S512x512 .f32) (z : Fin 1) (a : Fin 512) (b : Fin 512) :
    k0_pay5 v (ix3 z a b) = v (ix2 a b) := by pointwise [k0_pay5]

theorem pay6_apply (v : Vec Ideal S512x512 .f32) (z : Fin 1) (a : Fin 512) (b : Fin 512) :
    k0_pay6 v (ix3 z a b) = v (ix2 a b) := by pointwise [k0_pay6]

theorem pay7_apply (v : Vec Ideal S512x512 .f32) (z : Fin 1) (a : Fin 512) (b : Fin 512) :
    k0_pay7 v (ix3 z a b) = v (ix2 a b) := by pointwise [k0_pay7]

theorem pay8_apply (v : Vec Ideal S512x512 .f32) (z : Fin 1) (a : Fin 512) (b : Fin 512) :
    k0_pay8 v (ix3 z a b) = v (ix2 a b) := by pointwise [k0_pay8]

theorem pay9_apply (v : Vec Ideal S512x512 .f32) (z : Fin 1) (a : Fin 512) (b : Fin 512) :
    k0_pay9 v (ix3 z a b) = v (ix2 a b) := by pointwise [k0_pay9]

theorem pay10_apply (v : Vec Ideal S512x512 .f32) (z : Fin 1) (a : Fin 512) (b : Fin 512) :
    k0_pay10 v (ix3 z a b) = v (ix2 a b) := by pointwise [k0_pay10]

/-- A box of the accumulator, read back after a store of the whole of it. -/
theorem read_back (v : Memref sig .tc .vmem S512x4096 .f32) (A : Vec Ideal S512x4096 .f32) (r : Rect S512x4096) :
    v.view.readCov [⟨Rect.unit (s := S512x4096) ![0, 0] S512x4096.size inb_S512x4096_S512x4096_0_0, A⟩] r.toLoadRect = View.ld A r := by
  rw [View.readCov_eq_canon', View.canon_unit_zero (S := S512x4096) hz]

theorem piece5 (v : Memref sig .tc .vmem S512x4096 .f32) (A : Vec Ideal S512x4096 .f32) (z : Fin 1) (a : Fin 512) (b : Fin 512) :
    k0_pay5 (v.view.readCov [⟨Rect.unit (s := S512x4096) ![0, 0] S512x4096.size inb_S512x4096_S512x4096_0_0, A⟩]
      (Rect.unit (s := S512x4096) ![0, 3584] S512x512.size inb_S512x4096_S512x512_0_3584).toLoadRect) (ix3 z a b)
      = A (ix2 a ⟨3584 + b.val, by have hb := b.isLt; omega⟩) := by
  rw [read_back]
  refine (pay5_apply _ z a b).trans ?_
  refine congrArg A (funext fun d => Fin.ext ?_)
  match d with
  | ⟨0, _⟩ => show 0 + 1 * a.val = a.val; omega
  | ⟨1, _⟩ => show 3584 + 1 * b.val = 3584 + b.val; omega

theorem piece4 (v : Memref sig .tc .vmem S512x4096 .f32) (A : Vec Ideal S512x4096 .f32) (z : Fin 1) (a : Fin 512) (b : Fin 512) :
    k0_pay4 (v.view.readCov [⟨Rect.unit (s := S512x4096) ![0, 0] S512x4096.size inb_S512x4096_S512x4096_0_0, A⟩]
      (Rect.unit (s := S512x4096) ![0, 3072] S512x512.size inb_S512x4096_S512x512_0_3072).toLoadRect) (ix3 z a b)
      = A (ix2 a ⟨3072 + b.val, by have hb := b.isLt; omega⟩) := by
  rw [read_back]
  refine (pay4_apply _ z a b).trans ?_
  refine congrArg A (funext fun d => Fin.ext ?_)
  match d with
  | ⟨0, _⟩ => show 0 + 1 * a.val = a.val; omega
  | ⟨1, _⟩ => show 3072 + 1 * b.val = 3072 + b.val; omega

theorem piece3 (v : Memref sig .tc .vmem S512x4096 .f32) (A : Vec Ideal S512x4096 .f32) (z : Fin 1) (a : Fin 512) (b : Fin 512) :
    k0_pay3 (k0_pay11 (v.view.readCov [⟨Rect.unit (s := S512x4096) ![0, 0] S512x4096.size inb_S512x4096_S512x4096_0_0, A⟩]
      (Rect.unit (s := S512x4096) ![0, 2560] S512x512.size inb_S512x4096_S512x512_0_2560).toLoadRect)) (ix3 z a b)
      = A (ix2 a ⟨2560 + b.val, by have hb := b.isLt; omega⟩) := by
  rw [read_back]
  refine (pay3_apply _ z a b).trans ?_
  refine congrArg A (funext fun d => Fin.ext ?_)
  match d with
  | ⟨0, _⟩ => show 0 + 1 * a.val = a.val; omega
  | ⟨1, _⟩ => show 2560 + 1 * b.val = 2560 + b.val; omega

theorem piece10 (v : Memref sig .tc .vmem S512x4096 .f32) (A : Vec Ideal S512x4096 .f32) (z : Fin 1) (a : Fin 512) (b : Fin 512) :
    k0_pay10 (v.view.readCov [⟨Rect.unit (s := S512x4096) ![0, 0] S512x4096.size inb_S512x4096_S512x4096_0_0, A⟩]
      (Rect.unit (s := S512x4096) ![0, 2048] S512x512.size inb_S512x4096_S512x512_0_2048).toLoadRect) (ix3 z a b)
      = A (ix2 a ⟨2048 + b.val, by have hb := b.isLt; omega⟩) := by
  rw [read_back]
  refine (pay10_apply _ z a b).trans ?_
  refine congrArg A (funext fun d => Fin.ext ?_)
  match d with
  | ⟨0, _⟩ => show 0 + 1 * a.val = a.val; omega
  | ⟨1, _⟩ => show 2048 + 1 * b.val = 2048 + b.val; omega

theorem piece9 (v : Memref sig .tc .vmem S512x4096 .f32) (A : Vec Ideal S512x4096 .f32) (z : Fin 1) (a : Fin 512) (b : Fin 512) :
    k0_pay9 (v.view.readCov [⟨Rect.unit (s := S512x4096) ![0, 0] S512x4096.size inb_S512x4096_S512x4096_0_0, A⟩]
      (Rect.unit (s := S512x4096) ![0, 1536] S512x512.size inb_S512x4096_S512x512_0_1536).toLoadRect) (ix3 z a b)
      = A (ix2 a ⟨1536 + b.val, by have hb := b.isLt; omega⟩) := by
  rw [read_back]
  refine (pay9_apply _ z a b).trans ?_
  refine congrArg A (funext fun d => Fin.ext ?_)
  match d with
  | ⟨0, _⟩ => show 0 + 1 * a.val = a.val; omega
  | ⟨1, _⟩ => show 1536 + 1 * b.val = 1536 + b.val; omega

theorem piece8 (v : Memref sig .tc .vmem S512x4096 .f32) (A : Vec Ideal S512x4096 .f32) (z : Fin 1) (a : Fin 512) (b : Fin 512) :
    k0_pay8 (v.view.readCov [⟨Rect.unit (s := S512x4096) ![0, 0] S512x4096.size inb_S512x4096_S512x4096_0_0, A⟩]
      (Rect.unit (s := S512x4096) ![0, 1024] S512x512.size inb_S512x4096_S512x512_0_1024).toLoadRect) (ix3 z a b)
      = A (ix2 a ⟨1024 + b.val, by have hb := b.isLt; omega⟩) := by
  rw [read_back]
  refine (pay8_apply _ z a b).trans ?_
  refine congrArg A (funext fun d => Fin.ext ?_)
  match d with
  | ⟨0, _⟩ => show 0 + 1 * a.val = a.val; omega
  | ⟨1, _⟩ => show 1024 + 1 * b.val = 1024 + b.val; omega

theorem piece7 (v : Memref sig .tc .vmem S512x4096 .f32) (A : Vec Ideal S512x4096 .f32) (z : Fin 1) (a : Fin 512) (b : Fin 512) :
    k0_pay7 (v.view.readCov [⟨Rect.unit (s := S512x4096) ![0, 0] S512x4096.size inb_S512x4096_S512x4096_0_0, A⟩]
      (Rect.unit (s := S512x4096) ![0, 512] S512x512.size inb_S512x4096_S512x512_0_512).toLoadRect) (ix3 z a b)
      = A (ix2 a ⟨512 + b.val, by have hb := b.isLt; omega⟩) := by
  rw [read_back]
  refine (pay7_apply _ z a b).trans ?_
  refine congrArg A (funext fun d => Fin.ext ?_)
  match d with
  | ⟨0, _⟩ => show 0 + 1 * a.val = a.val; omega
  | ⟨1, _⟩ => show 512 + 1 * b.val = 512 + b.val; omega

theorem piece6 (v : Memref sig .tc .vmem S512x4096 .f32) (A : Vec Ideal S512x4096 .f32) (z : Fin 1) (a : Fin 512) (b : Fin 512) :
    k0_pay6 (v.view.readCov [⟨Rect.unit (s := S512x4096) ![0, 0] S512x4096.size inb_S512x4096_S512x4096_0_0, A⟩]
      (Rect.unit (s := S512x4096) ![0, 0] S512x512.size inb_S512x4096_S512x512_0_0).toLoadRect) (ix3 z a b)
      = A (ix2 a ⟨0 + b.val, by have hb := b.isLt; omega⟩) := by
  rw [read_back]
  refine (pay6_apply _ z a b).trans ?_
  refine congrArg A (funext fun d => Fin.ext ?_)
  match d with
  | ⟨0, _⟩ => show 0 + 1 * a.val = a.val; omega
  | ⟨1, _⟩ => show 0 + 1 * b.val = 0 + b.val; omega

/-- Column `b` of group `u` of the result, as a column of the product. -/
abbrev wide (u : Fin 8) (b : Fin 512) : Fin 4096 := ⟨512 * u.val + b.val, by have hu := u.isLt; have hb := b.isLt; omega⟩

/-- The last point writes out what it finds with its chunk's product added, a group of columns at a time. -/
theorem out_last (hc0 : ¬cond0_0 i) (hc1 : cond0_1 i) (u : Fin 8) (a : Fin 512) (b : Fin 512) :
    out0_C_2 c i a2 h2 a3 h3 a4 h4 a5 h5 hc0 hc1 x0 x1 xs (ix3 u a b) = k0_pay2 x0 xs x1 (ix2 a (wide u b)) := by
  unfold out0_C_2
  rw [View.read_writes_eq_canon _ _ _ (cover0_C_2 c i a2 h2 a3 h3 a4 h4 a5 h5 hc0 hc1 x0 x1 xs)]
  refine View.canon_apply_of_pieces (Val := Elt Ideal)
    (fun i : S8x512x512.Idx => k0_pay2 x0 xs x1 (ix2 (i 1) (wide (i 0) (i 2)))) _ ?_ _ (cover0_C_2 c i a2 h2 a3 h3 a4 h4 a5 h5 hc0 hc1 x0 x1 xs _)
  unfold kernelRun0_C
  dsimp only
  sl_unfold_words
  simp only [View.readAt_eq_ld, h2.read_unread, h3.read_unread, h5.read_unread, View.ld_unit_zero (S := S512x512) hz, View.ld_unit_zero (S := S512x4096) hz, View.ld_unit_zero (S := S512x4096) hz]
  generalize k0_pay2 x0 xs x1 = A
  intro pc hpc
  rcases List.mem_cons.mp hpc with rfl | hpc
  · intro (x : S1x512x512.Idx)
    obtain ⟨z, a, b, rfl⟩ : ∃ (z : Fin 1) (a : Fin 512) (b : Fin 512), x = ix3 z a b := ⟨x 0, x 1, x 2, eq_ix3 x⟩
    have hz0 : z.val = 0 := by have := z.isLt; omega
    refine (piece5 a5 A z a b).trans ?_
    refine congrArg A (funext fun d => Fin.ext ?_)
    match d with
    | ⟨0, _⟩ => show a.val = 0 + 1 * a.val; omega
    | ⟨1, _⟩ => show 3584 + b.val = 512 * (7 + 1 * z.val) + (0 + 1 * b.val); omega
  rcases List.mem_cons.mp hpc with rfl | hpc
  · intro (x : S1x512x512.Idx)
    obtain ⟨z, a, b, rfl⟩ : ∃ (z : Fin 1) (a : Fin 512) (b : Fin 512), x = ix3 z a b := ⟨x 0, x 1, x 2, eq_ix3 x⟩
    have hz0 : z.val = 0 := by have := z.isLt; omega
    refine (piece4 a5 A z a b).trans ?_
    refine congrArg A (funext fun d => Fin.ext ?_)
    match d with
    | ⟨0, _⟩ => show a.val = 0 + 1 * a.val; omega
    | ⟨1, _⟩ => show 3072 + b.val = 512 * (6 + 1 * z.val) + (0 + 1 * b.val); omega
  rcases List.mem_cons.mp hpc with rfl | hpc
  · intro (x : S1x512x512.Idx)
    obtain ⟨z, a, b, rfl⟩ : ∃ (z : Fin 1) (a : Fin 512) (b : Fin 512), x = ix3 z a b := ⟨x 0, x 1, x 2, eq_ix3 x⟩
    have hz0 : z.val = 0 := by have := z.isLt; omega
    refine (piece3 a5 A z a b).trans ?_
    refine congrArg A (funext fun d => Fin.ext ?_)
    match d with
    | ⟨0, _⟩ => show a.val = 0 + 1 * a.val; omega
    | ⟨1, _⟩ => show 2560 + b.val = 512 * (5 + 1 * z.val) + (0 + 1 * b.val); omega
  rcases List.mem_cons.mp hpc with rfl | hpc
  · intro (x : S1x512x512.Idx)
    obtain ⟨z, a, b, rfl⟩ : ∃ (z : Fin 1) (a : Fin 512) (b : Fin 512), x = ix3 z a b := ⟨x 0, x 1, x 2, eq_ix3 x⟩
    have hz0 : z.val = 0 := by have := z.isLt; omega
    refine (piece10 a5 A z a b).trans ?_
    refine congrArg A (funext fun d => Fin.ext ?_)
    match d with
    | ⟨0, _⟩ => show a.val = 0 + 1 * a.val; omega
    | ⟨1, _⟩ => show 2048 + b.val = 512 * (4 + 1 * z.val) + (0 + 1 * b.val); omega
  rcases List.mem_cons.mp hpc with rfl | hpc
  · intro (x : S1x512x512.Idx)
    obtain ⟨z, a, b, rfl⟩ : ∃ (z : Fin 1) (a : Fin 512) (b : Fin 512), x = ix3 z a b := ⟨x 0, x 1, x 2, eq_ix3 x⟩
    have hz0 : z.val = 0 := by have := z.isLt; omega
    refine (piece9 a5 A z a b).trans ?_
    refine congrArg A (funext fun d => Fin.ext ?_)
    match d with
    | ⟨0, _⟩ => show a.val = 0 + 1 * a.val; omega
    | ⟨1, _⟩ => show 1536 + b.val = 512 * (3 + 1 * z.val) + (0 + 1 * b.val); omega
  rcases List.mem_cons.mp hpc with rfl | hpc
  · intro (x : S1x512x512.Idx)
    obtain ⟨z, a, b, rfl⟩ : ∃ (z : Fin 1) (a : Fin 512) (b : Fin 512), x = ix3 z a b := ⟨x 0, x 1, x 2, eq_ix3 x⟩
    have hz0 : z.val = 0 := by have := z.isLt; omega
    refine (piece8 a5 A z a b).trans ?_
    refine congrArg A (funext fun d => Fin.ext ?_)
    match d with
    | ⟨0, _⟩ => show a.val = 0 + 1 * a.val; omega
    | ⟨1, _⟩ => show 1024 + b.val = 512 * (2 + 1 * z.val) + (0 + 1 * b.val); omega
  rcases List.mem_cons.mp hpc with rfl | hpc
  · intro (x : S1x512x512.Idx)
    obtain ⟨z, a, b, rfl⟩ : ∃ (z : Fin 1) (a : Fin 512) (b : Fin 512), x = ix3 z a b := ⟨x 0, x 1, x 2, eq_ix3 x⟩
    have hz0 : z.val = 0 := by have := z.isLt; omega
    refine (piece7 a5 A z a b).trans ?_
    refine congrArg A (funext fun d => Fin.ext ?_)
    match d with
    | ⟨0, _⟩ => show a.val = 0 + 1 * a.val; omega
    | ⟨1, _⟩ => show 512 + b.val = 512 * (1 + 1 * z.val) + (0 + 1 * b.val); omega
  obtain rfl := List.mem_singleton.mp hpc
  · intro (x : S1x512x512.Idx)
    obtain ⟨z, a, b, rfl⟩ : ∃ (z : Fin 1) (a : Fin 512) (b : Fin 512), x = ix3 z a b := ⟨x 0, x 1, x 2, eq_ix3 x⟩
    have hz0 : z.val = 0 := by have := z.isLt; omega
    refine (piece6 a5 A z a b).trans ?_
    refine congrArg A (funext fun d => Fin.ext ?_)
    match d with
    | ⟨0, _⟩ => show a.val = 0 + 1 * a.val; omega
    | ⟨1, _⟩ => show 0 + b.val = 512 * (0 + 1 * z.val) + (0 + 1 * b.val); omega

end Cases

/-! ## The blocks -/

variable (m : (ℓ : Loc nD τ sig) → Buf (Elt Ideal) ℓ)

/-- Row `j` of point `t`'s chunk as a row of the whole array. -/
abbrev row (t : Fin cfg0.N) (j : Fin 512) : Fin 4096 :=
  ⟨512 * (t.val % 8) + j.val, by have ht : t.val < 16 := lt_of_lt_of_eq t.isLt N_0; have hj := j.isLt; omega⟩

/-- Column `k` of point `t`'s block of the left array as a column of the whole. -/
abbrev col (t : Fin cfg0.N) (k : Fin 512) : Fin 1024 := (⟨512 * (t.val / 8) + k.val, by have ht : t.val < 16 := lt_of_lt_of_eq t.isLt N_0; have hk := k.isLt; omega⟩ : Fin 1024)

/-- Where each block starts. -/
theorem start : ∀ t : Fin cfg0.N,
    (win0_0.index t 0 = t.val % 8 ∧ win0_0.index t 1 = t.val / 8)
    ∧ (win0_1.index t 0 = t.val % 8 ∧ win0_1.index t 1 = 0)
    ∧ (win0_2.index t 0 = 0 ∧ win0_2.index t 1 = t.val / 8 ∧ win0_2.index t 2 = 0) := by
  decide +kernel

theorem blk0 (c : Dev nD) (t : Fin cfg0.N) (j : Fin 512) (k : Fin 512) :
    iblk m c 0 t (ix2 j k) = V m c main_v0 (ix2 (row t j) (col t k)) := by
  show V m c main_v0 ((win0_0.blk t).view.emb (ix2 j k)) = _
  refine congrArg (V m c main_v0) (funext fun a => Fin.ext ?_)
  match a with
  | ⟨0, _⟩ =>
    show win0_0.index t 0 * 512 + 1 * j.val = 512 * (t.val % 8) + j.val
    rw [(start t).1.1]; omega
  | ⟨1, _⟩ =>
    show win0_0.index t 1 * 512 + 1 * k.val = 512 * (t.val / 8) + k.val
    rw [(start t).1.2]; omega

theorem blk1 (c : Dev nD) (t : Fin cfg0.N) (j : Fin 512) (k : Fin 4096) :
    iblk m c 1 t (ix2 j k) = V m c main_v1 (ix2 (row t j) k) := by
  show V m c main_v1 ((win0_1.blk t).view.emb (ix2 j k)) = _
  refine congrArg (V m c main_v1) (funext fun a => Fin.ext ?_)
  match a with
  | ⟨0, _⟩ =>
    show win0_1.index t 0 * 512 + 1 * j.val = 512 * (t.val % 8) + j.val
    rw [(start t).2.1.1]; omega
  | ⟨1, _⟩ =>
    show win0_1.index t 1 * 4096 + 1 * k.val = k.val
    rw [(start t).2.1.2]; omega

/-- An array read through the result's block at point `t`. -/
theorem read2 (A : Vec Ideal S8x1024x512 .bf16) (t : Fin cfg0.N) (u : Fin 8) (a : Fin 512) (b : Fin 512) :
    ((win0_2.blk t).view.read (Elt Ideal) A : Vec Ideal S8x512x512 .bf16) (ix3 u a b) = A (ix3 u (col t a) b) := by
  show A ((win0_2.blk t).view.emb (ix3 u a b)) = _
  refine congrArg A (funext fun d => Fin.ext ?_)
  match d with
  | ⟨0, _⟩ =>
    show win0_2.index t 0 * 8 + 1 * u.val = u.val
    rw [(start t).2.2.1]; omega
  | ⟨1, _⟩ =>
    show win0_2.index t 1 * 512 + 1 * a.val = 512 * (t.val / 8) + a.val
    rw [(start t).2.2.2.1]; omega
  | ⟨2, _⟩ =>
    show win0_2.index t 2 * 512 + 1 * b.val = b.val
    rw [(start t).2.2.2.2]; omega

/-! ## The accumulator over a run -/

variable (c : Dev nD)

/-- The left array, as the pipeline reads it. -/
abbrev w0 : Fin 4096 → Fin 1024 → EReal := at2 (V m c main_v0)
/-- The right array, as the pipeline reads it. -/
abbrev w1 : Fin 4096 → Fin 4096 → EReal := at2 (V m c main_v1)

/-- The row's term of the product's sum at a place of point `t`'s block. -/
abbrev term (t : Fin cfg0.N) (a : Fin 512) (b : Fin 4096) (j : Fin 4096) : EReal := w0 m c j (col t a) * w1 m c j b

/-- A chunk's product, as the chunk's part of the sum. -/
theorem chunk (t : Fin cfg0.N) (a : Fin 512) (b : Fin 4096) :
    tmm (at2 (iblk m c 0 t)) (at2 (iblk m c 1 t)) a b = ∑ j : Fin 512, ext (term m c t a b) (512 * (t.val % 8) + j.val) := by
  refine Finset.sum_congr rfl fun j _ => ?_
  have e0 : at2 (iblk m c 0 t) j a = w0 m c (row t j) (col t a) := blk0 m c t j a
  have e1 : at2 (iblk m c 1 t) j b = w1 m c (row t j) b := blk1 m c t j b
  show at2 (iblk m c 0 t) j a * at2 (iblk m c 1 t) j b = _
  rw [e0, e1]
  exact (ext_val (term m c t a b) (row t j)).symm

theorem term_prev (t s : Fin cfg0.N) (h : s.val / 8 = t.val / 8) (a : Fin 512) (b : Fin 4096) : term m c s a b = term m c t a b := by
  have e : col s a = col t a := Fin.ext (by show 512 * (s.val / 8) + a.val = 512 * (t.val / 8) + a.val; rw [h])
  funext j
  show w0 m c j (col s a) * _ = _
  rw [e]

/-- After each point of a run but the last the accumulator holds the sum of the chunks so far. -/
theorem scratch : ∀ (q : Nat) (t : Fin cfg0.N), t.val % 8 = q → q < 7 → ∀ (a : Fin 512) (b : Fin 4096),
    (outsAt0 m c t.val t.isLt).2 (ix2 a b) = upTo (term m c t a b) 512 (q + 1)
  | 0, t, h, _, a, b => by
    rw [outsAt0_A m c t h (by omega)]
    dsimp only
    rw [scr_A]
    refine (pay2_apply _ _ _ a b).trans ?_
    rw [pay1_apply, chunk, h, upTo_succ, upTo_zero]
  | q + 1, t, h, hq, a, b => by
    rw [outsAt0_B m c t (by omega) (by omega)]
    dsimp only
    rw [scr_B]
    refine (pay2_apply _ _ _ a b).trans ?_
    have hs : t.val - 1 < cfg0.N := Nat.lt_of_le_of_lt (Nat.sub_le _ _) t.isLt
    have e := scratch q ⟨t.val - 1, hs⟩ (by show (t.val - 1) % 8 = q; omega) (by omega) a b
    dsimp only at e
    rw [e, chunk, h, upTo_succ _ _ (q + 1), term_prev m c t ⟨t.val - 1, hs⟩ (by show (t.val - 1) / 8 = t.val / 8; omega)]

/-- The result: the product over all rows, its columns in groups of 512. -/
def res2 : Vec Ideal S8x1024x512 .bf16 := fun i =>
  tmm (w0 m c) (w1 m c) (i 1) (wide (i 0) (i 2))

/-- A run's last point writes out its block of the result. -/
theorem flushed2 (t : Fin cfg0.N) (hf : (cfg0.win 2).flush t = true) :
    (dats m 0 c).flushed 2 t = (win0_2.blk t).view.read (Elt Ideal) (res2 m c) := by
  have h : t.val % 8 = 7 := (flush0_2 t).mp hf
  rw [Value.flushed2_C m c t (by omega) h]
  funext (x : S8x512x512.Idx)
  obtain ⟨u, a, b, rfl⟩ : ∃ (u : Fin 8) (a : Fin 512) (b : Fin 512), x = ix3 u a b := ⟨x 0, x 1, x 2, eq_ix3 x⟩
  refine Eq.trans ?_ (read2 _ t u a b).symm
  have hs : t.val - 1 < cfg0.N := Nat.lt_of_le_of_lt (Nat.sub_le _ _) t.isLt
  have e := scratch m c 6 ⟨t.val - 1, hs⟩ (by show (t.val - 1) % 8 = 6; omega) (by omega) a (wide u b)
  dsimp only at e
  show out0_C_2 c (grid0.coords t) _ _ _ _ _ _ _ _ _ _ (iblk m c 0 t) (iblk m c 1 t) (outsAt0 m c (t.val - 1) _).2 (ix3 u a b) = _
  rw [out_last]
  refine (pay2_apply _ _ _ a (wide u b)).trans ?_
  rw [e, chunk, term_prev m c t ⟨t.val - 1, hs⟩ (by show (t.val - 1) / 8 = t.val / 8; omega), h, ← upTo_succ, upTo_full _ _ _ (by norm_num)]
  rfl

/-- The whole run: the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks m ρ)
  obtain ⟨h2, hk⟩ := h c
  refine ⟨h2.trans ?_, hk⟩
  exact (dats m 0 c).arrAt_eq_of_cover 2 (res2 m c) (flushed2 m c) fun i => (Value.covered_iff2 i).2 (by
    have h0 : (i 0).val < 8 := (i 0).isLt
    have h1 : (i 1).val < 1024 := (i 1).isLt
    have h2 : (i 2).val < 512 := (i 2).isLt
    omega)

end Cert.Kernel3Ideal.DwUp

end
-- ==== Proof.DwUp.lean ====
/-
  The up weight's gradient after the run, met with the reference's term.
-/
module

public import proofs.«01_k».proof.Defs
public import proofs.«01_k».proof.Proof.DwUpBlocks
public import proofs.«01_k».proof.Proof.Gen.Reference3Ideal.Run
public import Idealize.ShloMosaic.Lib.Quiescent

@[expose] public section

set_option maxRecDepth 16384

noncomputable section

namespace Cert.Kernel3Ideal.DwUp

open Cert.Kernel3Ideal Cert.Kernel3Ideal.Gen Cert.Coords Idealize.ShloMosaic Idealize.ShloMosaic.TcCoe Idealize.SL.Sem
open Idealize.ShloMosaic.Pipeline (Dat)

section Arrays

variable (m : (ℓ : Loc nD τ sig) → Buf (Elt Ideal) ℓ) (c : Dev nD)

/-- The arguments: the product's input, its weight, the gradient at its output. -/
abbrev a0 : FVec Ideal S4096x1024 .f32 := m ((c : Thread nD τ).loc main_arg0)
abbrev a1 : FVec Ideal S1024x4096 .f32 := m ((c : Thread nD τ).loc main_arg1)
abbrev a2 : FVec Ideal S4096x4096 .f32 := m ((c : Thread nD τ).loc main_arg2)

theorem w0_eq : w0 m c = at2 (a0 m c) := by
  funext r k
  have h : (V m c main_v0 : FVec Ideal S4096x1024 .bf16) = truncf .bf16 (a0 m c) bitsLt_bf16_f32 := by
    show StableHlo.after hostOps0 (fun b => m (c, b)) _ = _
    unfold hostOps0
    after_results_simp <;> rfl
  show (V m c main_v0 : FVec Ideal S4096x1024 .bf16) (ix2 r k) = _
  rw [h]
  pointwise []

theorem w1_eq : w1 m c = at2 (a2 m c) := by
  funext r k
  have h : (V m c main_v1 : FVec Ideal S4096x4096 .bf16) = truncf .bf16 (a2 m c) bitsLt_bf16_f32 := by
    show StableHlo.after hostOps0 (fun b => m (c, b)) _ = _
    unfold hostOps0
    after_results_simp <;> rfl
  show (V m c main_v1 : FVec Ideal S4096x4096 .bf16) (ix2 r k) = _
  rw [h]
  pointwise []

end Arrays

end Cert.Kernel3Ideal.DwUp

namespace Cert.Reference3Ideal.DwUp

open Cert.Reference3Ideal Cert.Reference3Ideal.Gen Cert.Coords Idealize.ShloMosaic Idealize.ShloMosaic.TcCoe Idealize.SL.Sem

/-- The reference's term. -/
def gradT (x0 : FVec Ideal S4096x1024 .f32) (x2 : FVec Ideal S4096x4096 .f32) : FVec Ideal S8x1024x512 .bf16 :=
  truncf .bf16 (transpose S8x1024x512 [1, 0, 2] (shapeCast _ (transpose S1024x4096 [1, 0] (Host.dotGeneral dot_S4096x4096_S4096x1024_S4096x1024_0_0_1_1_n_n none x2 x0) transposes_S4096x1024_S1024x4096_1_0) shapeCasts_S1024x4096_S1024x8x512) transposes_S1024x8x512_S8x1024x512_1_0_2) bitsLt_bf16_f32

theorem gradT_apply (x0 : FVec Ideal S4096x1024 .f32) (x2 : FVec Ideal S4096x4096 .f32)
    (u : Fin 8) (a : Fin 1024) (b : Fin 512) :
    gradT x0 x2 (ix3 u a b) = tmm (at2 x0) (at2 x2) a (Cert.Kernel3Ideal.DwUp.wide u b) := by
  unfold gradT
  pointwise []
  refine Finset.sum_congr rfl fun x _ => ?_
  rw [mul_comm]
  exact congrArg (fun r => at2 x0 x a * at2 x2 x r) (Fin.ext (by show u.val * 512 + b.val = 512 * u.val + b.val; omega))

variable (m : (ℓ : Loc Cert.Kernel3Ideal.nD Cert.Kernel3Ideal.τ Cert.Kernel3Ideal.sig) → Buf (Elt Ideal) ℓ) (c : Dev Cert.Kernel3Ideal.nD)

open Cert.Kernel3Ideal.DwUp

theorem meet2 : gradT (a0 m c) (a2 m c) = res2 m c := by
  funext (i : S8x1024x512.Idx)
  obtain ⟨u, a, b, rfl⟩ : ∃ (u : Fin 8) (a : Fin 1024) (b : Fin 512), i = ix3 u a b := ⟨i 0, i 1, i 2, eq_ix3 i⟩
  refine (gradT_apply _ _ u a b).trans ?_
  rw [← w0_eq, ← w1_eq]
  rfl

end Cert.Reference3Ideal.DwUp

namespace Cert.Proof.DwUpClaims

open Idealize.ShloMosaic Idealize.ShloMosaic.TcCoe Idealize.SL.Sem
open Cert.Kernel3Ideal.DwUp Cert.Reference3Ideal.DwUp

/-- The kernel and the reference leave the same arrays. -/
theorem algebraic : Cert.algebraic_Kernel3Ideal_Reference3Ideal := by
  intro m ρ m' ρ' _ hag
  refine ⟨fun c => res2 m c, run m ρ, ?_⟩
  refine (θ_run Cert.Reference3Ideal.defs _ _).mono (fun r h c => ?_) (Cert.Reference3Ideal.Value.run (F := Ideal) m' ρ')
  obtain ⟨e0, e1, e2⟩ := hag c
  obtain ⟨h2, hk⟩ := h c
  refine ⟨h2.trans ?_, hk⟩
  · rw [e0, e2]; exact meet2 m c

/-- The reference leaves its arguments as they were and no signal raised. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Proof.DwUpClaims

end
-- ==== Proof.DwOutBlocks.lean ====
/-
  The output weight's gradient, read by blocks and accumulated. The grid has four points, two for each half of the
  result's rows; point t takes the rows 2048 (t mod 2) on of both arrays, adds the product of the left block
  transposed with the right one to the accumulator, and the second point of a run writes the accumulator out.
-/
module

public import proofs.«01_k».proof.Proof.Gen.Kernel4Ideal.Value
public import proofs.«01_k».proof.Proof.Chunks
public import Idealize.ShloMosaic.Lib.Tactic

@[expose] public section

set_option maxRecDepth 16384

noncomputable section

namespace Cert.Kernel4Ideal.DwOut

open Cert.Kernel4Ideal Cert.Kernel4Ideal.Gen Cert.Coords Cert.Chunks
open Idealize.ShloMosaic Idealize.ShloMosaic.TcCoe Idealize.SL.Sem
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-! ## What one point leaves, over what it finds -/

/-- A chunk's product added to what the accumulator holds. -/
theorem pay2_apply (x0 : Vec Ideal S2048x512 .bf16) (xs : Vec Ideal S512x1024 .f32) (x1 : Vec Ideal S2048x1024 .bf16)
    (a : Fin 512) (b : Fin 1024) : k0_pay2 x0 xs x1 (ix2 a b) = xs (ix2 a b) + tmm (at2 x0) (at2 x1) a b := by
  pointwise [k0_pay2, tmm]

/-- The accumulator starts from zero. -/
theorem pay1_apply (a : Fin 512) (b : Fin 1024) : k0_pay1 (F := Ideal) (ix2 a b) = 0 := by
  pointwise [k0_pay1]

section Cases

variable (c : Dev nD) (i : grid0.Coords) (a2 : Memref sig .tc .vmem S2048x512 .bf16) (h2 : a2.IsWhole)
  (a3 : Memref sig .tc .vmem S2048x1024 .bf16) (h3 : a3.IsWhole) (a4 : Memref sig .tc .vmem S1x512x1024 .bf16) (h4 : a4.IsWhole)
  (a5 : Memref sig .tc .vmem S512x1024 .f32) (h5 : a5.IsWhole)
  (x0 : Vec Ideal S2048x512 .bf16) (x1 : Vec Ideal S2048x1024 .bf16) (xs : Vec Ideal S512x1024 .f32)

/-- The first point of a run leaves its chunk's product over zero. -/
theorem scr_A (hc0 : cond0_0 i) (hc1 : ¬cond0_1 i) :
    sout0_A_0 c i a2 h2 a3 h3 a4 h4 a5 h5 hc0 hc1 x0 x1 = k0_pay2 x0 (k0_pay1 (F := Ideal)) x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x1024) hz, View.readCov_unit_zero (S := S512x1024) _ hz]
  simp only [View.readAt_eq_ld, h2.read_unread, h3.read_unread, View.ld_unit_zero (S := S2048x512) hz, View.ld_unit_zero (S := S2048x1024) hz]

/-- The last point writes out what it finds with its chunk's product added. -/
theorem out_last (hc0 : ¬cond0_0 i) (hc1 : cond0_1 i) (u : Fin 1) (a : Fin 512) (b : Fin 1024) :
    out0_B_2 c i a2 h2 a3 h3 a4 h4 a5 h5 hc0 hc1 x0 x1 xs (ix3 u a b) = k0_pay2 x0 xs x1 (ix2 a b) := by
  unfold out0_B_2
  rw [View.read_writes_eq_canon _ _ _ (cover0_B_2 c i a2 h2 a3 h3 a4 h4 a5 h5 hc0 hc1 x0 x1 xs)]
  unfold kernelRun0_B
  dsimp only
  sl_unfold_words
  rw [View.canon_unit_zero (S := S1x512x1024) hz3]
  simp only [View.readCov_unit_zero (S := S512x1024) _ hz, View.readAt_eq_ld, h2.read_unread, h3.read_unread, h5.read_unread, View.ld_unit_zero (S := S2048x512) hz, View.ld_unit_zero (S := S2048x1024) hz, View.ld_unit_zero (S := S512x1024) hz]
  pointwise [k0_pay3]

end Cases

/-! ## The blocks -/

variable (m : (ℓ : Loc nD τ sig) → Buf (Elt Ideal) ℓ)

/-- Row `j` of point `t`'s chunk as a row of the whole array. -/
abbrev row (t : Fin cfg0.N) (j : Fin 2048) : Fin 4096 :=
  ⟨2048 * (t.val % 2) + j.val, by have ht : t.val < 4 := lt_of_lt_of_eq t.isLt N_0; have hj := j.isLt; omega⟩

/-- Column `k` of point `t`'s block of the left array as a column of the whole. -/
abbrev col (t : Fin cfg0.N) (k : Fin 512) : Fin 1024 := (⟨512 * (t.val / 2) + k.val, by have ht : t.val < 4 := lt_of_lt_of_eq t.isLt N_0; have hk := k.isLt; omega⟩ : Fin 1024)

/-- Where each block starts. -/
theorem start : ∀ t : Fin cfg0.N,
    (win0_0.index t 0 = t.val % 2 ∧ win0_0.index t 1 = t.val / 2)
    ∧ (win0_1.index t 0 = t.val % 2 ∧ win0_1.index t 1 = 0)
    ∧ (win0_2.index t 0 = t.val / 2 ∧ win0_2.index t 1 = 0 ∧ win0_2.index t 2 = 0) := by
  decide +kernel

theorem blk0 (c : Dev nD) (t : Fin cfg0.N) (j : Fin 2048) (k : Fin 512) :
    iblk m c 0 t (ix2 j k) = V m c main_v0 (ix2 (row t j) (col t k)) := by
  show V m c main_v0 ((win0_0.blk t).view.emb (ix2 j k)) = _
  refine congrArg (V m c main_v0) (funext fun a => Fin.ext ?_)
  match a with
  | ⟨0, _⟩ =>
    show win0_0.index t 0 * 2048 + 1 * j.val = 2048 * (t.val % 2) + j.val
    rw [(start t).1.1]; omega
  | ⟨1, _⟩ =>
    show win0_0.index t 1 * 512 + 1 * k.val = 512 * (t.val / 2) + k.val
    rw [(start t).1.2]; omega

theorem blk1 (c : Dev nD) (t : Fin cfg0.N) (j : Fin 2048) (k : Fin 1024) :
    iblk m c 1 t (ix2 j k) = V m c main_v1 (ix2 (row t j) k) := by
  show V m c main_v1 ((win0_1.blk t).view.emb (ix2 j k)) = _
  refine congrArg (V m c main_v1) (funext fun a => Fin.ext ?_)
  match a with
  | ⟨0, _⟩ =>
    show win0_1.index t 0 * 2048 + 1 * j.val = 2048 * (t.val % 2) + j.val
    rw [(start t).2.1.1]; omega
  | ⟨1, _⟩ =>
    show win0_1.index t 1 * 1024 + 1 * k.val = k.val
    rw [(start t).2.1.2]; omega

/-- An array read through the result's block at point `t`. -/
theorem read2 (A : Vec Ideal S2x512x1024 .bf16) (t : Fin cfg0.N) (u : Fin 1) (a : Fin 512) (b : Fin 1024) :
    ((win0_2.blk t).view.read (Elt Ideal) A : Vec Ideal S1x512x1024 .bf16) (ix3 u a b) = A (ix3 (⟨t.val / 2 + u.val, by have ht : t.val < 4 := lt_of_lt_of_eq t.isLt N_0; have hu := u.isLt; omega⟩ : Fin 2) a b) := by
  show A ((win0_2.blk t).view.emb (ix3 u a b)) = _
  refine congrArg A (funext fun d => Fin.ext ?_)
  match d with
  | ⟨0, _⟩ =>
    show win0_2.index t 0 * 1 + 1 * u.val = t.val / 2 + u.val
    rw [(start t).2.2.1]; omega
  | ⟨1, _⟩ =>
    show win0_2.index t 1 * 512 + 1 * a.val = a.val
    rw [(start t).2.2.2.1]; omega
  | ⟨2, _⟩ =>
    show win0_2.index t 2 * 1024 + 1 * b.val = b.val
    rw [(start t).2.2.2.2]; omega

/-! ## The accumulator over a run -/

variable (c : Dev nD)

/-- The left array, as the pipeline reads it. -/
abbrev w0 : Fin 4096 → Fin 1024 → EReal := at2 (V m c main_v0)
/-- The right array, as the pipeline reads it. -/
abbrev w1 : Fin 4096 → Fin 1024 → EReal := at2 (V m c main_v1)

/-- The row's term of the product's sum at a place of point `t`'s block. -/
abbrev term (t : Fin cfg0.N) (a : Fin 512) (b : Fin 1024) (j : Fin 4096) : EReal := w0 m c j (col t a) * w1 m c j b

/-- A chunk's product, as the chunk's part of the sum. -/
theorem chunk (t : Fin cfg0.N) (a : Fin 512) (b : Fin 1024) :
    tmm (at2 (iblk m c 0 t)) (at2 (iblk m c 1 t)) a b = ∑ j : Fin 2048, ext (term m c t a b) (2048 * (t.val % 2) + j.val) := by
  refine Finset.sum_congr rfl fun j _ => ?_
  have e0 : at2 (iblk m c 0 t) j a = w0 m c (row t j) (col t a) := blk0 m c t j a
  have e1 : at2 (iblk m c 1 t) j b = w1 m c (row t j) b := blk1 m c t j b
  show at2 (iblk m c 0 t) j a * at2 (iblk m c 1 t) j b = _
  rw [e0, e1]
  exact (ext_val (term m c t a b) (row t j)).symm

theorem term_prev (t s : Fin cfg0.N) (h : s.val / 2 = t.val / 2) (a : Fin 512) (b : Fin 1024) : term m c s a b = term m c t a b := by
  have e : col s a = col t a := Fin.ext (by show 512 * (s.val / 2) + a.val = 512 * (t.val / 2) + a.val; rw [h])
  funext j
  show w0 m c j (col s a) * _ = _
  rw [e]

/-- After a run's first point the accumulator holds the first chunk's sum. -/
theorem scratch (t : Fin cfg0.N) (h : t.val % 2 = 0) (a : Fin 512) (b : Fin 1024) :
    (outsAt0 m c t.val t.isLt).2 (ix2 a b) = upTo (term m c t a b) 2048 (t.val % 2 + 1) := by
  rw [outsAt0_A m c t h (by omega)]
  dsimp only
  rw [scr_A]
  refine (pay2_apply _ _ _ a b).trans ?_
  rw [pay1_apply, chunk, h, upTo_succ, upTo_zero]

/-- The result: the product over all rows, in slabs of rows. -/
def res2 : Vec Ideal S2x512x1024 .bf16 := fun i =>
  tmm (w0 m c) (w1 m c) ⟨512 * (i 0).val + (i 1).val, by have h0 : (i 0).val < 2 := (i 0).isLt; have h1 : (i 1).val < 512 := (i 1).isLt; omega⟩ (i 2)

/-- A run's last point writes out its block of the result. -/
theorem flushed2 (t : Fin cfg0.N) (hf : (cfg0.win 2).flush t = true) :
    (dats m 0 c).flushed 2 t = (win0_2.blk t).view.read (Elt Ideal) (res2 m c) := by
  have h : t.val % 2 = 1 := (flush0_2 t).mp hf
  rw [Value.flushed2_B m c t (by omega) h]
  funext (x : S1x512x1024.Idx)
  obtain ⟨u, a, b, rfl⟩ : ∃ (u : Fin 1) (a : Fin 512) (b : Fin 1024), x = ix3 u a b := ⟨x 0, x 1, x 2, eq_ix3 x⟩
  refine Eq.trans ?_ (read2 _ t u a b).symm
  have hs : t.val - 1 < cfg0.N := Nat.lt_of_le_of_lt (Nat.sub_le _ _) t.isLt
  have e := scratch m c ⟨t.val - 1, hs⟩ (by show (t.val - 1) % 2 = 0; omega) a b
  dsimp only at e
  show out0_B_2 c (grid0.coords t) _ _ _ _ _ _ _ _ _ _ (iblk m c 0 t) (iblk m c 1 t) (outsAt0 m c (t.val - 1) _).2 (ix3 u a b) = _
  rw [out_last]
  refine (pay2_apply _ _ _ a b).trans ?_
  rw [e, chunk, term_prev m c t ⟨t.val - 1, hs⟩ (by show (t.val - 1) / 2 = t.val / 2; omega), h, show (t.val - 1) % 2 + 1 = 1 from by omega, ← upTo_succ, upTo_full _ _ _ (by norm_num)]
  have eu : u.val = 0 := by have := u.isLt; omega
  show tmm (w0 m c) (w1 m c) (col t a) b = tmm _ (w1 m c) ⟨512 * (t.val / 2 + u.val) + a.val, _⟩ b
  exact congrArg (fun r => tmm (w0 m c) (w1 m c) r b) (Fin.ext (by show 512 * (t.val / 2) + a.val = 512 * (t.val / 2 + u.val) + a.val; rw [eu, Nat.add_zero]))

/-- The whole run: the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks m ρ)
  obtain ⟨h2, hk⟩ := h c
  refine ⟨h2.trans ?_, hk⟩
  exact (dats m 0 c).arrAt_eq_of_cover 2 (res2 m c) (flushed2 m c) fun i => (Value.covered_iff2 i).2 (by
    have h0 : (i 0).val < 2 := (i 0).isLt
    have h1 : (i 1).val < 512 := (i 1).isLt
    have h2 : (i 2).val < 1024 := (i 2).isLt
    omega)

end Cert.Kernel4Ideal.DwOut

end
-- ==== Proof.DwOut.lean ====
/-
  The output weight's gradient after the run, met with the reference's term.
-/
module

public import proofs.«01_k».proof.Defs
public import proofs.«01_k».proof.Proof.DwOutBlocks
public import proofs.«01_k».proof.Proof.Gen.Reference4Ideal.Run
public import Idealize.ShloMosaic.Lib.Quiescent

@[expose] public section

set_option maxRecDepth 16384

noncomputable section

namespace Cert.Kernel4Ideal.DwOut

open Cert.Kernel4Ideal Cert.Kernel4Ideal.Gen Cert.Coords Idealize.ShloMosaic Idealize.ShloMosaic.TcCoe Idealize.SL.Sem
open Idealize.ShloMosaic.Pipeline (Dat)

section Arrays

variable (m : (ℓ : Loc nD τ sig) → Buf (Elt Ideal) ℓ) (c : Dev nD)

/-- The arguments: the product's input, its weight, the gradient at its output. -/
abbrev a0 : FVec Ideal S4096x1024 .f32 := m ((c : Thread nD τ).loc main_arg0)
abbrev a1 : FVec Ideal S1024x1024 .f32 := m ((c : Thread nD τ).loc main_arg1)
abbrev a2 : FVec Ideal S4096x1024 .f32 := m ((c : Thread nD τ).loc main_arg2)

theorem w0_eq : w0 m c = at2 (a0 m c) := by
  funext r k
  have h : (V m c main_v0 : FVec Ideal S4096x1024 .bf16) = truncf .bf16 (a0 m c) bitsLt_bf16_f32 := by
    show StableHlo.after hostOps0 (fun b => m (c, b)) _ = _
    unfold hostOps0
    after_results_simp <;> rfl
  show (V m c main_v0 : FVec Ideal S4096x1024 .bf16) (ix2 r k) = _
  rw [h]
  pointwise []

theorem w1_eq : w1 m c = at2 (a2 m c) := by
  funext r k
  have h : (V m c main_v1 : FVec Ideal S4096x1024 .bf16) = truncf .bf16 (a2 m c) bitsLt_bf16_f32 := by
    show StableHlo.after hostOps0 (fun b => m (c, b)) _ = _
    unfold hostOps0
    after_results_simp <;> rfl
  show (V m c main_v1 : FVec Ideal S4096x1024 .bf16) (ix2 r k) = _
  rw [h]
  pointwise []

end Arrays

end Cert.Kernel4Ideal.DwOut

namespace Cert.Reference4Ideal.DwOut

open Cert.Reference4Ideal Cert.Reference4Ideal.Gen Cert.Coords Idealize.ShloMosaic Idealize.ShloMosaic.TcCoe Idealize.SL.Sem

/-- The reference's term. -/
def gradT (x0 : FVec Ideal S4096x1024 .f32) (x2 : FVec Ideal S4096x1024 .f32) : FVec Ideal S2x512x1024 .bf16 :=
  truncf .bf16 (shapeCast _ (transpose S1024x1024 [1, 0] (Host.dotGeneral dot_S4096x1024_S4096x1024_S1024x1024_0_0_1_1_n_n none x2 x0) transposes_S1024x1024_S1024x1024_1_0) shapeCasts_S1024x1024_S2x512x1024) bitsLt_bf16_f32

theorem gradT_apply (x0 : FVec Ideal S4096x1024 .f32) (x2 : FVec Ideal S4096x1024 .f32)
    (u : Fin 2) (a : Fin 512) (b : Fin 1024) :
    gradT x0 x2 (ix3 u a b) = tmm (at2 x0) (at2 x2) ⟨512 * u.val + a.val, by have hu := u.isLt; have ha := a.isLt; omega⟩ b := by
  unfold gradT
  pointwise []
  refine Finset.sum_congr rfl fun x _ => ?_
  rw [mul_comm]
  exact congrArg (fun r => at2 x0 x r * at2 x2 x b) (Fin.ext (by show u.val * 512 + a.val = 512 * u.val + a.val; omega))

variable (m : (ℓ : Loc Cert.Kernel4Ideal.nD Cert.Kernel4Ideal.τ Cert.Kernel4Ideal.sig) → Buf (Elt Ideal) ℓ) (c : Dev Cert.Kernel4Ideal.nD)

open Cert.Kernel4Ideal.DwOut

theorem meet2 : gradT (a0 m c) (a2 m c) = res2 m c := by
  funext (i : S2x512x1024.Idx)
  obtain ⟨u, a, b, rfl⟩ : ∃ (u : Fin 2) (a : Fin 512) (b : Fin 1024), i = ix3 u a b := ⟨i 0, i 1, i 2, eq_ix3 i⟩
  refine (gradT_apply _ _ u a b).trans ?_
  rw [← w0_eq, ← w1_eq]
  rfl

end Cert.Reference4Ideal.DwOut

namespace Cert.Proof.DwOutClaims

open Idealize.ShloMosaic Idealize.ShloMosaic.TcCoe Idealize.SL.Sem
open Cert.Kernel4Ideal.DwOut Cert.Reference4Ideal.DwOut

/-- The kernel and the reference leave the same arrays. -/
theorem algebraic : Cert.algebraic_Kernel4Ideal_Reference4Ideal := by
  intro m ρ m' ρ' _ hag
  refine ⟨fun c => res2 m c, run m ρ, ?_⟩
  refine (θ_run Cert.Reference4Ideal.defs _ _).mono (fun r h c => ?_) (Cert.Reference4Ideal.Value.run (F := Ideal) m' ρ')
  obtain ⟨e0, e1, e2⟩ := hag c
  obtain ⟨h2, hk⟩ := h c
  refine ⟨h2.trans ?_, hk⟩
  · rw [e0, e2]; exact meet2 m c

/-- The reference leaves its arguments as they were and no signal raised. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Proof.DwOutClaims

end
-- ==== Proof.DwBranchBlocks.lean ====
/-
  A branch weight's gradient, read by blocks and accumulated. The grid has two points; point t takes the rows 2048 t
  on of both arrays, adds the product of the left block transposed with the right one to the accumulator, and the
  second point writes the accumulator out, 128 columns at a time.
-/
module

public import proofs.«01_k».proof.Proof.Gen.Kernel5Ideal.Value
public import proofs.«01_k».proof.Proof.Chunks
public import Idealize.ShloMosaic.Lib.Tactic

@[expose] public section

set_option maxRecDepth 16384

noncomputable section

namespace Cert.Kernel5Ideal.DwBranch

open Cert.Kernel5Ideal Cert.Kernel5Ideal.Gen Cert.Coords Cert.Chunks
open Idealize.ShloMosaic Idealize.ShloMosaic.TcCoe Idealize.SL.Sem
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-! ## What one point leaves, over what it finds -/

/-- A chunk's product added to what the accumulator holds. -/
theorem pay2_apply (x0 : Vec Ideal S2048x512 .f32) (xs : Vec Ideal S512x1024 .f32) (x1 : Vec Ideal S2048x1024 .bf16)
    (a : Fin 512) (b : Fin 1024) : k0_pay2 x0 xs x1 (ix2 a b) = xs (ix2 a b) + tmm (at2 x0) (at2 x1) a b := by
  pointwise [k0_pay2, tmm]

/-- The accumulator starts from zero. -/
theorem pay1_apply (a : Fin 512) (b : Fin 1024) : k0_pay1 (F := Ideal) (ix2 a b) = 0 := by
  pointwise [k0_pay1]

section Cases

variable (c : Dev nD) (i : grid0.Coords) (a2 : Memref sig .tc .vmem S2048x512 .f32) (h2 : a2.IsWhole)
  (a3 : Memref sig .tc .vmem S2048x1024 .bf16) (h3 : a3.IsWhole) (a4 : Memref sig .tc .vmem S8x512x128 .bf16) (h4 : a4.IsWhole)
  (a5 : Memref sig .tc .vmem S512x1024 .f32) (h5 : a5.IsWhole)
  (x0 : Vec Ideal S2048x512 .f32) (x1 : Vec Ideal S2048x1024 .bf16) (xs : Vec Ideal S512x1024 .f32)

/-- The first point of a run leaves its chunk's product over zero. -/
theorem scr_A (hc0 : cond0_0 i) (hc1 : ¬cond0_1 i) :
    sout0_A_0 c i a2 h2 a3 h3 a4 h4 a5 h5 hc0 hc1 x0 x1 = k0_pay2 x0 (k0_pay1 (F := Ideal)) x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x1024) hz, View.readCov_unit_zero (S := S512x1024) _ hz]
  simp only [View.readAt_eq_ld, h2.read_unread, h3.read_unread, View.ld_unit_zero (S := S2048x512) hz, View.ld_unit_zero (S := S2048x1024) hz]

theorem pay3_apply (v : Vec Ideal S512x128 .f32) (z : Fin 1) (a : Fin 512) (b : Fin 128) :
    k0_pay3 (k0_pay11 v) (ix3 z a b) = v (ix2 a b) := by pointwise [k0_pay3, k0_pay11]

theorem pay4_apply (v : Vec Ideal S512x128 .f32) (z : Fin 1) (a : Fin 512) (b : Fin 128) :
    k0_pay4 v (ix3 z a b) = v (ix2 a b) := by pointwise [k0_pay4]

theorem pay5_apply (v : Vec Ideal S512x128 .f32) (z : Fin 1) (a : Fin 512) (b : Fin 128) :
    k0_pay5 v (ix3 z a b) = v (ix2 a b) := by pointwise [k0_pay5]

theorem pay6_apply (v : Vec Ideal S512x128 .f32) (z : Fin 1) (a : Fin 512) (b : Fin 128) :
    k0_pay6 v (ix3 z a b) = v (ix2 a b) := by pointwise [k0_pay6]

theorem pay7_apply (v : Vec Ideal S512x128 .f32) (z : Fin 1) (a : Fin 512) (b : Fin 128) :
    k0_pay7 v (ix3 z a b) = v (ix2 a b) := by pointwise [k0_pay7]

theorem pay8_apply (v : Vec Ideal S512x128 .f32) (z : Fin 1) (a : Fin 512) (b : Fin 128) :
    k0_pay8 v (ix3 z a b) = v (ix2 a b) := by pointwise [k0_pay8]

theorem pay9_apply (v : Vec Ideal S512x128 .f32) (z : Fin 1) (a : Fin 512) (b : Fin 128) :
    k0_pay9 v (ix3 z a b) = v (ix2 a b) := by pointwise [k0_pay9]

theorem pay10_apply (v : Vec Ideal S512x128 .f32) (z : Fin 1) (a : Fin 512) (b : Fin 128) :
    k0_pay10 v (ix3 z a b) = v (ix2 a b) := by pointwise [k0_pay10]

/-- A box of the accumulator, read back after a store of the whole of it. -/
theorem read_back (v : Memref sig .tc .vmem S512x1024 .f32) (A : Vec Ideal S512x1024 .f32) (r : Rect S512x1024) :
    v.view.readCov [⟨Rect.unit (s := S512x1024) ![0, 0] S512x1024.size inb_S512x1024_S512x1024_0_0, A⟩] r.toLoadRect = View.ld A r := by
  rw [View.readCov_eq_canon', View.canon_unit_zero (S := S512x1024) hz]

theorem piece5 (v : Memref sig .tc .vmem S512x1024 .f32) (A : Vec Ideal S512x1024 .f32) (z : Fin 1) (a : Fin 512) (b : Fin 128) :
    k0_pay5 (v.view.readCov [⟨Rect.unit (s := S512x1024) ![0, 0] S512x1024.size inb_S512x1024_S512x1024_0_0, A⟩]
      (Rect.unit (s := S512x1024) ![0, 896] S512x128.size inb_S512x1024_S512x128_0_896).toLoadRect) (ix3 z a b)
      = A (ix2 a ⟨896 + b.val, by have hb := b.isLt; omega⟩) := by
  rw [read_back]
  refine (pay5_apply _ z a b).trans ?_
  refine congrArg A (funext fun d => Fin.ext ?_)
  match d with
  | ⟨0, _⟩ => show 0 + 1 * a.val = a.val; omega
  | ⟨1, _⟩ => show 896 + 1 * b.val = 896 + b.val; omega

theorem piece4 (v : Memref sig .tc .vmem S512x1024 .f32) (A : Vec Ideal S512x1024 .f32) (z : Fin 1) (a : Fin 512) (b : Fin 128) :
    k0_pay4 (v.view.readCov [⟨Rect.unit (s := S512x1024) ![0, 0] S512x1024.size inb_S512x1024_S512x1024_0_0, A⟩]
      (Rect.unit (s := S512x1024) ![0, 768] S512x128.size inb_S512x1024_S512x128_0_768).toLoadRect) (ix3 z a b)
      = A (ix2 a ⟨768 + b.val, by have hb := b.isLt; omega⟩) := by
  rw [read_back]
  refine (pay4_apply _ z a b).trans ?_
  refine congrArg A (funext fun d => Fin.ext ?_)
  match d with
  | ⟨0, _⟩ => show 0 + 1 * a.val = a.val; omega
  | ⟨1, _⟩ => show 768 + 1 * b.val = 768 + b.val; omega

theorem piece3 (v : Memref sig .tc .vmem S512x1024 .f32) (A : Vec Ideal S512x1024 .f32) (z : Fin 1) (a : Fin 512) (b : Fin 128) :
    k0_pay3 (k0_pay11 (v.view.readCov [⟨Rect.unit (s := S512x1024) ![0, 0] S512x1024.size inb_S512x1024_S512x1024_0_0, A⟩]
      (Rect.unit (s := S512x1024) ![0, 640] S512x128.size inb_S512x1024_S512x128_0_640).toLoadRect)) (ix3 z a b)
      = A (ix2 a ⟨640 + b.val, by have hb := b.isLt; omega⟩) := by
  rw [read_back]
  refine (pay3_apply _ z a b).trans ?_
  refine congrArg A (funext fun d => Fin.ext ?_)
  match d with
  | ⟨0, _⟩ => show 0 + 1 * a.val = a.val; omega
  | ⟨1, _⟩ => show 640 + 1 * b.val = 640 + b.val; omega

theorem piece10 (v : Memref sig .tc .vmem S512x1024 .f32) (A : Vec Ideal S512x1024 .f32) (z : Fin 1) (a : Fin 512) (b : Fin 128) :
    k0_pay10 (v.view.readCov [⟨Rect.unit (s := S512x1024) ![0, 0] S512x1024.size inb_S512x1024_S512x1024_0_0, A⟩]
      (Rect.unit (s := S512x1024) ![0, 512] S512x128.size inb_S512x1024_S512x128_0_512).toLoadRect) (ix3 z a b)
      = A (ix2 a ⟨512 + b.val, by have hb := b.isLt; omega⟩) := by
  rw [read_back]
  refine (pay10_apply _ z a b).trans ?_
  refine congrArg A (funext fun d => Fin.ext ?_)
  match d with
  | ⟨0, _⟩ => show 0 + 1 * a.val = a.val; omega
  | ⟨1, _⟩ => show 512 + 1 * b.val = 512 + b.val; omega

theorem piece9 (v : Memref sig .tc .vmem S512x1024 .f32) (A : Vec Ideal S512x1024 .f32) (z : Fin 1) (a : Fin 512) (b : Fin 128) :
    k0_pay9 (v.view.readCov [⟨Rect.unit (s := S512x1024) ![0, 0] S512x1024.size inb_S512x1024_S512x1024_0_0, A⟩]
      (Rect.unit (s := S512x1024) ![0, 384] S512x128.size inb_S512x1024_S512x128_0_384).toLoadRect) (ix3 z a b)
      = A (ix2 a ⟨384 + b.val, by have hb := b.isLt; omega⟩) := by
  rw [read_back]
  refine (pay9_apply _ z a b).trans ?_
  refine congrArg A (funext fun d => Fin.ext ?_)
  match d with
  | ⟨0, _⟩ => show 0 + 1 * a.val = a.val; omega
  | ⟨1, _⟩ => show 384 + 1 * b.val = 384 + b.val; omega

theorem piece8 (v : Memref sig .tc .vmem S512x1024 .f32) (A : Vec Ideal S512x1024 .f32) (z : Fin 1) (a : Fin 512) (b : Fin 128) :
    k0_pay8 (v.view.readCov [⟨Rect.unit (s := S512x1024) ![0, 0] S512x1024.size inb_S512x1024_S512x1024_0_0, A⟩]
      (Rect.unit (s := S512x1024) ![0, 256] S512x128.size inb_S512x1024_S512x128_0_256).toLoadRect) (ix3 z a b)
      = A (ix2 a ⟨256 + b.val, by have hb := b.isLt; omega⟩) := by
  rw [read_back]
  refine (pay8_apply _ z a b).trans ?_
  refine congrArg A (funext fun d => Fin.ext ?_)
  match d with
  | ⟨0, _⟩ => show 0 + 1 * a.val = a.val; omega
  | ⟨1, _⟩ => show 256 + 1 * b.val = 256 + b.val; omega

theorem piece7 (v : Memref sig .tc .vmem S512x1024 .f32) (A : Vec Ideal S512x1024 .f32) (z : Fin 1) (a : Fin 512) (b : Fin 128) :
    k0_pay7 (v.view.readCov [⟨Rect.unit (s := S512x1024) ![0, 0] S512x1024.size inb_S512x1024_S512x1024_0_0, A⟩]
      (Rect.unit (s := S512x1024) ![0, 128] S512x128.size inb_S512x1024_S512x128_0_128).toLoadRect) (ix3 z a b)
      = A (ix2 a ⟨128 + b.val, by have hb := b.isLt; omega⟩) := by
  rw [read_back]
  refine (pay7_apply _ z a b).trans ?_
  refine congrArg A (funext fun d => Fin.ext ?_)
  match d with
  | ⟨0, _⟩ => show 0 + 1 * a.val = a.val; omega
  | ⟨1, _⟩ => show 128 + 1 * b.val = 128 + b.val; omega

theorem piece6 (v : Memref sig .tc .vmem S512x1024 .f32) (A : Vec Ideal S512x1024 .f32) (z : Fin 1) (a : Fin 512) (b : Fin 128) :
    k0_pay6 (v.view.readCov [⟨Rect.unit (s := S512x1024) ![0, 0] S512x1024.size inb_S512x1024_S512x1024_0_0, A⟩]
      (Rect.unit (s := S512x1024) ![0, 0] S512x128.size inb_S512x1024_S512x128_0_0).toLoadRect) (ix3 z a b)
      = A (ix2 a ⟨0 + b.val, by have hb := b.isLt; omega⟩) := by
  rw [read_back]
  refine (pay6_apply _ z a b).trans ?_
  refine congrArg A (funext fun d => Fin.ext ?_)
  match d with
  | ⟨0, _⟩ => show 0 + 1 * a.val = a.val; omega
  | ⟨1, _⟩ => show 0 + 1 * b.val = 0 + b.val; omega

/-- Column `b` of group `u` of the result, as a column of the product. -/
abbrev wide (u : Fin 8) (b : Fin 128) : Fin 1024 := ⟨128 * u.val + b.val, by have hu := u.isLt; have hb := b.isLt; omega⟩

/-- The last point writes out what it finds with its chunk's product added, a group of columns at a time. -/
theorem out_last (hc0 : ¬cond0_0 i) (hc1 : cond0_1 i) (u : Fin 8) (a : Fin 512) (b : Fin 128) :
    out0_B_2 c i a2 h2 a3 h3 a4 h4 a5 h5 hc0 hc1 x0 x1 xs (ix3 u a b) = k0_pay2 x0 xs x1 (ix2 a (wide u b)) := by
  unfold out0_B_2
  rw [View.read_writes_eq_canon _ _ _ (cover0_B_2 c i a2 h2 a3 h3 a4 h4 a5 h5 hc0 hc1 x0 x1 xs)]
  refine View.canon_apply_of_pieces (Val := Elt Ideal)
    (fun i : S8x512x128.Idx => k0_pay2 x0 xs x1 (ix2 (i 1) (wide (i 0) (i 2)))) _ ?_ _ (cover0_B_2 c i a2 h2 a3 h3 a4 h4 a5 h5 hc0 hc1 x0 x1 xs _)
  unfold kernelRun0_B
  dsimp only
  sl_unfold_words
  simp only [View.readAt_eq_ld, h2.read_unread, h3.read_unread, h5.read_unread, View.ld_unit_zero (S := S2048x512) hz, View.ld_unit_zero (S := S2048x1024) hz, View.ld_unit_zero (S := S512x1024) hz]
  generalize k0_pay2 x0 xs x1 = A
  intro pc hpc
  rcases List.mem_cons.mp hpc with rfl | hpc
  · intro (x : S1x512x128.Idx)
    obtain ⟨z, a, b, rfl⟩ : ∃ (z : Fin 1) (a : Fin 512) (b : Fin 128), x = ix3 z a b := ⟨x 0, x 1, x 2, eq_ix3 x⟩
    have hz0 : z.val = 0 := by have := z.isLt; omega
    refine (piece5 a5 A z a b).trans ?_
    refine congrArg A (funext fun d => Fin.ext ?_)
    match d with
    | ⟨0, _⟩ => show a.val = 0 + 1 * a.val; omega
    | ⟨1, _⟩ => show 896 + b.val = 128 * (7 + 1 * z.val) + (0 + 1 * b.val); omega
  rcases List.mem_cons.mp hpc with rfl | hpc
  · intro (x : S1x512x128.Idx)
    obtain ⟨z, a, b, rfl⟩ : ∃ (z : Fin 1) (a : Fin 512) (b : Fin 128), x = ix3 z a b := ⟨x 0, x 1, x 2, eq_ix3 x⟩
    have hz0 : z.val = 0 := by have := z.isLt; omega
    refine (piece4 a5 A z a b).trans ?_
    refine congrArg A (funext fun d => Fin.ext ?_)
    match d with
    | ⟨0, _⟩ => show a.val = 0 + 1 * a.val; omega
    | ⟨1, _⟩ => show 768 + b.val = 128 * (6 + 1 * z.val) + (0 + 1 * b.val); omega
  rcases List.mem_cons.mp hpc with rfl | hpc
  · intro (x : S1x512x128.Idx)
    obtain ⟨z, a, b, rfl⟩ : ∃ (z : Fin 1) (a : Fin 512) (b : Fin 128), x = ix3 z a b := ⟨x 0, x 1, x 2, eq_ix3 x⟩
    have hz0 : z.val = 0 := by have := z.isLt; omega
    refine (piece3 a5 A z a b).trans ?_
    refine congrArg A (funext fun d => Fin.ext ?_)
    match d with
    | ⟨0, _⟩ => show a.val = 0 + 1 * a.val; omega
    | ⟨1, _⟩ => show 640 + b.val = 128 * (5 + 1 * z.val) + (0 + 1 * b.val); omega
  rcases List.mem_cons.mp hpc with rfl | hpc
  · intro (x : S1x512x128.Idx)
    obtain ⟨z, a, b, rfl⟩ : ∃ (z : Fin 1) (a : Fin 512) (b : Fin 128), x = ix3 z a b := ⟨x 0, x 1, x 2, eq_ix3 x⟩
    have hz0 : z.val = 0 := by have := z.isLt; omega
    refine (piece10 a5 A z a b).trans ?_
    refine congrArg A (funext fun d => Fin.ext ?_)
    match d with
    | ⟨0, _⟩ => show a.val = 0 + 1 * a.val; omega
    | ⟨1, _⟩ => show 512 + b.val = 128 * (4 + 1 * z.val) + (0 + 1 * b.val); omega
  rcases List.mem_cons.mp hpc with rfl | hpc
  · intro (x : S1x512x128.Idx)
    obtain ⟨z, a, b, rfl⟩ : ∃ (z : Fin 1) (a : Fin 512) (b : Fin 128), x = ix3 z a b := ⟨x 0, x 1, x 2, eq_ix3 x⟩
    have hz0 : z.val = 0 := by have := z.isLt; omega
    refine (piece9 a5 A z a b).trans ?_
    refine congrArg A (funext fun d => Fin.ext ?_)
    match d with
    | ⟨0, _⟩ => show a.val = 0 + 1 * a.val; omega
    | ⟨1, _⟩ => show 384 + b.val = 128 * (3 + 1 * z.val) + (0 + 1 * b.val); omega
  rcases List.mem_cons.mp hpc with rfl | hpc
  · intro (x : S1x512x128.Idx)
    obtain ⟨z, a, b, rfl⟩ : ∃ (z : Fin 1) (a : Fin 512) (b : Fin 128), x = ix3 z a b := ⟨x 0, x 1, x 2, eq_ix3 x⟩
    have hz0 : z.val = 0 := by have := z.isLt; omega
    refine (piece8 a5 A z a b).trans ?_
    refine congrArg A (funext fun d => Fin.ext ?_)
    match d with
    | ⟨0, _⟩ => show a.val = 0 + 1 * a.val; omega
    | ⟨1, _⟩ => show 256 + b.val = 128 * (2 + 1 * z.val) + (0 + 1 * b.val); omega
  rcases List.mem_cons.mp hpc with rfl | hpc
  · intro (x : S1x512x128.Idx)
    obtain ⟨z, a, b, rfl⟩ : ∃ (z : Fin 1) (a : Fin 512) (b : Fin 128), x = ix3 z a b := ⟨x 0, x 1, x 2, eq_ix3 x⟩
    have hz0 : z.val = 0 := by have := z.isLt; omega
    refine (piece7 a5 A z a b).trans ?_
    refine congrArg A (funext fun d => Fin.ext ?_)
    match d with
    | ⟨0, _⟩ => show a.val = 0 + 1 * a.val; omega
    | ⟨1, _⟩ => show 128 + b.val = 128 * (1 + 1 * z.val) + (0 + 1 * b.val); omega
  obtain rfl := List.mem_singleton.mp hpc
  · intro (x : S1x512x128.Idx)
    obtain ⟨z, a, b, rfl⟩ : ∃ (z : Fin 1) (a : Fin 512) (b : Fin 128), x = ix3 z a b := ⟨x 0, x 1, x 2, eq_ix3 x⟩
    have hz0 : z.val = 0 := by have := z.isLt; omega
    refine (piece6 a5 A z a b).trans ?_
    refine congrArg A (funext fun d => Fin.ext ?_)
    match d with
    | ⟨0, _⟩ => show a.val = 0 + 1 * a.val; omega
    | ⟨1, _⟩ => show 0 + b.val = 128 * (0 + 1 * z.val) + (0 + 1 * b.val); omega

end Cases

/-! ## The blocks -/

variable (m : (ℓ : Loc nD τ sig) → Buf (Elt Ideal) ℓ)

/-- Row `j` of point `t`'s chunk as a row of the whole array. -/
abbrev row (t : Fin cfg0.N) (j : Fin 2048) : Fin 4096 :=
  ⟨2048 * (t.val % 2) + j.val, by have ht : t.val < 2 := lt_of_lt_of_eq t.isLt N_0; have hj := j.isLt; omega⟩

/-- Column `k` of point `t`'s block of the left array as a column of the whole. -/
abbrev col (t : Fin cfg0.N) (k : Fin 512) : Fin 512 := k

/-- Where each block starts. -/
theorem start : ∀ t : Fin cfg0.N,
    (win0_0.index t 0 = t.val % 2 ∧ win0_0.index t 1 = 0)
    ∧ (win0_1.index t 0 = t.val % 2 ∧ win0_1.index t 1 = 0)
    ∧ (win0_2.index t 0 = 0 ∧ win0_2.index t 1 = 0 ∧ win0_2.index t 2 = 0) := by
  decide +kernel

theorem blk0 (c : Dev nD) (t : Fin cfg0.N) (j : Fin 2048) (k : Fin 512) :
    iblk m c 0 t (ix2 j k) = V m c main_arg0 (ix2 (row t j) (col t k)) := by
  show V m c main_arg0 ((win0_0.blk t).view.emb (ix2 j k)) = _
  refine congrArg (V m c main_arg0) (funext fun a => Fin.ext ?_)
  match a with
  | ⟨0, _⟩ =>
    show win0_0.index t 0 * 2048 + 1 * j.val = 2048 * (t.val % 2) + j.val
    rw [(start t).1.1]; omega
  | ⟨1, _⟩ =>
    show win0_0.index t 1 * 512 + 1 * k.val = k.val
    rw [(start t).1.2]; omega

theorem blk1 (c : Dev nD) (t : Fin cfg0.N) (j : Fin 2048) (k : Fin 1024) :
    iblk m c 1 t (ix2 j k) = V m c main_v0 (ix2 (row t j) k) := by
  show V m c main_v0 ((win0_1.blk t).view.emb (ix2 j k)) = _
  refine congrArg (V m c main_v0) (funext fun a => Fin.ext ?_)
  match a with
  | ⟨0, _⟩ =>
    show win0_1.index t 0 * 2048 + 1 * j.val = 2048 * (t.val % 2) + j.val
    rw [(start t).2.1.1]; omega
  | ⟨1, _⟩ =>
    show win0_1.index t 1 * 1024 + 1 * k.val = k.val
    rw [(start t).2.1.2]; omega

/-- An array read through the result's block at point `t`. -/
theorem read2 (A : Vec Ideal S8x512x128 .bf16) (t : Fin cfg0.N) (u : Fin 8) (a : Fin 512) (b : Fin 128) :
    ((win0_2.blk t).view.read (Elt Ideal) A : Vec Ideal S8x512x128 .bf16) (ix3 u a b) = A (ix3 u (col t a) b) := by
  show A ((win0_2.blk t).view.emb (ix3 u a b)) = _
  refine congrArg A (funext fun d => Fin.ext ?_)
  match d with
  | ⟨0, _⟩ =>
    show win0_2.index t 0 * 8 + 1 * u.val = u.val
    rw [(start t).2.2.1]; omega
  | ⟨1, _⟩ =>
    show win0_2.index t 1 * 512 + 1 * a.val = a.val
    rw [(start t).2.2.2.1]; omega
  | ⟨2, _⟩ =>
    show win0_2.index t 2 * 128 + 1 * b.val = b.val
    rw [(start t).2.2.2.2]; omega

/-! ## The accumulator over a run -/

variable (c : Dev nD)

/-- The left array, as the pipeline reads it. -/
abbrev w0 : Fin 4096 → Fin 512 → EReal := at2 (V m c main_arg0)
/-- The right array, as the pipeline reads it. -/
abbrev w1 : Fin 4096 → Fin 1024 → EReal := at2 (V m c main_v0)

/-- The row's term of the product's sum at a place of point `t`'s block. -/
abbrev term (t : Fin cfg0.N) (a : Fin 512) (b : Fin 1024) (j : Fin 4096) : EReal := w0 m c j (col t a) * w1 m c j b

/-- A chunk's product, as the chunk's part of the sum. -/
theorem chunk (t : Fin cfg0.N) (a : Fin 512) (b : Fin 1024) :
    tmm (at2 (iblk m c 0 t)) (at2 (iblk m c 1 t)) a b = ∑ j : Fin 2048, ext (term m c t a b) (2048 * (t.val % 2) + j.val) := by
  refine Finset.sum_congr rfl fun j _ => ?_
  have e0 : at2 (iblk m c 0 t) j a = w0 m c (row t j) (col t a) := blk0 m c t j a
  have e1 : at2 (iblk m c 1 t) j b = w1 m c (row t j) b := blk1 m c t j b
  show at2 (iblk m c 0 t) j a * at2 (iblk m c 1 t) j b = _
  rw [e0, e1]
  exact (ext_val (term m c t a b) (row t j)).symm

theorem term_prev (t s : Fin cfg0.N) (h : s.val / 2 = t.val / 2) (a : Fin 512) (b : Fin 1024) : term m c s a b = term m c t a b := by
  have e : col s a = col t a := rfl
  funext j
  show w0 m c j (col s a) * _ = _
  rw [e]

/-- After a run's first point the accumulator holds the first chunk's sum. -/
theorem scratch (t : Fin cfg0.N) (h : t.val % 2 = 0) (a : Fin 512) (b : Fin 1024) :
    (outsAt0 m c t.val t.isLt).2 (ix2 a b) = upTo (term m c t a b) 2048 (t.val % 2 + 1) := by
  rw [outsAt0_A m c t h (by omega)]
  dsimp only
  rw [scr_A]
  refine (pay2_apply _ _ _ a b).trans ?_
  rw [pay1_apply, chunk, h, upTo_succ, upTo_zero]

/-- The result: the product over all rows, its columns in groups of 128. -/
def res2 : Vec Ideal S8x512x128 .bf16 := fun i =>
  tmm (w0 m c) (w1 m c) (i 1) (wide (i 0) (i 2))

/-- A run's last point writes out its block of the result. -/
theorem flushed2 (t : Fin cfg0.N) (hf : (cfg0.win 2).flush t = true) :
    (dats m 0 c).flushed 2 t = (win0_2.blk t).view.read (Elt Ideal) (res2 m c) := by
  have h : t.val % 2 = 1 := (flush0_2 t).mp hf
  rw [Value.flushed2_B m c t (by omega) h]
  funext (x : S8x512x128.Idx)
  obtain ⟨u, a, b, rfl⟩ : ∃ (u : Fin 8) (a : Fin 512) (b : Fin 128), x = ix3 u a b := ⟨x 0, x 1, x 2, eq_ix3 x⟩
  refine Eq.trans ?_ (read2 _ t u a b).symm
  have hs : t.val - 1 < cfg0.N := Nat.lt_of_le_of_lt (Nat.sub_le _ _) t.isLt
  have e := scratch m c ⟨t.val - 1, hs⟩ (by show (t.val - 1) % 2 = 0; omega) a (wide u b)
  dsimp only at e
  show out0_B_2 c (grid0.coords t) _ _ _ _ _ _ _ _ _ _ (iblk m c 0 t) (iblk m c 1 t) (outsAt0 m c (t.val - 1) _).2 (ix3 u a b) = _
  rw [out_last]
  refine (pay2_apply _ _ _ a (wide u b)).trans ?_
  rw [e, chunk, term_prev m c t ⟨t.val - 1, hs⟩ (by show (t.val - 1) / 2 = t.val / 2; omega), h, show (t.val - 1) % 2 + 1 = 1 from by omega, ← upTo_succ, upTo_full _ _ _ (by norm_num)]
  rfl

/-- The whole run: the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks m ρ)
  obtain ⟨h2, hk⟩ := h c
  refine ⟨h2.trans ?_, hk⟩
  exact (dats m 0 c).arrAt_eq_of_cover 2 (res2 m c) (flushed2 m c) fun i => (Value.covered_iff2 i).2 (by
    have h0 : (i 0).val < 8 := (i 0).isLt
    have h1 : (i 1).val < 512 := (i 1).isLt
    have h2 : (i 2).val < 128 := (i 2).isLt
    omega)

end Cert.Kernel5Ideal.DwBranch

end
-- ==== Proof.DwBranch.lean ====
/-
  A branch weight's gradient after the run, met with the reference's term.
-/
module

public import proofs.«01_k».proof.Defs
public import proofs.«01_k».proof.Proof.DwBranchBlocks
public import proofs.«01_k».proof.Proof.Gen.Reference5Ideal.Run
public import Idealize.ShloMosaic.Lib.Quiescent

@[expose] public section

set_option maxRecDepth 16384

noncomputable section

namespace Cert.Kernel5Ideal.DwBranch

open Cert.Kernel5Ideal Cert.Kernel5Ideal.Gen Cert.Coords Idealize.ShloMosaic Idealize.ShloMosaic.TcCoe Idealize.SL.Sem
open Idealize.ShloMosaic.Pipeline (Dat)

section Arrays

variable (m : (ℓ : Loc nD τ sig) → Buf (Elt Ideal) ℓ) (c : Dev nD)

/-- The arguments: the product's input, its weight, the gradient at its output. -/
abbrev a0 : FVec Ideal S4096x512 .f32 := m ((c : Thread nD τ).loc main_arg0)
abbrev a1 : FVec Ideal S512x1024 .f32 := m ((c : Thread nD τ).loc main_arg1)
abbrev a2 : FVec Ideal S4096x1024 .f32 := m ((c : Thread nD τ).loc main_arg2)

theorem w0_eq : w0 m c = at2 (a0 m c) := congrArg at2 (V_main_arg0 m c)

theorem w1_eq : w1 m c = at2 (a2 m c) := by
  funext r k
  have h : (V m c main_v0 : FVec Ideal S4096x1024 .bf16) = truncf .bf16 (a2 m c) bitsLt_bf16_f32 := by
    show StableHlo.after hostOps0 (fun b => m (c, b)) _ = _
    unfold hostOps0
    after_results_simp <;> rfl
  show (V m c main_v0 : FVec Ideal S4096x1024 .bf16) (ix2 r k) = _
  rw [h]
  pointwise []

end Arrays

end Cert.Kernel5Ideal.DwBranch

namespace Cert.Reference5Ideal.DwBranch

open Cert.Reference5Ideal Cert.Reference5Ideal.Gen Cert.Coords Idealize.ShloMosaic Idealize.ShloMosaic.TcCoe Idealize.SL.Sem

/-- The reference's term. -/
def gradT (x0 : FVec Ideal S4096x512 .f32) (x2 : FVec Ideal S4096x1024 .f32) : FVec Ideal S8x512x128 .bf16 :=
  truncf .bf16 (transpose S8x512x128 [1, 0, 2] (shapeCast _ (transpose S512x1024 [1, 0] (Host.dotGeneral dot_S4096x1024_S4096x512_S1024x512_0_0_1_1_n_n none x2 x0) transposes_S1024x512_S512x1024_1_0) shapeCasts_S512x1024_S512x8x128) transposes_S512x8x128_S8x512x128_1_0_2) bitsLt_bf16_f32

theorem gradT_apply (x0 : FVec Ideal S4096x512 .f32) (x2 : FVec Ideal S4096x1024 .f32)
    (u : Fin 8) (a : Fin 512) (b : Fin 128) :
    gradT x0 x2 (ix3 u a b) = tmm (at2 x0) (at2 x2) a (Cert.Kernel5Ideal.DwBranch.wide u b) := by
  unfold gradT
  pointwise []
  refine Finset.sum_congr rfl fun x _ => ?_
  rw [mul_comm]
  exact congrArg (fun r => at2 x0 x a * at2 x2 x r) (Fin.ext (by show u.val * 128 + b.val = 128 * u.val + b.val; omega))

variable (m : (ℓ : Loc Cert.Kernel5Ideal.nD Cert.Kernel5Ideal.τ Cert.Kernel5Ideal.sig) → Buf (Elt Ideal) ℓ) (c : Dev Cert.Kernel5Ideal.nD)

open Cert.Kernel5Ideal.DwBranch

theorem meet2 : gradT (a0 m c) (a2 m c) = res2 m c := by
  funext (i : S8x512x128.Idx)
  obtain ⟨u, a, b, rfl⟩ : ∃ (u : Fin 8) (a : Fin 512) (b : Fin 128), i = ix3 u a b := ⟨i 0, i 1, i 2, eq_ix3 i⟩
  refine (gradT_apply _ _ u a b).trans ?_
  rw [← w0_eq, ← w1_eq]
  rfl

end Cert.Reference5Ideal.DwBranch

namespace Cert.Proof.DwBranchClaims

open Idealize.ShloMosaic Idealize.ShloMosaic.TcCoe Idealize.SL.Sem
open Cert.Kernel5Ideal.DwBranch Cert.Reference5Ideal.DwBranch

/-- The kernel and the reference leave the same arrays. -/
theorem algebraic : Cert.algebraic_Kernel5Ideal_Reference5Ideal := by
  intro m ρ m' ρ' _ hag
  refine ⟨fun c => res2 m c, run m ρ, ?_⟩
  refine (θ_run Cert.Reference5Ideal.defs _ _).mono (fun r h c => ?_) (Cert.Reference5Ideal.Value.run (F := Ideal) m' ρ')
  obtain ⟨e0, e1, e2⟩ := hag c
  obtain ⟨h2, hk⟩ := h c
  refine ⟨h2.trans ?_, hk⟩
  · rw [e0, e2]; exact meet2 m c

/-- The reference leaves its arguments as they were and no signal raised. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Proof.DwBranchClaims

end
-- ==== Proof.DwInBlocks.lean ====
/-
  The input projection's weight gradient, read by blocks and accumulated. The eight branch gradients' columns lie side
  by side in one block of 4352 columns; the grid has sixteen points, eight for each half of those columns. Point t takes
  the rows 512 (t mod 8) on, adds the products of four groups of 544 columns, transposed, with the same rows of the
  normalised input to the accumulator, and the last point of a run writes the accumulator out.
-/
module

public import proofs.«01_k».proof.Proof.Gen.Kernel6Ideal.Value
public import proofs.«01_k».proof.Proof.Chunks
public import Idealize.ShloMosaic.Lib.Tactic

@[expose] public section

set_option maxRecDepth 16384

noncomputable section

namespace Cert.Kernel6Ideal.DwIn

open Cert.Kernel6Ideal Cert.Kernel6Ideal.Gen Cert.Coords Cert.Chunks
open Idealize.ShloMosaic Idealize.ShloMosaic.TcCoe Idealize.SL.Sem
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-! ## The columns side by side -/

/-- Seven arrays' columns, side by side. -/
def lay {n : Nat} (p0 p1 p2 p3 : Fin n → Fin 512 → EReal) (p4 p5 : Fin n → Fin 128 → EReal) (p6 : Fin n → Fin 2048 → EReal)
    (r : Fin n) (k : Fin 4352) : EReal :=
  if h0 : k.val < 512 then p0 r ⟨k.val, h0⟩
  else if h1 : k.val < 1024 then p1 r ⟨k.val - 512, by omega⟩
  else if h2 : k.val < 1536 then p2 r ⟨k.val - 1024, by omega⟩
  else if h3 : k.val < 2048 then p3 r ⟨k.val - 1536, by omega⟩
  else if h4 : k.val < 2176 then p4 r ⟨k.val - 2048, by omega⟩
  else if h5 : k.val < 2304 then p5 r ⟨k.val - 2176, by omega⟩
  else p6 r ⟨k.val - 2304, by omega⟩

/-- The block of all columns, from the seven blocks. -/
def cat (x0 x1 x2 x3 : Vec Ideal S512x512 .bf16) (x4 x5 : Vec Ideal S512x128 .bf16) (x6 : Vec Ideal S512x2048 .bf16) :
    Vec Ideal S512x4352 .bf16 :=
  fun i => lay (at2 x0) (at2 x1) (at2 x2) (at2 x3) (at2 x4) (at2 x5) (at2 x6) (i 0) (i 1)

/-- The seven stores that lay the blocks side by side, the newest first. -/
abbrev stored (x0 x1 x2 x3 : Vec Ideal S512x512 .bf16) (x4 x5 : Vec Ideal S512x128 .bf16) (x6 : Vec Ideal S512x2048 .bf16) :
    List (View.Piece (Elt Ideal) S512x4352 .bf16) :=
  [⟨Rect.unit (s := S512x4352) ![0, 2304] S512x2048.size inb_S512x4352_S512x2048_0_2304, k0_pay2 x6⟩,
   ⟨Rect.unit (s := S512x4352) ![0, 2176] S512x128.size inb_S512x4352_S512x128_0_2176, k0_pay1 x5⟩,
   ⟨Rect.unit (s := S512x4352) ![0, 2048] S512x128.size inb_S512x4352_S512x128_0_2048, k0_pay20 x4⟩,
   ⟨Rect.unit (s := S512x4352) ![0, 1536] S512x512.size inb_S512x4352_S512x512_0_1536, k0_pay19 x3⟩,
   ⟨Rect.unit (s := S512x4352) ![0, 1024] S512x512.size inb_S512x4352_S512x512_0_1024, k0_pay18 x2⟩,
   ⟨Rect.unit (s := S512x4352) ![0, 512] S512x512.size inb_S512x4352_S512x512_0_512, k0_pay17 x1⟩,
   ⟨Rect.unit (s := S512x4352) ![0, 0] S512x512.size inb_S512x4352_S512x512_0_0, k0_pay16 x0⟩]

theorem pay16_eq (v : Vec Ideal S512x512 .bf16) : k0_pay16 v = v := by
  funext (i : S512x512.Idx)
  obtain ⟨a, b, rfl⟩ : ∃ (a : Fin 512) (b : Fin 512), i = ix2 a b := ⟨i 0, i 1, eq_ix2 i⟩
  pointwise [k0_pay16]

theorem pay17_eq (v : Vec Ideal S512x512 .bf16) : k0_pay17 v = v := by
  funext (i : S512x512.Idx)
  obtain ⟨a, b, rfl⟩ : ∃ (a : Fin 512) (b : Fin 512), i = ix2 a b := ⟨i 0, i 1, eq_ix2 i⟩
  pointwise [k0_pay17]

theorem pay18_eq (v : Vec Ideal S512x512 .bf16) : k0_pay18 v = v := by
  funext (i : S512x512.Idx)
  obtain ⟨a, b, rfl⟩ : ∃ (a : Fin 512) (b : Fin 512), i = ix2 a b := ⟨i 0, i 1, eq_ix2 i⟩
  pointwise [k0_pay18]

theorem pay19_eq (v : Vec Ideal S512x512 .bf16) : k0_pay19 v = v := by
  funext (i : S512x512.Idx)
  obtain ⟨a, b, rfl⟩ : ∃ (a : Fin 512) (b : Fin 512), i = ix2 a b := ⟨i 0, i 1, eq_ix2 i⟩
  pointwise [k0_pay19]

theorem pay20_eq (v : Vec Ideal S512x128 .bf16) : k0_pay20 v = v := by
  funext (i : S512x128.Idx)
  obtain ⟨a, b, rfl⟩ : ∃ (a : Fin 512) (b : Fin 128), i = ix2 a b := ⟨i 0, i 1, eq_ix2 i⟩
  pointwise [k0_pay20]

theorem pay1_eq (v : Vec Ideal S512x128 .bf16) : k0_pay1 v = v := by
  funext (i : S512x128.Idx)
  obtain ⟨a, b, rfl⟩ : ∃ (a : Fin 512) (b : Fin 128), i = ix2 a b := ⟨i 0, i 1, eq_ix2 i⟩
  pointwise [k0_pay1]

theorem pay2_eq (v : Vec Ideal S512x2048 .bf16) : k0_pay2 v = v := by
  funext (i : S512x2048.Idx)
  obtain ⟨a, b, rfl⟩ : ∃ (a : Fin 512) (b : Fin 2048), i = ix2 a b := ⟨i 0, i 1, eq_ix2 i⟩
  pointwise [k0_pay2]

theorem in_cols {J : Nat} (o : Nat) (w : ∀ a, (![0, o] : Fin 2 → Nat) a + (![512, J] : Fin 2 → Nat) a ≤ S512x4352.size a) (y : S512x4352.Idx)
    (h1 : o ≤ (y 1).val) (h2 : (y 1).val < o + J) : y ∈ (Rect.unit (s := S512x4352) ![0, o] ![512, J] w).set :=
  (Rect.mem_set_unit (s := S512x4352) (off := ![0, o]) (size := ![512, J]) (inb := w)).mpr fun a => by
    have hr : (y 0).val < 512 := (y 0).isLt
    match a with
    | ⟨0, _⟩ => exact ⟨Nat.zero_le _, by show (y 0).val < 0 + 512; omega⟩
    | ⟨1, _⟩ => exact ⟨h1, h2⟩

theorem stored_cover (x0 x1 x2 x3 : Vec Ideal S512x512 .bf16) (x4 x5 : Vec Ideal S512x128 .bf16) (x6 : Vec Ideal S512x2048 .bf16)
    (y : S512x4352.Idx) : ∃ pc ∈ stored x0 x1 x2 x3 x4 x5 x6, y ∈ pc.1.set := by
  have hk : (y 1).val < 4352 := (y 1).isLt
  by_cases g6 : 2304 ≤ (y 1).val
  · exact ⟨_, .head _, in_cols 2304 inb_S512x4352_S512x2048_0_2304 y (by omega) (by omega)⟩
  by_cases g5 : 2176 ≤ (y 1).val
  · exact ⟨_, .tail _ (.head _), in_cols 2176 inb_S512x4352_S512x128_0_2176 y (by omega) (by omega)⟩
  by_cases g4 : 2048 ≤ (y 1).val
  · exact ⟨_, .tail _ (.tail _ (.head _)), in_cols 2048 inb_S512x4352_S512x128_0_2048 y (by omega) (by omega)⟩
  by_cases g3 : 1536 ≤ (y 1).val
  · exact ⟨_, .tail _ (.tail _ (.tail _ (.head _))), in_cols 1536 inb_S512x4352_S512x512_0_1536 y (by omega) (by omega)⟩
  by_cases g2 : 1024 ≤ (y 1).val
  · exact ⟨_, .tail _ (.tail _ (.tail _ (.tail _ (.head _)))), in_cols 1024 inb_S512x4352_S512x512_0_1024 y (by omega) (by omega)⟩
  by_cases g1 : 512 ≤ (y 1).val
  · exact ⟨_, .tail _ (.tail _ (.tail _ (.tail _ (.tail _ (.head _))))), in_cols 512 inb_S512x4352_S512x512_0_512 y (by omega) (by omega)⟩
  exact ⟨_, .tail _ (.tail _ (.tail _ (.tail _ (.tail _ (.tail _ (.head _)))))), in_cols 0 inb_S512x4352_S512x512_0_0 y (by omega) (by omega)⟩

theorem piece (x0 x1 x2 x3 : Vec Ideal S512x512 .bf16) (x4 x5 : Vec Ideal S512x128 .bf16) (x6 : Vec Ideal S512x2048 .bf16) {J : Nat}
    (x : Vec Ideal (⟨2, ![512, J]⟩ : Shape) .bf16) (o : Nat) (w : ∀ a, (![0, o] : Fin 2 → Nat) a + (![512, J] : Fin 2 → Nat) a ≤ S512x4352.size a)
    (e : ∀ (r : Fin 512) (b : Fin J) (q : Fin 4352), q.val = o + b.val → x (ix2 r b) = lay (at2 x0) (at2 x1) (at2 x2) (at2 x3) (at2 x4) (at2 x5) (at2 x6) r q)
    (y : (⟨2, ![512, J]⟩ : Shape).Idx) : x y = cat x0 x1 x2 x3 x4 x5 x6 ((Rect.unit (s := S512x4352) ![0, o] ![512, J] w).emb y) := by
  obtain ⟨a, b, rfl⟩ : ∃ (a : Fin 512) (b : Fin J), y = ix2 a b := ⟨y 0, y 1, eq_ix2 y⟩
  refine (e a b _ ?_).trans (congrArg (fun r => lay (at2 x0) (at2 x1) (at2 x2) (at2 x3) (at2 x4) (at2 x5) (at2 x6) r _) (Fin.ext ?_))
  · show o + 1 * b.val = o + b.val; omega
  · show a.val = 0 + 1 * a.val; omega

/-- What the seven stores leave. -/
theorem canon_stored (x0 x1 x2 x3 : Vec Ideal S512x512 .bf16) (x4 x5 : Vec Ideal S512x128 .bf16) (x6 : Vec Ideal S512x2048 .bf16) :
    View.canon (stored x0 x1 x2 x3 x4 x5 x6) = cat x0 x1 x2 x3 x4 x5 x6 := by
  funext y
  refine View.canon_apply_of_pieces (Val := Elt Ideal) (cat x0 x1 x2 x3 x4 x5 x6) _ ?_ y (stored_cover x0 x1 x2 x3 x4 x5 x6 y)
  intro pc hpc
  rcases List.mem_cons.mp hpc with rfl | hpc
  · exact piece x0 x1 x2 x3 x4 x5 x6 (k0_pay2 x6) 2304 inb_S512x4352_S512x2048_0_2304 fun r b q hq => by
      have hb := b.isLt
      rw [pay2_eq]
      unfold lay
      iterate 6 rw [dif_neg (by omega)]
      exact congrArg (fun w => x6 (ix2 r w)) (Fin.ext (by show b.val = q.val - 2304; omega))
  rcases List.mem_cons.mp hpc with rfl | hpc
  · exact piece x0 x1 x2 x3 x4 x5 x6 (k0_pay1 x5) 2176 inb_S512x4352_S512x128_0_2176 fun r b q hq => by
      have hb := b.isLt
      rw [pay1_eq]
      unfold lay
      iterate 5 rw [dif_neg (by omega)]
      rw [dif_pos (by omega)]
      exact congrArg (fun w => x5 (ix2 r w)) (Fin.ext (by show b.val = q.val - 2176; omega))
  rcases List.mem_cons.mp hpc with rfl | hpc
  · exact piece x0 x1 x2 x3 x4 x5 x6 (k0_pay20 x4) 2048 inb_S512x4352_S512x128_0_2048 fun r b q hq => by
      have hb := b.isLt
      rw [pay20_eq]
      unfold lay
      iterate 4 rw [dif_neg (by omega)]
      rw [dif_pos (by omega)]
      exact congrArg (fun w => x4 (ix2 r w)) (Fin.ext (by show b.val = q.val - 2048; omega))
  rcases List.mem_cons.mp hpc with rfl | hpc
  · exact piece x0 x1 x2 x3 x4 x5 x6 (k0_pay19 x3) 1536 inb_S512x4352_S512x512_0_1536 fun r b q hq => by
      have hb := b.isLt
      rw [pay19_eq]
      unfold lay
      iterate 3 rw [dif_neg (by omega)]
      rw [dif_pos (by omega)]
      exact congrArg (fun w => x3 (ix2 r w)) (Fin.ext (by show b.val = q.val - 1536; omega))
  rcases List.mem_cons.mp hpc with rfl | hpc
  · exact piece x0 x1 x2 x3 x4 x5 x6 (k0_pay18 x2) 1024 inb_S512x4352_S512x512_0_1024 fun r b q hq => by
      have hb := b.isLt
      rw [pay18_eq]
      unfold lay
      iterate 2 rw [dif_neg (by omega)]
      rw [dif_pos (by omega)]
      exact congrArg (fun w => x2 (ix2 r w)) (Fin.ext (by show b.val = q.val - 1024; omega))
  rcases List.mem_cons.mp hpc with rfl | hpc
  · exact piece x0 x1 x2 x3 x4 x5 x6 (k0_pay17 x1) 512 inb_S512x4352_S512x512_0_512 fun r b q hq => by
      have hb := b.isLt
      rw [pay17_eq]
      unfold lay
      iterate 1 rw [dif_neg (by omega)]
      rw [dif_pos (by omega)]
      exact congrArg (fun w => x1 (ix2 r w)) (Fin.ext (by show b.val = q.val - 512; omega))
  obtain rfl := List.mem_singleton.mp hpc
  · exact piece x0 x1 x2 x3 x4 x5 x6 (k0_pay16 x0) 0 inb_S512x4352_S512x512_0_0 fun r b q hq => by
      have hb := b.isLt
      rw [pay16_eq]
      unfold lay
      rw [dif_pos (by omega)]
      exact congrArg (fun w => x0 (ix2 r w)) (Fin.ext (by show b.val = q.val - 0; omega))

/-- A box of columns of the block laid side by side. -/
theorem read_cat (v : Memref sig .tc .vmem S512x4352 .bf16) (x0 x1 x2 x3 : Vec Ideal S512x512 .bf16) (x4 x5 : Vec Ideal S512x128 .bf16)
    (x6 : Vec Ideal S512x2048 .bf16) (r : Rect S512x4352) :
    v.view.readCov (stored x0 x1 x2 x3 x4 x5 x6) r.toLoadRect = View.ld (cat x0 x1 x2 x3 x4 x5 x6) r := by
  rw [View.readCov_eq_canon', canon_stored]

/-! ## The accumulator's four groups -/

/-- Group `n`. -/
abbrev gbox (n : Nat) (w : ∀ a, (![n, 0, 0] : Fin 3 → Nat) a + S1x544x1024.size a ≤ S4x544x1024.size a) : Rect S4x544x1024 := Rect.unit (s := S4x544x1024) ![n, 0, 0] S1x544x1024.size w

theorem at_group (n : Nat) (hn : n < 4) (w : ∀ a, (![n, 0, 0] : Fin 3 → Nat) a + S1x544x1024.size a ≤ S4x544x1024.size a) (a : Fin 544) (b : Fin 1024) :
    (ix3 (⟨n, hn⟩ : Fin 4) a b : S4x544x1024.Idx) = (gbox n w).emb (ix3 (0 : Fin 1) a b) := by
  refine funext fun d => Fin.ext ?_
  match d with
  | ⟨0, _⟩ => show n = n + 1 * 0; omega
  | ⟨1, _⟩ => show a.val = 0 + 1 * a.val; omega
  | ⟨2, _⟩ => show b.val = 0 + 1 * b.val; omega

theorem top (n : Nat) (hn : n < 4) (w : ∀ a, (![n, 0, 0] : Fin 3 → Nat) a + S1x544x1024.size a ≤ S4x544x1024.size a) (A : Vec Ideal S1x544x1024 .f32) (L : List (View.Piece (Elt Ideal) S4x544x1024 .f32)) (a : Fin 544) (b : Fin 1024) :
    View.canon (⟨gbox n w, A⟩ :: L) (ix3 (⟨n, hn⟩ : Fin 4) a b) = A (ix3 0 a b) := by
  rw [at_group n hn w]
  exact View.canon_cons_emb _ _ _ _

theorem skip (n : Nat) (w : ∀ a, (![n, 0, 0] : Fin 3 → Nat) a + S1x544x1024.size a ≤ S4x544x1024.size a) (A : Vec Ideal S1x544x1024 .f32) (L : List (View.Piece (Elt Ideal) S4x544x1024 .f32)) (g : Fin 4) (hg : g.val ≠ n)
    (a : Fin 544) (b : Fin 1024) : View.canon (⟨gbox n w, A⟩ :: L) (ix3 g a b) = View.canon L (ix3 g a b) := by
  refine View.canon_cons_of_not_mem _ _ fun h => ?_
  have h0 := (Rect.mem_set_unit (s := S4x544x1024) (off := ![n, 0, 0]) (size := S1x544x1024.size) (inb := w)).mp h (0 : Fin 3)
  have h1 : n ≤ g.val := h0.1
  have h2 : g.val < n + 1 := h0.2
  omega

/-- Group `n` of what the accumulator was stored as, read back. -/
theorem read_group (n : Nat) (hn : n < 4) (w : ∀ a, (![n, 0, 0] : Fin 3 → Nat) a + S1x544x1024.size a ≤ S4x544x1024.size a) (v : Memref sig .tc .vmem S4x544x1024 .f32) (L : List (View.Piece (Elt Ideal) S4x544x1024 .f32)) (a : Fin 544) (b : Fin 1024) :
    v.view.readCov L (gbox n w).toLoadRect (ix3 0 a b) = View.canon L (ix3 (⟨n, hn⟩ : Fin 4) a b) := by
  rw [View.readCov_eq_canon', at_group n hn w]
  rfl

/-- Group `n` of what the accumulator holds. -/
theorem ld_group (n : Nat) (hn : n < 4) (w : ∀ a, (![n, 0, 0] : Fin 3 → Nat) a + S1x544x1024.size a ≤ S4x544x1024.size a) (xs : Vec Ideal S4x544x1024 .f32) (a : Fin 544) (b : Fin 1024) :
    View.ld xs (gbox n w) (ix3 0 a b) = xs (ix3 (⟨n, hn⟩ : Fin 4) a b) := by
  rw [at_group n hn w]
  rfl

theorem zeroed (g : Fin 4) (a : Fin 544) (b : Fin 1024) : View.canon (Val := Elt Ideal) [(⟨Rect.unit (s := S4x544x1024) ![0, 0, 0] S4x544x1024.size inb_S4x544x1024_S4x544x1024_0_0_0, k0_pay15 (F := Ideal)⟩ : View.Piece (Elt Ideal) S4x544x1024 .f32)] (ix3 g a b) = 0 := by
  rw [View.canon_unit_zero (S := S4x544x1024) hz3]
  pointwise [k0_pay15]

/-- The whole of what the accumulator was stored as, read back. -/
theorem read_whole (v : Memref sig .tc .vmem S4x544x1024 .f32) (L : List (View.Piece (Elt Ideal) S4x544x1024 .f32)) :
    v.view.readCov L (Rect.unit (s := S4x544x1024) ![0, 0, 0] S4x544x1024.size inb_S4x544x1024_S4x544x1024_0_0_0).toLoadRect = View.canon L := by
  rw [View.readCov_eq_canon']
  exact View.ld_unit_zero (S := S4x544x1024) hz3 inb_S4x544x1024_S4x544x1024_0_0_0 (View.canon L)

/-! ## The products -/

theorem pay3_eq (v : Vec Ideal S512x1024 .bf16) : k0_pay3 v = v := by
  funext (i : S512x1024.Idx)
  obtain ⟨a, b, rfl⟩ : ∃ (a : Fin 512) (b : Fin 1024), i = ix2 a b := ⟨i 0, i 1, eq_ix2 i⟩
  pointwise [k0_pay3]

theorem pay6_eq (v : Vec Ideal S4x544x1024 .f32) (g : Fin 4) (a : Fin 544) (b : Fin 1024) : k0_pay6 v (ix3 g a b) = v (ix3 g a b) := by
  pointwise [k0_pay6]

theorem pay7_apply (h : Vec Ideal S512x1024 .bf16) (v : Vec Ideal S1x544x1024 .f32) (w : Vec Ideal S512x544 .bf16) (a : Fin 544) (b : Fin 1024) :
    k0_pay7 h v w (ix3 0 a b) = v (ix3 0 a b) + tmm (at2 w) (at2 h) a b := by
  pointwise [k0_pay7, tmm]

theorem pay8_apply (h : Vec Ideal S512x1024 .bf16) (v : Vec Ideal S1x544x1024 .f32) (w : Vec Ideal S512x544 .bf16) (a : Fin 544) (b : Fin 1024) :
    k0_pay8 h v w (ix3 0 a b) = v (ix3 0 a b) + tmm (at2 w) (at2 h) a b := by
  pointwise [k0_pay8, tmm]

theorem pay9_apply (h : Vec Ideal S512x1024 .bf16) (v : Vec Ideal S1x544x1024 .f32) (w : Vec Ideal S512x544 .bf16) (a : Fin 544) (b : Fin 1024) :
    k0_pay9 h v w (ix3 0 a b) = v (ix3 0 a b) + tmm (at2 w) (at2 h) a b := by
  pointwise [k0_pay9, tmm]

theorem pay11_apply (h : Vec Ideal S512x1024 .bf16) (v : Vec Ideal S1x544x1024 .f32) (w : Vec Ideal S512x544 .bf16) (a : Fin 544) (b : Fin 1024) :
    k0_pay11 h v w (ix3 0 a b) = v (ix3 0 a b) + tmm (at2 w) (at2 h) a b := by
  pointwise [k0_pay11, tmm]

theorem pay12_apply (h : Vec Ideal S512x1024 .bf16) (v : Vec Ideal S1x544x1024 .f32) (w : Vec Ideal S512x544 .bf16) (a : Fin 544) (b : Fin 1024) :
    k0_pay12 h v w (ix3 0 a b) = v (ix3 0 a b) + tmm (at2 w) (at2 h) a b := by
  pointwise [k0_pay12, tmm]

theorem pay13_apply (h : Vec Ideal S512x1024 .bf16) (v : Vec Ideal S1x544x1024 .f32) (w : Vec Ideal S512x544 .bf16) (a : Fin 544) (b : Fin 1024) :
    k0_pay13 h v w (ix3 0 a b) = v (ix3 0 a b) + tmm (at2 w) (at2 h) a b := by
  pointwise [k0_pay13, tmm]

theorem pay4_apply (h : Vec Ideal S512x1024 .bf16) (v : Vec Ideal S1x544x1024 .f32) (w : Vec Ideal S512x544 .bf16) (a : Fin 544) (b : Fin 1024) :
    k0_pay4 h (k0_pay10 v) w (ix3 0 a b) = v (ix3 0 a b) + tmm (at2 w) (at2 h) a b := by
  pointwise [k0_pay4, k0_pay10, k0_pay3, tmm]

theorem pay5_apply (h : Vec Ideal S512x1024 .bf16) (v : Vec Ideal S1x544x1024 .f32) (w : Vec Ideal S512x544 .bf16) (a : Fin 544) (b : Fin 1024) :
    k0_pay5 h (k0_pay14 v) w (ix3 0 a b) = v (ix3 0 a b) + tmm (at2 w) (at2 h) a b := by
  pointwise [k0_pay5, k0_pay14, k0_pay3, tmm]

/-- Column `a` of group `g` of half `p`, as a column of the block laid side by side. -/
abbrev place (p : Nat) (hp : p < 2) (g : Fin 4) (a : Fin 544) : Fin 4352 :=
  ⟨2176 * p + 544 * g.val + a.val, by have hg := g.isLt; have ha := a.isLt; omega⟩

theorem box (p : Nat) (hp : p < 2) (g : Fin 4) (o : Nat) (ho : o = 2176 * p + 544 * g.val) (w : ∀ a, (![0, o] : Fin 2 → Nat) a + S512x544.size a ≤ S512x4352.size a)
    (X : Vec Ideal S512x4352 .bf16) (h : Vec Ideal S512x1024 .bf16) (a : Fin 544) (b : Fin 1024) :
    tmm (at2 (View.ld X (Rect.unit (s := S512x4352) ![0, o] S512x544.size w) : Vec Ideal S512x544 .bf16)) (at2 h) a b
      = tmm (at2 X) (at2 h) (place p hp g a) b := by
  subst ho
  refine Finset.sum_congr rfl fun j _ => ?_
  refine congrArg (fun w => X w * at2 h j b) (funext fun d => Fin.ext ?_)
  match d with
  | ⟨0, _⟩ => show 0 + 1 * j.val = j.val; omega
  | ⟨1, _⟩ => show 2176 * p + 544 * g.val + 1 * a.val = 2176 * p + 544 * g.val + a.val; omega

/-- The accumulator after its four groups are stored, the newest first. -/
theorem four (A0 A1 A2 A3 : Vec Ideal S1x544x1024 .f32) (L : List (View.Piece (Elt Ideal) S4x544x1024 .f32)) (Y : Fin 4 → EReal) (a : Fin 544) (b : Fin 1024)
    (e0 : A0 (ix3 0 a b) = Y 0) (e1 : A1 (ix3 0 a b) = Y 1) (e2 : A2 (ix3 0 a b) = Y 2) (e3 : A3 (ix3 0 a b) = Y 3) (g : Fin 4) :
    View.canon (⟨gbox 3 inb_S4x544x1024_S1x544x1024_3_0_0, A3⟩ :: ⟨gbox 2 inb_S4x544x1024_S1x544x1024_2_0_0, A2⟩ :: ⟨gbox 1 inb_S4x544x1024_S1x544x1024_1_0_0, A1⟩ :: ⟨gbox 0 inb_S4x544x1024_S1x544x1024_0_0_0, A0⟩ :: L) (ix3 g a b) = Y g := by
  match g with
  | 0 => exact (skip 3 _ _ _ 0 (by decide) a b).trans ((skip 2 _ _ _ 0 (by decide) a b).trans ((skip 1 _ _ _ 0 (by decide) a b).trans ((top 0 (by decide) _ _ _ a b).trans e0)))
  | 1 => exact (skip 3 _ _ _ 1 (by decide) a b).trans ((skip 2 _ _ _ 1 (by decide) a b).trans ((top 1 (by decide) _ _ _ a b).trans e1))
  | 2 => exact (skip 3 _ _ _ 2 (by decide) a b).trans ((top 2 (by decide) _ _ _ a b).trans e2)
  | 3 => exact (top 3 (by decide) _ _ _ a b).trans e3

/-- Half 0's four products, each over what its group held. -/
theorem half0 (X : Vec Ideal S512x4352 .bf16) (x7 : Vec Ideal S512x1024 .bf16) (v0 v1 v2 v3 : Vec Ideal S1x544x1024 .f32) (w0 w1 w2 w3 : Vec Ideal S512x544 .bf16)
    (L : List (View.Piece (Elt Ideal) S4x544x1024 .f32)) (Y : Fin 4 → EReal) (a : Fin 544) (b : Fin 1024)
    (e0 : v0 (ix3 0 a b) = Y 0) (e1 : v1 (ix3 0 a b) = Y 1) (e2 : v2 (ix3 0 a b) = Y 2) (e3 : v3 (ix3 0 a b) = Y 3)
    (k0 : w0 = View.ld X (Rect.unit (s := S512x4352) ![0, 0] S512x544.size inb_S512x4352_S512x544_0_0))
    (k1 : w1 = View.ld X (Rect.unit (s := S512x4352) ![0, 544] S512x544.size inb_S512x4352_S512x544_0_544))
    (k2 : w2 = View.ld X (Rect.unit (s := S512x4352) ![0, 1088] S512x544.size inb_S512x4352_S512x544_0_1088))
    (k3 : w3 = View.ld X (Rect.unit (s := S512x4352) ![0, 1632] S512x544.size inb_S512x4352_S512x544_0_1632))
    (g : Fin 4) :
    View.canon (⟨gbox 3 inb_S4x544x1024_S1x544x1024_3_0_0, k0_pay4 x7 (k0_pay10 v3) w3⟩ :: ⟨gbox 2 inb_S4x544x1024_S1x544x1024_2_0_0, k0_pay9 x7 v2 w2⟩ :: ⟨gbox 1 inb_S4x544x1024_S1x544x1024_1_0_0, k0_pay8 x7 v1 w1⟩ :: ⟨gbox 0 inb_S4x544x1024_S1x544x1024_0_0_0, k0_pay7 x7 v0 w0⟩ :: L) (ix3 g a b)
      = Y g + tmm (at2 X) (at2 x7) (place 0 (by omega) g a) b := by
  subst k0 k1 k2 k3
  exact four _ _ _ _ L (fun g => Y g + tmm (at2 X) (at2 x7) (place 0 (by omega) g a) b) a b
    ((pay7_apply _ _ _ a b).trans (congrArg₂ (· + ·) e0 (box 0 (by omega) 0 0 rfl _ X x7 a b)))
    ((pay8_apply _ _ _ a b).trans (congrArg₂ (· + ·) e1 (box 0 (by omega) 1 544 rfl _ X x7 a b)))
    ((pay9_apply _ _ _ a b).trans (congrArg₂ (· + ·) e2 (box 0 (by omega) 2 1088 rfl _ X x7 a b)))
    ((pay4_apply _ _ _ a b).trans (congrArg₂ (· + ·) e3 (box 0 (by omega) 3 1632 rfl _ X x7 a b))) g

/-- Half 1's four products, each over what its group held. -/
theorem half1 (X : Vec Ideal S512x4352 .bf16) (x7 : Vec Ideal S512x1024 .bf16) (v0 v1 v2 v3 : Vec Ideal S1x544x1024 .f32) (w0 w1 w2 w3 : Vec Ideal S512x544 .bf16)
    (L : List (View.Piece (Elt Ideal) S4x544x1024 .f32)) (Y : Fin 4 → EReal) (a : Fin 544) (b : Fin 1024)
    (e0 : v0 (ix3 0 a b) = Y 0) (e1 : v1 (ix3 0 a b) = Y 1) (e2 : v2 (ix3 0 a b) = Y 2) (e3 : v3 (ix3 0 a b) = Y 3)
    (k0 : w0 = View.ld X (Rect.unit (s := S512x4352) ![0, 2176] S512x544.size inb_S512x4352_S512x544_0_2176))
    (k1 : w1 = View.ld X (Rect.unit (s := S512x4352) ![0, 2720] S512x544.size inb_S512x4352_S512x544_0_2720))
    (k2 : w2 = View.ld X (Rect.unit (s := S512x4352) ![0, 3264] S512x544.size inb_S512x4352_S512x544_0_3264))
    (k3 : w3 = View.ld X (Rect.unit (s := S512x4352) ![0, 3808] S512x544.size inb_S512x4352_S512x544_0_3808))
    (g : Fin 4) :
    View.canon (⟨gbox 3 inb_S4x544x1024_S1x544x1024_3_0_0, k0_pay5 x7 (k0_pay14 v3) w3⟩ :: ⟨gbox 2 inb_S4x544x1024_S1x544x1024_2_0_0, k0_pay13 x7 v2 w2⟩ :: ⟨gbox 1 inb_S4x544x1024_S1x544x1024_1_0_0, k0_pay12 x7 v1 w1⟩ :: ⟨gbox 0 inb_S4x544x1024_S1x544x1024_0_0_0, k0_pay11 x7 v0 w0⟩ :: L) (ix3 g a b)
      = Y g + tmm (at2 X) (at2 x7) (place 1 (by omega) g a) b := by
  subst k0 k1 k2 k3
  exact four _ _ _ _ L (fun g => Y g + tmm (at2 X) (at2 x7) (place 1 (by omega) g a) b) a b
    ((pay11_apply _ _ _ a b).trans (congrArg₂ (· + ·) e0 (box 1 (by omega) 0 2176 rfl _ X x7 a b)))
    ((pay12_apply _ _ _ a b).trans (congrArg₂ (· + ·) e1 (box 1 (by omega) 1 2720 rfl _ X x7 a b)))
    ((pay13_apply _ _ _ a b).trans (congrArg₂ (· + ·) e2 (box 1 (by omega) 2 3264 rfl _ X x7 a b)))
    ((pay5_apply _ _ _ a b).trans (congrArg₂ (· + ·) e3 (box 1 (by omega) 3 3808 rfl _ X x7 a b))) g

section Cases

variable (c : Dev nD) (i : grid0.Coords)
  (a2 : Memref sig .tc .vmem S512x512 .bf16) (h2 : a2.IsWhole)
  (a3 : Memref sig .tc .vmem S512x512 .bf16) (h3 : a3.IsWhole)
  (a4 : Memref sig .tc .vmem S512x512 .bf16) (h4 : a4.IsWhole)
  (a5 : Memref sig .tc .vmem S512x512 .bf16) (h5 : a5.IsWhole)
  (a6 : Memref sig .tc .vmem S512x128 .bf16) (h6 : a6.IsWhole)
  (a7 : Memref sig .tc .vmem S512x128 .bf16) (h7 : a7.IsWhole)
  (a8 : Memref sig .tc .vmem S512x2048 .bf16) (h8 : a8.IsWhole)
  (a9 : Memref sig .tc .vmem S512x1024 .bf16) (h9 : a9.IsWhole)
  (a10 : Memref sig .tc .vmem S4x544x1024 .bf16) (h10 : a10.IsWhole) (a11 : Memref sig .tc .vmem S512x4352 .bf16) (h11 : a11.IsWhole)
  (a12 : Memref sig .tc .vmem S4x544x1024 .f32) (h12 : a12.IsWhole)
  (x0 : Vec Ideal S512x512 .bf16) (x1 : Vec Ideal S512x512 .bf16) (x2 : Vec Ideal S512x512 .bf16) (x3 : Vec Ideal S512x512 .bf16) (x4 : Vec Ideal S512x128 .bf16) (x5 : Vec Ideal S512x128 .bf16) (x6 : Vec Ideal S512x2048 .bf16) (x7 : Vec Ideal S512x1024 .bf16)
  (xs : Vec Ideal S4x544x1024 .f32)

/-- The first point of the first half's run leaves its products over zero. -/
theorem scr_A (hc0 : cond0_0 i) (hc1 : cond0_1 i) (hc2 : ¬cond0_2 i) (hc3 : ¬cond0_3 i) (g : Fin 4) (a : Fin 544) (b : Fin 1024) :
    sout0_A_1 c i a2 h2 a3 h3 a4 h4 a5 h5 a6 h6 a7 h7 a8 h8 a9 h9 a10 h10 a11 h11 a12 h12 hc0 hc1 hc2 hc3 x0 x1 x2 x3 x4 x5 x6 x7 (ix3 g a b)
      = 0 + tmm (at2 (cat x0 x1 x2 x3 x4 x5 x6)) (at2 x7) (place 0 (by omega) g a) b := by
  unfold sout0_A_1
  rw [View.read_writes_eq_canon _ _ _ (scover0_A_1 c i a2 h2 a3 h3 a4 h4 a5 h5 a6 h6 a7 h7 a8 h8 a9 h9 a10 h10 a11 h11 a12 h12 hc0 hc1 hc2 hc3 x0 x1 x2 x3 x4 x5 x6 x7)]
  unfold kernelRun0_A
  dsimp only
  sl_unfold_words
  simp only [View.readAt_eq_ld, h2.read_unread, h3.read_unread, h4.read_unread, h5.read_unread, h6.read_unread, h7.read_unread, h8.read_unread, h9.read_unread, View.ld_unit_zero (S := S512x512) hz, View.ld_unit_zero (S := S512x128) hz, View.ld_unit_zero (S := S512x2048) hz, View.ld_unit_zero (S := S512x1024) hz, pay3_eq]
  exact half0 (cat x0 x1 x2 x3 x4 x5 x6) x7 _ _ _ _ _ _ _ _ _ (fun _ => 0) a b
    ((read_group 0 (by decide) _ _ _ a b).trans (zeroed 0 a b))
    ((read_group 1 (by decide) _ _ _ a b).trans ((skip 0 _ _ _ 1 (by decide) a b).trans (zeroed 1 a b)))
    ((read_group 2 (by decide) _ _ _ a b).trans ((skip 1 _ _ _ 2 (by decide) a b).trans ((skip 0 _ _ _ 2 (by decide) a b).trans (zeroed 2 a b))))
    ((read_group 3 (by decide) _ _ _ a b).trans ((skip 2 _ _ _ 3 (by decide) a b).trans ((skip 1 _ _ _ 3 (by decide) a b).trans ((skip 0 _ _ _ 3 (by decide) a b).trans (zeroed 3 a b)))))
    (read_cat a11 x0 x1 x2 x3 x4 x5 x6 _) (read_cat a11 x0 x1 x2 x3 x4 x5 x6 _) (read_cat a11 x0 x1 x2 x3 x4 x5 x6 _) (read_cat a11 x0 x1 x2 x3 x4 x5 x6 _) g

/-- A later point of the first half's run adds its products to what it finds. -/
theorem scr_B (hc0 : ¬cond0_0 i) (hc1 : cond0_1 i) (hc2 : ¬cond0_2 i) (hc3 : ¬cond0_3 i) (g : Fin 4) (a : Fin 544) (b : Fin 1024) :
    sout0_B_1 c i a2 h2 a3 h3 a4 h4 a5 h5 a6 h6 a7 h7 a8 h8 a9 h9 a10 h10 a11 h11 a12 h12 hc0 hc1 hc2 hc3 x0 x1 x2 x3 x4 x5 x6 x7 xs (ix3 g a b)
      = xs (ix3 g a b) + tmm (at2 (cat x0 x1 x2 x3 x4 x5 x6)) (at2 x7) (place 0 (by omega) g a) b := by
  unfold sout0_B_1
  rw [View.read_writes_eq_canon _ _ _ (scover0_B_1 c i a2 h2 a3 h3 a4 h4 a5 h5 a6 h6 a7 h7 a8 h8 a9 h9 a10 h10 a11 h11 a12 h12 hc0 hc1 hc2 hc3 x0 x1 x2 x3 x4 x5 x6 x7 xs)]
  unfold kernelRun0_B
  dsimp only
  sl_unfold_words
  simp only [View.readAt_eq_ld, h2.read_unread, h3.read_unread, h4.read_unread, h5.read_unread, h6.read_unread, h7.read_unread, h8.read_unread, h9.read_unread, h12.read_unread, View.ld_unit_zero (S := S512x512) hz, View.ld_unit_zero (S := S512x128) hz, View.ld_unit_zero (S := S512x2048) hz, View.ld_unit_zero (S := S512x1024) hz, pay3_eq]
  exact half0 (cat x0 x1 x2 x3 x4 x5 x6) x7 _ _ _ _ _ _ _ _ _ (fun g => xs (ix3 g a b)) a b (ld_group 0 (by decide) _ xs a b) (ld_group 1 (by decide) _ xs a b) (ld_group 2 (by decide) _ xs a b) (ld_group 3 (by decide) _ xs a b)
    (read_cat a11 x0 x1 x2 x3 x4 x5 x6 _) (read_cat a11 x0 x1 x2 x3 x4 x5 x6 _) (read_cat a11 x0 x1 x2 x3 x4 x5 x6 _) (read_cat a11 x0 x1 x2 x3 x4 x5 x6 _) g

/-- So does the last. -/
theorem scr_C (hc0 : ¬cond0_0 i) (hc1 : cond0_1 i) (hc2 : ¬cond0_2 i) (hc3 : cond0_3 i) (g : Fin 4) (a : Fin 544) (b : Fin 1024) :
    sout0_C_1 c i a2 h2 a3 h3 a4 h4 a5 h5 a6 h6 a7 h7 a8 h8 a9 h9 a10 h10 a11 h11 a12 h12 hc0 hc1 hc2 hc3 x0 x1 x2 x3 x4 x5 x6 x7 xs (ix3 g a b)
      = xs (ix3 g a b) + tmm (at2 (cat x0 x1 x2 x3 x4 x5 x6)) (at2 x7) (place 0 (by omega) g a) b := by
  unfold sout0_C_1
  rw [View.read_writes_eq_canon _ _ _ (scover0_C_1 c i a2 h2 a3 h3 a4 h4 a5 h5 a6 h6 a7 h7 a8 h8 a9 h9 a10 h10 a11 h11 a12 h12 hc0 hc1 hc2 hc3 x0 x1 x2 x3 x4 x5 x6 x7 xs)]
  unfold kernelRun0_C
  dsimp only
  sl_unfold_words
  simp only [View.readAt_eq_ld, h2.read_unread, h3.read_unread, h4.read_unread, h5.read_unread, h6.read_unread, h7.read_unread, h8.read_unread, h9.read_unread, h12.read_unread, View.ld_unit_zero (S := S512x512) hz, View.ld_unit_zero (S := S512x128) hz, View.ld_unit_zero (S := S512x2048) hz, View.ld_unit_zero (S := S512x1024) hz, pay3_eq]
  exact half0 (cat x0 x1 x2 x3 x4 x5 x6) x7 _ _ _ _ _ _ _ _ _ (fun g => xs (ix3 g a b)) a b (ld_group 0 (by decide) _ xs a b) (ld_group 1 (by decide) _ xs a b) (ld_group 2 (by decide) _ xs a b) (ld_group 3 (by decide) _ xs a b)
    (read_cat a11 x0 x1 x2 x3 x4 x5 x6 _) (read_cat a11 x0 x1 x2 x3 x4 x5 x6 _) (read_cat a11 x0 x1 x2 x3 x4 x5 x6 _) (read_cat a11 x0 x1 x2 x3 x4 x5 x6 _) g

/-- The first point of the second half's run leaves its products over zero. -/
theorem scr_D (hc0 : cond0_0 i) (hc1 : ¬cond0_1 i) (hc2 : cond0_2 i) (hc3 : ¬cond0_3 i) (g : Fin 4) (a : Fin 544) (b : Fin 1024) :
    sout0_D_1 c i a2 h2 a3 h3 a4 h4 a5 h5 a6 h6 a7 h7 a8 h8 a9 h9 a10 h10 a11 h11 a12 h12 hc0 hc1 hc2 hc3 x0 x1 x2 x3 x4 x5 x6 x7 (ix3 g a b)
      = 0 + tmm (at2 (cat x0 x1 x2 x3 x4 x5 x6)) (at2 x7) (place 1 (by omega) g a) b := by
  unfold sout0_D_1
  rw [View.read_writes_eq_canon _ _ _ (scover0_D_1 c i a2 h2 a3 h3 a4 h4 a5 h5 a6 h6 a7 h7 a8 h8 a9 h9 a10 h10 a11 h11 a12 h12 hc0 hc1 hc2 hc3 x0 x1 x2 x3 x4 x5 x6 x7)]
  unfold kernelRun0_D
  dsimp only
  sl_unfold_words
  simp only [View.readAt_eq_ld, h2.read_unread, h3.read_unread, h4.read_unread, h5.read_unread, h6.read_unread, h7.read_unread, h8.read_unread, h9.read_unread, View.ld_unit_zero (S := S512x512) hz, View.ld_unit_zero (S := S512x128) hz, View.ld_unit_zero (S := S512x2048) hz, View.ld_unit_zero (S := S512x1024) hz, pay3_eq]
  exact half1 (cat x0 x1 x2 x3 x4 x5 x6) x7 _ _ _ _ _ _ _ _ _ (fun _ => 0) a b
    ((read_group 0 (by decide) _ _ _ a b).trans (zeroed 0 a b))
    ((read_group 1 (by decide) _ _ _ a b).trans ((skip 0 _ _ _ 1 (by decide) a b).trans (zeroed 1 a b)))
    ((read_group 2 (by decide) _ _ _ a b).trans ((skip 1 _ _ _ 2 (by decide) a b).trans ((skip 0 _ _ _ 2 (by decide) a b).trans (zeroed 2 a b))))
    ((read_group 3 (by decide) _ _ _ a b).trans ((skip 2 _ _ _ 3 (by decide) a b).trans ((skip 1 _ _ _ 3 (by decide) a b).trans ((skip 0 _ _ _ 3 (by decide) a b).trans (zeroed 3 a b)))))
    (read_cat a11 x0 x1 x2 x3 x4 x5 x6 _) (read_cat a11 x0 x1 x2 x3 x4 x5 x6 _) (read_cat a11 x0 x1 x2 x3 x4 x5 x6 _) (read_cat a11 x0 x1 x2 x3 x4 x5 x6 _) g

/-- A later point of the second half's run adds its products to what it finds. -/
theorem scr_E (hc0 : ¬cond0_0 i) (hc1 : ¬cond0_1 i) (hc2 : cond0_2 i) (hc3 : ¬cond0_3 i) (g : Fin 4) (a : Fin 544) (b : Fin 1024) :
    sout0_E_1 c i a2 h2 a3 h3 a4 h4 a5 h5 a6 h6 a7 h7 a8 h8 a9 h9 a10 h10 a11 h11 a12 h12 hc0 hc1 hc2 hc3 x0 x1 x2 x3 x4 x5 x6 x7 xs (ix3 g a b)
      = xs (ix3 g a b) + tmm (at2 (cat x0 x1 x2 x3 x4 x5 x6)) (at2 x7) (place 1 (by omega) g a) b := by
  unfold sout0_E_1
  rw [View.read_writes_eq_canon _ _ _ (scover0_E_1 c i a2 h2 a3 h3 a4 h4 a5 h5 a6 h6 a7 h7 a8 h8 a9 h9 a10 h10 a11 h11 a12 h12 hc0 hc1 hc2 hc3 x0 x1 x2 x3 x4 x5 x6 x7 xs)]
  unfold kernelRun0_E
  dsimp only
  sl_unfold_words
  simp only [View.readAt_eq_ld, h2.read_unread, h3.read_unread, h4.read_unread, h5.read_unread, h6.read_unread, h7.read_unread, h8.read_unread, h9.read_unread, h12.read_unread, View.ld_unit_zero (S := S512x512) hz, View.ld_unit_zero (S := S512x128) hz, View.ld_unit_zero (S := S512x2048) hz, View.ld_unit_zero (S := S512x1024) hz, pay3_eq]
  exact half1 (cat x0 x1 x2 x3 x4 x5 x6) x7 _ _ _ _ _ _ _ _ _ (fun g => xs (ix3 g a b)) a b (ld_group 0 (by decide) _ xs a b) (ld_group 1 (by decide) _ xs a b) (ld_group 2 (by decide) _ xs a b) (ld_group 3 (by decide) _ xs a b)
    (read_cat a11 x0 x1 x2 x3 x4 x5 x6 _) (read_cat a11 x0 x1 x2 x3 x4 x5 x6 _) (read_cat a11 x0 x1 x2 x3 x4 x5 x6 _) (read_cat a11 x0 x1 x2 x3 x4 x5 x6 _) g

/-- So does the last. -/
theorem scr_F (hc0 : ¬cond0_0 i) (hc1 : ¬cond0_1 i) (hc2 : cond0_2 i) (hc3 : cond0_3 i) (g : Fin 4) (a : Fin 544) (b : Fin 1024) :
    sout0_F_1 c i a2 h2 a3 h3 a4 h4 a5 h5 a6 h6 a7 h7 a8 h8 a9 h9 a10 h10 a11 h11 a12 h12 hc0 hc1 hc2 hc3 x0 x1 x2 x3 x4 x5 x6 x7 xs (ix3 g a b)
      = xs (ix3 g a b) + tmm (at2 (cat x0 x1 x2 x3 x4 x5 x6)) (at2 x7) (place 1 (by omega) g a) b := by
  unfold sout0_F_1
  rw [View.read_writes_eq_canon _ _ _ (scover0_F_1 c i a2 h2 a3 h3 a4 h4 a5 h5 a6 h6 a7 h7 a8 h8 a9 h9 a10 h10 a11 h11 a12 h12 hc0 hc1 hc2 hc3 x0 x1 x2 x3 x4 x5 x6 x7 xs)]
  unfold kernelRun0_F
  dsimp only
  sl_unfold_words
  simp only [View.readAt_eq_ld, h2.read_unread, h3.read_unread, h4.read_unread, h5.read_unread, h6.read_unread, h7.read_unread, h8.read_unread, h9.read_unread, h12.read_unread, View.ld_unit_zero (S := S512x512) hz, View.ld_unit_zero (S := S512x128) hz, View.ld_unit_zero (S := S512x2048) hz, View.ld_unit_zero (S := S512x1024) hz, pay3_eq]
  exact half1 (cat x0 x1 x2 x3 x4 x5 x6) x7 _ _ _ _ _ _ _ _ _ (fun g => xs (ix3 g a b)) a b (ld_group 0 (by decide) _ xs a b) (ld_group 1 (by decide) _ xs a b) (ld_group 2 (by decide) _ xs a b) (ld_group 3 (by decide) _ xs a b)
    (read_cat a11 x0 x1 x2 x3 x4 x5 x6 _) (read_cat a11 x0 x1 x2 x3 x4 x5 x6 _) (read_cat a11 x0 x1 x2 x3 x4 x5 x6 _) (read_cat a11 x0 x1 x2 x3 x4 x5 x6 _) g

/-- The last point writes out what the accumulator then holds. -/
theorem out_C (hc0 : ¬cond0_0 i) (hc1 : cond0_1 i) (hc2 : ¬cond0_2 i) (hc3 : cond0_3 i) (g : Fin 4) (a : Fin 544) (b : Fin 1024) :
    out0_C_8 c i a2 h2 a3 h3 a4 h4 a5 h5 a6 h6 a7 h7 a8 h8 a9 h9 a10 h10 a11 h11 a12 h12 hc0 hc1 hc2 hc3 x0 x1 x2 x3 x4 x5 x6 x7 xs (ix3 g a b) = sout0_C_1 c i a2 h2 a3 h3 a4 h4 a5 h5 a6 h6 a7 h7 a8 h8 a9 h9 a10 h10 a11 h11 a12 h12 hc0 hc1 hc2 hc3 x0 x1 x2 x3 x4 x5 x6 x7 xs (ix3 g a b) := by
  unfold out0_C_8 sout0_C_1
  rw [View.read_writes_eq_canon _ _ _ (cover0_C_8 c i a2 h2 a3 h3 a4 h4 a5 h5 a6 h6 a7 h7 a8 h8 a9 h9 a10 h10 a11 h11 a12 h12 hc0 hc1 hc2 hc3 x0 x1 x2 x3 x4 x5 x6 x7 xs),
    View.read_writes_eq_canon _ _ _ (scover0_C_1 c i a2 h2 a3 h3 a4 h4 a5 h5 a6 h6 a7 h7 a8 h8 a9 h9 a10 h10 a11 h11 a12 h12 hc0 hc1 hc2 hc3 x0 x1 x2 x3 x4 x5 x6 x7 xs)]
  unfold kernelRun0_C
  dsimp only
  sl_unfold_words
  rw [View.canon_unit_zero (S := S4x544x1024) hz3]
  refine (pay6_eq _ g a b).trans ?_
  exact congrFun (read_whole a12 _) (ix3 g a b)

/-- The last point writes out what the accumulator then holds. -/
theorem out_F (hc0 : ¬cond0_0 i) (hc1 : ¬cond0_1 i) (hc2 : cond0_2 i) (hc3 : cond0_3 i) (g : Fin 4) (a : Fin 544) (b : Fin 1024) :
    out0_F_8 c i a2 h2 a3 h3 a4 h4 a5 h5 a6 h6 a7 h7 a8 h8 a9 h9 a10 h10 a11 h11 a12 h12 hc0 hc1 hc2 hc3 x0 x1 x2 x3 x4 x5 x6 x7 xs (ix3 g a b) = sout0_F_1 c i a2 h2 a3 h3 a4 h4 a5 h5 a6 h6 a7 h7 a8 h8 a9 h9 a10 h10 a11 h11 a12 h12 hc0 hc1 hc2 hc3 x0 x1 x2 x3 x4 x5 x6 x7 xs (ix3 g a b) := by
  unfold out0_F_8 sout0_F_1
  rw [View.read_writes_eq_canon _ _ _ (cover0_F_8 c i a2 h2 a3 h3 a4 h4 a5 h5 a6 h6 a7 h7 a8 h8 a9 h9 a10 h10 a11 h11 a12 h12 hc0 hc1 hc2 hc3 x0 x1 x2 x3 x4 x5 x6 x7 xs),
    View.read_writes_eq_canon _ _ _ (scover0_F_1 c i a2 h2 a3 h3 a4 h4 a5 h5 a6 h6 a7 h7 a8 h8 a9 h9 a10 h10 a11 h11 a12 h12 hc0 hc1 hc2 hc3 x0 x1 x2 x3 x4 x5 x6 x7 xs)]
  unfold kernelRun0_F
  dsimp only
  sl_unfold_words
  rw [View.canon_unit_zero (S := S4x544x1024) hz3]
  refine (pay6_eq _ g a b).trans ?_
  exact congrFun (read_whole a12 _) (ix3 g a b)

end Cases

/-! ## The blocks -/

variable (m : (ℓ : Loc nD τ sig) → Buf (Elt Ideal) ℓ)

/-- Row `j` of point `t`'s chunk as a row of the whole array. -/
abbrev row (t : Fin cfg0.N) (j : Fin 512) : Fin 4096 :=
  ⟨512 * (t.val % 8) + j.val, by have hj := j.isLt; omega⟩

/-- The half of the columns point `t` works on. -/
theorem half (t : Fin cfg0.N) : t.val / 8 < 2 := by have ht : t.val < 16 := lt_of_lt_of_eq t.isLt N_0; omega

/-- Group `g` of point `t`'s half, as a group of the whole. -/
abbrev grp (t : Fin cfg0.N) (g : Fin 4) : Fin 8 := ⟨4 * (t.val / 8) + g.val, by have ht := half t; have hg := g.isLt; omega⟩

/-- Where each block starts. -/
theorem start : ∀ t : Fin cfg0.N,
    (win0_0.index t 0 = t.val % 8 ∧ win0_0.index t 1 = 0)
    ∧ (win0_1.index t 0 = t.val % 8 ∧ win0_1.index t 1 = 0)
    ∧ (win0_2.index t 0 = t.val % 8 ∧ win0_2.index t 1 = 0)
    ∧ (win0_3.index t 0 = t.val % 8 ∧ win0_3.index t 1 = 0)
    ∧ (win0_4.index t 0 = t.val % 8 ∧ win0_4.index t 1 = 0)
    ∧ (win0_5.index t 0 = t.val % 8 ∧ win0_5.index t 1 = 0)
    ∧ (win0_6.index t 0 = t.val % 8 ∧ win0_6.index t 1 = 0)
    ∧ (win0_7.index t 0 = t.val % 8 ∧ win0_7.index t 1 = 0)
    ∧ (win0_8.index t 0 = t.val / 8 ∧ win0_8.index t 1 = 0 ∧ win0_8.index t 2 = 0) := by
  decide +kernel

theorem blk0 (c : Dev nD) (t : Fin cfg0.N) (j : Fin 512) (k : Fin 512) :
    iblk m c 0 t (ix2 j k) = V m c main_v0 (ix2 (row t j) k) := by
  show V m c main_v0 ((win0_0.blk t).view.emb (ix2 j k)) = _
  refine congrArg (V m c main_v0) (funext fun a => Fin.ext ?_)
  match a with
  | ⟨0, _⟩ =>
    show win0_0.index t 0 * 512 + 1 * j.val = 512 * (t.val % 8) + j.val
    rw [(start t).1.1]; omega
  | ⟨1, _⟩ =>
    show win0_0.index t 1 * 512 + 1 * k.val = k.val
    rw [(start t).1.2]; omega

theorem blk1 (c : Dev nD) (t : Fin cfg0.N) (j : Fin 512) (k : Fin 512) :
    iblk m c 1 t (ix2 j k) = V m c main_v1 (ix2 (row t j) k) := by
  show V m c main_v1 ((win0_1.blk t).view.emb (ix2 j k)) = _
  refine congrArg (V m c main_v1) (funext fun a => Fin.ext ?_)
  match a with
  | ⟨0, _⟩ =>
    show win0_1.index t 0 * 512 + 1 * j.val = 512 * (t.val % 8) + j.val
    rw [(start t).2.1.1]; omega
  | ⟨1, _⟩ =>
    show win0_1.index t 1 * 512 + 1 * k.val = k.val
    rw [(start t).2.1.2]; omega

theorem blk2 (c : Dev nD) (t : Fin cfg0.N) (j : Fin 512) (k : Fin 512) :
    iblk m c 2 t (ix2 j k) = V m c main_v2 (ix2 (row t j) k) := by
  show V m c main_v2 ((win0_2.blk t).view.emb (ix2 j k)) = _
  refine congrArg (V m c main_v2) (funext fun a => Fin.ext ?_)
  match a with
  | ⟨0, _⟩ =>
    show win0_2.index t 0 * 512 + 1 * j.val = 512 * (t.val % 8) + j.val
    rw [(start t).2.2.1.1]; omega
  | ⟨1, _⟩ =>
    show win0_2.index t 1 * 512 + 1 * k.val = k.val
    rw [(start t).2.2.1.2]; omega

theorem blk3 (c : Dev nD) (t : Fin cfg0.N) (j : Fin 512) (k : Fin 512) :
    iblk m c 3 t (ix2 j k) = V m c main_v3 (ix2 (row t j) k) := by
  show V m c main_v3 ((win0_3.blk t).view.emb (ix2 j k)) = _
  refine congrArg (V m c main_v3) (funext fun a => Fin.ext ?_)
  match a with
  | ⟨0, _⟩ =>
    show win0_3.index t 0 * 512 + 1 * j.val = 512 * (t.val % 8) + j.val
    rw [(start t).2.2.2.1.1]; omega
  | ⟨1, _⟩ =>
    show win0_3.index t 1 * 512 + 1 * k.val = k.val
    rw [(start t).2.2.2.1.2]; omega

theorem blk4 (c : Dev nD) (t : Fin cfg0.N) (j : Fin 512) (k : Fin 128) :
    iblk m c 4 t (ix2 j k) = V m c main_v4 (ix2 (row t j) k) := by
  show V m c main_v4 ((win0_4.blk t).view.emb (ix2 j k)) = _
  refine congrArg (V m c main_v4) (funext fun a => Fin.ext ?_)
  match a with
  | ⟨0, _⟩ =>
    show win0_4.index t 0 * 512 + 1 * j.val = 512 * (t.val % 8) + j.val
    rw [(start t).2.2.2.2.1.1]; omega
  | ⟨1, _⟩ =>
    show win0_4.index t 1 * 128 + 1 * k.val = k.val
    rw [(start t).2.2.2.2.1.2]; omega

theorem blk5 (c : Dev nD) (t : Fin cfg0.N) (j : Fin 512) (k : Fin 128) :
    iblk m c 5 t (ix2 j k) = V m c main_v5 (ix2 (row t j) k) := by
  show V m c main_v5 ((win0_5.blk t).view.emb (ix2 j k)) = _
  refine congrArg (V m c main_v5) (funext fun a => Fin.ext ?_)
  match a with
  | ⟨0, _⟩ =>
    show win0_5.index t 0 * 512 + 1 * j.val = 512 * (t.val % 8) + j.val
    rw [(start t).2.2.2.2.2.1.1]; omega
  | ⟨1, _⟩ =>
    show win0_5.index t 1 * 128 + 1 * k.val = k.val
    rw [(start t).2.2.2.2.2.1.2]; omega

theorem blk6 (c : Dev nD) (t : Fin cfg0.N) (j : Fin 512) (k : Fin 2048) :
    iblk m c 6 t (ix2 j k) = V m c main_v6 (ix2 (row t j) k) := by
  show V m c main_v6 ((win0_6.blk t).view.emb (ix2 j k)) = _
  refine congrArg (V m c main_v6) (funext fun a => Fin.ext ?_)
  match a with
  | ⟨0, _⟩ =>
    show win0_6.index t 0 * 512 + 1 * j.val = 512 * (t.val % 8) + j.val
    rw [(start t).2.2.2.2.2.2.1.1]; omega
  | ⟨1, _⟩ =>
    show win0_6.index t 1 * 2048 + 1 * k.val = k.val
    rw [(start t).2.2.2.2.2.2.1.2]; omega

theorem blk7 (c : Dev nD) (t : Fin cfg0.N) (j : Fin 512) (k : Fin 1024) :
    iblk m c 7 t (ix2 j k) = V m c main_v7 (ix2 (row t j) k) := by
  show V m c main_v7 ((win0_7.blk t).view.emb (ix2 j k)) = _
  refine congrArg (V m c main_v7) (funext fun a => Fin.ext ?_)
  match a with
  | ⟨0, _⟩ =>
    show win0_7.index t 0 * 512 + 1 * j.val = 512 * (t.val % 8) + j.val
    rw [(start t).2.2.2.2.2.2.2.1.1]; omega
  | ⟨1, _⟩ =>
    show win0_7.index t 1 * 1024 + 1 * k.val = k.val
    rw [(start t).2.2.2.2.2.2.2.1.2]; omega

/-- An array read through the result's block at point `t`. -/
theorem read8 (A : Vec Ideal S8x544x1024 .bf16) (t : Fin cfg0.N) (g : Fin 4) (a : Fin 544) (b : Fin 1024) :
    ((win0_8.blk t).view.read (Elt Ideal) A : Vec Ideal S4x544x1024 .bf16) (ix3 g a b) = A (ix3 (grp t g) a b) := by
  show A ((win0_8.blk t).view.emb (ix3 g a b)) = _
  refine congrArg A (funext fun d => Fin.ext ?_)
  match d with
  | ⟨0, _⟩ =>
    show win0_8.index t 0 * 4 + 1 * g.val = 4 * (t.val / 8) + g.val
    rw [(start t).2.2.2.2.2.2.2.2.1]; omega
  | ⟨1, _⟩ =>
    show win0_8.index t 1 * 544 + 1 * a.val = a.val
    rw [(start t).2.2.2.2.2.2.2.2.2.1]; omega
  | ⟨2, _⟩ =>
    show win0_8.index t 2 * 1024 + 1 * b.val = b.val
    rw [(start t).2.2.2.2.2.2.2.2.2.2]; omega

/-! ## The accumulator over a run -/

variable (c : Dev nD)

/-- The branch gradients, side by side, as the pipeline reads them. -/
def w0 : Fin 4096 → Fin 4352 → EReal :=
  lay (at2 (V m c main_v0)) (at2 (V m c main_v1)) (at2 (V m c main_v2)) (at2 (V m c main_v3)) (at2 (V m c main_v4))
    (at2 (V m c main_v5)) (at2 (V m c main_v6))
/-- The normalised input, as the pipeline reads it. -/
abbrev w1 : Fin 4096 → Fin 1024 → EReal := at2 (V m c main_v7)

/-- A place of point `t`'s half, as a column of the whole. -/
abbrev col (t : Fin cfg0.N) (g : Fin 4) (a : Fin 544) : Fin 4352 := place (t.val / 8) (half t) g a

/-- The row's term of the product's sum at a place of point `t`'s block. -/
abbrev term (t : Fin cfg0.N) (g : Fin 4) (a : Fin 544) (b : Fin 1024) (j : Fin 4096) : EReal := w0 m c j (col t g a) * w1 m c j b

/-- The blocks side by side are the rows of the arrays side by side. -/
theorem cat_blk (t : Fin cfg0.N) (j : Fin 512) (k : Fin 4352) :
    at2 (cat (iblk m c 0 t) (iblk m c 1 t) (iblk m c 2 t) (iblk m c 3 t) (iblk m c 4 t) (iblk m c 5 t) (iblk m c 6 t)) j k = w0 m c (row t j) k := by
  show lay (at2 (iblk m c 0 t)) (at2 (iblk m c 1 t)) (at2 (iblk m c 2 t)) (at2 (iblk m c 3 t)) (at2 (iblk m c 4 t)) (at2 (iblk m c 5 t)) (at2 (iblk m c 6 t)) j k = _
  unfold w0 lay
  split_ifs
  · exact blk0 m c t j _
  · exact blk1 m c t j _
  · exact blk2 m c t j _
  · exact blk3 m c t j _
  · exact blk4 m c t j _
  · exact blk5 m c t j _
  · exact blk6 m c t j _

/-- A chunk's product, as the chunk's part of the sum. -/
theorem chunk (t : Fin cfg0.N) (g : Fin 4) (a : Fin 544) (b : Fin 1024) :
    tmm (at2 (cat (iblk m c 0 t) (iblk m c 1 t) (iblk m c 2 t) (iblk m c 3 t) (iblk m c 4 t) (iblk m c 5 t) (iblk m c 6 t))) (at2 (iblk m c 7 t)) (col t g a) b
      = ∑ j : Fin 512, ext (term m c t g a b) (512 * (t.val % 8) + j.val) := by
  refine Finset.sum_congr rfl fun j _ => ?_
  have e1 : at2 (iblk m c 7 t) j b = w1 m c (row t j) b := blk7 m c t j b
  have e0 := cat_blk m c t j (col t g a)
  refine (congrArg₂ (· * ·) e0 e1).trans ?_
  exact (ext_val (term m c t g a b) (row t j)).symm

theorem term_prev (t s : Fin cfg0.N) (h : s.val / 8 = t.val / 8) (g : Fin 4) (a : Fin 544) (b : Fin 1024) : term m c s g a b = term m c t g a b := by
  have e : col s g a = col t g a := Fin.ext (by show 2176 * (s.val / 8) + 544 * g.val + a.val = 2176 * (t.val / 8) + 544 * g.val + a.val; rw [h])
  funext j
  show w0 m c j (col s g a) * _ = _
  rw [e]

theorem place_col (p : Nat) (hp : p < 2) (t : Fin cfg0.N) (h : t.val / 8 = p) (g : Fin 4) (a : Fin 544) : place p hp g a = col t g a :=
  Fin.ext (by show 2176 * p + 544 * g.val + a.val = 2176 * (t.val / 8) + 544 * g.val + a.val; rw [h])

/-- After each point of a run the accumulator holds the sum of the chunks so far. -/
theorem scratch : ∀ (q : Nat) (t : Fin cfg0.N), t.val % 8 = q → ∀ (g : Fin 4) (a : Fin 544) (b : Fin 1024),
    (outsAt0 m c t.val t.isLt).2 (ix3 g a b) = upTo (term m c t g a b) 512 (q + 1)
  | 0, t, h, g, a, b => by
    have ht : t.val < 16 := lt_of_lt_of_eq t.isLt N_0
    by_cases hp : t.val < 8
    · rw [outsAt0_A m c t h hp (by omega) (by omega)]
      dsimp only
      refine (scr_A _ _ _ _ _ _ _ _ _ _ _ _ _ _ _ _ _ _ _ _ _ _ _ _ _ _ _ _ _ _ _ _ _ _ _ _ g a b).trans ?_
      rw [place_col 0 _ t (by omega), chunk, h, upTo_succ, upTo_zero]
    · rw [outsAt0_D m c t h hp (by omega) (by omega)]
      dsimp only
      refine (scr_D _ _ _ _ _ _ _ _ _ _ _ _ _ _ _ _ _ _ _ _ _ _ _ _ _ _ _ _ _ _ _ _ _ _ _ _ g a b).trans ?_
      rw [place_col 1 _ t (by omega), chunk, h, upTo_succ, upTo_zero]
  | q + 1, t, h, g, a, b => by
    have ht : t.val < 16 := lt_of_lt_of_eq t.isLt N_0
    have hs : t.val - 1 < cfg0.N := Nat.lt_of_le_of_lt (Nat.sub_le _ _) t.isLt
    have e := scratch q ⟨t.val - 1, hs⟩ (by show (t.val - 1) % 8 = q; omega) g a b
    dsimp only at e
    by_cases hp : t.val < 8
    · by_cases hl : t.val % 8 = 7
      · rw [outsAt0_C m c t (by omega) hp (by omega) hl]
        dsimp only
        refine (scr_C _ _ _ _ _ _ _ _ _ _ _ _ _ _ _ _ _ _ _ _ _ _ _ _ _ _ _ _ _ _ _ _ _ _ _ _ _ g a b).trans ?_
        rw [e, place_col 0 _ t (by omega), chunk, h, upTo_succ _ _ (q + 1), term_prev m c t ⟨t.val - 1, hs⟩ (by show (t.val - 1) / 8 = t.val / 8; omega)]
      · rw [outsAt0_B m c t (by omega) hp (by omega) hl]
        dsimp only
        refine (scr_B _ _ _ _ _ _ _ _ _ _ _ _ _ _ _ _ _ _ _ _ _ _ _ _ _ _ _ _ _ _ _ _ _ _ _ _ _ g a b).trans ?_
        rw [e, place_col 0 _ t (by omega), chunk, h, upTo_succ _ _ (q + 1), term_prev m c t ⟨t.val - 1, hs⟩ (by show (t.val - 1) / 8 = t.val / 8; omega)]
    · by_cases hl : t.val % 8 = 7
      · rw [outsAt0_F m c t (by omega) hp (by omega) hl]
        dsimp only
        refine (scr_F _ _ _ _ _ _ _ _ _ _ _ _ _ _ _ _ _ _ _ _ _ _ _ _ _ _ _ _ _ _ _ _ _ _ _ _ _ g a b).trans ?_
        rw [e, place_col 1 _ t (by omega), chunk, h, upTo_succ _ _ (q + 1), term_prev m c t ⟨t.val - 1, hs⟩ (by show (t.val - 1) / 8 = t.val / 8; omega)]
      · rw [outsAt0_E m c t (by omega) hp (by omega) hl]
        dsimp only
        refine (scr_E _ _ _ _ _ _ _ _ _ _ _ _ _ _ _ _ _ _ _ _ _ _ _ _ _ _ _ _ _ _ _ _ _ _ _ _ _ g a b).trans ?_
        rw [e, place_col 1 _ t (by omega), chunk, h, upTo_succ _ _ (q + 1), term_prev m c t ⟨t.val - 1, hs⟩ (by show (t.val - 1) / 8 = t.val / 8; omega)]

/-- Column `a` of group `u` of the result, as a column of the arrays side by side. -/
abbrev wide (u : Fin 8) (a : Fin 544) : Fin 4352 := ⟨544 * u.val + a.val, by have hu := u.isLt; have ha := a.isLt; omega⟩

/-- The result: the product over all rows, in groups of 544. -/
def res8 : Vec Ideal S8x544x1024 .bf16 := fun i => tmm (w0 m c) (w1 m c) (wide (i 0) (i 1)) (i 2)

/-- A run's last point writes out its block of the result. -/
theorem flushed8 (t : Fin cfg0.N) (hf : (cfg0.win 8).flush t = true) :
    (dats m 0 c).flushed 8 t = (win0_8.blk t).view.read (Elt Ideal) (res8 m c) := by
  have h : t.val % 8 = 7 := (flush0_8 t).mp hf
  have ht : t.val < 16 := lt_of_lt_of_eq t.isLt N_0
  have key : ∀ (g : Fin 4) (a : Fin 544) (b : Fin 1024), (outsAt0 m c t.val t.isLt).2 (ix3 g a b) = res8 m c (ix3 (grp t g) a b) := by
    intro g a b
    rw [scratch m c 7 t h g a b, upTo_full _ _ _ (by norm_num)]
    show ∑ j, w0 m c j (col t g a) * w1 m c j b = ∑ j, w0 m c j (wide (grp t g) a) * w1 m c j b
    have e : col t g a = wide (grp t g) a := Fin.ext (by show 2176 * (t.val / 8) + 544 * g.val + a.val = 544 * (4 * (t.val / 8) + g.val) + a.val; omega)
    rw [e]
  by_cases hp : t.val < 8
  · rw [Value.flushed8_C m c t (by omega) hp (by omega) h]
    funext (x : S4x544x1024.Idx)
    obtain ⟨g, a, b, rfl⟩ : ∃ (g : Fin 4) (a : Fin 544) (b : Fin 1024), x = ix3 g a b := ⟨x 0, x 1, x 2, eq_ix3 x⟩
    refine Eq.trans ?_ (read8 _ t g a b).symm
    refine Eq.trans ?_ (key g a b)
    rw [outsAt0_C m c t (by omega) hp (by omega) h]
    dsimp only
    exact out_C _ _ _ _ _ _ _ _ _ _ _ _ _ _ _ _ _ _ _ _ _ _ _ _ _ _ _ _ _ _ _ _ _ _ _ _ _ g a b
  · rw [Value.flushed8_F m c t (by omega) hp (by omega) h]
    funext (x : S4x544x1024.Idx)
    obtain ⟨g, a, b, rfl⟩ : ∃ (g : Fin 4) (a : Fin 544) (b : Fin 1024), x = ix3 g a b := ⟨x 0, x 1, x 2, eq_ix3 x⟩
    refine Eq.trans ?_ (read8 _ t g a b).symm
    refine Eq.trans ?_ (key g a b)
    rw [outsAt0_F m c t (by omega) hp (by omega) h]
    dsimp only
    exact out_F _ _ _ _ _ _ _ _ _ _ _ _ _ _ _ _ _ _ _ _ _ _ _ _ _ _ _ _ _ _ _ _ _ _ _ _ _ g a b

/-- The whole run: the result array, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v8) = res8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (Value.run_blocks m ρ)
  obtain ⟨h8, hk⟩ := h c
  refine ⟨h8.trans ?_, hk⟩
  exact (dats m 0 c).arrAt_eq_of_cover 8 (res8 m c) (flushed8 m c) fun i => (Value.covered_iff8 i).2 (by
    have h0 : (i 0).val < 8 := (i 0).isLt
    have h1 : (i 1).val < 544 := (i 1).isLt
    have h2 : (i 2).val < 1024 := (i 2).isLt
    omega)

end Cert.Kernel6Ideal.DwIn

end
-- ==== Proof.DwIn.lean ====
/-
  The input projection's weight gradient after the run, met with the reference's term.
-/
module

public import proofs.«01_k».proof.Defs
public import proofs.«01_k».proof.Proof.DwInBlocks
public import proofs.«01_k».proof.Proof.Gen.Reference6Ideal.Run
public import Idealize.ShloMosaic.Lib.Quiescent

@[expose] public section

set_option maxRecDepth 16384

noncomputable section

namespace Cert.Kernel6Ideal.DwIn

open Cert.Kernel6Ideal Cert.Kernel6Ideal.Gen Cert.Coords Idealize.ShloMosaic Idealize.ShloMosaic.TcCoe Idealize.SL.Sem
open Idealize.ShloMosaic.Pipeline (Dat)

section Arrays

variable (m : (ℓ : Loc nD τ sig) → Buf (Elt Ideal) ℓ) (c : Dev nD)

/-- The arguments: the normalised input, then the seven branch gradients. -/
abbrev a0 : FVec Ideal S4096x1024 .f32 := m ((c : Thread nD τ).loc main_arg0)
abbrev a2 : FVec Ideal S4096x512 .f32 := m ((c : Thread nD τ).loc main_arg2)
abbrev a3 : FVec Ideal S4096x512 .f32 := m ((c : Thread nD τ).loc main_arg3)
abbrev a4 : FVec Ideal S4096x512 .f32 := m ((c : Thread nD τ).loc main_arg4)
abbrev a5 : FVec Ideal S4096x512 .f32 := m ((c : Thread nD τ).loc main_arg5)
abbrev a6 : FVec Ideal S4096x128 .f32 := m ((c : Thread nD τ).loc main_arg6)
abbrev a7 : FVec Ideal S4096x128 .f32 := m ((c : Thread nD τ).loc main_arg7)
abbrev a8 : FVec Ideal S4096x2048 .f32 := m ((c : Thread nD τ).loc main_arg8)

theorem v0_eq : at2 (V m c main_v0 : FVec Ideal S4096x512 .bf16) = at2 (a2 m c) := by
  funext r k
  have h : (V m c main_v0 : FVec Ideal S4096x512 .bf16) = truncf .bf16 (a2 m c) bitsLt_bf16_f32 := by
    show StableHlo.after hostOps0 (fun b => m (c, b)) _ = _
    unfold hostOps0
    after_results_simp <;> rfl
  show (V m c main_v0 : FVec Ideal S4096x512 .bf16) (ix2 r k) = _
  rw [h]
  pointwise []

theorem v1_eq : at2 (V m c main_v1 : FVec Ideal S4096x512 .bf16) = at2 (a3 m c) := by
  funext r k
  have h : (V m c main_v1 : FVec Ideal S4096x512 .bf16) = truncf .bf16 (a3 m c) bitsLt_bf16_f32 := by
    show StableHlo.after hostOps0 (fun b => m (c, b)) _ = _
    unfold hostOps0
    after_results_simp <;> rfl
  show (V m c main_v1 : FVec Ideal S4096x512 .bf16) (ix2 r k) = _
  rw [h]
  pointwise []

theorem v2_eq : at2 (V m c main_v2 : FVec Ideal S4096x512 .bf16) = at2 (a4 m c) := by
  funext r k
  have h : (V m c main_v2 : FVec Ideal S4096x512 .bf16) = truncf .bf16 (a4 m c) bitsLt_bf16_f32 := by
    show StableHlo.after hostOps0 (fun b => m (c, b)) _ = _
    unfold hostOps0
    after_results_simp <;> rfl
  show (V m c main_v2 : FVec Ideal S4096x512 .bf16) (ix2 r k) = _
  rw [h]
  pointwise []

theorem v3_eq : at2 (V m c main_v3 : FVec Ideal S4096x512 .bf16) = at2 (a5 m c) := by
  funext r k
  have h : (V m c main_v3 : FVec Ideal S4096x512 .bf16) = truncf .bf16 (a5 m c) bitsLt_bf16_f32 := by
    show StableHlo.after hostOps0 (fun b => m (c, b)) _ = _
    unfold hostOps0
    after_results_simp <;> rfl
  show (V m c main_v3 : FVec Ideal S4096x512 .bf16) (ix2 r k) = _
  rw [h]
  pointwise []

theorem v4_eq : at2 (V m c main_v4 : FVec Ideal S4096x128 .bf16) = at2 (a6 m c) := by
  funext r k
  have h : (V m c main_v4 : FVec Ideal S4096x128 .bf16) = truncf .bf16 (a6 m c) bitsLt_bf16_f32 := by
    show StableHlo.after hostOps0 (fun b => m (c, b)) _ = _
    unfold hostOps0
    after_results_simp <;> rfl
  show (V m c main_v4 : FVec Ideal S4096x128 .bf16) (ix2 r k) = _
  rw [h]
  pointwise []

theorem v5_eq : at2 (V m c main_v5 : FVec Ideal S4096x128 .bf16) = at2 (a7 m c) := by
  funext r k
  have h : (V m c main_v5 : FVec Ideal S4096x128 .bf16) = truncf .bf16 (a7 m c) bitsLt_bf16_f32 := by
    show StableHlo.after hostOps0 (fun b => m (c, b)) _ = _
    unfold hostOps0
    after_results_simp <;> rfl
  show (V m c main_v5 : FVec Ideal S4096x128 .bf16) (ix2 r k) = _
  rw [h]
  pointwise []

theorem v6_eq : at2 (V m c main_v6 : FVec Ideal S4096x2048 .bf16) = at2 (a8 m c) := by
  funext r k
  have h : (V m c main_v6 : FVec Ideal S4096x2048 .bf16) = truncf .bf16 (a8 m c) bitsLt_bf16_f32 := by
    show StableHlo.after hostOps0 (fun b => m (c, b)) _ = _
    unfold hostOps0
    after_results_simp <;> rfl
  show (V m c main_v6 : FVec Ideal S4096x2048 .bf16) (ix2 r k) = _
  rw [h]
  pointwise []

theorem v7_eq : at2 (V m c main_v7 : FVec Ideal S4096x1024 .bf16) = at2 (a0 m c) := by
  funext r k
  have h : (V m c main_v7 : FVec Ideal S4096x1024 .bf16) = truncf .bf16 (a0 m c) bitsLt_bf16_f32 := by
    show StableHlo.after hostOps0 (fun b => m (c, b)) _ = _
    unfold hostOps0
    after_results_simp <;> rfl
  show (V m c main_v7 : FVec Ideal S4096x1024 .bf16) (ix2 r k) = _
  rw [h]
  pointwise []

theorem w0_eq : w0 m c = lay (at2 (a2 m c)) (at2 (a3 m c)) (at2 (a4 m c)) (at2 (a5 m c)) (at2 (a6 m c)) (at2 (a7 m c)) (at2 (a8 m c)) := by
  unfold w0
  rw [v0_eq, v1_eq, v2_eq, v3_eq, v4_eq, v5_eq, v6_eq]

theorem w1_eq : w1 m c = at2 (a0 m c) := v7_eq m c

end Arrays

end Cert.Kernel6Ideal.DwIn

namespace Cert.Reference6Ideal.DwIn

open Cert.Reference6Ideal Cert.Reference6Ideal.Gen Cert.Coords Idealize.ShloMosaic Idealize.ShloMosaic.TcCoe Idealize.SL.Sem
open Cert.Kernel6Ideal.DwIn (lay wide)

/-- The branch gradients side by side. -/
def catT (x2 : FVec Ideal S4096x512 .f32) (x3 : FVec Ideal S4096x512 .f32) (x4 : FVec Ideal S4096x512 .f32) (x5 : FVec Ideal S4096x512 .f32) (x6 : FVec Ideal S4096x128 .f32) (x7 : FVec Ideal S4096x128 .f32) (x8 : FVec Ideal S4096x2048 .f32) : FVec Ideal S4096x4352 .f32 :=
  concatenate S4096x4352 1 [⟨S4096x512, x2⟩, ⟨S4096x512, x3⟩, ⟨S4096x512, x4⟩, ⟨S4096x512, x5⟩, ⟨S4096x128, x6⟩, ⟨S4096x128, x7⟩, ⟨S4096x2048, x8⟩] concatenates_S4096x512_S4096x512_S4096x512_S4096x512_S4096x128_S4096x128_S4096x2048_S4096x4352_d1

theorem catT_apply (x2 : FVec Ideal S4096x512 .f32) (x3 : FVec Ideal S4096x512 .f32) (x4 : FVec Ideal S4096x512 .f32) (x5 : FVec Ideal S4096x512 .f32) (x6 : FVec Ideal S4096x128 .f32) (x7 : FVec Ideal S4096x128 .f32) (x8 : FVec Ideal S4096x2048 .f32) (r : Fin 4096) (k : Fin 4352) :
    catT x2 x3 x4 x5 x6 x7 x8 (ix2 r k) = lay (at2 x2) (at2 x3) (at2 x4) (at2 x5) (at2 x6) (at2 x7) (at2 x8) r k := by
  unfold catT
  pointwise []
  unfold lay
  by_cases c0 : k.val < 512
  · rw [dif_pos c0, dif_pos c0]
  by_cases c1 : k.val < 1024
  · rw [dif_neg (show ¬ k.val < 512 by omega), dif_pos (show k.val - 512 < 512 by omega), dif_neg (show ¬ k.val < 512 by omega), dif_pos c1]
  by_cases c2 : k.val < 1536
  · rw [dif_neg (show ¬ k.val < 512 by omega), dif_neg (show ¬ k.val - 512 < 512 by omega), dif_pos (show k.val - 512 - 512 < 512 by omega), dif_neg (show ¬ k.val < 512 by omega), dif_neg (show ¬ k.val < 1024 by omega), dif_pos c2]
    exact congrArg (fun w => x4 (ix2 r w)) (Fin.ext (by show k.val - 512 - 512 = k.val - 1024; omega))
  by_cases c3 : k.val < 2048
  · rw [dif_neg (show ¬ k.val < 512 by omega), dif_neg (show ¬ k.val - 512 < 512 by omega), dif_neg (show ¬ k.val - 512 - 512 < 512 by omega), dif_pos (show k.val - 512 - 512 - 512 < 512 by omega), dif_neg (show ¬ k.val < 512 by omega), dif_neg (show ¬ k.val < 1024 by omega), dif_neg (show ¬ k.val < 1536 by omega), dif_pos c3]
    exact congrArg (fun w => x5 (ix2 r w)) (Fin.ext (by show k.val - 512 - 512 - 512 = k.val - 1536; omega))
  by_cases c4 : k.val < 2176
  · rw [dif_neg (show ¬ k.val < 512 by omega), dif_neg (show ¬ k.val - 512 < 512 by omega), dif_neg (show ¬ k.val - 512 - 512 < 512 by omega), dif_neg (show ¬ k.val - 512 - 512 - 512 < 512 by omega), dif_pos (show k.val - 512 - 512 - 512 - 512 < 128 by omega), dif_neg (show ¬ k.val < 512 by omega), dif_neg (show ¬ k.val < 1024 by omega), dif_neg (show ¬ k.val < 1536 by omega), dif_neg (show ¬ k.val < 2048 by omega), dif_pos c4]
    exact congrArg (fun w => x6 (ix2 r w)) (Fin.ext (by show k.val - 512 - 512 - 512 - 512 = k.val - 2048; omega))
  by_cases c5 : k.val < 2304
  · rw [dif_neg (show ¬ k.val < 512 by omega), dif_neg (show ¬ k.val - 512 < 512 by omega), dif_neg (show ¬ k.val - 512 - 512 < 512 by omega), dif_neg (show ¬ k.val - 512 - 512 - 512 < 512 by omega), dif_neg (show ¬ k.val - 512 - 512 - 512 - 512 < 128 by omega), dif_pos (show k.val - 512 - 512 - 512 - 512 - 128 < 128 by omega), dif_neg (show ¬ k.val < 512 by omega), dif_neg (show ¬ k.val < 1024 by omega), dif_neg (show ¬ k.val < 1536 by omega), dif_neg (show ¬ k.val < 2048 by omega), dif_neg (show ¬ k.val < 2176 by omega), dif_pos c5]
    exact congrArg (fun w => x7 (ix2 r w)) (Fin.ext (by show k.val - 512 - 512 - 512 - 512 - 128 = k.val - 2176; omega))
  rw [dif_neg (show ¬ k.val < 512 by omega), dif_neg (show ¬ k.val - 512 < 512 by omega), dif_neg (show ¬ k.val - 512 - 512 < 512 by omega), dif_neg (show ¬ k.val - 512 - 512 - 512 < 512 by omega), dif_neg (show ¬ k.val - 512 - 512 - 512 - 512 < 128 by omega), dif_neg (show ¬ k.val - 512 - 512 - 512 - 512 - 128 < 128 by omega), dif_neg (show ¬ k.val < 512 by omega), dif_neg (show ¬ k.val < 1024 by omega), dif_neg (show ¬ k.val < 1536 by omega), dif_neg (show ¬ k.val < 2048 by omega), dif_neg (show ¬ k.val < 2176 by omega), dif_neg (show ¬ k.val < 2304 by omega)]
  exact congrArg (fun w => x8 (ix2 r w)) (Fin.ext (by show k.val - 512 - 512 - 512 - 512 - 128 - 128 = k.val - 2304; omega))

/-- The reference's term. -/
def gradT (x0 : FVec Ideal S4096x1024 .f32) (x2 : FVec Ideal S4096x512 .f32) (x3 : FVec Ideal S4096x512 .f32) (x4 : FVec Ideal S4096x512 .f32) (x5 : FVec Ideal S4096x512 .f32) (x6 : FVec Ideal S4096x128 .f32) (x7 : FVec Ideal S4096x128 .f32) (x8 : FVec Ideal S4096x2048 .f32) : FVec Ideal S8x544x1024 .bf16 :=
  truncf .bf16 (shapeCast _ (transpose S4352x1024 [1, 0] (transpose S1024x4352 [1, 0] (Host.dotGeneral dot_S4096x4352_S4096x1024_S4352x1024_0_0_1_1_n_n none (catT x2 x3 x4 x5 x6 x7 x8) x0) transposes_S4352x1024_S1024x4352_1_0) transposes_S1024x4352_S4352x1024_1_0) shapeCasts_S4352x1024_S8x544x1024) bitsLt_bf16_f32

theorem gradT_apply (x0 : FVec Ideal S4096x1024 .f32) (x2 : FVec Ideal S4096x512 .f32) (x3 : FVec Ideal S4096x512 .f32) (x4 : FVec Ideal S4096x512 .f32) (x5 : FVec Ideal S4096x512 .f32) (x6 : FVec Ideal S4096x128 .f32) (x7 : FVec Ideal S4096x128 .f32) (x8 : FVec Ideal S4096x2048 .f32)
    (u : Fin 8) (a : Fin 544) (b : Fin 1024) :
    gradT x0 x2 x3 x4 x5 x6 x7 x8 (ix3 u a b) = tmm (lay (at2 x2) (at2 x3) (at2 x4) (at2 x5) (at2 x6) (at2 x7) (at2 x8)) (at2 x0) (wide u a) b := by
  unfold gradT
  pointwise []
  refine Finset.sum_congr rfl fun x _ => ?_
  have hk : (⟨u.val * 544 + a.val, by have hu := u.isLt; have ha := a.isLt; omega⟩ : Fin 4352) = wide u a :=
    Fin.ext (by show u.val * 544 + a.val = 544 * u.val + a.val; omega)
  refine congrArg (fun w => w * at2 x0 x b) ?_
  rw [← catT_apply x2 x3 x4 x5 x6 x7 x8]
  exact congrArg (fun q => catT x2 x3 x4 x5 x6 x7 x8 (ix2 x q)) hk

variable (m : (ℓ : Loc Cert.Kernel6Ideal.nD Cert.Kernel6Ideal.τ Cert.Kernel6Ideal.sig) → Buf (Elt Ideal) ℓ) (c : Dev Cert.Kernel6Ideal.nD)

open Cert.Kernel6Ideal.DwIn

theorem meet8 : gradT (a0 m c) (a2 m c) (a3 m c) (a4 m c) (a5 m c) (a6 m c) (a7 m c) (a8 m c) = res8 m c := by
  funext (i : S8x544x1024.Idx)
  obtain ⟨u, a, b, rfl⟩ : ∃ (u : Fin 8) (a : Fin 544) (b : Fin 1024), i = ix3 u a b := ⟨i 0, i 1, i 2, eq_ix3 i⟩
  refine (gradT_apply _ _ _ _ _ _ _ _ u a b).trans ?_
  rw [← w0_eq, ← w1_eq]
  rfl

end Cert.Reference6Ideal.DwIn

namespace Cert.Proof.DwInClaims

open Idealize.ShloMosaic Idealize.ShloMosaic.TcCoe Idealize.SL.Sem
open Cert.Kernel6Ideal.DwIn Cert.Reference6Ideal.DwIn

/-- The kernel and the reference leave the same arrays. -/
theorem algebraic : Cert.algebraic_Kernel6Ideal_Reference6Ideal := by
  intro m ρ m' ρ' _ hag
  refine ⟨fun c => res8 m c, run m ρ, ?_⟩
  refine (θ_run Cert.Reference6Ideal.defs _ _).mono (fun r h c => ?_) (Cert.Reference6Ideal.Value.run (F := Ideal) m' ρ')
  obtain ⟨e0, e1, e2, e3, e4, e5, e6, e7, e8⟩ := hag c
  obtain ⟨h8, hk⟩ := h c
  refine ⟨h8.trans ?_, hk⟩
  · rw [e0, e2, e3, e4, e5, e6, e7, e8]; exact meet8 m c

/-- The reference leaves its arguments as they were and no signal raised. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Proof.DwInClaims

end
-- ==== Proof.MlpUpBwdBlocks.lean ====
/-
  The hidden layer's gradient, read by blocks. The grid has eight points; point t works on rows 512 t to 512 t + 511
  of the output's gradient, of the hidden layer and of the result, and on the whole of the down weight.
-/
module

public import proofs.«01_k».proof.Proof.Gen.Kernel7Ideal.Value
public import proofs.«01_k».proof.Proof.Coords

@[expose] public section

set_option maxRecDepth 16384

noncomputable section

namespace Cert.Kernel7Ideal.MlpUpBwd

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem hz : (![0, 0] : Fin 2 → Nat) = fun _ => 0 := funext fun a => by fin_cases a <;> rfl

/-- Each block starts at its point's rows, in column zero; a whole array's block starts at zero. -/
theorem start : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0) := by
  decide +kernel

/-- Window 0, the output's gradient: its block at an index. -/
theorem blk0 (c : Dev nD) (t : Fin cfg0.N) (r : Fin 512) (k : Fin 1024) :
    iblk m c 0 t (ix2 r k) = V m c main_v0 (ix2 (row t r) k) := by
  show V m c main_v0 ((win0_0.blk t).view.emb (ix2 r k)) = _
  refine congrArg (V m c main_v0) (funext fun a => Fin.ext ?_)
  match a with
  | ⟨0, _⟩ =>
    show win0_0.index t 0 * 512 + 1 * r.val = 512 * t.val + r.val
    rw [(start t).1.1]; omega
  | ⟨1, _⟩ =>
    show win0_0.index t 1 * 1024 + 1 * k.val = k.val
    rw [(start t).1.2]; omega

/-- Window 1, the hidden layer before its activation: its block at an index. -/
theorem blk1 (c : Dev nD) (t : Fin cfg0.N) (r : Fin 512) (k : Fin 4096) :
    iblk m c 1 t (ix2 r k) = V m c main_v1 (ix2 (row t r) k) := by
  show V m c main_v1 ((win0_1.blk t).view.emb (ix2 r k)) = _
  refine congrArg (V m c main_v1) (funext fun a => Fin.ext ?_)
  match a with
  | ⟨0, _⟩ =>
    show win0_1.index t 0 * 512 + 1 * r.val = 512 * t.val + r.val
    rw [(start t).2.1.1]; omega
  | ⟨1, _⟩ =>
    show win0_1.index t 1 * 4096 + 1 * k.val = k.val
    rw [(start t).2.1.2]; omega

/-- Window 2, the down weight: its block at an index. -/
theorem blk2 (c : Dev nD) (t : Fin cfg0.N) (r : Fin 4096) (k : Fin 1024) :
    iblk m c 2 t (ix2 r k) = V m c main_v2 (ix2 r k) := by
  show V m c main_v2 ((win0_2.blk t).view.emb (ix2 r k)) = _
  refine congrArg (V m c main_v2) (funext fun a => Fin.ext ?_)
  match a with
  | ⟨0, _⟩ =>
    show win0_2.index t 0 * 4096 + 1 * r.val = r.val
    rw [(start t).2.2.1.1]; omega
  | ⟨1, _⟩ =>
    show win0_2.index t 1 * 1024 + 1 * k.val = k.val
    rw [(start t).2.2.1.2]; omega

/-- Window 3, the hidden layer's gradient: an array read through its block at point `t`. -/
theorem read3 (A : Vec Ideal S4096x4096 .bf16) (t : Fin cfg0.N) (r : Fin 512) (k : Fin 4096) :
    ((win0_3.blk t).view.read (Elt Ideal) A : Vec Ideal S512x4096 .bf16) (ix2 r k) = A (ix2 (row t r) k) := by
  show A ((win0_3.blk t).view.emb (ix2 r k)) = _
  refine congrArg A (funext fun a => Fin.ext ?_)
  match a with
  | ⟨0, _⟩ =>
    show win0_3.index t 0 * 512 + 1 * r.val = 512 * t.val + r.val
    rw [(start t).2.2.2.1]; omega
  | ⟨1, _⟩ =>
    show win0_3.index t 1 * 4096 + 1 * k.val = k.val
    rw [(start t).2.2.2.2]; omega

/-- Window 3's eight blocks fill its array. -/
theorem cover3 (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 8 := N_0
  refine ⟨⟨(i 0).val / 512, by omega⟩, flush0_3 _, ?_⟩
  generalize ht : (⟨(i 0).val / 512, by omega⟩ : Fin cfg0.N) = t
  have hv : t.val = (i 0).val / 512 := by rw [← ht]
  show i ∈ ((View.whole main_v3).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(start t).2.2.2.1]; omega
  | ⟨1, _⟩ =>
    show win0_3.index t 1 * 4096 ≤ (i 1).val ∧ (i 1).val < win0_3.index t 1 * 4096 + 4096
    rw [(start t).2.2.2.2]; omega

end Cert.Kernel7Ideal.MlpUpBwd

end
-- ==== Proof.MlpUpBwd.lean ====
/-
  The hidden layer's gradient after the run, as a function of the three arrays the pipeline reads, and the reference's
  term met with it: the output's gradient times the weight transposed, times twice the rectified hidden layer.
-/
module

public import proofs.«01_k».proof.Defs
public import proofs.«01_k».proof.Proof.MlpUpBwdBlocks
public import proofs.«01_k».proof.Proof.Gen.Reference7Ideal.Run
public import Idealize.ShloMosaic.Lib.Quiescent

@[expose] public section

set_option maxRecDepth 16384

noncomputable section

namespace Cert.Kernel7Ideal.MlpUpBwd

open Cert.Kernel7Ideal Cert.Kernel7Ideal.Gen Cert.Coords Idealize.ShloMosaic Idealize.ShloMosaic.TcCoe Idealize.SL.Sem
open Idealize.ShloMosaic.Pipeline (Dat)

/-- The gradient at a hidden unit. -/
def du {n : Nat} (DY : Fin n → Fin 1024 → EReal) (U : Fin n → Fin 4096 → EReal) (W : Fin 4096 → Fin 1024 → EReal)
    (r : Fin n) (k : Fin 4096) : EReal := mmt DY W r k * (two * max (U r k) 0)

theorem pay_apply (x0 : Vec Ideal S512x1024 .bf16) (x1 : Vec Ideal S4096x1024 .bf16) (x2 : Vec Ideal S512x4096 .bf16)
    (r : Fin 512) (k : Fin 4096) : k0_pay1 x0 x1 x2 (ix2 r k) = du (at2 x0) (at2 x2) (at2 x1) r k := by
  pointwise [k0_pay1, du, mmt]

section Arrays

variable (m : (ℓ : Loc nD τ sig) → Buf (Elt Ideal) ℓ) (c : Dev nD)

/-- The output's gradient, as the pipeline reads it. -/
abbrev w0 : Fin 4096 → Fin 1024 → EReal := at2 (V m c main_v0)
/-- The hidden layer before its activation, as the pipeline reads it. -/
abbrev w1 : Fin 4096 → Fin 4096 → EReal := at2 (V m c main_v1)
/-- The down weight, as the pipeline reads it. -/
abbrev w2 : Fin 4096 → Fin 1024 → EReal := at2 (V m c main_v2)

/-- The result. -/
def res3 : Vec Ideal S4096x4096 .bf16 := fun i => du (w0 m c) (w1 m c) (w2 m c) (i 0) (i 1)

variable (t : Fin cfg0.N)

theorem in0 : at2 (iblk m c 0 t) = fun r => w0 m c (row t r) := funext fun r => funext fun k => blk0 m c t r k
theorem in1 : at2 (iblk m c 1 t) = fun r => w1 m c (row t r) := funext fun r => funext fun k => blk1 m c t r k
theorem in2 : at2 (iblk m c 2 t) = w2 m c := funext fun r => funext fun k => blk2 m c t r k

theorem flushed3 : (dats m 0 c).flushed 3 t = (win0_3.blk t).view.read (Elt Ideal) (res3 m c) := by
  rw [Value.flushed3]
  unfold out0_3
  rw [View.canon_unit_zero hz, View.ld_unit_zero hz, View.ld_unit_zero hz, View.ld_unit_zero hz]
  funext (x : S512x4096.Idx)
  obtain ⟨a, b, rfl⟩ : ∃ (a : Fin 512) (b : Fin 4096), x = ix2 a b := ⟨x 0, x 1, eq_ix2 x⟩
  refine Eq.trans ?_ (read3 _ t a b).symm
  refine (pay_apply _ _ _ a b).trans ?_
  rw [in0, in1, in2]
  rfl

/-- The whole run: the result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = res3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks m ρ)
  obtain ⟨h3, hk⟩ := h c
  refine ⟨h3.trans ?_, hk⟩
  · exact (dats m 0 c).arrAt_eq_of_cover 3 (res3 m c) (fun t _ => flushed3 m c t) cover3

/-- The arguments: the hidden layer, the down weight, the output's gradient. -/
abbrev a0 : FVec Ideal S4096x4096 .f32 := m ((c : Thread nD τ).loc main_arg0)
abbrev a1 : FVec Ideal S4096x1024 .f32 := m ((c : Thread nD τ).loc main_arg1)
abbrev a2 : FVec Ideal S4096x1024 .f32 := m ((c : Thread nD τ).loc main_arg2)

theorem w0_eq : w0 m c = at2 (a2 m c) := by
  funext r k
  have h : (V m c main_v0 : FVec Ideal S4096x1024 .bf16) = truncf .bf16 (a2 m c) bitsLt_bf16_f32 := by
    show StableHlo.after hostOps0 (fun b => m (c, b)) _ = _
    unfold hostOps0
    after_results_simp <;> rfl
  show (V m c main_v0 : FVec Ideal S4096x1024 .bf16) (ix2 r k) = _
  rw [h]
  pointwise []

theorem w1_eq : w1 m c = at2 (a0 m c) := by
  funext r k
  have h : (V m c main_v1 : FVec Ideal S4096x4096 .bf16) = truncf .bf16 (a0 m c) bitsLt_bf16_f32 := by
    show StableHlo.after hostOps0 (fun b => m (c, b)) _ = _
    unfold hostOps0
    after_results_simp <;> rfl
  show (V m c main_v1 : FVec Ideal S4096x4096 .bf16) (ix2 r k) = _
  rw [h]
  pointwise []

theorem w2_eq : w2 m c = at2 (a1 m c) := by
  funext r k
  have h : (V m c main_v2 : FVec Ideal S4096x1024 .bf16) = truncf .bf16 (a1 m c) bitsLt_bf16_f32 := by
    show StableHlo.after hostOps0 (fun b => m (c, b)) _ = _
    unfold hostOps0
    after_results_simp <;> rfl
  show (V m c main_v2 : FVec Ideal S4096x1024 .bf16) (ix2 r k) = _
  rw [h]
  pointwise []

end Arrays

end Cert.Kernel7Ideal.MlpUpBwd

namespace Cert.Reference7Ideal.MlpUpBwd

open Cert.Reference7Ideal Cert.Reference7Ideal.Gen Cert.Coords Idealize.ShloMosaic Idealize.ShloMosaic.TcCoe Idealize.SL.Sem

/-- The reference's term. -/
def duT (x0 : FVec Ideal S4096x4096 .f32) (x1 x2 : FVec Ideal S4096x1024 .f32) : FVec Ideal S4096x4096 .f32 :=
  select (cmpf .ogt x0 (broadcastInDim S4096x4096 ![] bcast_S_S4096x4096 (constant S_ .f32 0x00000000#32))) (mulf (Host.dotGeneral dot_S4096x1024_S4096x1024_S4096x4096_1_1_0_0_n_n none x2 x1) (mulf (broadcastInDim S4096x4096 ![] bcast_S_S4096x4096 (constant S_ .f32 0x40000000#32)) (maximumf x0 (broadcastInDim S4096x4096 ![] bcast_S_S4096x4096 (constant S_ .f32 0x00000000#32))))) (broadcastInDim S4096x4096 ![] bcast_S_S4096x4096 (constant S_ .f32 0x00000000#32))

theorem duT_apply (x0 : FVec Ideal S4096x4096 .f32) (x1 x2 : FVec Ideal S4096x1024 .f32) (r k : Fin 4096) :
    duT x0 x1 x2 (ix2 r k) = Cert.Kernel7Ideal.MlpUpBwd.du (at2 x2) (at2 x0) (at2 x1) r k := by
  have h : duT x0 x1 x2 (ix2 r k)
      = if 0 < at2 x0 r k then mmt (at2 x2) (at2 x1) r k * (two * max (at2 x0 r k) 0) else 0 := by
    pointwise [duT, mmt]
  rw [h]
  unfold Cert.Kernel7Ideal.MlpUpBwd.du
  split
  · rfl
  · rename_i hn
    rw [max_eq_right (not_lt.mp hn), mul_zero, mul_zero]

variable (m : (ℓ : Loc Cert.Kernel7Ideal.nD Cert.Kernel7Ideal.τ Cert.Kernel7Ideal.sig) → Buf (Elt Ideal) ℓ) (c : Dev Cert.Kernel7Ideal.nD)

open Cert.Kernel7Ideal.MlpUpBwd

theorem meet3 : truncf .bf16 (duT (a0 m c) (a1 m c) (a2 m c)) bitsLt_bf16_f32 = res3 m c := by
  funext (i : S4096x4096.Idx)
  obtain ⟨r, k, rfl⟩ : ∃ (r : Fin 4096) (k : Fin 4096), i = ix2 r k := ⟨i 0, i 1, eq_ix2 i⟩
  refine (duT_apply _ _ _ r k).trans ?_
  show _ = du (w0 m c) (w1 m c) (w2 m c) r k
  rw [w0_eq, w1_eq, w2_eq]

end Cert.Reference7Ideal.MlpUpBwd

namespace Cert.Proof.MlpUpBwdClaims

open Idealize.ShloMosaic Idealize.ShloMosaic.TcCoe Idealize.SL.Sem
open Cert.Kernel7Ideal.MlpUpBwd Cert.Reference7Ideal.MlpUpBwd

/-- The kernel and the reference leave the same arrays. -/
theorem algebraic : Cert.algebraic_Kernel7Ideal_Reference7Ideal := by
  intro m ρ m' ρ' _ hag
  refine ⟨fun c => res3 m c, run m ρ, ?_⟩
  refine (θ_run Cert.Reference7Ideal.defs _ _).mono (fun r h c => ?_) (Cert.Reference7Ideal.Value.run (F := Ideal) m' ρ')
  obtain ⟨e0, e1, e2⟩ := hag c
  obtain ⟨h3, hk⟩ := h c
  refine ⟨h3.trans ?_, hk⟩
  · rw [e0, e1, e2]; exact meet3 m c

/-- The reference leaves its arguments as they were and no signal raised. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Proof.MlpUpBwdClaims

end
-- ==== Proof.InProjBlocks.lean ====
/-
  The input projection, read by blocks. The grid has eight points; point t works on rows 512 t to 512 t + 511 of the
  residual stream and of the three results, and on the whole of the gain and of the weight.
-/
module

public import proofs.«01_k».proof.Proof.Gen.Kernel8Ideal.Value
public import proofs.«01_k».proof.Proof.Coords

@[expose] public section

set_option maxRecDepth 16384

noncomputable section

namespace Cert.Kernel8Ideal.InProj

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem hz : (![0, 0] : Fin 2 → Nat) = fun _ => 0 := funext fun a => by fin_cases a <;> rfl

/-- Each block starts at its point's rows, in column zero; a whole array's block starts at zero. -/
theorem start : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0) := by
  decide +kernel

/-- Window 0, the residual stream: its block at an index. -/
theorem blk0 (c : Dev nD) (t : Fin cfg0.N) (r : Fin 512) (k : Fin 1024) :
    iblk m c 0 t (ix2 r k) = V m c main_arg0 (ix2 (row t r) k) := by
  show V m c main_arg0 ((win0_0.blk t).view.emb (ix2 r k)) = _
  refine congrArg (V m c main_arg0) (funext fun a => Fin.ext ?_)
  match a with
  | ⟨0, _⟩ =>
    show win0_0.index t 0 * 512 + 1 * r.val = 512 * t.val + r.val
    rw [(start t).1.1]; omega
  | ⟨1, _⟩ =>
    show win0_0.index t 1 * 1024 + 1 * k.val = k.val
    rw [(start t).1.2]; omega

/-- Window 1, the norm's gain: its block at an index. -/
theorem blk1 (c : Dev nD) (t : Fin cfg0.N) (r : Fin 1) (k : Fin 1024) :
    iblk m c 1 t (ix2 r k) = V m c main_v0 (ix2 r k) := by
  show V m c main_v0 ((win0_1.blk t).view.emb (ix2 r k)) = _
  refine congrArg (V m c main_v0) (funext fun a => Fin.ext ?_)
  match a with
  | ⟨0, _⟩ =>
    show win0_1.index t 0 * 1 + 1 * r.val = r.val
    rw [(start t).2.1.1]; omega
  | ⟨1, _⟩ =>
    show win0_1.index t 1 * 1024 + 1 * k.val = k.val
    rw [(start t).2.1.2]; omega

/-- Window 2, the projection's weight transposed: its block at an index. -/
theorem blk2 (c : Dev nD) (t : Fin cfg0.N) (r : Fin 4352) (k : Fin 1024) :
    iblk m c 2 t (ix2 r k) = V m c main_v2 (ix2 r k) := by
  show V m c main_v2 ((win0_2.blk t).view.emb (ix2 r k)) = _
  refine congrArg (V m c main_v2) (funext fun a => Fin.ext ?_)
  match a with
  | ⟨0, _⟩ =>
    show win0_2.index t 0 * 4352 + 1 * r.val = r.val
    rw [(start t).2.2.1.1]; omega
  | ⟨1, _⟩ =>
    show win0_2.index t 1 * 1024 + 1 * k.val = k.val
    rw [(start t).2.2.1.2]; omega

/-- Window 3, the normalised stream: an array read through its block at point `t`. -/
theorem read3 (A : Vec Ideal S4096x1024 .bf16) (t : Fin cfg0.N) (r : Fin 512) (k : Fin 1024) :
    ((win0_3.blk t).view.read (Elt Ideal) A : Vec Ideal S512x1024 .bf16) (ix2 r k) = A (ix2 (row t r) k) := by
  show A ((win0_3.blk t).view.emb (ix2 r k)) = _
  refine congrArg A (funext fun a => Fin.ext ?_)
  match a with
  | ⟨0, _⟩ =>
    show win0_3.index t 0 * 512 + 1 * r.val = 512 * t.val + r.val
    rw [(start t).2.2.2.1.1]; omega
  | ⟨1, _⟩ =>
    show win0_3.index t 1 * 1024 + 1 * k.val = k.val
    rw [(start t).2.2.2.1.2]; omega

/-- Window 3's eight blocks fill its array. -/
theorem cover3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hN : cfg0.N = 8 := N_0
  refine ⟨⟨(i 0).val / 512, by omega⟩, flush0_3 _, ?_⟩
  generalize ht : (⟨(i 0).val / 512, by omega⟩ : Fin cfg0.N) = t
  have hv : t.val = (i 0).val / 512 := by rw [← ht]
  show i ∈ ((View.whole main_v3_0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(start t).2.2.2.1.1]; omega
  | ⟨1, _⟩ =>
    show win0_3.index t 1 * 1024 ≤ (i 1).val ∧ (i 1).val < win0_3.index t 1 * 1024 + 1024
    rw [(start t).2.2.2.1.2]; omega

/-- Window 4, the branches' inputs: an array read through its block at point `t`. -/
theorem read4 (A : Vec Ideal S4096x2304 .bf16) (t : Fin cfg0.N) (r : Fin 512) (k : Fin 2304) :
    ((win0_4.blk t).view.read (Elt Ideal) A : Vec Ideal S512x2304 .bf16) (ix2 r k) = A (ix2 (row t r) k) := by
  show A ((win0_4.blk t).view.emb (ix2 r k)) = _
  refine congrArg A (funext fun a => Fin.ext ?_)
  match a with
  | ⟨0, _⟩ =>
    show win0_4.index t 0 * 512 + 1 * r.val = 512 * t.val + r.val
    rw [(start t).2.2.2.2.1.1]; omega
  | ⟨1, _⟩ =>
    show win0_4.index t 1 * 2304 + 1 * k.val = k.val
    rw [(start t).2.2.2.2.1.2]; omega

/-- Window 4's eight blocks fill its array. -/
theorem cover4 (i : S4096x2304.Idx) : ∃ t : Fin cfg0.N, (cfg0.win 4).flush t = true ∧ i ∈ ((cfg0.win 4).blk t).view.set := by
  have h0 : (i 0).val < 4096 := (i 0).isLt
  have h1 : (i 1).val < 2304 := (i 1).isLt
  have hN : cfg0.N = 8 := N_0
  refine ⟨⟨(i 0).val / 512, by omega⟩, flush0_4 _, ?_⟩
  generalize ht : (⟨(i 0).val / 512, by omega⟩ : Fin cfg0.N) = t
  have hv : t.val = (i 0).val / 512 := by rw [← ht]
  show i ∈ ((View.whole main_v3_1).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [(start t).2.2.2.2.1.1]; omega
  | ⟨1, _⟩ =>
    show win0_4.index t 1 * 2304 ≤ (i 1).val ∧ (i 1).val < win0_4.index t 1 * 2304 + 2304
    rw [(start t).2.2.2.2.1.2]; omega

/-- Window 5, the gates: an array read through its block at point `t`. -/
theorem read5 (A : Vec Ideal S4096x2048 .bf16) (t : Fin cfg0.N) (r : Fin 512) (k : Fin 2048) :
    ((win0_5.blk t).view.read (Elt Ideal) A : Vec Ideal S512x2048 .bf16) (ix2 r k) = A (ix2 (row t r) k) := by
  show A ((win0_5.blk t).view.emb (ix2 r k)) = _
  refine congrArg A (funext fun a => Fin.ext ?_)
  match a with
  | ⟨0, _⟩ =>
    show win0_5.index t 0 * 512 + 1 * r.val = 512 * t.val + r.val
    rw [(start t).2.2.2.2.2.1]; omega
  | ⟨1, _⟩ =>
    show win0_5.index t 1 * 2048 + 1 * k.val = k.val
    rw [(start t).2.2.2.2.2.2]; omega

/-- Window 5's eight blocks fill its array. -/
theorem cover5 (i : S4096x2048.Idx) : ∃ t : Fin cfg0.N, (cfg0.win 5).flush t = true ∧ i ∈ ((cfg0.win 5).blk t).view.set := by
  have h0 : (i 0).val < 4096 := (i 0).isLt
  have h1 : (i 1).val < 2048 := (i 1).isLt
  have hN : cfg0.N = 8 := N_0
  refine ⟨⟨(i 0).val / 512, by omega⟩, flush0_5 _, ?_⟩
  generalize ht : (⟨(i 0).val / 512, by omega⟩ : Fin cfg0.N) = t
  have hv : t.val = (i 0).val / 512 := by rw [← ht]
  show i ∈ ((View.whole main_v3_2).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [(start t).2.2.2.2.2.1]; omega
  | ⟨1, _⟩ =>
    show win0_5.index t 1 * 2048 ≤ (i 1).val ∧ (i 1).val < win0_5.index t 1 * 2048 + 2048
    rw [(start t).2.2.2.2.2.2]; omega

end Cert.Kernel8Ideal.InProj

end
-- ==== Proof.InProj.lean ====
/-
  The input projection after the run, as a function of the three arrays the pipeline reads, and the reference's terms
  met with it: the normalised stream, its product with the weight in the branches' columns, and the logistic of that
  product in the gates' columns.
-/
module

public import proofs.«01_k».proof.Defs
public import proofs.«01_k».proof.Proof.InProjBlocks
public import proofs.«01_k».proof.Proof.Gen.Reference8Ideal.Run
public import Idealize.ShloMosaic.Lib.Quiescent

@[expose] public section

set_option maxRecDepth 16384

noncomputable section

namespace Cert.Kernel8Ideal.InProj

open Cert.Kernel8Ideal Cert.Kernel8Ideal.Gen Cert.Coords Idealize.ShloMosaic Idealize.ShloMosaic.TcCoe Idealize.SL.Sem
open Idealize.ShloMosaic.Pipeline (Dat)

/-- Column `k` of the projection's last 2048. -/
abbrev gcol (k : Fin 2048) : Fin 4352 := ⟨2304 + k.val, by have := k.isLt; omega⟩
/-- Column `k` of the projection's first 2304. -/
abbrev bcol (k : Fin 2304) : Fin 4352 := ⟨k.val, by have := k.isLt; omega⟩

theorem pay1_apply (x0 : Vec Ideal S512x1024 .f32) (x1 : Vec Ideal S1x1024 .f32)
    (r : Fin 512) (k : Fin 1024) : k0_pay1 x0 x1 (ix2 r k) = nrm (at2 x0) (at2 x1 0) r k := by
  pointwise [k0_pay1, nrm, rms]

theorem pay2_apply (x0 : Vec Ideal S512x1024 .f32) (x1 : Vec Ideal S1x1024 .f32) (x2 : Vec Ideal S4352x1024 .bf16)
    (r : Fin 512) (k : Fin 4352) : k0_pay2 x0 x1 x2 (ix2 r k) = mmt (nrm (at2 x0) (at2 x1 0)) (at2 x2) r k := by
  have h : k0_pay2 x0 x1 x2 (ix2 r k) = ∑ j : Fin 1024, k0_pay1 x0 x1 (ix2 r j) * x2 (ix2 k j) := by
    pointwise [k0_pay2]
  rw [h]
  exact Finset.sum_congr rfl fun j _ => congrArg (· * _) (pay1_apply x0 x1 r j)

theorem pay3_apply (x0 : Vec Ideal S512x1024 .f32) (x1 : Vec Ideal S1x1024 .f32) (x2 : Vec Ideal S4352x1024 .bf16)
    (r : Fin 512) (k : Fin 2304) : k0_pay3 x0 x1 x2 (ix2 r k) = mmt (nrm (at2 x0) (at2 x1 0)) (at2 x2) r (bcol k) := by
  refine Eq.trans ?_ (pay2_apply x0 x1 x2 r (bcol k))
  pointwise [k0_pay3]

theorem pay4_apply (x0 : Vec Ideal S512x1024 .f32) (x1 : Vec Ideal S1x1024 .f32) (x2 : Vec Ideal S4352x1024 .bf16)
    (r : Fin 512) (k : Fin 2048) :
    k0_pay4 x0 x1 x2 (ix2 r k) = sig1 (mmt (nrm (at2 x0) (at2 x1 0)) (at2 x2) r (gcol k)) := by
  refine Eq.trans ?_ (congrArg sig1 (pay2_apply x0 x1 x2 r (gcol k)))
  pointwise [k0_pay4, sig1]
  rw [zero_sub]

section Arrays

variable (m : (ℓ : Loc nD τ sig) → Buf (Elt Ideal) ℓ) (c : Dev nD)

/-- The residual stream, as the pipeline reads it. -/
abbrev w0 : Fin 4096 → Fin 1024 → EReal := at2 (V m c main_arg0)
/-- The norm's gain, as the pipeline reads it. -/
abbrev w1 : Fin 1 → Fin 1024 → EReal := at2 (V m c main_v0)
/-- The projection's weight transposed, as the pipeline reads it. -/
abbrev w2 : Fin 4352 → Fin 1024 → EReal := at2 (V m c main_v2)

/-- The results. -/
def res3 : Vec Ideal S4096x1024 .bf16 := fun i => nrm (w0 m c) (w1 m c 0) (i 0) (i 1)
def res4 : Vec Ideal S4096x2304 .bf16 := fun i => mmt (nrm (w0 m c) (w1 m c 0)) (w2 m c) (i 0) (bcol (i 1))
def res5 : Vec Ideal S4096x2048 .bf16 := fun i => sig1 (mmt (nrm (w0 m c) (w1 m c 0)) (w2 m c) (i 0) (gcol (i 1)))

variable (t : Fin cfg0.N)

theorem in0 : at2 (iblk m c 0 t) = fun r => w0 m c (row t r) := funext fun r => funext fun k => blk0 m c t r k
theorem in1 : at2 (iblk m c 1 t) = w1 m c := funext fun r => funext fun k => blk1 m c t r k
theorem in2 : at2 (iblk m c 2 t) = w2 m c := funext fun r => funext fun k => blk2 m c t r k

theorem flushed3 : (dats m 0 c).flushed 3 t = (win0_3.blk t).view.read (Elt Ideal) (res3 m c) := by
  rw [Value.flushed3]
  unfold out0_3
  rw [View.canon_unit_zero hz, View.ld_unit_zero hz, View.ld_unit_zero hz]
  funext (x : S512x1024.Idx)
  obtain ⟨a, b, rfl⟩ : ∃ (a : Fin 512) (b : Fin 1024), x = ix2 a b := ⟨x 0, x 1, eq_ix2 x⟩
  refine Eq.trans ?_ (read3 _ t a b).symm
  refine (pay1_apply _ _ a b).trans ?_
  rw [in0, in1]
  rfl

theorem flushed4 : (dats m 0 c).flushed 4 t = (win0_4.blk t).view.read (Elt Ideal) (res4 m c) := by
  rw [Value.flushed4]
  unfold out0_4
  rw [View.canon_unit_zero hz, View.ld_unit_zero hz, View.ld_unit_zero hz, View.ld_unit_zero hz]
  funext (x : S512x2304.Idx)
  obtain ⟨a, b, rfl⟩ : ∃ (a : Fin 512) (b : Fin 2304), x = ix2 a b := ⟨x 0, x 1, eq_ix2 x⟩
  refine Eq.trans ?_ (read4 _ t a b).symm
  refine (pay3_apply _ _ _ a b).trans ?_
  rw [in0, in1, in2]
  rfl

theorem flushed5 : (dats m 0 c).flushed 5 t = (win0_5.blk t).view.read (Elt Ideal) (res5 m c) := by
  rw [Value.flushed5]
  unfold out0_5
  rw [View.canon_unit_zero hz, View.ld_unit_zero hz, View.ld_unit_zero hz, View.ld_unit_zero hz]
  funext (x : S512x2048.Idx)
  obtain ⟨a, b, rfl⟩ : ∃ (a : Fin 512) (b : Fin 2048), x = ix2 a b := ⟨x 0, x 1, eq_ix2 x⟩
  refine Eq.trans ?_ (read5 _ t a b).symm
  refine (pay4_apply _ _ _ a b).trans ?_
  rw [in0, in1, in2]
  rfl

/-- The whole run: the result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = res3 m c
      ∧ r.2.mem ((c : Thread nD τ).loc main_v3_1) = res4 m c
      ∧ r.2.mem ((c : Thread nD τ).loc main_v3_2) = res5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks m ρ)
  obtain ⟨h3, h4, h5, hk⟩ := h c
  refine ⟨h3.trans ?_, h4.trans ?_, h5.trans ?_, hk⟩
  · exact (dats m 0 c).arrAt_eq_of_cover 3 (res3 m c) (fun t _ => flushed3 m c t) cover3
  · exact (dats m 0 c).arrAt_eq_of_cover 4 (res4 m c) (fun t _ => flushed4 m c t) cover4
  · exact (dats m 0 c).arrAt_eq_of_cover 5 (res5 m c) (fun t _ => flushed5 m c t) cover5

/-- The arguments: the residual stream, the gain, the weight. -/
abbrev a0 : FVec Ideal S4096x1024 .f32 := m ((c : Thread nD τ).loc main_arg0)
abbrev a1 : FVec Ideal S1024 .f32 := m ((c : Thread nD τ).loc main_arg1)
abbrev a2 : FVec Ideal S1024x4352 .f32 := m ((c : Thread nD τ).loc main_arg2)

theorem w0_eq : w0 m c = at2 (a0 m c) := congrArg at2 (V_main_arg0 m c)

theorem w1_eq : w1 m c = fun _ k => a1 m c (ix1 k) := by
  funext r k
  have h : (V m c main_v0 : FVec Ideal S1x1024 .f32) = shapeCast _ (a1 m c) shapeCasts_S1024_S1x1024 := by
    show StableHlo.after hostOps0 (fun b => m (c, b)) _ = _
    unfold hostOps0
    after_results_simp <;> rfl
  show (V m c main_v0 : FVec Ideal S1x1024 .f32) (ix2 r k) = _
  rw [h]
  pointwise []

theorem w2_eq : w2 m c = fun r k => at2 (a2 m c) k r := by
  funext r k
  have h : (V m c main_v2 : FVec Ideal S4352x1024 .bf16) = truncf .bf16 (transpose S4352x1024 [1, 0] (a2 m c) transposes_S1024x4352_S4352x1024_1_0) bitsLt_bf16_f32 := by
    show StableHlo.after hostOps0 (fun b => m (c, b)) _ = _
    unfold hostOps0
    after_results_simp <;> rfl
  show (V m c main_v2 : FVec Ideal S4352x1024 .bf16) (ix2 r k) = _
  rw [h]
  pointwise []

end Arrays

end Cert.Kernel8Ideal.InProj

namespace Cert.Reference8Ideal.InProj

open Cert.Reference8Ideal Cert.Reference8Ideal.Gen Cert.Coords Idealize.ShloMosaic Idealize.ShloMosaic.TcCoe Idealize.SL.Sem

open Cert.Kernel8Ideal.InProj (bcol gcol)

/-- The normalised stream. -/
def hT (x0 : FVec Ideal S4096x1024 .f32) (x1 : FVec Ideal S1024 .f32) : FVec Ideal S4096x1024 .f32 :=
  (mulf (mulf x0 (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 x1)))
/-- Its product with the weight. -/
def pT (x0 : FVec Ideal S4096x1024 .f32) (x1 : FVec Ideal S1024 .f32) (x2 : FVec Ideal S1024x4352 .f32) : FVec Ideal S4096x4352 .f32 :=
  (Host.dotGeneral dot_S4096x1024_S1024x4352_S4096x4352_1_0_0_1_n_n none (hT x0 x1) x2)
/-- The branches' inputs. -/
def brT (x0 : FVec Ideal S4096x1024 .f32) (x1 : FVec Ideal S1024 .f32) (x2 : FVec Ideal S1024x4352 .f32) : FVec Ideal S4096x2304 .f32 :=
  (extractStridedSlice S4096x2304 ![0, 0] (pT x0 x1 x2) slices_S4096x4352_S4096x2304_0_0)
/-- The gates. -/
def gtT (x0 : FVec Ideal S4096x1024 .f32) (x1 : FVec Ideal S1024 .f32) (x2 : FVec Ideal S1024x4352 .f32) : FVec Ideal S4096x2048 .f32 :=
  (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 2304] (pT x0 x1 x2) slices_S4096x4352_S4096x2048_0_2304)))))

variable (x0 : FVec Ideal S4096x1024 .f32) (x1 : FVec Ideal S1024 .f32) (x2 : FVec Ideal S1024x4352 .f32)

theorem hT_apply (r : Fin 4096) (k : Fin 1024) : hT x0 x1 (ix2 r k) = nrm (at2 x0) (fun k => x1 (ix1 k)) r k := by
  pointwise [hT, nrm, rms]

theorem pT_apply (r : Fin 4096) (k : Fin 4352) :
    pT x0 x1 x2 (ix2 r k) = mmt (nrm (at2 x0) (fun k => x1 (ix1 k))) (fun r k => at2 x2 k r) r k := by
  have h : pT x0 x1 x2 (ix2 r k) = ∑ j : Fin 1024, hT x0 x1 (ix2 r j) * x2 (ix2 j k) := by
    pointwise [pT]
  rw [h]
  exact Finset.sum_congr rfl fun j _ => congrArg (· * _) (hT_apply x0 x1 r j)

theorem brT_apply (r : Fin 4096) (k : Fin 2304) : brT x0 x1 x2 (ix2 r k) = pT x0 x1 x2 (ix2 r (bcol k)) := by
  pointwise [brT]

theorem gtT_apply (r : Fin 4096) (k : Fin 2048) : gtT x0 x1 x2 (ix2 r k) = sig1 (pT x0 x1 x2 (ix2 r (gcol k))) := by
  pointwise [gtT, sig1]

variable (m : (ℓ : Loc Cert.Kernel8Ideal.nD Cert.Kernel8Ideal.τ Cert.Kernel8Ideal.sig) → Buf (Elt Ideal) ℓ) (c : Dev Cert.Kernel8Ideal.nD)

open Cert.Kernel8Ideal.InProj

theorem meet3 : truncf .bf16 (hT (a0 m c) (a1 m c)) bitsLt_bf16_f32 = res3 m c := by
  funext (i : S4096x1024.Idx)
  obtain ⟨r, k, rfl⟩ : ∃ (r : Fin 4096) (k : Fin 1024), i = ix2 r k := ⟨i 0, i 1, eq_ix2 i⟩
  refine (hT_apply _ _ r k).trans ?_
  show _ = nrm (w0 m c) (w1 m c 0) r k
  rw [w0_eq, w1_eq]

theorem meet4 : truncf .bf16 (brT (a0 m c) (a1 m c) (a2 m c)) bitsLt_bf16_f32 = res4 m c := by
  funext (i : S4096x2304.Idx)
  obtain ⟨r, k, rfl⟩ : ∃ (r : Fin 4096) (k : Fin 2304), i = ix2 r k := ⟨i 0, i 1, eq_ix2 i⟩
  refine (brT_apply _ _ _ r k).trans ((pT_apply _ _ _ r (bcol k)).trans ?_)
  show _ = mmt (nrm (w0 m c) (w1 m c 0)) (w2 m c) r (bcol k)
  rw [w0_eq, w1_eq, w2_eq]

theorem meet5 : truncf .bf16 (gtT (a0 m c) (a1 m c) (a2 m c)) bitsLt_bf16_f32 = res5 m c := by
  funext (i : S4096x2048.Idx)
  obtain ⟨r, k, rfl⟩ : ∃ (r : Fin 4096) (k : Fin 2048), i = ix2 r k := ⟨i 0, i 1, eq_ix2 i⟩
  refine (gtT_apply _ _ _ r k).trans ((congrArg sig1 (pT_apply _ _ _ r (gcol k))).trans ?_)
  show _ = sig1 (mmt (nrm (w0 m c) (w1 m c 0)) (w2 m c) r (gcol k))
  rw [w0_eq, w1_eq, w2_eq]

end Cert.Reference8Ideal.InProj

namespace Cert.Proof.InProjClaims

open Idealize.ShloMosaic Idealize.ShloMosaic.TcCoe Idealize.SL.Sem
open Cert.Kernel8Ideal.InProj Cert.Reference8Ideal.InProj

/-- The kernel and the reference leave the same arrays. -/
theorem algebraic : Cert.algebraic_Kernel8Ideal_Reference8Ideal := by
  intro m ρ m' ρ' _ hag
  refine ⟨fun c => res3 m c, fun c => res4 m c, fun c => res5 m c, run m ρ, ?_⟩
  refine (θ_run Cert.Reference8Ideal.defs _ _).mono (fun r h c => ?_) (Cert.Reference8Ideal.Value.run (F := Ideal) m' ρ')
  obtain ⟨e0, e1, e2⟩ := hag c
  obtain ⟨h3, h4, h5, hk⟩ := h c
  refine ⟨h3.trans ?_, h4.trans ?_, h5.trans ?_, hk⟩
  · rw [e0, e1]; exact meet3 m c
  · rw [e0, e1, e2]; exact meet4 m c
  · rw [e0, e1, e2]; exact meet5 m c

/-- The reference leaves its arguments as they were and no signal raised. -/
theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

end Cert.Proof.InProjClaims

end
-- ==== Proof.MlpDownBlocks.lean ====
/-
  The down projection, read by blocks. The grid has eight points; point t works on rows 512 t to 512 t + 511 of the
  residual stream, of the hidden layer and of the result, and on the whole of the down weight.
-/
module

public import proofs.«01_k».proof.Proof.Gen.Kernel9Ideal.Value
public import proofs.«01_k».proof.Proof.Coords

@[expose] public section

set_option maxRecDepth 16384

noncomputable section

namespace Cert.Kernel9Ideal.MlpDown

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem hz : (![0, 0] : Fin 2 → Nat) = fun _ => 0 := funext fun a => by fin_cases a <;> rfl

/-- Each block starts at its point's rows, in column zero; a whole array's block starts at zero. -/
theorem start : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0) := by
  decide +kernel

/-- Window 0, the residual stream: its block at an index. -/
theorem blk0 (c : Dev nD) (t : Fin cfg0.N) (r : Fin 512) (k : Fin 1024) :
    iblk m c 0 t (ix2 r k) = V m c main_arg0 (ix2 (row t r) k) := by
  show V m c main_arg0 ((win0_0.blk t).view.emb (ix2 r k)) = _
  refine congrArg (V m c main_arg0) (funext fun a => Fin.ext ?_)
  match a with
  | ⟨0, _⟩ =>
    show win0_0.index t 0 * 512 + 1 * r.val = 512 * t.val + r.val
    rw [(start t).1.1]; omega
  | ⟨1, _⟩ =>
    show win0_0.index t 1 * 1024 + 1 * k.val = k.val
    rw [(start t).1.2]; omega

/-- Window 1, the hidden layer before its activation: its block at an index. -/
theorem blk1 (c : Dev nD) (t : Fin cfg0.N) (r : Fin 512) (k : Fin 4096) :
    iblk m c 1 t (ix2 r k) = V m c main_v0 (ix2 (row t r) k) := by
  show V m c main_v0 ((win0_1.blk t).view.emb (ix2 r k)) = _
  refine congrArg (V m c main_v0) (funext fun a => Fin.ext ?_)
  match a with
  | ⟨0, _⟩ =>
    show win0_1.index t 0 * 512 + 1 * r.val = 512 * t.val + r.val
    rw [(start t).2.1.1]; omega
  | ⟨1, _⟩ =>
    show win0_1.index t 1 * 4096 + 1 * k.val = k.val
    rw [(start t).2.1.2]; omega

/-- Window 2, the down weight: its block at an index. -/
theorem blk2 (c : Dev nD) (t : Fin cfg0.N) (r : Fin 4096) (k : Fin 1024) :
    iblk m c 2 t (ix2 r k) = V m c main_v1 (ix2 r k) := by
  show V m c main_v1 ((win0_2.blk t).view.emb (ix2 r k)) = _
  refine congrArg (V m c main_v1) (funext fun a => Fin.ext ?_)
  match a with
  | ⟨0, _⟩ =>
    show win0_2.index t 0 * 4096 + 1 * r.val = r.val
    rw [(start t).2.2.1.1]; omega
  | ⟨1, _⟩ =>
    show win0_2.index t 1 * 1024 + 1 * k.val = k.val
    rw [(start t).2.2.1.2]; omega

/-- Window 3, the layer's output: an array read through its block at point `t`. -/
theorem read3 (A : Vec Ideal S4096x1024 .f32) (t : Fin cfg0.N) (r : Fin 512) (k : Fin 1024) :
    ((win0_3.blk t).view.read (Elt Ideal) A : Vec Ideal S512x1024 .f32) (ix2 r k) = A (ix2 (row t r) k) := by
  show A ((win0_3.blk t).view.emb (ix2 r k)) = _
  refine congrArg A (funext fun a => Fin.ext ?_)
  match a with
  | ⟨0, _⟩ =>
    show win0_3.index t 0 * 512 + 1 * r.val = 512 * t.val + r.val
    rw [(start t).2.2.2.1]; omega
  | ⟨1, _⟩ =>
    show win0_3.index t 1 * 1024 + 1 * k.val = k.val
    rw [(start t).2.2.2.2]; omega

/-- Window 3's eight blocks fill its array. -/
theorem cover3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hN : cfg0.N = 8 := N_0
  refine ⟨⟨(i 0).val / 512, by omega⟩, flush0_3 _, ?_⟩
  generalize ht : (⟨(i 0).val / 512, by omega⟩ : Fin cfg0.N) = t
  have hv : t.val = (i 0).val / 512 := by rw [← ht]
  show i ∈ ((View.whole main_v2).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(start t).2.2.2.1]; omega
  | ⟨1, _⟩ =>
    show win0_3.index t 1 * 1024 ≤ (i 1).val ∧ (i 1).val < win0_3.index t 1 * 1024 + 1024
    rw [(start t).2.2.2.2]; omega

end Cert.Kernel9Ideal.MlpDown

end
-- ==== Proof.MlpDown.lean ====
/-
  The down projection after the run, as a function of the three arrays the pipeline reads, and the reference's term
  met with it: the residual stream plus the squared rectified hidden layer times the weight.
-/
module

public import proofs.«01_k».proof.Defs
public import proofs.«01_k».proof.Proof.MlpDownBlocks
public import proofs.«01_k».proof.Proof.Gen.Reference9Ideal.Run
public import Idealize.ShloMosaic.Lib.Quiescent

@[expose] public section

set_option maxRecDepth 16384

noncomputable section

namespace Cert.Kernel9Ideal.MlpDown

open Cert.Kernel9Ideal Cert.Kernel9Ideal.Gen Cert.Coords Idealize.ShloMosaic Idealize.ShloMosaic.TcCoe Idealize.SL.Sem
open Idealize.ShloMosaic.Pipeline (Dat)

/-- The layer's output. -/
def down {n : Nat} (X : Fin n → Fin 1024 → EReal) (U : Fin n → Fin 4096 → EReal) (W : Fin 4096 → Fin 1024 → EReal)
    (r : Fin n) (k : Fin 1024) : EReal := X r k + mm (fun r j => relu2 (U r j)) W r k

theorem pay_apply (x0 : Vec Ideal S512x4096 .bf16) (x1 : Vec Ideal S512x1024 .f32) (x2 : Vec Ideal S4096x1024 .bf16)
    (r : Fin 512) (k : Fin 1024) : k0_pay1 x0 x1 x2 (ix2 r k) = down (at2 x1) (at2 x0) (at2 x2) r k := by
  pointwise [k0_pay1, down, mm, relu2]

section Arrays

variable (m : (ℓ : Loc nD τ sig) → Buf (Elt Ideal) ℓ) (c : Dev nD)

/-- The residual stream, as the pipeline reads it. -/
abbrev w0 : Fin 4096 → Fin 1024 → EReal := at2 (V m c main_arg0)
/-- The hidden layer before its activation, as the pipeline reads it. -/
abbrev w1 : Fin 4096 → Fin 4096 → EReal := at2 (V m c main_v0)
/-- The down weight, as the pipeline reads it. -/
abbrev w2 : Fin 4096 → Fin 1024 → EReal := at2 (V m c main_v1)

/-- The result. -/
def res3 : Vec Ideal S4096x1024 .f32 := fun i => down (w0 m c) (w1 m c) (w2 m c) (i 0) (i 1)

variable (t : Fin cfg0.N)

theorem in0 : at2 (iblk m c 0 t) = fun r => w0 m c (row t r) := funext fun r => funext fun k => blk0 m c t r k
theorem in1 : at2 (iblk m c 1 t) = fun r => w1 m c (row t r) := funext fun r => funext fun k => blk1 m c t r k
theorem in2 : at2 (iblk m c 2 t) = w2 m c := funext fun r => funext fun k => blk2 m c t r k

theorem flushed3 : (dats m 0 c).flushed 3 t = (win0_3.blk t).view.read (Elt Ideal) (res3 m c) := by
  rw [Value.flushed3]
  unfold out0_3
  rw [View.canon_unit_zero hz, View.ld_unit_zero hz, View.ld_unit_zero hz, View.ld_unit_zero hz]
  funext (x : S512x1024.Idx)
  obtain ⟨a, b, rfl⟩ : ∃ (a : Fin 512) (b : Fin 1024), x = ix2 a b := ⟨x 0, x 1, eq_ix2 x⟩
  refine Eq.trans ?_ (read3 _ t a b).symm
  refine (pay_apply _ _ _ a b).trans ?_
  rw [in0, in1, in2]
  rfl

/-- The whole run: the result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = res3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks m ρ)
  obtain ⟨h3, hk⟩ := h c
  refine ⟨h3.trans ?_, hk⟩
  · exact (dats m 0 c).arrAt_eq_of_cover 3 (res3 m c) (fun t _ => flushed3 m c t) cover3

/-- The arguments: the residual stream, the hidden layer, the down weight. -/
abbrev a0 : FVec Ideal S4096x1024 .f32 := m ((c : Thread nD τ).loc main_arg0)
abbrev a1 : FVec Ideal S4096x4096 .f32 := m ((c : Thread nD τ).loc main_arg1)
abbrev a2 : FVec Ideal S4096x1024 .f32 := m ((c : Thread nD τ).loc main_arg2)

theorem w0_eq : w0 m c = at2 (a0 m c) := congrArg at2 (V_main_arg0 m c)

theorem w1_eq : w1 m c = at2 (a1 m c) := by
  funext r k
  have h : (V m c main_v0 : FVec Ideal S4096x4096 .bf16) = truncf .bf16 (a1 m c) bitsLt_bf16_f32 := by
    show StableHlo.after hostOps0 (fun b => m (c, b)) _ = _
    unfold hostOps0
    after_results_simp <;> rfl
  show (V m c main_v0 : FVec Ideal S4096x4096 .bf16) (ix2 r k) = _
  rw [h]
  pointwise []

theorem w2_eq : w2 m c = at2 (a2 m c) := by
  funext r k
  have h : (V m c main_v1 : FVec Ideal S4096x1024 .bf16) = truncf .bf16 (a2 m c) bitsLt_bf16_f32 := by
    show StableHlo.after hostOps0 (fun b => m (c, b)) _ = _
    unfold hostOps0
    after_results_simp <;> rfl
  show (V m c main_v1 : FVec Ideal S4096x1024 .bf16) (ix2 r k) = _
  rw [h]
  pointwise []

end Arrays

end Cert.Kernel9Ideal.MlpDown

namespace Cert.Reference9Ideal.MlpDown

open Cert.Reference9Ideal Cert.Reference9Ideal.Gen Cert.Coords Idealize.ShloMosaic Idealize.ShloMosaic.TcCoe Idealize.SL.Sem

/-- The reference's term. -/
def downT (x0 : FVec Ideal S4096x1024 .f32) (x1 : FVec Ideal S4096x4096 .f32) (x2 : FVec Ideal S4096x1024 .f32) :
    FVec Ideal S4096x1024 .f32 :=
  addf x0 (Host.dotGeneral dot_S4096x4096_S4096x1024_S4096x1024_1_0_0_1_n_n none (mulf (maximumf x1 (broadcastInDim S4096x4096 ![] bcast_S_S4096x4096 (constant S_ .f32 0x00000000#32))) (maximumf x1 (broadcastInDim S4096x4096 ![] bcast_S_S4096x4096 (constant S_ .f32 0x00000000#32)))) x2)

theorem downT_apply (x0 : FVec Ideal S4096x1024 .f32) (x1 : FVec Ideal S4096x4096 .f32) (x2 : FVec Ideal S4096x1024 .f32)
    (r : Fin 4096) (k : Fin 1024) :
    downT x0 x1 x2 (ix2 r k) = Cert.Kernel9Ideal.MlpDown.down (at2 x0) (at2 x1) (at2 x2) r k := by
  pointwise [downT, Cert.Kernel9Ideal.MlpDown.down, mm, relu2]

variable (m : (ℓ : Loc Cert.Kernel9Ideal.nD Cert.Kernel9Ideal.τ Cert.Kernel9Ideal.sig) → Buf (Elt Ideal) ℓ) (c : Dev Cert.Kernel9Ideal.nD)

open Cert.Kernel9Ideal.MlpDown

theorem meet3 : downT (a0 m c) (a1 m c) (a2 m c) = res3 m c := by
  funext (i : S4096x1024.Idx)
  obtain ⟨r, k, rfl⟩ : ∃ (r : Fin 4096) (k : Fin 1024), i = ix2 r k := ⟨i 0, i 1, eq_ix2 i⟩
  refine (downT_apply _ _ _ r k).trans ?_
  show _ = down (w0 m c) (w1 m c) (w2 m c) r k
  rw [w0_eq, w1_eq, w2_eq]

end Cert.Reference9Ideal.MlpDown

namespace Cert.Proof.MlpDownClaims

open Idealize.ShloMosaic Idealize.ShloMosaic.TcCoe Idealize.SL.Sem
open Cert.Kernel9Ideal.MlpDown Cert.Reference9Ideal.MlpDown

/-- The kernel and the reference leave the same arrays. -/
theorem algebraic : Cert.algebraic_Kernel9Ideal_Reference9Ideal := by
  intro m ρ m' ρ' _ hag
  refine ⟨fun c => res3 m c, run m ρ, ?_⟩
  refine (θ_run Cert.Reference9Ideal.defs _ _).mono (fun r h c => ?_) (Cert.Reference9Ideal.Value.run (F := Ideal) m' ρ')
  obtain ⟨e0, e1, e2⟩ := hag c
  obtain ⟨h3, hk⟩ := h c
  refine ⟨h3.trans ?_, hk⟩
  · rw [e0, e1, e2]; exact meet3 m c

/-- The reference leaves its arguments as they were and no signal raised. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Proof.MlpDownClaims

end
-- ==== Proof.MergeOutRun.lean ====
/-
  The merge's run, its four result arrays named block by block: what each grid point writes back is the body's result
  of that point's blocks of the arguments, no two points' blocks meet, and the arguments stay as they were.
-/
module

public import proofs.«01_k».proof.Proof.Gen.Kernel10Ideal.Frame
public import Idealize.ShloMosaic.Lib.Pipeline.Value

@[expose] public section

noncomputable section

namespace Cert.Kernel10Ideal.MergeRun

open Cert.Kernel10Ideal Cert.Kernel10Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What a point writes back to this array is the body's result of the point's blocks. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- Distinct points have distinct blocks. -/
theorem idx_inj7 : ∀ t t' : Fin cfg0.N, win0_7.index t = win0_7.index t' → t = t' :=
  (by decide +kernel : ∀ t t' : Fin grid0.N, win0_7.index t = win0_7.index t' → t = t')

/-- So no two points' blocks share an index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- A block of the final array is what its point wrote back. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no block covers keeps its contents. -/
theorem entry7 (c : Dev nD) (i : S4096x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- What a point writes back to this array is the body's result of the point's blocks. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- Distinct points have distinct blocks. -/
theorem idx_inj8 : ∀ t t' : Fin cfg0.N, win0_8.index t = win0_8.index t' → t = t' :=
  (by decide +kernel : ∀ t t' : Fin grid0.N, win0_8.index t = win0_8.index t' → t = t')

/-- So no two points' blocks share an index. -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- A block of the final array is what its point wrote back. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no block covers keeps its contents. -/
theorem entry8 (c : Dev nD) (i : S4096x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- What a point writes back to this array is the body's result of the point's blocks. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- Distinct points have distinct blocks. -/
theorem idx_inj9 : ∀ t t' : Fin cfg0.N, win0_9.index t = win0_9.index t' → t = t' :=
  (by decide +kernel : ∀ t t' : Fin grid0.N, win0_9.index t = win0_9.index t' → t = t')

/-- So no two points' blocks share an index. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- A block of the final array is what its point wrote back. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no block covers keeps its contents. -/
theorem entry9 (c : Dev nD) (i : S4096x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- What a point writes back to this array is the body's result of the point's blocks. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t)) := by
  show (cfg0.win 10).cut (grid0.coords t) ((dats m 0 c).after 10 t) = _
  rw [after0_10]

/-- Distinct points have distinct blocks. -/
theorem idx_inj10 : ∀ t t' : Fin cfg0.N, win0_10.index t = win0_10.index t' → t = t' :=
  (by decide +kernel : ∀ t t' : Fin grid0.N, win0_10.index t = win0_10.index t' → t = t')

/-- So no two points' blocks share an index. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- A block of the final array is what its point wrote back. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no block covers keeps its contents. -/
theorem entry10 (c : Dev nD) (i : S4096x1024.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- The result array after the run. -/
theorem post7 (r : PUnit × MemSt nD τ sig (Elt F)) (h : Pipeline.FramePost cfgs (dats m) 0 (V m) r) (c : Dev nD) :
    r.2.mem ((c : Thread nD τ).loc main_v10_0) = (dats m 0 c).arrAt 7 cfg0.N :=
  (h c).1 7

/-- The result array after the run. -/
theorem post8 (r : PUnit × MemSt nD τ sig (Elt F)) (h : Pipeline.FramePost cfgs (dats m) 0 (V m) r) (c : Dev nD) :
    r.2.mem ((c : Thread nD τ).loc main_v10_1) = (dats m 0 c).arrAt 8 cfg0.N :=
  (h c).1 8

/-- The result array after the run. -/
theorem post9 (r : PUnit × MemSt nD τ sig (Elt F)) (h : Pipeline.FramePost cfgs (dats m) 0 (V m) r) (c : Dev nD) :
    r.2.mem ((c : Thread nD τ).loc main_v10_2) = (dats m 0 c).arrAt 9 cfg0.N :=
  (h c).1 9

/-- The result array after the run. -/
theorem post10 (r : PUnit × MemSt nD τ sig (Elt F)) (h : Pipeline.FramePost cfgs (dats m) 0 (V m) r) (c : Dev nD) :
    r.2.mem ((c : Thread nD τ).loc main_v10_3) = (dats m 0 c).arrAt 10 cfg0.N :=
  (h c).1 10

/-- This argument is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- This argument is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- This argument is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- This argument is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- This argument is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- This argument is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- This argument is as launched. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run: the four result arrays named, the arguments unchanged. -/
theorem run_blocks : θ_run defs (onTc (τ := τ) (main (F := F))) ⟨m, fun _ => 0, ρ⟩ fun r => ∀ c : Dev nD,
      r.2.mem ((c : Thread nD τ).loc main_v10_0) = (dats m 0 c).arrAt 7 cfg0.N
      ∧ r.2.mem ((c : Thread nD τ).loc main_v10_1) = (dats m 0 c).arrAt 8 cfg0.N
      ∧ r.2.mem ((c : Thread nD τ).loc main_v10_2) = (dats m 0 c).arrAt 9 cfg0.N
      ∧ r.2.mem ((c : Thread nD τ).loc main_v10_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.Kernel10Ideal.MergeRun

end
-- ==== Proof.MergeOutBlocks.lean ====
/-
  The merge, read by blocks. The grid has eight points; point t works on rows 512 t to 512 t + 511 of the arrays that
  have 4096 rows, and on the whole of the three weights.
-/
module

public import proofs.«01_k».proof.Proof.MergeOutRun
public import proofs.«01_k».proof.Proof.Coords

@[expose] public section

set_option maxRecDepth 16384

noncomputable section

namespace Cert.Kernel10Ideal.MergeOut

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem hz : (![0, 0] : Fin 2 → Nat) = fun _ => 0 := funext fun a => by fin_cases a <;> rfl

/-- Each block starts at its point's rows, in column zero; a whole array's block starts at zero. -/
theorem start : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0) := by
  decide +kernel

/-- Window 0, the residual stream: its block at an index. -/
theorem blk0 (c : Dev nD) (t : Fin cfg0.N) (r : Fin 512) (k : Fin 1024) :
    iblk m c 0 t (ix2 r k) = V m c main_arg0 (ix2 (row t r) k) := by
  show V m c main_arg0 ((win0_0.blk t).view.emb (ix2 r k)) = _
  refine congrArg (V m c main_arg0) (funext fun a => Fin.ext ?_)
  match a with
  | ⟨0, _⟩ =>
    show win0_0.index t 0 * 512 + 1 * r.val = 512 * t.val + r.val
    rw [(start t).1.1]; omega
  | ⟨1, _⟩ =>
    show win0_0.index t 1 * 1024 + 1 * k.val = k.val
    rw [(start t).1.2]; omega

/-- Window 1, the first branch's attention: its block at an index. -/
theorem blk1 (c : Dev nD) (t : Fin cfg0.N) (r : Fin 512) (k : Fin 512) :
    iblk m c 1 t (ix2 r k) = V m c main_arg1 (ix2 (row t r) k) := by
  show V m c main_arg1 ((win0_1.blk t).view.emb (ix2 r k)) = _
  refine congrArg (V m c main_arg1) (funext fun a => Fin.ext ?_)
  match a with
  | ⟨0, _⟩ =>
    show win0_1.index t 0 * 512 + 1 * r.val = 512 * t.val + r.val
    rw [(start t).2.1.1]; omega
  | ⟨1, _⟩ =>
    show win0_1.index t 1 * 512 + 1 * k.val = k.val
    rw [(start t).2.1.2]; omega

/-- Window 2, the second branch's attention: its block at an index. -/
theorem blk2 (c : Dev nD) (t : Fin cfg0.N) (r : Fin 512) (k : Fin 512) :
    iblk m c 2 t (ix2 r k) = V m c main_arg2 (ix2 (row t r) k) := by
  show V m c main_arg2 ((win0_2.blk t).view.emb (ix2 r k)) = _
  refine congrArg (V m c main_arg2) (funext fun a => Fin.ext ?_)
  match a with
  | ⟨0, _⟩ =>
    show win0_2.index t 0 * 512 + 1 * r.val = 512 * t.val + r.val
    rw [(start t).2.2.1.1]; omega
  | ⟨1, _⟩ =>
    show win0_2.index t 1 * 512 + 1 * k.val = k.val
    rw [(start t).2.2.1.2]; omega

/-- Window 3, the gates: its block at an index. -/
theorem blk3 (c : Dev nD) (t : Fin cfg0.N) (r : Fin 512) (k : Fin 2048) :
    iblk m c 3 t (ix2 r k) = V m c main_v6 (ix2 (row t r) k) := by
  show V m c main_v6 ((win0_3.blk t).view.emb (ix2 r k)) = _
  refine congrArg (V m c main_v6) (funext fun a => Fin.ext ?_)
  match a with
  | ⟨0, _⟩ =>
    show win0_3.index t 0 * 512 + 1 * r.val = 512 * t.val + r.val
    rw [(start t).2.2.2.1.1]; omega
  | ⟨1, _⟩ =>
    show win0_3.index t 1 * 2048 + 1 * k.val = k.val
    rw [(start t).2.2.2.1.2]; omega

/-- Window 4, the first branch's weight: its block at an index. -/
theorem blk4 (c : Dev nD) (t : Fin cfg0.N) (r : Fin 512) (k : Fin 1024) :
    iblk m c 4 t (ix2 r k) = V m c main_v7 (ix2 r k) := by
  show V m c main_v7 ((win0_4.blk t).view.emb (ix2 r k)) = _
  refine congrArg (V m c main_v7) (funext fun a => Fin.ext ?_)
  match a with
  | ⟨0, _⟩ =>
    show win0_4.index t 0 * 512 + 1 * r.val = r.val
    rw [(start t).2.2.2.2.1.1]; omega
  | ⟨1, _⟩ =>
    show win0_4.index t 1 * 1024 + 1 * k.val = k.val
    rw [(start t).2.2.2.2.1.2]; omega

/-- Window 5, the second branch's weight: its block at an index. -/
theorem blk5 (c : Dev nD) (t : Fin cfg0.N) (r : Fin 512) (k : Fin 1024) :
    iblk m c 5 t (ix2 r k) = V m c main_v8 (ix2 r k) := by
  show V m c main_v8 ((win0_5.blk t).view.emb (ix2 r k)) = _
  refine congrArg (V m c main_v8) (funext fun a => Fin.ext ?_)
  match a with
  | ⟨0, _⟩ =>
    show win0_5.index t 0 * 512 + 1 * r.val = r.val
    rw [(start t).2.2.2.2.2.1.1]; omega
  | ⟨1, _⟩ =>
    show win0_5.index t 1 * 1024 + 1 * k.val = k.val
    rw [(start t).2.2.2.2.2.1.2]; omega

/-- Window 6, the output weight: its block at an index. -/
theorem blk6 (c : Dev nD) (t : Fin cfg0.N) (r : Fin 1024) (k : Fin 1024) :
    iblk m c 6 t (ix2 r k) = V m c main_v9 (ix2 r k) := by
  show V m c main_v9 ((win0_6.blk t).view.emb (ix2 r k)) = _
  refine congrArg (V m c main_v9) (funext fun a => Fin.ext ?_)
  match a with
  | ⟨0, _⟩ =>
    show win0_6.index t 0 * 1024 + 1 * r.val = r.val
    rw [(start t).2.2.2.2.2.2.1.1]; omega
  | ⟨1, _⟩ =>
    show win0_6.index t 1 * 1024 + 1 * k.val = k.val
    rw [(start t).2.2.2.2.2.2.1.2]; omega

/-- Window 7, the new residual stream: an array read through its block at point `t`. -/
theorem read7 (A : Vec Ideal S4096x1024 .f32) (t : Fin cfg0.N) (r : Fin 512) (k : Fin 1024) :
    ((win0_7.blk t).view.read (Elt Ideal) A : Vec Ideal S512x1024 .f32) (ix2 r k) = A (ix2 (row t r) k) := by
  show A ((win0_7.blk t).view.emb (ix2 r k)) = _
  refine congrArg A (funext fun a => Fin.ext ?_)
  match a with
  | ⟨0, _⟩ =>
    show win0_7.index t 0 * 512 + 1 * r.val = 512 * t.val + r.val
    rw [(start t).2.2.2.2.2.2.2.1.1]; omega
  | ⟨1, _⟩ =>
    show win0_7.index t 1 * 1024 + 1 * k.val = k.val
    rw [(start t).2.2.2.2.2.2.2.1.2]; omega

/-- Window 7's eight blocks fill its array. -/
theorem cover7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have hN : cfg0.N = 8 := N_0
  refine ⟨⟨(i 0).val / 512, by omega⟩, flush0_7 _, ?_⟩
  generalize ht : (⟨(i 0).val / 512, by omega⟩ : Fin cfg0.N) = t
  have hv : t.val = (i 0).val / 512 := by rw [← ht]
  show i ∈ ((View.whole main_v10_0).slice (win0_7.rect t)).set
  rw [View.set_slice_whole, Rect.mem_set_unit]
  intro a
  match a with
  | ⟨0, _⟩ =>
    show win0_7.index t 0 * 512 ≤ (i 0).val ∧ (i 0).val < win0_7.index t 0 * 512 + 512
    rw [(start t).2.2.2.2.2.2.2.1.1]; omega
  | ⟨1, _⟩ =>
    show win0_7.index t 1 * 1024 ≤ (i 1).val ∧ (i 1).val < win0_7.index t 1 * 1024 + 1024
    rw [(start t).2.2.2.2.2.2.2.1.2]; omega

/-- Window 8, the first branch: an array read through its block at point `t`. -/
theorem read8 (A : Vec Ideal S4096x1024 .bf16) (t : Fin cfg0.N) (r : Fin 512) (k : Fin 1024) :
    ((win0_8.blk t).view.read (Elt Ideal) A : Vec Ideal S512x1024 .bf16) (ix2 r k) = A (ix2 (row t r) k) := by
  show A ((win0_8.blk t).view.emb (ix2 r k)) = _
  refine congrArg A (funext fun a => Fin.ext ?_)
  match a with
  | ⟨0, _⟩ =>
    show win0_8.index t 0 * 512 + 1 * r.val = 512 * t.val + r.val
    rw [(start t).2.2.2.2.2.2.2.2.1.1]; omega
  | ⟨1, _⟩ =>
    show win0_8.index t 1 * 1024 + 1 * k.val = k.val
    rw [(start t).2.2.2.2.2.2.2.2.1.2]; omega

/-- Window 8's eight blocks fill its array. -/
theorem cover8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  have hN : cfg0.N = 8 := N_0
  refine ⟨⟨(i 0).val / 512, by omega⟩, flush0_8 _, ?_⟩
  generalize ht : (⟨(i 0).val / 512, by omega⟩ : Fin cfg0.N) = t
  have hv : t.val = (i 0).val / 512 := by rw [← ht]
  show i ∈ ((View.whole main_v10_1).slice (win0_8.rect t)).set
  rw [View.set_slice_whole, Rect.mem_set_unit]
  intro a
  match a with
  | ⟨0, _⟩ =>
    show win0_8.index t 0 * 512 ≤ (i 0).val ∧ (i 0).val < win0_8.index t 0 * 512 + 512
    rw [(start t).2.2.2.2.2.2.2.2.1.1]; omega
  | ⟨1, _⟩ =>
    show win0_8.index t 1 * 1024 ≤ (i 1).val ∧ (i 1).val < win0_8.index t 1 * 1024 + 1024
    rw [(start t).2.2.2.2.2.2.2.2.1.2]; omega

/-- Window 9, the second branch: an array read through its block at point `t`. -/
theorem read9 (A : Vec Ideal S4096x1024 .bf16) (t : Fin cfg0.N) (r : Fin 512) (k : Fin 1024) :
    ((win0_9.blk t).view.read (Elt Ideal) A : Vec Ideal S512x1024 .bf16) (ix2 r k) = A (ix2 (row t r) k) := by
  show A ((win0_9.blk t).view.emb (ix2 r k)) = _
  refine congrArg A (funext fun a => Fin.ext ?_)
  match a with
  | ⟨0, _⟩ =>
    show win0_9.index t 0 * 512 + 1 * r.val = 512 * t.val + r.val
    rw [(start t).2.2.2.2.2.2.2.2.2.1.1]; omega
  | ⟨1, _⟩ =>
    show win0_9.index t 1 * 1024 + 1 * k.val = k.val
    rw [(start t).2.2.2.2.2.2.2.2.2.1.2]; omega

/-- Window 9's eight blocks fill its array. -/
theorem cover9 (i : S4096x1024.Idx) : ∃ t : Fin cfg0.N, (cfg0.win 9).flush t = true ∧ i ∈ ((cfg0.win 9).blk t).view.set := by
  have h0 : (i 0).val < 4096 := (i 0).isLt
  have h1 : (i 1).val < 1024 := (i 1).isLt
  have hN : cfg0.N = 8 := N_0
  refine ⟨⟨(i 0).val / 512, by omega⟩, flush0_9 _, ?_⟩
  generalize ht : (⟨(i 0).val / 512, by omega⟩ : Fin cfg0.N) = t
  have hv : t.val = (i 0).val / 512 := by rw [← ht]
  show i ∈ ((View.whole main_v10_2).slice (win0_9.rect t)).set
  rw [View.set_slice_whole, Rect.mem_set_unit]
  intro a
  match a with
  | ⟨0, _⟩ =>
    show win0_9.index t 0 * 512 ≤ (i 0).val ∧ (i 0).val < win0_9.index t 0 * 512 + 512
    rw [(start t).2.2.2.2.2.2.2.2.2.1.1]; omega
  | ⟨1, _⟩ =>
    show win0_9.index t 1 * 1024 ≤ (i 1).val ∧ (i 1).val < win0_9.index t 1 * 1024 + 1024
    rw [(start t).2.2.2.2.2.2.2.2.2.1.2]; omega

/-- Window 10, the merged branches: an array read through its block at point `t`. -/
theorem read10 (A : Vec Ideal S4096x1024 .bf16) (t : Fin cfg0.N) (r : Fin 512) (k : Fin 1024) :
    ((win0_10.blk t).view.read (Elt Ideal) A : Vec Ideal S512x1024 .bf16) (ix2 r k) = A (ix2 (row t r) k) := by
  show A ((win0_10.blk t).view.emb (ix2 r k)) = _
  refine congrArg A (funext fun a => Fin.ext ?_)
  match a with
  | ⟨0, _⟩ =>
    show win0_10.index t 0 * 512 + 1 * r.val = 512 * t.val + r.val
    rw [(start t).2.2.2.2.2.2.2.2.2.2.1]; omega
  | ⟨1, _⟩ =>
    show win0_10.index t 1 * 1024 + 1 * k.val = k.val
    rw [(start t).2.2.2.2.2.2.2.2.2.2.2]; omega

/-- Window 10's eight blocks fill its array. -/
theorem cover10 (i : S4096x1024.Idx) : ∃ t : Fin cfg0.N, (cfg0.win 10).flush t = true ∧ i ∈ ((cfg0.win 10).blk t).view.set := by
  have h0 : (i 0).val < 4096 := (i 0).isLt
  have h1 : (i 1).val < 1024 := (i 1).isLt
  have hN : cfg0.N = 8 := N_0
  refine ⟨⟨(i 0).val / 512, by omega⟩, flush0_10 _, ?_⟩
  generalize ht : (⟨(i 0).val / 512, by omega⟩ : Fin cfg0.N) = t
  have hv : t.val = (i 0).val / 512 := by rw [← ht]
  show i ∈ ((View.whole main_v10_3).slice (win0_10.rect t)).set
  rw [View.set_slice_whole, Rect.mem_set_unit]
  intro a
  match a with
  | ⟨0, _⟩ =>
    show win0_10.index t 0 * 512 ≤ (i 0).val ∧ (i 0).val < win0_10.index t 0 * 512 + 512
    rw [(start t).2.2.2.2.2.2.2.2.2.2.1]; omega
  | ⟨1, _⟩ =>
    show win0_10.index t 1 * 1024 ≤ (i 1).val ∧ (i 1).val < win0_10.index t 1 * 1024 + 1024
    rw [(start t).2.2.2.2.2.2.2.2.2.2.2]; omega

end Cert.Kernel10Ideal.MergeOut

end
-- ==== Proof.MergeOut.lean ====
/-
  The merge after the run, as a function of the seven arrays the pipeline reads, and the reference's terms met with
  it: each branch is its attention times its weight, the merged branches are the gated sum, and the residual stream
  gains their product with the output weight.
-/
module

public import proofs.«01_k».proof.Defs
public import proofs.«01_k».proof.Proof.MergeOutBlocks
public import proofs.«01_k».proof.Proof.Gen.Reference10Ideal.Run
public import Idealize.ShloMosaic.Lib.Quiescent

@[expose] public section

set_option maxRecDepth 16384

noncomputable section

namespace Cert.Kernel10Ideal.MergeOut

open Cert.Kernel10Ideal Cert.Kernel10Ideal.Gen Cert.Coords Idealize.ShloMosaic Idealize.ShloMosaic.TcCoe Idealize.SL.Sem
open Idealize.ShloMosaic.Pipeline (Dat)

/-- Column `k` of the second half of a 2048-column array. -/
abbrev right (k : Fin 1024) : Fin 2048 := ⟨1024 + k.val, by have := k.isLt; omega⟩
/-- Column `k` of the first half. -/
abbrev left (k : Fin 1024) : Fin 2048 := ⟨k.val, by have := k.isLt; omega⟩

/-- The merged branches. -/
def mrg {n : Nat} (A B : Fin n → Fin 512 → EReal) (G : Fin n → Fin 2048 → EReal) (U Z : Fin 512 → Fin 1024 → EReal)
    (r : Fin n) (k : Fin 1024) : EReal := G r (left k) * mm A U r k + G r (right k) * mm B Z r k
/-- The new residual stream. -/
def strm {n : Nat} (X : Fin n → Fin 1024 → EReal) (A B : Fin n → Fin 512 → EReal) (G : Fin n → Fin 2048 → EReal)
    (U Z : Fin 512 → Fin 1024 → EReal) (W : Fin 1024 → Fin 1024 → EReal) (r : Fin n) (k : Fin 1024) : EReal :=
  X r k + mm (mrg A B G U Z) W r k

section Payloads

variable (x0 : Vec Ideal S512x1024 .f32) (x1 x2 : Vec Ideal S512x512 .f32) (x3 : Vec Ideal S512x2048 .bf16)
variable (x4 x5 : Vec Ideal S512x1024 .bf16) (x6 : Vec Ideal S1024x1024 .bf16) (r : Fin 512) (k : Fin 1024)

theorem pay4_apply : k0_pay4 x1 x4 (ix2 r k) = mm (at2 x1) (at2 x4) r k := by
  pointwise [k0_pay4, k0_pay1, mm]

theorem pay5_apply : k0_pay5 x2 x5 (ix2 r k) = mm (at2 x2) (at2 x5) r k := by
  pointwise [k0_pay5, k0_pay2, mm]

theorem pay3_apply : k0_pay3 x1 x4 x2 x5 x3 (ix2 r k) = mrg (at2 x1) (at2 x2) (at2 x3) (at2 x4) (at2 x5) r k := by
  pointwise [k0_pay3, k0_pay1, k0_pay2, mrg, mm]

theorem pay6_apply : k0_pay6 x1 x4 x2 x5 x3 x0 x6 (ix2 r k)
    = strm (at2 x0) (at2 x1) (at2 x2) (at2 x3) (at2 x4) (at2 x5) (at2 x6) r k := by
  have h : k0_pay6 x1 x4 x2 x5 x3 x0 x6 (ix2 r k)
      = x0 (ix2 r k) + ∑ j : Fin 1024, k0_pay3 x1 x4 x2 x5 x3 (ix2 r j) * x6 (ix2 j k) := by
    pointwise [k0_pay6]
  rw [h]
  exact congrArg (_ + ·) (Finset.sum_congr rfl fun j _ => congrArg (· * _) (pay3_apply x1 x2 x3 x4 x5 r j))

end Payloads

section Arrays

variable (m : (ℓ : Loc nD τ sig) → Buf (Elt Ideal) ℓ) (c : Dev nD)

/-- The residual stream, as the pipeline reads it. -/
abbrev w0 : Fin 4096 → Fin 1024 → EReal := at2 (V m c main_arg0)
/-- The first branch's attention, as the pipeline reads it. -/
abbrev w1 : Fin 4096 → Fin 512 → EReal := at2 (V m c main_arg1)
/-- The second branch's attention, as the pipeline reads it. -/
abbrev w2 : Fin 4096 → Fin 512 → EReal := at2 (V m c main_arg2)
/-- The gates, as the pipeline reads it. -/
abbrev w3 : Fin 4096 → Fin 2048 → EReal := at2 (V m c main_v6)
/-- The first branch's weight, as the pipeline reads it. -/
abbrev w4 : Fin 512 → Fin 1024 → EReal := at2 (V m c main_v7)
/-- The second branch's weight, as the pipeline reads it. -/
abbrev w5 : Fin 512 → Fin 1024 → EReal := at2 (V m c main_v8)
/-- The output weight, as the pipeline reads it. -/
abbrev w6 : Fin 1024 → Fin 1024 → EReal := at2 (V m c main_v9)

/-- The results. -/
def res7 : Vec Ideal S4096x1024 .f32 :=
  fun i => strm (w0 m c) (w1 m c) (w2 m c) (w3 m c) (w4 m c) (w5 m c) (w6 m c) (i 0) (i 1)
def res8 : Vec Ideal S4096x1024 .bf16 := fun i => mm (w1 m c) (w4 m c) (i 0) (i 1)
def res9 : Vec Ideal S4096x1024 .bf16 := fun i => mm (w2 m c) (w5 m c) (i 0) (i 1)
def res10 : Vec Ideal S4096x1024 .bf16 := fun i => mrg (w1 m c) (w2 m c) (w3 m c) (w4 m c) (w5 m c) (i 0) (i 1)

variable (t : Fin cfg0.N)

theorem in0 : at2 (iblk m c 0 t) = fun r => w0 m c (row t r) := funext fun r => funext fun k => blk0 m c t r k
theorem in1 : at2 (iblk m c 1 t) = fun r => w1 m c (row t r) := funext fun r => funext fun k => blk1 m c t r k
theorem in2 : at2 (iblk m c 2 t) = fun r => w2 m c (row t r) := funext fun r => funext fun k => blk2 m c t r k
theorem in3 : at2 (iblk m c 3 t) = fun r => w3 m c (row t r) := funext fun r => funext fun k => blk3 m c t r k
theorem in4 : at2 (iblk m c 4 t) = w4 m c := funext fun r => funext fun k => blk4 m c t r k
theorem in5 : at2 (iblk m c 5 t) = w5 m c := funext fun r => funext fun k => blk5 m c t r k
theorem in6 : at2 (iblk m c 6 t) = w6 m c := funext fun r => funext fun k => blk6 m c t r k

theorem flushed7 : (dats m 0 c).flushed 7 t = (win0_7.blk t).view.read (Elt Ideal) (res7 m c) := by
  rw [MergeRun.flushed7]
  unfold out0_7
  rw [View.canon_unit_zero hz, View.ld_unit_zero hz, View.ld_unit_zero hz, View.ld_unit_zero hz, View.ld_unit_zero hz, View.ld_unit_zero hz, View.ld_unit_zero hz, View.ld_unit_zero hz]
  funext (x : S512x1024.Idx)
  obtain ⟨a, b, rfl⟩ : ∃ (a : Fin 512) (b : Fin 1024), x = ix2 a b := ⟨x 0, x 1, eq_ix2 x⟩
  refine Eq.trans ?_ (read7 _ t a b).symm
  refine (pay6_apply _ _ _ _ _ _ _ a b).trans ?_
  rw [in0, in1, in2, in3, in4, in5, in6]
  rfl

theorem flushed8 : (dats m 0 c).flushed 8 t = (win0_8.blk t).view.read (Elt Ideal) (res8 m c) := by
  rw [MergeRun.flushed8]
  unfold out0_8
  rw [View.canon_unit_zero hz, View.ld_unit_zero hz, View.ld_unit_zero hz]
  funext (x : S512x1024.Idx)
  obtain ⟨a, b, rfl⟩ : ∃ (a : Fin 512) (b : Fin 1024), x = ix2 a b := ⟨x 0, x 1, eq_ix2 x⟩
  refine Eq.trans ?_ (read8 _ t a b).symm
  refine (pay4_apply _ _ a b).trans ?_
  rw [in1, in4]
  rfl

theorem flushed9 : (dats m 0 c).flushed 9 t = (win0_9.blk t).view.read (Elt Ideal) (res9 m c) := by
  rw [MergeRun.flushed9]
  unfold out0_9
  rw [View.canon_unit_zero hz, View.ld_unit_zero hz, View.ld_unit_zero hz]
  funext (x : S512x1024.Idx)
  obtain ⟨a, b, rfl⟩ : ∃ (a : Fin 512) (b : Fin 1024), x = ix2 a b := ⟨x 0, x 1, eq_ix2 x⟩
  refine Eq.trans ?_ (read9 _ t a b).symm
  refine (pay5_apply _ _ a b).trans ?_
  rw [in2, in5]
  rfl

theorem flushed10 : (dats m 0 c).flushed 10 t = (win0_10.blk t).view.read (Elt Ideal) (res10 m c) := by
  rw [MergeRun.flushed10]
  unfold out0_10
  rw [View.canon_unit_zero hz, View.ld_unit_zero hz, View.ld_unit_zero hz, View.ld_unit_zero hz, View.ld_unit_zero hz, View.ld_unit_zero hz]
  funext (x : S512x1024.Idx)
  obtain ⟨a, b, rfl⟩ : ∃ (a : Fin 512) (b : Fin 1024), x = ix2 a b := ⟨x 0, x 1, eq_ix2 x⟩
  refine Eq.trans ?_ (read10 _ t a b).symm
  refine (pay3_apply _ _ _ _ _ a b).trans ?_
  rw [in1, in2, in3, in4, in5]
  rfl

/-- The whole run: the result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v10_0) = res7 m c
      ∧ r.2.mem ((c : Thread nD τ).loc main_v10_1) = res8 m c
      ∧ r.2.mem ((c : Thread nD τ).loc main_v10_2) = res9 m c
      ∧ r.2.mem ((c : Thread nD τ).loc main_v10_3) = res10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (MergeRun.run_blocks m ρ)
  obtain ⟨h7, h8, h9, h10, hk⟩ := h c
  refine ⟨h7.trans ?_, h8.trans ?_, h9.trans ?_, h10.trans ?_, hk⟩
  · exact (dats m 0 c).arrAt_eq_of_cover 7 (res7 m c) (fun t _ => flushed7 m c t) cover7
  · exact (dats m 0 c).arrAt_eq_of_cover 8 (res8 m c) (fun t _ => flushed8 m c t) cover8
  · exact (dats m 0 c).arrAt_eq_of_cover 9 (res9 m c) (fun t _ => flushed9 m c t) cover9
  · exact (dats m 0 c).arrAt_eq_of_cover 10 (res10 m c) (fun t _ => flushed10 m c t) cover10

/-- The arguments: the residual stream, the two attentions, the gate logits, the two branch weights, the output weight. -/
abbrev a0 : FVec Ideal S4096x1024 .f32 := m ((c : Thread nD τ).loc main_arg0)
abbrev a1 : FVec Ideal S4096x512 .f32 := m ((c : Thread nD τ).loc main_arg1)
abbrev a2 : FVec Ideal S4096x512 .f32 := m ((c : Thread nD τ).loc main_arg2)
abbrev a3 : FVec Ideal S4096x2048 .f32 := m ((c : Thread nD τ).loc main_arg3)
abbrev a4 : FVec Ideal S512x1024 .f32 := m ((c : Thread nD τ).loc main_arg4)
abbrev a5 : FVec Ideal S512x1024 .f32 := m ((c : Thread nD τ).loc main_arg5)
abbrev a6 : FVec Ideal S1024x1024 .f32 := m ((c : Thread nD τ).loc main_arg6)

theorem w0_eq : w0 m c = at2 (a0 m c) := congrArg at2 (V_main_arg0 m c)

theorem w1_eq : w1 m c = at2 (a1 m c) := congrArg at2 (V_main_arg1 m c)

theorem w2_eq : w2 m c = at2 (a2 m c) := congrArg at2 (V_main_arg2 m c)

theorem w3_eq : w3 m c = fun r k => sig1 (at2 (a3 m c) r k) := by
  funext r k
  have h : (V m c main_v6 : FVec Ideal S4096x2048 .bf16) = truncf .bf16 (Host.divf (broadcastInDim S4096x2048 ![] bcast_S_S4096x2048 (constant S_ .f32 0x3F800000#32)) (addf (broadcastInDim S4096x2048 ![] bcast_S_S4096x2048 (constant S_ .f32 0x3F800000#32)) (Host.exp (Host.negf (a3 m c))))) bitsLt_bf16_f32 := by
    show StableHlo.after hostOps0 (fun b => m (c, b)) _ = _
    unfold hostOps0
    after_results_simp <;> rfl
  show (V m c main_v6 : FVec Ideal S4096x2048 .bf16) (ix2 r k) = _
  rw [h]
  pointwise [sig1]

theorem w4_eq : w4 m c = at2 (a4 m c) := by
  funext r k
  have h : (V m c main_v7 : FVec Ideal S512x1024 .bf16) = truncf .bf16 (a4 m c) bitsLt_bf16_f32 := by
    show StableHlo.after hostOps0 (fun b => m (c, b)) _ = _
    unfold hostOps0
    after_results_simp <;> rfl
  show (V m c main_v7 : FVec Ideal S512x1024 .bf16) (ix2 r k) = _
  rw [h]
  pointwise []

theorem w5_eq : w5 m c = at2 (a5 m c) := by
  funext r k
  have h : (V m c main_v8 : FVec Ideal S512x1024 .bf16) = truncf .bf16 (a5 m c) bitsLt_bf16_f32 := by
    show StableHlo.after hostOps0 (fun b => m (c, b)) _ = _
    unfold hostOps0
    after_results_simp <;> rfl
  show (V m c main_v8 : FVec Ideal S512x1024 .bf16) (ix2 r k) = _
  rw [h]
  pointwise []

theorem w6_eq : w6 m c = at2 (a6 m c) := by
  funext r k
  have h : (V m c main_v9 : FVec Ideal S1024x1024 .bf16) = truncf .bf16 (a6 m c) bitsLt_bf16_f32 := by
    show StableHlo.after hostOps0 (fun b => m (c, b)) _ = _
    unfold hostOps0
    after_results_simp <;> rfl
  show (V m c main_v9 : FVec Ideal S1024x1024 .bf16) (ix2 r k) = _
  rw [h]
  pointwise []

end Arrays

end Cert.Kernel10Ideal.MergeOut

namespace Cert.Reference10Ideal.MergeOut

open Cert.Reference10Ideal Cert.Reference10Ideal.Gen Cert.Coords Idealize.ShloMosaic Idealize.ShloMosaic.TcCoe Idealize.SL.Sem

open Cert.Kernel10Ideal.MergeOut (left right mrg strm)

variable (x0 : FVec Ideal S4096x1024 .f32) (x1 x2 : FVec Ideal S4096x512 .f32) (x3 : FVec Ideal S4096x2048 .f32)
variable (x4 x5 : FVec Ideal S512x1024 .f32) (x6 : FVec Ideal S1024x1024 .f32)

/-- The gates. -/
def gateT : FVec Ideal S4096x2048 .f32 :=
  (Host.divf (broadcastInDim S4096x2048 ![] bcast_S_S4096x2048 (constant S_ .f32 0x3F800000#32)) (addf (broadcastInDim S4096x2048 ![] bcast_S_S4096x2048 (constant S_ .f32 0x3F800000#32)) (Host.exp (Host.negf x3))))
/-- A branch. -/
def brT : FVec Ideal S4096x1024 .f32 :=
  (Host.dotGeneral dot_S4096x512_S512x1024_S4096x1024_1_0_0_1_n_n none x1 x4)
/-- The merged branches. -/
def mgT : FVec Ideal S4096x1024 .f32 :=
  (addf (mulf (shapeCast _ (extractStridedSlice S4096x1x1024 ![0, 0, 0] (shapeCast _ (gateT x3) shapeCasts_S4096x2048_S4096x2x1024) slices_S4096x2x1024_S4096x1x1024_0_0_0) shapeCasts_S4096x1x1024_S4096x1024) (brT x1 x4)) (mulf (shapeCast _ (extractStridedSlice S4096x1x1024 ![0, 1, 0] (shapeCast _ (gateT x3) shapeCasts_S4096x2048_S4096x2x1024) slices_S4096x2x1024_S4096x1x1024_0_1_0) shapeCasts_S4096x1x1024_S4096x1024) (brT x2 x5)))
/-- The new residual stream. -/
def strmT : FVec Ideal S4096x1024 .f32 :=
  addf x0 (Host.dotGeneral dot_S4096x1024_S1024x1024_S4096x1024_1_0_0_1_n_n none (mgT x1 x2 x3 x4 x5) x6)

theorem gateT_apply (r : Fin 4096) (k : Fin 2048) : gateT x3 (ix2 r k) = sig1 (at2 x3 r k) := by
  pointwise [gateT, sig1]

theorem brT_apply (r : Fin 4096) (k : Fin 1024) : brT x1 x4 (ix2 r k) = mm (at2 x1) (at2 x4) r k := by
  pointwise [brT, mm]

theorem mgT_apply (r : Fin 4096) (k : Fin 1024) : mgT x1 x2 x3 x4 x5 (ix2 r k)
    = mrg (at2 x1) (at2 x2) (fun r k => sig1 (at2 x3 r k)) (at2 x4) (at2 x5) r k := by
  have h : mgT x1 x2 x3 x4 x5 (ix2 r k) = gateT x3 (ix2 r (left k)) * brT x1 x4 (ix2 r k)
      + gateT x3 (ix2 r (right k)) * brT x2 x5 (ix2 r k) := by
    pointwise [mgT]
  rw [h, gateT_apply, gateT_apply, brT_apply, brT_apply]
  rfl

theorem strmT_apply (r : Fin 4096) (k : Fin 1024) : strmT x0 x1 x2 x3 x4 x5 x6 (ix2 r k)
    = strm (at2 x0) (at2 x1) (at2 x2) (fun r k => sig1 (at2 x3 r k)) (at2 x4) (at2 x5) (at2 x6) r k := by
  have h : strmT x0 x1 x2 x3 x4 x5 x6 (ix2 r k)
      = x0 (ix2 r k) + ∑ j : Fin 1024, mgT x1 x2 x3 x4 x5 (ix2 r j) * x6 (ix2 j k) := by
    pointwise [strmT]
  rw [h]
  exact congrArg (_ + ·) (Finset.sum_congr rfl fun j _ => congrArg (· * _) (mgT_apply x1 x2 x3 x4 x5 r j))

section Meet

variable (m : (ℓ : Loc Cert.Kernel10Ideal.nD Cert.Kernel10Ideal.τ Cert.Kernel10Ideal.sig) → Buf (Elt Ideal) ℓ) (c : Dev Cert.Kernel10Ideal.nD)

open Cert.Kernel10Ideal.MergeOut

theorem meet7 : strmT (a0 m c) (a1 m c) (a2 m c) (a3 m c) (a4 m c) (a5 m c) (a6 m c) = res7 m c := by
  funext (i : S4096x1024.Idx)
  obtain ⟨r, k, rfl⟩ : ∃ (r : Fin 4096) (k : Fin 1024), i = ix2 r k := ⟨i 0, i 1, eq_ix2 i⟩
  refine (strmT_apply _ _ _ _ _ _ _ r k).trans ?_
  show _ = strm (w0 m c) (w1 m c) (w2 m c) (w3 m c) (w4 m c) (w5 m c) (w6 m c) r k
  rw [w0_eq, w1_eq, w2_eq, w3_eq, w4_eq, w5_eq, w6_eq]

theorem meet8 : truncf .bf16 (brT (a1 m c) (a4 m c)) bitsLt_bf16_f32 = res8 m c := by
  funext (i : S4096x1024.Idx)
  obtain ⟨r, k, rfl⟩ : ∃ (r : Fin 4096) (k : Fin 1024), i = ix2 r k := ⟨i 0, i 1, eq_ix2 i⟩
  refine (brT_apply _ _ r k).trans ?_
  show _ = mm (w1 m c) (w4 m c) r k
  rw [w1_eq, w4_eq]

theorem meet9 : truncf .bf16 (brT (a2 m c) (a5 m c)) bitsLt_bf16_f32 = res9 m c := by
  funext (i : S4096x1024.Idx)
  obtain ⟨r, k, rfl⟩ : ∃ (r : Fin 4096) (k : Fin 1024), i = ix2 r k := ⟨i 0, i 1, eq_ix2 i⟩
  refine (brT_apply _ _ r k).trans ?_
  show _ = mm (w2 m c) (w5 m c) r k
  rw [w2_eq, w5_eq]

theorem meet10 : truncf .bf16 (mgT (a1 m c) (a2 m c) (a3 m c) (a4 m c) (a5 m c)) bitsLt_bf16_f32 = res10 m c := by
  funext (i : S4096x1024.Idx)
  obtain ⟨r, k, rfl⟩ : ∃ (r : Fin 4096) (k : Fin 1024), i = ix2 r k := ⟨i 0, i 1, eq_ix2 i⟩
  refine (mgT_apply _ _ _ _ _ r k).trans ?_
  show _ = mrg (w1 m c) (w2 m c) (w3 m c) (w4 m c) (w5 m c) r k
  rw [w1_eq, w2_eq, w3_eq, w4_eq, w5_eq]

end Meet

end Cert.Reference10Ideal.MergeOut

namespace Cert.Proof.MergeOutClaims

open Idealize.ShloMosaic Idealize.ShloMosaic.TcCoe Idealize.SL.Sem
open Cert.Kernel10Ideal.MergeOut Cert.Reference10Ideal.MergeOut

/-- The kernel and the reference leave the same arrays. -/
theorem algebraic : Cert.algebraic_Kernel10Ideal_Reference10Ideal := by
  intro m ρ m' ρ' _ hag
  refine ⟨fun c => res7 m c, fun c => res8 m c, fun c => res9 m c, fun c => res10 m c, run m ρ, ?_⟩
  refine (θ_run Cert.Reference10Ideal.defs _ _).mono (fun r h c => ?_) (Cert.Reference10Ideal.Value.run (F := Ideal) m' ρ')
  obtain ⟨e0, e1, e2, e3, e4, e5, e6⟩ := hag c
  obtain ⟨h7, h8, h9, h10, hk⟩ := h c
  refine ⟨h7.trans ?_, h8.trans ?_, h9.trans ?_, h10.trans ?_, hk⟩
  · rw [e0, e1, e2, e3, e4, e5, e6]; exact meet7 m c
  · rw [e1, e4]; exact meet8 m c
  · rw [e2, e5]; exact meet9 m c
  · rw [e1, e2, e3, e4, e5]; exact meet10 m c

/-- The reference leaves its arguments as they were and no signal raised. -/
theorem frame_reference : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

end Cert.Proof.MergeOutClaims

end
-- ==== Proof.NormBwd.lean ====
/-
  The gradient of a normalised row with a gain: the kernels' form, the form that comes out of differentiating the norm
  operation by operation, and that the two agree for all extended reals. The row's mean square with the small constant
  is positive, so its reciprocal root is a real number or zero, and no sum is ever multiplied out.
-/
module

public import proofs.«01_k».proof.Proof.Coords

@[expose] public section

noncomputable section

namespace Cert.NormBwd

open Idealize.ShloMosaic Cert.Coords

/-- The width of a row, as its bits. -/
abbrev width : EReal := Ideal.ofBits .f32 0x44800000#32
/-- The small constant, as its bits. -/
abbrev tiny : EReal := Ideal.ofBits .f32 0x358637BD#32
/-- Minus one half, as its bits. -/
abbrev mhalf : EReal := Ideal.ofBits .f32 0xBF000000#32

theorem width_eq : width = ((1024 : ℝ) : EReal) := by
  simp [width, Ideal.ofBits, Ideal.ieee, -EReal.coe_mul]; norm_num

theorem mhalf_eq : mhalf = ((-(1 / 2) : ℝ) : EReal) := by
  simp [mhalf, Ideal.ofBits, Ideal.ieee, -EReal.coe_mul]; norm_num

theorem tiny_pos : 0 < tiny := by
  simp [tiny, Ideal.ofBits, Ideal.ieee, -EReal.coe_mul]

/-- A square is not negative. -/
theorem square_nonneg (x : EReal) : 0 ≤ x * x := by
  induction x using EReal.rec with
  | bot => simp
  | top => simp
  | coe r => exact_mod_cast mul_self_nonneg r

/-- A row's mean square, the small constant added. -/
def msq {n d : Nat} (X : Fin n → Fin d → EReal) (r : Fin n) : EReal :=
  Ideal.div (∑ j, X r j * X r j) width + tiny

theorem rms_eq {n d : Nat} (X : Fin n → Fin d → EReal) (r : Fin n) : rms X r = Ideal.rsqrt (msq X r) := rfl

theorem msq_pos {n d : Nat} (X : Fin n → Fin d → EReal) (r : Fin n) : 0 < msq X r := by
  have h : 0 ≤ Ideal.div (∑ j, X r j * X r j) width := by
    rw [width_eq, Ideal.div_coe (by norm_num)]
    exact mul_nonneg (Finset.sum_nonneg fun j _ => square_nonneg _) (by exact_mod_cast (by norm_num : (0 : ℝ) ≤ 1 / 1024))
  exact lt_of_lt_of_le tiny_pos (le_add_of_nonneg_left h)

/-- The row's sum of products with what reaches the normalised row. -/
def dotG {n d : Nat} (DH X : Fin n → Fin d → EReal) (G : Fin d → EReal) (r : Fin n) : EReal :=
  ∑ j, DH r j * G j * X r j

/-- The gradient of the row, with the gradient `D` that passes beside the norm. -/
def nrmBwd {n d : Nat} (DH X : Fin n → Fin d → EReal) (G : Fin d → EReal) (D : Fin n → Fin d → EReal)
    (r : Fin n) (k : Fin d) : EReal :=
  D r k + rms X r * (DH r k * G k) - X r k * (rms X r * rms X r * rms X r * Ideal.div (dotG DH X G r) width)

/-- A row's term of the gain's gradient. -/
def gainTerm {n d : Nat} (DH X : Fin n → Fin d → EReal) (r : Fin n) (k : Fin d) : EReal :=
  DH r k * (X r k * rms X r)

theorem half_twice (T : EReal) (s : ℝ) (hs : 0 < s) :
    T * ((-(s / 2048) : ℝ) : EReal) + T * ((-(s / 2048) : ℝ) : EReal) = -(T * ((s / 1024 : ℝ) : EReal)) := by
  have h1 : (-(s / 2048) : ℝ) < 0 := by have : 0 < s / 2048 := by positivity
                                        linarith
  have h2 : (0 : ℝ) < s / 1024 := by positivity
  induction T using EReal.rec with
  | bot => rw [EReal.bot_mul_coe_of_neg h1, EReal.bot_mul_coe_of_pos h2]; rfl
  | top => rw [EReal.top_mul_coe_of_neg h1, EReal.top_mul_coe_of_pos h2]; rfl
  | coe t =>
    have e : t * (-(s / 2048)) + t * (-(s / 2048)) = -(t * (s / 1024)) := by ring
    exact_mod_cast e

/-- The mean's share, from the derivative of the reciprocal root: minus one half times the root over the mean square,
    counted twice, is minus the root's cube. -/
theorem share (v S x : EReal) (hv : 0 < v) :
    x * Ideal.div (S * (mhalf * Ideal.div (Ideal.rsqrt v) v)) width + Ideal.div (S * (mhalf * Ideal.div (Ideal.rsqrt v) v)) width * x
      = -(x * (Ideal.rsqrt v * Ideal.rsqrt v * Ideal.rsqrt v * Ideal.div S width)) := by
  rw [mul_comm (Ideal.div _ width) x, width_eq, Ideal.div_coe (by norm_num), Ideal.div_coe (by norm_num)]
  induction v using EReal.rec with
  | bot => exact absurd hv (by simp)
  | top => simp [Ideal.div]
  | coe w =>
    have hw : 0 < w := by exact_mod_cast hv
    have hs : 0 < (Real.sqrt w)⁻¹ := by positivity
    have hss : (Real.sqrt w)⁻¹ * (Real.sqrt w)⁻¹ = 1 / w := by
      rw [← mul_inv, Real.mul_self_sqrt hw.le, one_div]
    have e : Ideal.rsqrt (w : EReal) = (((Real.sqrt w)⁻¹ : ℝ) : EReal) := by
      rw [Ideal.rsqrt_coe, if_neg hw.not_gt, if_neg hw.ne']
    rw [e, Ideal.div_coe hw.ne', mhalf_eq, ← hss]
    generalize (Real.sqrt w)⁻¹ = s at hs
    have hc : 0 < s * s * s := by positivity
    have l : x * (S * (((-(1 / 2) : ℝ) : EReal) * ((s : EReal) * ((s * s : ℝ) : EReal))) * ((1 / 1024 : ℝ) : EReal))
        = x * S * ((-(s * s * s / 2048) : ℝ) : EReal) := by
      rw [mul_assoc S, ← mul_assoc x, ← EReal.coe_mul, ← EReal.coe_mul, ← EReal.coe_mul]
      congr 2; ring
    have r : x * ((s : EReal) * (s : EReal) * (s : EReal) * (S * ((1 / 1024 : ℝ) : EReal)))
        = x * S * ((s * s * s / 1024 : ℝ) : EReal) := by
      rw [← EReal.coe_mul, ← EReal.coe_mul, mul_left_comm _ S, ← EReal.coe_mul, ← mul_assoc x]
      congr 2; ring
    rw [l, r, half_twice _ _ hc]

/-- The two forms of the row's gradient agree. -/
theorem nrmBwd_eq {n d : Nat} (DH X : Fin n → Fin d → EReal) (G : Fin d → EReal) (D : Fin n → Fin d → EReal)
    (r : Fin n) (k : Fin d) :
    D r k + (DH r k * G k * rms X r
        + X r k * Ideal.div ((∑ j, X r j * (DH r j * G j)) * (mhalf * Ideal.div (Ideal.rsqrt (msq X r)) (msq X r))) width
        + Ideal.div ((∑ j, X r j * (DH r j * G j)) * (mhalf * Ideal.div (Ideal.rsqrt (msq X r)) (msq X r))) width * X r k)
      = nrmBwd DH X G D r k := by
  have hS : (∑ j, X r j * (DH r j * G j)) = dotG DH X G r := Finset.sum_congr rfl fun j _ => mul_comm _ _
  rw [hS, add_assoc (DH r k * G k * rms X r), share _ _ _ (msq_pos X r), mul_comm _ (rms X r), ← add_assoc, ← sub_eq_add_neg]
  rfl

end Cert.NormBwd

end
-- ==== Proof.LossHead.lean ====
/-
  The loss head after the run, as a function of the two arrays it reads, and the reference's terms met with it. The
  grid has eight points; point t works on rows 512 t to 512 t + 511 of the output and of the target, leaves those rows
  of the gradient twice, and adds those rows' shares of the loss to one number.
-/
module

public import proofs.«01_k».proof.Defs
public import proofs.«01_k».proof.Proof.Gen.Kernel11Ideal.Value
public import proofs.«01_k».proof.Proof.Gen.Reference11Ideal.Run
public import Idealize.ShloMosaic.Lib.Quiescent
public import proofs.«01_k».proof.Proof.NormBwd
public import proofs.«01_k».proof.Proof.Chunks

@[expose] public section

set_option maxRecDepth 16384

noncomputable section

namespace Cert.Kernel11Ideal.LossHead

open Cert.Kernel11Ideal Cert.Kernel11Ideal.Gen Cert.Coords Cert.NormBwd Cert.Chunks Idealize.ShloMosaic Idealize.ShloMosaic.TcCoe Idealize.SL.Sem
open Idealize.ShloMosaic.Pipeline (Dat)

/-- One over the width, and half of it, as their bits. -/
abbrev invW : EReal := Ideal.ofBits .f32 0x3A800000#32
abbrev halfInvW : EReal := Ideal.ofBits .f32 0x3A000000#32

theorem invW_eq : invW = ((1 / 1024 : ℝ) : EReal) := by
  simp [invW, Ideal.ofBits, Ideal.ieee, -EReal.coe_mul]; norm_num

theorem halfInvW_eq : halfInvW = ((1 / 2048 : ℝ) : EReal) := by
  simp [halfInvW, Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- A row's sum of squared differences, and its share of the loss. -/
def sqs {n : Nat} (Y T : Fin n → Fin 1024 → EReal) (r : Fin n) : EReal := ∑ k, (Y r k - T r k) * (Y r k - T r k)
def part {n : Nat} (Y T : Fin n → Fin 1024 → EReal) (r : Fin n) : EReal := sqs Y T r * halfInvW

theorem sqs_nonneg {n : Nat} (Y T : Fin n → Fin 1024 → EReal) (r : Fin n) : 0 ≤ sqs Y T r :=
  Finset.sum_nonneg fun _ _ => square_nonneg _

/-- A factor goes into a sum of terms that are not negative. -/
theorem into_sum {n : Nat} (a : EReal) (f : Fin n → EReal) (h : ∀ i, 0 ≤ f i) : a * ∑ i, f i = ∑ i, a * f i := by
  classical
  refine Finset.induction_on (Finset.univ : Finset (Fin n)) (by simp) fun i s hi ih => ?_
  rw [Finset.sum_insert hi, Finset.sum_insert hi, EReal.left_distrib_of_nonneg (h i) (Finset.sum_nonneg fun j _ => h j), ih]

variable (m : (ℓ : Loc nD τ sig) → Buf (Elt Ideal) ℓ)

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem hz : (![0, 0] : Fin 2 → Nat) = fun _ => 0 := funext fun a => by fin_cases a <;> rfl

/-- Each block starts at its point's rows, in column zero; the loss's block at zero. -/
theorem start : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) := by
  decide +kernel

/-- Window 0, the output: its block at an index. -/
theorem blk0 (c : Dev nD) (t : Fin cfg0.N) (r : Fin 512) (k : Fin 1024) :
    iblk m c 0 t (ix2 r k) = V m c main_arg0 (ix2 (row t r) k) := by
  show V m c main_arg0 ((win0_0.blk t).view.emb (ix2 r k)) = _
  refine congrArg (V m c main_arg0) (funext fun a => Fin.ext ?_)
  match a with
  | ⟨0, _⟩ =>
    show win0_0.index t 0 * 512 + 1 * r.val = 512 * t.val + r.val
    rw [(start t).1.1]; omega
  | ⟨1, _⟩ =>
    show win0_0.index t 1 * 1024 + 1 * k.val = k.val
    rw [(start t).1.2]; omega

/-- Window 1, the target: its block at an index. -/
theorem blk1 (c : Dev nD) (t : Fin cfg0.N) (r : Fin 512) (k : Fin 1024) :
    iblk m c 1 t (ix2 r k) = V m c main_arg1 (ix2 (row t r) k) := by
  show V m c main_arg1 ((win0_1.blk t).view.emb (ix2 r k)) = _
  refine congrArg (V m c main_arg1) (funext fun a => Fin.ext ?_)
  match a with
  | ⟨0, _⟩ =>
    show win0_1.index t 0 * 512 + 1 * r.val = 512 * t.val + r.val
    rw [(start t).2.1.1]; omega
  | ⟨1, _⟩ =>
    show win0_1.index t 1 * 1024 + 1 * k.val = k.val
    rw [(start t).2.1.2]; omega

/-- Window 2: an array read through its block at point `t`, and the eight blocks fill the array. -/
theorem read2 (A : Vec Ideal S4096x1024 .f32) (t : Fin cfg0.N) (r : Fin 512) (k : Fin 1024) :
    ((win0_2.blk t).view.read (Elt Ideal) A : Vec Ideal S512x1024 .f32) (ix2 r k) = A (ix2 (row t r) k) := by
  show A ((win0_2.blk t).view.emb (ix2 r k)) = _
  refine congrArg A (funext fun a => Fin.ext ?_)
  match a with
  | ⟨0, _⟩ =>
    show win0_2.index t 0 * 512 + 1 * r.val = 512 * t.val + r.val
    rw [(start t).2.2.1.1]; omega
  | ⟨1, _⟩ =>
    show win0_2.index t 1 * 1024 + 1 * k.val = k.val
    rw [(start t).2.2.1.2]; omega

theorem cover2 (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have hN : cfg0.N = 8 := N_0
  refine ⟨⟨(i 0).val / 512, by omega⟩, flush0_2 _, ?_⟩
  generalize ht : (⟨(i 0).val / 512, by omega⟩ : Fin cfg0.N) = t
  have hv : t.val = (i 0).val / 512 := by rw [← ht]
  show i ∈ ((View.whole main_v0_0).slice (win0_2.rect t)).set
  rw [View.set_slice_whole, Rect.mem_set_unit]
  intro a
  match a with
  | ⟨0, _⟩ =>
    show win0_2.index t 0 * 512 ≤ (i 0).val ∧ (i 0).val < win0_2.index t 0 * 512 + 512
    rw [(start t).2.2.1.1]; omega
  | ⟨1, _⟩ =>
    show win0_2.index t 1 * 1024 ≤ (i 1).val ∧ (i 1).val < win0_2.index t 1 * 1024 + 1024
    rw [(start t).2.2.1.2]; omega

/-- Window 3: an array read through its block at point `t`, and the eight blocks fill the array. -/
theorem read3 (A : Vec Ideal S4096x1024 .bf16) (t : Fin cfg0.N) (r : Fin 512) (k : Fin 1024) :
    ((win0_3.blk t).view.read (Elt Ideal) A : Vec Ideal S512x1024 .bf16) (ix2 r k) = A (ix2 (row t r) k) := by
  show A ((win0_3.blk t).view.emb (ix2 r k)) = _
  refine congrArg A (funext fun a => Fin.ext ?_)
  match a with
  | ⟨0, _⟩ =>
    show win0_3.index t 0 * 512 + 1 * r.val = 512 * t.val + r.val
    rw [(start t).2.2.2.1.1]; omega
  | ⟨1, _⟩ =>
    show win0_3.index t 1 * 1024 + 1 * k.val = k.val
    rw [(start t).2.2.2.1.2]; omega

theorem cover3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hN : cfg0.N = 8 := N_0
  refine ⟨⟨(i 0).val / 512, by omega⟩, flush0_3 _, ?_⟩
  generalize ht : (⟨(i 0).val / 512, by omega⟩ : Fin cfg0.N) = t
  have hv : t.val = (i 0).val / 512 := by rw [← ht]
  show i ∈ ((View.whole main_v0_1).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(start t).2.2.2.1.1]; omega
  | ⟨1, _⟩ =>
    show win0_3.index t 1 * 1024 ≤ (i 1).val ∧ (i 1).val < win0_3.index t 1 * 1024 + 1024
    rw [(start t).2.2.2.1.2]; omega

/-- The loss's window is its whole array. -/
theorem read4 (A : Vec Ideal S1x1 .f32) (t : Fin cfg0.N) (r k : Fin 1) :
    ((win0_4.blk t).view.read (Elt Ideal) A : Vec Ideal S1x1 .f32) (ix2 r k) = A (ix2 r k) := by
  show A ((win0_4.blk t).view.emb (ix2 r k)) = _
  refine congrArg A (funext fun a => Fin.ext ?_)
  match a with
  | ⟨0, _⟩ =>
    show win0_4.index t 0 * 1 + 1 * r.val = r.val
    rw [(start t).2.2.2.2.1]; omega
  | ⟨1, _⟩ =>
    show win0_4.index t 1 * 1 + 1 * k.val = k.val
    rw [(start t).2.2.2.2.2]; omega

theorem cover4 (i : S1x1.Idx) : ∃ t : Fin cfg0.N, (cfg0.win 4).flush t = true ∧ i ∈ ((cfg0.win 4).blk t).view.set := by
  have h0 : (i 0).val < 1 := (i 0).isLt
  have h1 : (i 1).val < 1 := (i 1).isLt
  have hN : cfg0.N = 8 := N_0
  refine ⟨⟨7, by omega⟩, (flush0_4 _).mpr rfl, ?_⟩
  generalize (⟨7, by omega⟩ : Fin cfg0.N) = t
  show i ∈ ((View.whole main_v0_2).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [(start t).2.2.2.2.1]; omega
  | ⟨1, _⟩ =>
    show win0_4.index t 1 * 1 ≤ (i 1).val ∧ (i 1).val < win0_4.index t 1 * 1 + 1
    rw [(start t).2.2.2.2.2]; omega

section Cases

variable (c : Dev nD) (i : grid0.Coords) (g0 : Memref sig .tc .vmem S512x1024 .f32) (h0 : g0.IsWhole) (g1 : Memref sig .tc .vmem S512x1024 .f32) (h1 : g1.IsWhole) (g2 : Memref sig .tc .vmem S512x1024 .f32) (h2 : g2.IsWhole) (g3 : Memref sig .tc .vmem S512x1024 .bf16) (h3 : g3.IsWhole) (g4 : Memref sig .tc .vmem S1x1 .f32) (h4 : g4.IsWhole)
  (x0 x1 : Vec Ideal S512x1024 .f32) (acc : Vec Ideal S1x1 .f32)

theorem dy_apply (r : Fin 512) (k : Fin 1024) : k0_pay3 x0 x1 (ix2 r k) = (at2 x0 r k - at2 x1 r k) * invW := by
  pointwise [k0_pay3, k0_pay2]

theorem dyb_apply (r : Fin 512) (k : Fin 1024) : k0_pay4 x0 x1 (ix2 r k) = (at2 x0 r k - at2 x1 r k) * invW := by
  pointwise [k0_pay4, k0_pay3, k0_pay2]

theorem loss_apply : k0_pay5 x0 x1 acc (ix2 (0 : Fin 1) (0 : Fin 1)) = acc (ix2 (0 : Fin 1) (0 : Fin 1)) + ∑ r, part (at2 x0) (at2 x1) r := by
  pointwise [k0_pay5, k0_pay2, part, sqs]

theorem zero_apply : k0_pay1 (F := Ideal) (ix2 (0 : Fin 1) (0 : Fin 1)) = 0 := by pointwise [k0_pay1]

theorem out_A_2 (hc0 : cond0_0 i) : out0_A_2 c i g0 h0 g1 h1 g2 h2 g3 h3 g4 h4 hc0 x0 x1 = k0_pay3 x0 x1 := by
  unfold out0_A_2
  rw [View.read_writes_eq_canon _ _ _ (cover0_A_2 c i g0 h0 g1 h1 g2 h2 g3 h3 g4 h4 hc0 x0 x1)]
  unfold kernelRun0_A
  dsimp only
  sl_unfold_words
  rw [View.canon_unit_zero (S := S512x1024) hz]
  simp only [View.readAt_eq_ld, h0.read_unread, h1.read_unread, View.ld_unit_zero (S := S1x1) hz, View.ld_unit_zero (S := S512x1024) hz]

theorem out_A_3 (hc0 : cond0_0 i) : out0_A_3 c i g0 h0 g1 h1 g2 h2 g3 h3 g4 h4 hc0 x0 x1 = k0_pay4 x0 x1 := by
  unfold out0_A_3
  rw [View.read_writes_eq_canon _ _ _ (cover0_A_3 c i g0 h0 g1 h1 g2 h2 g3 h3 g4 h4 hc0 x0 x1)]
  unfold kernelRun0_A
  dsimp only
  sl_unfold_words
  rw [View.canon_unit_zero (S := S512x1024) hz]
  simp only [View.readAt_eq_ld, h0.read_unread, h1.read_unread, View.ld_unit_zero (S := S1x1) hz, View.ld_unit_zero (S := S512x1024) hz]

theorem out_A_4 (hc0 : cond0_0 i) : out0_A_4 c i g0 h0 g1 h1 g2 h2 g3 h3 g4 h4 hc0 x0 x1 = k0_pay5 x0 x1 (k0_pay1 (F := Ideal)) := by
  unfold out0_A_4
  rw [View.read_writes_eq_canon _ _ _ (cover0_A_4 c i g0 h0 g1 h1 g2 h2 g3 h3 g4 h4 hc0 x0 x1)]
  unfold kernelRun0_A
  dsimp only
  sl_unfold_words
  rw [View.canon_cons_unit_zero (S := S1x1) hz, View.readCov_unit_zero (S := S1x1) _ hz]
  simp only [View.readAt_eq_ld, h0.read_unread, h1.read_unread, View.ld_unit_zero (S := S1x1) hz, View.ld_unit_zero (S := S512x1024) hz]

theorem out_B_2 (hc0 : ¬cond0_0 i) : out0_B_2 c i g0 h0 g1 h1 g2 h2 g3 h3 g4 h4 hc0 x0 x1 acc = k0_pay3 x0 x1 := by
  unfold out0_B_2
  rw [View.read_writes_eq_canon _ _ _ (cover0_B_2 c i g0 h0 g1 h1 g2 h2 g3 h3 g4 h4 hc0 x0 x1 acc)]
  unfold kernelRun0_B
  dsimp only
  sl_unfold_words
  rw [View.canon_unit_zero (S := S512x1024) hz]
  simp only [View.readAt_eq_ld, h0.read_unread, h1.read_unread, h4.read_unread, View.ld_unit_zero (S := S1x1) hz, View.ld_unit_zero (S := S512x1024) hz]

theorem out_B_3 (hc0 : ¬cond0_0 i) : out0_B_3 c i g0 h0 g1 h1 g2 h2 g3 h3 g4 h4 hc0 x0 x1 acc = k0_pay4 x0 x1 := by
  unfold out0_B_3
  rw [View.read_writes_eq_canon _ _ _ (cover0_B_3 c i g0 h0 g1 h1 g2 h2 g3 h3 g4 h4 hc0 x0 x1 acc)]
  unfold kernelRun0_B
  dsimp only
  sl_unfold_words
  rw [View.canon_unit_zero (S := S512x1024) hz]
  simp only [View.readAt_eq_ld, h0.read_unread, h1.read_unread, h4.read_unread, View.ld_unit_zero (S := S1x1) hz, View.ld_unit_zero (S := S512x1024) hz]

theorem out_B_4 (hc0 : ¬cond0_0 i) : out0_B_4 c i g0 h0 g1 h1 g2 h2 g3 h3 g4 h4 hc0 x0 x1 acc = k0_pay5 x0 x1 acc := by
  unfold out0_B_4
  rw [View.read_writes_eq_canon _ _ _ (cover0_B_4 c i g0 h0 g1 h1 g2 h2 g3 h3 g4 h4 hc0 x0 x1 acc)]
  unfold kernelRun0_B
  dsimp only
  sl_unfold_words
  rw [View.canon_unit_zero (S := S1x1) hz]
  simp only [View.readAt_eq_ld, h0.read_unread, h1.read_unread, h4.read_unread, View.ld_unit_zero (S := S1x1) hz, View.ld_unit_zero (S := S512x1024) hz]

end Cases

section Points

variable (c : Dev nD) (t : Fin cfg0.N)

/-- The output and the target, as the pipeline reads them. -/
def Y : Fin 4096 → Fin 1024 → EReal := at2 (V m c main_arg0)
def T : Fin 4096 → Fin 1024 → EReal := at2 (V m c main_arg1)

theorem in0 : at2 (iblk m c 0 t) = fun r => Y m c (row t r) := funext fun r => funext fun k => blk0 m c t r k
theorem in1 : at2 (iblk m c 1 t) = fun r => T m c (row t r) := funext fun r => funext fun k => blk1 m c t r k

/-- The gradient of the output, and the loss. -/
def res2 : Vec Ideal S4096x1024 .f32 := fun i => (Y m c (i 0) (i 1) - T m c (i 0) (i 1)) * invW
def res3 : Vec Ideal S4096x1024 .bf16 := fun i => (Y m c (i 0) (i 1) - T m c (i 0) (i 1)) * invW
def res4 : Vec Ideal S1x1 .f32 := fun _ => ∑ r, part (Y m c) (T m c) r

/-- The three things a point leaves. -/
theorem first (h : t.val % 8 = 0) :
    outsAt0 m c t.val t.isLt = (k0_pay3 (iblk m c 0 t) (iblk m c 1 t), k0_pay4 (iblk m c 0 t) (iblk m c 1 t), k0_pay5 (iblk m c 0 t) (iblk m c 1 t) (k0_pay1 (F := Ideal))) := by
  rw [outsAt0_A m c t h, out_A_2, out_A_3, out_A_4]

theorem later (h : ¬t.val % 8 = 0) :
    outsAt0 m c t.val t.isLt = (k0_pay3 (iblk m c 0 t) (iblk m c 1 t), k0_pay4 (iblk m c 0 t) (iblk m c 1 t),
      k0_pay5 (iblk m c 0 t) (iblk m c 1 t) (outsAt0 m c (t.val - 1) (Nat.lt_of_le_of_lt (Nat.sub_le _ _) t.isLt)).2.2) := by
  rw [outsAt0_B m c t h, out_B_2, out_B_3, out_B_4]

theorem outs_dy : (outsAt0 m c t.val t.isLt).1 = k0_pay3 (iblk m c 0 t) (iblk m c 1 t) := by
  by_cases h : t.val % 8 = 0
  · rw [first m c t h]
  · rw [later m c t h]

theorem outs_dyb : (outsAt0 m c t.val t.isLt).2.1 = k0_pay4 (iblk m c 0 t) (iblk m c 1 t) := by
  by_cases h : t.val % 8 = 0
  · rw [first m c t h]
  · rw [later m c t h]

/-- What point `t` adds to the loss. -/
theorem loss_at (acc : Vec Ideal S1x1 .f32) :
    k0_pay5 (iblk m c 0 t) (iblk m c 1 t) acc (ix2 (0 : Fin 1) (0 : Fin 1))
      = acc (ix2 (0 : Fin 1) (0 : Fin 1)) + ∑ j : Fin 512, ext (part (Y m c) (T m c)) (512 * t.val + j.val) := by
  refine (loss_apply (iblk m c 0 t) (iblk m c 1 t) acc).trans ?_
  rw [in0, in1]
  refine congrArg (acc (ix2 (0 : Fin 1) (0 : Fin 1)) + ·) (Finset.sum_congr rfl fun j _ => ?_)
  exact (ext_val (part (Y m c) (T m c)) (row t j)).symm

/-- After point `q` the loss holds the shares of the rows of points up to `q`. -/
theorem outs_loss : ∀ (q : Nat) (t : Fin cfg0.N), t.val = q →
    (outsAt0 m c t.val t.isLt).2.2 (ix2 (0 : Fin 1) (0 : Fin 1)) = upTo (part (Y m c) (T m c)) 512 (q + 1)
  | 0, t, h => by
    rw [first m c t (by omega)]
    refine (loss_at m c t _).trans ?_
    rw [zero_apply, h, upTo_succ, upTo_zero]
  | q + 1, t, h => by
    have ht : t.val < 8 := lt_of_lt_of_eq t.isLt N_0
    rw [later m c t (by omega)]
    refine (loss_at m c t _).trans ?_
    have hs : t.val - 1 < cfg0.N := Nat.lt_of_le_of_lt (Nat.sub_le _ _) t.isLt
    have e := outs_loss q ⟨t.val - 1, hs⟩ (by show t.val - 1 = q; omega)
    dsimp only at e
    rw [e, h, upTo_succ _ _ (q + 1)]

theorem flushed2 : (dats m 0 c).flushed 2 t = (win0_2.blk t).view.read (Elt Ideal) (res2 m c) := by
  rw [Value.flushed2, outs_dy]
  funext (x : S512x1024.Idx)
  obtain ⟨a, b, rfl⟩ : ∃ (a : Fin 512) (b : Fin 1024), x = ix2 a b := ⟨x 0, x 1, eq_ix2 x⟩
  refine Eq.trans ?_ (read2 _ t a b).symm
  refine (dy_apply (iblk m c 0 t) (iblk m c 1 t) a b).trans ?_
  rw [in0, in1]
  rfl

theorem flushed3 : (dats m 0 c).flushed 3 t = (win0_3.blk t).view.read (Elt Ideal) (res3 m c) := by
  rw [Value.flushed3, outs_dyb]
  funext (x : S512x1024.Idx)
  obtain ⟨a, b, rfl⟩ : ∃ (a : Fin 512) (b : Fin 1024), x = ix2 a b := ⟨x 0, x 1, eq_ix2 x⟩
  refine Eq.trans ?_ (read3 _ t a b).symm
  refine (dyb_apply (iblk m c 0 t) (iblk m c 1 t) a b).trans ?_
  rw [in0, in1]
  rfl

theorem flushed4 (hf : (cfg0.win 4).flush t = true) :
    (dats m 0 c).flushed 4 t = (win0_4.blk t).view.read (Elt Ideal) (res4 m c) := by
  have h : t.val % 8 = 7 := (flush0_4 t).mp hf
  have ht : t.val < 8 := lt_of_lt_of_eq t.isLt N_0
  rw [Value.flushed4]
  funext (x : S1x1.Idx)
  obtain ⟨a, b, rfl⟩ : ∃ (a b : Fin 1), x = ix2 a b := ⟨x 0, x 1, eq_ix2 x⟩
  refine Eq.trans ?_ (read4 _ t a b).symm
  obtain rfl : a = 0 := Fin.ext (by have := a.isLt; show a.val = 0; omega)
  obtain rfl : b = 0 := Fin.ext (by have := b.isLt; show b.val = 0; omega)
  refine (outs_loss m c 7 t (by omega)).trans ?_
  exact upTo_full _ 512 8 (by norm_num)

end Points

/-- The whole run: the result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = res2 m c
      ∧ r.2.mem ((c : Thread nD τ).loc main_v0_1) = res3 m c
      ∧ r.2.mem ((c : Thread nD τ).loc main_v0_2) = res4 m c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (Value.run_blocks m ρ)
  obtain ⟨h2, h3, h4, hk⟩ := h c
  refine ⟨h2.trans ?_, h3.trans ?_, h4.trans ?_, hk⟩
  · exact (dats m 0 c).arrAt_eq_of_cover 2 (res2 m c) (fun t _ => flushed2 m c t) cover2
  · exact (dats m 0 c).arrAt_eq_of_cover 3 (res3 m c) (fun t _ => flushed3 m c t) cover3
  · exact (dats m 0 c).arrAt_eq_of_cover 4 (res4 m c) (fun t hf => flushed4 m c t hf) cover4

/-- The arguments: the output and the target. -/
abbrev a0 (c : Dev nD) : FVec Ideal S4096x1024 .f32 := m ((c : Thread nD τ).loc main_arg0)
abbrev a1 (c : Dev nD) : FVec Ideal S4096x1024 .f32 := m ((c : Thread nD τ).loc main_arg1)

theorem Y_eq (c : Dev nD) : Y m c = at2 (a0 m c) := funext fun r => funext fun k => congrFun (V_main_arg0 m c) (ix2 r k)
theorem T_eq (c : Dev nD) : T m c = at2 (a1 m c) := funext fun r => funext fun k => congrFun (V_main_arg1 m c) (ix2 r k)

end Cert.Kernel11Ideal.LossHead

namespace Cert.Reference11Ideal.LossHead

open Cert.Reference11Ideal Cert.Reference11Ideal.Gen Cert.Coords Cert.NormBwd Cert.Kernel11Ideal.LossHead Idealize.ShloMosaic Idealize.ShloMosaic.TcCoe Idealize.SL.Sem

section Terms

variable (y t : FVec Ideal S4096x1024 .f32)

/-- The reference's gradient and loss. -/
abbrev dyT : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf y t))
abbrev rowsT : FVec Ideal S4096 .f32 :=
  Host.divf (Host.reduceAdd (mulf (subf y t) (subf y t)) (constant S_ .f32 0x00000000#32) reducesTo_S4096x1024_S4096_d1 h_S_) (broadcastInDim S4096 ![] bcast_S_S4096 (constant S_ .f32 0x44800000#32))
abbrev lossT : FVec Ideal S1x1 .f32 :=
  shapeCast _ (mulf (constant S_ .f32 0x3F000000#32) (Host.reduceAdd (rowsT y t) (constant S_ .f32 0x00000000#32) reducesTo_S4096_S_d0 h_S_)) shapeCasts_S_S1x1

theorem dyT_apply (r : Fin 4096) (k : Fin 1024) : dyT y t (ix2 r k) = (at2 y r k - at2 t r k) * invW := by
  have h : dyT y t (ix2 r k) = Ideal.div (Ideal.ofBits .f32 0x3F000000#32 * Ideal.ofBits .f32 0x3F800000#32) width * (Ideal.ofBits .f32 0x40000000#32 * (at2 y r k - at2 t r k)) := by
    pointwise []
  rw [h, half_eq, one_eq, two_eq, invW_eq, width_eq, Ideal.div_coe (by norm_num), ← mul_assoc, ← EReal.coe_mul, ← EReal.coe_mul, ← EReal.coe_mul, mul_comm]
  norm_num

theorem rowsT_apply (r : Fin 4096) : rowsT y t (ix1 r) = Ideal.div (sqs (at2 y) (at2 t) r) width := by
  pointwise [sqs]

theorem lossT_apply : lossT y t (ix2 (0 : Fin 1) (0 : Fin 1)) = ∑ r, part (at2 y) (at2 t) r := by
  have h : lossT y t (ix2 (0 : Fin 1) (0 : Fin 1)) = Ideal.ofBits .f32 0x3F000000#32 * ∑ r : Fin 4096, rowsT y t (ix1 r) := by
    unfold lossT
    generalize rowsT y t = v
    pointwise []
  rw [h]
  have hn (r : Fin 4096) : 0 ≤ rowsT y t (ix1 r) := by
    rw [rowsT_apply, width_eq, Ideal.div_coe (by norm_num)]
    exact mul_nonneg (sqs_nonneg _ _ r) (by exact_mod_cast (by norm_num : (0 : ℝ) ≤ 1 / 1024))
  rw [into_sum _ _ hn]
  refine Finset.sum_congr rfl fun r _ => ?_
  rw [rowsT_apply, width_eq, Ideal.div_coe (by norm_num), half_eq, part, halfInvW_eq, mul_left_comm, ← EReal.coe_mul]
  norm_num

end Terms

variable (m : (ℓ : Loc Cert.Kernel11Ideal.nD Cert.Kernel11Ideal.τ Cert.Kernel11Ideal.sig) → Buf (Elt Ideal) ℓ) (c : Dev Cert.Kernel11Ideal.nD)

theorem meet2 : dyT (a0 m c) (a1 m c) = res2 m c := by
  funext (i : S4096x1024.Idx)
  obtain ⟨r, k, rfl⟩ : ∃ (r : Fin 4096) (k : Fin 1024), i = ix2 r k := ⟨i 0, i 1, eq_ix2 i⟩
  refine (dyT_apply _ _ r k).trans ?_
  show _ = (Y m c r k - T m c r k) * invW
  rw [Y_eq, T_eq]

theorem meet3 : truncf .bf16 (dyT (a0 m c) (a1 m c)) bitsLt_bf16_f32 = res3 m c := meet2 m c

theorem meet4 : lossT (a0 m c) (a1 m c) = res4 m c := by
  funext (i : S1x1.Idx)
  obtain ⟨a, b, rfl⟩ : ∃ (a b : Fin 1), i = ix2 a b := ⟨i 0, i 1, eq_ix2 i⟩
  obtain rfl : a = 0 := Fin.ext (by have := a.isLt; show a.val = 0; omega)
  obtain rfl : b = 0 := Fin.ext (by have := b.isLt; show b.val = 0; omega)
  refine (lossT_apply _ _).trans ?_
  show _ = ∑ r, part (Y m c) (T m c) r
  rw [Y_eq, T_eq]

end Cert.Reference11Ideal.LossHead

namespace Cert.Proof.LossHeadClaims

open Idealize.ShloMosaic Idealize.ShloMosaic.TcCoe Idealize.SL.Sem
open Cert.Kernel11Ideal.LossHead Cert.Reference11Ideal.LossHead

/-- The kernel and the reference leave the same arrays. -/
theorem algebraic : Cert.algebraic_Kernel11Ideal_Reference11Ideal := by
  intro m ρ m' ρ' _ hag
  refine ⟨fun c => res2 m c, fun c => res3 m c, fun c => res4 m c, run m ρ, ?_⟩
  refine (θ_run Cert.Reference11Ideal.defs _ _).mono (fun r h c => ?_) (Cert.Reference11Ideal.Value.run (F := Ideal) m' ρ')
  obtain ⟨e0, e1⟩ := hag c
  obtain ⟨h2, h3, h4, hk⟩ := h c
  refine ⟨h2.trans ?_, h3.trans ?_, h4.trans ?_, hk⟩
  · rw [e0, e1]; exact meet2 m c
  · rw [e0, e1]; exact meet3 m c
  · rw [e0, e1]; exact meet4 m c

/-- The reference leaves its arguments as they were and no signal raised. -/
theorem frame_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

end Cert.Proof.LossHeadClaims

end
-- ==== Proof.MlpUpBlocks.lean ====
/-
  The up projection, read by blocks. The grid has eight points; point t works on rows 512 t to 512 t + 511 of the
  residual stream and of the two results, and on the whole of the gain and of the weight, which comes in eight blocks
  of columns.
-/
module

public import proofs.«01_k».proof.Proof.Gen.Kernel12Ideal.Value
public import proofs.«01_k».proof.Proof.Coords

@[expose] public section

set_option maxRecDepth 16384

noncomputable section

namespace Cert.Kernel12Ideal.MlpUp

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem hz : (![0, 0] : Fin 2 → Nat) = fun _ => 0 := funext fun a => by fin_cases a <;> rfl

/-- Each block starts at its point's rows, in column zero; a whole array's block starts at zero. -/
theorem start : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0 ∧ win0_2.index t 2 = 0)
    ∧ (win0_3.index t 0 = t.val ∧ win0_3.index t 1 = 0)
    ∧ (win0_4.index t 0 = t.val ∧ win0_4.index t 1 = 0) := by
  decide +kernel

/-- Window 0, the residual stream: its block at an index. -/
theorem blk0 (c : Dev nD) (t : Fin cfg0.N) (r : Fin 512) (k : Fin 1024) :
    iblk m c 0 t (ix2 r k) = V m c main_arg0 (ix2 (row t r) k) := by
  show V m c main_arg0 ((win0_0.blk t).view.emb (ix2 r k)) = _
  refine congrArg (V m c main_arg0) (funext fun a => Fin.ext ?_)
  match a with
  | ⟨0, _⟩ =>
    show win0_0.index t 0 * 512 + 1 * r.val = 512 * t.val + r.val
    rw [(start t).1.1]; omega
  | ⟨1, _⟩ =>
    show win0_0.index t 1 * 1024 + 1 * k.val = k.val
    rw [(start t).1.2]; omega

/-- Window 1, the norm's gain: its block at an index. -/
theorem blk1 (c : Dev nD) (t : Fin cfg0.N) (r : Fin 1) (k : Fin 1024) :
    iblk m c 1 t (ix2 r k) = V m c main_v3 (ix2 r k) := by
  show V m c main_v3 ((win0_1.blk t).view.emb (ix2 r k)) = _
  refine congrArg (V m c main_v3) (funext fun a => Fin.ext ?_)
  match a with
  | ⟨0, _⟩ =>
    show win0_1.index t 0 * 1 + 1 * r.val = r.val
    rw [(start t).2.1.1]; omega
  | ⟨1, _⟩ =>
    show win0_1.index t 1 * 1024 + 1 * k.val = k.val
    rw [(start t).2.1.2]; omega

/-- Window 2, the up weight in eight column blocks: its block at an index. -/
theorem blk2 (c : Dev nD) (t : Fin cfg0.N) (g : Fin 8) (r : Fin 1024) (k : Fin 512) :
    iblk m c 2 t (ix3 g r k) = V m c main_v2 (ix3 g r k) := by
  show V m c main_v2 ((win0_2.blk t).view.emb (ix3 g r k)) = _
  refine congrArg (V m c main_v2) (funext fun a => Fin.ext ?_)
  match a with
  | ⟨0, _⟩ =>
    show win0_2.index t 0 * 8 + 1 * g.val = g.val
    rw [(start t).2.2.1.1]; omega
  | ⟨1, _⟩ =>
    show win0_2.index t 1 * 1024 + 1 * r.val = r.val
    rw [(start t).2.2.1.2.1]; omega
  | ⟨2, _⟩ =>
    show win0_2.index t 2 * 512 + 1 * k.val = k.val
    rw [(start t).2.2.1.2.2]; omega

/-- Window 3, the normalised stream: an array read through its block at point `t`. -/
theorem read3 (A : Vec Ideal S4096x1024 .bf16) (t : Fin cfg0.N) (r : Fin 512) (k : Fin 1024) :
    ((win0_3.blk t).view.read (Elt Ideal) A : Vec Ideal S512x1024 .bf16) (ix2 r k) = A (ix2 (row t r) k) := by
  show A ((win0_3.blk t).view.emb (ix2 r k)) = _
  refine congrArg A (funext fun a => Fin.ext ?_)
  match a with
  | ⟨0, _⟩ =>
    show win0_3.index t 0 * 512 + 1 * r.val = 512 * t.val + r.val
    rw [(start t).2.2.2.1.1]; omega
  | ⟨1, _⟩ =>
    show win0_3.index t 1 * 1024 + 1 * k.val = k.val
    rw [(start t).2.2.2.1.2]; omega

/-- Window 3's eight blocks fill its array. -/
theorem cover3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hN : cfg0.N = 8 := N_0
  refine ⟨⟨(i 0).val / 512, by omega⟩, flush0_3 _, ?_⟩
  generalize ht : (⟨(i 0).val / 512, by omega⟩ : Fin cfg0.N) = t
  have hv : t.val = (i 0).val / 512 := by rw [← ht]
  show i ∈ ((View.whole main_v4_0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(start t).2.2.2.1.1]; omega
  | ⟨1, _⟩ =>
    show win0_3.index t 1 * 1024 ≤ (i 1).val ∧ (i 1).val < win0_3.index t 1 * 1024 + 1024
    rw [(start t).2.2.2.1.2]; omega

/-- Window 4, the hidden layer before its activation: an array read through its block at point `t`. -/
theorem read4 (A : Vec Ideal S4096x4096 .bf16) (t : Fin cfg0.N) (r : Fin 512) (k : Fin 4096) :
    ((win0_4.blk t).view.read (Elt Ideal) A : Vec Ideal S512x4096 .bf16) (ix2 r k) = A (ix2 (row t r) k) := by
  show A ((win0_4.blk t).view.emb (ix2 r k)) = _
  refine congrArg A (funext fun a => Fin.ext ?_)
  match a with
  | ⟨0, _⟩ =>
    show win0_4.index t 0 * 512 + 1 * r.val = 512 * t.val + r.val
    rw [(start t).2.2.2.2.1]; omega
  | ⟨1, _⟩ =>
    show win0_4.index t 1 * 4096 + 1 * k.val = k.val
    rw [(start t).2.2.2.2.2]; omega

/-- Window 4's eight blocks fill its array. -/
theorem cover4 (i : S4096x4096.Idx) : ∃ t : Fin cfg0.N, (cfg0.win 4).flush t = true ∧ i ∈ ((cfg0.win 4).blk t).view.set := by
  have h0 : (i 0).val < 4096 := (i 0).isLt
  have h1 : (i 1).val < 4096 := (i 1).isLt
  have hN : cfg0.N = 8 := N_0
  refine ⟨⟨(i 0).val / 512, by omega⟩, flush0_4 _, ?_⟩
  generalize ht : (⟨(i 0).val / 512, by omega⟩ : Fin cfg0.N) = t
  have hv : t.val = (i 0).val / 512 := by rw [← ht]
  show i ∈ ((View.whole main_v4_1).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [(start t).2.2.2.2.1]; omega
  | ⟨1, _⟩ =>
    show win0_4.index t 1 * 4096 ≤ (i 1).val ∧ (i 1).val < win0_4.index t 1 * 4096 + 4096
    rw [(start t).2.2.2.2.2]; omega

end Cert.Kernel12Ideal.MlpUp

end
-- ==== Proof.Stack.lean ====
/-
  A weight of 4096 columns kept as eight blocks of 512 columns, read as one matrix, and a product with one block of it.
-/
module

public import proofs.«01_k».proof.Proof.Coords

@[expose] public section

noncomputable section

namespace Cert.Stack

open Idealize.ShloMosaic Cert.Coords

/-- A three-axis array as a function of its coordinates. -/
abbrev at3 {a b d : Nat} (x : (⟨3, ![a, b, d]⟩ : Shape).Idx → EReal) (g : Fin a) (r : Fin b) (k : Fin d) : EReal :=
  x (ix3 g r k)

/-- Column `k` of the whole is column `k % 512` of block `k / 512`. -/
def stk {d : Nat} (W : Fin 8 → Fin d → Fin 512 → EReal) (j : Fin d) (k : Fin 4096) : EReal :=
  W ⟨k.val / 512, by have := k.isLt; omega⟩ j ⟨k.val % 512, by omega⟩

theorem stk_at {d : Nat} (W : Fin 8 → Fin d → Fin 512 → EReal) (g : Fin 8) (b : Fin 512) (j : Fin d) (k : Fin 4096)
    (h : k.val = 512 * g.val + b.val) : stk W j k = W g j b := by
  have hb := b.isLt
  have e1 : (⟨k.val / 512, by have := k.isLt; omega⟩ : Fin 8) = g := Fin.ext (by show k.val / 512 = g.val; omega)
  have e2 : (⟨k.val % 512, by omega⟩ : Fin 512) = b := Fin.ext (by show k.val % 512 = b.val; omega)
  unfold stk
  rw [e1, e2]

/-- Blocks that hold a matrix's columns in order make that matrix. -/
theorem stk_eq {d : Nat} (W : Fin 8 → Fin d → Fin 512 → EReal) (X : (⟨2, ![d, 4096]⟩ : Shape).Idx → EReal)
    (h : ∀ (g : Fin 8) (j : Fin d) (b : Fin 512),
      W g j b = X (ix2 j ⟨g.val * 512 + b.val, by have := g.isLt; have := b.isLt; omega⟩)) : stk W = at2 X := by
  funext j k
  unfold stk
  rw [h]
  refine congrArg X (congrArg (ix2 j) (Fin.ext ?_))
  show k.val / 512 * 512 + k.val % 512 = k.val
  omega

/-- A product with one block, as a block of the product. -/
theorem mm_block {n d : Nat} (H : Fin n → Fin d → EReal) (W : Fin 8 → Fin d → Fin 512 → EReal) (g : Fin 8) (a : Fin n)
    (b : Fin 512) {r : Fin n} {k : Fin 4096} (hr : r.val = a.val) (hk : k.val = 512 * g.val + b.val) :
    ∑ j, H a j * W g j b = mm H (stk W) r k := by
  obtain rfl : r = a := Fin.ext hr
  exact Finset.sum_congr rfl fun j _ => congrArg (H r j * ·) (stk_at W g b j k hk).symm

end Cert.Stack

end
-- ==== Proof.MlpUp.lean ====
/-
  The up projection after the run, as a function of the three arrays the pipeline reads, and the reference's terms met
  with it: the normalised stream, and its product with the weight, whose columns the kernel takes in eight blocks.
-/
module

public import proofs.«01_k».proof.Defs
public import proofs.«01_k».proof.Proof.MlpUpBlocks
public import proofs.«01_k».proof.Proof.Gen.Reference12Ideal.Run
public import Idealize.ShloMosaic.Lib.Quiescent
public import proofs.«01_k».proof.Proof.Stack

@[expose] public section

set_option maxRecDepth 16384

noncomputable section

namespace Cert.Kernel12Ideal.MlpUp

open Cert.Kernel12Ideal Cert.Kernel12Ideal.Gen Cert.Coords Cert.Stack Idealize.ShloMosaic Idealize.ShloMosaic.TcCoe Idealize.SL.Sem
open Idealize.ShloMosaic.Pipeline (Dat)

theorem pay1_apply (x0 : Vec Ideal S512x1024 .f32) (x1 : Vec Ideal S1x1024 .f32)
    (r : Fin 512) (k : Fin 1024) : k0_pay1 x0 x1 (ix2 r k) = nrm (at2 x0) (at2 x1 0) r k := by
  pointwise [k0_pay1, nrm, rms]

section Pieces

variable (x0 : Vec Ideal S512x1024 .f32) (x1 : Vec Ideal S1x1024 .f32) (x2 : Vec Ideal S8x1024x512 .bf16)

/-- What one point leaves in its block of the hidden layer. -/
def hid : Vec Ideal S512x4096 .bf16 := fun i => mm (nrm (at2 x0) (at2 x1 0)) (stk (at3 x2)) (i 0) (i 1)

theorem ld0 : View.ld x0 r0_0 = x0 := View.ld_unit_zero hz inb_S512x1024_S512x1024_0_0 x0
theorem ld1 : View.ld x1 r0_1 = x1 := View.ld_unit_zero hz inb_S1x1024_S1x1024_0_0 x1

/-- Column block 0 of the weight. -/
theorem ldw0 (j : Fin 1024) (b : Fin 512) : View.ld x2 r0_2 (ix3 (0 : Fin 1) j b) = x2 (ix3 (0 : Fin 8) j b) := by
  refine congrArg x2 (funext fun a => Fin.ext ?_)
  match a with
  | ⟨0, _⟩ => rfl
  | ⟨1, _⟩ => show 0 + 1 * j.val = j.val; omega
  | ⟨2, _⟩ => show 0 + 1 * b.val = b.val; omega

theorem piece0 (a b : Fin 512) :
    k0_pay2 x0 x1 (View.ld x2 r0_2) (ix2 a b) = ∑ j, nrm (at2 x0) (at2 x1 0) a j * x2 (ix3 (0 : Fin 8) j b) := by
  have h : k0_pay2 x0 x1 (View.ld x2 r0_2) (ix2 a b)
      = ∑ j : Fin 1024, k0_pay1 x0 x1 (ix2 a j) * View.ld x2 r0_2 (ix3 (0 : Fin 1) j b) := by
    generalize View.ld x2 r0_2 = y
    pointwise [k0_pay2]
  rw [h]
  exact Finset.sum_congr rfl fun j _ => by rw [pay1_apply, ldw0]

/-- Column block 1 of the weight. -/
theorem ldw1 (j : Fin 1024) (b : Fin 512) : View.ld x2 r0_4 (ix3 (0 : Fin 1) j b) = x2 (ix3 (1 : Fin 8) j b) := by
  refine congrArg x2 (funext fun a => Fin.ext ?_)
  match a with
  | ⟨0, _⟩ => rfl
  | ⟨1, _⟩ => show 0 + 1 * j.val = j.val; omega
  | ⟨2, _⟩ => show 0 + 1 * b.val = b.val; omega

theorem piece1 (a b : Fin 512) :
    k0_pay3 x0 x1 (View.ld x2 r0_4) (ix2 a b) = ∑ j, nrm (at2 x0) (at2 x1 0) a j * x2 (ix3 (1 : Fin 8) j b) := by
  have h : k0_pay3 x0 x1 (View.ld x2 r0_4) (ix2 a b)
      = ∑ j : Fin 1024, k0_pay1 x0 x1 (ix2 a j) * View.ld x2 r0_4 (ix3 (0 : Fin 1) j b) := by
    generalize View.ld x2 r0_4 = y
    pointwise [k0_pay3]
  rw [h]
  exact Finset.sum_congr rfl fun j _ => by rw [pay1_apply, ldw1]

/-- Column block 2 of the weight. -/
theorem ldw2 (j : Fin 1024) (b : Fin 512) : View.ld x2 r0_6 (ix3 (0 : Fin 1) j b) = x2 (ix3 (2 : Fin 8) j b) := by
  refine congrArg x2 (funext fun a => Fin.ext ?_)
  match a with
  | ⟨0, _⟩ => rfl
  | ⟨1, _⟩ => show 0 + 1 * j.val = j.val; omega
  | ⟨2, _⟩ => show 0 + 1 * b.val = b.val; omega

theorem piece2 (a b : Fin 512) :
    k0_pay4 x0 x1 (View.ld x2 r0_6) (ix2 a b) = ∑ j, nrm (at2 x0) (at2 x1 0) a j * x2 (ix3 (2 : Fin 8) j b) := by
  have h : k0_pay4 x0 x1 (View.ld x2 r0_6) (ix2 a b)
      = ∑ j : Fin 1024, k0_pay1 x0 x1 (ix2 a j) * View.ld x2 r0_6 (ix3 (0 : Fin 1) j b) := by
    generalize View.ld x2 r0_6 = y
    pointwise [k0_pay4]
  rw [h]
  exact Finset.sum_congr rfl fun j _ => by rw [pay1_apply, ldw2]

/-- Column block 3 of the weight. -/
theorem ldw3 (j : Fin 1024) (b : Fin 512) : View.ld x2 r0_8 (ix3 (0 : Fin 1) j b) = x2 (ix3 (3 : Fin 8) j b) := by
  refine congrArg x2 (funext fun a => Fin.ext ?_)
  match a with
  | ⟨0, _⟩ => rfl
  | ⟨1, _⟩ => show 0 + 1 * j.val = j.val; omega
  | ⟨2, _⟩ => show 0 + 1 * b.val = b.val; omega

theorem piece3 (a b : Fin 512) :
    k0_pay5 (k0_pay1 x0 x1) (View.ld x2 r0_8) (ix2 a b) = ∑ j, nrm (at2 x0) (at2 x1 0) a j * x2 (ix3 (3 : Fin 8) j b) := by
  have h : k0_pay5 (k0_pay1 x0 x1) (View.ld x2 r0_8) (ix2 a b)
      = ∑ j : Fin 1024, k0_pay1 x0 x1 (ix2 a j) * View.ld x2 r0_8 (ix3 (0 : Fin 1) j b) := by
    generalize View.ld x2 r0_8 = y
    generalize k0_pay1 x0 x1 = h
    pointwise [k0_pay5]
  rw [h]
  exact Finset.sum_congr rfl fun j _ => by rw [pay1_apply, ldw3]

/-- Column block 4 of the weight. -/
theorem ldw4 (j : Fin 1024) (b : Fin 512) : View.ld x2 r0_10 (ix3 (0 : Fin 1) j b) = x2 (ix3 (4 : Fin 8) j b) := by
  refine congrArg x2 (funext fun a => Fin.ext ?_)
  match a with
  | ⟨0, _⟩ => rfl
  | ⟨1, _⟩ => show 0 + 1 * j.val = j.val; omega
  | ⟨2, _⟩ => show 0 + 1 * b.val = b.val; omega

theorem piece4 (a b : Fin 512) :
    k0_pay6 (k0_pay1 x0 x1) (View.ld x2 r0_10) (ix2 a b) = ∑ j, nrm (at2 x0) (at2 x1 0) a j * x2 (ix3 (4 : Fin 8) j b) := by
  have h : k0_pay6 (k0_pay1 x0 x1) (View.ld x2 r0_10) (ix2 a b)
      = ∑ j : Fin 1024, k0_pay1 x0 x1 (ix2 a j) * View.ld x2 r0_10 (ix3 (0 : Fin 1) j b) := by
    generalize View.ld x2 r0_10 = y
    generalize k0_pay1 x0 x1 = h
    pointwise [k0_pay6]
  rw [h]
  exact Finset.sum_congr rfl fun j _ => by rw [pay1_apply, ldw4]

/-- Column block 5 of the weight. -/
theorem ldw5 (j : Fin 1024) (b : Fin 512) : View.ld x2 r0_12 (ix3 (0 : Fin 1) j b) = x2 (ix3 (5 : Fin 8) j b) := by
  refine congrArg x2 (funext fun a => Fin.ext ?_)
  match a with
  | ⟨0, _⟩ => rfl
  | ⟨1, _⟩ => show 0 + 1 * j.val = j.val; omega
  | ⟨2, _⟩ => show 0 + 1 * b.val = b.val; omega

theorem piece5 (a b : Fin 512) :
    k0_pay7 (k0_pay1 x0 x1) (View.ld x2 r0_12) (ix2 a b) = ∑ j, nrm (at2 x0) (at2 x1 0) a j * x2 (ix3 (5 : Fin 8) j b) := by
  have h : k0_pay7 (k0_pay1 x0 x1) (View.ld x2 r0_12) (ix2 a b)
      = ∑ j : Fin 1024, k0_pay1 x0 x1 (ix2 a j) * View.ld x2 r0_12 (ix3 (0 : Fin 1) j b) := by
    generalize View.ld x2 r0_12 = y
    generalize k0_pay1 x0 x1 = h
    pointwise [k0_pay7]
  rw [h]
  exact Finset.sum_congr rfl fun j _ => by rw [pay1_apply, ldw5]

/-- Column block 6 of the weight. -/
theorem ldw6 (j : Fin 1024) (b : Fin 512) : View.ld x2 r0_14 (ix3 (0 : Fin 1) j b) = x2 (ix3 (6 : Fin 8) j b) := by
  refine congrArg x2 (funext fun a => Fin.ext ?_)
  match a with
  | ⟨0, _⟩ => rfl
  | ⟨1, _⟩ => show 0 + 1 * j.val = j.val; omega
  | ⟨2, _⟩ => show 0 + 1 * b.val = b.val; omega

theorem piece6 (a b : Fin 512) :
    k0_pay8 (k0_pay1 x0 x1) (View.ld x2 r0_14) (ix2 a b) = ∑ j, nrm (at2 x0) (at2 x1 0) a j * x2 (ix3 (6 : Fin 8) j b) := by
  have h : k0_pay8 (k0_pay1 x0 x1) (View.ld x2 r0_14) (ix2 a b)
      = ∑ j : Fin 1024, k0_pay1 x0 x1 (ix2 a j) * View.ld x2 r0_14 (ix3 (0 : Fin 1) j b) := by
    generalize View.ld x2 r0_14 = y
    generalize k0_pay1 x0 x1 = h
    pointwise [k0_pay8]
  rw [h]
  exact Finset.sum_congr rfl fun j _ => by rw [pay1_apply, ldw6]

/-- Column block 7 of the weight. -/
theorem ldw7 (j : Fin 1024) (b : Fin 512) : View.ld x2 r0_16 (ix3 (0 : Fin 1) j b) = x2 (ix3 (7 : Fin 8) j b) := by
  refine congrArg x2 (funext fun a => Fin.ext ?_)
  match a with
  | ⟨0, _⟩ => rfl
  | ⟨1, _⟩ => show 0 + 1 * j.val = j.val; omega
  | ⟨2, _⟩ => show 0 + 1 * b.val = b.val; omega

theorem piece7 (a b : Fin 512) :
    k0_pay9 (k0_pay1 x0 x1) (View.ld x2 r0_16) (ix2 a b) = ∑ j, nrm (at2 x0) (at2 x1 0) a j * x2 (ix3 (7 : Fin 8) j b) := by
  have h : k0_pay9 (k0_pay1 x0 x1) (View.ld x2 r0_16) (ix2 a b)
      = ∑ j : Fin 1024, k0_pay1 x0 x1 (ix2 a j) * View.ld x2 r0_16 (ix3 (0 : Fin 1) j b) := by
    generalize View.ld x2 r0_16 = y
    generalize k0_pay1 x0 x1 = h
    pointwise [k0_pay9]
  rw [h]
  exact Finset.sum_congr rfl fun j _ => by rw [pay1_apply, ldw7]

/-- The eight blocks of columns fill the block. -/
theorem out_hid : out0_4 x0 x1 x2 = hid x0 x1 x2 := by
  unfold out0_4 k0_pay10
  rw [ld0, ld1]
  funext y
  refine View.canon_apply_of_pieces (Val := Elt Ideal) (hid x0 x1 x2) _ ?_ y (cover0_4 _ _ _ _ _ _ _ _ y)
  intro pc hpc
  rcases List.mem_cons.mp hpc with rfl | hpc
  · intro (x : S512x512.Idx)
    obtain ⟨a, b, rfl⟩ : ∃ (a b : Fin 512), x = ix2 a b := ⟨x 0, x 1, eq_ix2 x⟩
    refine (piece7 x0 x1 x2 a b).trans ?_
    exact mm_block (nrm (at2 x0) (at2 x1 0)) (at3 x2) (7 : Fin 8) a b
      (show 0 + 1 * a.val = a.val by omega) (show 3584 + 1 * b.val = 512 * 7 + b.val by omega)
  rcases List.mem_cons.mp hpc with rfl | hpc
  · intro (x : S512x512.Idx)
    obtain ⟨a, b, rfl⟩ : ∃ (a b : Fin 512), x = ix2 a b := ⟨x 0, x 1, eq_ix2 x⟩
    refine (piece6 x0 x1 x2 a b).trans ?_
    exact mm_block (nrm (at2 x0) (at2 x1 0)) (at3 x2) (6 : Fin 8) a b
      (show 0 + 1 * a.val = a.val by omega) (show 3072 + 1 * b.val = 512 * 6 + b.val by omega)
  rcases List.mem_cons.mp hpc with rfl | hpc
  · intro (x : S512x512.Idx)
    obtain ⟨a, b, rfl⟩ : ∃ (a b : Fin 512), x = ix2 a b := ⟨x 0, x 1, eq_ix2 x⟩
    refine (piece5 x0 x1 x2 a b).trans ?_
    exact mm_block (nrm (at2 x0) (at2 x1 0)) (at3 x2) (5 : Fin 8) a b
      (show 0 + 1 * a.val = a.val by omega) (show 2560 + 1 * b.val = 512 * 5 + b.val by omega)
  rcases List.mem_cons.mp hpc with rfl | hpc
  · intro (x : S512x512.Idx)
    obtain ⟨a, b, rfl⟩ : ∃ (a b : Fin 512), x = ix2 a b := ⟨x 0, x 1, eq_ix2 x⟩
    refine (piece4 x0 x1 x2 a b).trans ?_
    exact mm_block (nrm (at2 x0) (at2 x1 0)) (at3 x2) (4 : Fin 8) a b
      (show 0 + 1 * a.val = a.val by omega) (show 2048 + 1 * b.val = 512 * 4 + b.val by omega)
  rcases List.mem_cons.mp hpc with rfl | hpc
  · intro (x : S512x512.Idx)
    obtain ⟨a, b, rfl⟩ : ∃ (a b : Fin 512), x = ix2 a b := ⟨x 0, x 1, eq_ix2 x⟩
    refine (piece3 x0 x1 x2 a b).trans ?_
    exact mm_block (nrm (at2 x0) (at2 x1 0)) (at3 x2) (3 : Fin 8) a b
      (show 0 + 1 * a.val = a.val by omega) (show 1536 + 1 * b.val = 512 * 3 + b.val by omega)
  rcases List.mem_cons.mp hpc with rfl | hpc
  · intro (x : S512x512.Idx)
    obtain ⟨a, b, rfl⟩ : ∃ (a b : Fin 512), x = ix2 a b := ⟨x 0, x 1, eq_ix2 x⟩
    refine (piece2 x0 x1 x2 a b).trans ?_
    exact mm_block (nrm (at2 x0) (at2 x1 0)) (at3 x2) (2 : Fin 8) a b
      (show 0 + 1 * a.val = a.val by omega) (show 1024 + 1 * b.val = 512 * 2 + b.val by omega)
  rcases List.mem_cons.mp hpc with rfl | hpc
  · intro (x : S512x512.Idx)
    obtain ⟨a, b, rfl⟩ : ∃ (a b : Fin 512), x = ix2 a b := ⟨x 0, x 1, eq_ix2 x⟩
    refine (piece1 x0 x1 x2 a b).trans ?_
    exact mm_block (nrm (at2 x0) (at2 x1 0)) (at3 x2) (1 : Fin 8) a b
      (show 0 + 1 * a.val = a.val by omega) (show 512 + 1 * b.val = 512 * 1 + b.val by omega)
  obtain rfl := List.mem_singleton.mp hpc
  · intro (x : S512x512.Idx)
    obtain ⟨a, b, rfl⟩ : ∃ (a b : Fin 512), x = ix2 a b := ⟨x 0, x 1, eq_ix2 x⟩
    refine (piece0 x0 x1 x2 a b).trans ?_
    exact mm_block (nrm (at2 x0) (at2 x1 0)) (at3 x2) (0 : Fin 8) a b
      (show 0 + 1 * a.val = a.val by omega) (show 0 + 1 * b.val = 512 * 0 + b.val by omega)

end Pieces

section Arrays

variable (m : (ℓ : Loc nD τ sig) → Buf (Elt Ideal) ℓ) (c : Dev nD)

/-- The residual stream, as the pipeline reads it. -/
abbrev w0 : Fin 4096 → Fin 1024 → EReal := at2 (V m c main_arg0)
/-- The norm's gain, as the pipeline reads it. -/
abbrev w1 : Fin 1 → Fin 1024 → EReal := at2 (V m c main_v3)
/-- The up weight's blocks of columns. -/
abbrev w2 : Fin 1024 → Fin 4096 → EReal := stk (at3 (V m c main_v2))

/-- The results. -/
def res3 : Vec Ideal S4096x1024 .bf16 := fun i => nrm (w0 m c) (w1 m c 0) (i 0) (i 1)
def res4 : Vec Ideal S4096x4096 .bf16 := fun i => mm (nrm (w0 m c) (w1 m c 0)) (w2 m c) (i 0) (i 1)

variable (t : Fin cfg0.N)

theorem in0 : at2 (iblk m c 0 t) = fun r => w0 m c (row t r) := funext fun r => funext fun k => blk0 m c t r k
theorem in1 : at2 (iblk m c 1 t) = w1 m c := funext fun r => funext fun k => blk1 m c t r k
theorem in2 : at3 (iblk m c 2 t) = at3 (V m c main_v2) := funext fun g => funext fun r => funext fun k => blk2 m c t g r k

theorem flushed3 : (dats m 0 c).flushed 3 t = (win0_3.blk t).view.read (Elt Ideal) (res3 m c) := by
  rw [Value.flushed3]
  unfold out0_3
  rw [View.canon_unit_zero hz, View.ld_unit_zero hz, View.ld_unit_zero hz]
  funext (x : S512x1024.Idx)
  obtain ⟨a, b, rfl⟩ : ∃ (a : Fin 512) (b : Fin 1024), x = ix2 a b := ⟨x 0, x 1, eq_ix2 x⟩
  refine Eq.trans ?_ (read3 _ t a b).symm
  refine (pay1_apply _ _ a b).trans ?_
  rw [in0, in1]
  rfl

theorem flushed4 : (dats m 0 c).flushed 4 t = (win0_4.blk t).view.read (Elt Ideal) (res4 m c) := by
  rw [Value.flushed4, out_hid]
  funext (x : S512x4096.Idx)
  obtain ⟨a, b, rfl⟩ : ∃ (a : Fin 512) (b : Fin 4096), x = ix2 a b := ⟨x 0, x 1, eq_ix2 x⟩
  refine Eq.trans ?_ (read4 _ t a b).symm
  show mm (nrm (at2 (iblk m c 0 t)) (at2 (iblk m c 1 t) 0)) (stk (at3 (iblk m c 2 t))) a b = _
  rw [in0, in1, in2]
  rfl

/-- The whole run: the result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = res3 m c
      ∧ r.2.mem ((c : Thread nD τ).loc main_v4_1) = res4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Value.run_blocks m ρ)
  obtain ⟨h3, h4, hk⟩ := h c
  refine ⟨h3.trans ?_, h4.trans ?_, hk⟩
  · exact (dats m 0 c).arrAt_eq_of_cover 3 (res3 m c) (fun t _ => flushed3 m c t) cover3
  · exact (dats m 0 c).arrAt_eq_of_cover 4 (res4 m c) (fun t _ => flushed4 m c t) cover4

/-- The arguments: the residual stream, the gain, the weight. -/
abbrev a0 : FVec Ideal S4096x1024 .f32 := m ((c : Thread nD τ).loc main_arg0)
abbrev a1 : FVec Ideal S1024 .f32 := m ((c : Thread nD τ).loc main_arg1)
abbrev a2 : FVec Ideal S1024x4096 .f32 := m ((c : Thread nD τ).loc main_arg2)

theorem w0_eq : w0 m c = at2 (a0 m c) := congrArg at2 (V_main_arg0 m c)

theorem w1_eq : w1 m c = fun _ k => a1 m c (ix1 k) := by
  funext r k
  have h : (V m c main_v3 : FVec Ideal S1x1024 .f32) = shapeCast _ (a1 m c) shapeCasts_S1024_S1x1024 := by
    show StableHlo.after hostOps0 (fun b => m (c, b)) _ = _
    unfold hostOps0
    after_results_simp <;> rfl
  show (V m c main_v3 : FVec Ideal S1x1024 .f32) (ix2 r k) = _
  rw [h]
  pointwise []

theorem w2_eq : w2 m c = at2 (a2 m c) := by
  have h : (V m c main_v2 : FVec Ideal S8x1024x512 .bf16) = truncf .bf16 (transpose S8x1024x512 [1, 0, 2] (shapeCast S1024x8x512 (a2 m c) shapeCasts_S1024x4096_S1024x8x512) transposes_S1024x8x512_S8x1024x512_1_0_2) bitsLt_bf16_f32 := by
    show StableHlo.after hostOps0 (fun b => m (c, b)) _ = _
    unfold hostOps0
    after_results_simp <;> rfl
  refine stk_eq _ _ fun g j b => ?_
  show (V m c main_v2 : FVec Ideal S8x1024x512 .bf16) (ix3 g j b) = _
  rw [h]
  pointwise []

end Arrays

end Cert.Kernel12Ideal.MlpUp

namespace Cert.Reference12Ideal.MlpUp

open Cert.Reference12Ideal Cert.Reference12Ideal.Gen Cert.Coords Idealize.ShloMosaic Idealize.ShloMosaic.TcCoe Idealize.SL.Sem

/-- The normalised stream. -/
def hT (x0 : FVec Ideal S4096x1024 .f32) (x1 : FVec Ideal S1024 .f32) : FVec Ideal S4096x1024 .f32 :=
  (mulf (mulf x0 (broadcastInDim S4096x1024 ![0, 1] bcast_S4096x1_S4096x1024_0_1 (Host.rsqrt (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 x1)))
/-- The hidden layer. -/
def uT (x0 : FVec Ideal S4096x1024 .f32) (x1 : FVec Ideal S1024 .f32) (x2 : FVec Ideal S1024x4096 .f32) : FVec Ideal S4096x4096 .f32 :=
  (Host.dotGeneral dot_S4096x1024_S1024x4096_S4096x4096_1_0_0_1_n_n none (hT x0 x1) x2)

variable (x0 : FVec Ideal S4096x1024 .f32) (x1 : FVec Ideal S1024 .f32) (x2 : FVec Ideal S1024x4096 .f32)

theorem hT_apply (r : Fin 4096) (k : Fin 1024) : hT x0 x1 (ix2 r k) = nrm (at2 x0) (fun k => x1 (ix1 k)) r k := by
  pointwise [hT, nrm, rms]

theorem uT_apply (r : Fin 4096) (k : Fin 4096) :
    uT x0 x1 x2 (ix2 r k) = mm (nrm (at2 x0) (fun k => x1 (ix1 k))) (at2 x2) r k := by
  have h : uT x0 x1 x2 (ix2 r k) = ∑ j : Fin 1024, hT x0 x1 (ix2 r j) * x2 (ix2 j k) := by
    pointwise [uT]
  rw [h]
  exact Finset.sum_congr rfl fun j _ => congrArg (· * _) (hT_apply x0 x1 r j)

variable (m : (ℓ : Loc Cert.Kernel12Ideal.nD Cert.Kernel12Ideal.τ Cert.Kernel12Ideal.sig) → Buf (Elt Ideal) ℓ) (c : Dev Cert.Kernel12Ideal.nD)

open Cert.Kernel12Ideal.MlpUp

theorem meet3 : truncf .bf16 (hT (a0 m c) (a1 m c)) bitsLt_bf16_f32 = res3 m c := by
  funext (i : S4096x1024.Idx)
  obtain ⟨r, k, rfl⟩ : ∃ (r : Fin 4096) (k : Fin 1024), i = ix2 r k := ⟨i 0, i 1, eq_ix2 i⟩
  refine (hT_apply _ _ r k).trans ?_
  show _ = nrm (w0 m c) (w1 m c 0) r k
  rw [w0_eq, w1_eq]

theorem meet4 : truncf .bf16 (uT (a0 m c) (a1 m c) (a2 m c)) bitsLt_bf16_f32 = res4 m c := by
  funext (i : S4096x4096.Idx)
  obtain ⟨r, k, rfl⟩ : ∃ (r : Fin 4096) (k : Fin 4096), i = ix2 r k := ⟨i 0, i 1, eq_ix2 i⟩
  refine (uT_apply _ _ _ r k).trans ?_
  show _ = mm (nrm (w0 m c) (w1 m c 0)) (w2 m c) r k
  rw [w0_eq, w1_eq, w2_eq]

end Cert.Reference12Ideal.MlpUp

namespace Cert.Proof.MlpUpClaims

open Idealize.ShloMosaic Idealize.ShloMosaic.TcCoe Idealize.SL.Sem
open Cert.Kernel12Ideal.MlpUp Cert.Reference12Ideal.MlpUp

/-- The kernel and the reference leave the same arrays. -/
theorem algebraic : Cert.algebraic_Kernel12Ideal_Reference12Ideal := by
  intro m ρ m' ρ' _ hag
  refine ⟨fun c => res3 m c, fun c => res4 m c, run m ρ, ?_⟩
  refine (θ_run Cert.Reference12Ideal.defs _ _).mono (fun r h c => ?_) (Cert.Reference12Ideal.Value.run (F := Ideal) m' ρ')
  obtain ⟨e0, e1, e2⟩ := hag c
  obtain ⟨h3, h4, hk⟩ := h c
  refine ⟨h3.trans ?_, h4.trans ?_, hk⟩
  · rw [e0, e1]; exact meet3 m c
  · rw [e0, e1, e2]; exact meet4 m c

/-- The reference leaves its arguments as they were and no signal raised. -/
theorem frame_reference : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

end Cert.Proof.MlpUpClaims

end
-- ==== Proof.MlpBwdBlocks.lean ====
/-
  The gradient through the up projection and its norm, read by blocks. The grid has eight points; point t works on
  rows 512 t to 512 t + 511 of the two gradients, of the residual stream and of the two results, and on the whole of
  the gain and of the weight, which comes in eight blocks of columns.
-/
module

public import proofs.«01_k».proof.Proof.Gen.Kernel13Ideal.Value
public import proofs.«01_k».proof.Proof.Coords

@[expose] public section

set_option maxRecDepth 16384

noncomputable section

namespace Cert.Kernel13Ideal.MlpBwd

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem hz : (![0, 0] : Fin 2 → Nat) = fun _ => 0 := funext fun a => by fin_cases a <;> rfl

/-- Each block starts at its point's rows, in column zero; a whole array's block starts at zero. -/
theorem start : ∀ t : Fin cfg0.N,
    (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0) := by
  decide +kernel

/-- Window 0, the gradient at the hidden layer: its block at an index. -/
theorem blk0 (c : Dev nD) (t : Fin cfg0.N) (r : Fin 512) (k : Fin 4096) :
    iblk m c 0 t (ix2 r k) = V m c main_v3 (ix2 (row t r) k) := by
  show V m c main_v3 ((win0_0.blk t).view.emb (ix2 r k)) = _
  refine congrArg (V m c main_v3) (funext fun a => Fin.ext ?_)
  match a with
  | ⟨0, _⟩ =>
    show win0_0.index t 0 * 512 + 1 * r.val = 512 * t.val + r.val
    rw [(start t).1.1]; omega
  | ⟨1, _⟩ =>
    show win0_0.index t 1 * 4096 + 1 * k.val = k.val
    rw [(start t).1.2]; omega

/-- Window 1, the up weight in eight column blocks: its block at an index. -/
theorem blk1 (c : Dev nD) (t : Fin cfg0.N) (g : Fin 8) (r : Fin 1024) (k : Fin 512) :
    iblk m c 1 t (ix3 g r k) = V m c main_v2 (ix3 g r k) := by
  show V m c main_v2 ((win0_1.blk t).view.emb (ix3 g r k)) = _
  refine congrArg (V m c main_v2) (funext fun a => Fin.ext ?_)
  match a with
  | ⟨0, _⟩ =>
    show win0_1.index t 0 * 8 + 1 * g.val = g.val
    rw [(start t).2.1.1]; omega
  | ⟨1, _⟩ =>
    show win0_1.index t 1 * 1024 + 1 * r.val = r.val
    rw [(start t).2.1.2.1]; omega
  | ⟨2, _⟩ =>
    show win0_1.index t 2 * 512 + 1 * k.val = k.val
    rw [(start t).2.1.2.2]; omega

/-- Window 2, the residual stream: its block at an index. -/
theorem blk2 (c : Dev nD) (t : Fin cfg0.N) (r : Fin 512) (k : Fin 1024) :
    iblk m c 2 t (ix2 r k) = V m c main_arg0 (ix2 (row t r) k) := by
  show V m c main_arg0 ((win0_2.blk t).view.emb (ix2 r k)) = _
  refine congrArg (V m c main_arg0) (funext fun a => Fin.ext ?_)
  match a with
  | ⟨0, _⟩ =>
    show win0_2.index t 0 * 512 + 1 * r.val = 512 * t.val + r.val
    rw [(start t).2.2.1.1]; omega
  | ⟨1, _⟩ =>
    show win0_2.index t 1 * 1024 + 1 * k.val = k.val
    rw [(start t).2.2.1.2]; omega

/-- Window 3, the norm's gain: its block at an index. -/
theorem blk3 (c : Dev nD) (t : Fin cfg0.N) (r : Fin 1) (k : Fin 1024) :
    iblk m c 3 t (ix2 r k) = V m c main_v4 (ix2 r k) := by
  show V m c main_v4 ((win0_3.blk t).view.emb (ix2 r k)) = _
  refine congrArg (V m c main_v4) (funext fun a => Fin.ext ?_)
  match a with
  | ⟨0, _⟩ =>
    show win0_3.index t 0 * 1 + 1 * r.val = r.val
    rw [(start t).2.2.2.1.1]; omega
  | ⟨1, _⟩ =>
    show win0_3.index t 1 * 1024 + 1 * k.val = k.val
    rw [(start t).2.2.2.1.2]; omega

/-- Window 4, the gradient that passes beside the norm: its block at an index. -/
theorem blk4 (c : Dev nD) (t : Fin cfg0.N) (r : Fin 512) (k : Fin 1024) :
    iblk m c 4 t (ix2 r k) = V m c main_arg4 (ix2 (row t r) k) := by
  show V m c main_arg4 ((win0_4.blk t).view.emb (ix2 r k)) = _
  refine congrArg (V m c main_arg4) (funext fun a => Fin.ext ?_)
  match a with
  | ⟨0, _⟩ =>
    show win0_4.index t 0 * 512 + 1 * r.val = 512 * t.val + r.val
    rw [(start t).2.2.2.2.1.1]; omega
  | ⟨1, _⟩ =>
    show win0_4.index t 1 * 1024 + 1 * k.val = k.val
    rw [(start t).2.2.2.2.1.2]; omega

/-- Window 5, the gradient of the stream: an array read through its block at point `t`. -/
theorem read5 (A : Vec Ideal S4096x1024 .f32) (t : Fin cfg0.N) (r : Fin 512) (k : Fin 1024) :
    ((win0_5.blk t).view.read (Elt Ideal) A : Vec Ideal S512x1024 .f32) (ix2 r k) = A (ix2 (row t r) k) := by
  show A ((win0_5.blk t).view.emb (ix2 r k)) = _
  refine congrArg A (funext fun a => Fin.ext ?_)
  match a with
  | ⟨0, _⟩ =>
    show win0_5.index t 0 * 512 + 1 * r.val = 512 * t.val + r.val
    rw [(start t).2.2.2.2.2.1.1]; omega
  | ⟨1, _⟩ =>
    show win0_5.index t 1 * 1024 + 1 * k.val = k.val
    rw [(start t).2.2.2.2.2.1.2]; omega

/-- Window 5's eight blocks fill its array. -/
theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have hN : cfg0.N = 8 := N_0
  refine ⟨⟨(i 0).val / 512, by omega⟩, flush0_5 _, ?_⟩
  generalize ht : (⟨(i 0).val / 512, by omega⟩ : Fin cfg0.N) = t
  have hv : t.val = (i 0).val / 512 := by rw [← ht]
  show i ∈ ((View.whole main_v5_0).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [(start t).2.2.2.2.2.1.1]; omega
  | ⟨1, _⟩ =>
    show win0_5.index t 1 * 1024 ≤ (i 1).val ∧ (i 1).val < win0_5.index t 1 * 1024 + 1024
    rw [(start t).2.2.2.2.2.1.2]; omega

/-- Window 6, the same, rounded: an array read through its block at point `t`. -/
theorem read6 (A : Vec Ideal S4096x1024 .bf16) (t : Fin cfg0.N) (r : Fin 512) (k : Fin 1024) :
    ((win0_6.blk t).view.read (Elt Ideal) A : Vec Ideal S512x1024 .bf16) (ix2 r k) = A (ix2 (row t r) k) := by
  show A ((win0_6.blk t).view.emb (ix2 r k)) = _
  refine congrArg A (funext fun a => Fin.ext ?_)
  match a with
  | ⟨0, _⟩ =>
    show win0_6.index t 0 * 512 + 1 * r.val = 512 * t.val + r.val
    rw [(start t).2.2.2.2.2.2.1]; omega
  | ⟨1, _⟩ =>
    show win0_6.index t 1 * 1024 + 1 * k.val = k.val
    rw [(start t).2.2.2.2.2.2.2]; omega

/-- Window 6's eight blocks fill its array. -/
theorem cover6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have hN : cfg0.N = 8 := N_0
  refine ⟨⟨(i 0).val / 512, by omega⟩, flush0_6 _, ?_⟩
  generalize ht : (⟨(i 0).val / 512, by omega⟩ : Fin cfg0.N) = t
  have hv : t.val = (i 0).val / 512 := by rw [← ht]
  show i ∈ ((View.whole main_v5_1).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    rw [(start t).2.2.2.2.2.2.1]; omega
  | ⟨1, _⟩ =>
    show win0_6.index t 1 * 1024 ≤ (i 1).val ∧ (i 1).val < win0_6.index t 1 * 1024 + 1024
    rw [(start t).2.2.2.2.2.2.2]; omega

end Cert.Kernel13Ideal.MlpBwd

end
-- ==== Proof.MlpBwd.lean ====
/-
  The gradient through the up projection and its norm after the run, as a function of the five arrays the pipeline
  reads, and the reference's terms met with it. The product with the transposed weight is summed over eight blocks of
  the weight's columns; the gain's gradient is summed over the points, which are blocks of rows.
-/
module

public import proofs.«01_k».proof.Defs
public import proofs.«01_k».proof.Proof.MlpBwdBlocks
public import proofs.«01_k».proof.Proof.Gen.Reference13Ideal.Run
public import Idealize.ShloMosaic.Lib.Quiescent
public import proofs.«01_k».proof.Proof.NormBwd
public import proofs.«01_k».proof.Proof.Chunks
public import proofs.«01_k».proof.Proof.Stack

@[expose] public section

set_option maxRecDepth 16384

noncomputable section

namespace Cert.Kernel13Ideal.MlpBwd

open Cert.Kernel13Ideal Cert.Kernel13Ideal.Gen Cert.Coords Cert.Stack Cert.NormBwd Cert.Chunks Idealize.ShloMosaic Idealize.ShloMosaic.TcCoe Idealize.SL.Sem
open Idealize.ShloMosaic.Pipeline (Dat)

section Product

variable (x0 : Vec Ideal S512x4096 .bf16) (x1 : Vec Ideal S8x1024x512 .bf16)

/-- A point's gradient at the normalised rows: eight products, one for each block of the weight's columns. -/
def dhB : FVec Ideal S512x1024 .f32 :=
  k0_pay7 (k0_pay5 (View.ld x0 (Rect.unit (s := S512x4096) ![0, 0] S512x512.size inb_S512x4096_S512x512_0_0)) (View.ld x1 (Rect.unit (s := S8x1024x512) ![0, 0, 0] S1x1024x512.size inb_S8x1024x512_S1x1024x512_0_0_0)) (View.ld x0 (Rect.unit (s := S512x4096) ![0, 512] S512x512.size inb_S512x4096_S512x512_0_512)) (View.ld x1 (Rect.unit (s := S8x1024x512) ![1, 0, 0] S1x1024x512.size inb_S8x1024x512_S1x1024x512_1_0_0)) (View.ld x0 (Rect.unit (s := S512x4096) ![0, 1024] S512x512.size inb_S512x4096_S512x512_0_1024)) (View.ld x1 (Rect.unit (s := S8x1024x512) ![2, 0, 0] S1x1024x512.size inb_S8x1024x512_S1x1024x512_2_0_0)) (View.ld x0 (Rect.unit (s := S512x4096) ![0, 1536] S512x512.size inb_S512x4096_S512x512_0_1536)) (View.ld x1 (Rect.unit (s := S8x1024x512) ![3, 0, 0] S1x1024x512.size inb_S8x1024x512_S1x1024x512_3_0_0)))
    (k0_pay6 (View.ld x0 (Rect.unit (s := S512x4096) ![0, 2048] S512x512.size inb_S512x4096_S512x512_0_2048))) (View.ld x1 (Rect.unit (s := S8x1024x512) ![4, 0, 0] S1x1024x512.size inb_S8x1024x512_S1x1024x512_4_0_0)) (View.ld x0 (Rect.unit (s := S512x4096) ![0, 2560] S512x512.size inb_S512x4096_S512x512_0_2560)) (View.ld x1 (Rect.unit (s := S8x1024x512) ![5, 0, 0] S1x1024x512.size inb_S8x1024x512_S1x1024x512_5_0_0)) (View.ld x0 (Rect.unit (s := S512x4096) ![0, 3072] S512x512.size inb_S512x4096_S512x512_0_3072)) (View.ld x1 (Rect.unit (s := S8x1024x512) ![6, 0, 0] S1x1024x512.size inb_S8x1024x512_S1x1024x512_6_0_0)) (View.ld x0 (Rect.unit (s := S512x4096) ![0, 3584] S512x512.size inb_S512x4096_S512x512_0_3584)) (View.ld x1 (Rect.unit (s := S8x1024x512) ![7, 0, 0] S1x1024x512.size inb_S8x1024x512_S1x1024x512_7_0_0))

/-- The eight products, over any pieces. -/
theorem dh_pieces (p0 p1 p2 p3 p4 p5 p6 p7 : Vec Ideal S512x512 .bf16) (q0 q1 q2 q3 q4 q5 q6 q7 : Vec Ideal S1x1024x512 .bf16) (a : Fin 512) (k : Fin 1024) :
    k0_pay7 (F := Ideal) (k0_pay5 p0 q0 p1 q1 p2 q2 p3 q3) (k0_pay6 p4) q4 p5 q5 p6 q6 p7 q7 (ix2 a k)
      = ∑ j : Fin 512, p0 (ix2 a j) * q0 (ix3 (0 : Fin 1) k j)
        + ∑ j : Fin 512, p1 (ix2 a j) * q1 (ix3 (0 : Fin 1) k j)
        + ∑ j : Fin 512, p2 (ix2 a j) * q2 (ix3 (0 : Fin 1) k j)
        + ∑ j : Fin 512, p3 (ix2 a j) * q3 (ix3 (0 : Fin 1) k j)
        + ∑ j : Fin 512, p4 (ix2 a j) * q4 (ix3 (0 : Fin 1) k j)
        + ∑ j : Fin 512, p5 (ix2 a j) * q5 (ix3 (0 : Fin 1) k j)
        + ∑ j : Fin 512, p6 (ix2 a j) * q6 (ix3 (0 : Fin 1) k j)
        + ∑ j : Fin 512, p7 (ix2 a j) * q7 (ix3 (0 : Fin 1) k j) := by
  pointwise [k0_pay7, k0_pay6, k0_pay5]

/-- The product over block `s`, as a part of the whole sum. -/
theorem part (s : Nat) (hs : s < 8) (o : Nat) (ho : o = 512 * s) (w0 : ∀ a, (![0, o] : Fin 2 → Nat) a + S512x512.size a ≤ S512x4096.size a) (w1 : ∀ a, (![s, 0, 0] : Fin 3 → Nat) a + S1x1024x512.size a ≤ S8x1024x512.size a)
    (a : Fin 512) (k : Fin 1024) :
    ∑ j : Fin 512, (View.ld x0 (Rect.unit (s := S512x4096) ![0, o] S512x512.size w0)) (ix2 a j) * (View.ld x1 (Rect.unit (s := S8x1024x512) ![s, 0, 0] S1x1024x512.size w1)) (ix3 (0 : Fin 1) k j)
      = ∑ j : Fin 512, ext (fun j => at2 x0 a j * stk (at3 x1) k j) (512 * s + j.val) := by
  subst ho
  refine Finset.sum_congr rfl fun j _ => ?_
  have hj := j.isLt
  refine Eq.trans ?_ (ext_val (fun j => at2 x0 a j * stk (at3 x1) k j) (⟨512 * s + j.val, by omega⟩ : Fin 4096)).symm
  have e0 : (View.ld x0 (Rect.unit (s := S512x4096) ![0, 512 * s] S512x512.size w0)) (ix2 a j) = at2 x0 a ⟨512 * s + j.val, by omega⟩ := by
    refine congrArg x0 (funext fun d => Fin.ext ?_)
    match d with
    | ⟨0, _⟩ => show 0 + 1 * a.val = a.val; omega
    | ⟨1, _⟩ => show 512 * s + 1 * j.val = 512 * s + j.val; omega
  have e1 : (View.ld x1 (Rect.unit (s := S8x1024x512) ![s, 0, 0] S1x1024x512.size w1)) (ix3 (0 : Fin 1) k j) = at3 x1 (⟨s, hs⟩ : Fin 8) k j := by
    refine congrArg x1 (funext fun d => Fin.ext ?_)
    match d with
    | ⟨0, _⟩ => rfl
    | ⟨1, _⟩ => show 0 + 1 * k.val = k.val; omega
    | ⟨2, _⟩ => show 0 + 1 * j.val = j.val; omega
  rw [e0, e1]
  exact congrArg (at2 x0 a ⟨512 * s + j.val, by omega⟩ * ·) (stk_at (at3 x1) (⟨s, hs⟩ : Fin 8) j k _ rfl).symm

theorem dhB_apply (a : Fin 512) (k : Fin 1024) : dhB x0 x1 (ix2 a k) = mmt (at2 x0) (stk (at3 x1)) a k := by
  refine (dh_pieces _ _ _ _ _ _ _ _ _ _ _ _ _ _ _ _ a k).trans ?_
  rw [part x0 x1 0 (by decide) 0 rfl, part x0 x1 1 (by decide) 512 rfl, part x0 x1 2 (by decide) 1024 rfl, part x0 x1 3 (by decide) 1536 rfl, part x0 x1 4 (by decide) 2048 rfl, part x0 x1 5 (by decide) 2560 rfl, part x0 x1 6 (by decide) 3072 rfl, part x0 x1 7 (by decide) 3584 rfl]
  refine Eq.trans ?_ (upTo_full (fun j => at2 x0 a j * stk (at3 x1) k j) 512 8 (by norm_num))
  rw [upTo_succ _ _ 7, upTo_succ _ _ 6, upTo_succ _ _ 5, upTo_succ _ _ 4, upTo_succ _ _ 3, upTo_succ _ _ 2, upTo_succ _ _ 1, upTo_succ _ _ 0, upTo_zero, zero_add]

end Product

section Cases

variable (c : Dev nD) (i : grid0.Coords) (g0 : Memref sig .tc .vmem S512x4096 .bf16) (h0 : g0.IsWhole) (g1 : Memref sig .tc .vmem S8x1024x512 .bf16) (h1 : g1.IsWhole) (g2 : Memref sig .tc .vmem S512x1024 .f32) (h2 : g2.IsWhole) (g3 : Memref sig .tc .vmem S1x1024 .f32) (h3 : g3.IsWhole) (g4 : Memref sig .tc .vmem S512x1024 .f32) (h4 : g4.IsWhole) (g5 : Memref sig .tc .vmem S512x1024 .f32) (h5 : g5.IsWhole) (g6 : Memref sig .tc .vmem S512x1024 .bf16) (h6 : g6.IsWhole) (g7 : Memref sig .tc .vmem S1x1024 .f32) (h7 : g7.IsWhole)
  (x0 : Vec Ideal S512x4096 .bf16) (x1 : Vec Ideal S8x1024x512 .bf16) (x2 : Vec Ideal S512x1024 .f32) (x3 : Vec Ideal S1x1024 .f32) (x4 : Vec Ideal S512x1024 .f32) (acc : Vec Ideal S1x1024 .f32)

/-- What a point leaves in its block of the gradient, from the block's arrays. -/
def dxB : Vec Ideal S512x1024 .f32 := k0_pay1 (dhB x0 x1) x2 (k0_pay8 x2) (k0_pay9 x3) x4
/-- What a point leaves in the accumulator that holds `acc`. -/
def dgB : Vec Ideal S1x1024 .f32 := k0_pay3 (dhB x0 x1) x2 (k0_pay8 x2) acc

theorem dxB_apply (r : Fin 512) (k : Fin 1024) :
    dxB x0 x1 x2 x3 x4 (ix2 r k) = nrmBwd (at2 (dhB x0 x1)) (at2 x2) (at2 x3 0) (at2 x4) r k := by
  unfold dxB
  generalize dhB x0 x1 = dh
  pointwise [k0_pay1, k0_pay8, k0_pay9, nrmBwd, rms, dotG]

theorem dgB_apply (k : Fin 1024) :
    dgB x0 x1 x2 acc (ix2 (0 : Fin 1) k) = acc (ix2 (0 : Fin 1) k) + ∑ r, gainTerm (at2 (dhB x0 x1)) (at2 x2) r k := by
  unfold dgB
  generalize dhB x0 x1 = dh
  pointwise [k0_pay3, k0_pay8, gainTerm, rms]

theorem zero_apply (k : Fin 1024) : k0_pay4 (F := Ideal) (ix2 (0 : Fin 1) k) = 0 := by pointwise [k0_pay4]

theorem out_A_5 (hc0 : cond0_0 i) : out0_A_5 c i g0 h0 g1 h1 g2 h2 g3 h3 g4 h4 g5 h5 g6 h6 g7 h7 hc0 x0 x1 x2 x3 x4 = dxB x0 x1 x2 x3 x4 := by
  unfold out0_A_5
  rw [View.read_writes_eq_canon _ _ _ (cover0_A_5 c i g0 h0 g1 h1 g2 h2 g3 h3 g4 h4 g5 h5 g6 h6 g7 h7 hc0 x0 x1 x2 x3 x4)]
  unfold kernelRun0_A
  dsimp only
  sl_unfold_words
  rw [View.canon_unit_zero (S := S512x1024) hz]
  simp only [View.readAt_eq_ld, h0.read_unread, h1.read_unread, h2.read_unread, h3.read_unread, h4.read_unread, View.ld_unit_zero (S := S1x1024) hz, View.ld_unit_zero (S := S512x1024) hz, View.ld_unit_zero (S := S512x4096) hz]
  rfl

theorem out_A_6 (hc0 : cond0_0 i) : out0_A_6 c i g0 h0 g1 h1 g2 h2 g3 h3 g4 h4 g5 h5 g6 h6 g7 h7 hc0 x0 x1 x2 x3 x4 = dxB x0 x1 x2 x3 x4 := by
  unfold out0_A_6
  rw [View.read_writes_eq_canon _ _ _ (cover0_A_6 c i g0 h0 g1 h1 g2 h2 g3 h3 g4 h4 g5 h5 g6 h6 g7 h7 hc0 x0 x1 x2 x3 x4)]
  unfold kernelRun0_A
  dsimp only
  sl_unfold_words
  rw [View.canon_unit_zero (S := S512x1024) hz]
  simp only [View.readAt_eq_ld, h0.read_unread, h1.read_unread, h2.read_unread, h3.read_unread, h4.read_unread, View.ld_unit_zero (S := S1x1024) hz, View.ld_unit_zero (S := S512x1024) hz, View.ld_unit_zero (S := S512x4096) hz]
  rfl

theorem out_A_7 (hc0 : cond0_0 i) : out0_A_7 c i g0 h0 g1 h1 g2 h2 g3 h3 g4 h4 g5 h5 g6 h6 g7 h7 hc0 x0 x1 x2 x3 x4 = dgB x0 x1 x2 (k0_pay4 (F := Ideal)) := by
  unfold out0_A_7
  rw [View.read_writes_eq_canon _ _ _ (cover0_A_7 c i g0 h0 g1 h1 g2 h2 g3 h3 g4 h4 g5 h5 g6 h6 g7 h7 hc0 x0 x1 x2 x3 x4)]
  unfold kernelRun0_A
  dsimp only
  sl_unfold_words
  rw [View.canon_cons_unit_zero (S := S1x1024) hz, View.readCov_unit_zero (S := S1x1024) _ hz]
  simp only [View.readAt_eq_ld, h0.read_unread, h1.read_unread, h2.read_unread, h3.read_unread, h4.read_unread, View.ld_unit_zero (S := S1x1024) hz, View.ld_unit_zero (S := S512x1024) hz, View.ld_unit_zero (S := S512x4096) hz]
  rfl

theorem out_B_5 (hc0 : ¬cond0_0 i) : out0_B_5 c i g0 h0 g1 h1 g2 h2 g3 h3 g4 h4 g5 h5 g6 h6 g7 h7 hc0 x0 x1 x2 x3 x4 acc = dxB x0 x1 x2 x3 x4 := by
  unfold out0_B_5
  rw [View.read_writes_eq_canon _ _ _ (cover0_B_5 c i g0 h0 g1 h1 g2 h2 g3 h3 g4 h4 g5 h5 g6 h6 g7 h7 hc0 x0 x1 x2 x3 x4 acc)]
  unfold kernelRun0_B
  dsimp only
  sl_unfold_words
  rw [View.canon_unit_zero (S := S512x1024) hz]
  simp only [View.readAt_eq_ld, h0.read_unread, h1.read_unread, h2.read_unread, h3.read_unread, h4.read_unread, View.ld_unit_zero (S := S1x1024) hz, View.ld_unit_zero (S := S512x1024) hz, View.ld_unit_zero (S := S512x4096) hz]
  rfl

theorem out_B_6 (hc0 : ¬cond0_0 i) : out0_B_6 c i g0 h0 g1 h1 g2 h2 g3 h3 g4 h4 g5 h5 g6 h6 g7 h7 hc0 x0 x1 x2 x3 x4 acc = dxB x0 x1 x2 x3 x4 := by
  unfold out0_B_6
  rw [View.read_writes_eq_canon _ _ _ (cover0_B_6 c i g0 h0 g1 h1 g2 h2 g3 h3 g4 h4 g5 h5 g6 h6 g7 h7 hc0 x0 x1 x2 x3 x4 acc)]
  unfold kernelRun0_B
  dsimp only
  sl_unfold_words
  rw [View.canon_unit_zero (S := S512x1024) hz]
  simp only [View.readAt_eq_ld, h0.read_unread, h1.read_unread, h2.read_unread, h3.read_unread, h4.read_unread, View.ld_unit_zero (S := S1x1024) hz, View.ld_unit_zero (S := S512x1024) hz, View.ld_unit_zero (S := S512x4096) hz]
  rfl

theorem out_B_7 (hc0 : ¬cond0_0 i) : out0_B_7 c i g0 h0 g1 h1 g2 h2 g3 h3 g4 h4 g5 h5 g6 h6 g7 h7 hc0 x0 x1 x2 x3 x4 acc = dgB x0 x1 x2 acc := by
  unfold out0_B_7
  rw [View.read_writes_eq_canon _ _ _ (cover0_B_7 c i g0 h0 g1 h1 g2 h2 g3 h3 g4 h4 g5 h5 g6 h6 g7 h7 hc0 x0 x1 x2 x3 x4 acc)]
  unfold kernelRun0_B
  dsimp only
  sl_unfold_words
  rw [View.canon_unit_zero (S := S1x1024) hz]
  simp only [View.readAt_eq_ld, h0.read_unread, h1.read_unread, h2.read_unread, h3.read_unread, h4.read_unread, h7.read_unread, View.ld_unit_zero (S := S1x1024) hz, View.ld_unit_zero (S := S512x1024) hz, View.ld_unit_zero (S := S512x4096) hz]
  rfl

end Cases

section Arrays

variable (m : (ℓ : Loc nD τ sig) → Buf (Elt Ideal) ℓ) (c : Dev nD)

/-- The gradient at the hidden layer, as the pipeline reads it. -/
abbrev w0 : Fin 4096 → Fin 4096 → EReal := at2 (V m c main_v3)
/-- The residual stream, as the pipeline reads it. -/
abbrev w2 : Fin 4096 → Fin 1024 → EReal := at2 (V m c main_arg0)
/-- The norm's gain, as the pipeline reads it. -/
abbrev w3 : Fin 1 → Fin 1024 → EReal := at2 (V m c main_v4)
/-- The gradient that passes beside the norm, as the pipeline reads it. -/
abbrev w4 : Fin 4096 → Fin 1024 → EReal := at2 (V m c main_arg4)
/-- The up weight in eight column blocks, as the pipeline reads it. -/
abbrev w1 : Fin 1024 → Fin 4096 → EReal := stk (at3 (V m c main_v2))

/-- The gradient that reaches the normalised rows. -/
abbrev dh : Fin 4096 → Fin 1024 → EReal := mmt (w0 m c) (w1 m c)

/-- The results. -/
def res5 : Vec Ideal S4096x1024 .f32 := fun i => nrmBwd (dh m c) (w2 m c) (w3 m c 0) (w4 m c) (i 0) (i 1)
def res6 : Vec Ideal S4096x1024 .bf16 := fun i => nrmBwd (dh m c) (w2 m c) (w3 m c 0) (w4 m c) (i 0) (i 1)
def res7 : Vec Ideal S1x1024 .f32 := fun i => ∑ r, gainTerm (dh m c) (w2 m c) r (i 1)

variable (t : Fin cfg0.N)

theorem in0 : at2 (iblk m c 0 t) = fun r => w0 m c (row t r) := funext fun r => funext fun k => blk0 m c t r k
theorem in2 : at2 (iblk m c 2 t) = fun r => w2 m c (row t r) := funext fun r => funext fun k => blk2 m c t r k
theorem in3 : at2 (iblk m c 3 t) = w3 m c := funext fun r => funext fun k => blk3 m c t r k
theorem in4 : at2 (iblk m c 4 t) = fun r => w4 m c (row t r) := funext fun r => funext fun k => blk4 m c t r k
theorem in1 : at3 (iblk m c 1 t) = at3 (V m c main_v2) := funext fun g => funext fun r => funext fun k => blk1 m c t g r k

/-- The gradient that reaches the normalised rows of point `t`'s block. -/
theorem in_dh : at2 (dhB (iblk m c 0 t) (iblk m c 1 t)) = fun r => dh m c (row t r) := by
  funext r k
  refine (dhB_apply (iblk m c 0 t) (iblk m c 1 t) r k).trans ?_
  rw [in0, in1]
  rfl

/-- What point `t` leaves in its block of the gradient. -/
theorem dx_at (r : Fin 512) (k : Fin 1024) :
    dxB (iblk m c 0 t) (iblk m c 1 t) (iblk m c 2 t) (iblk m c 3 t) (iblk m c 4 t) (ix2 r k) = nrmBwd (dh m c) (w2 m c) (w3 m c 0) (w4 m c) (row t r) k := by
  refine (dxB_apply (iblk m c 0 t) (iblk m c 1 t) (iblk m c 2 t) (iblk m c 3 t) (iblk m c 4 t) r k).trans ?_
  rw [in_dh, in2, in3, in4]
  rfl

/-- What point `t` adds to the accumulator. -/
theorem dg_at (acc : Vec Ideal S1x1024 .f32) (k : Fin 1024) :
    dgB (iblk m c 0 t) (iblk m c 1 t) (iblk m c 2 t) acc (ix2 (0 : Fin 1) k)
      = acc (ix2 (0 : Fin 1) k) + ∑ j : Fin 512, ext (fun r => gainTerm (dh m c) (w2 m c) r k) (512 * t.val + j.val) := by
  refine (dgB_apply (iblk m c 0 t) (iblk m c 1 t) (iblk m c 2 t) acc k).trans ?_
  rw [in_dh, in2]
  refine congrArg (acc (ix2 (0 : Fin 1) k) + ·) (Finset.sum_congr rfl fun j _ => ?_)
  exact (ext_val (fun r => gainTerm (dh m c) (w2 m c) r k) (row t j)).symm

/-- The three things a point leaves. -/
theorem first (h : t.val % 8 = 0) :
    outsAt0 m c t.val t.isLt = (dxB (iblk m c 0 t) (iblk m c 1 t) (iblk m c 2 t) (iblk m c 3 t) (iblk m c 4 t), dxB (iblk m c 0 t) (iblk m c 1 t) (iblk m c 2 t) (iblk m c 3 t) (iblk m c 4 t), dgB (iblk m c 0 t) (iblk m c 1 t) (iblk m c 2 t) (k0_pay4 (F := Ideal))) := by
  rw [outsAt0_A m c t h, out_A_5, out_A_6, out_A_7]

theorem later (h : ¬t.val % 8 = 0) :
    outsAt0 m c t.val t.isLt = (dxB (iblk m c 0 t) (iblk m c 1 t) (iblk m c 2 t) (iblk m c 3 t) (iblk m c 4 t), dxB (iblk m c 0 t) (iblk m c 1 t) (iblk m c 2 t) (iblk m c 3 t) (iblk m c 4 t),
      dgB (iblk m c 0 t) (iblk m c 1 t) (iblk m c 2 t) (outsAt0 m c (t.val - 1) (Nat.lt_of_le_of_lt (Nat.sub_le _ _) t.isLt)).2.2) := by
  rw [outsAt0_B m c t h, out_B_5, out_B_6, out_B_7]

theorem outs_dx : (outsAt0 m c t.val t.isLt).1 = dxB (iblk m c 0 t) (iblk m c 1 t) (iblk m c 2 t) (iblk m c 3 t) (iblk m c 4 t) := by
  by_cases h : t.val % 8 = 0
  · rw [first m c t h]
  · rw [later m c t h]

theorem outs_dxb : (outsAt0 m c t.val t.isLt).2.1 = dxB (iblk m c 0 t) (iblk m c 1 t) (iblk m c 2 t) (iblk m c 3 t) (iblk m c 4 t) := by
  by_cases h : t.val % 8 = 0
  · rw [first m c t h]
  · rw [later m c t h]

/-- After point `q` the accumulator holds the sum over the rows of points up to `q`. -/
theorem outs_dg : ∀ (q : Nat) (t : Fin cfg0.N), t.val = q → ∀ k : Fin 1024,
    (outsAt0 m c t.val t.isLt).2.2 (ix2 (0 : Fin 1) k) = upTo (fun r => gainTerm (dh m c) (w2 m c) r k) 512 (q + 1)
  | 0, t, h, k => by
    rw [first m c t (by omega)]
    refine (dg_at m c t _ k).trans ?_
    rw [zero_apply, h, upTo_succ, upTo_zero]
  | q + 1, t, h, k => by
    have ht : t.val < 8 := lt_of_lt_of_eq t.isLt N_0
    rw [later m c t (by omega)]
    refine (dg_at m c t _ k).trans ?_
    have hs : t.val - 1 < cfg0.N := Nat.lt_of_le_of_lt (Nat.sub_le _ _) t.isLt
    have e := outs_dg q ⟨t.val - 1, hs⟩ (by show t.val - 1 = q; omega) k
    dsimp only at e
    rw [e, h, upTo_succ _ _ (q + 1)]

theorem flushed5 : (dats m 0 c).flushed 5 t = (win0_5.blk t).view.read (Elt Ideal) (res5 m c) := by
  rw [Value.flushed5, outs_dx]
  funext (x : S512x1024.Idx)
  obtain ⟨a, b, rfl⟩ : ∃ (a : Fin 512) (b : Fin 1024), x = ix2 a b := ⟨x 0, x 1, eq_ix2 x⟩
  refine Eq.trans ?_ (read5 _ t a b).symm
  exact dx_at m c t a b

theorem flushed6 : (dats m 0 c).flushed 6 t = (win0_6.blk t).view.read (Elt Ideal) (res6 m c) := by
  rw [Value.flushed6, outs_dxb]
  funext (x : S512x1024.Idx)
  obtain ⟨a, b, rfl⟩ : ∃ (a : Fin 512) (b : Fin 1024), x = ix2 a b := ⟨x 0, x 1, eq_ix2 x⟩
  refine Eq.trans ?_ (read6 _ t a b).symm
  exact dx_at m c t a b

theorem start7 : ∀ t : Fin cfg0.N, win0_7.index t 0 = 0 ∧ win0_7.index t 1 = 0 := by
  decide +kernel

/-- The accumulator's window is its whole array. -/
theorem read7 (A : Vec Ideal S1x1024 .f32) (r : Fin 1) (k : Fin 1024) :
    ((win0_7.blk t).view.read (Elt Ideal) A : Vec Ideal S1x1024 .f32) (ix2 r k) = A (ix2 r k) := by
  show A ((win0_7.blk t).view.emb (ix2 r k)) = _
  refine congrArg A (funext fun a => Fin.ext ?_)
  match a with
  | ⟨0, _⟩ =>
    show win0_7.index t 0 * 1 + 1 * r.val = r.val
    rw [(start7 t).1]; omega
  | ⟨1, _⟩ =>
    show win0_7.index t 1 * 1024 + 1 * k.val = k.val
    rw [(start7 t).2]; omega

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  have hN : cfg0.N = 8 := N_0
  refine ⟨⟨7, by omega⟩, (flush0_7 _).mpr rfl, ?_⟩
  generalize (⟨7, by omega⟩ : Fin cfg0.N) = t
  show i ∈ ((View.whole main_v5_2).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    rw [(start7 t).1]; omega
  | ⟨1, _⟩ =>
    show win0_7.index t 1 * 1024 ≤ (i 1).val ∧ (i 1).val < win0_7.index t 1 * 1024 + 1024
    rw [(start7 t).2]; omega

/-- The last point writes out the sum over all rows. -/
theorem flushed7 (hf : (cfg0.win 7).flush t = true) :
    (dats m 0 c).flushed 7 t = (win0_7.blk t).view.read (Elt Ideal) (res7 m c) := by
  have h : t.val % 8 = 7 := (flush0_7 t).mp hf
  have ht : t.val < 8 := lt_of_lt_of_eq t.isLt N_0
  rw [Value.flushed7]
  funext (x : S1x1024.Idx)
  obtain ⟨a, b, rfl⟩ : ∃ (a : Fin 1) (b : Fin 1024), x = ix2 a b := ⟨x 0, x 1, eq_ix2 x⟩
  refine Eq.trans ?_ (read7 t _ a b).symm
  obtain rfl : a = 0 := Fin.ext (by have := a.isLt; show a.val = 0; omega)
  refine (outs_dg m c 7 t (by omega) b).trans ?_
  exact upTo_full _ 512 8 (by norm_num)

/-- The whole run: the result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5_0) = res5 m c
      ∧ r.2.mem ((c : Thread nD τ).loc main_v5_1) = res6 m c
      ∧ r.2.mem ((c : Thread nD τ).loc main_v5_2) = res7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Value.run_blocks m ρ)
  obtain ⟨h5, h6, h7, hk⟩ := h c
  refine ⟨h5.trans ?_, h6.trans ?_, h7.trans ?_, hk⟩
  · exact (dats m 0 c).arrAt_eq_of_cover 5 (res5 m c) (fun t _ => flushed5 m c t) cover5
  · exact (dats m 0 c).arrAt_eq_of_cover 6 (res6 m c) (fun t _ => flushed6 m c t) cover6
  · exact (dats m 0 c).arrAt_eq_of_cover 7 (res7 m c) (fun t hf => flushed7 m c t hf) cover7

/-- The arguments: the residual stream, the gain, the weight, the gradient at the hidden layer, the gradient beside the norm. -/
abbrev a0 : FVec Ideal S4096x1024 .f32 := m ((c : Thread nD τ).loc main_arg0)
abbrev a1 : FVec Ideal S1024 .f32 := m ((c : Thread nD τ).loc main_arg1)
abbrev a2 : FVec Ideal S1024x4096 .f32 := m ((c : Thread nD τ).loc main_arg2)
abbrev a3 : FVec Ideal S4096x4096 .f32 := m ((c : Thread nD τ).loc main_arg3)
abbrev a4 : FVec Ideal S4096x1024 .f32 := m ((c : Thread nD τ).loc main_arg4)

theorem w0_eq : w0 m c = at2 (a3 m c) := by
  funext r k
  have h : (V m c main_v3 : FVec Ideal S4096x4096 .bf16) = truncf .bf16 (a3 m c) bitsLt_bf16_f32 := by
    show StableHlo.after hostOps0 (fun b => m (c, b)) _ = _
    unfold hostOps0
    after_results_simp <;> rfl
  show (V m c main_v3 : FVec Ideal S4096x4096 .bf16) (ix2 r k) = _
  rw [h]
  pointwise []

theorem w1_eq : w1 m c = at2 (a2 m c) := by
  have h : (V m c main_v2 : FVec Ideal S8x1024x512 .bf16) = truncf .bf16 (transpose S8x1024x512 [1, 0, 2] (shapeCast S1024x8x512 (a2 m c) shapeCasts_S1024x4096_S1024x8x512) transposes_S1024x8x512_S8x1024x512_1_0_2) bitsLt_bf16_f32 := by
    show StableHlo.after hostOps0 (fun b => m (c, b)) _ = _
    unfold hostOps0
    after_results_simp <;> rfl
  refine stk_eq _ _ fun g j b => ?_
  show (V m c main_v2 : FVec Ideal S8x1024x512 .bf16) (ix3 g j b) = _
  rw [h]
  pointwise []

theorem w2_eq : w2 m c = at2 (a0 m c) := congrArg at2 (V_main_arg0 m c)

theorem w3_eq : w3 m c = fun _ k => a1 m c (ix1 k) := by
  funext r k
  have h : (V m c main_v4 : FVec Ideal S1x1024 .f32) = shapeCast _ (a1 m c) shapeCasts_S1024_S1x1024 := by
    show StableHlo.after hostOps0 (fun b => m (c, b)) _ = _
    unfold hostOps0
    after_results_simp <;> rfl
  show (V m c main_v4 : FVec Ideal S1x1024 .f32) (ix2 r k) = _
  rw [h]
  pointwise []

theorem w4_eq : w4 m c = at2 (a4 m c) := congrArg at2 (V_main_arg4 m c)

end Arrays

end Cert.Kernel13Ideal.MlpBwd

namespace Cert.Reference13Ideal.MlpBwd

open Cert.Reference13Ideal Cert.Reference13Ideal.Gen Cert.Coords Cert.Stack Cert.NormBwd Idealize.ShloMosaic Idealize.ShloMosaic.TcCoe Idealize.SL.Sem

/-- The row's mean square, the small constant added. -/
def msT (x0 : FVec Ideal S4096x1024 .f32) : FVec Ideal S4096x1 .f32 :=
  (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))
/-- Its reciprocal root. -/
def rT (x0 : FVec Ideal S4096x1024 .f32) : FVec Ideal S4096x1 .f32 := (Host.rsqrt (msT x0))
/-- The gradient that reaches the normalised rows. -/
def dhT (x2 : FVec Ideal S1024x4096 .f32) (x3 : FVec Ideal S4096x4096 .f32) : FVec Ideal S4096x1024 .f32 :=
  (Host.dotGeneral dot_S4096x4096_S1024x4096_S4096x1024_1_1_0_0_n_n none x3 x2)

section Norm

variable (x0 : FVec Ideal S4096x1024 .f32) (x1 : FVec Ideal S1024 .f32) (d x4 : FVec Ideal S4096x1024 .f32)

/-- The gradient of the stream, from the gradient `d` that reaches the normalised rows. -/
def dxT : FVec Ideal S4096x1024 .f32 :=
  addf x4 (addf (addf (mulf (mulf d (broadcastInDim S4096x1024 ![0, 1] bcast_S1x1024_S4096x1024_0_1 (broadcastInDim S1x1024 ![1] bcast_S1024_S1x1024_1 x1))) (broadcastInDim S4096x1024 ![0, 1] bcast_S4096x1_S4096x1024_0_1 (rT x0))) (mulf x0 (broadcastInDim S4096x1024 ![0] bcast_S4096_S4096x1024_0 (Host.reduceAdd (Host.divf (mulf (shapeCast _ (Host.reduceAdd (mulf x0 (mulf d (broadcastInDim S4096x1024 ![0, 1] bcast_S1x1024_S4096x1024_0_1 (broadcastInDim S1x1024 ![1] bcast_S1024_S1x1024_1 x1)))) (constant S_ .f32 0x00000000#32) reducesTo_S4096x1024_S4096_d1 h_S_) shapeCasts_S4096_S4096x1) (mulf (broadcastInDim S4096x1 ![] bcast_S_S4096x1 (constant S_ .f32 0xBF000000#32)) (Host.divf (rT x0) (msT x0)))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x0 (mulf d (broadcastInDim S4096x1024 ![0, 1] bcast_S1x1024_S4096x1024_0_1 (broadcastInDim S1x1024 ![1] bcast_S1024_S1x1024_1 x1)))) (constant S_ .f32 0x00000000#32) reducesTo_S4096x1024_S4096_d1 h_S_) shapeCasts_S4096_S4096x1) (mulf (broadcastInDim S4096x1 ![] bcast_S_S4096x1 (constant S_ .f32 0xBF000000#32)) (Host.divf (rT x0) (msT x0)))) (broadcastInDim S4096x1 ![] bcast_S_S4096x1 (constant S_ .f32 0x44800000#32))) (constant S_ .f32 0x00000000#32) reducesTo_S4096x1_S4096_d1 h_S_)) x0))
/-- The gain's gradient. -/
def dgT : FVec Ideal S1x1024 .f32 :=
  shapeCast _ (Host.reduceAdd (shapeCast _ (Host.reduceAdd (mulf (mulf x0 (broadcastInDim S4096x1024 ![0, 1] bcast_S4096x1_S4096x1024_0_1 (rT x0))) d) (constant S_ .f32 0x00000000#32) reducesTo_S4096x1024_S1024_d0 h_S_) shapeCasts_S1024_S1x1024) (constant S_ .f32 0x00000000#32) reducesTo_S1x1024_S1024_d0 h_S_) shapeCasts_S1024_S1x1024

theorem msT_apply (r : Fin 4096) : msT x0 (ix2 r (0 : Fin 1)) = msq (at2 x0) r := by
  pointwise [msT, msq]

theorem rT_apply (r : Fin 4096) : rT x0 (ix2 r (0 : Fin 1)) = Ideal.rsqrt (msq (at2 x0) r) := by
  have h : rT x0 (ix2 r (0 : Fin 1)) = Ideal.rsqrt (msT x0 (ix2 r (0 : Fin 1))) := by
    unfold rT
    generalize msT x0 = v
    pointwise []
  rw [h, msT_apply]

theorem dxT_apply (r : Fin 4096) (k : Fin 1024) :
    dxT x0 x1 d x4 (ix2 r k) = nrmBwd (at2 d) (at2 x0) (fun k => x1 (ix1 k)) (at2 x4) r k := by
  rw [← nrmBwd_eq, rms_eq, ← rT_apply, ← msT_apply]
  unfold dxT
  generalize rT x0 = v
  generalize msT x0 = u
  pointwise []
  simp only [Fin.sum_univ_one]

theorem dgT_apply (r : Fin 1) (k : Fin 1024) : dgT x0 d (ix2 r k) = ∑ r, gainTerm (at2 d) (at2 x0) r k := by
  have h : dgT x0 d (ix2 r k) = ∑ r : Fin 4096, x0 (ix2 r k) * rT x0 (ix2 r (0 : Fin 1)) * d (ix2 r k) := by
    unfold dgT
    generalize rT x0 = v
    pointwise []
    simp only [Fin.sum_univ_one]
  rw [h]
  refine Finset.sum_congr rfl fun r _ => ?_
  rw [rT_apply, mul_comm]
  rfl

theorem dhT_apply (x2 : FVec Ideal S1024x4096 .f32) (x3 : FVec Ideal S4096x4096 .f32) : at2 (dhT x2 x3) = mmt (at2 x3) (at2 x2) := by
  funext r k
  show dhT x2 x3 (ix2 r k) = _
  pointwise [dhT, mmt]

end Norm

variable (m : (ℓ : Loc Cert.Kernel13Ideal.nD Cert.Kernel13Ideal.τ Cert.Kernel13Ideal.sig) → Buf (Elt Ideal) ℓ) (c : Dev Cert.Kernel13Ideal.nD)

open Cert.Kernel13Ideal.MlpBwd

theorem dh_eq : at2 (dhT (a2 m c) (a3 m c)) = dh m c := by
  rw [dhT_apply, ← w0_eq, ← w1_eq]

theorem meet5 : dxT (a0 m c) (a1 m c) (dhT (a2 m c) (a3 m c)) (a4 m c) = res5 m c := by
  funext (i : S4096x1024.Idx)
  obtain ⟨r, k, rfl⟩ : ∃ (r : Fin 4096) (k : Fin 1024), i = ix2 r k := ⟨i 0, i 1, eq_ix2 i⟩
  refine (dxT_apply _ _ _ _ r k).trans ?_
  show _ = nrmBwd (dh m c) (w2 m c) (w3 m c 0) (w4 m c) r k
  rw [dh_eq, w2_eq, w3_eq, w4_eq]

theorem meet6 : truncf .bf16 (dxT (a0 m c) (a1 m c) (dhT (a2 m c) (a3 m c)) (a4 m c)) bitsLt_bf16_f32 = res6 m c :=
  meet5 m c

theorem meet7 : dgT (a0 m c) (dhT (a2 m c) (a3 m c)) = res7 m c := by
  funext (i : S1x1024.Idx)
  obtain ⟨r, k, rfl⟩ : ∃ (r : Fin 1) (k : Fin 1024), i = ix2 r k := ⟨i 0, i 1, eq_ix2 i⟩
  refine (dgT_apply _ _ r k).trans ?_
  show _ = ∑ r, gainTerm (dh m c) (w2 m c) r k
  rw [dh_eq, w2_eq]

end Cert.Reference13Ideal.MlpBwd

namespace Cert.Proof.MlpBwdClaims

open Idealize.ShloMosaic Idealize.ShloMosaic.TcCoe Idealize.SL.Sem
open Cert.Kernel13Ideal.MlpBwd Cert.Reference13Ideal.MlpBwd

/-- The kernel and the reference leave the same arrays. -/
theorem algebraic : Cert.algebraic_Kernel13Ideal_Reference13Ideal := by
  intro m ρ m' ρ' _ hag
  refine ⟨fun c => res5 m c, fun c => res6 m c, fun c => res7 m c, run m ρ, ?_⟩
  refine (θ_run Cert.Reference13Ideal.defs _ _).mono (fun r h c => ?_) (Cert.Reference13Ideal.Value.run (F := Ideal) m' ρ')
  obtain ⟨e0, e1, e2, e3, e4⟩ := hag c
  obtain ⟨h5, h6, h7, hk⟩ := h c
  refine ⟨h5.trans ?_, h6.trans ?_, h7.trans ?_, hk⟩
  · unfold Cert.Reference13Ideal.Value.res_main_v38
    rw [e0, e1, e2, e3, e4]; exact meet5 m c
  · unfold Cert.Reference13Ideal.Value.res_main_v40
    rw [e0, e1, e2, e3, e4]; exact meet6 m c
  · rw [e0, e2, e3]; exact meet7 m c

/-- The reference leaves its arguments as they were and no signal raised. -/
theorem frame_reference : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

end Cert.Proof.MlpBwdClaims

end
-- ==== Proof.InProjBwdBlocks.lean ====
/-
  The gradient through the input projection and its norm, read by blocks. The grid has eight points; point t works on
  rows 512 t to 512 t + 511 of the seven branch gradients, of the residual stream, of the gradient beside the norm and
  of the two results, and on the whole of the gain and of the weight.
-/
module

public import proofs.«01_k».proof.Proof.Gen.Kernel14Ideal.Value
public import proofs.«01_k».proof.Proof.Coords

@[expose] public section

set_option maxRecDepth 16384

noncomputable section

namespace Cert.Kernel14Ideal.InProjBwd

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem hz : (![0, 0] : Fin 2 → Nat) = fun _ => 0 := funext fun a => by fin_cases a <;> rfl

/-- Each block starts at its point's rows, in column zero; a whole array's block starts at zero. -/
theorem start : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0)
    ∧ (win0_8.index t 0 = t.val ∧ win0_8.index t 1 = 0)
    ∧ (win0_9.index t 0 = 0 ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0) := by
  decide +kernel

/-- Window 0, branch gradient 0: its block at an index. -/
theorem blk0 (c : Dev nD) (t : Fin cfg0.N) (r : Fin 512) (k : Fin 512) :
    iblk m c 0 t (ix2 r k) = V m c main_v0 (ix2 (row t r) k) := by
  show V m c main_v0 ((win0_0.blk t).view.emb (ix2 r k)) = _
  refine congrArg (V m c main_v0) (funext fun a => Fin.ext ?_)
  match a with
  | ⟨0, _⟩ =>
    show win0_0.index t 0 * 512 + 1 * r.val = 512 * t.val + r.val
    rw [(start t).1.1]; omega
  | ⟨1, _⟩ =>
    show win0_0.index t 1 * 512 + 1 * k.val = k.val
    rw [(start t).1.2]; omega

/-- Window 1, branch gradient 1: its block at an index. -/
theorem blk1 (c : Dev nD) (t : Fin cfg0.N) (r : Fin 512) (k : Fin 512) :
    iblk m c 1 t (ix2 r k) = V m c main_v1 (ix2 (row t r) k) := by
  show V m c main_v1 ((win0_1.blk t).view.emb (ix2 r k)) = _
  refine congrArg (V m c main_v1) (funext fun a => Fin.ext ?_)
  match a with
  | ⟨0, _⟩ =>
    show win0_1.index t 0 * 512 + 1 * r.val = 512 * t.val + r.val
    rw [(start t).2.1.1]; omega
  | ⟨1, _⟩ =>
    show win0_1.index t 1 * 512 + 1 * k.val = k.val
    rw [(start t).2.1.2]; omega

/-- Window 2, branch gradient 2: its block at an index. -/
theorem blk2 (c : Dev nD) (t : Fin cfg0.N) (r : Fin 512) (k : Fin 512) :
    iblk m c 2 t (ix2 r k) = V m c main_v2 (ix2 (row t r) k) := by
  show V m c main_v2 ((win0_2.blk t).view.emb (ix2 r k)) = _
  refine congrArg (V m c main_v2) (funext fun a => Fin.ext ?_)
  match a with
  | ⟨0, _⟩ =>
    show win0_2.index t 0 * 512 + 1 * r.val = 512 * t.val + r.val
    rw [(start t).2.2.1.1]; omega
  | ⟨1, _⟩ =>
    show win0_2.index t 1 * 512 + 1 * k.val = k.val
    rw [(start t).2.2.1.2]; omega

/-- Window 3, branch gradient 3: its block at an index. -/
theorem blk3 (c : Dev nD) (t : Fin cfg0.N) (r : Fin 512) (k : Fin 512) :
    iblk m c 3 t (ix2 r k) = V m c main_v3 (ix2 (row t r) k) := by
  show V m c main_v3 ((win0_3.blk t).view.emb (ix2 r k)) = _
  refine congrArg (V m c main_v3) (funext fun a => Fin.ext ?_)
  match a with
  | ⟨0, _⟩ =>
    show win0_3.index t 0 * 512 + 1 * r.val = 512 * t.val + r.val
    rw [(start t).2.2.2.1.1]; omega
  | ⟨1, _⟩ =>
    show win0_3.index t 1 * 512 + 1 * k.val = k.val
    rw [(start t).2.2.2.1.2]; omega

/-- Window 4, branch gradient 4: its block at an index. -/
theorem blk4 (c : Dev nD) (t : Fin cfg0.N) (r : Fin 512) (k : Fin 128) :
    iblk m c 4 t (ix2 r k) = V m c main_v4 (ix2 (row t r) k) := by
  show V m c main_v4 ((win0_4.blk t).view.emb (ix2 r k)) = _
  refine congrArg (V m c main_v4) (funext fun a => Fin.ext ?_)
  match a with
  | ⟨0, _⟩ =>
    show win0_4.index t 0 * 512 + 1 * r.val = 512 * t.val + r.val
    rw [(start t).2.2.2.2.1.1]; omega
  | ⟨1, _⟩ =>
    show win0_4.index t 1 * 128 + 1 * k.val = k.val
    rw [(start t).2.2.2.2.1.2]; omega

/-- Window 5, branch gradient 5: its block at an index. -/
theorem blk5 (c : Dev nD) (t : Fin cfg0.N) (r : Fin 512) (k : Fin 128) :
    iblk m c 5 t (ix2 r k) = V m c main_v5 (ix2 (row t r) k) := by
  show V m c main_v5 ((win0_5.blk t).view.emb (ix2 r k)) = _
  refine congrArg (V m c main_v5) (funext fun a => Fin.ext ?_)
  match a with
  | ⟨0, _⟩ =>
    show win0_5.index t 0 * 512 + 1 * r.val = 512 * t.val + r.val
    rw [(start t).2.2.2.2.2.1.1]; omega
  | ⟨1, _⟩ =>
    show win0_5.index t 1 * 128 + 1 * k.val = k.val
    rw [(start t).2.2.2.2.2.1.2]; omega

/-- Window 6, branch gradient 6: its block at an index. -/
theorem blk6 (c : Dev nD) (t : Fin cfg0.N) (r : Fin 512) (k : Fin 2048) :
    iblk m c 6 t (ix2 r k) = V m c main_v6 (ix2 (row t r) k) := by
  show V m c main_v6 ((win0_6.blk t).view.emb (ix2 r k)) = _
  refine congrArg (V m c main_v6) (funext fun a => Fin.ext ?_)
  match a with
  | ⟨0, _⟩ =>
    show win0_6.index t 0 * 512 + 1 * r.val = 512 * t.val + r.val
    rw [(start t).2.2.2.2.2.2.1.1]; omega
  | ⟨1, _⟩ =>
    show win0_6.index t 1 * 2048 + 1 * k.val = k.val
    rw [(start t).2.2.2.2.2.2.1.2]; omega

/-- Window 7, the input projection's weight, transposed: its block at an index. -/
theorem blk7 (c : Dev nD) (t : Fin cfg0.N) (r : Fin 4352) (k : Fin 1024) :
    iblk m c 7 t (ix2 r k) = V m c main_v8 (ix2 r k) := by
  show V m c main_v8 ((win0_7.blk t).view.emb (ix2 r k)) = _
  refine congrArg (V m c main_v8) (funext fun a => Fin.ext ?_)
  match a with
  | ⟨0, _⟩ =>
    show win0_7.index t 0 * 4352 + 1 * r.val = r.val
    rw [(start t).2.2.2.2.2.2.2.1.1]; omega
  | ⟨1, _⟩ =>
    show win0_7.index t 1 * 1024 + 1 * k.val = k.val
    rw [(start t).2.2.2.2.2.2.2.1.2]; omega

/-- Window 8, the residual stream: its block at an index. -/
theorem blk8 (c : Dev nD) (t : Fin cfg0.N) (r : Fin 512) (k : Fin 1024) :
    iblk m c 8 t (ix2 r k) = V m c main_arg0 (ix2 (row t r) k) := by
  show V m c main_arg0 ((win0_8.blk t).view.emb (ix2 r k)) = _
  refine congrArg (V m c main_arg0) (funext fun a => Fin.ext ?_)
  match a with
  | ⟨0, _⟩ =>
    show win0_8.index t 0 * 512 + 1 * r.val = 512 * t.val + r.val
    rw [(start t).2.2.2.2.2.2.2.2.1.1]; omega
  | ⟨1, _⟩ =>
    show win0_8.index t 1 * 1024 + 1 * k.val = k.val
    rw [(start t).2.2.2.2.2.2.2.2.1.2]; omega

/-- Window 9, the norm's gain: its block at an index. -/
theorem blk9 (c : Dev nD) (t : Fin cfg0.N) (r : Fin 1) (k : Fin 1024) :
    iblk m c 9 t (ix2 r k) = V m c main_v9 (ix2 r k) := by
  show V m c main_v9 ((win0_9.blk t).view.emb (ix2 r k)) = _
  refine congrArg (V m c main_v9) (funext fun a => Fin.ext ?_)
  match a with
  | ⟨0, _⟩ =>
    show win0_9.index t 0 * 1 + 1 * r.val = r.val
    rw [(start t).2.2.2.2.2.2.2.2.2.1.1]; omega
  | ⟨1, _⟩ =>
    show win0_9.index t 1 * 1024 + 1 * k.val = k.val
    rw [(start t).2.2.2.2.2.2.2.2.2.1.2]; omega

/-- Window 10, the gradient that passes beside the norm: its block at an index. -/
theorem blk10 (c : Dev nD) (t : Fin cfg0.N) (r : Fin 512) (k : Fin 1024) :
    iblk m c 10 t (ix2 r k) = V m c main_arg3 (ix2 (row t r) k) := by
  show V m c main_arg3 ((win0_10.blk t).view.emb (ix2 r k)) = _
  refine congrArg (V m c main_arg3) (funext fun a => Fin.ext ?_)
  match a with
  | ⟨0, _⟩ =>
    show win0_10.index t 0 * 512 + 1 * r.val = 512 * t.val + r.val
    rw [(start t).2.2.2.2.2.2.2.2.2.2.1.1]; omega
  | ⟨1, _⟩ =>
    show win0_10.index t 1 * 1024 + 1 * k.val = k.val
    rw [(start t).2.2.2.2.2.2.2.2.2.2.1.2]; omega

/-- Window 11, the gradient of the stream: an array read through its block at point `t`. -/
theorem read11 (A : Vec Ideal S4096x1024 .f32) (t : Fin cfg0.N) (r : Fin 512) (k : Fin 1024) :
    ((win0_11.blk t).view.read (Elt Ideal) A : Vec Ideal S512x1024 .f32) (ix2 r k) = A (ix2 (row t r) k) := by
  show A ((win0_11.blk t).view.emb (ix2 r k)) = _
  refine congrArg A (funext fun a => Fin.ext ?_)
  match a with
  | ⟨0, _⟩ =>
    show win0_11.index t 0 * 512 + 1 * r.val = 512 * t.val + r.val
    rw [(start t).2.2.2.2.2.2.2.2.2.2.2.1.1]; omega
  | ⟨1, _⟩ =>
    show win0_11.index t 1 * 1024 + 1 * k.val = k.val
    rw [(start t).2.2.2.2.2.2.2.2.2.2.2.1.2]; omega

/-- Window 11's eight blocks fill its array. -/
theorem cover11 (i : S4096x1024.Idx) : ∃ t : Fin cfg0.N, (cfg0.win 11).flush t = true ∧ i ∈ ((cfg0.win 11).blk t).view.set := by
  have h0 : (i 0).val < 4096 := (i 0).isLt
  have h1 : (i 1).val < 1024 := (i 1).isLt
  have hN : cfg0.N = 8 := N_0
  refine ⟨⟨(i 0).val / 512, by omega⟩, flush0_11 _, ?_⟩
  generalize ht : (⟨(i 0).val / 512, by omega⟩ : Fin cfg0.N) = t
  have hv : t.val = (i 0).val / 512 := by rw [← ht]
  show i ∈ ((View.whole main_v10_0).slice (win0_11.rect t)).set
  rw [View.set_slice_whole, Rect.mem_set_unit]
  intro a
  match a with
  | ⟨0, _⟩ =>
    show win0_11.index t 0 * 512 ≤ (i 0).val ∧ (i 0).val < win0_11.index t 0 * 512 + 512
    rw [(start t).2.2.2.2.2.2.2.2.2.2.2.1.1]; omega
  | ⟨1, _⟩ =>
    show win0_11.index t 1 * 1024 ≤ (i 1).val ∧ (i 1).val < win0_11.index t 1 * 1024 + 1024
    rw [(start t).2.2.2.2.2.2.2.2.2.2.2.1.2]; omega

/-- Window 12, the same, rounded: an array read through its block at point `t`. -/
theorem read12 (A : Vec Ideal S4096x1024 .bf16) (t : Fin cfg0.N) (r : Fin 512) (k : Fin 1024) :
    ((win0_12.blk t).view.read (Elt Ideal) A : Vec Ideal S512x1024 .bf16) (ix2 r k) = A (ix2 (row t r) k) := by
  show A ((win0_12.blk t).view.emb (ix2 r k)) = _
  refine congrArg A (funext fun a => Fin.ext ?_)
  match a with
  | ⟨0, _⟩ =>
    show win0_12.index t 0 * 512 + 1 * r.val = 512 * t.val + r.val
    rw [(start t).2.2.2.2.2.2.2.2.2.2.2.2.1]; omega
  | ⟨1, _⟩ =>
    show win0_12.index t 1 * 1024 + 1 * k.val = k.val
    rw [(start t).2.2.2.2.2.2.2.2.2.2.2.2.2]; omega

/-- Window 12's eight blocks fill its array. -/
theorem cover12 (i : S4096x1024.Idx) : ∃ t : Fin cfg0.N, (cfg0.win 12).flush t = true ∧ i ∈ ((cfg0.win 12).blk t).view.set := by
  have h0 : (i 0).val < 4096 := (i 0).isLt
  have h1 : (i 1).val < 1024 := (i 1).isLt
  have hN : cfg0.N = 8 := N_0
  refine ⟨⟨(i 0).val / 512, by omega⟩, flush0_12 _, ?_⟩
  generalize ht : (⟨(i 0).val / 512, by omega⟩ : Fin cfg0.N) = t
  have hv : t.val = (i 0).val / 512 := by rw [← ht]
  show i ∈ ((View.whole main_v10_1).slice (win0_12.rect t)).set
  rw [View.set_slice_whole, Rect.mem_set_unit]
  intro a
  match a with
  | ⟨0, _⟩ =>
    show win0_12.index t 0 * 512 ≤ (i 0).val ∧ (i 0).val < win0_12.index t 0 * 512 + 512
    rw [(start t).2.2.2.2.2.2.2.2.2.2.2.2.1]; omega
  | ⟨1, _⟩ =>
    show win0_12.index t 1 * 1024 ≤ (i 1).val ∧ (i 1).val < win0_12.index t 1 * 1024 + 1024
    rw [(start t).2.2.2.2.2.2.2.2.2.2.2.2.2]; omega

end Cert.Kernel14Ideal.InProjBwd

end
-- ==== Proof.Lay.lean ====
/-
  Seven arrays' columns side by side, 4352 in all, and a product with them as the sum of seven products.
-/
module

public import proofs.«01_k».proof.Proof.Coords

@[expose] public section

noncomputable section

namespace Cert.Lay

/-- Seven arrays' columns, side by side. -/
def lay {n : Nat} (p0 p1 p2 p3 : Fin n → Fin 512 → EReal) (p4 p5 : Fin n → Fin 128 → EReal) (p6 : Fin n → Fin 2048 → EReal)
    (r : Fin n) (k : Fin 4352) : EReal :=
  if h0 : k.val < 512 then p0 r ⟨k.val, h0⟩
  else if h1 : k.val < 1024 then p1 r ⟨k.val - 512, by omega⟩
  else if h2 : k.val < 1536 then p2 r ⟨k.val - 1024, by omega⟩
  else if h3 : k.val < 2048 then p3 r ⟨k.val - 1536, by omega⟩
  else if h4 : k.val < 2176 then p4 r ⟨k.val - 2048, by omega⟩
  else if h5 : k.val < 2304 then p5 r ⟨k.val - 2176, by omega⟩
  else p6 r ⟨k.val - 2304, by omega⟩

section Sum

variable {n : Nat} (p0 p1 p2 p3 : Fin n → Fin 512 → EReal) (p4 p5 : Fin n → Fin 128 → EReal) (p6 : Fin n → Fin 2048 → EReal)
  (r : Fin n)

theorem lay0 (j : Fin 512) (k : Fin 4352) (h : k.val = 0 + j.val) : lay p0 p1 p2 p3 p4 p5 p6 r k = p0 r j := by
  have hj := j.isLt
  unfold lay
  rw [dif_pos (by omega)]
  exact congrArg (p0 r) (Fin.ext (by show k.val = j.val; omega))

theorem lay1 (j : Fin 512) (k : Fin 4352) (h : k.val = 512 + j.val) : lay p0 p1 p2 p3 p4 p5 p6 r k = p1 r j := by
  have hj := j.isLt
  unfold lay
  rw [dif_neg (by omega), dif_pos (by omega)]
  exact congrArg (p1 r) (Fin.ext (by show k.val - 512 = j.val; omega))

theorem lay2 (j : Fin 512) (k : Fin 4352) (h : k.val = 1024 + j.val) : lay p0 p1 p2 p3 p4 p5 p6 r k = p2 r j := by
  have hj := j.isLt
  unfold lay
  rw [dif_neg (by omega), dif_neg (by omega), dif_pos (by omega)]
  exact congrArg (p2 r) (Fin.ext (by show k.val - 1024 = j.val; omega))

theorem lay3 (j : Fin 512) (k : Fin 4352) (h : k.val = 1536 + j.val) : lay p0 p1 p2 p3 p4 p5 p6 r k = p3 r j := by
  have hj := j.isLt
  unfold lay
  rw [dif_neg (by omega), dif_neg (by omega), dif_neg (by omega), dif_pos (by omega)]
  exact congrArg (p3 r) (Fin.ext (by show k.val - 1536 = j.val; omega))

theorem lay4 (j : Fin 128) (k : Fin 4352) (h : k.val = 2048 + j.val) : lay p0 p1 p2 p3 p4 p5 p6 r k = p4 r j := by
  have hj := j.isLt
  unfold lay
  rw [dif_neg (by omega), dif_neg (by omega), dif_neg (by omega), dif_neg (by omega), dif_pos (by omega)]
  exact congrArg (p4 r) (Fin.ext (by show k.val - 2048 = j.val; omega))

theorem lay5 (j : Fin 128) (k : Fin 4352) (h : k.val = 2176 + j.val) : lay p0 p1 p2 p3 p4 p5 p6 r k = p5 r j := by
  have hj := j.isLt
  unfold lay
  rw [dif_neg (by omega), dif_neg (by omega), dif_neg (by omega), dif_neg (by omega), dif_neg (by omega), dif_pos (by omega)]
  exact congrArg (p5 r) (Fin.ext (by show k.val - 2176 = j.val; omega))

theorem lay6 (j : Fin 2048) (k : Fin 4352) (h : k.val = 2304 + j.val) : lay p0 p1 p2 p3 p4 p5 p6 r k = p6 r j := by
  have hj := j.isLt
  unfold lay
  rw [dif_neg (by omega), dif_neg (by omega), dif_neg (by omega), dif_neg (by omega), dif_neg (by omega), dif_neg (by omega)]
  exact congrArg (p6 r) (Fin.ext (by show k.val - 2304 = j.val; omega))

/-- The value at a column number, zero beyond the last. -/
def upto (f : Fin 4352 → EReal) (j : Nat) : EReal := if h : j < 4352 then f ⟨j, h⟩ else 0

theorem upto_val (f : Fin 4352 → EReal) (k : Fin 4352) : upto f k.val = f k := dif_pos k.isLt

theorem cut (F : Nat → EReal) : ∑ j ∈ Finset.range 4352, F j
    = ∑ j : Fin 512, F (0 + j.val) + ∑ j : Fin 512, F (512 + j.val) + ∑ j : Fin 512, F (1024 + j.val) + ∑ j : Fin 512, F (1536 + j.val) + ∑ j : Fin 128, F (2048 + j.val) + ∑ j : Fin 128, F (2176 + j.val) + ∑ j : Fin 2048, F (2304 + j.val) := by
  rw [show (4352 : Nat) = 512 + 512 + 512 + 512 + 128 + 128 + 2048 from rfl]
  simp only [Finset.sum_range_add]
  simp only [Finset.sum_range, Nat.zero_add]

/-- A sum over the columns side by side, an array at a time. -/
theorem lay_sum (f : Fin 4352 → EReal) : ∑ k, lay p0 p1 p2 p3 p4 p5 p6 r k * f k
    = ∑ j : Fin 512, p0 r j * f ⟨0 + j.val, by have := j.isLt; omega⟩
      + ∑ j : Fin 512, p1 r j * f ⟨512 + j.val, by have := j.isLt; omega⟩
      + ∑ j : Fin 512, p2 r j * f ⟨1024 + j.val, by have := j.isLt; omega⟩
      + ∑ j : Fin 512, p3 r j * f ⟨1536 + j.val, by have := j.isLt; omega⟩
      + ∑ j : Fin 128, p4 r j * f ⟨2048 + j.val, by have := j.isLt; omega⟩
      + ∑ j : Fin 128, p5 r j * f ⟨2176 + j.val, by have := j.isLt; omega⟩
      + ∑ j : Fin 2048, p6 r j * f ⟨2304 + j.val, by have := j.isLt; omega⟩ := by
  have e : ∑ k, lay p0 p1 p2 p3 p4 p5 p6 r k * f k
      = ∑ j ∈ Finset.range 4352, upto (fun k => lay p0 p1 p2 p3 p4 p5 p6 r k * f k) j := by
    rw [Finset.sum_range]
    exact Finset.sum_congr rfl fun k _ => (upto_val (fun k => lay p0 p1 p2 p3 p4 p5 p6 r k * f k) k).symm
  rw [e, cut]
  have s0 : ∑ j : Fin 512, upto (fun k => lay p0 p1 p2 p3 p4 p5 p6 r k * f k) (0 + j.val)
      = ∑ j : Fin 512, p0 r j * f ⟨0 + j.val, by have := j.isLt; omega⟩ :=
    Finset.sum_congr rfl fun j _ => (upto_val (fun k => lay p0 p1 p2 p3 p4 p5 p6 r k * f k) (⟨0 + j.val, by have := j.isLt; omega⟩ : Fin 4352)).trans
      (congrArg (· * _) (lay0 p0 p1 p2 p3 p4 p5 p6 r j _ rfl))
  have s1 : ∑ j : Fin 512, upto (fun k => lay p0 p1 p2 p3 p4 p5 p6 r k * f k) (512 + j.val)
      = ∑ j : Fin 512, p1 r j * f ⟨512 + j.val, by have := j.isLt; omega⟩ :=
    Finset.sum_congr rfl fun j _ => (upto_val (fun k => lay p0 p1 p2 p3 p4 p5 p6 r k * f k) (⟨512 + j.val, by have := j.isLt; omega⟩ : Fin 4352)).trans
      (congrArg (· * _) (lay1 p0 p1 p2 p3 p4 p5 p6 r j _ rfl))
  have s2 : ∑ j : Fin 512, upto (fun k => lay p0 p1 p2 p3 p4 p5 p6 r k * f k) (1024 + j.val)
      = ∑ j : Fin 512, p2 r j * f ⟨1024 + j.val, by have := j.isLt; omega⟩ :=
    Finset.sum_congr rfl fun j _ => (upto_val (fun k => lay p0 p1 p2 p3 p4 p5 p6 r k * f k) (⟨1024 + j.val, by have := j.isLt; omega⟩ : Fin 4352)).trans
      (congrArg (· * _) (lay2 p0 p1 p2 p3 p4 p5 p6 r j _ rfl))
  have s3 : ∑ j : Fin 512, upto (fun k => lay p0 p1 p2 p3 p4 p5 p6 r k * f k) (1536 + j.val)
      = ∑ j : Fin 512, p3 r j * f ⟨1536 + j.val, by have := j.isLt; omega⟩ :=
    Finset.sum_congr rfl fun j _ => (upto_val (fun k => lay p0 p1 p2 p3 p4 p5 p6 r k * f k) (⟨1536 + j.val, by have := j.isLt; omega⟩ : Fin 4352)).trans
      (congrArg (· * _) (lay3 p0 p1 p2 p3 p4 p5 p6 r j _ rfl))
  have s4 : ∑ j : Fin 128, upto (fun k => lay p0 p1 p2 p3 p4 p5 p6 r k * f k) (2048 + j.val)
      = ∑ j : Fin 128, p4 r j * f ⟨2048 + j.val, by have := j.isLt; omega⟩ :=
    Finset.sum_congr rfl fun j _ => (upto_val (fun k => lay p0 p1 p2 p3 p4 p5 p6 r k * f k) (⟨2048 + j.val, by have := j.isLt; omega⟩ : Fin 4352)).trans
      (congrArg (· * _) (lay4 p0 p1 p2 p3 p4 p5 p6 r j _ rfl))
  have s5 : ∑ j : Fin 128, upto (fun k => lay p0 p1 p2 p3 p4 p5 p6 r k * f k) (2176 + j.val)
      = ∑ j : Fin 128, p5 r j * f ⟨2176 + j.val, by have := j.isLt; omega⟩ :=
    Finset.sum_congr rfl fun j _ => (upto_val (fun k => lay p0 p1 p2 p3 p4 p5 p6 r k * f k) (⟨2176 + j.val, by have := j.isLt; omega⟩ : Fin 4352)).trans
      (congrArg (· * _) (lay5 p0 p1 p2 p3 p4 p5 p6 r j _ rfl))
  have s6 : ∑ j : Fin 2048, upto (fun k => lay p0 p1 p2 p3 p4 p5 p6 r k * f k) (2304 + j.val)
      = ∑ j : Fin 2048, p6 r j * f ⟨2304 + j.val, by have := j.isLt; omega⟩ :=
    Finset.sum_congr rfl fun j _ => (upto_val (fun k => lay p0 p1 p2 p3 p4 p5 p6 r k * f k) (⟨2304 + j.val, by have := j.isLt; omega⟩ : Fin 4352)).trans
      (congrArg (· * _) (lay6 p0 p1 p2 p3 p4 p5 p6 r j _ rfl))
  rw [s0, s1, s2, s3, s4, s5, s6]

end Sum

end Cert.Lay

end
-- ==== Proof.InProjBwd.lean ====
/-
  The gradient through the input projection and its norm after the run, as a function of the eleven arrays the
  pipeline reads, and the reference's terms met with it. The product with the transposed weight is the sum of seven
  products, one for each branch gradient; the gain's gradient is summed over the points, which are blocks of rows.
-/
module

public import proofs.«01_k».proof.Defs
public import proofs.«01_k».proof.Proof.InProjBwdBlocks
public import proofs.«01_k».proof.Proof.Gen.Reference14Ideal.Run
public import Idealize.ShloMosaic.Lib.Quiescent
public import proofs.«01_k».proof.Proof.NormBwd
public import proofs.«01_k».proof.Proof.Chunks
public import proofs.«01_k».proof.Proof.Stack
public import proofs.«01_k».proof.Proof.Lay

@[expose] public section

set_option maxRecDepth 16384

noncomputable section

namespace Cert.Kernel14Ideal.InProjBwd

open Cert.Kernel14Ideal Cert.Kernel14Ideal.Gen Cert.Coords Cert.Stack Cert.NormBwd Cert.Chunks Cert.Lay Idealize.ShloMosaic Idealize.ShloMosaic.TcCoe Idealize.SL.Sem
open Idealize.ShloMosaic.Pipeline (Dat)

section Product

variable (x0 : Vec Ideal S512x512 .bf16) (x1 : Vec Ideal S512x512 .bf16) (x2 : Vec Ideal S512x512 .bf16) (x3 : Vec Ideal S512x512 .bf16) (x4 : Vec Ideal S512x128 .bf16) (x5 : Vec Ideal S512x128 .bf16) (x6 : Vec Ideal S512x2048 .bf16) (x7 : Vec Ideal S4352x1024 .bf16)

/-- A point's gradient at the normalised rows: seven products, one for each branch gradient. -/
def dhB : FVec Ideal S512x1024 .f32 :=
  k0_pay7 (k0_pay5 x0 (View.ld x7 (Rect.unit (s := S4352x1024) ![0, 0] S512x1024.size inb_S4352x1024_S512x1024_0_0)) x1 (View.ld x7 (Rect.unit (s := S4352x1024) ![512, 0] S512x1024.size inb_S4352x1024_S512x1024_512_0)) x2 (View.ld x7 (Rect.unit (s := S4352x1024) ![1024, 0] S512x1024.size inb_S4352x1024_S512x1024_1024_0)) x3 (View.ld x7 (Rect.unit (s := S4352x1024) ![1536, 0] S512x1024.size inb_S4352x1024_S512x1024_1536_0))) (k0_pay6 x4 (View.ld x7 (Rect.unit (s := S4352x1024) ![2048, 0] S128x1024.size inb_S4352x1024_S128x1024_2048_0))) x5 (View.ld x7 (Rect.unit (s := S4352x1024) ![2176, 0] S128x1024.size inb_S4352x1024_S128x1024_2176_0)) x6 (View.ld x7 (Rect.unit (s := S4352x1024) ![2304, 0] S2048x1024.size inb_S4352x1024_S2048x1024_2304_0))

/-- The seven products, over any pieces of the weight. -/
theorem dh_pieces (q0 : Vec Ideal S512x1024 .bf16) (q1 : Vec Ideal S512x1024 .bf16) (q2 : Vec Ideal S512x1024 .bf16) (q3 : Vec Ideal S512x1024 .bf16) (q4 : Vec Ideal S128x1024 .bf16) (q5 : Vec Ideal S128x1024 .bf16) (q6 : Vec Ideal S2048x1024 .bf16) (a : Fin 512) (k : Fin 1024) :
    k0_pay7 (F := Ideal) (k0_pay5 x0 q0 x1 q1 x2 q2 x3 q3) (k0_pay6 x4 q4) x5 q5 x6 q6 (ix2 a k)
      = ∑ j : Fin 512, x0 (ix2 a j) * q0 (ix2 j k)
        + ∑ j : Fin 512, x1 (ix2 a j) * q1 (ix2 j k)
        + ∑ j : Fin 512, x2 (ix2 a j) * q2 (ix2 j k)
        + ∑ j : Fin 512, x3 (ix2 a j) * q3 (ix2 j k)
        + ∑ j : Fin 128, x4 (ix2 a j) * q4 (ix2 j k)
        + ∑ j : Fin 128, x5 (ix2 a j) * q5 (ix2 j k)
        + ∑ j : Fin 2048, x6 (ix2 a j) * q6 (ix2 j k) := by
  pointwise [k0_pay7, k0_pay6, k0_pay5]

/-- One product, with its piece of the weight read as rows of the whole. -/
theorem part {J : Nat} (x : Vec Ideal (⟨2, ![512, J]⟩ : Shape) .bf16) (x7 : Vec Ideal S4352x1024 .bf16) (o : Nat) (ho : o + J ≤ 4352) (w : ∀ a, (![o, 0] : Fin 2 → Nat) a + (![J, 1024] : Fin 2 → Nat) a ≤ S4352x1024.size a) (a : Fin 512) (k : Fin 1024) :
    ∑ j : Fin J, x (ix2 a j) * (View.ld x7 (Rect.unit (s := S4352x1024) ![o, 0] ![J, 1024] w)) (ix2 j k)
      = ∑ j : Fin J, at2 x a j * at2 x7 ⟨o + j.val, by have := j.isLt; omega⟩ k := by
  refine Finset.sum_congr rfl fun j _ => congrArg (x (ix2 a j) * ·) (congrArg x7 (funext fun d => Fin.ext ?_))
  match d with
  | ⟨0, _⟩ => show o + 1 * j.val = o + j.val; omega
  | ⟨1, _⟩ => show 0 + 1 * k.val = k.val; omega

theorem dhB_apply (a : Fin 512) (k : Fin 1024) : dhB x0 x1 x2 x3 x4 x5 x6 x7 (ix2 a k) = mm (lay (at2 x0) (at2 x1) (at2 x2) (at2 x3) (at2 x4) (at2 x5) (at2 x6)) (at2 x7) a k := by
  refine (dh_pieces x0 x1 x2 x3 x4 x5 x6 _ _ _ _ _ _ _ a k).trans (Eq.trans ?_ (lay_sum (at2 x0) (at2 x1) (at2 x2) (at2 x3) (at2 x4) (at2 x5) (at2 x6) a (fun j => at2 x7 j k)).symm)
  exact (congrArg₂ (· + ·) (congrArg₂ (· + ·) (congrArg₂ (· + ·) (congrArg₂ (· + ·) (congrArg₂ (· + ·) (congrArg₂ (· + ·) (part x0 x7 0 (by decide) _ a k) (part x1 x7 512 (by decide) _ a k)) (part x2 x7 1024 (by decide) _ a k)) (part x3 x7 1536 (by decide) _ a k)) (part x4 x7 2048 (by decide) _ a k)) (part x5 x7 2176 (by decide) _ a k)) (part x6 x7 2304 (by decide) _ a k))

end Product

/-- The gradient's last steps, over any gradient that reaches the normalised rows. -/
theorem pay_dx (A B : FVec Ideal S512x1024 .f32) (C : Vec Ideal S512x128 .bf16) (D : Vec Ideal S128x1024 .bf16) (E : Vec Ideal S512x2048 .bf16)
    (G : Vec Ideal S2048x1024 .bf16) (x8 : Vec Ideal S512x1024 .f32) (x9 : Vec Ideal S1x1024 .f32) (x10 : Vec Ideal S512x1024 .f32) (r : Fin 512) (k : Fin 1024) :
    k0_pay1 x8 (k0_pay10 A B C D E G x8 x9 x10) (k0_pay11 A B C D E G x8 x9) (ix2 r k)
      = nrmBwd (at2 (k0_pay7 A B C D E G)) (at2 x8) (at2 x9 0) (at2 x10) r k := by
  unfold k0_pay1 k0_pay10 k0_pay11 k0_pay9
  generalize k0_pay7 A B C D E G = dh
  pointwise [k0_pay8, nrmBwd, rms, dotG]

section Cases

variable (c : Dev nD) (i : grid0.Coords) (g0 : Memref sig .tc .vmem S512x512 .bf16) (h0 : g0.IsWhole) (g1 : Memref sig .tc .vmem S512x512 .bf16) (h1 : g1.IsWhole) (g2 : Memref sig .tc .vmem S512x512 .bf16) (h2 : g2.IsWhole) (g3 : Memref sig .tc .vmem S512x512 .bf16) (h3 : g3.IsWhole) (g4 : Memref sig .tc .vmem S512x128 .bf16) (h4 : g4.IsWhole) (g5 : Memref sig .tc .vmem S512x128 .bf16) (h5 : g5.IsWhole) (g6 : Memref sig .tc .vmem S512x2048 .bf16) (h6 : g6.IsWhole) (g7 : Memref sig .tc .vmem S4352x1024 .bf16) (h7 : g7.IsWhole) (g8 : Memref sig .tc .vmem S512x1024 .f32) (h8 : g8.IsWhole) (g9 : Memref sig .tc .vmem S1x1024 .f32) (h9 : g9.IsWhole) (g10 : Memref sig .tc .vmem S512x1024 .f32) (h10 : g10.IsWhole) (g11 : Memref sig .tc .vmem S512x1024 .f32) (h11 : g11.IsWhole) (g12 : Memref sig .tc .vmem S512x1024 .bf16) (h12 : g12.IsWhole) (g13 : Memref sig .tc .vmem S1x1024 .f32) (h13 : g13.IsWhole)
  (x0 : Vec Ideal S512x512 .bf16) (x1 : Vec Ideal S512x512 .bf16) (x2 : Vec Ideal S512x512 .bf16) (x3 : Vec Ideal S512x512 .bf16) (x4 : Vec Ideal S512x128 .bf16) (x5 : Vec Ideal S512x128 .bf16) (x6 : Vec Ideal S512x2048 .bf16) (x7 : Vec Ideal S4352x1024 .bf16) (x8 : Vec Ideal S512x1024 .f32) (x9 : Vec Ideal S1x1024 .f32) (x10 : Vec Ideal S512x1024 .f32) (acc : Vec Ideal S1x1024 .f32)

/-- What a point leaves in its block of the gradient, from the block's arrays. -/
def dxB : Vec Ideal S512x1024 .f32 := k0_pay1 x8 (k0_pay10 (k0_pay5 x0 (View.ld x7 (Rect.unit (s := S4352x1024) ![0, 0] S512x1024.size inb_S4352x1024_S512x1024_0_0)) x1 (View.ld x7 (Rect.unit (s := S4352x1024) ![512, 0] S512x1024.size inb_S4352x1024_S512x1024_512_0)) x2 (View.ld x7 (Rect.unit (s := S4352x1024) ![1024, 0] S512x1024.size inb_S4352x1024_S512x1024_1024_0)) x3 (View.ld x7 (Rect.unit (s := S4352x1024) ![1536, 0] S512x1024.size inb_S4352x1024_S512x1024_1536_0))) (k0_pay6 x4 (View.ld x7 (Rect.unit (s := S4352x1024) ![2048, 0] S128x1024.size inb_S4352x1024_S128x1024_2048_0))) x5 (View.ld x7 (Rect.unit (s := S4352x1024) ![2176, 0] S128x1024.size inb_S4352x1024_S128x1024_2176_0)) x6 (View.ld x7 (Rect.unit (s := S4352x1024) ![2304, 0] S2048x1024.size inb_S4352x1024_S2048x1024_2304_0)) x8 x9 x10) (k0_pay11 (k0_pay5 x0 (View.ld x7 (Rect.unit (s := S4352x1024) ![0, 0] S512x1024.size inb_S4352x1024_S512x1024_0_0)) x1 (View.ld x7 (Rect.unit (s := S4352x1024) ![512, 0] S512x1024.size inb_S4352x1024_S512x1024_512_0)) x2 (View.ld x7 (Rect.unit (s := S4352x1024) ![1024, 0] S512x1024.size inb_S4352x1024_S512x1024_1024_0)) x3 (View.ld x7 (Rect.unit (s := S4352x1024) ![1536, 0] S512x1024.size inb_S4352x1024_S512x1024_1536_0))) (k0_pay6 x4 (View.ld x7 (Rect.unit (s := S4352x1024) ![2048, 0] S128x1024.size inb_S4352x1024_S128x1024_2048_0))) x5 (View.ld x7 (Rect.unit (s := S4352x1024) ![2176, 0] S128x1024.size inb_S4352x1024_S128x1024_2176_0)) x6 (View.ld x7 (Rect.unit (s := S4352x1024) ![2304, 0] S2048x1024.size inb_S4352x1024_S2048x1024_2304_0)) x8 x9)
/-- What a point leaves in the accumulator that holds `acc`. -/
def dgB : Vec Ideal S1x1024 .f32 := k0_pay3 (dhB x0 x1 x2 x3 x4 x5 x6 x7) x8 (k0_pay8 x8) acc

theorem dxB_apply (r : Fin 512) (k : Fin 1024) :
    dxB x0 x1 x2 x3 x4 x5 x6 x7 x8 x9 x10 (ix2 r k) = nrmBwd (at2 (dhB x0 x1 x2 x3 x4 x5 x6 x7)) (at2 x8) (at2 x9 0) (at2 x10) r k := by
  exact pay_dx _ _ _ _ _ _ x8 x9 x10 r k

theorem dgB_apply (k : Fin 1024) :
    dgB x0 x1 x2 x3 x4 x5 x6 x7 x8 acc (ix2 (0 : Fin 1) k) = acc (ix2 (0 : Fin 1) k) + ∑ r, gainTerm (at2 (dhB x0 x1 x2 x3 x4 x5 x6 x7)) (at2 x8) r k := by
  unfold dgB
  generalize dhB x0 x1 x2 x3 x4 x5 x6 x7 = dh
  pointwise [k0_pay3, k0_pay8, gainTerm, rms]

theorem zero_apply (k : Fin 1024) : k0_pay4 (F := Ideal) (ix2 (0 : Fin 1) k) = 0 := by pointwise [k0_pay4]

theorem out_A_11 (hc0 : cond0_0 i) : out0_A_11 c i g0 h0 g1 h1 g2 h2 g3 h3 g4 h4 g5 h5 g6 h6 g7 h7 g8 h8 g9 h9 g10 h10 g11 h11 g12 h12 g13 h13 hc0 x0 x1 x2 x3 x4 x5 x6 x7 x8 x9 x10 = dxB x0 x1 x2 x3 x4 x5 x6 x7 x8 x9 x10 := by
  unfold out0_A_11
  rw [View.read_writes_eq_canon _ _ _ (cover0_A_11 c i g0 h0 g1 h1 g2 h2 g3 h3 g4 h4 g5 h5 g6 h6 g7 h7 g8 h8 g9 h9 g10 h10 g11 h11 g12 h12 g13 h13 hc0 x0 x1 x2 x3 x4 x5 x6 x7 x8 x9 x10)]
  unfold kernelRun0_A
  dsimp only
  sl_unfold_words
  rw [View.canon_unit_zero (S := S512x1024) hz]
  simp only [View.readAt_eq_ld, h0.read_unread, h1.read_unread, h2.read_unread, h3.read_unread, h4.read_unread, h5.read_unread, h6.read_unread, h7.read_unread, h8.read_unread, h9.read_unread, h10.read_unread, View.ld_unit_zero (S := S1x1024) hz, View.ld_unit_zero (S := S4352x1024) hz, View.ld_unit_zero (S := S512x1024) hz, View.ld_unit_zero (S := S512x128) hz, View.ld_unit_zero (S := S512x2048) hz, View.ld_unit_zero (S := S512x512) hz]
  rfl

theorem out_A_12 (hc0 : cond0_0 i) : out0_A_12 c i g0 h0 g1 h1 g2 h2 g3 h3 g4 h4 g5 h5 g6 h6 g7 h7 g8 h8 g9 h9 g10 h10 g11 h11 g12 h12 g13 h13 hc0 x0 x1 x2 x3 x4 x5 x6 x7 x8 x9 x10 = dxB x0 x1 x2 x3 x4 x5 x6 x7 x8 x9 x10 := by
  unfold out0_A_12
  rw [View.read_writes_eq_canon _ _ _ (cover0_A_12 c i g0 h0 g1 h1 g2 h2 g3 h3 g4 h4 g5 h5 g6 h6 g7 h7 g8 h8 g9 h9 g10 h10 g11 h11 g12 h12 g13 h13 hc0 x0 x1 x2 x3 x4 x5 x6 x7 x8 x9 x10)]
  unfold kernelRun0_A
  dsimp only
  sl_unfold_words
  rw [View.canon_unit_zero (S := S512x1024) hz]
  simp only [View.readAt_eq_ld, h0.read_unread, h1.read_unread, h2.read_unread, h3.read_unread, h4.read_unread, h5.read_unread, h6.read_unread, h7.read_unread, h8.read_unread, h9.read_unread, h10.read_unread, View.ld_unit_zero (S := S1x1024) hz, View.ld_unit_zero (S := S4352x1024) hz, View.ld_unit_zero (S := S512x1024) hz, View.ld_unit_zero (S := S512x128) hz, View.ld_unit_zero (S := S512x2048) hz, View.ld_unit_zero (S := S512x512) hz]
  rfl

theorem out_A_13 (hc0 : cond0_0 i) : out0_A_13 c i g0 h0 g1 h1 g2 h2 g3 h3 g4 h4 g5 h5 g6 h6 g7 h7 g8 h8 g9 h9 g10 h10 g11 h11 g12 h12 g13 h13 hc0 x0 x1 x2 x3 x4 x5 x6 x7 x8 x9 x10 = dgB x0 x1 x2 x3 x4 x5 x6 x7 x8 (k0_pay4 (F := Ideal)) := by
  unfold out0_A_13
  rw [View.read_writes_eq_canon _ _ _ (cover0_A_13 c i g0 h0 g1 h1 g2 h2 g3 h3 g4 h4 g5 h5 g6 h6 g7 h7 g8 h8 g9 h9 g10 h10 g11 h11 g12 h12 g13 h13 hc0 x0 x1 x2 x3 x4 x5 x6 x7 x8 x9 x10)]
  unfold kernelRun0_A
  dsimp only
  sl_unfold_words
  rw [View.canon_cons_unit_zero (S := S1x1024) hz, View.readCov_unit_zero (S := S1x1024) _ hz]
  simp only [View.readAt_eq_ld, h0.read_unread, h1.read_unread, h2.read_unread, h3.read_unread, h4.read_unread, h5.read_unread, h6.read_unread, h7.read_unread, h8.read_unread, h9.read_unread, h10.read_unread, View.ld_unit_zero (S := S1x1024) hz, View.ld_unit_zero (S := S4352x1024) hz, View.ld_unit_zero (S := S512x1024) hz, View.ld_unit_zero (S := S512x128) hz, View.ld_unit_zero (S := S512x2048) hz, View.ld_unit_zero (S := S512x512) hz]
  rfl

theorem out_B_11 (hc0 : ¬cond0_0 i) : out0_B_11 c i g0 h0 g1 h1 g2 h2 g3 h3 g4 h4 g5 h5 g6 h6 g7 h7 g8 h8 g9 h9 g10 h10 g11 h11 g12 h12 g13 h13 hc0 x0 x1 x2 x3 x4 x5 x6 x7 x8 x9 x10 acc = dxB x0 x1 x2 x3 x4 x5 x6 x7 x8 x9 x10 := by
  unfold out0_B_11
  rw [View.read_writes_eq_canon _ _ _ (cover0_B_11 c i g0 h0 g1 h1 g2 h2 g3 h3 g4 h4 g5 h5 g6 h6 g7 h7 g8 h8 g9 h9 g10 h10 g11 h11 g12 h12 g13 h13 hc0 x0 x1 x2 x3 x4 x5 x6 x7 x8 x9 x10 acc)]
  unfold kernelRun0_B
  dsimp only
  sl_unfold_words
  rw [View.canon_unit_zero (S := S512x1024) hz]
  simp only [View.readAt_eq_ld, h0.read_unread, h1.read_unread, h2.read_unread, h3.read_unread, h4.read_unread, h5.read_unread, h6.read_unread, h7.read_unread, h8.read_unread, h9.read_unread, h10.read_unread, View.ld_unit_zero (S := S1x1024) hz, View.ld_unit_zero (S := S4352x1024) hz, View.ld_unit_zero (S := S512x1024) hz, View.ld_unit_zero (S := S512x128) hz, View.ld_unit_zero (S := S512x2048) hz, View.ld_unit_zero (S := S512x512) hz]
  rfl

theorem out_B_12 (hc0 : ¬cond0_0 i) : out0_B_12 c i g0 h0 g1 h1 g2 h2 g3 h3 g4 h4 g5 h5 g6 h6 g7 h7 g8 h8 g9 h9 g10 h10 g11 h11 g12 h12 g13 h13 hc0 x0 x1 x2 x3 x4 x5 x6 x7 x8 x9 x10 acc = dxB x0 x1 x2 x3 x4 x5 x6 x7 x8 x9 x10 := by
  unfold out0_B_12
  rw [View.read_writes_eq_canon _ _ _ (cover0_B_12 c i g0 h0 g1 h1 g2 h2 g3 h3 g4 h4 g5 h5 g6 h6 g7 h7 g8 h8 g9 h9 g10 h10 g11 h11 g12 h12 g13 h13 hc0 x0 x1 x2 x3 x4 x5 x6 x7 x8 x9 x10 acc)]
  unfold kernelRun0_B
  dsimp only
  sl_unfold_words
  rw [View.canon_unit_zero (S := S512x1024) hz]
  simp only [View.readAt_eq_ld, h0.read_unread, h1.read_unread, h2.read_unread, h3.read_unread, h4.read_unread, h5.read_unread, h6.read_unread, h7.read_unread, h8.read_unread, h9.read_unread, h10.read_unread, View.ld_unit_zero (S := S1x1024) hz, View.ld_unit_zero (S := S4352x1024) hz, View.ld_unit_zero (S := S512x1024) hz, View.ld_unit_zero (S := S512x128) hz, View.ld_unit_zero (S := S512x2048) hz, View.ld_unit_zero (S := S512x512) hz]
  rfl

theorem out_B_13 (hc0 : ¬cond0_0 i) : out0_B_13 c i g0 h0 g1 h1 g2 h2 g3 h3 g4 h4 g5 h5 g6 h6 g7 h7 g8 h8 g9 h9 g10 h10 g11 h11 g12 h12 g13 h13 hc0 x0 x1 x2 x3 x4 x5 x6 x7 x8 x9 x10 acc = dgB x0 x1 x2 x3 x4 x5 x6 x7 x8 acc := by
  unfold out0_B_13
  rw [View.read_writes_eq_canon _ _ _ (cover0_B_13 c i g0 h0 g1 h1 g2 h2 g3 h3 g4 h4 g5 h5 g6 h6 g7 h7 g8 h8 g9 h9 g10 h10 g11 h11 g12 h12 g13 h13 hc0 x0 x1 x2 x3 x4 x5 x6 x7 x8 x9 x10 acc)]
  unfold kernelRun0_B
  dsimp only
  sl_unfold_words
  rw [View.canon_unit_zero (S := S1x1024) hz]
  simp only [View.readAt_eq_ld, h0.read_unread, h1.read_unread, h2.read_unread, h3.read_unread, h4.read_unread, h5.read_unread, h6.read_unread, h7.read_unread, h8.read_unread, h9.read_unread, h10.read_unread, h13.read_unread, View.ld_unit_zero (S := S1x1024) hz, View.ld_unit_zero (S := S4352x1024) hz, View.ld_unit_zero (S := S512x1024) hz, View.ld_unit_zero (S := S512x128) hz, View.ld_unit_zero (S := S512x2048) hz, View.ld_unit_zero (S := S512x512) hz]
  rfl

end Cases

section Arrays

variable (m : (ℓ : Loc nD τ sig) → Buf (Elt Ideal) ℓ) (c : Dev nD)

/-- Branch gradient 0, as the pipeline reads it. -/
abbrev w0 : Fin 4096 → Fin 512 → EReal := at2 (V m c main_v0)
/-- Branch gradient 1, as the pipeline reads it. -/
abbrev w1 : Fin 4096 → Fin 512 → EReal := at2 (V m c main_v1)
/-- Branch gradient 2, as the pipeline reads it. -/
abbrev w2 : Fin 4096 → Fin 512 → EReal := at2 (V m c main_v2)
/-- Branch gradient 3, as the pipeline reads it. -/
abbrev w3 : Fin 4096 → Fin 512 → EReal := at2 (V m c main_v3)
/-- Branch gradient 4, as the pipeline reads it. -/
abbrev w4 : Fin 4096 → Fin 128 → EReal := at2 (V m c main_v4)
/-- Branch gradient 5, as the pipeline reads it. -/
abbrev w5 : Fin 4096 → Fin 128 → EReal := at2 (V m c main_v5)
/-- Branch gradient 6, as the pipeline reads it. -/
abbrev w6 : Fin 4096 → Fin 2048 → EReal := at2 (V m c main_v6)
/-- The input projection's weight, transposed, as the pipeline reads it. -/
abbrev w7 : Fin 4352 → Fin 1024 → EReal := at2 (V m c main_v8)
/-- The residual stream, as the pipeline reads it. -/
abbrev w8 : Fin 4096 → Fin 1024 → EReal := at2 (V m c main_arg0)
/-- The norm's gain, as the pipeline reads it. -/
abbrev w9 : Fin 1 → Fin 1024 → EReal := at2 (V m c main_v9)
/-- The gradient that passes beside the norm, as the pipeline reads it. -/
abbrev w10 : Fin 4096 → Fin 1024 → EReal := at2 (V m c main_arg3)

/-- The gradient that reaches the normalised rows. -/
abbrev dh : Fin 4096 → Fin 1024 → EReal := mm (lay (w0 m c) (w1 m c) (w2 m c) (w3 m c) (w4 m c) (w5 m c) (w6 m c)) (w7 m c)

/-- The results. -/
def res11 : Vec Ideal S4096x1024 .f32 := fun i => nrmBwd (dh m c) (w8 m c) (w9 m c 0) (w10 m c) (i 0) (i 1)
def res12 : Vec Ideal S4096x1024 .bf16 := fun i => nrmBwd (dh m c) (w8 m c) (w9 m c 0) (w10 m c) (i 0) (i 1)
def res13 : Vec Ideal S1x1024 .f32 := fun i => ∑ r, gainTerm (dh m c) (w8 m c) r (i 1)

variable (t : Fin cfg0.N)

theorem in0 : at2 (iblk m c 0 t) = fun r => w0 m c (row t r) := funext fun r => funext fun k => blk0 m c t r k
theorem in1 : at2 (iblk m c 1 t) = fun r => w1 m c (row t r) := funext fun r => funext fun k => blk1 m c t r k
theorem in2 : at2 (iblk m c 2 t) = fun r => w2 m c (row t r) := funext fun r => funext fun k => blk2 m c t r k
theorem in3 : at2 (iblk m c 3 t) = fun r => w3 m c (row t r) := funext fun r => funext fun k => blk3 m c t r k
theorem in4 : at2 (iblk m c 4 t) = fun r => w4 m c (row t r) := funext fun r => funext fun k => blk4 m c t r k
theorem in5 : at2 (iblk m c 5 t) = fun r => w5 m c (row t r) := funext fun r => funext fun k => blk5 m c t r k
theorem in6 : at2 (iblk m c 6 t) = fun r => w6 m c (row t r) := funext fun r => funext fun k => blk6 m c t r k
theorem in7 : at2 (iblk m c 7 t) = w7 m c := funext fun r => funext fun k => blk7 m c t r k
theorem in8 : at2 (iblk m c 8 t) = fun r => w8 m c (row t r) := funext fun r => funext fun k => blk8 m c t r k
theorem in9 : at2 (iblk m c 9 t) = w9 m c := funext fun r => funext fun k => blk9 m c t r k
theorem in10 : at2 (iblk m c 10 t) = fun r => w10 m c (row t r) := funext fun r => funext fun k => blk10 m c t r k

/-- The gradient that reaches the normalised rows of point `t`'s block. -/
theorem in_dh : at2 (dhB (iblk m c 0 t) (iblk m c 1 t) (iblk m c 2 t) (iblk m c 3 t) (iblk m c 4 t) (iblk m c 5 t) (iblk m c 6 t) (iblk m c 7 t)) = fun r => dh m c (row t r) := by
  funext r k
  refine (dhB_apply (iblk m c 0 t) (iblk m c 1 t) (iblk m c 2 t) (iblk m c 3 t) (iblk m c 4 t) (iblk m c 5 t) (iblk m c 6 t) (iblk m c 7 t) r k).trans ?_
  rw [in0, in1, in2, in3, in4, in5, in6, in7]
  rfl

/-- What point `t` leaves in its block of the gradient. -/
theorem dx_at (r : Fin 512) (k : Fin 1024) :
    dxB (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = nrmBwd (dh m c) (w8 m c) (w9 m c 0) (w10 m c) (row t r) k := by
  refine (dxB_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  rw [in_dh, in8, in9, in10]
  rfl

/-- What point `t` adds to the accumulator. -/
theorem dg_at (acc : Vec Ideal S1x1024 .f32) (k : Fin 1024) :
    dgB (iblk m c 0 t) (iblk m c 1 t) (iblk m c 2 t) (iblk m c 3 t) (iblk m c 4 t) (iblk m c 5 t) (iblk m c 6 t) (iblk m c 7 t) (iblk m c 8 t) acc (ix2 (0 : Fin 1) k)
      = acc (ix2 (0 : Fin 1) k) + ∑ j : Fin 512, ext (fun r => gainTerm (dh m c) (w8 m c) r k) (512 * t.val + j.val) := by
  refine (dgB_apply (iblk m c 0 t) (iblk m c 1 t) (iblk m c 2 t) (iblk m c 3 t) (iblk m c 4 t) (iblk m c 5 t) (iblk m c 6 t) (iblk m c 7 t) (iblk m c 8 t) acc k).trans ?_
  rw [in_dh, in8]
  refine congrArg (acc (ix2 (0 : Fin 1) k) + ·) (Finset.sum_congr rfl fun j _ => ?_)
  exact (ext_val (fun r => gainTerm (dh m c) (w8 m c) r k) (row t j)).symm

/-- The three things a point leaves. -/
theorem first (h : t.val % 8 = 0) :
    outsAt0 m c t.val t.isLt = (dxB (iblk m c 0 t) (iblk m c 1 t) (iblk m c 2 t) (iblk m c 3 t) (iblk m c 4 t) (iblk m c 5 t) (iblk m c 6 t) (iblk m c 7 t) (iblk m c 8 t) (iblk m c 9 t) (iblk m c 10 t), dxB (iblk m c 0 t) (iblk m c 1 t) (iblk m c 2 t) (iblk m c 3 t) (iblk m c 4 t) (iblk m c 5 t) (iblk m c 6 t) (iblk m c 7 t) (iblk m c 8 t) (iblk m c 9 t) (iblk m c 10 t), dgB (iblk m c 0 t) (iblk m c 1 t) (iblk m c 2 t) (iblk m c 3 t) (iblk m c 4 t) (iblk m c 5 t) (iblk m c 6 t) (iblk m c 7 t) (iblk m c 8 t) (k0_pay4 (F := Ideal))) := by
  rw [outsAt0_A m c t h, out_A_11, out_A_12, out_A_13]

theorem later (h : ¬t.val % 8 = 0) :
    outsAt0 m c t.val t.isLt = (dxB (iblk m c 0 t) (iblk m c 1 t) (iblk m c 2 t) (iblk m c 3 t) (iblk m c 4 t) (iblk m c 5 t) (iblk m c 6 t) (iblk m c 7 t) (iblk m c 8 t) (iblk m c 9 t) (iblk m c 10 t), dxB (iblk m c 0 t) (iblk m c 1 t) (iblk m c 2 t) (iblk m c 3 t) (iblk m c 4 t) (iblk m c 5 t) (iblk m c 6 t) (iblk m c 7 t) (iblk m c 8 t) (iblk m c 9 t) (iblk m c 10 t),
      dgB (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2) := by
  rw [outsAt0_B m c t h, out_B_11, out_B_12, out_B_13]

theorem outs_dx : (outsAt0 m c t.val t.isLt).1 = dxB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h : t.val % 8 = 0
  · rw [first m c t h]
  · rw [later m c t h]

theorem outs_dxb : (outsAt0 m c t.val t.isLt).2.1 = dxB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h : t.val % 8 = 0
  · rw [first m c t h]
  · rw [later m c t h]

/-- After point `q` the accumulator holds the sum over the rows of points up to `q`. -/
theorem outs_dg : ∀ (q : Nat) (t : Fin cfg0.N), t.val = q → ∀ k : Fin 1024,
    (outsAt0 m c t.val t.isLt).2.2 (ix2 (0 : Fin 1) k) = upTo (fun r => gainTerm (dh m c) (w8 m c) r k) 512 (q + 1)
  | 0, t, h, k => by
    rw [first m c t (by omega)]
    refine (dg_at m c t _ k).trans ?_
    rw [zero_apply, h, upTo_succ, upTo_zero]
  | q + 1, t, h, k => by
    have ht : t.val < 8 := lt_of_lt_of_eq t.isLt N_0
    rw [later m c t (by omega)]
    refine (dg_at m c t _ k).trans ?_
    have hs : t.val - 1 < cfg0.N := Nat.lt_of_le_of_lt (Nat.sub_le _ _) t.isLt
    have e := outs_dg q ⟨t.val - 1, hs⟩ (by show t.val - 1 = q; omega) k
    dsimp only at e
    rw [e, h, upTo_succ _ _ (q + 1)]

theorem flushed11 : (dats m 0 c).flushed 11 t = (win0_11.blk t).view.read (Elt Ideal) (res11 m c) := by
  rw [Value.flushed11, outs_dx]
  funext (x : S512x1024.Idx)
  obtain ⟨a, b, rfl⟩ : ∃ (a : Fin 512) (b : Fin 1024), x = ix2 a b := ⟨x 0, x 1, eq_ix2 x⟩
  refine Eq.trans ?_ (read11 _ t a b).symm
  exact dx_at m c t a b

theorem flushed12 : (dats m 0 c).flushed 12 t = (win0_12.blk t).view.read (Elt Ideal) (res12 m c) := by
  rw [Value.flushed12, outs_dxb]
  funext (x : S512x1024.Idx)
  obtain ⟨a, b, rfl⟩ : ∃ (a : Fin 512) (b : Fin 1024), x = ix2 a b := ⟨x 0, x 1, eq_ix2 x⟩
  refine Eq.trans ?_ (read12 _ t a b).symm
  exact dx_at m c t a b

theorem start13 : ∀ t : Fin cfg0.N, win0_13.index t 0 = 0 ∧ win0_13.index t 1 = 0 := by
  decide +kernel

/-- The accumulator's window is its whole array. -/
theorem read13 (A : Vec Ideal S1x1024 .f32) (r : Fin 1) (k : Fin 1024) :
    ((win0_13.blk t).view.read (Elt Ideal) A : Vec Ideal S1x1024 .f32) (ix2 r k) = A (ix2 r k) := by
  show A ((win0_13.blk t).view.emb (ix2 r k)) = _
  refine congrArg A (funext fun a => Fin.ext ?_)
  match a with
  | ⟨0, _⟩ =>
    show win0_13.index t 0 * 1 + 1 * r.val = r.val
    rw [(start13 t).1]; omega
  | ⟨1, _⟩ =>
    show win0_13.index t 1 * 1024 + 1 * k.val = k.val
    rw [(start13 t).2]; omega

theorem cover13 (i : S1x1024.Idx) : ∃ t : Fin cfg0.N, (cfg0.win 13).flush t = true ∧ i ∈ ((cfg0.win 13).blk t).view.set := by
  have h0 : (i 0).val < 1 := (i 0).isLt
  have h1 : (i 1).val < 1024 := (i 1).isLt
  have hN : cfg0.N = 8 := N_0
  refine ⟨⟨7, by omega⟩, (flush0_13 _).mpr rfl, ?_⟩
  generalize (⟨7, by omega⟩ : Fin cfg0.N) = t
  show i ∈ ((View.whole main_v10_2).slice (win0_13.rect t)).set
  rw [View.set_slice_whole, Rect.mem_set_unit]
  intro a
  match a with
  | ⟨0, _⟩ =>
    show win0_13.index t 0 * 1 ≤ (i 0).val ∧ (i 0).val < win0_13.index t 0 * 1 + 1
    rw [(start13 t).1]; omega
  | ⟨1, _⟩ =>
    show win0_13.index t 1 * 1024 ≤ (i 1).val ∧ (i 1).val < win0_13.index t 1 * 1024 + 1024
    rw [(start13 t).2]; omega

/-- The last point writes out the sum over all rows. -/
theorem flushed13 (hf : (cfg0.win 13).flush t = true) :
    (dats m 0 c).flushed 13 t = (win0_13.blk t).view.read (Elt Ideal) (res13 m c) := by
  have h : t.val % 8 = 7 := (flush0_13 t).mp hf
  have ht : t.val < 8 := lt_of_lt_of_eq t.isLt N_0
  rw [Value.flushed13]
  funext (x : S1x1024.Idx)
  obtain ⟨a, b, rfl⟩ : ∃ (a : Fin 1) (b : Fin 1024), x = ix2 a b := ⟨x 0, x 1, eq_ix2 x⟩
  refine Eq.trans ?_ (read13 t _ a b).symm
  obtain rfl : a = 0 := Fin.ext (by have := a.isLt; show a.val = 0; omega)
  refine (outs_dg m c 7 t (by omega) b).trans ?_
  exact upTo_full _ 512 8 (by norm_num)

/-- The whole run: the result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v10_0) = res11 m c
      ∧ r.2.mem ((c : Thread nD τ).loc main_v10_1) = res12 m c
      ∧ r.2.mem ((c : Thread nD τ).loc main_v10_2) = res13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) := by
  refine (θ_run defs _ _).mono (fun r h c => ?_) (Value.run_blocks m ρ)
  obtain ⟨h11, h12, h13, hk⟩ := h c
  refine ⟨h11.trans ?_, h12.trans ?_, h13.trans ?_, hk⟩
  · exact (dats m 0 c).arrAt_eq_of_cover 11 (res11 m c) (fun t _ => flushed11 m c t) cover11
  · exact (dats m 0 c).arrAt_eq_of_cover 12 (res12 m c) (fun t _ => flushed12 m c t) cover12
  · exact (dats m 0 c).arrAt_eq_of_cover 13 (res13 m c) (fun t hf => flushed13 m c t hf) cover13

/-- The arguments: the residual stream, the gain, the weight, the gradient beside the norm, the seven branch gradients. -/
abbrev a0 : FVec Ideal S4096x1024 .f32 := m ((c : Thread nD τ).loc main_arg0)
abbrev a1 : FVec Ideal S1024 .f32 := m ((c : Thread nD τ).loc main_arg1)
abbrev a2 : FVec Ideal S1024x4352 .f32 := m ((c : Thread nD τ).loc main_arg2)
abbrev a3 : FVec Ideal S4096x1024 .f32 := m ((c : Thread nD τ).loc main_arg3)
abbrev a4 : FVec Ideal S4096x512 .f32 := m ((c : Thread nD τ).loc main_arg4)
abbrev a5 : FVec Ideal S4096x512 .f32 := m ((c : Thread nD τ).loc main_arg5)
abbrev a6 : FVec Ideal S4096x512 .f32 := m ((c : Thread nD τ).loc main_arg6)
abbrev a7 : FVec Ideal S4096x512 .f32 := m ((c : Thread nD τ).loc main_arg7)
abbrev a8 : FVec Ideal S4096x128 .f32 := m ((c : Thread nD τ).loc main_arg8)
abbrev a9 : FVec Ideal S4096x128 .f32 := m ((c : Thread nD τ).loc main_arg9)
abbrev a10 : FVec Ideal S4096x2048 .f32 := m ((c : Thread nD τ).loc main_arg10)

theorem w0_eq : w0 m c = at2 (a4 m c) := by
  funext r k
  have h : (V m c main_v0 : FVec Ideal S4096x512 .bf16) = truncf .bf16 (a4 m c) bitsLt_bf16_f32 := by
    show StableHlo.after hostOps0 (fun b => m (c, b)) _ = _
    unfold hostOps0
    after_results_simp <;> rfl
  show (V m c main_v0 : FVec Ideal S4096x512 .bf16) (ix2 r k) = _
  rw [h]
  pointwise []

theorem w1_eq : w1 m c = at2 (a5 m c) := by
  funext r k
  have h : (V m c main_v1 : FVec Ideal S4096x512 .bf16) = truncf .bf16 (a5 m c) bitsLt_bf16_f32 := by
    show StableHlo.after hostOps0 (fun b => m (c, b)) _ = _
    unfold hostOps0
    after_results_simp <;> rfl
  show (V m c main_v1 : FVec Ideal S4096x512 .bf16) (ix2 r k) = _
  rw [h]
  pointwise []

theorem w2_eq : w2 m c = at2 (a6 m c) := by
  funext r k
  have h : (V m c main_v2 : FVec Ideal S4096x512 .bf16) = truncf .bf16 (a6 m c) bitsLt_bf16_f32 := by
    show StableHlo.after hostOps0 (fun b => m (c, b)) _ = _
    unfold hostOps0
    after_results_simp <;> rfl
  show (V m c main_v2 : FVec Ideal S4096x512 .bf16) (ix2 r k) = _
  rw [h]
  pointwise []

theorem w3_eq : w3 m c = at2 (a7 m c) := by
  funext r k
  have h : (V m c main_v3 : FVec Ideal S4096x512 .bf16) = truncf .bf16 (a7 m c) bitsLt_bf16_f32 := by
    show StableHlo.after hostOps0 (fun b => m (c, b)) _ = _
    unfold hostOps0
    after_results_simp <;> rfl
  show (V m c main_v3 : FVec Ideal S4096x512 .bf16) (ix2 r k) = _
  rw [h]
  pointwise []

theorem w4_eq : w4 m c = at2 (a8 m c) := by
  funext r k
  have h : (V m c main_v4 : FVec Ideal S4096x128 .bf16) = truncf .bf16 (a8 m c) bitsLt_bf16_f32 := by
    show StableHlo.after hostOps0 (fun b => m (c, b)) _ = _
    unfold hostOps0
    after_results_simp <;> rfl
  show (V m c main_v4 : FVec Ideal S4096x128 .bf16) (ix2 r k) = _
  rw [h]
  pointwise []

theorem w5_eq : w5 m c = at2 (a9 m c) := by
  funext r k
  have h : (V m c main_v5 : FVec Ideal S4096x128 .bf16) = truncf .bf16 (a9 m c) bitsLt_bf16_f32 := by
    show StableHlo.after hostOps0 (fun b => m (c, b)) _ = _
    unfold hostOps0
    after_results_simp <;> rfl
  show (V m c main_v5 : FVec Ideal S4096x128 .bf16) (ix2 r k) = _
  rw [h]
  pointwise []

theorem w6_eq : w6 m c = at2 (a10 m c) := by
  funext r k
  have h : (V m c main_v6 : FVec Ideal S4096x2048 .bf16) = truncf .bf16 (a10 m c) bitsLt_bf16_f32 := by
    show StableHlo.after hostOps0 (fun b => m (c, b)) _ = _
    unfold hostOps0
    after_results_simp <;> rfl
  show (V m c main_v6 : FVec Ideal S4096x2048 .bf16) (ix2 r k) = _
  rw [h]
  pointwise []

theorem w7_eq : w7 m c = fun k r => at2 (a2 m c) r k := by
  funext r k
  have h : (V m c main_v8 : FVec Ideal S4352x1024 .bf16) = truncf .bf16 (transpose S4352x1024 [1, 0] (a2 m c) transposes_S1024x4352_S4352x1024_1_0) bitsLt_bf16_f32 := by
    show StableHlo.after hostOps0 (fun b => m (c, b)) _ = _
    unfold hostOps0
    after_results_simp <;> rfl
  show (V m c main_v8 : FVec Ideal S4352x1024 .bf16) (ix2 r k) = _
  rw [h]
  pointwise []

theorem w8_eq : w8 m c = at2 (a0 m c) := congrArg at2 (V_main_arg0 m c)

theorem w9_eq : w9 m c = fun _ k => a1 m c (ix1 k) := by
  funext r k
  have h : (V m c main_v9 : FVec Ideal S1x1024 .f32) = shapeCast _ (a1 m c) shapeCasts_S1024_S1x1024 := by
    show StableHlo.after hostOps0 (fun b => m (c, b)) _ = _
    unfold hostOps0
    after_results_simp <;> rfl
  show (V m c main_v9 : FVec Ideal S1x1024 .f32) (ix2 r k) = _
  rw [h]
  pointwise []

theorem w10_eq : w10 m c = at2 (a3 m c) := congrArg at2 (V_main_arg3 m c)

end Arrays

end Cert.Kernel14Ideal.InProjBwd

namespace Cert.Reference14Ideal.InProjBwd

open Cert.Reference14Ideal Cert.Reference14Ideal.Gen Cert.Coords Cert.Stack Cert.NormBwd Cert.Lay Idealize.ShloMosaic Idealize.ShloMosaic.TcCoe Idealize.SL.Sem

/-- The row's mean square, the small constant added. -/
def msT (x0 : FVec Ideal S4096x1024 .f32) : FVec Ideal S4096x1 .f32 :=
  (addf (Host.divf (broadcastInDim S4096x1 ![0] bcast_S4096_S4096x1_0 (Host.reduceAdd (mulf x0 x0) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))
/-- Its reciprocal root. -/
def rT (x0 : FVec Ideal S4096x1024 .f32) : FVec Ideal S4096x1 .f32 := (Host.rsqrt (msT x0))
/-- The branch gradients side by side. -/
def catT (x4 : FVec Ideal S4096x512 .f32) (x5 : FVec Ideal S4096x512 .f32) (x6 : FVec Ideal S4096x512 .f32) (x7 : FVec Ideal S4096x512 .f32) (x8 : FVec Ideal S4096x128 .f32) (x9 : FVec Ideal S4096x128 .f32) (x10 : FVec Ideal S4096x2048 .f32) : FVec Ideal S4096x4352 .f32 :=
  concatenate S4096x4352 1 [⟨S4096x512, x4⟩, ⟨S4096x512, x5⟩, ⟨S4096x512, x6⟩, ⟨S4096x512, x7⟩, ⟨S4096x128, x8⟩, ⟨S4096x128, x9⟩, ⟨S4096x2048, x10⟩] concatenates_S4096x512_S4096x512_S4096x512_S4096x512_S4096x128_S4096x128_S4096x2048_S4096x4352_d1
/-- The gradient that reaches the normalised rows. -/
def dhT (x2 : FVec Ideal S1024x4352 .f32) (x4 : FVec Ideal S4096x512 .f32) (x5 : FVec Ideal S4096x512 .f32) (x6 : FVec Ideal S4096x512 .f32) (x7 : FVec Ideal S4096x512 .f32) (x8 : FVec Ideal S4096x128 .f32) (x9 : FVec Ideal S4096x128 .f32) (x10 : FVec Ideal S4096x2048 .f32) : FVec Ideal S4096x1024 .f32 :=
  Host.dotGeneral dot_S4096x4352_S1024x4352_S4096x1024_1_1_0_0_n_n none (catT x4 x5 x6 x7 x8 x9 x10) x2

section Norm

variable (x0 : FVec Ideal S4096x1024 .f32) (x1 : FVec Ideal S1024 .f32) (d x3 : FVec Ideal S4096x1024 .f32)

/-- The gradient of the stream, from the gradient `d` that reaches the normalised rows. -/
def dxT : FVec Ideal S4096x1024 .f32 :=
  addf x3 (addf (addf (mulf (mulf d (broadcastInDim S4096x1024 ![0, 1] bcast_S1x1024_S4096x1024_0_1 (broadcastInDim S1x1024 ![1] bcast_S1024_S1x1024_1 x1))) (broadcastInDim S4096x1024 ![0, 1] bcast_S4096x1_S4096x1024_0_1 (rT x0))) (mulf x0 (broadcastInDim S4096x1024 ![0] bcast_S4096_S4096x1024_0 (Host.reduceAdd (Host.divf (mulf (shapeCast _ (Host.reduceAdd (mulf x0 (mulf d (broadcastInDim S4096x1024 ![0, 1] bcast_S1x1024_S4096x1024_0_1 (broadcastInDim S1x1024 ![1] bcast_S1024_S1x1024_1 x1)))) (constant S_ .f32 0x00000000#32) reducesTo_S4096x1024_S4096_d1 h_S_) shapeCasts_S4096_S4096x1) (mulf (broadcastInDim S4096x1 ![] bcast_S_S4096x1 (constant S_ .f32 0xBF000000#32)) (Host.divf (rT x0) (msT x0)))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf x0 (mulf d (broadcastInDim S4096x1024 ![0, 1] bcast_S1x1024_S4096x1024_0_1 (broadcastInDim S1x1024 ![1] bcast_S1024_S1x1024_1 x1)))) (constant S_ .f32 0x00000000#32) reducesTo_S4096x1024_S4096_d1 h_S_) shapeCasts_S4096_S4096x1) (mulf (broadcastInDim S4096x1 ![] bcast_S_S4096x1 (constant S_ .f32 0xBF000000#32)) (Host.divf (rT x0) (msT x0)))) (broadcastInDim S4096x1 ![] bcast_S_S4096x1 (constant S_ .f32 0x44800000#32))) (constant S_ .f32 0x00000000#32) reducesTo_S4096x1_S4096_d1 h_S_)) x0))
/-- The gain's gradient. -/
def dgT : FVec Ideal S1x1024 .f32 :=
  shapeCast _ (Host.reduceAdd (shapeCast _ (Host.reduceAdd (mulf (mulf x0 (broadcastInDim S4096x1024 ![0, 1] bcast_S4096x1_S4096x1024_0_1 (rT x0))) d) (constant S_ .f32 0x00000000#32) reducesTo_S4096x1024_S1024_d0 h_S_) shapeCasts_S1024_S1x1024) (constant S_ .f32 0x00000000#32) reducesTo_S1x1024_S1024_d0 h_S_) shapeCasts_S1024_S1x1024

theorem msT_apply (r : Fin 4096) : msT x0 (ix2 r (0 : Fin 1)) = msq (at2 x0) r := by
  pointwise [msT, msq]

theorem rT_apply (r : Fin 4096) : rT x0 (ix2 r (0 : Fin 1)) = Ideal.rsqrt (msq (at2 x0) r) := by
  have h : rT x0 (ix2 r (0 : Fin 1)) = Ideal.rsqrt (msT x0 (ix2 r (0 : Fin 1))) := by
    unfold rT
    generalize msT x0 = v
    pointwise []
  rw [h, msT_apply]

theorem dxT_apply (r : Fin 4096) (k : Fin 1024) :
    dxT x0 x1 d x3 (ix2 r k) = nrmBwd (at2 d) (at2 x0) (fun k => x1 (ix1 k)) (at2 x3) r k := by
  rw [← nrmBwd_eq, rms_eq, ← rT_apply, ← msT_apply]
  unfold dxT
  generalize rT x0 = v
  generalize msT x0 = u
  pointwise []
  simp only [Fin.sum_univ_one]

theorem dgT_apply (r : Fin 1) (k : Fin 1024) : dgT x0 d (ix2 r k) = ∑ r, gainTerm (at2 d) (at2 x0) r k := by
  have h : dgT x0 d (ix2 r k) = ∑ r : Fin 4096, x0 (ix2 r k) * rT x0 (ix2 r (0 : Fin 1)) * d (ix2 r k) := by
    unfold dgT
    generalize rT x0 = v
    pointwise []
    simp only [Fin.sum_univ_one]
  rw [h]
  refine Finset.sum_congr rfl fun r _ => ?_
  rw [rT_apply, mul_comm]
  rfl

end Norm

theorem catT_apply (x4 : FVec Ideal S4096x512 .f32) (x5 : FVec Ideal S4096x512 .f32) (x6 : FVec Ideal S4096x512 .f32) (x7 : FVec Ideal S4096x512 .f32) (x8 : FVec Ideal S4096x128 .f32) (x9 : FVec Ideal S4096x128 .f32) (x10 : FVec Ideal S4096x2048 .f32) (r : Fin 4096) (k : Fin 4352) :
    catT x4 x5 x6 x7 x8 x9 x10 (ix2 r k) = lay (at2 x4) (at2 x5) (at2 x6) (at2 x7) (at2 x8) (at2 x9) (at2 x10) r k := by
  unfold catT
  pointwise []
  unfold lay
  by_cases c0 : k.val < 512
  · rw [dif_pos c0, dif_pos c0]
  by_cases c1 : k.val < 1024
  · rw [dif_neg (show ¬ k.val < 512 by omega), dif_pos (show k.val - 512 < 512 by omega), dif_neg (show ¬ k.val < 512 by omega), dif_pos c1]
  by_cases c2 : k.val < 1536
  · rw [dif_neg (show ¬ k.val < 512 by omega), dif_neg (show ¬ k.val - 512 < 512 by omega), dif_pos (show k.val - 512 - 512 < 512 by omega), dif_neg (show ¬ k.val < 512 by omega), dif_neg (show ¬ k.val < 1024 by omega), dif_pos c2]
    exact congrArg (fun w => x6 (ix2 r w)) (Fin.ext (by show k.val - 512 - 512 = k.val - 1024; omega))
  by_cases c3 : k.val < 2048
  · rw [dif_neg (show ¬ k.val < 512 by omega), dif_neg (show ¬ k.val - 512 < 512 by omega), dif_neg (show ¬ k.val - 512 - 512 < 512 by omega), dif_pos (show k.val - 512 - 512 - 512 < 512 by omega), dif_neg (show ¬ k.val < 512 by omega), dif_neg (show ¬ k.val < 1024 by omega), dif_neg (show ¬ k.val < 1536 by omega), dif_pos c3]
    exact congrArg (fun w => x7 (ix2 r w)) (Fin.ext (by show k.val - 512 - 512 - 512 = k.val - 1536; omega))
  by_cases c4 : k.val < 2176
  · rw [dif_neg (show ¬ k.val < 512 by omega), dif_neg (show ¬ k.val - 512 < 512 by omega), dif_neg (show ¬ k.val - 512 - 512 < 512 by omega), dif_neg (show ¬ k.val - 512 - 512 - 512 < 512 by omega), dif_pos (show k.val - 512 - 512 - 512 - 512 < 128 by omega), dif_neg (show ¬ k.val < 512 by omega), dif_neg (show ¬ k.val < 1024 by omega), dif_neg (show ¬ k.val < 1536 by omega), dif_neg (show ¬ k.val < 2048 by omega), dif_pos c4]
    exact congrArg (fun w => x8 (ix2 r w)) (Fin.ext (by show k.val - 512 - 512 - 512 - 512 = k.val - 2048; omega))
  by_cases c5 : k.val < 2304
  · rw [dif_neg (show ¬ k.val < 512 by omega), dif_neg (show ¬ k.val - 512 < 512 by omega), dif_neg (show ¬ k.val - 512 - 512 < 512 by omega), dif_neg (show ¬ k.val - 512 - 512 - 512 < 512 by omega), dif_neg (show ¬ k.val - 512 - 512 - 512 - 512 < 128 by omega), dif_pos (show k.val - 512 - 512 - 512 - 512 - 128 < 128 by omega), dif_neg (show ¬ k.val < 512 by omega), dif_neg (show ¬ k.val < 1024 by omega), dif_neg (show ¬ k.val < 1536 by omega), dif_neg (show ¬ k.val < 2048 by omega), dif_neg (show ¬ k.val < 2176 by omega), dif_pos c5]
    exact congrArg (fun w => x9 (ix2 r w)) (Fin.ext (by show k.val - 512 - 512 - 512 - 512 - 128 = k.val - 2176; omega))
  rw [dif_neg (show ¬ k.val < 512 by omega), dif_neg (show ¬ k.val - 512 < 512 by omega), dif_neg (show ¬ k.val - 512 - 512 < 512 by omega), dif_neg (show ¬ k.val - 512 - 512 - 512 < 512 by omega), dif_neg (show ¬ k.val - 512 - 512 - 512 - 512 < 128 by omega), dif_neg (show ¬ k.val - 512 - 512 - 512 - 512 - 128 < 128 by omega), dif_neg (show ¬ k.val < 512 by omega), dif_neg (show ¬ k.val < 1024 by omega), dif_neg (show ¬ k.val < 1536 by omega), dif_neg (show ¬ k.val < 2048 by omega), dif_neg (show ¬ k.val < 2176 by omega), dif_neg (show ¬ k.val < 2304 by omega)]
  exact congrArg (fun w => x10 (ix2 r w)) (Fin.ext (by show k.val - 512 - 512 - 512 - 512 - 128 - 128 = k.val - 2304; omega))

theorem dhT_apply (x2 : FVec Ideal S1024x4352 .f32) (x4 : FVec Ideal S4096x512 .f32) (x5 : FVec Ideal S4096x512 .f32) (x6 : FVec Ideal S4096x512 .f32) (x7 : FVec Ideal S4096x512 .f32) (x8 : FVec Ideal S4096x128 .f32) (x9 : FVec Ideal S4096x128 .f32) (x10 : FVec Ideal S4096x2048 .f32) :
    at2 (dhT x2 x4 x5 x6 x7 x8 x9 x10) = mmt (lay (at2 x4) (at2 x5) (at2 x6) (at2 x7) (at2 x8) (at2 x9) (at2 x10)) (at2 x2) := by
  funext r k
  have h : dhT x2 x4 x5 x6 x7 x8 x9 x10 (ix2 r k) = ∑ j : Fin 4352, catT x4 x5 x6 x7 x8 x9 x10 (ix2 r j) * x2 (ix2 k j) := by
    unfold dhT
    generalize catT x4 x5 x6 x7 x8 x9 x10 = v
    pointwise []
  refine h.trans (Finset.sum_congr rfl fun j _ => ?_)
  exact congrArg (· * x2 (ix2 k j)) (catT_apply x4 x5 x6 x7 x8 x9 x10 r j)

variable (m : (ℓ : Loc Cert.Kernel14Ideal.nD Cert.Kernel14Ideal.τ Cert.Kernel14Ideal.sig) → Buf (Elt Ideal) ℓ) (c : Dev Cert.Kernel14Ideal.nD)

open Cert.Kernel14Ideal.InProjBwd

theorem dh_eq : at2 (dhT (a2 m c) (a4 m c) (a5 m c) (a6 m c) (a7 m c) (a8 m c) (a9 m c) (a10 m c)) = dh m c := by
  rw [dhT_apply]
  funext r k
  show _ = mm (lay (w0 m c) (w1 m c) (w2 m c) (w3 m c) (w4 m c) (w5 m c) (w6 m c)) (w7 m c) r k
  rw [w0_eq, w1_eq, w2_eq, w3_eq, w4_eq, w5_eq, w6_eq, w7_eq]
  rfl

theorem meet11 : dxT (a0 m c) (a1 m c) (dhT (a2 m c) (a4 m c) (a5 m c) (a6 m c) (a7 m c) (a8 m c) (a9 m c) (a10 m c)) (a3 m c) = res11 m c := by
  funext (i : S4096x1024.Idx)
  obtain ⟨r, k, rfl⟩ : ∃ (r : Fin 4096) (k : Fin 1024), i = ix2 r k := ⟨i 0, i 1, eq_ix2 i⟩
  refine (dxT_apply _ _ _ _ r k).trans ?_
  show _ = nrmBwd (dh m c) (w8 m c) (w9 m c 0) (w10 m c) r k
  rw [dh_eq, w8_eq, w9_eq, w10_eq]

theorem meet12 : truncf .bf16 (dxT (a0 m c) (a1 m c) (dhT (a2 m c) (a4 m c) (a5 m c) (a6 m c) (a7 m c) (a8 m c) (a9 m c) (a10 m c)) (a3 m c)) bitsLt_bf16_f32 = res12 m c :=
  meet11 m c

theorem meet13 : dgT (a0 m c) (dhT (a2 m c) (a4 m c) (a5 m c) (a6 m c) (a7 m c) (a8 m c) (a9 m c) (a10 m c)) = res13 m c := by
  funext (i : S1x1024.Idx)
  obtain ⟨r, k, rfl⟩ : ∃ (r : Fin 1) (k : Fin 1024), i = ix2 r k := ⟨i 0, i 1, eq_ix2 i⟩
  refine (dgT_apply _ _ r k).trans ?_
  show _ = ∑ r, gainTerm (dh m c) (w8 m c) r k
  rw [dh_eq, w8_eq]

end Cert.Reference14Ideal.InProjBwd

namespace Cert.Proof.InProjBwdClaims

open Idealize.ShloMosaic Idealize.ShloMosaic.TcCoe Idealize.SL.Sem
open Cert.Kernel14Ideal.InProjBwd Cert.Reference14Ideal.InProjBwd

/-- The kernel and the reference leave the same arrays. -/
theorem algebraic : Cert.algebraic_Kernel14Ideal_Reference14Ideal := by
  intro m ρ m' ρ' _ hag
  refine ⟨fun c => res11 m c, fun c => res12 m c, fun c => res13 m c, run m ρ, ?_⟩
  refine (θ_run Cert.Reference14Ideal.defs _ _).mono (fun r h c => ?_) (Cert.Reference14Ideal.Value.run (F := Ideal) m' ρ')
  obtain ⟨e0, e1, e2, e3, e4, e5, e6, e7, e8, e9, e10⟩ := hag c
  obtain ⟨h11, h12, h13, hk⟩ := h c
  refine ⟨h11.trans ?_, h12.trans ?_, h13.trans ?_, hk⟩
  · unfold Cert.Reference14Ideal.Value.res_main_v46
    rw [e0, e1, e2, e3, e4, e5, e6, e7, e8, e9, e10]; exact meet11 m c
  · unfold Cert.Reference14Ideal.Value.res_main_v48
    rw [e0, e1, e2, e3, e4, e5, e6, e7, e8, e9, e10]; exact meet12 m c
  · rw [e0, e2, e4, e5, e6, e7, e8, e9, e10]; exact meet13 m c

/-- The reference leaves its arguments as they were and no signal raised. -/
theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

end Cert.Proof.InProjBwdClaims

end
-- ==== Proof.SwaPrepBwdBlocks.lean ====
/-
  The rotary gradient's arrays, read by blocks. The grid has eight points; point t works on rows 512 t to 512 t + 511 of
  the projection's query and key columns, of the two angle tables and of the gradients, and on the whole of the two gains.
-/
module

public import proofs.«01_k».proof.Proof.Gen.Kernel15Ideal.Value
public import proofs.«01_k».proof.Proof.Coords

@[expose] public section

set_option maxRecDepth 16384

noncomputable section

namespace Cert.Kernel15Ideal.SwaPrepBwd

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem hz : (![0, 0] : Fin 2 → Nat) = fun _ => 0 := funext fun a => by fin_cases a <;> rfl

theorem start0 : ∀ t : Fin cfg0.N, win0_0.index t 0 = t.val ∧ win0_0.index t 1 = 3 := by decide +kernel

theorem start1 : ∀ t : Fin cfg0.N, win0_1.index t 0 = t.val ∧ win0_1.index t 1 = 16 := by decide +kernel

theorem start2 : ∀ t : Fin cfg0.N, win0_2.index t 0 = t.val ∧ win0_2.index t 1 = 0 := by decide +kernel

theorem start3 : ∀ t : Fin cfg0.N, win0_3.index t 0 = t.val ∧ win0_3.index t 1 = 0 := by decide +kernel

theorem start4 : ∀ t : Fin cfg0.N, win0_4.index t 0 = 0 ∧ win0_4.index t 1 = 0 := by decide +kernel

theorem start5 : ∀ t : Fin cfg0.N, win0_5.index t 0 = 0 ∧ win0_5.index t 1 = 0 := by decide +kernel

theorem start6 : ∀ t : Fin cfg0.N, win0_6.index t 0 = t.val ∧ win0_6.index t 1 = 0 := by decide +kernel

theorem start7 : ∀ t : Fin cfg0.N, win0_7.index t 0 = t.val ∧ win0_7.index t 1 = 0 := by decide +kernel

theorem start8 : ∀ t : Fin cfg0.N, win0_8.index t 0 = t.val ∧ win0_8.index t 1 = 0 := by decide +kernel

theorem start9 : ∀ t : Fin cfg0.N, win0_9.index t 0 = t.val ∧ win0_9.index t 1 = 0 := by decide +kernel

theorem start10 : ∀ t : Fin cfg0.N, win0_10.index t 0 = t.val ∧ win0_10.index t 1 = 0 := by decide +kernel

theorem start11 : ∀ t : Fin cfg0.N, win0_11.index t 0 = t.val ∧ win0_11.index t 1 = 0 := by decide +kernel

theorem start12 : ∀ t : Fin cfg0.N, win0_12.index t 0 = 0 ∧ win0_12.index t 1 = 0 := by decide +kernel

theorem start13 : ∀ t : Fin cfg0.N, win0_13.index t 0 = 0 ∧ win0_13.index t 1 = 0 := by decide +kernel

/-- Window 0, the projection at the queries: its block at an index. -/
theorem blk0 (c : Dev nD) (t : Fin cfg0.N) (r : Fin 512) (k : Fin 512) :
    X0_0 m c t (ix2 r k) = V m c main_v28 (ix2 (row t r) ⟨1536 + k.val, by have := k.isLt; omega⟩) := by
  show (cfg0.win 0).fill (grid0.coords t) dflt0_0 (iblk m c 0 t) (ix2 r k) = _
  unfold Pipeline.Window.fill
  rw [dif_pos (moved0_0 t (ix2 r k))]
  show V m c main_v28 ((win0_0.blk t).view.emb _) = _
  refine congrArg (V m c main_v28) (funext fun a => Fin.ext ?_)
  match a with
  | ⟨0, _⟩ =>
    show win0_0.index t 0 * 512 + 1 * r.val = 512 * t.val + r.val
    rw [(start0 t).1]; omega
  | ⟨1, _⟩ =>
    show win0_0.index t 1 * 512 + 1 * k.val = 1536 + k.val
    rw [(start0 t).2]; omega

/-- Window 1, the projection at the keys: its block at an index. -/
theorem blk1 (c : Dev nD) (t : Fin cfg0.N) (r : Fin 512) (k : Fin 128) :
    iblk m c 1 t (ix2 r k) = V m c main_v28 (ix2 (row t r) ⟨2048 + k.val, by have := k.isLt; omega⟩) := by
  show V m c main_v28 ((win0_1.blk t).view.emb (ix2 r k)) = _
  refine congrArg (V m c main_v28) (funext fun a => Fin.ext ?_)
  match a with
  | ⟨0, _⟩ =>
    show win0_1.index t 0 * 512 + 1 * r.val = 512 * t.val + r.val
    rw [(start1 t).1]; omega
  | ⟨1, _⟩ =>
    show win0_1.index t 1 * 128 + 1 * k.val = 2048 + k.val
    rw [(start1 t).2]; omega

/-- Window 2, the cosines: its block at an index. -/
theorem blk2 (c : Dev nD) (t : Fin cfg0.N) (r : Fin 512) (k : Fin 128) :
    iblk m c 2 t (ix2 r k) = V m c main_v22 (ix2 (row t r) k) := by
  show V m c main_v22 ((win0_2.blk t).view.emb (ix2 r k)) = _
  refine congrArg (V m c main_v22) (funext fun a => Fin.ext ?_)
  match a with
  | ⟨0, _⟩ =>
    show win0_2.index t 0 * 512 + 1 * r.val = 512 * t.val + r.val
    rw [(start2 t).1]; omega
  | ⟨1, _⟩ =>
    show win0_2.index t 1 * 128 + 1 * k.val = k.val
    rw [(start2 t).2]; omega

/-- Window 3, the sines: its block at an index. -/
theorem blk3 (c : Dev nD) (t : Fin cfg0.N) (r : Fin 512) (k : Fin 128) :
    iblk m c 3 t (ix2 r k) = V m c main_v27 (ix2 (row t r) k) := by
  show V m c main_v27 ((win0_3.blk t).view.emb (ix2 r k)) = _
  refine congrArg (V m c main_v27) (funext fun a => Fin.ext ?_)
  match a with
  | ⟨0, _⟩ =>
    show win0_3.index t 0 * 512 + 1 * r.val = 512 * t.val + r.val
    rw [(start3 t).1]; omega
  | ⟨1, _⟩ =>
    show win0_3.index t 1 * 128 + 1 * k.val = k.val
    rw [(start3 t).2]; omega

/-- Window 4, the queries' gain: its block at an index. -/
theorem blk4 (c : Dev nD) (t : Fin cfg0.N) (r : Fin 1) (k : Fin 128) :
    iblk m c 4 t (ix2 r k) = V m c main_v32 (ix2 (r) k) := by
  show V m c main_v32 ((win0_4.blk t).view.emb (ix2 r k)) = _
  refine congrArg (V m c main_v32) (funext fun a => Fin.ext ?_)
  match a with
  | ⟨0, _⟩ =>
    show win0_4.index t 0 * 1 + 1 * r.val = r.val
    rw [(start4 t).1]; omega
  | ⟨1, _⟩ =>
    show win0_4.index t 1 * 128 + 1 * k.val = k.val
    rw [(start4 t).2]; omega

/-- Window 5, the keys' gain: its block at an index. -/
theorem blk5 (c : Dev nD) (t : Fin cfg0.N) (r : Fin 1) (k : Fin 128) :
    iblk m c 5 t (ix2 r k) = V m c main_v36 (ix2 (r) k) := by
  show V m c main_v36 ((win0_5.blk t).view.emb (ix2 r k)) = _
  refine congrArg (V m c main_v36) (funext fun a => Fin.ext ?_)
  match a with
  | ⟨0, _⟩ =>
    show win0_5.index t 0 * 1 + 1 * r.val = r.val
    rw [(start5 t).1]; omega
  | ⟨1, _⟩ =>
    show win0_5.index t 1 * 128 + 1 * k.val = k.val
    rw [(start5 t).2]; omega

/-- Window 6, the gradient at the queries: its block at an index. -/
theorem blk6 (c : Dev nD) (t : Fin cfg0.N) (r : Fin 512) (k : Fin 512) :
    iblk m c 6 t (ix2 r k) = V m c main_arg3 (ix2 (row t r) k) := by
  show V m c main_arg3 ((win0_6.blk t).view.emb (ix2 r k)) = _
  refine congrArg (V m c main_arg3) (funext fun a => Fin.ext ?_)
  match a with
  | ⟨0, _⟩ =>
    show win0_6.index t 0 * 512 + 1 * r.val = 512 * t.val + r.val
    rw [(start6 t).1]; omega
  | ⟨1, _⟩ =>
    show win0_6.index t 1 * 512 + 1 * k.val = k.val
    rw [(start6 t).2]; omega

/-- Window 7, the gradient at the keys: its block at an index. -/
theorem blk7 (c : Dev nD) (t : Fin cfg0.N) (r : Fin 512) (k : Fin 128) :
    iblk m c 7 t (ix2 r k) = V m c main_arg4 (ix2 (row t r) k) := by
  show V m c main_arg4 ((win0_7.blk t).view.emb (ix2 r k)) = _
  refine congrArg (V m c main_arg4) (funext fun a => Fin.ext ?_)
  match a with
  | ⟨0, _⟩ =>
    show win0_7.index t 0 * 512 + 1 * r.val = 512 * t.val + r.val
    rw [(start7 t).1]; omega
  | ⟨1, _⟩ =>
    show win0_7.index t 1 * 128 + 1 * k.val = k.val
    rw [(start7 t).2]; omega

/-- Window 8, the gradient at the values: its block at an index. -/
theorem blk8 (c : Dev nD) (t : Fin cfg0.N) (r : Fin 512) (k : Fin 128) :
    iblk m c 8 t (ix2 r k) = V m c main_arg5 (ix2 (row t r) k) := by
  show V m c main_arg5 ((win0_8.blk t).view.emb (ix2 r k)) = _
  refine congrArg (V m c main_arg5) (funext fun a => Fin.ext ?_)
  match a with
  | ⟨0, _⟩ =>
    show win0_8.index t 0 * 512 + 1 * r.val = 512 * t.val + r.val
    rw [(start8 t).1]; omega
  | ⟨1, _⟩ =>
    show win0_8.index t 1 * 128 + 1 * k.val = k.val
    rw [(start8 t).2]; omega

/-- Window 9, the queries' gradient: an array read through its block at point `t`. -/
theorem read9 (A : Vec Ideal S4096x512 .bf16) (t : Fin cfg0.N) (r : Fin 512) (k : Fin 512) :
    ((win0_9.blk t).view.read (Elt Ideal) A : Vec Ideal S512x512 .bf16) (ix2 r k) = A (ix2 (row t r) k) := by
  show A ((win0_9.blk t).view.emb (ix2 r k)) = _
  refine congrArg A (funext fun a => Fin.ext ?_)
  match a with
  | ⟨0, _⟩ =>
    show win0_9.index t 0 * 512 + 1 * r.val = 512 * t.val + r.val
    rw [(start9 t).1]; omega
  | ⟨1, _⟩ =>
    show win0_9.index t 1 * 512 + 1 * k.val = k.val
    rw [(start9 t).2]; omega

/-- Its blocks fill its array. -/
theorem cover9 (i : S4096x512.Idx) : ∃ t : Fin cfg0.N, (cfg0.win 9).flush t = true ∧ i ∈ ((cfg0.win 9).blk t).view.set := by
  have h0 : (i 0).val < 4096 := (i 0).isLt
  have h1 : (i 1).val < 512 := (i 1).isLt
  have hN : cfg0.N = 8 := N_0
  refine ⟨⟨(i 0).val / 512, by omega⟩, flush0_9 _, ?_⟩
  generalize ht : (⟨(i 0).val / 512, by omega⟩ : Fin cfg0.N) = t
  have hv : t.val = (i 0).val / 512 := by rw [← ht]
  show i ∈ ((View.whole main_v37_0).slice (win0_9.rect t)).set
  rw [View.set_slice_whole, Rect.mem_set_unit]
  intro a
  match a with
  | ⟨0, _⟩ =>
    show win0_9.index t 0 * 512 ≤ (i 0).val ∧ (i 0).val < win0_9.index t 0 * 512 + 512
    rw [(start9 t).1]; omega
  | ⟨1, _⟩ =>
    show win0_9.index t 1 * 512 ≤ (i 1).val ∧ (i 1).val < win0_9.index t 1 * 512 + 512
    rw [(start9 t).2]; omega

/-- Window 10, the keys' gradient: an array read through its block at point `t`. -/
theorem read10 (A : Vec Ideal S4096x128 .bf16) (t : Fin cfg0.N) (r : Fin 512) (k : Fin 128) :
    ((win0_10.blk t).view.read (Elt Ideal) A : Vec Ideal S512x128 .bf16) (ix2 r k) = A (ix2 (row t r) k) := by
  show A ((win0_10.blk t).view.emb (ix2 r k)) = _
  refine congrArg A (funext fun a => Fin.ext ?_)
  match a with
  | ⟨0, _⟩ =>
    show win0_10.index t 0 * 512 + 1 * r.val = 512 * t.val + r.val
    rw [(start10 t).1]; omega
  | ⟨1, _⟩ =>
    show win0_10.index t 1 * 128 + 1 * k.val = k.val
    rw [(start10 t).2]; omega

/-- Its blocks fill its array. -/
theorem cover10 (i : S4096x128.Idx) : ∃ t : Fin cfg0.N, (cfg0.win 10).flush t = true ∧ i ∈ ((cfg0.win 10).blk t).view.set := by
  have h0 : (i 0).val < 4096 := (i 0).isLt
  have h1 : (i 1).val < 128 := (i 1).isLt
  have hN : cfg0.N = 8 := N_0
  refine ⟨⟨(i 0).val / 512, by omega⟩, flush0_10 _, ?_⟩
  generalize ht : (⟨(i 0).val / 512, by omega⟩ : Fin cfg0.N) = t
  have hv : t.val = (i 0).val / 512 := by rw [← ht]
  show i ∈ ((View.whole main_v37_1).slice (win0_10.rect t)).set
  rw [View.set_slice_whole, Rect.mem_set_unit]
  intro a
  match a with
  | ⟨0, _⟩ =>
    show win0_10.index t 0 * 512 ≤ (i 0).val ∧ (i 0).val < win0_10.index t 0 * 512 + 512
    rw [(start10 t).1]; omega
  | ⟨1, _⟩ =>
    show win0_10.index t 1 * 128 ≤ (i 1).val ∧ (i 1).val < win0_10.index t 1 * 128 + 128
    rw [(start10 t).2]; omega

/-- Window 11, the values' gradient: an array read through its block at point `t`. -/
theorem read11 (A : Vec Ideal S4096x128 .bf16) (t : Fin cfg0.N) (r : Fin 512) (k : Fin 128) :
    ((win0_11.blk t).view.read (Elt Ideal) A : Vec Ideal S512x128 .bf16) (ix2 r k) = A (ix2 (row t r) k) := by
  show A ((win0_11.blk t).view.emb (ix2 r k)) = _
  refine congrArg A (funext fun a => Fin.ext ?_)
  match a with
  | ⟨0, _⟩ =>
    show win0_11.index t 0 * 512 + 1 * r.val = 512 * t.val + r.val
    rw [(start11 t).1]; omega
  | ⟨1, _⟩ =>
    show win0_11.index t 1 * 128 + 1 * k.val = k.val
    rw [(start11 t).2]; omega

/-- Its blocks fill its array. -/
theorem cover11 (i : S4096x128.Idx) : ∃ t : Fin cfg0.N, (cfg0.win 11).flush t = true ∧ i ∈ ((cfg0.win 11).blk t).view.set := by
  have h0 : (i 0).val < 4096 := (i 0).isLt
  have h1 : (i 1).val < 128 := (i 1).isLt
  have hN : cfg0.N = 8 := N_0
  refine ⟨⟨(i 0).val / 512, by omega⟩, flush0_11 _, ?_⟩
  generalize ht : (⟨(i 0).val / 512, by omega⟩ : Fin cfg0.N) = t
  have hv : t.val = (i 0).val / 512 := by rw [← ht]
  show i ∈ ((View.whole main_v37_2).slice (win0_11.rect t)).set
  rw [View.set_slice_whole, Rect.mem_set_unit]
  intro a
  match a with
  | ⟨0, _⟩ =>
    show win0_11.index t 0 * 512 ≤ (i 0).val ∧ (i 0).val < win0_11.index t 0 * 512 + 512
    rw [(start11 t).1]; omega
  | ⟨1, _⟩ =>
    show win0_11.index t 1 * 128 ≤ (i 1).val ∧ (i 1).val < win0_11.index t 1 * 128 + 128
    rw [(start11 t).2]; omega

/-- Window 12, the gradient of the queries' gain: an array read through its block at point `t`. -/
theorem read12 (A : Vec Ideal S1x512 .f32) (t : Fin cfg0.N) (r : Fin 1) (k : Fin 512) :
    ((win0_12.blk t).view.read (Elt Ideal) A : Vec Ideal S1x512 .f32) (ix2 r k) = A (ix2 (r) k) := by
  show A ((win0_12.blk t).view.emb (ix2 r k)) = _
  refine congrArg A (funext fun a => Fin.ext ?_)
  match a with
  | ⟨0, _⟩ =>
    show win0_12.index t 0 * 1 + 1 * r.val = r.val
    rw [(start12 t).1]; omega
  | ⟨1, _⟩ =>
    show win0_12.index t 1 * 512 + 1 * k.val = k.val
    rw [(start12 t).2]; omega

/-- Its blocks fill its array. -/
theorem cover12 (i : S1x512.Idx) : ∃ t : Fin cfg0.N, (cfg0.win 12).flush t = true ∧ i ∈ ((cfg0.win 12).blk t).view.set := by
  have h0 : (i 0).val < 1 := (i 0).isLt
  have h1 : (i 1).val < 512 := (i 1).isLt
  have hN : cfg0.N = 8 := N_0
  refine ⟨⟨7, by omega⟩, (flush0_12 _).mpr rfl, ?_⟩
  generalize (⟨7, by omega⟩ : Fin cfg0.N) = t
  show i ∈ ((View.whole main_v37_3).slice (win0_12.rect t)).set
  rw [View.set_slice_whole, Rect.mem_set_unit]
  intro a
  match a with
  | ⟨0, _⟩ =>
    show win0_12.index t 0 * 1 ≤ (i 0).val ∧ (i 0).val < win0_12.index t 0 * 1 + 1
    rw [(start12 t).1]; omega
  | ⟨1, _⟩ =>
    show win0_12.index t 1 * 512 ≤ (i 1).val ∧ (i 1).val < win0_12.index t 1 * 512 + 512
    rw [(start12 t).2]; omega

/-- Window 13, the gradient of the keys' gain: an array read through its block at point `t`. -/
theorem read13 (A : Vec Ideal S1x128 .f32) (t : Fin cfg0.N) (r : Fin 1) (k : Fin 128) :
    ((win0_13.blk t).view.read (Elt Ideal) A : Vec Ideal S1x128 .f32) (ix2 r k) = A (ix2 (r) k) := by
  show A ((win0_13.blk t).view.emb (ix2 r k)) = _
  refine congrArg A (funext fun a => Fin.ext ?_)
  match a with
  | ⟨0, _⟩ =>
    show win0_13.index t 0 * 1 + 1 * r.val = r.val
    rw [(start13 t).1]; omega
  | ⟨1, _⟩ =>
    show win0_13.index t 1 * 128 + 1 * k.val = k.val
    rw [(start13 t).2]; omega

/-- Its blocks fill its array. -/
theorem cover13 (i : S1x128.Idx) : ∃ t : Fin cfg0.N, (cfg0.win 13).flush t = true ∧ i ∈ ((cfg0.win 13).blk t).view.set := by
  have h0 : (i 0).val < 1 := (i 0).isLt
  have h1 : (i 1).val < 128 := (i 1).isLt
  have hN : cfg0.N = 8 := N_0
  refine ⟨⟨7, by omega⟩, (flush0_13 _).mpr rfl, ?_⟩
  generalize (⟨7, by omega⟩ : Fin cfg0.N) = t
  show i ∈ ((View.whole main_v37_4).slice (win0_13.rect t)).set
  rw [View.set_slice_whole, Rect.mem_set_unit]
  intro a
  match a with
  | ⟨0, _⟩ =>
    show win0_13.index t 0 * 1 ≤ (i 0).val ∧ (i 0).val < win0_13.index t 0 * 1 + 1
    rw [(start13 t).1]; omega
  | ⟨1, _⟩ =>
    show win0_13.index t 1 * 128 ≤ (i 1).val ∧ (i 1).val < win0_13.index t 1 * 128 + 128
    rw [(start13 t).2]; omega

end Cert.Kernel15Ideal.SwaPrepBwd

end
-- ==== Proof.HeadNorm.lean ====
/-
  The norm of one head's 64 numbers with a gain, then the rotation of its two halves, and the gradient of the two: the
  kernels' form, the form that comes out of differentiating operation by operation, and that they agree for all extended
  reals.
-/
module

public import proofs.«01_k».proof.Proof.NormBwd

@[expose] public section

noncomputable section

namespace Cert.HeadNorm

open Idealize.ShloMosaic Cert.NormBwd

/-- The width of a head, as its bits. -/
abbrev w64 : EReal := Ideal.ofBits .f32 0x42800000#32
/-- Its reciprocal, as its bits. -/
abbrev inv64 : EReal := Ideal.ofBits .f32 0x3C800000#32

theorem w64_eq : w64 = ((64 : ℝ) : EReal) := by
  simp [w64, Ideal.ofBits, Ideal.ieee, -EReal.coe_mul]; norm_num

theorem inv64_eq : inv64 = ((1 / 64 : ℝ) : EReal) := by
  simp [inv64, Ideal.ofBits, Ideal.ieee, -EReal.coe_mul]; norm_num

theorem div64 (a : EReal) : Ideal.div a w64 = a * inv64 := by
  rw [w64_eq, inv64_eq, Ideal.div_coe (by norm_num)]

/-- A head's mean square, the small constant added. -/
def meanSq (X : Fin 64 → EReal) : EReal := (∑ j, X j * X j) * inv64 + tiny

/-- Its reciprocal root. -/
def root (X : Fin 64 → EReal) : EReal := Ideal.rsqrt (meanSq X)

theorem meanSq_pos (X : Fin 64 → EReal) : 0 < meanSq X := by
  have h : 0 ≤ (∑ j, X j * X j) * inv64 := by
    rw [inv64_eq]
    exact mul_nonneg (Finset.sum_nonneg fun j _ => square_nonneg _) (by exact_mod_cast (by norm_num : (0 : ℝ) ≤ 1 / 64))
  exact lt_of_lt_of_le tiny_pos (le_add_of_nonneg_left h)

/-- Position `k` of the first half of a head. -/
abbrev lo (k : Fin 32) : Fin 64 := ⟨k.val, by have := k.isLt; omega⟩
/-- Position `k` of the second half. -/
abbrev hi (k : Fin 32) : Fin 64 := ⟨32 + k.val, by have := k.isLt; omega⟩
/-- A position within its half. -/
abbrev half (k : Fin 64) : Fin 32 := ⟨k.val % 32, Nat.mod_lt _ (by norm_num)⟩

/-- The rotation of a head's two halves by the angles whose cosines and sines are `C` and `S`. -/
def turn (Y : Fin 64 → EReal) (C S : Fin 32 → EReal) (k : Fin 64) : EReal :=
  if k.val < 32 then Y k * C (half k) + -(Y (hi (half k)) * S (half k)) else Y k * C (half k) + Y (lo (half k)) * S (half k)

/-- The rotation's gradient: back by the same angles. -/
def back (D : Fin 64 → EReal) (C S : Fin 32 → EReal) (k : Fin 64) : EReal :=
  if k.val < 32 then D k * C (half k) + D (hi (half k)) * S (half k) else D k * C (half k) + -(D (lo (half k)) * S (half k))

/-- A head, normalised, with its gain. -/
def normed (X G : Fin 64 → EReal) (k : Fin 64) : EReal := X k * root X * G k

/-- The gradient of a normalised head. -/
def headBwd (D X G : Fin 64 → EReal) (k : Fin 64) : EReal :=
  root X * (D k * G k) - X k * (root X * root X * root X * ((∑ j, D j * G j * X j) * inv64))

/-- One head's term of the gain's gradient. -/
def headGain (D X : Fin 64 → EReal) (k : Fin 64) : EReal := D k * (X k * root X)

theorem half_twice (T : EReal) (s : ℝ) (hs : 0 < s) :
    T * ((-(s / 128) : ℝ) : EReal) + T * ((-(s / 128) : ℝ) : EReal) = -(T * ((s / 64 : ℝ) : EReal)) := by
  have h1 : (-(s / 128) : ℝ) < 0 := by have : 0 < s / 128 := by positivity
                                       linarith
  have h2 : (0 : ℝ) < s / 64 := by positivity
  induction T using EReal.rec with
  | bot => rw [EReal.bot_mul_coe_of_neg h1, EReal.bot_mul_coe_of_pos h2]; rfl
  | top => rw [EReal.top_mul_coe_of_neg h1, EReal.top_mul_coe_of_pos h2]; rfl
  | coe t =>
    have e : t * (-(s / 128)) + t * (-(s / 128)) = -(t * (s / 64)) := by ring
    exact_mod_cast e

/-- The mean's share, from the derivative of the reciprocal root. -/
theorem share (v S x : EReal) (hv : 0 < v) :
    x * (S * (mhalf * Ideal.div (Ideal.rsqrt v) v) * inv64) + S * (mhalf * Ideal.div (Ideal.rsqrt v) v) * inv64 * x
      = -(x * (Ideal.rsqrt v * Ideal.rsqrt v * Ideal.rsqrt v * (S * inv64))) := by
  rw [mul_comm (S * (mhalf * Ideal.div (Ideal.rsqrt v) v) * inv64) x, inv64_eq]
  induction v using EReal.rec with
  | bot => exact absurd hv (by simp)
  | top => simp [Ideal.div]
  | coe w =>
    have hw : 0 < w := by exact_mod_cast hv
    have hs : 0 < (Real.sqrt w)⁻¹ := by positivity
    have hss : (Real.sqrt w)⁻¹ * (Real.sqrt w)⁻¹ = 1 / w := by
      rw [← mul_inv, Real.mul_self_sqrt hw.le, one_div]
    have e : Ideal.rsqrt (w : EReal) = (((Real.sqrt w)⁻¹ : ℝ) : EReal) := by
      rw [Ideal.rsqrt_coe, if_neg hw.not_gt, if_neg hw.ne']
    rw [e, Ideal.div_coe hw.ne', mhalf_eq, ← hss]
    generalize (Real.sqrt w)⁻¹ = s at hs
    have hc : 0 < s * s * s := by positivity
    have l : x * (S * (((-(1 / 2) : ℝ) : EReal) * ((s : EReal) * ((s * s : ℝ) : EReal))) * ((1 / 64 : ℝ) : EReal))
        = x * S * ((-(s * s * s / 128) : ℝ) : EReal) := by
      rw [mul_assoc S, ← mul_assoc x, ← EReal.coe_mul, ← EReal.coe_mul, ← EReal.coe_mul]
      congr 2; ring
    have r : x * ((s : EReal) * (s : EReal) * (s : EReal) * (S * ((1 / 64 : ℝ) : EReal)))
        = x * S * ((s * s * s / 64 : ℝ) : EReal) := by
      rw [← EReal.coe_mul, ← EReal.coe_mul, mul_left_comm _ S, ← EReal.coe_mul, ← mul_assoc x]
      congr 2; ring
    rw [l, r, half_twice _ _ hc]

/-- The two forms of the gradient agree. -/
theorem headBwd_eq (D X G : Fin 64 → EReal) (k : Fin 64) :
    D k * G k * root X
        + X k * ((∑ j, X j * (D j * G j)) * (mhalf * Ideal.div (root X) (meanSq X)) * inv64)
        + (∑ j, X j * (D j * G j)) * (mhalf * Ideal.div (root X) (meanSq X)) * inv64 * X k
      = headBwd D X G k := by
  have hS : (∑ j, X j * (D j * G j)) = ∑ j, D j * G j * X j := Finset.sum_congr rfl fun j _ => mul_comm _ _
  rw [hS, add_assoc (D k * G k * root X), root, share _ _ _ (meanSq_pos X), mul_comm _ (Ideal.rsqrt _), ← sub_eq_add_neg]
  rfl

/-- A sum over two heads' lanes of which only the first head's count. -/
theorem sum_first (f : Fin 128 → EReal) :
    (∑ j : Fin 128, if j.val < 64 then f j else 0) = ∑ k : Fin 64, f ⟨k.val, by have := k.isLt; omega⟩ := by
  refine (Fin.sum_univ_add (a := 64) (b := 64) (fun j : Fin (64 + 64) => if j.val < 64 then f j else 0)).trans ?_
  have h2 : (∑ i : Fin 64, (if (Fin.natAdd 64 i : Fin 128).val < 64 then f (Fin.natAdd 64 i) else 0)) = 0 := by
    refine Finset.sum_eq_zero fun i _ => ?_
    rw [if_neg]; simp [Fin.natAdd]
  rw [h2, add_zero]
  refine Finset.sum_congr rfl fun i _ => ?_
  rw [if_pos (by simpa using i.isLt)]
  rfl

/-- And of which only the second head's count. -/
theorem sum_second (f : Fin 128 → EReal) :
    (∑ j : Fin 128, if j.val < 64 then 0 else f j) = ∑ k : Fin 64, f ⟨64 + k.val, by have := k.isLt; omega⟩ := by
  refine (Fin.sum_univ_add (a := 64) (b := 64) (fun j : Fin (64 + 64) => if j.val < 64 then 0 else f j)).trans ?_
  have h1 : (∑ i : Fin 64, (if (Fin.castAdd 64 i : Fin 128).val < 64 then 0 else f (Fin.castAdd 64 i))) = 0 := by
    refine Finset.sum_eq_zero fun i _ => ?_
    rw [if_pos]; simp [Fin.castAdd]
  rw [h1, zero_add]
  refine Finset.sum_congr rfl fun i _ => ?_
  rw [if_neg (by simp [Fin.natAdd])]
  rfl

end Cert.HeadNorm

end
-- ==== Proof.SwaPrepBwdLanes.lean ====
/-
  One block of the rotary gradient: 512 rows of 128 lanes, which are two heads of 64. The payloads of the call's five
  blocks (four of q, one of k) are this one function of the block's arrays; read at a row, a head and a position within the
  head it is `headBwd` and `headGain`.
-/
module

public import proofs.«01_k».proof.Proof.Gen.Kernel15Ideal.Skeleton
public import proofs.«01_k».proof.Proof.Coords
public import proofs.«01_k».proof.Proof.HeadNorm
public import Idealize.ShloMosaic.Lib.Pointwise

@[expose] public section

set_option maxRecDepth 16384

noncomputable section

namespace Cert.Kernel15Ideal.SwaPrepBwd

open Cert.Kernel15Ideal Cert.Kernel15Ideal.Gen Cert.Coords Cert.HeadNorm Cert.NormBwd Idealize.ShloMosaic Idealize.ShloMosaic.TcCoe Idealize.SL.Sem

/-- Lane `k` of head `h`. -/
abbrev lane (h : Fin 2) (k : Fin 64) : Fin 128 := ⟨64 * h.val + k.val, by have := h.isLt; have := k.isLt; omega⟩

/-- The lanes of the first half of a head. -/
def isFirst : IVec S512x128 1 := broadcastTo S512x128 k0_pay12 broadcasts_S1x128_S512x128
/-- The lanes of the first head. -/
def isLow : IVec S512x128 1 := k0_pay21

theorem first_lane : ∀ l : Fin 128, k0_pay12 (ix2 (0 : Fin 1) l) = if l.val % 64 < 32 then 1#1 else 0#1 := by decide +kernel
theorem low_lane : ∀ l : Fin 128, k0_pay19 (ix2 (0 : Fin 1) l) = if l.val < 64 then 1#1 else 0#1 := by decide +kernel

theorem isFirst_apply (r : Fin 512) (l : Fin 128) : isFirst (ix2 r l) = if l.val % 64 < 32 then 1#1 else 0#1 := by
  rw [← first_lane l]
  pointwise [isFirst]

theorem isLow_apply (r : Fin 512) (l : Fin 128) : isLow (ix2 r l) = if l.val < 64 then 1#1 else 0#1 := by
  rw [← low_lane l]
  pointwise [isLow, k0_pay21]

/-- The halves of each head exchanged. -/
def rot (v : FVec Ideal S512x128 .f32) : FVec Ideal S512x128 .f32 :=
  select isFirst (dynamicRotate 1 96#32 none v rotates_S512x128_d1) (dynamicRotate 1 32#32 none v rotates_S512x128_d1)

/-- Each head's mean, in every lane of the head. -/
def hmean (v : FVec Ideal S512x128 .f32) : FVec Ideal S512x128 .f32 :=
  mulf (select isLow
    (broadcastTo S512x128 (shapeCast S512x1 (shapeCast S512x1 (multiReduction .add [1] S512 (select isLow v (broadcast S512x128 (Scalar.ofBits (F := Ideal) .f32 0x00000000#32))) 0x00000000#32 reduces_S512x128_S512 (.inl rfl) rfl) shapeCasts_S512_S512x1) shapeCasts_S512x1_S512x1) broadcasts_S512x1_S512x128)
    (broadcastTo S512x128 (shapeCast S512x1 (shapeCast S512x1 (multiReduction .add [1] S512 (select isLow (broadcast S512x128 (Scalar.ofBits (F := Ideal) .f32 0x00000000#32)) v) 0x00000000#32 reduces_S512x128_S512 (.inl rfl) rfl) shapeCasts_S512_S512x1) shapeCasts_S512x1_S512x1) broadcasts_S512x1_S512x128))
    (broadcast S512x128 (Scalar.ofBits (F := Ideal) .f32 0x3C800000#32))

theorem rot_first (v : FVec Ideal S512x128 .f32) (r : Fin 512) (h : Fin 2) (k : Fin 64) (hk : k.val < 32) :
    rot v (ix2 r (lane h k)) = v (ix2 r (lane h (hi (half k)))) := by
  have hh := h.isLt
  show (if isFirst (ix2 r (lane h k)) = 1#1 then dynamicRotate 1 96#32 none v rotates_S512x128_d1 (ix2 r (lane h k)) else dynamicRotate 1 32#32 none v rotates_S512x128_d1 (ix2 r (lane h k))) = _
  rw [isFirst_apply, if_pos (show (lane h k).val % 64 < 32 by show (64 * h.val + k.val) % 64 < 32; omega), if_pos rfl]
  refine (Pointwise.dynamicRotate_apply _ _ _ _ _ _).trans (congrArg v (funext fun a => Fin.ext ?_))
  match a with
  | ⟨0, _⟩ => rfl
  | ⟨1, _⟩ =>
    show (64 * h.val + k.val + 128 - 96 % 128) % 128 = 64 * h.val + (32 + k.val % 32)
    omega

theorem rot_second (v : FVec Ideal S512x128 .f32) (r : Fin 512) (h : Fin 2) (k : Fin 64) (hk : ¬k.val < 32) :
    rot v (ix2 r (lane h k)) = v (ix2 r (lane h (lo (half k)))) := by
  have hh := h.isLt
  have hk' := k.isLt
  show (if isFirst (ix2 r (lane h k)) = 1#1 then dynamicRotate 1 96#32 none v rotates_S512x128_d1 (ix2 r (lane h k)) else dynamicRotate 1 32#32 none v rotates_S512x128_d1 (ix2 r (lane h k))) = _
  rw [isFirst_apply, if_neg (show ¬(lane h k).val % 64 < 32 by show ¬(64 * h.val + k.val) % 64 < 32; omega), if_neg (by decide)]
  refine (Pointwise.dynamicRotate_apply _ _ _ _ _ _).trans (congrArg v (funext fun a => Fin.ext ?_))
  match a with
  | ⟨0, _⟩ => rfl
  | ⟨1, _⟩ =>
    show (64 * h.val + k.val + 128 - 32 % 128) % 128 = 64 * h.val + k.val % 32
    omega

theorem hmean_apply (v : FVec Ideal S512x128 .f32) (r : Fin 512) (h : Fin 2) (k : Fin 64) :
    hmean v (ix2 r (lane h k)) = (∑ j : Fin 64, v (ix2 r (lane h j))) * inv64 := by
  have e : hmean v (ix2 r (lane h k)) = (if isLow (ix2 r (lane h k)) = 1#1
      then ∑ j : Fin 128, (if isLow (ix2 r j) = 1#1 then v (ix2 r j) else 0)
      else ∑ j : Fin 128, (if isLow (ix2 r j) = 1#1 then 0 else v (ix2 r j))) * inv64 := by
    unfold hmean
    generalize isLow = low
    pointwise
    rfl
  rw [e]
  have d : ∀ (l : Fin 128) (a b : EReal), (if isLow (ix2 r l) = 1#1 then a else b) = if l.val < 64 then a else b := by
    intro l a b
    rw [isLow_apply]
    by_cases hl : l.val < 64 <;> simp [hl]
  simp only [d]
  rw [sum_first, sum_second]
  by_cases hh : h.val = 0
  · rw [if_pos (show (lane h k).val < 64 by show 64 * h.val + k.val < 64; have := k.isLt; omega)]
    refine congrArg (· * inv64) (Finset.sum_congr rfl fun j _ => congrArg (fun l => v (ix2 r l)) (Fin.ext ?_))
    show j.val = 64 * h.val + j.val
    omega
  · have := h.isLt
    rw [if_neg (show ¬(lane h k).val < 64 by show ¬64 * h.val + k.val < 64; omega)]
    refine congrArg (· * inv64) (Finset.sum_congr rfl fun j _ => congrArg (fun l => v (ix2 r l)) (Fin.ext ?_))
    show 64 + j.val = 64 * h.val + j.val
    omega

section Block

variable (x : Vec Ideal S512x128 .bf16) (g : Vec Ideal S1x128 .f32) (cs sn d : Vec Ideal S512x128 .f32) (acc : Vec Ideal S1x128 .f32)

/-- The block's rows, in f32. -/
def xB : FVec Ideal S512x128 .f32 := extf .f32 (shapeCast S512x128 x shapeCasts_S512x128_S512x128) bitsLt_bf16_f32
/-- The reciprocal roots. -/
def rB : FVec Ideal S512x128 .f32 := rsqrt (addf (hmean (mulf (xB x) (xB x))) (broadcast S512x128 (Scalar.ofBits (F := Ideal) .f32 0x358637BD#32)))
/-- The gradient before the rotation. -/
def dyB : FVec Ideal S512x128 .f32 :=
  addf (mulf d (shapeCast S512x128 cs shapeCasts_S512x128_S512x128)) (rot (mulf d (shapeCast S512x128 sn shapeCasts_S512x128_S512x128)))
/-- It times the gain. -/
def dygB : FVec Ideal S512x128 .f32 := mulf (dyB cs sn d) (broadcastTo S512x128 (shapeCast S1x128 g shapeCasts_S1x128_S1x128) broadcasts_S1x128_S512x128)
/-- The block's gradient. -/
def dxB : FVec Ideal S512x128 .bf16 :=
  truncf .bf16 (subf (mulf (rB x) (dygB g cs sn d)) (mulf (xB x) (mulf (mulf (mulf (rB x) (rB x)) (rB x)) (hmean (mulf (dygB g cs sn d) (xB x)))))) bitsLt_bf16_f32
/-- What the block adds to the gain's gradient `acc`. -/
def dgB : FVec Ideal S1x128 .f32 :=
  addf (shapeCast S1x128 acc shapeCasts_S1x128_S1x128) (shapeCast S1x128 (multiReduction .add [0] S128 (mulf (dyB cs sn d) (mulf (xB x) (rB x))) 0x00000000#32 reduces_S512x128_S128 (.inl rfl) rfl) shapeCasts_S128_S1x128)

/-- The rows of head `h`, as a function of the position. -/
abbrev hd (v : Fin 512 → Fin 128 → EReal) (r : Fin 512) (h : Fin 2) : Fin 64 → EReal := fun k => v r (lane h k)

theorem xB_apply (r : Fin 512) (l : Fin 128) : xB x (ix2 r l) = x (ix2 r l) := by pointwise [xB]

theorem rB_apply (r : Fin 512) (h : Fin 2) (k : Fin 64) : rB x (ix2 r (lane h k)) = root (hd (at2 x) r h) := by
  have e : rB x (ix2 r (lane h k)) = Ideal.rsqrt (hmean (mulf (xB x) (xB x)) (ix2 r (lane h k)) + tiny) := by
    unfold rB
    generalize hmean (mulf (xB x) (xB x)) = y
    pointwise
  rw [e, hmean_apply]
  refine congrArg (fun s => Ideal.rsqrt (s * inv64 + tiny)) (Finset.sum_congr rfl fun j _ => ?_)
  show xB x (ix2 r (lane h j)) * xB x (ix2 r (lane h j)) = _
  rw [xB_apply]

/-- The angles' tables, which repeat in every half of a head, the sine's sign turned in the first half. -/
structure Tables (C S : Fin 512 → Fin 32 → EReal) : Prop where
  cos : ∀ r h k, cs (ix2 r (lane h k)) = C r (half k)
  sin : ∀ r h (k : Fin 64), sn (ix2 r (lane h k)) = if k.val < 32 then -S r (half k) else S r (half k)

variable {C S : Fin 512 → Fin 32 → EReal}

theorem dyB_apply (T : Tables cs sn C S) (r : Fin 512) (h : Fin 2) (k : Fin 64) :
    dyB cs sn d (ix2 r (lane h k)) = back (hd (at2 d) r h) (C r) (S r) k := by
  have e : dyB cs sn d (ix2 r (lane h k)) = d (ix2 r (lane h k)) * cs (ix2 r (lane h k))
      + rot (mulf d (shapeCast S512x128 sn shapeCasts_S512x128_S512x128)) (ix2 r (lane h k)) := by
    unfold dyB
    generalize rot (mulf d (shapeCast S512x128 sn shapeCasts_S512x128_S512x128)) = y
    pointwise
  have f : ∀ l : Fin 128, (mulf d (shapeCast S512x128 sn shapeCasts_S512x128_S512x128) : FVec Ideal S512x128 .f32) (ix2 r l) = d (ix2 r l) * sn (ix2 r l) := by
    intro l
    pointwise
  have hk := k.isLt
  rw [e, T.cos]
  unfold back
  by_cases hlt : k.val < 32
  · rw [rot_first _ _ _ _ hlt, f, T.sin, if_neg (show ¬(hi (half k)).val < 32 by show ¬32 + k.val % 32 < 32; omega), if_pos hlt,
      show half (hi (half k)) = half k from Fin.ext (by show (32 + k.val % 32) % 32 = k.val % 32; omega)]
  · rw [rot_second _ _ _ _ hlt, f, T.sin, if_pos (show (lo (half k)).val < 32 by show k.val % 32 < 32; omega), if_neg hlt,
      show half (lo (half k)) = half k from Fin.ext (by show k.val % 32 % 32 = k.val % 32; omega), mul_neg]

theorem dygB_apply (T : Tables cs sn C S) {G : Fin 64 → EReal} (hG : ∀ h k, g (ix2 (0 : Fin 1) (lane h k)) = G k) (r : Fin 512) (h : Fin 2) (k : Fin 64) :
    dygB g cs sn d (ix2 r (lane h k)) = back (hd (at2 d) r h) (C r) (S r) k * G k := by
  have e : dygB g cs sn d (ix2 r (lane h k)) = dyB cs sn d (ix2 r (lane h k)) * g (ix2 (0 : Fin 1) (lane h k)) := by
    unfold dygB
    generalize dyB cs sn d = y
    pointwise
  rw [e, dyB_apply cs sn d T, hG]

/-- The block's gradient at a head's position. -/
theorem dxB_apply (T : Tables cs sn C S) {G : Fin 64 → EReal} (hG : ∀ h k, g (ix2 (0 : Fin 1) (lane h k)) = G k) (r : Fin 512) (h : Fin 2) (k : Fin 64) :
    dxB x g cs sn d (ix2 r (lane h k)) = headBwd (back (hd (at2 d) r h) (C r) (S r)) (hd (at2 x) r h) G k := by
  have e : dxB x g cs sn d (ix2 r (lane h k)) = rB x (ix2 r (lane h k)) * dygB g cs sn d (ix2 r (lane h k))
      - xB x (ix2 r (lane h k)) * (rB x (ix2 r (lane h k)) * rB x (ix2 r (lane h k)) * rB x (ix2 r (lane h k))
        * hmean (mulf (dygB g cs sn d) (xB x)) (ix2 r (lane h k))) := by
    unfold dxB
    generalize hmean (mulf (dygB g cs sn d) (xB x)) = y
    generalize dygB g cs sn d = z
    generalize rB x = w
    generalize xB x = u
    pointwise
  rw [e, rB_apply, dygB_apply g cs sn d T hG, xB_apply, hmean_apply]
  unfold headBwd
  refine congrArg (fun s => root (hd (at2 x) r h) * (back (hd (at2 d) r h) (C r) (S r) k * G k)
    - x (ix2 r (lane h k)) * (root (hd (at2 x) r h) * root (hd (at2 x) r h) * root (hd (at2 x) r h) * (s * inv64))) (Finset.sum_congr rfl fun j _ => ?_)
  show dygB g cs sn d (ix2 r (lane h j)) * xB x (ix2 r (lane h j)) = _
  rw [dygB_apply g cs sn d T hG, xB_apply]

/-- What the block adds to the gain's gradient, at a head's position. -/
theorem dgB_apply (T : Tables cs sn C S) (h : Fin 2) (k : Fin 64) :
    dgB x cs sn d acc (ix2 (0 : Fin 1) (lane h k))
      = acc (ix2 (0 : Fin 1) (lane h k)) + ∑ r, headGain (back (hd (at2 d) r h) (C r) (S r)) (hd (at2 x) r h) k := by
  have e : dgB x cs sn d acc (ix2 (0 : Fin 1) (lane h k)) = acc (ix2 (0 : Fin 1) (lane h k))
      + ∑ r : Fin 512, dyB cs sn d (ix2 r (lane h k)) * (xB x (ix2 r (lane h k)) * rB x (ix2 r (lane h k))) := by
    unfold dgB
    generalize dyB cs sn d = z
    generalize rB x = w
    generalize xB x = u
    pointwise
  rw [e]
  refine congrArg (acc (ix2 (0 : Fin 1) (lane h k)) + ·) (Finset.sum_congr rfl fun r _ => ?_)
  rw [dyB_apply cs sn d T, xB_apply, rB_apply]
  rfl

end Block

end Cert.Kernel15Ideal.SwaPrepBwd

end
-- ==== Proof.SwaPrepBwdCases.lean ====
/-
  What a point of the rotary gradient leaves. The queries' block is stored in four pieces of 128 columns, two heads each,
  and so is the gradient of their gain; the keys' block is one piece. Every piece is the same function of its columns.
-/
module

public import proofs.«01_k».proof.Proof.Gen.Kernel15Ideal.Frame
public import proofs.«01_k».proof.Proof.SwaPrepBwdLanes

@[expose] public section

set_option maxRecDepth 16384

noncomputable section

namespace Cert.Kernel15Ideal.SwaPrepBwd

open Cert.Kernel15Ideal Cert.Kernel15Ideal.Gen Cert.Coords Cert.HeadNorm Cert.NormBwd Idealize.ShloMosaic Idealize.ShloMosaic.TcCoe Idealize.SL.Sem

theorem zero2 : (![0, 0] : Fin 2 → Nat) = fun _ => 0 := funext fun a => by fin_cases a <;> rfl

/-- No gradient yet. -/
def none128 : Vec Ideal S1x128 .f32 := fun _ => (0 : EReal)

theorem zero512 : k0_pay2 (F := Ideal) = fun _ => (0 : EReal) := by
  funext (i : S1x512.Idx)
  obtain ⟨a, b, rfl⟩ : ∃ (a : Fin 1) (b : Fin 512), i = ix2 a b := ⟨i 0, i 1, eq_ix2 i⟩
  pointwise [k0_pay2]

theorem zero128 : k0_pay3 (F := Ideal) = none128 := by
  funext (i : S1x128.Idx)
  obtain ⟨a, b, rfl⟩ : ∃ (a : Fin 1) (b : Fin 128), i = ix2 a b := ⟨i 0, i 1, eq_ix2 i⟩
  unfold none128
  pointwise [k0_pay3]

/-- Column `l` of piece 0, the queries' piece 0 and the gain's. -/
abbrev col0 (l : Fin 128) : Fin 512 := ⟨0 + l.val, by have := l.isLt; omega⟩
abbrev box0 : Rect S512x512 := Rect.unit (s := S512x512) ![0, 0] S512x128.size inb_S512x512_S512x128_0_0
abbrev gbox0 : Rect S1x512 := Rect.unit (s := S1x512) ![0, 0] S1x128.size inb_S1x512_S1x128_0_0
/-- Column `l` of piece 1, the queries' piece 1 and the gain's. -/
abbrev col1 (l : Fin 128) : Fin 512 := ⟨128 + l.val, by have := l.isLt; omega⟩
abbrev box1 : Rect S512x512 := Rect.unit (s := S512x512) ![0, 128] S512x128.size inb_S512x512_S512x128_0_128
abbrev gbox1 : Rect S1x512 := Rect.unit (s := S1x512) ![0, 128] S1x128.size inb_S1x512_S1x128_0_128
/-- Column `l` of piece 2, the queries' piece 2 and the gain's. -/
abbrev col2 (l : Fin 128) : Fin 512 := ⟨256 + l.val, by have := l.isLt; omega⟩
abbrev box2 : Rect S512x512 := Rect.unit (s := S512x512) ![0, 256] S512x128.size inb_S512x512_S512x128_0_256
abbrev gbox2 : Rect S1x512 := Rect.unit (s := S1x512) ![0, 256] S1x128.size inb_S1x512_S1x128_0_256
/-- Column `l` of piece 3, the queries' piece 3 and the gain's. -/
abbrev col3 (l : Fin 128) : Fin 512 := ⟨384 + l.val, by have := l.isLt; omega⟩
abbrev box3 : Rect S512x512 := Rect.unit (s := S512x512) ![0, 384] S512x128.size inb_S512x512_S512x128_0_384
abbrev gbox3 : Rect S1x512 := Rect.unit (s := S1x512) ![0, 384] S1x128.size inb_S1x512_S1x128_0_384

section Pieces

variable {R : Nat} {e : EltTy}

theorem emb (n : Nat) (w : ∀ a, (![0, n] : Fin 2 → Nat) a + (![R, 128] : Fin 2 → Nat) a ≤ (![R, 512] : Fin 2 → Nat) a) (r : Fin R) (l : Fin 128) (q : Fin 512) (hq : q.val = n + l.val) :
    (ix2 r q : (⟨2, ![R, 512]⟩ : Shape).Idx) = (Rect.unit (s := (⟨2, ![R, 512]⟩ : Shape)) ![0, n] ![R, 128] w).emb (ix2 r l) := by
  refine funext fun d => Fin.ext ?_
  match d with
  | ⟨0, _⟩ => show r.val = 0 + 1 * r.val; omega
  | ⟨1, _⟩ => show q.val = n + 1 * l.val; omega

theorem top (n : Nat) (w : ∀ a, (![0, n] : Fin 2 → Nat) a + (![R, 128] : Fin 2 → Nat) a ≤ (![R, 512] : Fin 2 → Nat) a) (A : Vec Ideal (⟨2, ![R, 128]⟩ : Shape) e) (L : List (View.Piece (Elt Ideal) (⟨2, ![R, 512]⟩ : Shape) e)) (r : Fin R) (l : Fin 128) (q : Fin 512) (hq : q.val = n + l.val) :
    View.canon (⟨Rect.unit (s := (⟨2, ![R, 512]⟩ : Shape)) ![0, n] ![R, 128] w, A⟩ :: L) (ix2 r q) = A (ix2 r l) := by
  rw [emb n w r l q hq]
  exact View.canon_cons_emb _ _ _ _

theorem skip (n : Nat) (w : ∀ a, (![0, n] : Fin 2 → Nat) a + (![R, 128] : Fin 2 → Nat) a ≤ (![R, 512] : Fin 2 → Nat) a) (A : Vec Ideal (⟨2, ![R, 128]⟩ : Shape) e) (L : List (View.Piece (Elt Ideal) (⟨2, ![R, 512]⟩ : Shape) e)) (r : Fin R) (q : Fin 512)
    (hq : q.val < n ∨ n + 128 ≤ q.val) : View.canon (⟨Rect.unit (s := (⟨2, ![R, 512]⟩ : Shape)) ![0, n] ![R, 128] w, A⟩ :: L) (ix2 r q) = View.canon L (ix2 r q) := by
  refine View.canon_cons_of_not_mem _ _ fun h => ?_
  have h0 := (Rect.mem_set_unit (s := (⟨2, ![R, 512]⟩ : Shape)) (off := ![0, n]) (size := ![R, 128]) (inb := w)).mp h (1 : Fin 2)
  have h1 : n ≤ q.val := h0.1
  have h2 : q.val < n + 128 := h0.2
  omega

theorem ldp (n : Nat) (w : ∀ a, (![0, n] : Fin 2 → Nat) a + (![R, 128] : Fin 2 → Nat) a ≤ (![R, 512] : Fin 2 → Nat) a) (x : Vec Ideal (⟨2, ![R, 512]⟩ : Shape) e) (r : Fin R) (l : Fin 128) (q : Fin 512) (hq : q.val = n + l.val) :
    View.ld x (Rect.unit (s := (⟨2, ![R, 512]⟩ : Shape)) ![0, n] ![R, 128] w) (ix2 r l) = x (ix2 r q) := by
  rw [emb n w r l q hq]
  rfl

/-- The four pieces, the newest first. -/
theorem four (w0 : ∀ a, (![0, 0] : Fin 2 → Nat) a + (![R, 128] : Fin 2 → Nat) a ≤ (![R, 512] : Fin 2 → Nat) a) (w128 : ∀ a, (![0, 128] : Fin 2 → Nat) a + (![R, 128] : Fin 2 → Nat) a ≤ (![R, 512] : Fin 2 → Nat) a) (w256 : ∀ a, (![0, 256] : Fin 2 → Nat) a + (![R, 128] : Fin 2 → Nat) a ≤ (![R, 512] : Fin 2 → Nat) a) (w384 : ∀ a, (![0, 384] : Fin 2 → Nat) a + (![R, 128] : Fin 2 → Nat) a ≤ (![R, 512] : Fin 2 → Nat) a) (A0 A1 A2 A3 : Vec Ideal (⟨2, ![R, 128]⟩ : Shape) e) (L : List (View.Piece (Elt Ideal) (⟨2, ![R, 512]⟩ : Shape) e))
    (B0 B1 B2 B3 : Vec Ideal (⟨2, ![R, 128]⟩ : Shape) e) (r : Fin R) (l : Fin 128) (k0 : A0 = B0) (k1 : A1 = B1) (k2 : A2 = B2) (k3 : A3 = B3)
    {P : Vec Ideal (⟨2, ![R, 512]⟩ : Shape) e} (hP : View.canon (⟨Rect.unit (s := (⟨2, ![R, 512]⟩ : Shape)) ![0, 384] ![R, 128] w384, A3⟩ :: ⟨Rect.unit (s := (⟨2, ![R, 512]⟩ : Shape)) ![0, 256] ![R, 128] w256, A2⟩ :: ⟨Rect.unit (s := (⟨2, ![R, 512]⟩ : Shape)) ![0, 128] ![R, 128] w128, A1⟩ :: ⟨Rect.unit (s := (⟨2, ![R, 512]⟩ : Shape)) ![0, 0] ![R, 128] w0, A0⟩ :: L) = P) :
    P (ix2 r (col0 l)) = B0 (ix2 r l) ∧ P (ix2 r (col1 l)) = B1 (ix2 r l) ∧ P (ix2 r (col2 l)) = B2 (ix2 r l) ∧ P (ix2 r (col3 l)) = B3 (ix2 r l) := by
  have hl := l.isLt
  subst k0 k1 k2 k3 hP
  refine ⟨?_, ?_, ?_, top 384 _ _ _ r l _ rfl⟩
  · refine (skip 384 _ _ _ r (col0 l) (by show 0 + l.val < _ ∨ _; omega)).trans ((skip 256 _ _ _ r (col0 l) (by show 0 + l.val < _ ∨ _; omega)).trans ((skip 128 _ _ _ r (col0 l) (by show 0 + l.val < _ ∨ _; omega)).trans (top 0 _ _ _ r l _ rfl)))
  · refine (skip 384 _ _ _ r (col1 l) (by show 128 + l.val < _ ∨ _; omega)).trans ((skip 256 _ _ _ r (col1 l) (by show 128 + l.val < _ ∨ _; omega)).trans (top 128 _ _ _ r l _ rfl))
  · exact (skip 384 _ _ _ r (col2 l) (by show 256 + l.val < _ ∨ _; omega)).trans (top 256 _ _ _ r l _ rfl)

end Pieces

/-- A piece of a gain's gradient, read back where nothing but the zeros lies under it. -/
theorem read_none (n : Nat) (hn : n + 128 ≤ 512) (w : ∀ a, (![0, n] : Fin 2 → Nat) a + S1x128.size a ≤ S1x512.size a) (v : Memref sig .tc .vmem S1x512 .f32) (L : List (View.Piece (Elt Ideal) S1x512 .f32))
    (h : ∀ l : Fin 128, View.canon L (ix2 (0 : Fin 1) (⟨n + l.val, by have := l.isLt; omega⟩ : Fin 512)) = (0 : EReal)) :
    v.view.readCov L (Rect.unit (s := S1x512) ![0, n] S1x128.size w).toLoadRect = none128 := by
  funext (i : S1x128.Idx)
  obtain ⟨a, b, rfl⟩ : ∃ (a : Fin 1) (b : Fin 128), i = ix2 a b := ⟨i 0, i 1, eq_ix2 i⟩
  obtain rfl : a = 0 := Fin.ext (by have := a.isLt; show a.val = 0; omega)
  rw [View.readCov_eq_canon']
  exact (congrArg (View.canon L) (emb n w 0 b (⟨n + b.val, by have := b.isLt; omega⟩ : Fin 512) rfl)).symm.trans (h b)

/-- The zeros, written over the whole. -/
theorem zeros (j : S1x512.Idx) : (View.canon (Val := Elt Ideal) (e := .f32) [⟨Rect.unit (s := S1x512) ![0, 0] S1x512.size inb_S1x512_S1x512_0_0, k0_pay2 (F := Ideal)⟩] j : EReal) = 0 := by
  rw [View.canon_unit_zero (S := S1x512) zero2, zero512]

section Cases

variable (c : Dev nD) (i : grid0.Coords) (g0 : Memref sig .tc .vmem S512x512 .bf16) (h0 : g0.IsWhole) (g1 : Memref sig .tc .vmem S512x128 .bf16) (h1 : g1.IsWhole) (g2 : Memref sig .tc .vmem S512x128 .f32) (h2 : g2.IsWhole) (g3 : Memref sig .tc .vmem S512x128 .f32) (h3 : g3.IsWhole) (g4 : Memref sig .tc .vmem S1x128 .f32) (h4 : g4.IsWhole) (g5 : Memref sig .tc .vmem S1x128 .f32) (h5 : g5.IsWhole) (g6 : Memref sig .tc .vmem S512x512 .f32) (h6 : g6.IsWhole) (g7 : Memref sig .tc .vmem S512x128 .f32) (h7 : g7.IsWhole) (g8 : Memref sig .tc .vmem S512x128 .f32) (h8 : g8.IsWhole) (g9 : Memref sig .tc .vmem S512x512 .bf16) (h9 : g9.IsWhole) (g10 : Memref sig .tc .vmem S512x128 .bf16) (h10 : g10.IsWhole) (g11 : Memref sig .tc .vmem S512x128 .bf16) (h11 : g11.IsWhole) (g12 : Memref sig .tc .vmem S1x512 .f32) (h12 : g12.IsWhole) (g13 : Memref sig .tc .vmem S1x128 .f32) (h13 : g13.IsWhole)
  (x0 : Vec Ideal S512x512 .bf16) (x1 : Vec Ideal S512x128 .bf16) (x2 : Vec Ideal S512x128 .f32) (x3 : Vec Ideal S512x128 .f32) (x4 : Vec Ideal S1x128 .f32) (x5 : Vec Ideal S1x128 .f32) (x6 : Vec Ideal S512x512 .f32) (x7 : Vec Ideal S512x128 .f32) (x8 : Vec Ideal S512x128 .f32) (x12 : Vec Ideal S1x512 .f32) (x13 : Vec Ideal S1x128 .f32)

theorem out_A_9 (hc0 : cond0_0 i) (r : Fin 512) (l : Fin 128) {P : Vec Ideal S512x512 .bf16} (hP : out0_A_9 c i g0 h0 g1 h1 g2 h2 g3 h3 g4 h4 g5 h5 g6 h6 g7 h7 g8 h8 g9 h9 g10 h10 g11 h11 g12 h12 g13 h13 hc0 x0 x1 x2 x3 x4 x5 x6 x7 x8 = P) :
    P (ix2 r (col0 l)) = dxB (View.ld x0 box0) x4 x2 x3 (View.ld x6 box0) (ix2 r l) ∧ P (ix2 r (col1 l)) = dxB (View.ld x0 box1) x4 x2 x3 (View.ld x6 box1) (ix2 r l) ∧ P (ix2 r (col2 l)) = dxB (View.ld x0 box2) x4 x2 x3 (View.ld x6 box2) (ix2 r l) ∧ P (ix2 r (col3 l)) = dxB (View.ld x0 box3) x4 x2 x3 (View.ld x6 box3) (ix2 r l) := by
  rw [← hP]
  unfold out0_A_9
  rw [View.read_writes_eq_canon _ _ _ (cover0_A_9 c i g0 h0 g1 h1 g2 h2 g3 h3 g4 h4 g5 h5 g6 h6 g7 h7 g8 h8 g9 h9 g10 h10 g11 h11 g12 h12 g13 h13 hc0 x0 x1 x2 x3 x4 x5 x6 x7 x8)]
  unfold kernelRun0_A
  dsimp only
  sl_unfold_words
  simp only [View.readAt_eq_ld, h0.read_unread, h1.read_unread, h2.read_unread, h3.read_unread, h4.read_unread, h5.read_unread, h6.read_unread, h7.read_unread, h8.read_unread, h12.read_unread, h13.read_unread, View.ld_unit_zero (S := S1x128) zero2, View.ld_unit_zero (S := S512x128) zero2]
  refine four _ _ _ _ _ _ _ _ _ _ _ _ _ r l ?_ ?_ ?_ ?_ rfl <;> rfl

theorem out_A_10 (hc0 : cond0_0 i) : out0_A_10 c i g0 h0 g1 h1 g2 h2 g3 h3 g4 h4 g5 h5 g6 h6 g7 h7 g8 h8 g9 h9 g10 h10 g11 h11 g12 h12 g13 h13 hc0 x0 x1 x2 x3 x4 x5 x6 x7 x8 = dxB x1 x5 x2 x3 x7 := by
  unfold out0_A_10
  rw [View.read_writes_eq_canon _ _ _ (cover0_A_10 c i g0 h0 g1 h1 g2 h2 g3 h3 g4 h4 g5 h5 g6 h6 g7 h7 g8 h8 g9 h9 g10 h10 g11 h11 g12 h12 g13 h13 hc0 x0 x1 x2 x3 x4 x5 x6 x7 x8)]
  unfold kernelRun0_A
  dsimp only
  sl_unfold_words
  rw [View.canon_unit_zero (S := S512x128) zero2]
  simp only [View.readAt_eq_ld, h0.read_unread, h1.read_unread, h2.read_unread, h3.read_unread, h4.read_unread, h5.read_unread, h6.read_unread, h7.read_unread, h8.read_unread, h12.read_unread, h13.read_unread, View.ld_unit_zero (S := S1x128) zero2, View.ld_unit_zero (S := S512x128) zero2]
  rfl

theorem out_A_11 (hc0 : cond0_0 i) : out0_A_11 c i g0 h0 g1 h1 g2 h2 g3 h3 g4 h4 g5 h5 g6 h6 g7 h7 g8 h8 g9 h9 g10 h10 g11 h11 g12 h12 g13 h13 hc0 x0 x1 x2 x3 x4 x5 x6 x7 x8 = (truncf .bf16 (x8 : FVec Ideal S512x128 .f32) bitsLt_bf16_f32 : FVec Ideal S512x128 .bf16) := by
  unfold out0_A_11
  rw [View.read_writes_eq_canon _ _ _ (cover0_A_11 c i g0 h0 g1 h1 g2 h2 g3 h3 g4 h4 g5 h5 g6 h6 g7 h7 g8 h8 g9 h9 g10 h10 g11 h11 g12 h12 g13 h13 hc0 x0 x1 x2 x3 x4 x5 x6 x7 x8)]
  unfold kernelRun0_A
  dsimp only
  sl_unfold_words
  rw [View.canon_unit_zero (S := S512x128) zero2]
  simp only [View.readAt_eq_ld, h0.read_unread, h1.read_unread, h2.read_unread, h3.read_unread, h4.read_unread, h5.read_unread, h6.read_unread, h7.read_unread, h8.read_unread, h12.read_unread, h13.read_unread, View.ld_unit_zero (S := S1x128) zero2, View.ld_unit_zero (S := S512x128) zero2]
  rfl

theorem out_A_12 (hc0 : cond0_0 i) (l : Fin 128) {P : Vec Ideal S1x512 .f32} (hP : out0_A_12 c i g0 h0 g1 h1 g2 h2 g3 h3 g4 h4 g5 h5 g6 h6 g7 h7 g8 h8 g9 h9 g10 h10 g11 h11 g12 h12 g13 h13 hc0 x0 x1 x2 x3 x4 x5 x6 x7 x8 = P) :
    P (ix2 (0 : Fin 1) (col0 l)) = dgB (View.ld x0 box0) x2 x3 (View.ld x6 box0) none128 (ix2 (0 : Fin 1) l) ∧ P (ix2 (0 : Fin 1) (col1 l)) = dgB (View.ld x0 box1) x2 x3 (View.ld x6 box1) none128 (ix2 (0 : Fin 1) l) ∧ P (ix2 (0 : Fin 1) (col2 l)) = dgB (View.ld x0 box2) x2 x3 (View.ld x6 box2) none128 (ix2 (0 : Fin 1) l) ∧ P (ix2 (0 : Fin 1) (col3 l)) = dgB (View.ld x0 box3) x2 x3 (View.ld x6 box3) none128 (ix2 (0 : Fin 1) l) := by
  rw [← hP]
  unfold out0_A_12
  rw [View.read_writes_eq_canon _ _ _ (cover0_A_12 c i g0 h0 g1 h1 g2 h2 g3 h3 g4 h4 g5 h5 g6 h6 g7 h7 g8 h8 g9 h9 g10 h10 g11 h11 g12 h12 g13 h13 hc0 x0 x1 x2 x3 x4 x5 x6 x7 x8)]
  unfold kernelRun0_A
  dsimp only
  sl_unfold_words
  simp only [View.readAt_eq_ld, h0.read_unread, h1.read_unread, h2.read_unread, h3.read_unread, h4.read_unread, h5.read_unread, h6.read_unread, h7.read_unread, h8.read_unread, h12.read_unread, h13.read_unread, View.ld_unit_zero (S := S1x128) zero2, View.ld_unit_zero (S := S512x128) zero2]
  refine four _ _ _ _ _ _ _ _ _ _ _ _ _ 0 l ?_ ?_ ?_ ?_ rfl
  · rw [read_none 0 (by decide)]
    · rfl
    · intro j
      exact zeros _
  · rw [read_none 128 (by decide)]
    · rfl
    · intro j
      have hj := j.isLt
      exact (skip 0 _ _ _ 0 _ (by show _ ∨ 0+128 ≤ 128 + j.val; omega)).trans (zeros _)
  · rw [read_none 256 (by decide)]
    · rfl
    · intro j
      have hj := j.isLt
      exact (skip 128 _ _ _ 0 _ (by show _ ∨ 128+128 ≤ 256 + j.val; omega)).trans ((skip 0 _ _ _ 0 _ (by show _ ∨ 0+128 ≤ 256 + j.val; omega)).trans (zeros _))
  · rw [read_none 384 (by decide)]
    · rfl
    · intro j
      have hj := j.isLt
      exact (skip 256 _ _ _ 0 _ (by show _ ∨ 256+128 ≤ 384 + j.val; omega)).trans ((skip 128 _ _ _ 0 _ (by show _ ∨ 128+128 ≤ 384 + j.val; omega)).trans ((skip 0 _ _ _ 0 _ (by show _ ∨ 0+128 ≤ 384 + j.val; omega)).trans (zeros _)))

theorem out_A_13 (hc0 : cond0_0 i) : out0_A_13 c i g0 h0 g1 h1 g2 h2 g3 h3 g4 h4 g5 h5 g6 h6 g7 h7 g8 h8 g9 h9 g10 h10 g11 h11 g12 h12 g13 h13 hc0 x0 x1 x2 x3 x4 x5 x6 x7 x8 = dgB x1 x2 x3 x7 none128 := by
  unfold out0_A_13
  rw [View.read_writes_eq_canon _ _ _ (cover0_A_13 c i g0 h0 g1 h1 g2 h2 g3 h3 g4 h4 g5 h5 g6 h6 g7 h7 g8 h8 g9 h9 g10 h10 g11 h11 g12 h12 g13 h13 hc0 x0 x1 x2 x3 x4 x5 x6 x7 x8)]
  unfold kernelRun0_A
  dsimp only
  sl_unfold_words
  rw [View.canon_cons_unit_zero (S := S1x128) zero2, View.readCov_unit_zero (S := S1x128) _ zero2]
  simp only [View.readAt_eq_ld, h0.read_unread, h1.read_unread, h2.read_unread, h3.read_unread, h4.read_unread, h5.read_unread, h6.read_unread, h7.read_unread, h8.read_unread, h12.read_unread, h13.read_unread, View.ld_unit_zero (S := S1x128) zero2, View.ld_unit_zero (S := S512x128) zero2]
  rw [← zero128]
  rfl

theorem out_B_9 (hc0 : ¬cond0_0 i) (r : Fin 512) (l : Fin 128) {P : Vec Ideal S512x512 .bf16} (hP : out0_B_9 c i g0 h0 g1 h1 g2 h2 g3 h3 g4 h4 g5 h5 g6 h6 g7 h7 g8 h8 g9 h9 g10 h10 g11 h11 g12 h12 g13 h13 hc0 x0 x1 x2 x3 x4 x5 x6 x7 x8 x12 x13 = P) :
    P (ix2 r (col0 l)) = dxB (View.ld x0 box0) x4 x2 x3 (View.ld x6 box0) (ix2 r l) ∧ P (ix2 r (col1 l)) = dxB (View.ld x0 box1) x4 x2 x3 (View.ld x6 box1) (ix2 r l) ∧ P (ix2 r (col2 l)) = dxB (View.ld x0 box2) x4 x2 x3 (View.ld x6 box2) (ix2 r l) ∧ P (ix2 r (col3 l)) = dxB (View.ld x0 box3) x4 x2 x3 (View.ld x6 box3) (ix2 r l) := by
  rw [← hP]
  unfold out0_B_9
  rw [View.read_writes_eq_canon _ _ _ (cover0_B_9 c i g0 h0 g1 h1 g2 h2 g3 h3 g4 h4 g5 h5 g6 h6 g7 h7 g8 h8 g9 h9 g10 h10 g11 h11 g12 h12 g13 h13 hc0 x0 x1 x2 x3 x4 x5 x6 x7 x8 x12 x13)]
  unfold kernelRun0_B
  dsimp only
  sl_unfold_words
  simp only [View.readAt_eq_ld, h0.read_unread, h1.read_unread, h2.read_unread, h3.read_unread, h4.read_unread, h5.read_unread, h6.read_unread, h7.read_unread, h8.read_unread, h12.read_unread, h13.read_unread, View.ld_unit_zero (S := S1x128) zero2, View.ld_unit_zero (S := S512x128) zero2]
  refine four _ _ _ _ _ _ _ _ _ _ _ _ _ r l ?_ ?_ ?_ ?_ rfl <;> rfl

theorem out_B_10 (hc0 : ¬cond0_0 i) : out0_B_10 c i g0 h0 g1 h1 g2 h2 g3 h3 g4 h4 g5 h5 g6 h6 g7 h7 g8 h8 g9 h9 g10 h10 g11 h11 g12 h12 g13 h13 hc0 x0 x1 x2 x3 x4 x5 x6 x7 x8 x12 x13 = dxB x1 x5 x2 x3 x7 := by
  unfold out0_B_10
  rw [View.read_writes_eq_canon _ _ _ (cover0_B_10 c i g0 h0 g1 h1 g2 h2 g3 h3 g4 h4 g5 h5 g6 h6 g7 h7 g8 h8 g9 h9 g10 h10 g11 h11 g12 h12 g13 h13 hc0 x0 x1 x2 x3 x4 x5 x6 x7 x8 x12 x13)]
  unfold kernelRun0_B
  dsimp only
  sl_unfold_words
  rw [View.canon_unit_zero (S := S512x128) zero2]
  simp only [View.readAt_eq_ld, h0.read_unread, h1.read_unread, h2.read_unread, h3.read_unread, h4.read_unread, h5.read_unread, h6.read_unread, h7.read_unread, h8.read_unread, h12.read_unread, h13.read_unread, View.ld_unit_zero (S := S1x128) zero2, View.ld_unit_zero (S := S512x128) zero2]
  rfl

theorem out_B_11 (hc0 : ¬cond0_0 i) : out0_B_11 c i g0 h0 g1 h1 g2 h2 g3 h3 g4 h4 g5 h5 g6 h6 g7 h7 g8 h8 g9 h9 g10 h10 g11 h11 g12 h12 g13 h13 hc0 x0 x1 x2 x3 x4 x5 x6 x7 x8 x12 x13 = (truncf .bf16 (x8 : FVec Ideal S512x128 .f32) bitsLt_bf16_f32 : FVec Ideal S512x128 .bf16) := by
  unfold out0_B_11
  rw [View.read_writes_eq_canon _ _ _ (cover0_B_11 c i g0 h0 g1 h1 g2 h2 g3 h3 g4 h4 g5 h5 g6 h6 g7 h7 g8 h8 g9 h9 g10 h10 g11 h11 g12 h12 g13 h13 hc0 x0 x1 x2 x3 x4 x5 x6 x7 x8 x12 x13)]
  unfold kernelRun0_B
  dsimp only
  sl_unfold_words
  rw [View.canon_unit_zero (S := S512x128) zero2]
  simp only [View.readAt_eq_ld, h0.read_unread, h1.read_unread, h2.read_unread, h3.read_unread, h4.read_unread, h5.read_unread, h6.read_unread, h7.read_unread, h8.read_unread, h12.read_unread, h13.read_unread, View.ld_unit_zero (S := S1x128) zero2, View.ld_unit_zero (S := S512x128) zero2]
  rfl

theorem out_B_12 (hc0 : ¬cond0_0 i) (l : Fin 128) {P : Vec Ideal S1x512 .f32} (hP : out0_B_12 c i g0 h0 g1 h1 g2 h2 g3 h3 g4 h4 g5 h5 g6 h6 g7 h7 g8 h8 g9 h9 g10 h10 g11 h11 g12 h12 g13 h13 hc0 x0 x1 x2 x3 x4 x5 x6 x7 x8 x12 x13 = P) :
    P (ix2 (0 : Fin 1) (col0 l)) = dgB (View.ld x0 box0) x2 x3 (View.ld x6 box0) (View.ld x12 gbox0) (ix2 (0 : Fin 1) l) ∧ P (ix2 (0 : Fin 1) (col1 l)) = dgB (View.ld x0 box1) x2 x3 (View.ld x6 box1) (View.ld x12 gbox1) (ix2 (0 : Fin 1) l) ∧ P (ix2 (0 : Fin 1) (col2 l)) = dgB (View.ld x0 box2) x2 x3 (View.ld x6 box2) (View.ld x12 gbox2) (ix2 (0 : Fin 1) l) ∧ P (ix2 (0 : Fin 1) (col3 l)) = dgB (View.ld x0 box3) x2 x3 (View.ld x6 box3) (View.ld x12 gbox3) (ix2 (0 : Fin 1) l) := by
  rw [← hP]
  unfold out0_B_12
  rw [View.read_writes_eq_canon _ _ _ (cover0_B_12 c i g0 h0 g1 h1 g2 h2 g3 h3 g4 h4 g5 h5 g6 h6 g7 h7 g8 h8 g9 h9 g10 h10 g11 h11 g12 h12 g13 h13 hc0 x0 x1 x2 x3 x4 x5 x6 x7 x8 x12 x13)]
  unfold kernelRun0_B
  dsimp only
  sl_unfold_words
  simp only [View.readAt_eq_ld, h0.read_unread, h1.read_unread, h2.read_unread, h3.read_unread, h4.read_unread, h5.read_unread, h6.read_unread, h7.read_unread, h8.read_unread, h12.read_unread, h13.read_unread, View.ld_unit_zero (S := S1x128) zero2, View.ld_unit_zero (S := S512x128) zero2]
  refine four _ _ _ _ _ _ _ _ _ _ _ _ _ 0 l ?_ ?_ ?_ ?_ rfl <;> rfl

theorem out_B_13 (hc0 : ¬cond0_0 i) : out0_B_13 c i g0 h0 g1 h1 g2 h2 g3 h3 g4 h4 g5 h5 g6 h6 g7 h7 g8 h8 g9 h9 g10 h10 g11 h11 g12 h12 g13 h13 hc0 x0 x1 x2 x3 x4 x5 x6 x7 x8 x12 x13 = dgB x1 x2 x3 x7 x13 := by
  unfold out0_B_13
  rw [View.read_writes_eq_canon _ _ _ (cover0_B_13 c i g0 h0 g1 h1 g2 h2 g3 h3 g4 h4 g5 h5 g6 h6 g7 h7 g8 h8 g9 h9 g10 h10 g11 h11 g12 h12 g13 h13 hc0 x0 x1 x2 x3 x4 x5 x6 x7 x8 x12 x13)]
  unfold kernelRun0_B
  dsimp only
  sl_unfold_words
  rw [View.canon_unit_zero (S := S1x128) zero2]
  simp only [View.readAt_eq_ld, h0.read_unread, h1.read_unread, h2.read_unread, h3.read_unread, h4.read_unread, h5.read_unread, h6.read_unread, h7.read_unread, h8.read_unread, h12.read_unread, h13.read_unread, View.ld_unit_zero (S := S1x128) zero2, View.ld_unit_zero (S := S512x128) zero2]
  rfl

end Cases

end Cert.Kernel15Ideal.SwaPrepBwd

end
-- ==== Proof.SwaPrepBwdRef.lean ====
/-
  The reference's terms of the rotary gradient, read at a row, a head and a position: the gradient of a normalised head
  from the rotated gradient, and the sum over the rows that is the gain's gradient.
-/
module

public import proofs.«01_k».proof.Proof.Gen.Reference15Ideal.Run
public import proofs.«01_k».proof.Proof.Coords
public import proofs.«01_k».proof.Proof.HeadNorm
public import Idealize.ShloMosaic.Lib.Pointwise

@[expose] public section

set_option maxRecDepth 16384

noncomputable section

namespace Cert.Reference15Ideal.SwaPrepBwd

open Cert.Reference15Ideal Cert.Reference15Ideal.Gen Cert.Coords Cert.HeadNorm Cert.NormBwd Idealize.ShloMosaic Idealize.ShloMosaic.TcCoe Idealize.SL.Sem

/-! ## The queries: eight heads -/

section Q

variable (x : FVec Ideal S4096x8x64 .f32) (g : FVec Ideal S64 .f32) (d : FVec Ideal S4096x8x64 .f32) (dy : FVec Ideal S4096x8x64 .f32) (C S : FVec Ideal S4096x32 .f32)

/-- The heads of the projection. -/
def xQ (a0 : FVec Ideal S4096x2304 .f32) : FVec Ideal S4096x8x64 .f32 :=
  shapeCast _ (extractStridedSlice S4096x512 ![0, 1536] a0 slices_S4096x2304_S4096x512_0_1536) shapeCasts_S4096x512_S4096x8x64
/-- The heads of the gradient. -/
def dQ (a3 : FVec Ideal S4096x512 .f32) : FVec Ideal S4096x8x64 .f32 := shapeCast _ a3 shapeCasts_S4096x512_S4096x8x64
/-- A head's mean square, the small constant added. -/
def msQ : FVec Ideal S4096x8x1 .f32 :=
  addf (Host.divf (broadcastInDim S4096x8x1 ![0, 1] bcast_S4096x8_S4096x8x1_0_1 (Host.reduceAdd (mulf x x) (constant S_ .f32 0x00000000#32) reducesTo_S4096x8x64_S4096x8_d2 h_S_)) (broadcastInDim S4096x8x1 ![] bcast_S_S4096x8x1 (constant S_ .f32 0x42800000#32))) (broadcastInDim S4096x8x1 ![] bcast_S_S4096x8x1 (constant S_ .f32 0x358637BD#32))
/-- Its reciprocal root. -/
def rQ : FVec Ideal S4096x8x1 .f32 := Host.rsqrt (msQ x)
/-- The gain of every head. -/
def gQ : FVec Ideal S1x8x64 .f32 := broadcastInDim S1x8x64 ![1, 2] bcast_S8x64_S1x8x64_1_2 (broadcastInDim S8x64 ![1] bcast_S64_S8x64_1 g)
/-- The gradient before the rotation. -/
def dyQ : FVec Ideal S4096x8x64 .f32 :=
  concatenate S4096x8x64 2 [⟨S4096x8x32, (addf (mulf (extractStridedSlice S4096x8x32 ![0, 0, 32] d slices_S4096x8x64_S4096x8x32_0_0_32) (broadcastInDim S4096x8x32 ![0, 1, 2] bcast_S4096x1x32_S4096x8x32_0_1_2 (broadcastInDim S4096x1x32 ![0, 2] bcast_S4096x32_S4096x1x32_0_2 S))) (mulf (extractStridedSlice S4096x8x32 ![0, 0, 0] d slices_S4096x8x64_S4096x8x32_0_0_0) (broadcastInDim S4096x8x32 ![0, 1, 2] bcast_S4096x1x32_S4096x8x32_0_1_2 (broadcastInDim S4096x1x32 ![0, 2] bcast_S4096x32_S4096x1x32_0_2 C))))⟩, ⟨S4096x8x32, (addf (mulf (extractStridedSlice S4096x8x32 ![0, 0, 32] d slices_S4096x8x64_S4096x8x32_0_0_32) (broadcastInDim S4096x8x32 ![0, 1, 2] bcast_S4096x1x32_S4096x8x32_0_1_2 (broadcastInDim S4096x1x32 ![0, 2] bcast_S4096x32_S4096x1x32_0_2 C))) (mulf (Host.negf (extractStridedSlice S4096x8x32 ![0, 0, 0] d slices_S4096x8x64_S4096x8x32_0_0_0)) (broadcastInDim S4096x8x32 ![0, 1, 2] bcast_S4096x1x32_S4096x8x32_0_1_2 (broadcastInDim S4096x1x32 ![0, 2] bcast_S4096x32_S4096x1x32_0_2 S))))⟩] concatenates_S4096x8x32_S4096x8x32_S4096x8x64_d2
/-- It times the gain. -/
def dygQ : FVec Ideal S4096x8x64 .f32 := mulf dy (broadcastInDim S4096x8x64 ![0, 1, 2] bcast_S1x8x64_S4096x8x64_0_1_2 (gQ g))
/-- The mean's share. -/
def shQ (dyg : FVec Ideal S4096x8x64 .f32) (m r : FVec Ideal S4096x8x1 .f32) : FVec Ideal S4096x8x64 .f32 :=
  broadcastInDim S4096x8x64 ![0, 1] bcast_S4096x8_S4096x8x64_0_1 (Host.reduceAdd (Host.divf (mulf (shapeCast _ (Host.reduceAdd (mulf x dyg) (constant S_ .f32 0x00000000#32) reducesTo_S4096x8x64_S4096x8_d2 h_S_) shapeCasts_S4096x8_S4096x8x1) (mulf (broadcastInDim S4096x8x1 ![] bcast_S_S4096x8x1 (constant S_ .f32 0xBF000000#32)) (Host.divf r m))) (broadcastInDim S4096x8x1 ![] bcast_S_S4096x8x1 (constant S_ .f32 0x42800000#32))) (constant S_ .f32 0x00000000#32) reducesTo_S4096x8x1_S4096x8_d2 h_S_)
/-- The gradient of the heads, side by side. -/
def dxQ (dyg q : FVec Ideal S4096x8x64 .f32) (r : FVec Ideal S4096x8x1 .f32) : FVec Ideal S4096x512 .bf16 :=
  truncf .bf16 (shapeCast _ (addf (addf (mulf dyg (broadcastInDim S4096x8x64 ![0, 1, 2] bcast_S4096x8x1_S4096x8x64_0_1_2 r)) (mulf x q)) (mulf q x)) shapeCasts_S4096x8x64_S4096x512) bitsLt_bf16_f32
/-- The gain's gradient, head by head. -/
def dgQ (r : FVec Ideal S4096x8x1 .f32) : FVec Ideal S1x512 .f32 :=
  shapeCast _ (Host.reduceAdd (shapeCast _ (Host.reduceAdd (mulf (mulf x (broadcastInDim S4096x8x64 ![0, 1, 2] bcast_S4096x8x1_S4096x8x64_0_1_2 r)) dy) (constant S_ .f32 0x00000000#32) reducesTo_S4096x8x64_S8x64_d0 h_S_) shapeCasts_S8x64_S1x8x64) (constant S_ .f32 0x00000000#32) reducesTo_S1x8x64_S8x64_d0 h_S_) shapeCasts_S8x64_S1x512

/-- Position `k` of head `h` among the heads side by side. -/
abbrev atQ (h : Fin 8) (k : Fin 64) : Fin 512 := ⟨64 * h.val + k.val, by have := h.isLt; have := k.isLt; omega⟩

/-- A head's row. -/
abbrev hdQ (v : FVec Ideal S4096x8x64 .f32) (r : Fin 4096) (h : Fin 8) : Fin 64 → EReal := fun k => v (ix3 r h k)

theorem xQ_apply (a0 : FVec Ideal S4096x2304 .f32) (r : Fin 4096) (h : Fin 8) (k : Fin 64) :
    xQ a0 (ix3 r h k) = a0 (ix2 r ⟨1536 + (64 * h.val + k.val), by have := h.isLt; have := k.isLt; omega⟩) := by
  pointwise [xQ]
  refine congrArg (fun l => a0 (ix2 r l)) (Fin.ext ?_)
  show 1536 + (h.val * 64 + k.val) = 1536 + (64 * h.val + k.val)
  omega

theorem dQ_apply (a3 : FVec Ideal S4096x512 .f32) (r : Fin 4096) (h : Fin 8) (k : Fin 64) :
    dQ a3 (ix3 r h k) = a3 (ix2 r (atQ h k)) := by
  pointwise [dQ]
  refine congrArg (fun l => a3 (ix2 r l)) (Fin.ext ?_)
  show h.val * 64 + k.val = 64 * h.val + k.val
  omega

theorem msQ_apply (r : Fin 4096) (h : Fin 8) : msQ x (ix3 r h (0 : Fin 1)) = meanSq (hdQ x r h) := by
  have e : msQ x (ix3 r h (0 : Fin 1)) = Ideal.div (∑ k : Fin 64, x (ix3 r h k) * x (ix3 r h k)) w64 + tiny := by
    pointwise [msQ]
  rw [e, div64]
  rfl

theorem rQ_apply (r : Fin 4096) (h : Fin 8) : rQ x (ix3 r h (0 : Fin 1)) = root (hdQ x r h) := by
  have e : rQ x (ix3 r h (0 : Fin 1)) = Ideal.rsqrt (msQ x (ix3 r h (0 : Fin 1))) := by
    unfold rQ
    generalize msQ x = v
    pointwise []
  rw [e, msQ_apply]
  rfl

theorem dyQ_apply (r : Fin 4096) (h : Fin 8) (k : Fin 64) :
    dyQ d C S (ix3 r h k) = back (hdQ d r h) (at2 C r) (at2 S r) k := by
  pointwise [dyQ]
  have hk' := k.isLt
  unfold back
  by_cases hk : k.val < 32
  · have e : half k = ⟨k.val, hk⟩ := Fin.ext (Nat.mod_eq_of_lt hk)
    rw [dif_pos hk, if_pos hk, e]
    exact add_comm _ _
  · have e : half k = ⟨k.val - 32, by omega⟩ := Fin.ext (by show k.val % 32 = k.val - 32; omega)
    have e' : (⟨32 + (k.val - 32), by omega⟩ : Fin 64) = k := Fin.ext (by show 32 + (k.val - 32) = k.val; omega)
    rw [dif_neg hk, if_neg hk, e, e', neg_mul]

theorem dygQ_apply (r : Fin 4096) (h : Fin 8) (k : Fin 64) : dygQ g dy (ix3 r h k) = dy (ix3 r h k) * g (ix1 k) := by
  pointwise [dygQ, gQ]

/-- A lane's head. -/
abbrev headQ (l : Fin 512) : Fin 8 := ⟨l.val / 64, by have := l.isLt; omega⟩
/-- Its position within the head. -/
abbrev posQ (l : Fin 512) : Fin 64 := ⟨l.val % 64, Nat.mod_lt _ (by norm_num)⟩

theorem dxQ_at (e : FVec Ideal S4096x8x64 .f32) (q : FVec Ideal S4096x8x64 .f32) (v : FVec Ideal S4096x8x1 .f32) (r : Fin 4096) (l : Fin 512) :
    dxQ x e q v (ix2 r l)
      = e (ix3 r (headQ l) (posQ l)) * v (ix3 r (headQ l) (0 : Fin 1)) + x (ix3 r (headQ l) (posQ l)) * q (ix3 r (headQ l) (posQ l))
        + q (ix3 r (headQ l) (posQ l)) * x (ix3 r (headQ l) (posQ l)) := by
  pointwise [dxQ]

theorem shQ_at (e : FVec Ideal S4096x8x64 .f32) (u v : FVec Ideal S4096x8x1 .f32) (r : Fin 4096) (h : Fin 8) (k : Fin 64) :
    shQ x e u v (ix3 r h k)
      = Ideal.div ((∑ j : Fin 64, x (ix3 r h j) * e (ix3 r h j)) * (mhalf * Ideal.div (v (ix3 r h (0 : Fin 1))) (u (ix3 r h (0 : Fin 1))))) w64 := by
  pointwise [shQ]
  simp only [Fin.sum_univ_one]

theorem dgQ_at (v : FVec Ideal S4096x8x1 .f32) (l : Fin 512) :
    dgQ x dy v (ix2 (0 : Fin 1) l)
      = ∑ r : Fin 4096, x (ix3 r (headQ l) (posQ l)) * v (ix3 r (headQ l) (0 : Fin 1)) * dy (ix3 r (headQ l) (posQ l)) := by
  pointwise [dgQ]
  simp only [Fin.sum_univ_one]

/-- The gradient of the heads, read at a row and a lane. -/
theorem dxQ_apply (r : Fin 4096) (l : Fin 512) :
    dxQ x (dygQ g dy) (shQ x (dygQ g dy) (msQ x) (rQ x)) (rQ x) (ix2 r l)
      = headBwd (hdQ dy r (headQ l)) (hdQ x r (headQ l)) (fun k => g (ix1 k)) (posQ l) := by
  rw [← headBwd_eq, dxQ_at, shQ_at, div64, rQ_apply, msQ_apply]
  simp only [dygQ_apply]

/-- The gain's gradient, read at a lane. -/
theorem dgQ_apply (l : Fin 512) :
    dgQ x dy (rQ x) (ix2 (0 : Fin 1) l) = ∑ r : Fin 4096, headGain (hdQ dy r (headQ l)) (hdQ x r (headQ l)) (posQ l) := by
  rw [dgQ_at]
  refine Finset.sum_congr rfl fun r _ => ?_
  rw [rQ_apply, mul_comm]
  rfl

end Q

/-! ## The keys: two heads -/

section K

variable (x : FVec Ideal S4096x2x64 .f32) (g : FVec Ideal S64 .f32) (d : FVec Ideal S4096x2x64 .f32) (dy : FVec Ideal S4096x2x64 .f32) (C S : FVec Ideal S4096x32 .f32)

/-- The heads of the projection. -/
def xK (a0 : FVec Ideal S4096x2304 .f32) : FVec Ideal S4096x2x64 .f32 :=
  shapeCast _ (extractStridedSlice S4096x128 ![0, 2048] a0 slices_S4096x2304_S4096x128_0_2048) shapeCasts_S4096x128_S4096x2x64
/-- The heads of the gradient. -/
def dK (a3 : FVec Ideal S4096x128 .f32) : FVec Ideal S4096x2x64 .f32 := shapeCast _ a3 shapeCasts_S4096x128_S4096x2x64
/-- A head's mean square, the small constant added. -/
def msK : FVec Ideal S4096x2x1 .f32 :=
  addf (Host.divf (broadcastInDim S4096x2x1 ![0, 1] bcast_S4096x2_S4096x2x1_0_1 (Host.reduceAdd (mulf x x) (constant S_ .f32 0x00000000#32) reducesTo_S4096x2x64_S4096x2_d2 h_S_)) (broadcastInDim S4096x2x1 ![] bcast_S_S4096x2x1 (constant S_ .f32 0x42800000#32))) (broadcastInDim S4096x2x1 ![] bcast_S_S4096x2x1 (constant S_ .f32 0x358637BD#32))
/-- Its reciprocal root. -/
def rK : FVec Ideal S4096x2x1 .f32 := Host.rsqrt (msK x)
/-- The gain of every head. -/
def gK : FVec Ideal S1x2x64 .f32 := broadcastInDim S1x2x64 ![1, 2] bcast_S2x64_S1x2x64_1_2 (broadcastInDim S2x64 ![1] bcast_S64_S2x64_1 g)
/-- The gradient before the rotation. -/
def dyK : FVec Ideal S4096x2x64 .f32 :=
  concatenate S4096x2x64 2 [⟨S4096x2x32, (addf (mulf (extractStridedSlice S4096x2x32 ![0, 0, 32] d slices_S4096x2x64_S4096x2x32_0_0_32) (broadcastInDim S4096x2x32 ![0, 1, 2] bcast_S4096x1x32_S4096x2x32_0_1_2 (broadcastInDim S4096x1x32 ![0, 2] bcast_S4096x32_S4096x1x32_0_2 S))) (mulf (extractStridedSlice S4096x2x32 ![0, 0, 0] d slices_S4096x2x64_S4096x2x32_0_0_0) (broadcastInDim S4096x2x32 ![0, 1, 2] bcast_S4096x1x32_S4096x2x32_0_1_2 (broadcastInDim S4096x1x32 ![0, 2] bcast_S4096x32_S4096x1x32_0_2 C))))⟩, ⟨S4096x2x32, (addf (mulf (extractStridedSlice S4096x2x32 ![0, 0, 32] d slices_S4096x2x64_S4096x2x32_0_0_32) (broadcastInDim S4096x2x32 ![0, 1, 2] bcast_S4096x1x32_S4096x2x32_0_1_2 (broadcastInDim S4096x1x32 ![0, 2] bcast_S4096x32_S4096x1x32_0_2 C))) (mulf (Host.negf (extractStridedSlice S4096x2x32 ![0, 0, 0] d slices_S4096x2x64_S4096x2x32_0_0_0)) (broadcastInDim S4096x2x32 ![0, 1, 2] bcast_S4096x1x32_S4096x2x32_0_1_2 (broadcastInDim S4096x1x32 ![0, 2] bcast_S4096x32_S4096x1x32_0_2 S))))⟩] concatenates_S4096x2x32_S4096x2x32_S4096x2x64_d2
/-- It times the gain. -/
def dygK : FVec Ideal S4096x2x64 .f32 := mulf dy (broadcastInDim S4096x2x64 ![0, 1, 2] bcast_S1x2x64_S4096x2x64_0_1_2 (gK g))
/-- The mean's share. -/
def shK (dyg : FVec Ideal S4096x2x64 .f32) (m r : FVec Ideal S4096x2x1 .f32) : FVec Ideal S4096x2x64 .f32 :=
  broadcastInDim S4096x2x64 ![0, 1] bcast_S4096x2_S4096x2x64_0_1 (Host.reduceAdd (Host.divf (mulf (shapeCast _ (Host.reduceAdd (mulf x dyg) (constant S_ .f32 0x00000000#32) reducesTo_S4096x2x64_S4096x2_d2 h_S_) shapeCasts_S4096x2_S4096x2x1) (mulf (broadcastInDim S4096x2x1 ![] bcast_S_S4096x2x1 (constant S_ .f32 0xBF000000#32)) (Host.divf r m))) (broadcastInDim S4096x2x1 ![] bcast_S_S4096x2x1 (constant S_ .f32 0x42800000#32))) (constant S_ .f32 0x00000000#32) reducesTo_S4096x2x1_S4096x2_d2 h_S_)
/-- The gradient of the heads, side by side. -/
def dxK (dyg q : FVec Ideal S4096x2x64 .f32) (r : FVec Ideal S4096x2x1 .f32) : FVec Ideal S4096x128 .bf16 :=
  truncf .bf16 (shapeCast _ (addf (addf (mulf dyg (broadcastInDim S4096x2x64 ![0, 1, 2] bcast_S4096x2x1_S4096x2x64_0_1_2 r)) (mulf x q)) (mulf q x)) shapeCasts_S4096x2x64_S4096x128) bitsLt_bf16_f32
/-- The gain's gradient, head by head. -/
def dgK (r : FVec Ideal S4096x2x1 .f32) : FVec Ideal S1x128 .f32 :=
  shapeCast _ (Host.reduceAdd (shapeCast _ (Host.reduceAdd (mulf (mulf x (broadcastInDim S4096x2x64 ![0, 1, 2] bcast_S4096x2x1_S4096x2x64_0_1_2 r)) dy) (constant S_ .f32 0x00000000#32) reducesTo_S4096x2x64_S2x64_d0 h_S_) shapeCasts_S2x64_S1x2x64) (constant S_ .f32 0x00000000#32) reducesTo_S1x2x64_S2x64_d0 h_S_) shapeCasts_S2x64_S1x128

/-- Position `k` of head `h` among the heads side by side. -/
abbrev atK (h : Fin 2) (k : Fin 64) : Fin 128 := ⟨64 * h.val + k.val, by have := h.isLt; have := k.isLt; omega⟩

/-- A head's row. -/
abbrev hdK (v : FVec Ideal S4096x2x64 .f32) (r : Fin 4096) (h : Fin 2) : Fin 64 → EReal := fun k => v (ix3 r h k)

theorem xK_apply (a0 : FVec Ideal S4096x2304 .f32) (r : Fin 4096) (h : Fin 2) (k : Fin 64) :
    xK a0 (ix3 r h k) = a0 (ix2 r ⟨2048 + (64 * h.val + k.val), by have := h.isLt; have := k.isLt; omega⟩) := by
  pointwise [xK]
  refine congrArg (fun l => a0 (ix2 r l)) (Fin.ext ?_)
  show 2048 + (h.val * 64 + k.val) = 2048 + (64 * h.val + k.val)
  omega

theorem dK_apply (a3 : FVec Ideal S4096x128 .f32) (r : Fin 4096) (h : Fin 2) (k : Fin 64) :
    dK a3 (ix3 r h k) = a3 (ix2 r (atK h k)) := by
  pointwise [dK]
  refine congrArg (fun l => a3 (ix2 r l)) (Fin.ext ?_)
  show h.val * 64 + k.val = 64 * h.val + k.val
  omega

theorem msK_apply (r : Fin 4096) (h : Fin 2) : msK x (ix3 r h (0 : Fin 1)) = meanSq (hdK x r h) := by
  have e : msK x (ix3 r h (0 : Fin 1)) = Ideal.div (∑ k : Fin 64, x (ix3 r h k) * x (ix3 r h k)) w64 + tiny := by
    pointwise [msK]
  rw [e, div64]
  rfl

theorem rK_apply (r : Fin 4096) (h : Fin 2) : rK x (ix3 r h (0 : Fin 1)) = root (hdK x r h) := by
  have e : rK x (ix3 r h (0 : Fin 1)) = Ideal.rsqrt (msK x (ix3 r h (0 : Fin 1))) := by
    unfold rK
    generalize msK x = v
    pointwise []
  rw [e, msK_apply]
  rfl

theorem dyK_apply (r : Fin 4096) (h : Fin 2) (k : Fin 64) :
    dyK d C S (ix3 r h k) = back (hdK d r h) (at2 C r) (at2 S r) k := by
  pointwise [dyK]
  have hk' := k.isLt
  unfold back
  by_cases hk : k.val < 32
  · have e : half k = ⟨k.val, hk⟩ := Fin.ext (Nat.mod_eq_of_lt hk)
    rw [dif_pos hk, if_pos hk, e]
    exact add_comm _ _
  · have e : half k = ⟨k.val - 32, by omega⟩ := Fin.ext (by show k.val % 32 = k.val - 32; omega)
    have e' : (⟨32 + (k.val - 32), by omega⟩ : Fin 64) = k := Fin.ext (by show 32 + (k.val - 32) = k.val; omega)
    rw [dif_neg hk, if_neg hk, e, e', neg_mul]

theorem dygK_apply (r : Fin 4096) (h : Fin 2) (k : Fin 64) : dygK g dy (ix3 r h k) = dy (ix3 r h k) * g (ix1 k) := by
  pointwise [dygK, gK]

/-- A lane's head. -/
abbrev headK (l : Fin 128) : Fin 2 := ⟨l.val / 64, by have := l.isLt; omega⟩
/-- Its position within the head. -/
abbrev posK (l : Fin 128) : Fin 64 := ⟨l.val % 64, Nat.mod_lt _ (by norm_num)⟩

theorem dxK_at (e : FVec Ideal S4096x2x64 .f32) (q : FVec Ideal S4096x2x64 .f32) (v : FVec Ideal S4096x2x1 .f32) (r : Fin 4096) (l : Fin 128) :
    dxK x e q v (ix2 r l)
      = e (ix3 r (headK l) (posK l)) * v (ix3 r (headK l) (0 : Fin 1)) + x (ix3 r (headK l) (posK l)) * q (ix3 r (headK l) (posK l))
        + q (ix3 r (headK l) (posK l)) * x (ix3 r (headK l) (posK l)) := by
  pointwise [dxK]

theorem shK_at (e : FVec Ideal S4096x2x64 .f32) (u v : FVec Ideal S4096x2x1 .f32) (r : Fin 4096) (h : Fin 2) (k : Fin 64) :
    shK x e u v (ix3 r h k)
      = Ideal.div ((∑ j : Fin 64, x (ix3 r h j) * e (ix3 r h j)) * (mhalf * Ideal.div (v (ix3 r h (0 : Fin 1))) (u (ix3 r h (0 : Fin 1))))) w64 := by
  pointwise [shK]
  simp only [Fin.sum_univ_one]

theorem dgK_at (v : FVec Ideal S4096x2x1 .f32) (l : Fin 128) :
    dgK x dy v (ix2 (0 : Fin 1) l)
      = ∑ r : Fin 4096, x (ix3 r (headK l) (posK l)) * v (ix3 r (headK l) (0 : Fin 1)) * dy (ix3 r (headK l) (posK l)) := by
  pointwise [dgK]
  simp only [Fin.sum_univ_one]

/-- The gradient of the heads, read at a row and a lane. -/
theorem dxK_apply (r : Fin 4096) (l : Fin 128) :
    dxK x (dygK g dy) (shK x (dygK g dy) (msK x) (rK x)) (rK x) (ix2 r l)
      = headBwd (hdK dy r (headK l)) (hdK x r (headK l)) (fun k => g (ix1 k)) (posK l) := by
  rw [← headBwd_eq, dxK_at, shK_at, div64, rK_apply, msK_apply]
  simp only [dygK_apply]

/-- The gain's gradient, read at a lane. -/
theorem dgK_apply (l : Fin 128) :
    dgK x dy (rK x) (ix2 (0 : Fin 1) l) = ∑ r : Fin 4096, headGain (hdK dy r (headK l)) (hdK x r (headK l)) (posK l) := by
  rw [dgK_at]
  refine Finset.sum_congr rfl fun r _ => ?_
  rw [rK_apply, mul_comm]
  rfl

end K

end Cert.Reference15Ideal.SwaPrepBwd

end
-- ==== Proof.SwaPrepBwd.lean ====
/-
  The rotary gradient after the run, as a function of the arguments, and the reference's terms met with it. Every head of
  a row is on its own; the two gains' gradients are summed over the points, which are blocks of rows.
-/
module

public import proofs.«01_k».proof.Defs
public import proofs.«01_k».proof.Proof.SwaPrepBwdBlocks
public import proofs.«01_k».proof.Proof.SwaPrepBwdCases
public import proofs.«01_k».proof.Proof.SwaPrepBwdRef
public import proofs.«01_k».proof.Proof.Chunks
public import Idealize.ShloMosaic.Lib.Quiescent

@[expose] public section

set_option maxRecDepth 16384

noncomputable section

namespace Cert.Kernel15Ideal.SwaPrepBwd

open Cert.Kernel15Ideal Cert.Kernel15Ideal.Gen Cert.Coords Cert.HeadNorm Cert.NormBwd Cert.Chunks Idealize.ShloMosaic Idealize.ShloMosaic.TcCoe Idealize.SL.Sem
open Idealize.ShloMosaic.Pipeline (Dat)

/-- The angle of each row and position. -/
def ang : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- Its cosine. -/
def cosT : FVec Ideal S4096x32 .f32 := Host.cos ang
/-- Its sine. -/
def sinT : FVec Ideal S4096x32 .f32 := Host.sin ang

variable (m : (ℓ : Loc nD τ sig) → Buf (Elt Ideal) ℓ) (c : Dev nD)

/-- The arguments: the projection, the two gains, the gradients at the queries, the keys and the values. -/
abbrev a0 : FVec Ideal S4096x2304 .f32 := m ((c : Thread nD τ).loc main_arg0)
abbrev a1 : FVec Ideal S64 .f32 := m ((c : Thread nD τ).loc main_arg1)
abbrev a2 : FVec Ideal S64 .f32 := m ((c : Thread nD τ).loc main_arg2)
abbrev a3 : FVec Ideal S4096x512 .f32 := m ((c : Thread nD τ).loc main_arg3)
abbrev a4 : FVec Ideal S4096x128 .f32 := m ((c : Thread nD τ).loc main_arg4)
abbrev a5 : FVec Ideal S4096x128 .f32 := m ((c : Thread nD τ).loc main_arg5)

theorem v28_at (r : Fin 4096) (l : Fin 2304) : (V m c main_v28 : FVec Ideal S4096x2304 .bf16) (ix2 r l) = a0 m c (ix2 r l) := by
  have h : (V m c main_v28 : FVec Ideal S4096x2304 .bf16) = truncf .bf16 (a0 m c) bitsLt_bf16_f32 := by
    show StableHlo.after hostOps0 (fun b => m (c, b)) _ = _
    unfold hostOps0
    after_results_simp <;> rfl
  rw [h]
  pointwise []

theorem v32_at (h : Fin 2) (k : Fin 64) : (V m c main_v32 : FVec Ideal S1x128 .f32) (ix2 (0 : Fin 1) (lane h k)) = a1 m c (ix1 k) := by
  have e : (V m c main_v32 : FVec Ideal S1x128 .f32) = shapeCast _ (broadcastInDim S1x1x2x64 ![0, 1, 2, 3] bcast_S1x1x1x64_S1x1x2x64_0_1_2_3 (shapeCast S1x1x1x64 (shapeCast S1x64 (a1 m c) shapeCasts_S64_S1x64) shapeCasts_S1x64_S1x1x1x64)) shapeCasts_S1x1x2x64_S1x128 := by
    show StableHlo.after hostOps0 (fun b => m (c, b)) _ = _
    unfold hostOps0
    after_results_simp <;> rfl
  rw [e]
  pointwise []
  refine congrArg (fun j => a1 m c (ix1 j)) (Fin.ext ?_)
  have := k.isLt
  show (64 * h.val + k.val) % 64 = k.val
  omega

theorem v36_at (h : Fin 2) (k : Fin 64) : (V m c main_v36 : FVec Ideal S1x128 .f32) (ix2 (0 : Fin 1) (lane h k)) = a2 m c (ix1 k) := by
  have e : (V m c main_v36 : FVec Ideal S1x128 .f32) = shapeCast _ (broadcastInDim S1x1x2x64 ![0, 1, 2, 3] bcast_S1x1x1x64_S1x1x2x64_0_1_2_3 (shapeCast S1x1x1x64 (shapeCast S1x64 (a2 m c) shapeCasts_S64_S1x64) shapeCasts_S1x64_S1x1x1x64)) shapeCasts_S1x1x2x64_S1x128 := by
    show StableHlo.after hostOps0 (fun b => m (c, b)) _ = _
    unfold hostOps0
    after_results_simp <;> rfl
  rw [e]
  pointwise []
  refine congrArg (fun j => a2 m c (ix1 j)) (Fin.ext ?_)
  have := k.isLt
  show (64 * h.val + k.val) % 64 = k.val
  omega

/-- A table of two halves, laid out for two heads. -/
def table (A B : FVec Ideal S4096x32 .f32) : FVec Ideal S4096x128 .f32 :=
  shapeCast _ (broadcastInDim S1x4096x2x64 ![0, 1, 2, 3] bcast_S1x4096x1x64_S1x4096x2x64_0_1_2_3 (shapeCast S1x4096x1x64 (concatenate S4096x64 1 [⟨S4096x32, A⟩, ⟨S4096x32, B⟩] concatenates_S4096x32_S4096x32_S4096x64_d1) shapeCasts_S4096x64_S1x4096x1x64)) shapeCasts_S1x4096x2x64_S4096x128

theorem table_at (A B : FVec Ideal S4096x32 .f32) (r : Fin 4096) (h : Fin 2) (k : Fin 64) :
    table A B (ix2 r (lane h k)) = if k.val < 32 then A (ix2 r (half k)) else B (ix2 r (half k)) := by
  pointwise [table]
  have hk := k.isLt
  have e : (64 * h.val + k.val) % 64 = k.val := by omega
  by_cases hlt : k.val < 32
  · rw [dif_pos (by omega), if_pos hlt]
    exact congrArg (fun j => A (ix2 r j)) (Fin.ext (by show (64 * h.val + k.val) % 64 = k.val % 32; omega))
  · rw [dif_neg (by omega), if_neg hlt]
    exact congrArg (fun j => B (ix2 r j)) (Fin.ext (by show (64 * h.val + k.val) % 64 - 32 = k.val % 32; omega))

theorem v22_at (r : Fin 4096) (h : Fin 2) (k : Fin 64) : (V m c main_v22 : FVec Ideal S4096x128 .f32) (ix2 r (lane h k)) = at2 cosT r (half k) := by
  have e : (V m c main_v22 : FVec Ideal S4096x128 .f32) = table cosT cosT := by
    show StableHlo.after hostOps0 (fun b => m (c, b)) _ = _
    unfold hostOps0
    after_results_simp <;> rfl
  rw [e, table_at, ite_self]

theorem v27_at (r : Fin 4096) (h : Fin 2) (k : Fin 64) :
    (V m c main_v27 : FVec Ideal S4096x128 .f32) (ix2 r (lane h k)) = (if k.val < 32 then -at2 sinT r (half k) else at2 sinT r (half k) : EReal) := by
  have e : (V m c main_v27 : FVec Ideal S4096x128 .f32) = table (Host.negf sinT) sinT := by
    show StableHlo.after hostOps0 (fun b => m (c, b)) _ = _
    unfold hostOps0
    after_results_simp <;> rfl
  rw [e, table_at]
  rfl

/-- A lane's head and its position, among eight heads. -/
abbrev hq (l : Fin 512) : Fin 8 := ⟨l.val / 64, by have := l.isLt; omega⟩
abbrev pq (l : Fin 512) : Fin 64 := ⟨l.val % 64, Nat.mod_lt _ (by norm_num)⟩
/-- A lane's head and its position, among two heads. -/
abbrev hk (l : Fin 128) : Fin 2 := ⟨l.val / 64, by have := l.isLt; omega⟩
abbrev pk (l : Fin 128) : Fin 64 := ⟨l.val % 64, Nat.mod_lt _ (by norm_num)⟩

/-- A query head of a row, and its gradient's. -/
def xq (r : Fin 4096) (h : Fin 8) : Fin 64 → EReal := fun k => a0 m c (ix2 r ⟨1536 + (64 * h.val + k.val), by have := h.isLt; have := k.isLt; omega⟩)
def dq (r : Fin 4096) (h : Fin 8) : Fin 64 → EReal := fun k => a3 m c (ix2 r ⟨64 * h.val + k.val, by have := h.isLt; have := k.isLt; omega⟩)
/-- A key head of a row, and its gradient's. -/
def xk (r : Fin 4096) (h : Fin 2) : Fin 64 → EReal := fun k => a0 m c (ix2 r ⟨2048 + (64 * h.val + k.val), by have := h.isLt; have := k.isLt; omega⟩)
def dk (r : Fin 4096) (h : Fin 2) : Fin 64 → EReal := fun k => a4 m c (ix2 r (lane h k))

/-- The gradient before the rotation, of a query head and of a key head. -/
def dyq (r : Fin 4096) (h : Fin 8) : Fin 64 → EReal := back (dq m c r h) (at2 cosT r) (at2 sinT r)
def dyk (r : Fin 4096) (h : Fin 2) : Fin 64 → EReal := back (dk m c r h) (at2 cosT r) (at2 sinT r)

/-- The gradient at a query, at a key. -/
def rq (r : Fin 4096) (l : Fin 512) : EReal := headBwd (dyq m c r (hq l)) (xq m c r (hq l)) (fun k => a1 m c (ix1 k)) (pq l)
def rk (r : Fin 4096) (l : Fin 128) : EReal := headBwd (dyk m c r (hk l)) (xk m c r (hk l)) (fun k => a2 m c (ix1 k)) (pk l)
/-- A row's term of the gains' gradients. -/
def gq (l : Fin 512) (r : Fin 4096) : EReal := headGain (dyq m c r (hq l)) (xq m c r (hq l)) (pq l)
def gk (l : Fin 128) (r : Fin 4096) : EReal := headGain (dyk m c r (hk l)) (xk m c r (hk l)) (pk l)

/-- The results. -/
def res9 : Vec Ideal S4096x512 .bf16 := fun i => rq m c (i 0) (i 1)
def res10 : Vec Ideal S4096x128 .bf16 := fun i => rk m c (i 0) (i 1)
def res11 : Vec Ideal S4096x128 .bf16 := fun i => a5 m c i
def res12 : Vec Ideal S1x512 .f32 := fun i => ∑ r, gq m c (i 1) r
def res13 : Vec Ideal S1x128 .f32 := fun i => ∑ r, gk m c (i 1) r

variable (t : Fin cfg0.N)

/-- The tables' blocks. -/
theorem tables : Tables (iblk m c 2 t) (iblk m c 3 t) (fun r => at2 cosT (row t r)) (fun r => at2 sinT (row t r)) where
  cos r h k := (blk2 m c t r (lane h k)).trans (v22_at m c (row t r) h k)
  sin r h k := (blk3 m c t r (lane h k)).trans (v27_at m c (row t r) h k)

theorem gainq (h : Fin 2) (k : Fin 64) : iblk m c 4 t (ix2 (0 : Fin 1) (lane h k)) = a1 m c (ix1 k) :=
  (blk4 m c t 0 (lane h k)).trans (v32_at m c h k)
theorem gaink (h : Fin 2) (k : Fin 64) : iblk m c 5 t (ix2 (0 : Fin 1) (lane h k)) = a2 m c (ix1 k) :=
  (blk5 m c t 0 (lane h k)).trans (v36_at m c h k)

/-- The keys' block: a head's row, and its gradient's. -/
theorem in_xk (r : Fin 512) (h : Fin 2) : hd (at2 (iblk m c 1 t)) r h = xk m c (row t r) h := by
  funext k
  exact (blk1 m c t r (lane h k)).trans (v28_at m c _ _)
theorem in_dk (r : Fin 512) (h : Fin 2) : hd (at2 (iblk m c 7 t)) r h = dk m c (row t r) h := by
  funext k
  exact (blk7 m c t r (lane h k)).trans (congrFun (V_main_arg4 m c) _)

theorem split_k (l : Fin 128) : l = lane (hk l) (pk l) := Fin.ext (by show l.val = 64 * (l.val / 64) + l.val % 64; omega)

theorem hk_lane (h : Fin 2) (k : Fin 64) : hk (lane h k) = h := Fin.ext (by have := k.isLt; show (64 * h.val + k.val) / 64 = h.val; omega)
theorem pk_lane (h : Fin 2) (k : Fin 64) : pk (lane h k) = k := Fin.ext (by have := k.isLt; show (64 * h.val + k.val) % 64 = k.val; omega)

/-- What point `t` computes of the keys. -/
theorem dxk_at (r : Fin 512) (l : Fin 128) :
    dxB (iblk m c 1 t) (iblk m c 5 t) (iblk m c 2 t) (iblk m c 3 t) (iblk m c 7 t) (ix2 r l) = rk m c (row t r) l := by
  rw [split_k l]
  refine (dxB_apply _ _ _ _ _ (tables m c t) (gaink m c t) r (hk l) (pk l)).trans ?_
  rw [in_xk, in_dk]
  unfold rk dyk
  rw [hk_lane, pk_lane]

theorem dgk_at (acc : Vec Ideal S1x128 .f32) (l : Fin 128) :
    dgB (iblk m c 1 t) (iblk m c 2 t) (iblk m c 3 t) (iblk m c 7 t) acc (ix2 (0 : Fin 1) l)
      = acc (ix2 (0 : Fin 1) l) + ∑ j : Fin 512, ext (gk m c l) (512 * t.val + j.val) := by
  rw [split_k l]
  refine (dgB_apply _ _ _ _ acc (tables m c t) (hk l) (pk l)).trans ?_
  refine congrArg (acc (ix2 (0 : Fin 1) (lane (hk l) (pk l))) + ·) (Finset.sum_congr rfl fun j _ => ?_)
  rw [in_xk, in_dk]
  refine Eq.trans ?_ (ext_val (gk m c (lane (hk l) (pk l))) (row t j)).symm
  unfold gk dyk
  rw [hk_lane, pk_lane]

/-- The queries' piece 0: a head's row, and its gradient's. -/
theorem in_xq0 (r : Fin 512) (h : Fin 2) : hd (at2 (View.ld (X0_0 m c t) box0)) r h = xq m c (row t r) ⟨0 + h.val, by have := h.isLt; omega⟩ := by
  funext k
  refine (ldp 0 _ _ r (lane h k) (col0 (lane h k)) rfl).trans ((blk0 m c t r _).trans ((v28_at m c _ _).trans ?_))
  refine congrArg (fun l => a0 m c (ix2 (row t r) l)) (Fin.ext ?_)
  show 1536 + (0 + (64 * h.val + k.val)) = 1536 + (64 * (0 + h.val) + k.val)
  omega
theorem in_dq0 (r : Fin 512) (h : Fin 2) : hd (at2 (View.ld (iblk m c 6 t) box0)) r h = dq m c (row t r) ⟨0 + h.val, by have := h.isLt; omega⟩ := by
  funext k
  refine (ldp 0 _ _ r (lane h k) (col0 (lane h k)) rfl).trans ((blk6 m c t r _).trans ((congrFun (V_main_arg3 m c) _).trans ?_))
  refine congrArg (fun l => a3 m c (ix2 (row t r) l)) (Fin.ext ?_)
  show 0 + (64 * h.val + k.val) = 64 * (0 + h.val) + k.val
  omega

theorem hq0 (l : Fin 128) : hq (col0 l) = ⟨0 + (hk l).val, by have := (hk l).isLt; omega⟩ :=
  Fin.ext (by show (0 + l.val) / 64 = 0 + l.val / 64; omega)
theorem pq0 (l : Fin 128) : pq (col0 l) = pk l := Fin.ext (by show (0 + l.val) % 64 = l.val % 64; omega)

theorem dxq0 (r : Fin 512) (l : Fin 128) :
    dxB (View.ld (X0_0 m c t) box0) (iblk m c 4 t) (iblk m c 2 t) (iblk m c 3 t) (View.ld (iblk m c 6 t) box0) (ix2 r l) = rq m c (row t r) (col0 l) := by
  refine (congrArg (fun j => dxB (View.ld (X0_0 m c t) box0) (iblk m c 4 t) (iblk m c 2 t) (iblk m c 3 t) (View.ld (iblk m c 6 t) box0) (ix2 r j)) (split_k l)).trans ?_
  refine (dxB_apply _ _ _ _ _ (tables m c t) (gainq m c t) r (hk l) (pk l)).trans ?_
  rw [in_xq0, in_dq0]
  unfold rq dyq
  rw [hq0, pq0]

theorem dgq0 (acc : Vec Ideal S1x128 .f32) (l : Fin 128) :
    dgB (View.ld (X0_0 m c t) box0) (iblk m c 2 t) (iblk m c 3 t) (View.ld (iblk m c 6 t) box0) acc (ix2 (0 : Fin 1) l)
      = acc (ix2 (0 : Fin 1) l) + ∑ j : Fin 512, ext (gq m c (col0 l)) (512 * t.val + j.val) := by
  refine (congrArg (fun j => dgB (View.ld (X0_0 m c t) box0) (iblk m c 2 t) (iblk m c 3 t) (View.ld (iblk m c 6 t) box0) acc (ix2 (0 : Fin 1) j)) (split_k l)).trans ?_
  refine (dgB_apply _ _ _ _ acc (tables m c t) (hk l) (pk l)).trans ?_
  rw [← split_k l]
  refine congrArg (acc (ix2 (0 : Fin 1) l) + ·) (Finset.sum_congr rfl fun j _ => ?_)
  rw [in_xq0, in_dq0]
  refine Eq.trans ?_ (ext_val (gq m c (col0 l)) (row t j)).symm
  unfold gq dyq
  rw [hq0, pq0]

/-- The queries' piece 1: a head's row, and its gradient's. -/
theorem in_xq1 (r : Fin 512) (h : Fin 2) : hd (at2 (View.ld (X0_0 m c t) box1)) r h = xq m c (row t r) ⟨2 + h.val, by have := h.isLt; omega⟩ := by
  funext k
  refine (ldp 128 _ _ r (lane h k) (col1 (lane h k)) rfl).trans ((blk0 m c t r _).trans ((v28_at m c _ _).trans ?_))
  refine congrArg (fun l => a0 m c (ix2 (row t r) l)) (Fin.ext ?_)
  show 1536 + (128 + (64 * h.val + k.val)) = 1536 + (64 * (2 + h.val) + k.val)
  omega
theorem in_dq1 (r : Fin 512) (h : Fin 2) : hd (at2 (View.ld (iblk m c 6 t) box1)) r h = dq m c (row t r) ⟨2 + h.val, by have := h.isLt; omega⟩ := by
  funext k
  refine (ldp 128 _ _ r (lane h k) (col1 (lane h k)) rfl).trans ((blk6 m c t r _).trans ((congrFun (V_main_arg3 m c) _).trans ?_))
  refine congrArg (fun l => a3 m c (ix2 (row t r) l)) (Fin.ext ?_)
  show 128 + (64 * h.val + k.val) = 64 * (2 + h.val) + k.val
  omega

theorem hq1 (l : Fin 128) : hq (col1 l) = ⟨2 + (hk l).val, by have := (hk l).isLt; omega⟩ :=
  Fin.ext (by show (128 + l.val) / 64 = 2 + l.val / 64; omega)
theorem pq1 (l : Fin 128) : pq (col1 l) = pk l := Fin.ext (by show (128 + l.val) % 64 = l.val % 64; omega)

theorem dxq1 (r : Fin 512) (l : Fin 128) :
    dxB (View.ld (X0_0 m c t) box1) (iblk m c 4 t) (iblk m c 2 t) (iblk m c 3 t) (View.ld (iblk m c 6 t) box1) (ix2 r l) = rq m c (row t r) (col1 l) := by
  refine (congrArg (fun j => dxB (View.ld (X0_0 m c t) box1) (iblk m c 4 t) (iblk m c 2 t) (iblk m c 3 t) (View.ld (iblk m c 6 t) box1) (ix2 r j)) (split_k l)).trans ?_
  refine (dxB_apply _ _ _ _ _ (tables m c t) (gainq m c t) r (hk l) (pk l)).trans ?_
  rw [in_xq1, in_dq1]
  unfold rq dyq
  rw [hq1, pq1]

theorem dgq1 (acc : Vec Ideal S1x128 .f32) (l : Fin 128) :
    dgB (View.ld (X0_0 m c t) box1) (iblk m c 2 t) (iblk m c 3 t) (View.ld (iblk m c 6 t) box1) acc (ix2 (0 : Fin 1) l)
      = acc (ix2 (0 : Fin 1) l) + ∑ j : Fin 512, ext (gq m c (col1 l)) (512 * t.val + j.val) := by
  refine (congrArg (fun j => dgB (View.ld (X0_0 m c t) box1) (iblk m c 2 t) (iblk m c 3 t) (View.ld (iblk m c 6 t) box1) acc (ix2 (0 : Fin 1) j)) (split_k l)).trans ?_
  refine (dgB_apply _ _ _ _ acc (tables m c t) (hk l) (pk l)).trans ?_
  rw [← split_k l]
  refine congrArg (acc (ix2 (0 : Fin 1) l) + ·) (Finset.sum_congr rfl fun j _ => ?_)
  rw [in_xq1, in_dq1]
  refine Eq.trans ?_ (ext_val (gq m c (col1 l)) (row t j)).symm
  unfold gq dyq
  rw [hq1, pq1]

/-- The queries' piece 2: a head's row, and its gradient's. -/
theorem in_xq2 (r : Fin 512) (h : Fin 2) : hd (at2 (View.ld (X0_0 m c t) box2)) r h = xq m c (row t r) ⟨4 + h.val, by have := h.isLt; omega⟩ := by
  funext k
  refine (ldp 256 _ _ r (lane h k) (col2 (lane h k)) rfl).trans ((blk0 m c t r _).trans ((v28_at m c _ _).trans ?_))
  refine congrArg (fun l => a0 m c (ix2 (row t r) l)) (Fin.ext ?_)
  show 1536 + (256 + (64 * h.val + k.val)) = 1536 + (64 * (4 + h.val) + k.val)
  omega
theorem in_dq2 (r : Fin 512) (h : Fin 2) : hd (at2 (View.ld (iblk m c 6 t) box2)) r h = dq m c (row t r) ⟨4 + h.val, by have := h.isLt; omega⟩ := by
  funext k
  refine (ldp 256 _ _ r (lane h k) (col2 (lane h k)) rfl).trans ((blk6 m c t r _).trans ((congrFun (V_main_arg3 m c) _).trans ?_))
  refine congrArg (fun l => a3 m c (ix2 (row t r) l)) (Fin.ext ?_)
  show 256 + (64 * h.val + k.val) = 64 * (4 + h.val) + k.val
  omega

theorem hq2 (l : Fin 128) : hq (col2 l) = ⟨4 + (hk l).val, by have := (hk l).isLt; omega⟩ :=
  Fin.ext (by show (256 + l.val) / 64 = 4 + l.val / 64; omega)
theorem pq2 (l : Fin 128) : pq (col2 l) = pk l := Fin.ext (by show (256 + l.val) % 64 = l.val % 64; omega)

theorem dxq2 (r : Fin 512) (l : Fin 128) :
    dxB (View.ld (X0_0 m c t) box2) (iblk m c 4 t) (iblk m c 2 t) (iblk m c 3 t) (View.ld (iblk m c 6 t) box2) (ix2 r l) = rq m c (row t r) (col2 l) := by
  refine (congrArg (fun j => dxB (View.ld (X0_0 m c t) box2) (iblk m c 4 t) (iblk m c 2 t) (iblk m c 3 t) (View.ld (iblk m c 6 t) box2) (ix2 r j)) (split_k l)).trans ?_
  refine (dxB_apply _ _ _ _ _ (tables m c t) (gainq m c t) r (hk l) (pk l)).trans ?_
  rw [in_xq2, in_dq2]
  unfold rq dyq
  rw [hq2, pq2]

theorem dgq2 (acc : Vec Ideal S1x128 .f32) (l : Fin 128) :
    dgB (View.ld (X0_0 m c t) box2) (iblk m c 2 t) (iblk m c 3 t) (View.ld (iblk m c 6 t) box2) acc (ix2 (0 : Fin 1) l)
      = acc (ix2 (0 : Fin 1) l) + ∑ j : Fin 512, ext (gq m c (col2 l)) (512 * t.val + j.val) := by
  refine (congrArg (fun j => dgB (View.ld (X0_0 m c t) box2) (iblk m c 2 t) (iblk m c 3 t) (View.ld (iblk m c 6 t) box2) acc (ix2 (0 : Fin 1) j)) (split_k l)).trans ?_
  refine (dgB_apply _ _ _ _ acc (tables m c t) (hk l) (pk l)).trans ?_
  rw [← split_k l]
  refine congrArg (acc (ix2 (0 : Fin 1) l) + ·) (Finset.sum_congr rfl fun j _ => ?_)
  rw [in_xq2, in_dq2]
  refine Eq.trans ?_ (ext_val (gq m c (col2 l)) (row t j)).symm
  unfold gq dyq
  rw [hq2, pq2]

/-- The queries' piece 3: a head's row, and its gradient's. -/
theorem in_xq3 (r : Fin 512) (h : Fin 2) : hd (at2 (View.ld (X0_0 m c t) box3)) r h = xq m c (row t r) ⟨6 + h.val, by have := h.isLt; omega⟩ := by
  funext k
  refine (ldp 384 _ _ r (lane h k) (col3 (lane h k)) rfl).trans ((blk0 m c t r _).trans ((v28_at m c _ _).trans ?_))
  refine congrArg (fun l => a0 m c (ix2 (row t r) l)) (Fin.ext ?_)
  show 1536 + (384 + (64 * h.val + k.val)) = 1536 + (64 * (6 + h.val) + k.val)
  omega
theorem in_dq3 (r : Fin 512) (h : Fin 2) : hd (at2 (View.ld (iblk m c 6 t) box3)) r h = dq m c (row t r) ⟨6 + h.val, by have := h.isLt; omega⟩ := by
  funext k
  refine (ldp 384 _ _ r (lane h k) (col3 (lane h k)) rfl).trans ((blk6 m c t r _).trans ((congrFun (V_main_arg3 m c) _).trans ?_))
  refine congrArg (fun l => a3 m c (ix2 (row t r) l)) (Fin.ext ?_)
  show 384 + (64 * h.val + k.val) = 64 * (6 + h.val) + k.val
  omega

theorem hq3 (l : Fin 128) : hq (col3 l) = ⟨6 + (hk l).val, by have := (hk l).isLt; omega⟩ :=
  Fin.ext (by show (384 + l.val) / 64 = 6 + l.val / 64; omega)
theorem pq3 (l : Fin 128) : pq (col3 l) = pk l := Fin.ext (by show (384 + l.val) % 64 = l.val % 64; omega)

theorem dxq3 (r : Fin 512) (l : Fin 128) :
    dxB (View.ld (X0_0 m c t) box3) (iblk m c 4 t) (iblk m c 2 t) (iblk m c 3 t) (View.ld (iblk m c 6 t) box3) (ix2 r l) = rq m c (row t r) (col3 l) := by
  refine (congrArg (fun j => dxB (View.ld (X0_0 m c t) box3) (iblk m c 4 t) (iblk m c 2 t) (iblk m c 3 t) (View.ld (iblk m c 6 t) box3) (ix2 r j)) (split_k l)).trans ?_
  refine (dxB_apply _ _ _ _ _ (tables m c t) (gainq m c t) r (hk l) (pk l)).trans ?_
  rw [in_xq3, in_dq3]
  unfold rq dyq
  rw [hq3, pq3]

theorem dgq3 (acc : Vec Ideal S1x128 .f32) (l : Fin 128) :
    dgB (View.ld (X0_0 m c t) box3) (iblk m c 2 t) (iblk m c 3 t) (View.ld (iblk m c 6 t) box3) acc (ix2 (0 : Fin 1) l)
      = acc (ix2 (0 : Fin 1) l) + ∑ j : Fin 512, ext (gq m c (col3 l)) (512 * t.val + j.val) := by
  refine (congrArg (fun j => dgB (View.ld (X0_0 m c t) box3) (iblk m c 2 t) (iblk m c 3 t) (View.ld (iblk m c 6 t) box3) acc (ix2 (0 : Fin 1) j)) (split_k l)).trans ?_
  refine (dgB_apply _ _ _ _ acc (tables m c t) (hk l) (pk l)).trans ?_
  rw [← split_k l]
  refine congrArg (acc (ix2 (0 : Fin 1) l) + ·) (Finset.sum_congr rfl fun j _ => ?_)
  rw [in_xq3, in_dq3]
  refine Eq.trans ?_ (ext_val (gq m c (col3 l)) (row t j)).symm
  unfold gq dyq
  rw [hq3, pq3]

/-- A lane of 512 lies in one of the four pieces. -/
theorem pieces {P : Fin 512 → Prop} (h : ∀ l, P (col0 l) ∧ P (col1 l) ∧ P (col2 l) ∧ P (col3 l)) (l : Fin 512) : P l := by
  have hl := l.isLt
  have hs : l.val / 128 = 0 ∨ l.val / 128 = 1 ∨ l.val / 128 = 2 ∨ l.val / 128 = 3 := by omega
  have hm : l.val % 128 < 128 := Nat.mod_lt _ (by norm_num)
  obtain ⟨p0, p1, p2, p3⟩ := h ⟨l.val % 128, hm⟩
  rcases hs with e | e | e | e
  · have : l = col0 ⟨l.val % 128, hm⟩ := Fin.ext (by show l.val = 0 + l.val % 128; omega)
    rw [this]; exact p0
  · have : l = col1 ⟨l.val % 128, hm⟩ := Fin.ext (by show l.val = 128 + l.val % 128; omega)
    rw [this]; exact p1
  · have : l = col2 ⟨l.val % 128, hm⟩ := Fin.ext (by show l.val = 256 + l.val % 128; omega)
    rw [this]; exact p2
  · have : l = col3 ⟨l.val % 128, hm⟩ := Fin.ext (by show l.val = 384 + l.val % 128; omega)
    rw [this]; exact p3

section
variable {A B C D E : Type} {p : A × B × C × D × E} {a : A} {b : B} {x : C} {d : D} {e : E} (h : p = (a, b, x, d, e))
include h
theorem proj9 : p.1 = a := by rw [h]
theorem proj10 : p.2.1 = b := by rw [h]
theorem proj11 : p.2.2.1 = x := by rw [h]
theorem proj12 : p.2.2.2.1 = d := by rw [h]
theorem proj13 : p.2.2.2.2 = e := by rw [h]
end

/-- What point `t` leaves of the queries' gradient. -/
theorem left9 (r : Fin 512) (l : Fin 512) : (outsAt0 m c t.val t.isLt).1 (ix2 r l) = rq m c (row t r) l := by
  revert l
  refine pieces fun l => ?_
  by_cases h : t.val % 8 = 0
  · have w := proj9 (outsAt0_A m c t h)
    obtain ⟨e0, e1, e2, e3⟩ := out_A_9 c _ _ _ _ _ _ _ _ _ _ _ _ _ _ _ _ _ _ _ _ _ _ _ _ _ _ _ _ _ _ _ _ _ _ _ _ _ _ ((hcond0_0 t).mpr h) r l w.symm
    exact ⟨e0.trans (dxq0 m c t r l), e1.trans (dxq1 m c t r l), e2.trans (dxq2 m c t r l), e3.trans (dxq3 m c t r l)⟩
  · have w := proj9 (outsAt0_B m c t h)
    obtain ⟨e0, e1, e2, e3⟩ := out_B_9 c _ _ _ _ _ _ _ _ _ _ _ _ _ _ _ _ _ _ _ _ _ _ _ _ _ _ _ _ _ _ _ _ _ _ _ _ _ _ _ _ (fun h' => h ((hcond0_0 t).mp h')) r l w.symm
    exact ⟨e0.trans (dxq0 m c t r l), e1.trans (dxq1 m c t r l), e2.trans (dxq2 m c t r l), e3.trans (dxq3 m c t r l)⟩

/-- What point `t` leaves of the keys' gradient. -/
theorem left10 (r : Fin 512) (l : Fin 128) : (outsAt0 m c t.val t.isLt).2.1 (ix2 r l) = rk m c (row t r) l := by
  by_cases h : t.val % 8 = 0
  · have w := proj10 (outsAt0_A m c t h)
    exact (congrFun w _).trans ((congrFun (out_A_10 c _ _ _ _ _ _ _ _ _ _ _ _ _ _ _ _ _ _ _ _ _ _ _ _ _ _ _ _ _ _ _ _ _ _ _ _ _ _ ((hcond0_0 t).mpr h)) (ix2 r l)).trans (dxk_at m c t r l))
  · have w := proj10 (outsAt0_B m c t h)
    exact (congrFun w _).trans ((congrFun (out_B_10 c _ _ _ _ _ _ _ _ _ _ _ _ _ _ _ _ _ _ _ _ _ _ _ _ _ _ _ _ _ _ _ _ _ _ _ _ _ _ _ _ (fun h' => h ((hcond0_0 t).mp h'))) (ix2 r l)).trans (dxk_at m c t r l))

/-- What point `t` leaves of the values' gradient: its block, rounded. -/
theorem left11 (r : Fin 512) (l : Fin 128) : (outsAt0 m c t.val t.isLt).2.2.1 (ix2 r l) = a5 m c (ix2 (row t r) l) := by
  have e : iblk m c 8 t (ix2 r l) = a5 m c (ix2 (row t r) l) := (blk8 m c t r l).trans (congrFun (V_main_arg5 m c) _)
  by_cases h : t.val % 8 = 0
  · have w := proj11 (outsAt0_A m c t h)
    exact (congrFun w _).trans ((congrFun (out_A_11 c _ _ _ _ _ _ _ _ _ _ _ _ _ _ _ _ _ _ _ _ _ _ _ _ _ _ _ _ _ _ _ _ _ _ _ _ _ _ ((hcond0_0 t).mpr h)) (ix2 r l)).trans e)
  · have w := proj11 (outsAt0_B m c t h)
    exact (congrFun w _).trans ((congrFun (out_B_11 c _ _ _ _ _ _ _ _ _ _ _ _ _ _ _ _ _ _ _ _ _ _ _ _ _ _ _ _ _ _ _ _ _ _ _ _ _ _ _ _ (fun h' => h ((hcond0_0 t).mp h'))) (ix2 r l)).trans e)

/-- What the first point leaves of the gains' gradients. -/
theorem first12 (h : t.val % 8 = 0) (l : Fin 512) :
    (outsAt0 m c t.val t.isLt).2.2.2.1 (ix2 (0 : Fin 1) l) = 0 + ∑ j : Fin 512, ext (gq m c l) (512 * t.val + j.val) := by
  revert l
  refine pieces fun l => ?_
  have w := proj12 (outsAt0_A m c t h)
  obtain ⟨e0, e1, e2, e3⟩ := out_A_12 c _ _ _ _ _ _ _ _ _ _ _ _ _ _ _ _ _ _ _ _ _ _ _ _ _ _ _ _ _ _ _ _ _ _ _ _ _ _ ((hcond0_0 t).mpr h) l w.symm
  exact ⟨e0.trans (dgq0 m c t none128 l), e1.trans (dgq1 m c t none128 l), e2.trans (dgq2 m c t none128 l), e3.trans (dgq3 m c t none128 l)⟩

theorem first13 (h : t.val % 8 = 0) (l : Fin 128) :
    (outsAt0 m c t.val t.isLt).2.2.2.2 (ix2 (0 : Fin 1) l) = 0 + ∑ j : Fin 512, ext (gk m c l) (512 * t.val + j.val) := by
  have w := proj13 (outsAt0_A m c t h)
  exact (congrFun w _).trans ((congrFun (out_A_13 c _ _ _ _ _ _ _ _ _ _ _ _ _ _ _ _ _ _ _ _ _ _ _ _ _ _ _ _ _ _ _ _ _ _ _ _ _ _ ((hcond0_0 t).mpr h)) (ix2 (0 : Fin 1) l)).trans (dgk_at m c t none128 l))

/-- What a later point leaves of them: its rows' sum over what the point before left. -/
theorem later12 (h : ¬t.val % 8 = 0) (l : Fin 512) :
    (outsAt0 m c t.val t.isLt).2.2.2.1 (ix2 (0 : Fin 1) l)
      = (outsAt0 m c (t.val - 1) (Nat.lt_of_le_of_lt (Nat.sub_le _ _) t.isLt)).2.2.2.1 (ix2 (0 : Fin 1) l) + ∑ j : Fin 512, ext (gq m c l) (512 * t.val + j.val) := by
  revert l
  refine pieces fun l => ?_
  have w := proj12 (outsAt0_B m c t h)
  generalize outsAt0 m c (t.val - 1) (Nat.lt_of_le_of_lt (Nat.sub_le _ _) t.isLt) = p at w ⊢
  obtain ⟨e0, e1, e2, e3⟩ := out_B_12 c _ _ _ _ _ _ _ _ _ _ _ _ _ _ _ _ _ _ _ _ _ _ _ _ _ _ _ _ _ _ _ _ _ _ _ _ _ _ p.2.2.2.1 p.2.2.2.2 (fun h' => h ((hcond0_0 t).mp h')) l w.symm
  refine ⟨e0.trans ((dgq0 m c t _ l).trans ?_), e1.trans ((dgq1 m c t _ l).trans ?_), e2.trans ((dgq2 m c t _ l).trans ?_), e3.trans ((dgq3 m c t _ l).trans ?_)⟩
  · rw [ldp 0 _ _ 0 l (col0 l) rfl]
  · rw [ldp 128 _ _ 0 l (col1 l) rfl]
  · rw [ldp 256 _ _ 0 l (col2 l) rfl]
  · rw [ldp 384 _ _ 0 l (col3 l) rfl]

theorem later13 (h : ¬t.val % 8 = 0) (l : Fin 128) :
    (outsAt0 m c t.val t.isLt).2.2.2.2 (ix2 (0 : Fin 1) l)
      = (outsAt0 m c (t.val - 1) (Nat.lt_of_le_of_lt (Nat.sub_le _ _) t.isLt)).2.2.2.2 (ix2 (0 : Fin 1) l) + ∑ j : Fin 512, ext (gk m c l) (512 * t.val + j.val) := by
  have w := proj13 (outsAt0_B m c t h)
  generalize outsAt0 m c (t.val - 1) (Nat.lt_of_le_of_lt (Nat.sub_le _ _) t.isLt) = p at w ⊢
  exact (congrFun w _).trans ((congrFun (out_B_13 c _ _ _ _ _ _ _ _ _ _ _ _ _ _ _ _ _ _ _ _ _ _ _ _ _ _ _ _ _ _ _ _ _ _ _ _ _ _ p.2.2.2.1 p.2.2.2.2 (fun h' => h ((hcond0_0 t).mp h'))) (ix2 (0 : Fin 1) l)).trans (dgk_at m c t _ l))

/-- After point `q` the gains' gradients are the sums over the rows of points up to `q`. -/
theorem sum12 (l : Fin 512) : ∀ (q : Nat) (t : Fin cfg0.N), t.val = q →
    (outsAt0 m c t.val t.isLt).2.2.2.1 (ix2 (0 : Fin 1) l) = upTo (gq m c l) 512 (q + 1)
  | 0, t, h => by
    rw [first12 m c t (by omega), h, upTo_succ, upTo_zero]
  | q + 1, t, h => by
    have ht : t.val < 8 := lt_of_lt_of_eq t.isLt N_0
    rw [later12 m c t (by omega)]
    have hs : t.val - 1 < cfg0.N := Nat.lt_of_le_of_lt (Nat.sub_le _ _) t.isLt
    have e := sum12 l q ⟨t.val - 1, hs⟩ (by show t.val - 1 = q; omega)
    dsimp only at e
    rw [e, h, upTo_succ _ _ (q + 1)]

theorem sum13 (l : Fin 128) : ∀ (q : Nat) (t : Fin cfg0.N), t.val = q →
    (outsAt0 m c t.val t.isLt).2.2.2.2 (ix2 (0 : Fin 1) l) = upTo (gk m c l) 512 (q + 1)
  | 0, t, h => by
    rw [first13 m c t (by omega), h, upTo_succ, upTo_zero]
  | q + 1, t, h => by
    have ht : t.val < 8 := lt_of_lt_of_eq t.isLt N_0
    rw [later13 m c t (by omega)]
    have hs : t.val - 1 < cfg0.N := Nat.lt_of_le_of_lt (Nat.sub_le _ _) t.isLt
    have e := sum13 l q ⟨t.val - 1, hs⟩ (by show t.val - 1 = q; omega)
    dsimp only at e
    rw [e, h, upTo_succ _ _ (q + 1)]

theorem flushed9 : (dats m 0 c).flushed 9 t = (win0_9.blk t).view.read (Elt Ideal) (res9 m c) := by
  rw [Value.flushed9]
  funext (x : S512x512.Idx)
  obtain ⟨a, b, rfl⟩ : ∃ (a : Fin 512) (b : Fin 512), x = ix2 a b := ⟨x 0, x 1, eq_ix2 x⟩
  refine Eq.trans ?_ (read9 _ t a b).symm
  exact left9 m c t a b

theorem flushed10 : (dats m 0 c).flushed 10 t = (win0_10.blk t).view.read (Elt Ideal) (res10 m c) := by
  rw [Value.flushed10]
  funext (x : S512x128.Idx)
  obtain ⟨a, b, rfl⟩ : ∃ (a : Fin 512) (b : Fin 128), x = ix2 a b := ⟨x 0, x 1, eq_ix2 x⟩
  refine Eq.trans ?_ (read10 _ t a b).symm
  exact left10 m c t a b

theorem flushed11 : (dats m 0 c).flushed 11 t = (win0_11.blk t).view.read (Elt Ideal) (res11 m c) := by
  rw [Value.flushed11]
  funext (x : S512x128.Idx)
  obtain ⟨a, b, rfl⟩ : ∃ (a : Fin 512) (b : Fin 128), x = ix2 a b := ⟨x 0, x 1, eq_ix2 x⟩
  refine Eq.trans ?_ (read11 _ t a b).symm
  exact left11 m c t a b

/-- The last point writes out the sum over all rows. -/
theorem flushed12 (hf : (cfg0.win 12).flush t = true) :
    (dats m 0 c).flushed 12 t = (win0_12.blk t).view.read (Elt Ideal) (res12 m c) := by
  have h : t.val % 8 = 7 := (flush0_12 t).mp hf
  have ht : t.val < 8 := lt_of_lt_of_eq t.isLt N_0
  rw [Value.flushed12]
  funext (x : S1x512.Idx)
  obtain ⟨a, b, rfl⟩ : ∃ (a : Fin 1) (b : Fin 512), x = ix2 a b := ⟨x 0, x 1, eq_ix2 x⟩
  refine Eq.trans ?_ (read12 _ t a b).symm
  obtain rfl : a = 0 := Fin.ext (by have := a.isLt; show a.val = 0; omega)
  refine (sum12 m c b 7 t (by omega)).trans ?_
  exact upTo_full _ 512 8 (by norm_num)

/-- The last point writes out the sum over all rows. -/
theorem flushed13 (hf : (cfg0.win 13).flush t = true) :
    (dats m 0 c).flushed 13 t = (win0_13.blk t).view.read (Elt Ideal) (res13 m c) := by
  have h : t.val % 8 = 7 := (flush0_13 t).mp hf
  have ht : t.val < 8 := lt_of_lt_of_eq t.isLt N_0
  rw [Value.flushed13]
  funext (x : S1x128.Idx)
  obtain ⟨a, b, rfl⟩ : ∃ (a : Fin 1) (b : Fin 128), x = ix2 a b := ⟨x 0, x 1, eq_ix2 x⟩
  refine Eq.trans ?_ (read13 _ t a b).symm
  obtain rfl : a = 0 := Fin.ext (by have := a.isLt; show a.val = 0; omega)
  refine (sum13 m c b 7 t (by omega)).trans ?_
  exact upTo_full _ 512 8 (by norm_num)

/-- The whole run: the result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v37_0) = res9 m c
      ∧ r.2.mem ((c : Thread nD τ).loc main_v37_1) = res10 m c
      ∧ r.2.mem ((c : Thread nD τ).loc main_v37_2) = res11 m c
      ∧ r.2.mem ((c : Thread nD τ).loc main_v37_3) = res12 m c
      ∧ r.2.mem ((c : Thread nD τ).loc main_v37_4) = res13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Value.run_blocks m ρ)
  obtain ⟨h9, h10, h11, h12, h13, hk⟩ := h c
  refine ⟨h9.trans ?_, h10.trans ?_, h11.trans ?_, h12.trans ?_, h13.trans ?_, hk⟩
  · exact (dats m 0 c).arrAt_eq_of_cover 9 (res9 m c) (fun t _ => flushed9 m c t) cover9
  · exact (dats m 0 c).arrAt_eq_of_cover 10 (res10 m c) (fun t _ => flushed10 m c t) cover10
  · exact (dats m 0 c).arrAt_eq_of_cover 11 (res11 m c) (fun t _ => flushed11 m c t) cover11
  · exact (dats m 0 c).arrAt_eq_of_cover 12 (res12 m c) (fun t hf => flushed12 m c t hf) cover12
  · exact (dats m 0 c).arrAt_eq_of_cover 13 (res13 m c) (fun t hf => flushed13 m c t hf) cover13

end Cert.Kernel15Ideal.SwaPrepBwd

namespace Cert.Reference15Ideal.SwaPrepBwd

open Cert.Reference15Ideal Cert.Reference15Ideal.Gen Cert.Coords Cert.HeadNorm Cert.NormBwd Idealize.ShloMosaic Idealize.ShloMosaic.TcCoe Idealize.SL.Sem
open Cert.Kernel15Ideal.SwaPrepBwd Cert.Reference15Ideal.Value

variable (m : (ℓ : Loc Cert.Kernel15Ideal.nD Cert.Kernel15Ideal.τ Cert.Kernel15Ideal.sig) → Buf (Elt Ideal) ℓ) (c : Dev Cert.Kernel15Ideal.nD)

theorem dyQ_eq (r : Fin 4096) (h : Fin 8) : hdQ (dyQ (dQ (a3 m c)) cosT sinT) r h = dyq m c r h := by
  have e : hdQ (dQ (a3 m c)) r h = dq m c r h := funext fun k => dQ_apply (a3 m c) r h k
  funext k
  exact (dyQ_apply _ _ _ r h k).trans (by rw [e, dyq])
theorem xQ_eq (r : Fin 4096) (h : Fin 8) : hdQ (xQ (a0 m c)) r h = xq m c r h := funext fun k => xQ_apply (a0 m c) r h k
theorem dyK_eq (r : Fin 4096) (h : Fin 2) : hdK (dyK (dK (a4 m c)) cosT sinT) r h = dyk m c r h := by
  have e : hdK (dK (a4 m c)) r h = dk m c r h := funext fun k => dK_apply (a4 m c) r h k
  funext k
  exact (dyK_apply _ _ _ r h k).trans (by rw [e, dyk])
theorem xK_eq (r : Fin 4096) (h : Fin 2) : hdK (xK (a0 m c)) r h = xk m c r h := funext fun k => xK_apply (a0 m c) r h k

theorem meet9 : dxQ (xQ (a0 m c)) (dygQ (a1 m c) (dyQ (dQ (a3 m c)) cosT sinT)) (shQ (xQ (a0 m c)) (dygQ (a1 m c) (dyQ (dQ (a3 m c)) cosT sinT)) (msQ (xQ (a0 m c))) (rQ (xQ (a0 m c)))) (rQ (xQ (a0 m c))) = res9 m c := by
  funext (i : S4096x512.Idx)
  obtain ⟨r, l, rfl⟩ : ∃ (r : Fin 4096) (l : Fin 512), i = ix2 r l := ⟨i 0, i 1, eq_ix2 i⟩
  refine (dxQ_apply _ _ _ r l).trans ?_
  rw [dyQ_eq, xQ_eq]
  rfl

theorem meet12 : dgQ (xQ (a0 m c)) (dyQ (dQ (a3 m c)) cosT sinT) (rQ (xQ (a0 m c))) = res12 m c := by
  funext (i : S1x512.Idx)
  obtain ⟨r, l, rfl⟩ : ∃ (r : Fin 1) (l : Fin 512), i = ix2 r l := ⟨i 0, i 1, eq_ix2 i⟩
  obtain rfl : r = 0 := Fin.ext (by have := r.isLt; show r.val = 0; omega)
  refine (dgQ_apply _ _ l).trans ?_
  refine Finset.sum_congr rfl fun r _ => ?_
  rw [dyQ_eq, xQ_eq]
  rfl

theorem meet10 : dxK (xK (a0 m c)) (dygK (a2 m c) (dyK (dK (a4 m c)) cosT sinT)) (shK (xK (a0 m c)) (dygK (a2 m c) (dyK (dK (a4 m c)) cosT sinT)) (msK (xK (a0 m c))) (rK (xK (a0 m c)))) (rK (xK (a0 m c))) = res10 m c := by
  funext (i : S4096x128.Idx)
  obtain ⟨r, l, rfl⟩ : ∃ (r : Fin 4096) (l : Fin 128), i = ix2 r l := ⟨i 0, i 1, eq_ix2 i⟩
  refine (dxK_apply _ _ _ r l).trans ?_
  rw [dyK_eq, xK_eq]
  rfl

theorem meet13 : dgK (xK (a0 m c)) (dyK (dK (a4 m c)) cosT sinT) (rK (xK (a0 m c))) = res13 m c := by
  funext (i : S1x128.Idx)
  obtain ⟨r, l, rfl⟩ : ∃ (r : Fin 1) (l : Fin 128), i = ix2 r l := ⟨i 0, i 1, eq_ix2 i⟩
  obtain rfl : r = 0 := Fin.ext (by have := r.isLt; show r.val = 0; omega)
  refine (dgK_apply _ _ l).trans ?_
  refine Finset.sum_congr rfl fun r _ => ?_
  rw [dyK_eq, xK_eq]
  rfl

variable (V0 : Valuation τ sig (Elt Ideal))

theorem v17_eq : res_main_v17 V0 = cosT := rfl
theorem v18_eq : res_main_v18 V0 = sinT := rfl

theorem xQ_of (f0 : V0 (Proc.devRef .tc main_arg0) = a0 m c) : res_main_v24 V0 = xQ (a0 m c) := by
  show xQ (V0 (Proc.devRef .tc main_arg0)) = _
  rw [f0]
theorem msQ_of (f0 : V0 (Proc.devRef .tc main_arg0) = a0 m c) : res_main_v31 V0 = msQ (xQ (a0 m c)) := by
  show msQ (res_main_v24 V0) = _
  rw [xQ_of m c V0 f0]
theorem rQ_of (f0 : V0 (Proc.devRef .tc main_arg0) = a0 m c) : res_main_v32 V0 = rQ (xQ (a0 m c)) := by
  show rQ (res_main_v24 V0) = _
  rw [xQ_of m c V0 f0]
theorem dyQ_of (fd : V0 (Proc.devRef .tc main_arg3) = a3 m c) : res_main_v71 V0 = dyQ (dQ (a3 m c)) cosT sinT := by
  show dyQ (dQ (V0 (Proc.devRef .tc main_arg3))) (res_main_v17 V0) (res_main_v18 V0) = _
  rw [fd, v17_eq, v18_eq]
theorem dygQ_of (fg : V0 (Proc.devRef .tc main_arg1) = a1 m c) (fd : V0 (Proc.devRef .tc main_arg3) = a3 m c) : res_main_v76 V0 = dygQ (a1 m c) (dyQ (dQ (a3 m c)) cosT sinT) := by
  show dygQ (V0 (Proc.devRef .tc main_arg1)) (res_main_v71 V0) = _
  rw [fg, dyQ_of m c V0 fd]
theorem shQ_of (f0 : V0 (Proc.devRef .tc main_arg0) = a0 m c) (fg : V0 (Proc.devRef .tc main_arg1) = a1 m c) (fd : V0 (Proc.devRef .tc main_arg3) = a3 m c) : res_main_v87 V0 = shQ (xQ (a0 m c)) (dygQ (a1 m c) (dyQ (dQ (a3 m c)) cosT sinT)) (msQ (xQ (a0 m c))) (rQ (xQ (a0 m c))) := by
  show shQ (res_main_v24 V0) (res_main_v76 V0) (res_main_v31 V0) (res_main_v32 V0) = _
  rw [xQ_of m c V0 f0, dygQ_of m c V0 fg fd, msQ_of m c V0 f0, rQ_of m c V0 f0]

theorem xK_of (f0 : V0 (Proc.devRef .tc main_arg0) = a0 m c) : res_main_v94 V0 = xK (a0 m c) := by
  show xK (V0 (Proc.devRef .tc main_arg0)) = _
  rw [f0]
theorem msK_of (f0 : V0 (Proc.devRef .tc main_arg0) = a0 m c) : res_main_v101 V0 = msK (xK (a0 m c)) := by
  show msK (res_main_v94 V0) = _
  rw [xK_of m c V0 f0]
theorem rK_of (f0 : V0 (Proc.devRef .tc main_arg0) = a0 m c) : res_main_v102 V0 = rK (xK (a0 m c)) := by
  show rK (res_main_v94 V0) = _
  rw [xK_of m c V0 f0]
theorem dyK_of (fd : V0 (Proc.devRef .tc main_arg4) = a4 m c) : res_main_v141 V0 = dyK (dK (a4 m c)) cosT sinT := by
  show dyK (dK (V0 (Proc.devRef .tc main_arg4))) (res_main_v17 V0) (res_main_v18 V0) = _
  rw [fd, v17_eq, v18_eq]
theorem dygK_of (fg : V0 (Proc.devRef .tc main_arg2) = a2 m c) (fd : V0 (Proc.devRef .tc main_arg4) = a4 m c) : res_main_v146 V0 = dygK (a2 m c) (dyK (dK (a4 m c)) cosT sinT) := by
  show dygK (V0 (Proc.devRef .tc main_arg2)) (res_main_v141 V0) = _
  rw [fg, dyK_of m c V0 fd]
theorem shK_of (f0 : V0 (Proc.devRef .tc main_arg0) = a0 m c) (fg : V0 (Proc.devRef .tc main_arg2) = a2 m c) (fd : V0 (Proc.devRef .tc main_arg4) = a4 m c) : res_main_v157 V0 = shK (xK (a0 m c)) (dygK (a2 m c) (dyK (dK (a4 m c)) cosT sinT)) (msK (xK (a0 m c))) (rK (xK (a0 m c))) := by
  show shK (res_main_v94 V0) (res_main_v146 V0) (res_main_v101 V0) (res_main_v102 V0) = _
  rw [xK_of m c V0 f0, dygK_of m c V0 fg fd, msK_of m c V0 f0, rK_of m c V0 f0]

end Cert.Reference15Ideal.SwaPrepBwd

namespace Cert.Proof.SwaPrepBwdClaims

open Idealize.ShloMosaic Idealize.ShloMosaic.TcCoe Idealize.SL.Sem
open Cert.Kernel15Ideal.SwaPrepBwd Cert.Reference15Ideal.SwaPrepBwd Cert.Reference15Ideal.Value

/-- The kernel and the reference leave the same arrays. -/
theorem algebraic : Cert.algebraic_Kernel15Ideal_Reference15Ideal := by
  intro m ρ m' ρ' _ hag
  refine ⟨fun c => res9 m c, fun c => res10 m c, fun c => res11 m c, fun c => res12 m c, fun c => res13 m c, run m ρ, ?_⟩
  refine (θ_run Cert.Reference15Ideal.defs _ _).mono (fun r h c => ?_) (Cert.Reference15Ideal.Value.run (F := Ideal) m' ρ')
  obtain ⟨e0, e1, e2, e3, e4, e5⟩ := hag c
  obtain ⟨h9, h10, h11, h12, h13, hk⟩ := h c
  let V0 := StableHlo.launchContents m' c
  refine ⟨h9.trans ?_, h10.trans ?_, h11.trans ?_, h12.trans ?_, h13.trans ?_, hk⟩
  · show dxQ (res_main_v24 V0) (res_main_v76 V0) (res_main_v87 V0) (res_main_v32 V0) = _
    rw [xQ_of m c V0 e0, dygQ_of m c V0 e1 e3, shQ_of m c V0 e0 e1 e3, rQ_of m c V0 e0]
    exact meet9 m c
  · show dxK (res_main_v94 V0) (res_main_v146 V0) (res_main_v157 V0) (res_main_v102 V0) = _
    rw [xK_of m c V0 e0, dygK_of m c V0 e2 e4, shK_of m c V0 e0 e2 e4, rK_of m c V0 e0]
    exact meet10 m c
  · show truncf (F := Ideal) .bf16 (V0 (Proc.devRef .tc Cert.Reference15Ideal.main_arg5) : FVec Ideal Cert.Reference15Ideal.S4096x128 .f32) Cert.Reference15Ideal.Gen.bitsLt_bf16_f32 = _
    rw [show V0 (Proc.devRef .tc Cert.Reference15Ideal.main_arg5) = a5 m c from e5]
    rfl
  · show dgQ (res_main_v24 V0) (res_main_v71 V0) (res_main_v32 V0) = _
    rw [xQ_of m c V0 e0, dyQ_of m c V0 e3, rQ_of m c V0 e0]
    exact meet12 m c
  · show dgK (res_main_v94 V0) (res_main_v141 V0) (res_main_v102 V0) = _
    rw [xK_of m c V0 e0, dyK_of m c V0 e4, rK_of m c V0 e0]
    exact meet13 m c

/-- The reference leaves its arguments as they were and no signal raised. -/
theorem frame_reference : Cert.quiescent_Reference15Ideal := fun m ρ _ =>
  (θ_run Cert.Reference15Ideal.defs _ _).mono (fun r h => ⟨fun c => (h c).2.2.2.2.2, sem_eq_zero_of_no_sems (by decide) r.2⟩)
    (Cert.Reference15Ideal.Value.run (F := Ideal) m ρ)

end Cert.Proof.SwaPrepBwdClaims

end
-- ==== Proof.SwaPrep.lean ====
/-
  The queries and keys made ready for attention: each head of a row normalised, scaled by its gain and turned by the
  row's angles. The grid has eight points; point t works on rows 512 t to 512 t + 511. The lanes, the tables and the
  pieces are those of this call's gradient.
-/
module

public import proofs.«01_k».proof.Defs
public import proofs.«01_k».proof.Proof.Gen.Kernel16Ideal.Value
public import proofs.«01_k».proof.Proof.Gen.Reference16Ideal.Run
public import proofs.«01_k».proof.Proof.SwaPrepBwd
public import Idealize.ShloMosaic.Lib.Quiescent

@[expose] public section

set_option maxRecDepth 16384

noncomputable section

namespace Cert.Kernel16Ideal.SwaPrep

open Cert.Kernel16Ideal Cert.Kernel16Ideal.Gen Cert.Coords Cert.HeadNorm Cert.NormBwd Idealize.ShloMosaic Idealize.ShloMosaic.TcCoe Idealize.SL.Sem
open Idealize.ShloMosaic.Pipeline (Dat)
open Cert.Kernel15Ideal.SwaPrepBwd (lane hd xB rB rot xB_apply rB_apply rot_first rot_second Tables table table_at cosT sinT hq pq hk pk split_k hk_lane pk_lane pieces
  zero2 box0 box1 box2 box3 col0 col1 col2 col3 four ldp hq0 hq1 hq2 hq3 pq0 pq1 pq2 pq3)

section Block

variable (x : Vec Ideal S512x128 .bf16) (g : Vec Ideal S1x128 .f32) (cs sn : Vec Ideal S512x128 .f32) {C S : Fin 512 → Fin 32 → EReal} {G : Fin 64 → EReal}

/-- A block's heads, normalised, with their gain. -/
def yB : FVec Ideal S512x128 .f32 := mulf (mulf (xB x) (rB x)) (broadcastTo S512x128 (shapeCast S1x128 g shapeCasts_S1x128_S1x128) broadcasts_S1x128_S512x128)
/-- They, turned. -/
def oB : FVec Ideal S512x128 .bf16 :=
  truncf .bf16 (addf (mulf (yB x g) (shapeCast S512x128 cs shapeCasts_S512x128_S512x128)) (mulf (rot (yB x g)) (shapeCast S512x128 sn shapeCasts_S512x128_S512x128))) bitsLt_bf16_f32

theorem yB_apply (hG : ∀ h k, g (ix2 (0 : Fin 1) (lane h k)) = G k) (r : Fin 512) (h : Fin 2) (k : Fin 64) :
    yB x g (ix2 r (lane h k)) = normed (hd (at2 x) r h) G k := by
  have e : yB x g (ix2 r (lane h k)) = xB x (ix2 r (lane h k)) * rB x (ix2 r (lane h k)) * g (ix2 (0 : Fin 1) (lane h k)) := by
    unfold yB
    generalize rB x = w
    generalize xB x = u
    pointwise
  rw [e, xB_apply, rB_apply, hG]
  rfl

theorem oB_apply (T : Tables cs sn C S) (hG : ∀ h k, g (ix2 (0 : Fin 1) (lane h k)) = G k) (r : Fin 512) (h : Fin 2) (k : Fin 64) :
    oB x g cs sn (ix2 r (lane h k)) = turn (normed (hd (at2 x) r h) G) (C r) (S r) k := by
  have e : oB x g cs sn (ix2 r (lane h k)) = yB x g (ix2 r (lane h k)) * cs (ix2 r (lane h k)) + rot (yB x g) (ix2 r (lane h k)) * sn (ix2 r (lane h k)) := by
    unfold oB
    generalize rot (yB x g) = w
    generalize yB x g = u
    pointwise
  rw [e, T.cos, T.sin]
  unfold turn
  by_cases hk : k.val < 32
  · rw [rot_first _ _ _ _ hk, if_pos hk, if_pos hk, yB_apply x g hG, yB_apply x g hG, mul_neg]
  · rw [rot_second _ _ _ _ hk, if_neg hk, if_neg hk, yB_apply x g hG, yB_apply x g hG]

end Block

section Case

variable (c : Dev nD) (i : grid0.Coords) (g0 : Memref sig .tc .vmem S512x512 .bf16) (h0 : g0.IsWhole) (g1 : Memref sig .tc .vmem S512x128 .bf16) (h1 : g1.IsWhole) (g2 : Memref sig .tc .vmem S512x128 .f32) (h2 : g2.IsWhole) (g3 : Memref sig .tc .vmem S512x128 .f32) (h3 : g3.IsWhole) (g4 : Memref sig .tc .vmem S1x128 .f32) (h4 : g4.IsWhole) (g5 : Memref sig .tc .vmem S1x128 .f32) (h5 : g5.IsWhole) (g6 : Memref sig .tc .vmem S512x512 .bf16) (h6 : g6.IsWhole) (g7 : Memref sig .tc .vmem S512x128 .bf16) (h7 : g7.IsWhole)
  (x0 : Vec Ideal S512x512 .bf16) (x1 : Vec Ideal S512x128 .bf16) (x2 x3 : Vec Ideal S512x128 .f32) (x4 x5 : Vec Ideal S1x128 .f32)

theorem out_6 (r : Fin 512) (l : Fin 128) {P : Vec Ideal S512x512 .bf16} (hP : out0_A_6 c i g0 h0 g1 h1 g2 h2 g3 h3 g4 h4 g5 h5 g6 h6 g7 h7 x0 x1 x2 x3 x4 x5 = P) :
    P (ix2 r (col0 l)) = oB (View.ld x0 box0) x4 x2 x3 (ix2 r l) ∧ P (ix2 r (col1 l)) = oB (View.ld x0 box1) x4 x2 x3 (ix2 r l)
      ∧ P (ix2 r (col2 l)) = oB (View.ld x0 box2) x4 x2 x3 (ix2 r l) ∧ P (ix2 r (col3 l)) = oB (View.ld x0 box3) x4 x2 x3 (ix2 r l) := by
  rw [← hP]
  unfold out0_A_6
  rw [View.read_writes_eq_canon _ _ _ (cover0_A_6 c i g0 h0 g1 h1 g2 h2 g3 h3 g4 h4 g5 h5 g6 h6 g7 h7 x0 x1 x2 x3 x4 x5)]
  unfold kernelRun0_A
  dsimp only
  sl_unfold_words
  simp only [View.readAt_eq_ld, h0.read_unread, h1.read_unread, h2.read_unread, h3.read_unread, h4.read_unread, h5.read_unread, View.ld_unit_zero (S := S1x128) zero2, View.ld_unit_zero (S := S512x128) zero2]
  refine four _ _ _ _ _ _ _ _ _ _ _ _ _ r l ?_ ?_ ?_ ?_ rfl <;> rfl

theorem out_7 : out0_A_7 c i g0 h0 g1 h1 g2 h2 g3 h3 g4 h4 g5 h5 g6 h6 g7 h7 x0 x1 x2 x3 x4 x5 = oB x1 x5 x2 x3 := by
  unfold out0_A_7
  rw [View.read_writes_eq_canon _ _ _ (cover0_A_7 c i g0 h0 g1 h1 g2 h2 g3 h3 g4 h4 g5 h5 g6 h6 g7 h7 x0 x1 x2 x3 x4 x5)]
  unfold kernelRun0_A
  dsimp only
  sl_unfold_words
  rw [View.canon_unit_zero (S := S512x128) zero2]
  simp only [View.readAt_eq_ld, h0.read_unread, h1.read_unread, h2.read_unread, h3.read_unread, h4.read_unread, h5.read_unread, View.ld_unit_zero (S := S1x128) zero2, View.ld_unit_zero (S := S512x128) zero2]
  rfl

end Case

variable (m : (ℓ : Loc nD τ sig) → Buf (Elt Ideal) ℓ) (c : Dev nD)

/-- The arguments: the projection and the two gains. -/
abbrev a0 : FVec Ideal S4096x2304 .f32 := m ((c : Thread nD τ).loc main_arg0)
abbrev a1 : FVec Ideal S64 .f32 := m ((c : Thread nD τ).loc main_arg1)
abbrev a2 : FVec Ideal S64 .f32 := m ((c : Thread nD τ).loc main_arg2)

theorem v28_at (r : Fin 4096) (l : Fin 2304) : (V m c main_v28 : FVec Ideal S4096x2304 .bf16) (ix2 r l) = a0 m c (ix2 r l) := by
  have h : (V m c main_v28 : FVec Ideal S4096x2304 .bf16) = truncf .bf16 (a0 m c) bitsLt_bf16_f32 := by
    show StableHlo.after hostOps0 (fun b => m (c, b)) _ = _
    unfold hostOps0
    after_results_simp <;> rfl
  rw [h]
  pointwise []

/-- A gain, laid out for two heads. -/
theorem gain_at (g : FVec Ideal S64 .f32) (h : Fin 2) (k : Fin 64) :
    shapeCast S1x128 (broadcastInDim S1x1x2x64 ![0, 1, 2, 3] bcast_S1x1x1x64_S1x1x2x64_0_1_2_3 (shapeCast S1x1x1x64 (shapeCast S1x64 g shapeCasts_S64_S1x64) shapeCasts_S1x64_S1x1x1x64)) shapeCasts_S1x1x2x64_S1x128 (ix2 (0 : Fin 1) (lane h k)) = g (ix1 k) := by
  pointwise []
  refine congrArg (fun j => g (ix1 j)) (Fin.ext ?_)
  have := k.isLt
  show (64 * h.val + k.val) % 64 = k.val
  omega

theorem v32_at (h : Fin 2) (k : Fin 64) : (V m c main_v32 : FVec Ideal S1x128 .f32) (ix2 (0 : Fin 1) (lane h k)) = a1 m c (ix1 k) := by
  refine Eq.trans (congrFun ?_ _) (gain_at (a1 m c) h k)
  show StableHlo.after hostOps0 (fun b => m (c, b)) _ = _
  unfold hostOps0
  after_results_simp <;> rfl
theorem v36_at (h : Fin 2) (k : Fin 64) : (V m c main_v36 : FVec Ideal S1x128 .f32) (ix2 (0 : Fin 1) (lane h k)) = a2 m c (ix1 k) := by
  refine Eq.trans (congrFun ?_ _) (gain_at (a2 m c) h k)
  show StableHlo.after hostOps0 (fun b => m (c, b)) _ = _
  unfold hostOps0
  after_results_simp <;> rfl

theorem v22_eq : (V m c main_v22 : FVec Ideal S4096x128 .f32) = table cosT cosT := by
  show StableHlo.after hostOps0 (fun b => m (c, b)) _ = _
  unfold hostOps0
  after_results_simp <;> rfl
theorem v27_eq : (V m c main_v27 : FVec Ideal S4096x128 .f32) = table (Host.negf sinT) sinT := by
  show StableHlo.after hostOps0 (fun b => m (c, b)) _ = _
  unfold hostOps0
  after_results_simp <;> rfl

/-- Row `r` of block `t` as a row of the whole array. -/
abbrev row (t : Fin cfg0.N) (r : Fin 512) : Fin 4096 :=
  ⟨512 * t.val + r.val, by have ht : t.val < 8 := lt_of_lt_of_eq t.isLt N_0; have hr := r.isLt; omega⟩

theorem start0 : ∀ t : Fin cfg0.N, win0_0.index t 0 = t.val ∧ win0_0.index t 1 = 3 := by decide +kernel
theorem start1 : ∀ t : Fin cfg0.N, win0_1.index t 0 = t.val ∧ win0_1.index t 1 = 16 := by decide +kernel
theorem start2 : ∀ t : Fin cfg0.N, win0_2.index t 0 = t.val ∧ win0_2.index t 1 = 0 := by decide +kernel
theorem start3 : ∀ t : Fin cfg0.N, win0_3.index t 0 = t.val ∧ win0_3.index t 1 = 0 := by decide +kernel
theorem start4 : ∀ t : Fin cfg0.N, win0_4.index t 0 = 0 ∧ win0_4.index t 1 = 0 := by decide +kernel
theorem start5 : ∀ t : Fin cfg0.N, win0_5.index t 0 = 0 ∧ win0_5.index t 1 = 0 := by decide +kernel
theorem start6 : ∀ t : Fin cfg0.N, win0_6.index t 0 = t.val ∧ win0_6.index t 1 = 0 := by decide +kernel
theorem start7 : ∀ t : Fin cfg0.N, win0_7.index t 0 = t.val ∧ win0_7.index t 1 = 0 := by decide +kernel

theorem blk0 (c : Dev nD) (t : Fin cfg0.N) (r : Fin 512) (k : Fin 512) : X0_0 m c t (ix2 r k) = V m c main_v28 (ix2 (row t r) ⟨1536 + k.val, by have := k.isLt; omega⟩) := by
  show (cfg0.win 0).fill (grid0.coords t) dflt0_0 (iblk m c 0 t) (ix2 r k) = _
  unfold Pipeline.Window.fill
  rw [dif_pos (moved0_0 t (ix2 r k))]
  show V m c main_v28 ((win0_0.blk t).view.emb _) = _
  refine congrArg (V m c main_v28) (funext fun a => Fin.ext ?_)
  match a with
  | ⟨0, _⟩ => show win0_0.index t 0 * 512 + 1 * r.val = 512 * t.val + r.val; rw [(start0 t).1]; omega
  | ⟨1, _⟩ => show win0_0.index t 1 * 512 + 1 * k.val = 1536 + k.val; rw [(start0 t).2]; omega
theorem blk1 (c : Dev nD) (t : Fin cfg0.N) (r : Fin 512) (k : Fin 128) : iblk m c 1 t (ix2 r k) = V m c main_v28 (ix2 (row t r) ⟨2048 + k.val, by have := k.isLt; omega⟩) := by
  show V m c main_v28 ((win0_1.blk t).view.emb (ix2 r k)) = _
  refine congrArg (V m c main_v28) (funext fun a => Fin.ext ?_)
  match a with
  | ⟨0, _⟩ => show win0_1.index t 0 * 512 + 1 * r.val = 512 * t.val + r.val; rw [(start1 t).1]; omega
  | ⟨1, _⟩ => show win0_1.index t 1 * 128 + 1 * k.val = 2048 + k.val; rw [(start1 t).2]; omega
theorem blk2 (c : Dev nD) (t : Fin cfg0.N) (r : Fin 512) (k : Fin 128) : iblk m c 2 t (ix2 r k) = V m c main_v22 (ix2 (row t r) k) := by
  show V m c main_v22 ((win0_2.blk t).view.emb (ix2 r k)) = _
  refine congrArg (V m c main_v22) (funext fun a => Fin.ext ?_)
  match a with
  | ⟨0, _⟩ => show win0_2.index t 0 * 512 + 1 * r.val = 512 * t.val + r.val; rw [(start2 t).1]; omega
  | ⟨1, _⟩ => show win0_2.index t 1 * 128 + 1 * k.val = k.val; rw [(start2 t).2]; omega
theorem blk3 (c : Dev nD) (t : Fin cfg0.N) (r : Fin 512) (k : Fin 128) : iblk m c 3 t (ix2 r k) = V m c main_v27 (ix2 (row t r) k) := by
  show V m c main_v27 ((win0_3.blk t).view.emb (ix2 r k)) = _
  refine congrArg (V m c main_v27) (funext fun a => Fin.ext ?_)
  match a with
  | ⟨0, _⟩ => show win0_3.index t 0 * 512 + 1 * r.val = 512 * t.val + r.val; rw [(start3 t).1]; omega
  | ⟨1, _⟩ => show win0_3.index t 1 * 128 + 1 * k.val = k.val; rw [(start3 t).2]; omega
theorem blk4 (c : Dev nD) (t : Fin cfg0.N) (r : Fin 1) (k : Fin 128) : iblk m c 4 t (ix2 r k) = V m c main_v32 (ix2 (r) k) := by
  show V m c main_v32 ((win0_4.blk t).view.emb (ix2 r k)) = _
  refine congrArg (V m c main_v32) (funext fun a => Fin.ext ?_)
  match a with
  | ⟨0, _⟩ => show win0_4.index t 0 * 1 + 1 * r.val = r.val; rw [(start4 t).1]; omega
  | ⟨1, _⟩ => show win0_4.index t 1 * 128 + 1 * k.val = k.val; rw [(start4 t).2]; omega
theorem blk5 (c : Dev nD) (t : Fin cfg0.N) (r : Fin 1) (k : Fin 128) : iblk m c 5 t (ix2 r k) = V m c main_v36 (ix2 (r) k) := by
  show V m c main_v36 ((win0_5.blk t).view.emb (ix2 r k)) = _
  refine congrArg (V m c main_v36) (funext fun a => Fin.ext ?_)
  match a with
  | ⟨0, _⟩ => show win0_5.index t 0 * 1 + 1 * r.val = r.val; rw [(start5 t).1]; omega
  | ⟨1, _⟩ => show win0_5.index t 1 * 128 + 1 * k.val = k.val; rw [(start5 t).2]; omega

theorem read6 (A : Vec Ideal S4096x512 .bf16) (t : Fin cfg0.N) (r : Fin 512) (k : Fin 512) :
    ((win0_6.blk t).view.read (Elt Ideal) A : Vec Ideal S512x512 .bf16) (ix2 r k) = A (ix2 (row t r) k) := by
  show A ((win0_6.blk t).view.emb (ix2 r k)) = _
  refine congrArg A (funext fun a => Fin.ext ?_)
  match a with
  | ⟨0, _⟩ => show win0_6.index t 0 * 512 + 1 * r.val = 512 * t.val + r.val; rw [(start6 t).1]; omega
  | ⟨1, _⟩ => show win0_6.index t 1 * 512 + 1 * k.val = k.val; rw [(start6 t).2]; omega
theorem cover6 (i : S4096x512.Idx) : ∃ t : Fin cfg0.N, (cfg0.win 6).flush t = true ∧ i ∈ ((cfg0.win 6).blk t).view.set := by
  have h0 : (i 0).val < 4096 := (i 0).isLt
  have h1 : (i 1).val < 512 := (i 1).isLt
  have hN : cfg0.N = 8 := N_0
  refine ⟨⟨(i 0).val / 512, by omega⟩, flush0_6 _, ?_⟩
  generalize ht : (⟨(i 0).val / 512, by omega⟩ : Fin cfg0.N) = t
  have hv : t.val = (i 0).val / 512 := by rw [← ht]
  show i ∈ ((View.whole main_v37_0).slice (win0_6.rect t)).set
  rw [View.set_slice_whole, Rect.mem_set_unit]
  intro a
  match a with
  | ⟨0, _⟩ => show win0_6.index t 0 * 512 ≤ (i 0).val ∧ (i 0).val < win0_6.index t 0 * 512 + 512; rw [(start6 t).1]; omega
  | ⟨1, _⟩ => show win0_6.index t 1 * 512 ≤ (i 1).val ∧ (i 1).val < win0_6.index t 1 * 512 + 512; rw [(start6 t).2]; omega

theorem read7 (A : Vec Ideal S4096x128 .bf16) (t : Fin cfg0.N) (r : Fin 512) (k : Fin 128) :
    ((win0_7.blk t).view.read (Elt Ideal) A : Vec Ideal S512x128 .bf16) (ix2 r k) = A (ix2 (row t r) k) := by
  show A ((win0_7.blk t).view.emb (ix2 r k)) = _
  refine congrArg A (funext fun a => Fin.ext ?_)
  match a with
  | ⟨0, _⟩ => show win0_7.index t 0 * 512 + 1 * r.val = 512 * t.val + r.val; rw [(start7 t).1]; omega
  | ⟨1, _⟩ => show win0_7.index t 1 * 128 + 1 * k.val = k.val; rw [(start7 t).2]; omega
theorem cover7 (i : S4096x128.Idx) : ∃ t : Fin cfg0.N, (cfg0.win 7).flush t = true ∧ i ∈ ((cfg0.win 7).blk t).view.set := by
  have h0 : (i 0).val < 4096 := (i 0).isLt
  have h1 : (i 1).val < 128 := (i 1).isLt
  have hN : cfg0.N = 8 := N_0
  refine ⟨⟨(i 0).val / 512, by omega⟩, flush0_7 _, ?_⟩
  generalize ht : (⟨(i 0).val / 512, by omega⟩ : Fin cfg0.N) = t
  have hv : t.val = (i 0).val / 512 := by rw [← ht]
  show i ∈ ((View.whole main_v37_1).slice (win0_7.rect t)).set
  rw [View.set_slice_whole, Rect.mem_set_unit]
  intro a
  match a with
  | ⟨0, _⟩ => show win0_7.index t 0 * 512 ≤ (i 0).val ∧ (i 0).val < win0_7.index t 0 * 512 + 512; rw [(start7 t).1]; omega
  | ⟨1, _⟩ => show win0_7.index t 1 * 128 ≤ (i 1).val ∧ (i 1).val < win0_7.index t 1 * 128 + 128; rw [(start7 t).2]; omega

/-- A query head of a row, and a key head. -/
def xq (r : Fin 4096) (h : Fin 8) : Fin 64 → EReal := fun k => a0 m c (ix2 r ⟨1536 + (64 * h.val + k.val), by have := h.isLt; have := k.isLt; omega⟩)
def xk (r : Fin 4096) (h : Fin 2) : Fin 64 → EReal := fun k => a0 m c (ix2 r ⟨2048 + (64 * h.val + k.val), by have := h.isLt; have := k.isLt; omega⟩)

/-- The results. -/
def res6 : Vec Ideal S4096x512 .bf16 := fun i => turn (normed (xq m c (i 0) (hq (i 1))) (fun k => a1 m c (ix1 k))) (at2 cosT (i 0)) (at2 sinT (i 0)) (pq (i 1))
def res7 : Vec Ideal S4096x128 .bf16 := fun i => turn (normed (xk m c (i 0) (hk (i 1))) (fun k => a2 m c (ix1 k))) (at2 cosT (i 0)) (at2 sinT (i 0)) (pk (i 1))

variable (t : Fin cfg0.N)

theorem tables : Tables (iblk m c 2 t) (iblk m c 3 t) (fun r => at2 cosT (row t r)) (fun r => at2 sinT (row t r)) where
  cos r h k := (blk2 m c t r (lane h k)).trans (by rw [v22_eq]; exact (table_at _ _ _ h k).trans (ite_self _))
  sin r h k := (blk3 m c t r (lane h k)).trans (by rw [v27_eq]; exact table_at _ _ _ h k)

theorem gainq (h : Fin 2) (k : Fin 64) : iblk m c 4 t (ix2 (0 : Fin 1) (lane h k)) = a1 m c (ix1 k) := (blk4 m c t 0 (lane h k)).trans (v32_at m c h k)
theorem gaink (h : Fin 2) (k : Fin 64) : iblk m c 5 t (ix2 (0 : Fin 1) (lane h k)) = a2 m c (ix1 k) := (blk5 m c t 0 (lane h k)).trans (v36_at m c h k)

/-- What point `t` leaves of the keys. -/
theorem left7 (r : Fin 512) (l : Fin 128) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (X0_0 m c t) (iblk m c 1 t) (iblk m c 2 t) (iblk m c 3 t) (iblk m c 4 t) (iblk m c 5 t) (ix2 r l) = res7 m c (ix2 (row t r) l) := by
  rw [out_7]
  refine (congrArg (fun j => oB (iblk m c 1 t) (iblk m c 5 t) (iblk m c 2 t) (iblk m c 3 t) (ix2 r j)) (split_k l)).trans ?_
  refine (oB_apply _ _ _ _ (tables m c t) (gaink m c t) r (hk l) (pk l)).trans ?_
  have e : hd (at2 (iblk m c 1 t)) r (hk l) = xk m c (row t r) (hk l) := funext fun k => (blk1 m c t r _).trans (v28_at m c _ _)
  rw [e]
  rfl

theorem piece0 (r : Fin 512) (l : Fin 128) :
    oB (View.ld (X0_0 m c t) box0) (iblk m c 4 t) (iblk m c 2 t) (iblk m c 3 t) (ix2 r l) = res6 m c (ix2 (row t r) (col0 l)) := by
  refine (congrArg (fun j => oB (View.ld (X0_0 m c t) box0) (iblk m c 4 t) (iblk m c 2 t) (iblk m c 3 t) (ix2 r j)) (split_k l)).trans ?_
  refine (oB_apply _ _ _ _ (tables m c t) (gainq m c t) r (hk l) (pk l)).trans ?_
  have e : hd (at2 (View.ld (X0_0 m c t) box0)) r (hk l) = xq m c (row t r) (hq (col0 l)) := by
    rw [hq0]
    funext k
    refine (ldp 0 _ _ r (lane (hk l) k) (col0 (lane (hk l) k)) rfl).trans ((blk0 m c t r _).trans ((v28_at m c _ _).trans ?_))
    refine congrArg (fun l => a0 m c (ix2 (row t r) l)) (Fin.ext ?_)
    show 1536 + (0 + (64 * (hk l).val + k.val)) = 1536 + (64 * (0 + (hk l).val) + k.val)
    omega
  rw [e, ← pq0]
  rfl

theorem piece1 (r : Fin 512) (l : Fin 128) :
    oB (View.ld (X0_0 m c t) box1) (iblk m c 4 t) (iblk m c 2 t) (iblk m c 3 t) (ix2 r l) = res6 m c (ix2 (row t r) (col1 l)) := by
  refine (congrArg (fun j => oB (View.ld (X0_0 m c t) box1) (iblk m c 4 t) (iblk m c 2 t) (iblk m c 3 t) (ix2 r j)) (split_k l)).trans ?_
  refine (oB_apply _ _ _ _ (tables m c t) (gainq m c t) r (hk l) (pk l)).trans ?_
  have e : hd (at2 (View.ld (X0_0 m c t) box1)) r (hk l) = xq m c (row t r) (hq (col1 l)) := by
    rw [hq1]
    funext k
    refine (ldp 128 _ _ r (lane (hk l) k) (col1 (lane (hk l) k)) rfl).trans ((blk0 m c t r _).trans ((v28_at m c _ _).trans ?_))
    refine congrArg (fun l => a0 m c (ix2 (row t r) l)) (Fin.ext ?_)
    show 1536 + (128 + (64 * (hk l).val + k.val)) = 1536 + (64 * (2 + (hk l).val) + k.val)
    omega
  rw [e, ← pq1]
  rfl

theorem piece2 (r : Fin 512) (l : Fin 128) :
    oB (View.ld (X0_0 m c t) box2) (iblk m c 4 t) (iblk m c 2 t) (iblk m c 3 t) (ix2 r l) = res6 m c (ix2 (row t r) (col2 l)) := by
  refine (congrArg (fun j => oB (View.ld (X0_0 m c t) box2) (iblk m c 4 t) (iblk m c 2 t) (iblk m c 3 t) (ix2 r j)) (split_k l)).trans ?_
  refine (oB_apply _ _ _ _ (tables m c t) (gainq m c t) r (hk l) (pk l)).trans ?_
  have e : hd (at2 (View.ld (X0_0 m c t) box2)) r (hk l) = xq m c (row t r) (hq (col2 l)) := by
    rw [hq2]
    funext k
    refine (ldp 256 _ _ r (lane (hk l) k) (col2 (lane (hk l) k)) rfl).trans ((blk0 m c t r _).trans ((v28_at m c _ _).trans ?_))
    refine congrArg (fun l => a0 m c (ix2 (row t r) l)) (Fin.ext ?_)
    show 1536 + (256 + (64 * (hk l).val + k.val)) = 1536 + (64 * (4 + (hk l).val) + k.val)
    omega
  rw [e, ← pq2]
  rfl

theorem piece3 (r : Fin 512) (l : Fin 128) :
    oB (View.ld (X0_0 m c t) box3) (iblk m c 4 t) (iblk m c 2 t) (iblk m c 3 t) (ix2 r l) = res6 m c (ix2 (row t r) (col3 l)) := by
  refine (congrArg (fun j => oB (View.ld (X0_0 m c t) box3) (iblk m c 4 t) (iblk m c 2 t) (iblk m c 3 t) (ix2 r j)) (split_k l)).trans ?_
  refine (oB_apply _ _ _ _ (tables m c t) (gainq m c t) r (hk l) (pk l)).trans ?_
  have e : hd (at2 (View.ld (X0_0 m c t) box3)) r (hk l) = xq m c (row t r) (hq (col3 l)) := by
    rw [hq3]
    funext k
    refine (ldp 384 _ _ r (lane (hk l) k) (col3 (lane (hk l) k)) rfl).trans ((blk0 m c t r _).trans ((v28_at m c _ _).trans ?_))
    refine congrArg (fun l => a0 m c (ix2 (row t r) l)) (Fin.ext ?_)
    show 1536 + (384 + (64 * (hk l).val + k.val)) = 1536 + (64 * (6 + (hk l).val) + k.val)
    omega
  rw [e, ← pq3]
  rfl

/-- What point `t` leaves of the queries. -/
theorem left6 (r : Fin 512) (l : Fin 512) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (X0_0 m c t) (iblk m c 1 t) (iblk m c 2 t) (iblk m c 3 t) (iblk m c 4 t) (iblk m c 5 t) (ix2 r l) = res6 m c (ix2 (row t r) l) := by
  revert l
  refine pieces fun l => ?_
  generalize hP : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (X0_0 m c t) (iblk m c 1 t) (iblk m c 2 t) (iblk m c 3 t) (iblk m c 4 t) (iblk m c 5 t) = P
  obtain ⟨e0, e1, e2, e3⟩ := out_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (X0_0 m c t) (iblk m c 1 t) (iblk m c 2 t) (iblk m c 3 t) (iblk m c 4 t) (iblk m c 5 t) r l hP
  exact ⟨e0.trans (piece0 m c t r l), e1.trans (piece1 m c t r l), e2.trans (piece2 m c t r l), e3.trans (piece3 m c t r l)⟩

theorem flushed6 : (dats m 0 c).flushed 6 t = (win0_6.blk t).view.read (Elt Ideal) (res6 m c) := by
  rw [Value.flushed6_A]
  funext (x : S512x512.Idx)
  obtain ⟨a, b, rfl⟩ : ∃ (a : Fin 512) (b : Fin 512), x = ix2 a b := ⟨x 0, x 1, eq_ix2 x⟩
  refine Eq.trans ?_ (read6 _ t a b).symm
  exact left6 m c t a b

theorem flushed7 : (dats m 0 c).flushed 7 t = (win0_7.blk t).view.read (Elt Ideal) (res7 m c) := by
  rw [Value.flushed7_A]
  funext (x : S512x128.Idx)
  obtain ⟨a, b, rfl⟩ : ∃ (a : Fin 512) (b : Fin 128), x = ix2 a b := ⟨x 0, x 1, eq_ix2 x⟩
  refine Eq.trans ?_ (read7 _ t a b).symm
  exact left7 m c t a b

theorem run (ρ : Dev nD → PrngReg) : θ_run defs (onTc (τ := τ) (main (F := Ideal))) ⟨m, fun _ => 0, ρ⟩ fun r => ∀ c : Dev nD,
      r.2.mem ((c : Thread nD τ).loc main_v37_0) = res6 m c
      ∧ r.2.mem ((c : Thread nD τ).loc main_v37_1) = res7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 6 (res6 m c) (fun t _ => flushed6 m c t) cover6),
    (h c).2.1.trans ((dats m 0 c).arrAt_eq_of_cover 7 (res7 m c) (fun t _ => flushed7 m c t) cover7), (h c).2.2⟩) (Value.run_blocks m ρ)

end Cert.Kernel16Ideal.SwaPrep

namespace Cert.Reference16Ideal.SwaPrep

open Cert.Reference16Ideal Cert.Reference16Ideal.Gen Cert.Coords Cert.HeadNorm Cert.NormBwd Idealize.ShloMosaic Idealize.ShloMosaic.TcCoe Idealize.SL.Sem
open Cert.Kernel15Ideal.SwaPrepBwd (cosT sinT)
open Cert.Reference15Ideal.SwaPrepBwd (xQ rQ hdQ xQ_apply rQ_apply headQ posQ xK rK hdK xK_apply rK_apply headK posK)

variable (m : (ℓ : Loc Cert.Kernel16Ideal.nD Cert.Kernel16Ideal.τ Cert.Kernel16Ideal.sig) → Buf (Elt Ideal) ℓ) (c : Dev Cert.Kernel16Ideal.nD)

/-- The heads, normalised, with their gain. -/
def yQ (x : FVec Ideal S4096x8x64 .f32) (g : FVec Ideal S64 .f32) : FVec Ideal S4096x8x64 .f32 :=
  mulf (mulf x (broadcastInDim S4096x8x64 ![0, 1, 2] bcast_S4096x8x1_S4096x8x64_0_1_2 (rQ x))) (broadcastInDim S4096x8x64 ![0, 1, 2] bcast_S1x1x64_S4096x8x64_0_1_2 (broadcastInDim S1x1x64 ![2] bcast_S64_S1x1x64_2 g))
/-- Heads turned, side by side. -/
def tQ (y : FVec Ideal S4096x8x64 .f32) (C S : FVec Ideal S4096x32 .f32) : FVec Ideal S4096x512 .bf16 :=
  truncf .bf16 (shapeCast _ (concatenate S4096x8x64 2 [⟨S4096x8x32, (subf (mulf (extractStridedSlice S4096x8x32 ![0, 0, 0] y slices_S4096x8x64_S4096x8x32_0_0_0) (broadcastInDim S4096x8x32 ![0, 1, 2] bcast_S4096x1x32_S4096x8x32_0_1_2 (broadcastInDim S4096x1x32 ![0, 2] bcast_S4096x32_S4096x1x32_0_2 C))) (mulf (extractStridedSlice S4096x8x32 ![0, 0, 32] y slices_S4096x8x64_S4096x8x32_0_0_32) (broadcastInDim S4096x8x32 ![0, 1, 2] bcast_S4096x1x32_S4096x8x32_0_1_2 (broadcastInDim S4096x1x32 ![0, 2] bcast_S4096x32_S4096x1x32_0_2 S))))⟩, ⟨S4096x8x32, (addf (mulf (extractStridedSlice S4096x8x32 ![0, 0, 32] y slices_S4096x8x64_S4096x8x32_0_0_32) (broadcastInDim S4096x8x32 ![0, 1, 2] bcast_S4096x1x32_S4096x8x32_0_1_2 (broadcastInDim S4096x1x32 ![0, 2] bcast_S4096x32_S4096x1x32_0_2 C))) (mulf (extractStridedSlice S4096x8x32 ![0, 0, 0] y slices_S4096x8x64_S4096x8x32_0_0_0) (broadcastInDim S4096x8x32 ![0, 1, 2] bcast_S4096x1x32_S4096x8x32_0_1_2 (broadcastInDim S4096x1x32 ![0, 2] bcast_S4096x32_S4096x1x32_0_2 S))))⟩] concatenates_S4096x8x32_S4096x8x32_S4096x8x64_d2) shapeCasts_S4096x8x64_S4096x512) bitsLt_bf16_f32

theorem yQ_apply (x : FVec Ideal S4096x8x64 .f32) (g : FVec Ideal S64 .f32) (r : Fin 4096) (h : Fin 8) (k : Fin 64) :
    yQ x g (ix3 r h k) = normed (hdQ x r h) (fun k => g (ix1 k)) k := by
  have e : yQ x g (ix3 r h k) = x (ix3 r h k) * rQ x (ix3 r h (0 : Fin 1)) * g (ix1 k) := by
    unfold yQ
    generalize rQ x = v
    pointwise
  rw [e, rQ_apply]
  rfl

theorem tQ_apply (y : FVec Ideal S4096x8x64 .f32) (C S : FVec Ideal S4096x32 .f32) (r : Fin 4096) (l : Fin 512) :
    tQ y C S (ix2 r l) = turn (hdQ y r (headQ l)) (at2 C r) (at2 S r) (posQ l) := by
  pointwise [tQ]
  unfold turn
  by_cases hk : (posQ l).val < 32
  · have e : half (posQ l) = ⟨l.val % 64, hk⟩ := Fin.ext (Nat.mod_eq_of_lt hk)
    rw [dif_pos hk, if_pos hk, e, sub_eq_add_neg]
  · have hl : l.val % 64 < 64 := Nat.mod_lt _ (by norm_num)
    have hk' : ¬l.val % 64 < 32 := hk
    have e : half (posQ l) = ⟨l.val % 64 - 32, by omega⟩ := Fin.ext (by show l.val % 64 % 32 = l.val % 64 - 32; omega)
    have e' : (⟨32 + (l.val % 64 - 32), by omega⟩ : Fin 64) = posQ l := Fin.ext (by show 32 + (l.val % 64 - 32) = l.val % 64; omega)
    rw [dif_neg hk, if_neg hk, e]
    exact congrArg₂ (· + ·) (congrArg (fun p => y (ix3 r (headQ l) p) * C (ix2 r ⟨l.val % 64 - 32, by omega⟩)) e') rfl

theorem ofQ (m' : (ℓ : Loc nD τ sig) → Buf (Elt Ideal) ℓ) (c : Dev nD) (p : FVec Ideal S4096x2304 .f32) (q : FVec Ideal S64 .f32)
    (e0 : m' ((c.tc : Thread nD τ).loc main_arg0) = p) (e1 : m' ((c.tc : Thread nD τ).loc main_arg1) = q) :
    Value.res_main_v53 m' c = tQ (yQ (xQ p) q) cosT sinT := by
  rw [← e0, ← e1]
  rfl

theorem meetQ : tQ (yQ (xQ (Cert.Kernel16Ideal.SwaPrep.a0 m c)) (Cert.Kernel16Ideal.SwaPrep.a1 m c)) cosT sinT = Cert.Kernel16Ideal.SwaPrep.res6 m c := by
  funext (i : S4096x512.Idx)
  obtain ⟨r, l, rfl⟩ : ∃ (r : Fin 4096) (l : Fin 512), i = ix2 r l := ⟨i 0, i 1, eq_ix2 i⟩
  refine (tQ_apply _ _ _ r l).trans ?_
  refine congrArg (fun Y => turn Y (at2 cosT r) (at2 sinT r) (posQ l)) (funext fun k => (yQ_apply _ _ r _ k).trans ?_)
  exact congrArg (fun X => normed X (fun k => Cert.Kernel16Ideal.SwaPrep.a1 m c (ix1 k)) k) (funext fun k => xQ_apply _ r _ k)

/-- The heads, normalised, with their gain. -/
def yK (x : FVec Ideal S4096x2x64 .f32) (g : FVec Ideal S64 .f32) : FVec Ideal S4096x2x64 .f32 :=
  mulf (mulf x (broadcastInDim S4096x2x64 ![0, 1, 2] bcast_S4096x2x1_S4096x2x64_0_1_2 (rK x))) (broadcastInDim S4096x2x64 ![0, 1, 2] bcast_S1x1x64_S4096x2x64_0_1_2 (broadcastInDim S1x1x64 ![2] bcast_S64_S1x1x64_2 g))
/-- Heads turned, side by side. -/
def tK (y : FVec Ideal S4096x2x64 .f32) (C S : FVec Ideal S4096x32 .f32) : FVec Ideal S4096x128 .bf16 :=
  truncf .bf16 (shapeCast _ (concatenate S4096x2x64 2 [⟨S4096x2x32, (subf (mulf (extractStridedSlice S4096x2x32 ![0, 0, 0] y slices_S4096x2x64_S4096x2x32_0_0_0) (broadcastInDim S4096x2x32 ![0, 1, 2] bcast_S4096x1x32_S4096x2x32_0_1_2 (broadcastInDim S4096x1x32 ![0, 2] bcast_S4096x32_S4096x1x32_0_2 C))) (mulf (extractStridedSlice S4096x2x32 ![0, 0, 32] y slices_S4096x2x64_S4096x2x32_0_0_32) (broadcastInDim S4096x2x32 ![0, 1, 2] bcast_S4096x1x32_S4096x2x32_0_1_2 (broadcastInDim S4096x1x32 ![0, 2] bcast_S4096x32_S4096x1x32_0_2 S))))⟩, ⟨S4096x2x32, (addf (mulf (extractStridedSlice S4096x2x32 ![0, 0, 32] y slices_S4096x2x64_S4096x2x32_0_0_32) (broadcastInDim S4096x2x32 ![0, 1, 2] bcast_S4096x1x32_S4096x2x32_0_1_2 (broadcastInDim S4096x1x32 ![0, 2] bcast_S4096x32_S4096x1x32_0_2 C))) (mulf (extractStridedSlice S4096x2x32 ![0, 0, 0] y slices_S4096x2x64_S4096x2x32_0_0_0) (broadcastInDim S4096x2x32 ![0, 1, 2] bcast_S4096x1x32_S4096x2x32_0_1_2 (broadcastInDim S4096x1x32 ![0, 2] bcast_S4096x32_S4096x1x32_0_2 S))))⟩] concatenates_S4096x2x32_S4096x2x32_S4096x2x64_d2) shapeCasts_S4096x2x64_S4096x128) bitsLt_bf16_f32

theorem yK_apply (x : FVec Ideal S4096x2x64 .f32) (g : FVec Ideal S64 .f32) (r : Fin 4096) (h : Fin 2) (k : Fin 64) :
    yK x g (ix3 r h k) = normed (hdK x r h) (fun k => g (ix1 k)) k := by
  have e : yK x g (ix3 r h k) = x (ix3 r h k) * rK x (ix3 r h (0 : Fin 1)) * g (ix1 k) := by
    unfold yK
    generalize rK x = v
    pointwise
  rw [e, rK_apply]
  rfl

theorem tK_apply (y : FVec Ideal S4096x2x64 .f32) (C S : FVec Ideal S4096x32 .f32) (r : Fin 4096) (l : Fin 128) :
    tK y C S (ix2 r l) = turn (hdK y r (headK l)) (at2 C r) (at2 S r) (posK l) := by
  pointwise [tK]
  unfold turn
  by_cases hk : (posK l).val < 32
  · have e : half (posK l) = ⟨l.val % 64, hk⟩ := Fin.ext (Nat.mod_eq_of_lt hk)
    rw [dif_pos hk, if_pos hk, e, sub_eq_add_neg]
  · have hl : l.val % 64 < 64 := Nat.mod_lt _ (by norm_num)
    have hk' : ¬l.val % 64 < 32 := hk
    have e : half (posK l) = ⟨l.val % 64 - 32, by omega⟩ := Fin.ext (by show l.val % 64 % 32 = l.val % 64 - 32; omega)
    have e' : (⟨32 + (l.val % 64 - 32), by omega⟩ : Fin 64) = posK l := Fin.ext (by show 32 + (l.val % 64 - 32) = l.val % 64; omega)
    rw [dif_neg hk, if_neg hk, e]
    exact congrArg₂ (· + ·) (congrArg (fun p => y (ix3 r (headK l) p) * C (ix2 r ⟨l.val % 64 - 32, by omega⟩)) e') rfl

theorem ofK (m' : (ℓ : Loc nD τ sig) → Buf (Elt Ideal) ℓ) (c : Dev nD) (p : FVec Ideal S4096x2304 .f32) (q : FVec Ideal S64 .f32)
    (e0 : m' ((c.tc : Thread nD τ).loc main_arg0) = p) (e1 : m' ((c.tc : Thread nD τ).loc main_arg2) = q) :
    Value.res_main_v84 m' c = tK (yK (xK p) q) cosT sinT := by
  rw [← e0, ← e1]
  rfl

theorem meetK : tK (yK (xK (Cert.Kernel16Ideal.SwaPrep.a0 m c)) (Cert.Kernel16Ideal.SwaPrep.a2 m c)) cosT sinT = Cert.Kernel16Ideal.SwaPrep.res7 m c := by
  funext (i : S4096x128.Idx)
  obtain ⟨r, l, rfl⟩ : ∃ (r : Fin 4096) (l : Fin 128), i = ix2 r l := ⟨i 0, i 1, eq_ix2 i⟩
  refine (tK_apply _ _ _ r l).trans ?_
  refine congrArg (fun Y => turn Y (at2 cosT r) (at2 sinT r) (posK l)) (funext fun k => (yK_apply _ _ r _ k).trans ?_)
  exact congrArg (fun X => normed X (fun k => Cert.Kernel16Ideal.SwaPrep.a2 m c (ix1 k)) k) (funext fun k => xK_apply _ r _ k)

end Cert.Reference16Ideal.SwaPrep

namespace Cert.Proof.SwaPrepClaims

open Idealize.ShloMosaic Idealize.ShloMosaic.TcCoe Idealize.SL.Sem
open Cert.Kernel16Ideal.SwaPrep Cert.Reference16Ideal.SwaPrep Cert.Reference16Ideal.Value
open Cert.Kernel15Ideal.SwaPrepBwd (cosT sinT)
open Cert.Reference15Ideal.SwaPrepBwd (xQ xK)

/-- The kernel and the reference leave the same arrays. -/
theorem algebraic : Cert.algebraic_Kernel16Ideal_Reference16Ideal := by
  intro m ρ m' ρ' _ hag
  refine ⟨fun c => res6 m c, fun c => res7 m c, run m ρ, ?_⟩
  refine (θ_run Cert.Reference16Ideal.defs _ _).mono (fun r h c => ?_) (Cert.Reference16Ideal.Value.run (F := Ideal) m' ρ')
  obtain ⟨e0, e1, e2⟩ := hag c
  obtain ⟨h6, h7, hk⟩ := h c
  refine ⟨h6.trans ?_, h7.trans ?_, hk⟩
  · exact (ofQ m' c (a0 m c) (a1 m c) e0 e1).trans (meetQ m c)
  · exact (ofK m' c (a0 m c) (a2 m c) e0 e2).trans (meetK m c)

/-- The reference leaves its arguments as they were and no signal raised. -/
theorem frame_reference : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)

end Cert.Proof.SwaPrepClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.OutBwdRef
public import proofs.«01_k».proof.Proof.DwDown
public import proofs.«01_k».proof.Proof.DwUp
public import proofs.«01_k».proof.Proof.DwOut
public import proofs.«01_k».proof.Proof.DwBranch
public import proofs.«01_k».proof.Proof.DwIn
public import proofs.«01_k».proof.Proof.MlpUpBwd
public import proofs.«01_k».proof.Proof.InProj
public import proofs.«01_k».proof.Proof.MlpDown
public import proofs.«01_k».proof.Proof.MergeOut
public import proofs.«01_k».proof.Proof.LossHead
public import proofs.«01_k».proof.Proof.MlpUp
public import proofs.«01_k».proof.Proof.MlpBwd
public import proofs.«01_k».proof.Proof.InProjBwd
public import proofs.«01_k».proof.Proof.SwaPrepBwd
public import proofs.«01_k».proof.Proof.SwaPrep
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts,
  fun m ρ _ => Cert.Kernel.Gen.frame m ρ, fun m ρ _ => Cert.KernelIdeal.Gen.frame m ρ, OutBwdClaims.frame_reference,
  fun m ρ _ => Cert.Kernel2.Gen.frame m ρ, fun m ρ _ => Cert.Kernel2Ideal.Gen.frame m ρ, DwDownClaims.frame_reference,
  fun m ρ _ => Cert.Kernel3.Gen.frame m ρ, fun m ρ _ => Cert.Kernel3Ideal.Gen.frame m ρ, DwUpClaims.frame_reference,
  fun m ρ _ => Cert.Kernel4.Gen.frame m ρ, fun m ρ _ => Cert.Kernel4Ideal.Gen.frame m ρ, DwOutClaims.frame_reference,
  fun m ρ _ => Cert.Kernel5.Gen.frame m ρ, fun m ρ _ => Cert.Kernel5Ideal.Gen.frame m ρ, DwBranchClaims.frame_reference,
  fun m ρ _ => Cert.Kernel6.Gen.frame m ρ, fun m ρ _ => Cert.Kernel6Ideal.Gen.frame m ρ, DwInClaims.frame_reference,
  fun m ρ _ => Cert.Kernel7.Gen.frame m ρ, fun m ρ _ => Cert.Kernel7Ideal.Gen.frame m ρ, MlpUpBwdClaims.frame_reference,
  fun m ρ _ => Cert.Kernel8.Gen.frame m ρ, fun m ρ _ => Cert.Kernel8Ideal.Gen.frame m ρ, InProjClaims.frame_reference,
  fun m ρ _ => Cert.Kernel9.Gen.frame m ρ, fun m ρ _ => Cert.Kernel9Ideal.Gen.frame m ρ, MlpDownClaims.frame_reference,
  fun m ρ _ => Cert.Kernel10.Gen.frame m ρ, fun m ρ _ => Cert.Kernel10Ideal.Gen.frame m ρ, MergeOutClaims.frame_reference,
  fun m ρ _ => Cert.Kernel11.Gen.frame m ρ, fun m ρ _ => Cert.Kernel11Ideal.Gen.frame m ρ, LossHeadClaims.frame_reference,
  fun m ρ _ => Cert.Kernel12.Gen.frame m ρ, fun m ρ _ => Cert.Kernel12Ideal.Gen.frame m ρ, MlpUpClaims.frame_reference,
  fun m ρ _ => Cert.Kernel13.Gen.frame m ρ, fun m ρ _ => Cert.Kernel13Ideal.Gen.frame m ρ, MlpBwdClaims.frame_reference,
  fun m ρ _ => Cert.Kernel14.Gen.frame m ρ, fun m ρ _ => Cert.Kernel14Ideal.Gen.frame m ρ, InProjBwdClaims.frame_reference,
  fun m ρ _ => Cert.Kernel15.Gen.frame m ρ, fun m ρ _ => Cert.Kernel15Ideal.Gen.frame m ρ, SwaPrepBwdClaims.frame_reference,
  fun m ρ _ => Cert.Kernel16.Gen.frame m ρ, fun m ρ _ => Cert.Kernel16Ideal.Gen.frame m ρ, SwaPrepClaims.frame_reference,
  trivial, OutBwdClaims.algebraic,
  trivial, DwDownClaims.algebraic,
  trivial, DwUpClaims.algebraic,
  trivial, DwOutClaims.algebraic,
  trivial, DwBranchClaims.algebraic,
  trivial, DwInClaims.algebraic,
  trivial, MlpUpBwdClaims.algebraic,
  trivial, InProjClaims.algebraic,
  trivial, MlpDownClaims.algebraic,
  trivial, MergeOutClaims.algebraic,
  trivial, LossHeadClaims.algebraic,
  trivial, MlpUpClaims.algebraic,
  trivial, MlpBwdClaims.algebraic,
  trivial, InProjBwdClaims.algebraic,
  trivial, SwaPrepBwdClaims.algebraic,
  trivial, SwaPrepClaims.algebraic⟩

end Cert.Proof

end
